-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MixInS (m : (ℓ : Loc Cert.MixInS.nD Cert.MixInS.τ Cert.MixInS.sig) → Buf (Elt Bits) ℓ) : Prop :=
  True

def Pre_MixInSIdeal (m : (ℓ : Loc Cert.MixInSIdeal.nD Cert.MixInSIdeal.τ Cert.MixInSIdeal.sig) → Buf (Elt Ideal) ℓ) : Prop :=
  True

def Pre_MixInSRefIdeal (m : (ℓ : Loc Cert.MixInSRefIdeal.nD Cert.MixInSRefIdeal.τ Cert.MixInSRefIdeal.sig) → Buf (Elt Ideal) ℓ) : Prop :=
  True

def Pre_MixOutS (m : (ℓ : Loc Cert.MixOutS.nD Cert.MixOutS.τ Cert.MixOutS.sig) → Buf (Elt Bits) ℓ) : Prop :=
  True

def Pre_MixOutSIdeal (m : (ℓ : Loc Cert.MixOutSIdeal.nD Cert.MixOutSIdeal.τ Cert.MixOutSIdeal.sig) → Buf (Elt Ideal) ℓ) : Prop :=
  True

def Pre_MixOutSRefIdeal (m : (ℓ : Loc Cert.MixOutSRefIdeal.nD Cert.MixOutSRefIdeal.τ Cert.MixOutSRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_SampleAttn [hPre_pages_in_pool : Cert.Pre_pages_in_pool.Facts] (m : (ℓ : Loc Cert.SampleAttn.nD Cert.SampleAttn.τ Cert.SampleAttn.sig) → Buf (Elt Bits) ℓ) : Prop :=
  ∀ c : Dev Cert.SampleAttn.nD,
    (Cert.Pre_pages_in_pool.fn (F := Bits) (m ((c.tc : Thread Cert.SampleAttn.nD Cert.SampleAttn.τ).loc Cert.SampleAttn.main_arg0)) (m ((c.tc : Thread Cert.SampleAttn.nD Cert.SampleAttn.τ).loc Cert.SampleAttn.main_arg1)) (m ((c.tc : Thread Cert.SampleAttn.nD Cert.SampleAttn.τ).loc Cert.SampleAttn.main_arg2)) (m ((c.tc : Thread Cert.SampleAttn.nD Cert.SampleAttn.τ).loc Cert.SampleAttn.main_arg3)) (m ((c.tc : Thread Cert.SampleAttn.nD Cert.SampleAttn.τ).loc Cert.SampleAttn.main_arg4)) (m ((c.tc : Thread Cert.SampleAttn.nD Cert.SampleAttn.τ).loc Cert.SampleAttn.main_arg5)) (m ((c.tc : Thread Cert.SampleAttn.nD Cert.SampleAttn.τ).loc Cert.SampleAttn.main_arg6)) (m ((c.tc : Thread Cert.SampleAttn.nD Cert.SampleAttn.τ).loc Cert.SampleAttn.main_arg7)) (m ((c.tc : Thread Cert.SampleAttn.nD Cert.SampleAttn.τ).loc Cert.SampleAttn.main_arg8)) (m ((c.tc : Thread Cert.SampleAttn.nD Cert.SampleAttn.τ).loc Cert.SampleAttn.main_arg9))) = (fun _ => 1#1)

def Pre_SampleAttnIdeal [hPre_pages_in_pool : Cert.Pre_pages_in_pool.Facts] (m : (ℓ : Loc Cert.SampleAttnIdeal.nD Cert.SampleAttnIdeal.τ Cert.SampleAttnIdeal.sig) → Buf (Elt Ideal) ℓ) : Prop :=
  ∀ c : Dev Cert.SampleAttnIdeal.nD,
    (Cert.Pre_pages_in_pool.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6)) (m ((c.tc : Thread Cert.SampleAttnIdeal.nD Cert.SampleAttnIdeal.τ).loc Cert.SampleAttnIdeal.main_arg7)) (m ((c.tc : Thread Cert.SampleAttnIdeal.nD Cert.SampleAttnIdeal.τ).loc Cert.SampleAttnIdeal.main_arg8)) (m ((c.tc : Thread Cert.SampleAttnIdeal.nD Cert.SampleAttnIdeal.τ).loc Cert.SampleAttnIdeal.main_arg9))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_MixInS [hMixInS : Cert.MixInS.Facts] : Prop :=
  ∀ (m : (ℓ : Loc Cert.MixInS.nD Cert.MixInS.τ Cert.MixInS.sig) → Buf (Elt Bits) ℓ) (g : Dev Cert.MixInS.nD → PrngReg), Pre_MixInS m →
    θ_run (Cert.MixInS.defs (F := Bits)) (onTc (τ := Cert.MixInS.τ) (Cert.MixInS.main (F := Bits))) ⟨m, fun _ => 0, g⟩ (fun r => (∀ c : Dev Cert.MixInS.nD,
      r.2.mem ((c.tc : Thread Cert.MixInS.nD Cert.MixInS.τ).loc Cert.MixInS.main_arg0) = m ((c.tc : Thread Cert.MixInS.nD Cert.MixInS.τ).loc Cert.MixInS.main_arg0)
      ∧ r.2.mem ((c.tc : Thread Cert.MixInS.nD Cert.MixInS.τ).loc Cert.MixInS.main_arg1) = m ((c.tc : Thread Cert.MixInS.nD Cert.MixInS.τ).loc Cert.MixInS.main_arg1)
      ∧ r.2.mem ((c.tc : Thread Cert.MixInS.nD Cert.MixInS.τ).loc Cert.MixInS.main_arg2) = m ((c.tc : Thread Cert.MixInS.nD Cert.MixInS.τ).loc Cert.MixInS.main_arg2)
      ∧ r.2.mem ((c.tc : Thread Cert.MixInS.nD Cert.MixInS.τ).loc Cert.MixInS.main_arg3) = m ((c.tc : Thread Cert.MixInS.nD Cert.MixInS.τ).loc Cert.MixInS.main_arg3))
      ∧ r.2.sem = fun _ => 0)

def quiescent_MixInSIdeal [hMixInSIdeal : Cert.MixInSIdeal.Facts] : Prop :=
  ∀ (m : (ℓ : Loc Cert.MixInSIdeal.nD Cert.MixInSIdeal.τ Cert.MixInSIdeal.sig) → Buf (Elt Ideal) ℓ) (g : Dev Cert.MixInSIdeal.nD → PrngReg), Pre_MixInSIdeal m →
    θ_run (Cert.MixInSIdeal.defs (F := Ideal)) (onTc (τ := Cert.MixInSIdeal.τ) (Cert.MixInSIdeal.main (F := Ideal))) ⟨m, fun _ => 0, g⟩ (fun r => (∀ c : Dev Cert.MixInSIdeal.nD,
      r.2.mem ((c.tc : Thread Cert.MixInSIdeal.nD Cert.MixInSIdeal.τ).loc Cert.MixInSIdeal.main_arg0) = m ((c.tc : Thread Cert.MixInSIdeal.nD Cert.MixInSIdeal.τ).loc Cert.MixInSIdeal.main_arg0)
      ∧ r.2.mem ((c.tc : Thread Cert.MixInSIdeal.nD Cert.MixInSIdeal.τ).loc Cert.MixInSIdeal.main_arg1) = m ((c.tc : Thread Cert.MixInSIdeal.nD Cert.MixInSIdeal.τ).loc Cert.MixInSIdeal.main_arg1)
      ∧ r.2.mem ((c.tc : Thread Cert.MixInSIdeal.nD Cert.MixInSIdeal.τ).loc Cert.MixInSIdeal.main_arg2) = m ((c.tc : Thread Cert.MixInSIdeal.nD Cert.MixInSIdeal.τ).loc Cert.MixInSIdeal.main_arg2)
      ∧ r.2.mem ((c.tc : Thread Cert.MixInSIdeal.nD Cert.MixInSIdeal.τ).loc Cert.MixInSIdeal.main_arg3) = m ((c.tc : Thread Cert.MixInSIdeal.nD Cert.MixInSIdeal.τ).loc Cert.MixInSIdeal.main_arg3))
      ∧ r.2.sem = fun _ => 0)

def quiescent_MixInSRefIdeal [hMixInSRefIdeal : Cert.MixInSRefIdeal.Facts] : Prop :=
  ∀ (m : (ℓ : Loc Cert.MixInSRefIdeal.nD Cert.MixInSRefIdeal.τ Cert.MixInSRefIdeal.sig) → Buf (Elt Ideal) ℓ) (g : Dev Cert.MixInSRefIdeal.nD → PrngReg), Pre_MixInSRefIdeal m →
    θ_run (Cert.MixInSRefIdeal.defs (F := Ideal)) (onTc (τ := Cert.MixInSRefIdeal.τ) (Cert.MixInSRefIdeal.main (F := Ideal))) ⟨m, fun _ => 0, g⟩ (fun r => (∀ c : Dev Cert.MixInSRefIdeal.nD,
      r.2.mem ((c.tc : Thread Cert.MixInSRefIdeal.nD Cert.MixInSRefIdeal.τ).loc Cert.MixInSRefIdeal.main_arg0) = m ((c.tc : Thread Cert.MixInSRefIdeal.nD Cert.MixInSRefIdeal.τ).loc Cert.MixInSRefIdeal.main_arg0)
      ∧ r.2.mem ((c.tc : Thread Cert.MixInSRefIdeal.nD Cert.MixInSRefIdeal.τ).loc Cert.MixInSRefIdeal.main_arg1) = m ((c.tc : Thread Cert.MixInSRefIdeal.nD Cert.MixInSRefIdeal.τ).loc Cert.MixInSRefIdeal.main_arg1)
      ∧ r.2.mem ((c.tc : Thread Cert.MixInSRefIdeal.nD Cert.MixInSRefIdeal.τ).loc Cert.MixInSRefIdeal.main_arg2) = m ((c.tc : Thread Cert.MixInSRefIdeal.nD Cert.MixInSRefIdeal.τ).loc Cert.MixInSRefIdeal.main_arg2)
      ∧ r.2.mem ((c.tc : Thread Cert.MixInSRefIdeal.nD Cert.MixInSRefIdeal.τ).loc Cert.MixInSRefIdeal.main_arg3) = m ((c.tc : Thread Cert.MixInSRefIdeal.nD Cert.MixInSRefIdeal.τ).loc Cert.MixInSRefIdeal.main_arg3))
      ∧ r.2.sem = fun _ => 0)

def quiescent_MixOutS [hMixOutS : Cert.MixOutS.Facts] : Prop :=
  ∀ (m : (ℓ : Loc Cert.MixOutS.nD Cert.MixOutS.τ Cert.MixOutS.sig) → Buf (Elt Bits) ℓ) (g : Dev Cert.MixOutS.nD → PrngReg), Pre_MixOutS m →
    θ_run (Cert.MixOutS.defs (F := Bits)) (onTc (τ := Cert.MixOutS.τ) (Cert.MixOutS.main (F := Bits))) ⟨m, fun _ => 0, g⟩ (fun r => (∀ c : Dev Cert.MixOutS.nD,
      r.2.mem ((c.tc : Thread Cert.MixOutS.nD Cert.MixOutS.τ).loc Cert.MixOutS.main_arg0) = m ((c.tc : Thread Cert.MixOutS.nD Cert.MixOutS.τ).loc Cert.MixOutS.main_arg0)
      ∧ r.2.mem ((c.tc : Thread Cert.MixOutS.nD Cert.MixOutS.τ).loc Cert.MixOutS.main_arg1) = m ((c.tc : Thread Cert.MixOutS.nD Cert.MixOutS.τ).loc Cert.MixOutS.main_arg1)
      ∧ r.2.mem ((c.tc : Thread Cert.MixOutS.nD Cert.MixOutS.τ).loc Cert.MixOutS.main_arg2) = m ((c.tc : Thread Cert.MixOutS.nD Cert.MixOutS.τ).loc Cert.MixOutS.main_arg2)
      ∧ r.2.mem ((c.tc : Thread Cert.MixOutS.nD Cert.MixOutS.τ).loc Cert.MixOutS.main_arg3) = m ((c.tc : Thread Cert.MixOutS.nD Cert.MixOutS.τ).loc Cert.MixOutS.main_arg3)
      ∧ r.2.mem ((c.tc : Thread Cert.MixOutS.nD Cert.MixOutS.τ).loc Cert.MixOutS.main_arg4) = m ((c.tc : Thread Cert.MixOutS.nD Cert.MixOutS.τ).loc Cert.MixOutS.main_arg4)
      ∧ r.2.mem ((c.tc : Thread Cert.MixOutS.nD Cert.MixOutS.τ).loc Cert.MixOutS.main_arg5) = m ((c.tc : Thread Cert.MixOutS.nD Cert.MixOutS.τ).loc Cert.MixOutS.main_arg5)
      ∧ r.2.mem ((c.tc : Thread Cert.MixOutS.nD Cert.MixOutS.τ).loc Cert.MixOutS.main_arg6) = m ((c.tc : Thread Cert.MixOutS.nD Cert.MixOutS.τ).loc Cert.MixOutS.main_arg6)
      ∧ r.2.mem ((c.tc : Thread Cert.MixOutS.nD Cert.MixOutS.τ).loc Cert.MixOutS.main_arg7) = m ((c.tc : Thread Cert.MixOutS.nD Cert.MixOutS.τ).loc Cert.MixOutS.main_arg7)
      ∧ r.2.mem ((c.tc : Thread Cert.MixOutS.nD Cert.MixOutS.τ).loc Cert.MixOutS.main_arg8) = m ((c.tc : Thread Cert.MixOutS.nD Cert.MixOutS.τ).loc Cert.MixOutS.main_arg8))
      ∧ r.2.sem = fun _ => 0)

def quiescent_MixOutSIdeal [hMixOutSIdeal : Cert.MixOutSIdeal.Facts] : Prop :=
  ∀ (m : (ℓ : Loc Cert.MixOutSIdeal.nD Cert.MixOutSIdeal.τ Cert.MixOutSIdeal.sig) → Buf (Elt Ideal) ℓ) (g : Dev Cert.MixOutSIdeal.nD → PrngReg), Pre_MixOutSIdeal m →
    θ_run (Cert.MixOutSIdeal.defs (F := Ideal)) (onTc (τ := Cert.MixOutSIdeal.τ) (Cert.MixOutSIdeal.main (F := Ideal))) ⟨m, fun _ => 0, g⟩ (fun r => (∀ c : Dev Cert.MixOutSIdeal.nD,
      r.2.mem ((c.tc : Thread Cert.MixOutSIdeal.nD Cert.MixOutSIdeal.τ).loc Cert.MixOutSIdeal.main_arg0) = m ((c.tc : Thread Cert.MixOutSIdeal.nD Cert.MixOutSIdeal.τ).loc Cert.MixOutSIdeal.main_arg0)
      ∧ r.2.mem ((c.tc : Thread Cert.MixOutSIdeal.nD Cert.MixOutSIdeal.τ).loc Cert.MixOutSIdeal.main_arg1) = m ((c.tc : Thread Cert.MixOutSIdeal.nD Cert.MixOutSIdeal.τ).loc Cert.MixOutSIdeal.main_arg1)
      ∧ r.2.mem ((c.tc : Thread Cert.MixOutSIdeal.nD Cert.MixOutSIdeal.τ).loc Cert.MixOutSIdeal.main_arg2) = m ((c.tc : Thread Cert.MixOutSIdeal.nD Cert.MixOutSIdeal.τ).loc Cert.MixOutSIdeal.main_arg2)
      ∧ r.2.mem ((c.tc : Thread Cert.MixOutSIdeal.nD Cert.MixOutSIdeal.τ).loc Cert.MixOutSIdeal.main_arg3) = m ((c.tc : Thread Cert.MixOutSIdeal.nD Cert.MixOutSIdeal.τ).loc Cert.MixOutSIdeal.main_arg3)
      ∧ r.2.mem ((c.tc : Thread Cert.MixOutSIdeal.nD Cert.MixOutSIdeal.τ).loc Cert.MixOutSIdeal.main_arg4) = m ((c.tc : Thread Cert.MixOutSIdeal.nD Cert.MixOutSIdeal.τ).loc Cert.MixOutSIdeal.main_arg4)
      ∧ r.2.mem ((c.tc : Thread Cert.MixOutSIdeal.nD Cert.MixOutSIdeal.τ).loc Cert.MixOutSIdeal.main_arg5) = m ((c.tc : Thread Cert.MixOutSIdeal.nD Cert.MixOutSIdeal.τ).loc Cert.MixOutSIdeal.main_arg5)
      ∧ r.2.mem ((c.tc : Thread Cert.MixOutSIdeal.nD Cert.MixOutSIdeal.τ).loc Cert.MixOutSIdeal.main_arg6) = m ((c.tc : Thread Cert.MixOutSIdeal.nD Cert.MixOutSIdeal.τ).loc Cert.MixOutSIdeal.main_arg6)
      ∧ r.2.mem ((c.tc : Thread Cert.MixOutSIdeal.nD Cert.MixOutSIdeal.τ).loc Cert.MixOutSIdeal.main_arg7) = m ((c.tc : Thread Cert.MixOutSIdeal.nD Cert.MixOutSIdeal.τ).loc Cert.MixOutSIdeal.main_arg7)
      ∧ r.2.mem ((c.tc : Thread Cert.MixOutSIdeal.nD Cert.MixOutSIdeal.τ).loc Cert.MixOutSIdeal.main_arg8) = m ((c.tc : Thread Cert.MixOutSIdeal.nD Cert.MixOutSIdeal.τ).loc Cert.MixOutSIdeal.main_arg8))
      ∧ r.2.sem = fun _ => 0)

def quiescent_MixOutSRefIdeal [hMixOutSRefIdeal : Cert.MixOutSRefIdeal.Facts] : Prop :=
  ∀ (m : (ℓ : Loc Cert.MixOutSRefIdeal.nD Cert.MixOutSRefIdeal.τ Cert.MixOutSRefIdeal.sig) → Buf (Elt Ideal) ℓ) (g : Dev Cert.MixOutSRefIdeal.nD → PrngReg), Pre_MixOutSRefIdeal m →
    θ_run (Cert.MixOutSRefIdeal.defs (F := Ideal)) (onTc (τ := Cert.MixOutSRefIdeal.τ) (Cert.MixOutSRefIdeal.main (F := Ideal))) ⟨m, fun _ => 0, g⟩ (fun r => (∀ c : Dev Cert.MixOutSRefIdeal.nD,
      r.2.mem ((c.tc : Thread Cert.MixOutSRefIdeal.nD Cert.MixOutSRefIdeal.τ).loc Cert.MixOutSRefIdeal.main_arg0) = m ((c.tc : Thread Cert.MixOutSRefIdeal.nD Cert.MixOutSRefIdeal.τ).loc Cert.MixOutSRefIdeal.main_arg0)
      ∧ r.2.mem ((c.tc : Thread Cert.MixOutSRefIdeal.nD Cert.MixOutSRefIdeal.τ).loc Cert.MixOutSRefIdeal.main_arg1) = m ((c.tc : Thread Cert.MixOutSRefIdeal.nD Cert.MixOutSRefIdeal.τ).loc Cert.MixOutSRefIdeal.main_arg1)
      ∧ r.2.mem ((c.tc : Thread Cert.MixOutSRefIdeal.nD Cert.MixOutSRefIdeal.τ).loc Cert.MixOutSRefIdeal.main_arg2) = m ((c.tc : Thread Cert.MixOutSRefIdeal.nD Cert.MixOutSRefIdeal.τ).loc Cert.MixOutSRefIdeal.main_arg2)
      ∧ r.2.mem ((c.tc : Thread Cert.MixOutSRefIdeal.nD Cert.MixOutSRefIdeal.τ).loc Cert.MixOutSRefIdeal.main_arg3) = m ((c.tc : Thread Cert.MixOutSRefIdeal.nD Cert.MixOutSRefIdeal.τ).loc Cert.MixOutSRefIdeal.main_arg3)
      ∧ r.2.mem ((c.tc : Thread Cert.MixOutSRefIdeal.nD Cert.MixOutSRefIdeal.τ).loc Cert.MixOutSRefIdeal.main_arg4) = m ((c.tc : Thread Cert.MixOutSRefIdeal.nD Cert.MixOutSRefIdeal.τ).loc Cert.MixOutSRefIdeal.main_arg4)
      ∧ r.2.mem ((c.tc : Thread Cert.MixOutSRefIdeal.nD Cert.MixOutSRefIdeal.τ).loc Cert.MixOutSRefIdeal.main_arg5) = m ((c.tc : Thread Cert.MixOutSRefIdeal.nD Cert.MixOutSRefIdeal.τ).loc Cert.MixOutSRefIdeal.main_arg5)
      ∧ r.2.mem ((c.tc : Thread Cert.MixOutSRefIdeal.nD Cert.MixOutSRefIdeal.τ).loc Cert.MixOutSRefIdeal.main_arg6) = m ((c.tc : Thread Cert.MixOutSRefIdeal.nD Cert.MixOutSRefIdeal.τ).loc Cert.MixOutSRefIdeal.main_arg6)
      ∧ r.2.mem ((c.tc : Thread Cert.MixOutSRefIdeal.nD Cert.MixOutSRefIdeal.τ).loc Cert.MixOutSRefIdeal.main_arg7) = m ((c.tc : Thread Cert.MixOutSRefIdeal.nD Cert.MixOutSRefIdeal.τ).loc Cert.MixOutSRefIdeal.main_arg7)
      ∧ r.2.mem ((c.tc : Thread Cert.MixOutSRefIdeal.nD Cert.MixOutSRefIdeal.τ).loc Cert.MixOutSRefIdeal.main_arg8) = m ((c.tc : Thread Cert.MixOutSRefIdeal.nD Cert.MixOutSRefIdeal.τ).loc Cert.MixOutSRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_SampleAttn [hSampleAttn : Cert.SampleAttn.Facts] [hPre_pages_in_pool : Cert.Pre_pages_in_pool.Facts] : Prop :=
  ∀ (m : (ℓ : Loc Cert.SampleAttn.nD Cert.SampleAttn.τ Cert.SampleAttn.sig) → Buf (Elt Bits) ℓ) (g : Dev Cert.SampleAttn.nD → PrngReg), Pre_SampleAttn m →
    θ_run (Cert.SampleAttn.defs (F := Bits)) (onTc (τ := Cert.SampleAttn.τ) (Cert.SampleAttn.main (F := Bits))) ⟨m, fun _ => 0, g⟩ (fun r => (∀ c : Dev Cert.SampleAttn.nD,
      r.2.mem ((c.tc : Thread Cert.SampleAttn.nD Cert.SampleAttn.τ).loc Cert.SampleAttn.main_arg0) = m ((c.tc : Thread Cert.SampleAttn.nD Cert.SampleAttn.τ).loc Cert.SampleAttn.main_arg0)
      ∧ r.2.mem ((c.tc : Thread Cert.SampleAttn.nD Cert.SampleAttn.τ).loc Cert.SampleAttn.main_arg1) = m ((c.tc : Thread Cert.SampleAttn.nD Cert.SampleAttn.τ).loc Cert.SampleAttn.main_arg1)
      ∧ r.2.mem ((c.tc : Thread Cert.SampleAttn.nD Cert.SampleAttn.τ).loc Cert.SampleAttn.main_arg2) = m ((c.tc : Thread Cert.SampleAttn.nD Cert.SampleAttn.τ).loc Cert.SampleAttn.main_arg2)
      ∧ r.2.mem ((c.tc : Thread Cert.SampleAttn.nD Cert.SampleAttn.τ).loc Cert.SampleAttn.main_arg3) = m ((c.tc : Thread Cert.SampleAttn.nD Cert.SampleAttn.τ).loc Cert.SampleAttn.main_arg3)
      ∧ r.2.mem ((c.tc : Thread Cert.SampleAttn.nD Cert.SampleAttn.τ).loc Cert.SampleAttn.main_arg4) = m ((c.tc : Thread Cert.SampleAttn.nD Cert.SampleAttn.τ).loc Cert.SampleAttn.main_arg4)
      ∧ r.2.mem ((c.tc : Thread Cert.SampleAttn.nD Cert.SampleAttn.τ).loc Cert.SampleAttn.main_arg5) = m ((c.tc : Thread Cert.SampleAttn.nD Cert.SampleAttn.τ).loc Cert.SampleAttn.main_arg5)
      ∧ r.2.mem ((c.tc : Thread Cert.SampleAttn.nD Cert.SampleAttn.τ).loc Cert.SampleAttn.main_arg6) = m ((c.tc : Thread Cert.SampleAttn.nD Cert.SampleAttn.τ).loc Cert.SampleAttn.main_arg6)
      ∧ r.2.mem ((c.tc : Thread Cert.SampleAttn.nD Cert.SampleAttn.τ).loc Cert.SampleAttn.main_arg7) = m ((c.tc : Thread Cert.SampleAttn.nD Cert.SampleAttn.τ).loc Cert.SampleAttn.main_arg7)
      ∧ r.2.mem ((c.tc : Thread Cert.SampleAttn.nD Cert.SampleAttn.τ).loc Cert.SampleAttn.main_arg8) = m ((c.tc : Thread Cert.SampleAttn.nD Cert.SampleAttn.τ).loc Cert.SampleAttn.main_arg8)
      ∧ r.2.mem ((c.tc : Thread Cert.SampleAttn.nD Cert.SampleAttn.τ).loc Cert.SampleAttn.main_arg9) = m ((c.tc : Thread Cert.SampleAttn.nD Cert.SampleAttn.τ).loc Cert.SampleAttn.main_arg9))
      ∧ r.2.sem = fun _ => 0)

def quiescent_SampleAttnIdeal [hSampleAttnIdeal : Cert.SampleAttnIdeal.Facts] [hPre_pages_in_pool : Cert.Pre_pages_in_pool.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
      ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5)
      ∧ r.2.mem ((c.tc : Thread Cert.SampleAttnIdeal.nD Cert.SampleAttnIdeal.τ).loc Cert.SampleAttnIdeal.main_arg6) = m ((c.tc : Thread Cert.SampleAttnIdeal.nD Cert.SampleAttnIdeal.τ).loc Cert.SampleAttnIdeal.main_arg6)
      ∧ r.2.mem ((c.tc : Thread Cert.SampleAttnIdeal.nD Cert.SampleAttnIdeal.τ).loc Cert.SampleAttnIdeal.main_arg7) = m ((c.tc : Thread Cert.SampleAttnIdeal.nD Cert.SampleAttnIdeal.τ).loc Cert.SampleAttnIdeal.main_arg7)
      ∧ r.2.mem ((c.tc : Thread Cert.SampleAttnIdeal.nD Cert.SampleAttnIdeal.τ).loc Cert.SampleAttnIdeal.main_arg8) = m ((c.tc : Thread Cert.SampleAttnIdeal.nD Cert.SampleAttnIdeal.τ).loc Cert.SampleAttnIdeal.main_arg8)
      ∧ r.2.mem ((c.tc : Thread Cert.SampleAttnIdeal.nD Cert.SampleAttnIdeal.τ).loc Cert.SampleAttnIdeal.main_arg9) = m ((c.tc : Thread Cert.SampleAttnIdeal.nD Cert.SampleAttnIdeal.τ).loc Cert.SampleAttnIdeal.main_arg9))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)) →
    ∃ (v0 : (c : Dev Cert.MixInIdeal.nD) → Buf (Elt Ideal) ((c.tc : Thread Cert.MixInIdeal.nD Cert.MixInIdeal.τ).loc Cert.MixInIdeal.main_v46_0)) (v1 : (c : Dev Cert.MixInIdeal.nD) → Buf (Elt Ideal) ((c.tc : Thread Cert.MixInIdeal.nD Cert.MixInIdeal.τ).loc Cert.MixInIdeal.main_v46_1)) (v2 : (c : Dev Cert.MixInIdeal.nD) → Buf (Elt Ideal) ((c.tc : Thread Cert.MixInIdeal.nD Cert.MixInIdeal.τ).loc Cert.MixInIdeal.main_v46_2)) (v3 : (c : Dev Cert.MixInIdeal.nD) → Buf (Elt Ideal) ((c.tc : Thread Cert.MixInIdeal.nD Cert.MixInIdeal.τ).loc Cert.MixInIdeal.main_v46_3)) (v4 : (c : Dev Cert.MixInIdeal.nD) → Buf (Elt Ideal) ((c.tc : Thread Cert.MixInIdeal.nD Cert.MixInIdeal.τ).loc Cert.MixInIdeal.main_v46_4)) (v5 : (c : Dev Cert.MixInIdeal.nD) → Buf (Elt Ideal) ((c.tc : Thread Cert.MixInIdeal.nD Cert.MixInIdeal.τ).loc Cert.MixInIdeal.main_v46_5)) (v6 : (c : Dev Cert.MixInIdeal.nD) → Buf (Elt Ideal) ((c.tc : Thread Cert.MixInIdeal.nD Cert.MixInIdeal.τ).loc Cert.MixInIdeal.main_v46_6)) (v7 : (c : Dev Cert.MixInIdeal.nD) → Buf (Elt Ideal) ((c.tc : Thread Cert.MixInIdeal.nD Cert.MixInIdeal.τ).loc Cert.MixInIdeal.main_v46_7)) (v8 : (c : Dev Cert.MixInIdeal.nD) → Buf (Elt Ideal) ((c.tc : Thread Cert.MixInIdeal.nD Cert.MixInIdeal.τ).loc Cert.MixInIdeal.main_v46_8)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v46_0) = v0 c
          ∧ r.2.mem ((c.tc : Thread Cert.MixInIdeal.nD Cert.MixInIdeal.τ).loc Cert.MixInIdeal.main_v46_1) = v1 c
          ∧ r.2.mem ((c.tc : Thread Cert.MixInIdeal.nD Cert.MixInIdeal.τ).loc Cert.MixInIdeal.main_v46_2) = v2 c
          ∧ r.2.mem ((c.tc : Thread Cert.MixInIdeal.nD Cert.MixInIdeal.τ).loc Cert.MixInIdeal.main_v46_3) = v3 c
          ∧ r.2.mem ((c.tc : Thread Cert.MixInIdeal.nD Cert.MixInIdeal.τ).loc Cert.MixInIdeal.main_v46_4) = v4 c
          ∧ r.2.mem ((c.tc : Thread Cert.MixInIdeal.nD Cert.MixInIdeal.τ).loc Cert.MixInIdeal.main_v46_5) = v5 c
          ∧ r.2.mem ((c.tc : Thread Cert.MixInIdeal.nD Cert.MixInIdeal.τ).loc Cert.MixInIdeal.main_v46_6) = v6 c
          ∧ r.2.mem ((c.tc : Thread Cert.MixInIdeal.nD Cert.MixInIdeal.τ).loc Cert.MixInIdeal.main_v46_7) = v7 c
          ∧ r.2.mem ((c.tc : Thread Cert.MixInIdeal.nD Cert.MixInIdeal.τ).loc Cert.MixInIdeal.main_v46_8) = v8 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v208) = v0 c
          ∧ r.2.mem ((c.tc : Thread Cert.MixInRefIdeal.nD Cert.MixInRefIdeal.τ).loc Cert.MixInRefIdeal.main_v210) = v1 c
          ∧ r.2.mem ((c.tc : Thread Cert.MixInRefIdeal.nD Cert.MixInRefIdeal.τ).loc Cert.MixInRefIdeal.main_v212) = v2 c
          ∧ r.2.mem ((c.tc : Thread Cert.MixInRefIdeal.nD Cert.MixInRefIdeal.τ).loc Cert.MixInRefIdeal.main_v214) = v3 c
          ∧ r.2.mem ((c.tc : Thread Cert.MixInRefIdeal.nD Cert.MixInRefIdeal.τ).loc Cert.MixInRefIdeal.main_v216) = v4 c
          ∧ r.2.mem ((c.tc : Thread Cert.MixInRefIdeal.nD Cert.MixInRefIdeal.τ).loc Cert.MixInRefIdeal.main_v217) = v5 c
          ∧ r.2.mem ((c.tc : Thread Cert.MixInRefIdeal.nD Cert.MixInRefIdeal.τ).loc Cert.MixInRefIdeal.main_v218) = v6 c
          ∧ r.2.mem ((c.tc : Thread Cert.MixInRefIdeal.nD Cert.MixInRefIdeal.τ).loc Cert.MixInRefIdeal.main_v219) = v7 c
          ∧ r.2.mem ((c.tc : Thread Cert.MixInRefIdeal.nD Cert.MixInRefIdeal.τ).loc Cert.MixInRefIdeal.main_v220) = v8 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v9)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v9) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v48) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v15)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v15) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v57) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_MixInS_MixInSIdeal : Prop :=
  True

def algebraic_MixInSIdeal_MixInSRefIdeal [hMixInSIdeal : Cert.MixInSIdeal.Facts] [hMixInSRefIdeal : Cert.MixInSRefIdeal.Facts] : Prop :=
  ∀ (m : (ℓ : Loc Cert.MixInSIdeal.nD Cert.MixInSIdeal.τ Cert.MixInSIdeal.sig) → Buf (Elt Ideal) ℓ) (g : Dev Cert.MixInSIdeal.nD → PrngReg)
    (m' : (ℓ : Loc Cert.MixInSRefIdeal.nD Cert.MixInSRefIdeal.τ Cert.MixInSRefIdeal.sig) → Buf (Elt Ideal) ℓ) (g' : Dev Cert.MixInSRefIdeal.nD → PrngReg), Pre_MixInSIdeal m →
    (∀ c : Dev Cert.MixInSIdeal.nD,
      m' ((c.tc : Thread Cert.MixInSRefIdeal.nD Cert.MixInSRefIdeal.τ).loc Cert.MixInSRefIdeal.main_arg0) = m ((c.tc : Thread Cert.MixInSIdeal.nD Cert.MixInSIdeal.τ).loc Cert.MixInSIdeal.main_arg0)
      ∧ m' ((c.tc : Thread Cert.MixInSRefIdeal.nD Cert.MixInSRefIdeal.τ).loc Cert.MixInSRefIdeal.main_arg1) = m ((c.tc : Thread Cert.MixInSIdeal.nD Cert.MixInSIdeal.τ).loc Cert.MixInSIdeal.main_arg1)
      ∧ m' ((c.tc : Thread Cert.MixInSRefIdeal.nD Cert.MixInSRefIdeal.τ).loc Cert.MixInSRefIdeal.main_arg2) = m ((c.tc : Thread Cert.MixInSIdeal.nD Cert.MixInSIdeal.τ).loc Cert.MixInSIdeal.main_arg2)
      ∧ m' ((c.tc : Thread Cert.MixInSRefIdeal.nD Cert.MixInSRefIdeal.τ).loc Cert.MixInSRefIdeal.main_arg3) = m ((c.tc : Thread Cert.MixInSIdeal.nD Cert.MixInSIdeal.τ).loc Cert.MixInSIdeal.main_arg3)) →
    ∃ (v0 : (c : Dev Cert.MixInSIdeal.nD) → Buf (Elt Ideal) ((c.tc : Thread Cert.MixInSIdeal.nD Cert.MixInSIdeal.τ).loc Cert.MixInSIdeal.main_v49_0)) (v1 : (c : Dev Cert.MixInSIdeal.nD) → Buf (Elt Ideal) ((c.tc : Thread Cert.MixInSIdeal.nD Cert.MixInSIdeal.τ).loc Cert.MixInSIdeal.main_v49_1)) (v2 : (c : Dev Cert.MixInSIdeal.nD) → Buf (Elt Ideal) ((c.tc : Thread Cert.MixInSIdeal.nD Cert.MixInSIdeal.τ).loc Cert.MixInSIdeal.main_v49_2)) (v3 : (c : Dev Cert.MixInSIdeal.nD) → Buf (Elt Ideal) ((c.tc : Thread Cert.MixInSIdeal.nD Cert.MixInSIdeal.τ).loc Cert.MixInSIdeal.main_v49_3)) (v4 : (c : Dev Cert.MixInSIdeal.nD) → Buf (Elt Ideal) ((c.tc : Thread Cert.MixInSIdeal.nD Cert.MixInSIdeal.τ).loc Cert.MixInSIdeal.main_v49_4)) (v5 : (c : Dev Cert.MixInSIdeal.nD) → Buf (Elt Ideal) ((c.tc : Thread Cert.MixInSIdeal.nD Cert.MixInSIdeal.τ).loc Cert.MixInSIdeal.main_v49_5)) (v6 : (c : Dev Cert.MixInSIdeal.nD) → Buf (Elt Ideal) ((c.tc : Thread Cert.MixInSIdeal.nD Cert.MixInSIdeal.τ).loc Cert.MixInSIdeal.main_v49_6)) (v7 : (c : Dev Cert.MixInSIdeal.nD) → Buf (Elt Ideal) ((c.tc : Thread Cert.MixInSIdeal.nD Cert.MixInSIdeal.τ).loc Cert.MixInSIdeal.main_v49_7)) (v8 : (c : Dev Cert.MixInSIdeal.nD) → Buf (Elt Ideal) ((c.tc : Thread Cert.MixInSIdeal.nD Cert.MixInSIdeal.τ).loc Cert.MixInSIdeal.main_v49_8)),
      θ_run (Cert.MixInSIdeal.defs (F := Ideal)) (onTc (τ := Cert.MixInSIdeal.τ) (Cert.MixInSIdeal.main (F := Ideal))) ⟨m, fun _ => 0, g⟩ (fun r => ∀ c : Dev Cert.MixInSIdeal.nD,
          r.2.mem ((c.tc : Thread Cert.MixInSIdeal.nD Cert.MixInSIdeal.τ).loc Cert.MixInSIdeal.main_v49_0) = v0 c
          ∧ r.2.mem ((c.tc : Thread Cert.MixInSIdeal.nD Cert.MixInSIdeal.τ).loc Cert.MixInSIdeal.main_v49_1) = v1 c
          ∧ r.2.mem ((c.tc : Thread Cert.MixInSIdeal.nD Cert.MixInSIdeal.τ).loc Cert.MixInSIdeal.main_v49_2) = v2 c
          ∧ r.2.mem ((c.tc : Thread Cert.MixInSIdeal.nD Cert.MixInSIdeal.τ).loc Cert.MixInSIdeal.main_v49_3) = v3 c
          ∧ r.2.mem ((c.tc : Thread Cert.MixInSIdeal.nD Cert.MixInSIdeal.τ).loc Cert.MixInSIdeal.main_v49_4) = v4 c
          ∧ r.2.mem ((c.tc : Thread Cert.MixInSIdeal.nD Cert.MixInSIdeal.τ).loc Cert.MixInSIdeal.main_v49_5) = v5 c
          ∧ r.2.mem ((c.tc : Thread Cert.MixInSIdeal.nD Cert.MixInSIdeal.τ).loc Cert.MixInSIdeal.main_v49_6) = v6 c
          ∧ r.2.mem ((c.tc : Thread Cert.MixInSIdeal.nD Cert.MixInSIdeal.τ).loc Cert.MixInSIdeal.main_v49_7) = v7 c
          ∧ r.2.mem ((c.tc : Thread Cert.MixInSIdeal.nD Cert.MixInSIdeal.τ).loc Cert.MixInSIdeal.main_v49_8) = v8 c
          ∧ r.2.mem ((c.tc : Thread Cert.MixInSIdeal.nD Cert.MixInSIdeal.τ).loc Cert.MixInSIdeal.main_arg0) = m ((c.tc : Thread Cert.MixInSIdeal.nD Cert.MixInSIdeal.τ).loc Cert.MixInSIdeal.main_arg0)
          ∧ r.2.mem ((c.tc : Thread Cert.MixInSIdeal.nD Cert.MixInSIdeal.τ).loc Cert.MixInSIdeal.main_arg1) = m ((c.tc : Thread Cert.MixInSIdeal.nD Cert.MixInSIdeal.τ).loc Cert.MixInSIdeal.main_arg1)
          ∧ r.2.mem ((c.tc : Thread Cert.MixInSIdeal.nD Cert.MixInSIdeal.τ).loc Cert.MixInSIdeal.main_arg2) = m ((c.tc : Thread Cert.MixInSIdeal.nD Cert.MixInSIdeal.τ).loc Cert.MixInSIdeal.main_arg2)
          ∧ r.2.mem ((c.tc : Thread Cert.MixInSIdeal.nD Cert.MixInSIdeal.τ).loc Cert.MixInSIdeal.main_arg3) = m ((c.tc : Thread Cert.MixInSIdeal.nD Cert.MixInSIdeal.τ).loc Cert.MixInSIdeal.main_arg3))
      ∧ θ_run (Cert.MixInSRefIdeal.defs (F := Ideal)) (onTc (τ := Cert.MixInSRefIdeal.τ) (Cert.MixInSRefIdeal.main (F := Ideal))) ⟨m', fun _ => 0, g'⟩ (fun r => ∀ c : Dev Cert.MixInSRefIdeal.nD,
          r.2.mem ((c.tc : Thread Cert.MixInSRefIdeal.nD Cert.MixInSRefIdeal.τ).loc Cert.MixInSRefIdeal.main_v213) = v0 c
          ∧ r.2.mem ((c.tc : Thread Cert.MixInSRefIdeal.nD Cert.MixInSRefIdeal.τ).loc Cert.MixInSRefIdeal.main_v218) = v1 c
          ∧ r.2.mem ((c.tc : Thread Cert.MixInSRefIdeal.nD Cert.MixInSRefIdeal.τ).loc Cert.MixInSRefIdeal.main_v223) = v2 c
          ∧ r.2.mem ((c.tc : Thread Cert.MixInSRefIdeal.nD Cert.MixInSRefIdeal.τ).loc Cert.MixInSRefIdeal.main_v227) = v3 c
          ∧ r.2.mem ((c.tc : Thread Cert.MixInSRefIdeal.nD Cert.MixInSRefIdeal.τ).loc Cert.MixInSRefIdeal.main_v231) = v4 c
          ∧ r.2.mem ((c.tc : Thread Cert.MixInSRefIdeal.nD Cert.MixInSRefIdeal.τ).loc Cert.MixInSRefIdeal.main_v233) = v5 c
          ∧ r.2.mem ((c.tc : Thread Cert.MixInSRefIdeal.nD Cert.MixInSRefIdeal.τ).loc Cert.MixInSRefIdeal.main_v237) = v6 c
          ∧ r.2.mem ((c.tc : Thread Cert.MixInSRefIdeal.nD Cert.MixInSRefIdeal.τ).loc Cert.MixInSRefIdeal.main_v239) = v7 c
          ∧ r.2.mem ((c.tc : Thread Cert.MixInSRefIdeal.nD Cert.MixInSRefIdeal.τ).loc Cert.MixInSRefIdeal.main_v241) = v8 c
          ∧ r.2.mem ((c.tc : Thread Cert.MixInSRefIdeal.nD Cert.MixInSRefIdeal.τ).loc Cert.MixInSRefIdeal.main_arg0) = m' ((c.tc : Thread Cert.MixInSRefIdeal.nD Cert.MixInSRefIdeal.τ).loc Cert.MixInSRefIdeal.main_arg0)
          ∧ r.2.mem ((c.tc : Thread Cert.MixInSRefIdeal.nD Cert.MixInSRefIdeal.τ).loc Cert.MixInSRefIdeal.main_arg1) = m' ((c.tc : Thread Cert.MixInSRefIdeal.nD Cert.MixInSRefIdeal.τ).loc Cert.MixInSRefIdeal.main_arg1)
          ∧ r.2.mem ((c.tc : Thread Cert.MixInSRefIdeal.nD Cert.MixInSRefIdeal.τ).loc Cert.MixInSRefIdeal.main_arg2) = m' ((c.tc : Thread Cert.MixInSRefIdeal.nD Cert.MixInSRefIdeal.τ).loc Cert.MixInSRefIdeal.main_arg2)
          ∧ r.2.mem ((c.tc : Thread Cert.MixInSRefIdeal.nD Cert.MixInSRefIdeal.τ).loc Cert.MixInSRefIdeal.main_arg3) = m' ((c.tc : Thread Cert.MixInSRefIdeal.nD Cert.MixInSRefIdeal.τ).loc Cert.MixInSRefIdeal.main_arg3))

def preserves_MixOutS_MixOutSIdeal : Prop :=
  True

def algebraic_MixOutSIdeal_MixOutSRefIdeal [hMixOutSIdeal : Cert.MixOutSIdeal.Facts] [hMixOutSRefIdeal : Cert.MixOutSRefIdeal.Facts] : Prop :=
  ∀ (m : (ℓ : Loc Cert.MixOutSIdeal.nD Cert.MixOutSIdeal.τ Cert.MixOutSIdeal.sig) → Buf (Elt Ideal) ℓ) (g : Dev Cert.MixOutSIdeal.nD → PrngReg)
    (m' : (ℓ : Loc Cert.MixOutSRefIdeal.nD Cert.MixOutSRefIdeal.τ Cert.MixOutSRefIdeal.sig) → Buf (Elt Ideal) ℓ) (g' : Dev Cert.MixOutSRefIdeal.nD → PrngReg), Pre_MixOutSIdeal m →
    (∀ c : Dev Cert.MixOutSIdeal.nD,
      m' ((c.tc : Thread Cert.MixOutSRefIdeal.nD Cert.MixOutSRefIdeal.τ).loc Cert.MixOutSRefIdeal.main_arg0) = m ((c.tc : Thread Cert.MixOutSIdeal.nD Cert.MixOutSIdeal.τ).loc Cert.MixOutSIdeal.main_arg0)
      ∧ m' ((c.tc : Thread Cert.MixOutSRefIdeal.nD Cert.MixOutSRefIdeal.τ).loc Cert.MixOutSRefIdeal.main_arg1) = m ((c.tc : Thread Cert.MixOutSIdeal.nD Cert.MixOutSIdeal.τ).loc Cert.MixOutSIdeal.main_arg1)
      ∧ m' ((c.tc : Thread Cert.MixOutSRefIdeal.nD Cert.MixOutSRefIdeal.τ).loc Cert.MixOutSRefIdeal.main_arg2) = m ((c.tc : Thread Cert.MixOutSIdeal.nD Cert.MixOutSIdeal.τ).loc Cert.MixOutSIdeal.main_arg2)
      ∧ m' ((c.tc : Thread Cert.MixOutSRefIdeal.nD Cert.MixOutSRefIdeal.τ).loc Cert.MixOutSRefIdeal.main_arg3) = m ((c.tc : Thread Cert.MixOutSIdeal.nD Cert.MixOutSIdeal.τ).loc Cert.MixOutSIdeal.main_arg3)
      ∧ m' ((c.tc : Thread Cert.MixOutSRefIdeal.nD Cert.MixOutSRefIdeal.τ).loc Cert.MixOutSRefIdeal.main_arg4) = m ((c.tc : Thread Cert.MixOutSIdeal.nD Cert.MixOutSIdeal.τ).loc Cert.MixOutSIdeal.main_arg4)
      ∧ m' ((c.tc : Thread Cert.MixOutSRefIdeal.nD Cert.MixOutSRefIdeal.τ).loc Cert.MixOutSRefIdeal.main_arg5) = m ((c.tc : Thread Cert.MixOutSIdeal.nD Cert.MixOutSIdeal.τ).loc Cert.MixOutSIdeal.main_arg5)
      ∧ m' ((c.tc : Thread Cert.MixOutSRefIdeal.nD Cert.MixOutSRefIdeal.τ).loc Cert.MixOutSRefIdeal.main_arg6) = m ((c.tc : Thread Cert.MixOutSIdeal.nD Cert.MixOutSIdeal.τ).loc Cert.MixOutSIdeal.main_arg6)
      ∧ m' ((c.tc : Thread Cert.MixOutSRefIdeal.nD Cert.MixOutSRefIdeal.τ).loc Cert.MixOutSRefIdeal.main_arg7) = m ((c.tc : Thread Cert.MixOutSIdeal.nD Cert.MixOutSIdeal.τ).loc Cert.MixOutSIdeal.main_arg7)
      ∧ m' ((c.tc : Thread Cert.MixOutSRefIdeal.nD Cert.MixOutSRefIdeal.τ).loc Cert.MixOutSRefIdeal.main_arg8) = m ((c.tc : Thread Cert.MixOutSIdeal.nD Cert.MixOutSIdeal.τ).loc Cert.MixOutSIdeal.main_arg8)) →
    ∃ (v0 : (c : Dev Cert.MixOutSIdeal.nD) → Buf (Elt Ideal) ((c.tc : Thread Cert.MixOutSIdeal.nD Cert.MixOutSIdeal.τ).loc Cert.MixOutSIdeal.main_v16)),
      θ_run (Cert.MixOutSIdeal.defs (F := Ideal)) (onTc (τ := Cert.MixOutSIdeal.τ) (Cert.MixOutSIdeal.main (F := Ideal))) ⟨m, fun _ => 0, g⟩ (fun r => ∀ c : Dev Cert.MixOutSIdeal.nD,
          r.2.mem ((c.tc : Thread Cert.MixOutSIdeal.nD Cert.MixOutSIdeal.τ).loc Cert.MixOutSIdeal.main_v16) = v0 c
          ∧ r.2.mem ((c.tc : Thread Cert.MixOutSIdeal.nD Cert.MixOutSIdeal.τ).loc Cert.MixOutSIdeal.main_arg0) = m ((c.tc : Thread Cert.MixOutSIdeal.nD Cert.MixOutSIdeal.τ).loc Cert.MixOutSIdeal.main_arg0)
          ∧ r.2.mem ((c.tc : Thread Cert.MixOutSIdeal.nD Cert.MixOutSIdeal.τ).loc Cert.MixOutSIdeal.main_arg1) = m ((c.tc : Thread Cert.MixOutSIdeal.nD Cert.MixOutSIdeal.τ).loc Cert.MixOutSIdeal.main_arg1)
          ∧ r.2.mem ((c.tc : Thread Cert.MixOutSIdeal.nD Cert.MixOutSIdeal.τ).loc Cert.MixOutSIdeal.main_arg2) = m ((c.tc : Thread Cert.MixOutSIdeal.nD Cert.MixOutSIdeal.τ).loc Cert.MixOutSIdeal.main_arg2)
          ∧ r.2.mem ((c.tc : Thread Cert.MixOutSIdeal.nD Cert.MixOutSIdeal.τ).loc Cert.MixOutSIdeal.main_arg3) = m ((c.tc : Thread Cert.MixOutSIdeal.nD Cert.MixOutSIdeal.τ).loc Cert.MixOutSIdeal.main_arg3)
          ∧ r.2.mem ((c.tc : Thread Cert.MixOutSIdeal.nD Cert.MixOutSIdeal.τ).loc Cert.MixOutSIdeal.main_arg4) = m ((c.tc : Thread Cert.MixOutSIdeal.nD Cert.MixOutSIdeal.τ).loc Cert.MixOutSIdeal.main_arg4)
          ∧ r.2.mem ((c.tc : Thread Cert.MixOutSIdeal.nD Cert.MixOutSIdeal.τ).loc Cert.MixOutSIdeal.main_arg5) = m ((c.tc : Thread Cert.MixOutSIdeal.nD Cert.MixOutSIdeal.τ).loc Cert.MixOutSIdeal.main_arg5)
          ∧ r.2.mem ((c.tc : Thread Cert.MixOutSIdeal.nD Cert.MixOutSIdeal.τ).loc Cert.MixOutSIdeal.main_arg6) = m ((c.tc : Thread Cert.MixOutSIdeal.nD Cert.MixOutSIdeal.τ).loc Cert.MixOutSIdeal.main_arg6)
          ∧ r.2.mem ((c.tc : Thread Cert.MixOutSIdeal.nD Cert.MixOutSIdeal.τ).loc Cert.MixOutSIdeal.main_arg7) = m ((c.tc : Thread Cert.MixOutSIdeal.nD Cert.MixOutSIdeal.τ).loc Cert.MixOutSIdeal.main_arg7)
          ∧ r.2.mem ((c.tc : Thread Cert.MixOutSIdeal.nD Cert.MixOutSIdeal.τ).loc Cert.MixOutSIdeal.main_arg8) = m ((c.tc : Thread Cert.MixOutSIdeal.nD Cert.MixOutSIdeal.τ).loc Cert.MixOutSIdeal.main_arg8))
      ∧ θ_run (Cert.MixOutSRefIdeal.defs (F := Ideal)) (onTc (τ := Cert.MixOutSRefIdeal.τ) (Cert.MixOutSRefIdeal.main (F := Ideal))) ⟨m', fun _ => 0, g'⟩ (fun r => ∀ c : Dev Cert.MixOutSRefIdeal.nD,
          r.2.mem ((c.tc : Thread Cert.MixOutSRefIdeal.nD Cert.MixOutSRefIdeal.τ).loc Cert.MixOutSRefIdeal.main_v48) = v0 c
          ∧ r.2.mem ((c.tc : Thread Cert.MixOutSRefIdeal.nD Cert.MixOutSRefIdeal.τ).loc Cert.MixOutSRefIdeal.main_arg0) = m' ((c.tc : Thread Cert.MixOutSRefIdeal.nD Cert.MixOutSRefIdeal.τ).loc Cert.MixOutSRefIdeal.main_arg0)
          ∧ r.2.mem ((c.tc : Thread Cert.MixOutSRefIdeal.nD Cert.MixOutSRefIdeal.τ).loc Cert.MixOutSRefIdeal.main_arg1) = m' ((c.tc : Thread Cert.MixOutSRefIdeal.nD Cert.MixOutSRefIdeal.τ).loc Cert.MixOutSRefIdeal.main_arg1)
          ∧ r.2.mem ((c.tc : Thread Cert.MixOutSRefIdeal.nD Cert.MixOutSRefIdeal.τ).loc Cert.MixOutSRefIdeal.main_arg2) = m' ((c.tc : Thread Cert.MixOutSRefIdeal.nD Cert.MixOutSRefIdeal.τ).loc Cert.MixOutSRefIdeal.main_arg2)
          ∧ r.2.mem ((c.tc : Thread Cert.MixOutSRefIdeal.nD Cert.MixOutSRefIdeal.τ).loc Cert.MixOutSRefIdeal.main_arg3) = m' ((c.tc : Thread Cert.MixOutSRefIdeal.nD Cert.MixOutSRefIdeal.τ).loc Cert.MixOutSRefIdeal.main_arg3)
          ∧ r.2.mem ((c.tc : Thread Cert.MixOutSRefIdeal.nD Cert.MixOutSRefIdeal.τ).loc Cert.MixOutSRefIdeal.main_arg4) = m' ((c.tc : Thread Cert.MixOutSRefIdeal.nD Cert.MixOutSRefIdeal.τ).loc Cert.MixOutSRefIdeal.main_arg4)
          ∧ r.2.mem ((c.tc : Thread Cert.MixOutSRefIdeal.nD Cert.MixOutSRefIdeal.τ).loc Cert.MixOutSRefIdeal.main_arg5) = m' ((c.tc : Thread Cert.MixOutSRefIdeal.nD Cert.MixOutSRefIdeal.τ).loc Cert.MixOutSRefIdeal.main_arg5)
          ∧ r.2.mem ((c.tc : Thread Cert.MixOutSRefIdeal.nD Cert.MixOutSRefIdeal.τ).loc Cert.MixOutSRefIdeal.main_arg6) = m' ((c.tc : Thread Cert.MixOutSRefIdeal.nD Cert.MixOutSRefIdeal.τ).loc Cert.MixOutSRefIdeal.main_arg6)
          ∧ r.2.mem ((c.tc : Thread Cert.MixOutSRefIdeal.nD Cert.MixOutSRefIdeal.τ).loc Cert.MixOutSRefIdeal.main_arg7) = m' ((c.tc : Thread Cert.MixOutSRefIdeal.nD Cert.MixOutSRefIdeal.τ).loc Cert.MixOutSRefIdeal.main_arg7)
          ∧ r.2.mem ((c.tc : Thread Cert.MixOutSRefIdeal.nD Cert.MixOutSRefIdeal.τ).loc Cert.MixOutSRefIdeal.main_arg8) = m' ((c.tc : Thread Cert.MixOutSRefIdeal.nD Cert.MixOutSRefIdeal.τ).loc Cert.MixOutSRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Attn_AttnIdeal : Prop :=
  True

def preserves_SampleAttn_SampleAttnIdeal : Prop :=
  True

def Claim : Prop :=
  ∃ (hFfn : Cert.Ffn.Facts) (hFfnIdeal : Cert.FfnIdeal.Facts) (hFfnRefIdeal : Cert.FfnRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hFfnS : Cert.FfnS.Facts) (hFfnSIdeal : Cert.FfnSIdeal.Facts) (hFfnSRefIdeal : Cert.FfnSRefIdeal.Facts) (hMixInS : Cert.MixInS.Facts) (hMixInSIdeal : Cert.MixInSIdeal.Facts) (hMixInSRefIdeal : Cert.MixInSRefIdeal.Facts) (hMixOutS : Cert.MixOutS.Facts) (hMixOutSIdeal : Cert.MixOutSIdeal.Facts) (hMixOutSRefIdeal : Cert.MixOutSRefIdeal.Facts) (hAda : Cert.Ada.Facts) (hAdaIdeal : Cert.AdaIdeal.Facts) (hAdaRefIdeal : Cert.AdaRefIdeal.Facts) (hAttn : Cert.Attn.Facts) (hAttnIdeal : Cert.AttnIdeal.Facts) (hSampleAttn : Cert.SampleAttn.Facts) (hSampleAttnIdeal : Cert.SampleAttnIdeal.Facts) (hPre_pages_in_pool : Cert.Pre_pages_in_pool.Facts),
    quiescent_Ffn (hFfn := hFfn)
    ∧ quiescent_FfnIdeal (hFfnIdeal := hFfnIdeal)
    ∧ quiescent_FfnRefIdeal (hFfnRefIdeal := hFfnRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MixInS (hMixInS := hMixInS)
    ∧ quiescent_MixInSIdeal (hMixInSIdeal := hMixInSIdeal)
    ∧ quiescent_MixInSRefIdeal (hMixInSRefIdeal := hMixInSRefIdeal)
    ∧ quiescent_MixOutS (hMixOutS := hMixOutS)
    ∧ quiescent_MixOutSIdeal (hMixOutSIdeal := hMixOutSIdeal)
    ∧ quiescent_MixOutSRefIdeal (hMixOutSRefIdeal := hMixOutSRefIdeal)
    ∧ quiescent_Ada (hAda := hAda)
    ∧ quiescent_AdaIdeal (hAdaIdeal := hAdaIdeal)
    ∧ quiescent_AdaRefIdeal (hAdaRefIdeal := hAdaRefIdeal)
    ∧ quiescent_Attn (hAttn := hAttn)
    ∧ quiescent_AttnIdeal (hAttnIdeal := hAttnIdeal)
    ∧ quiescent_SampleAttn (hSampleAttn := hSampleAttn) (hPre_pages_in_pool := hPre_pages_in_pool)
    ∧ quiescent_SampleAttnIdeal (hSampleAttnIdeal := hSampleAttnIdeal) (hPre_pages_in_pool := hPre_pages_in_pool)
    ∧ preserves_Ffn_FfnIdeal
    ∧ algebraic_FfnIdeal_FfnRefIdeal (hFfnIdeal := hFfnIdeal) (hFfnRefIdeal := hFfnRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_FfnS_FfnSIdeal
    ∧ algebraic_FfnSIdeal_FfnSRefIdeal (hFfnSIdeal := hFfnSIdeal) (hFfnSRefIdeal := hFfnSRefIdeal)
    ∧ preserves_MixInS_MixInSIdeal
    ∧ algebraic_MixInSIdeal_MixInSRefIdeal (hMixInSIdeal := hMixInSIdeal) (hMixInSRefIdeal := hMixInSRefIdeal)
    ∧ preserves_MixOutS_MixOutSIdeal
    ∧ algebraic_MixOutSIdeal_MixOutSRefIdeal (hMixOutSIdeal := hMixOutSIdeal) (hMixOutSRefIdeal := hMixOutSRefIdeal)
    ∧ preserves_Ada_AdaIdeal
    ∧ algebraic_AdaIdeal_AdaRefIdeal (hAdaIdeal := hAdaIdeal) (hAdaRefIdeal := hAdaRefIdeal)
    ∧ preserves_Attn_AttnIdeal
    ∧ preserves_SampleAttn_SampleAttnIdeal
-- ==== Pre_pages_in_pool.lean ====
abbrev S128x64 : Shape := ⟨2, ![128, 64]⟩
abbrev S128x32x128 : Shape := ⟨3, ![128, 32, 128]⟩
abbrev S128x32x64 : Shape := ⟨3, ![128, 32, 64]⟩
abbrev S128x64x128 : Shape := ⟨3, ![128, 64, 128]⟩
abbrev S128x128x128 : Shape := ⟨3, ![128, 128, 128]⟩
abbrev S10240x64x128 : Shape := ⟨3, ![10240, 64, 128]⟩
abbrev S10240x128x128 : Shape := ⟨3, ![10240, 128, 128]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel

variable [Facts]

def fn {F : FTy → Type} [FloatOps F] (main_arg0 : IVec S128x64 32) (main_arg1 : FVec F S128x32x128 .bf16) (main_arg2 : FVec F S128x32x64 .bf16) (main_arg3 : FVec F S128x32x128 .f32) (main_arg4 : FVec F S128x64x128 .bf16) (main_arg5 : FVec F S128x128x128 .bf16) (main_arg6 : FVec F S128x128x128 .bf16) (main_arg7 : FVec F S10240x64x128 .f32) (main_arg8 : FVec F S10240x128x128 .f32) (main_arg9 : FVec F S10240x128x128 .f32) : IVec S_ 1 :=
  let main_c : IVec S_ 32 := constantI S_ 32 0#32
  let main_v0 : IVec S128x64 32 := broadcastInDim S128x64 ![] bcast_S_S128x64 main_c
  let main_v1 : IVec S128x64 1 := cmpi .sge main_arg0 main_v0
  let main_c_0 : IVec S_ 32 := constantI S_ 32 10240#32
  let main_v2 : IVec S128x64 32 := broadcastInDim S128x64 ![] bcast_S_S128x64 main_c_0
  let main_v3 : IVec S128x64 1 := cmpi .slt main_arg0 main_v2
  let main_v4 : IVec S128x64 1 := andi main_v1 main_v3
  let main_c_1 : IVec S_ 1 := constantI S_ 1 1#1
  let main_v5 : IVec S_ 1 := (fun x v => Host.reduce IntOp.andi x v reducesTo_S128x64_S_d0_1 h_S_) main_v4 main_c_1
  main_v5
-- ==== Ffn.lean ====
abbrev S2x16384x1024 : Shape := ⟨3, ![2, 16384, 1024]⟩
abbrev S2x3x3x1024 : Shape := ⟨4, ![2, 3, 3, 1024]⟩
abbrev S3x1024 : Shape := ⟨2, ![3, 1024]⟩
abbrev S1024x4096 : Shape := ⟨2, ![1024, 4096]⟩
abbrev S2048x1024 : Shape := ⟨2, ![2048, 1024]⟩
abbrev S32768x1024 : Shape := ⟨2, ![32768, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 21
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x3x3x1024, .f32⟩
  | .hbm, ⟨2, _⟩ => ⟨S3x1024, .f32⟩
  | .hbm, ⟨3, _⟩ => ⟨S3x1024, .f32⟩
  | .hbm, ⟨4, _⟩ => ⟨S1024x4096, .f32⟩
  | .hbm, ⟨5, _⟩ => ⟨S2048x1024, .f32⟩
  | .hbm, ⟨6, _⟩ => ⟨S32768x1024, .f32⟩
  | .hbm, ⟨7, _⟩ => ⟨S2x1x1x1024, .f32⟩
  | .hbm, ⟨8, _⟩ => ⟨S2x1024, .f32⟩
  | .hbm, ⟨9, _⟩ => ⟨S2x1x1024, .f32⟩
  | .hbm, ⟨10, _⟩ => ⟨S2x1x1x1024, .f32⟩
  | .hbm, ⟨11, _⟩ => ⟨S2x1024, .f32⟩
  | .hbm, ⟨12, _⟩ => ⟨S2x1x1024, .f32⟩
  | .hbm, ⟨13, _⟩ => ⟨S2x1x1x1024, .f32⟩
  | .hbm, ⟨14, _⟩ => ⟨S2x1024, .f32⟩
  | .hbm, ⟨15, _⟩ => ⟨S2x1x1024, .f32⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S2048x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S2x16384x1024 : Shape := ⟨3, ![2, 16384, 1024]⟩
abbrev S2x3x3x1024 : Shape := ⟨4, ![2, 3, 3, 1024]⟩
abbrev S3x1024 : Shape := ⟨2, ![3, 1024]⟩
abbrev S1024x4096 : Shape := ⟨2, ![1024, 4096]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x16384x4096 : Shape := ⟨3, ![2, 16384, 4096]⟩
abbrev S2x16384x2048 : Shape := ⟨3, ![2, 16384, 2048]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x3x3x1024, .f32⟩
  | .hbm, ⟨2, _⟩ => ⟨S3x1024, .f32⟩
  | .hbm, ⟨3, _⟩ => ⟨S3x1024, .f32⟩
  | .hbm, ⟨4, _⟩ => ⟨S1024x4096, .f32⟩
  | .hbm, ⟨5, _⟩ => ⟨S2048x1024, .f32⟩
  | .hbm, ⟨6, _⟩ => ⟨S1x1024, .f32⟩
  | .hbm, ⟨7, _⟩ => ⟨S1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S2x1x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x16384x1024, .f32⟩
  | .hbm, ⟨31, _⟩ => ⟨S2x16384x1024, .f32⟩
  | .hbm, ⟨32, _⟩ => ⟨S2x1x1x1024, .f32⟩
  | .hbm, ⟨33, _⟩ => ⟨S2x1024, .f32⟩
  | .hbm, ⟨34, _⟩ => ⟨S2x1x1024, .f32⟩
  | .hbm, ⟨35, _⟩ => ⟨S2x16384x1024, .f32⟩
  | .hbm, ⟨36, _⟩ => ⟨S2x16384x1024, .f32⟩
  | .hbm, ⟨37, _⟩ => ⟨S2x16384x4096, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S_, .f32⟩
  | .hbm, ⟨43, _⟩ => ⟨S2x16384x2048, .f32⟩
  | .hbm, ⟨44, _⟩ => ⟨S2x16384x2048, .f32⟩
  | .hbm, ⟨45, _⟩ => ⟨S_, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S2x16384x1024, .f32⟩
  | .hbm, ⟨51, _⟩ => ⟨S2x1x1x1024, .f32⟩
  | .hbm, ⟨52, _⟩ => ⟨S2x1024, .f32⟩
  | .hbm, ⟨53, _⟩ => ⟨S2x1x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S1x1024, .f32⟩
  | .hbm, ⟨58, _⟩ => ⟨S1024, .f32⟩
  | .hbm, ⟨59, _⟩ => ⟨S2x16384x1024, .f32⟩
  | .hbm, ⟨60, _⟩ => ⟨S_, .f32⟩
  | .hbm, ⟨61, _⟩ => ⟨S2x16384, .f32⟩
  | .hbm, ⟨62, _⟩ => ⟨S2x16384x1, .f32⟩
  | .hbm, ⟨63, _⟩ => ⟨S_, .f32⟩
  | .hbm, ⟨64, _⟩ => ⟨S2x16384x1, .f32⟩
  | .hbm, ⟨65, _⟩ => ⟨S2x16384x1, .f32⟩
  | .hbm, ⟨66, _⟩ => ⟨S_, .f32⟩
  | .hbm, ⟨67, _⟩ => ⟨S2x16384x1, .f32⟩
  | .hbm, ⟨68, _⟩ => ⟨S2x16384x1, .f32⟩
  | .hbm, ⟨69, _⟩ => ⟨S2x16384x1, .f32⟩
  | .hbm, ⟨70, _⟩ => ⟨S2x16384x1024, .f32⟩
  | .hbm, ⟨71, _⟩ => ⟨S2x16384x1024, .f32⟩
  | .hbm, ⟨72, _⟩ => ⟨S1x1x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== MixIn.lean ====
abbrev S2x16384x1024 : Shape := ⟨3, ![2, 16384, 1024]⟩
abbrev S2x3x3x1024 : Shape := ⟨4, ![2, 3, 3, 1024]⟩
abbrev S3x1024 : Shape := ⟨2, ![3, 1024]⟩
abbrev S1024x2628 : Shape := ⟨2, ![1024, 2628]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S32768x1024 : Shape := ⟨2, ![32768, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S1024x60 : Shape := ⟨2, ![1024, 60]⟩
abbrev S1024x1092 : Shape := ⟨2, ![1024, 1092]⟩
abbrev S1024x1536 : Shape := ⟨2, ![1024, 1536]⟩
abbrev S1024x2688 : Shape := ⟨2, ![1024, 2688]⟩
abbrev S8x32768x128 : Shape := ⟨3, ![8, 32768, 128]⟩
abbrev S2x128x16384 : Shape := ⟨3, ![2, 128, 16384]⟩
abbrev S32768x128 : Shape := ⟨2, ![32768, 128]⟩
abbrev S32768x512 : Shape := ⟨2, ![32768, 512]⟩
abbrev S512x1024 : Shape := ⟨2, ![512, 1024]⟩
abbrev S1x1x1024 : Shape := ⟨3, ![1, 1, 1024]⟩
abbrev S512x128 : Shape := ⟨2, ![512, 128]⟩
abbrev S8x512x128 : Shape := ⟨3, ![8, 512, 128]⟩
abbrev S1x128x512 : Shape := ⟨3, ![1, 128, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1x512x128 : Shape := ⟨3, ![1, 512, 128]⟩
abbrev S1024x128 : Shape := ⟨2, ![1024, 128]⟩
abbrev S128x512 : Shape := ⟨2, ![128, 512]⟩
abbrev S1024x256 : Shape := ⟨2, ![1024, 256]⟩
abbrev S512x256 : Shape := ⟨2, ![512, 256]⟩

abbrev nBuf : Space → Nat
  | .hbm => 66
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S2x3x3x1024, .f32⟩
  | .hbm, ⟨2, _⟩ => ⟨S3x1024, .f32⟩
  | .hbm, ⟨3, _⟩ => ⟨S1024x2628, .f32⟩
  | .hbm, ⟨4, _⟩ => ⟨S16384, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S16384, .f32⟩
  | .hbm, ⟨17, _⟩ => ⟨S16384x1, .f32⟩
  | .hbm, ⟨18, _⟩ => ⟨S1x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S_, .f32⟩
  | .hbm, ⟨25, _⟩ => ⟨S16384x48, .f32⟩
  | .hbm, ⟨26, _⟩ => ⟨S_, .f32⟩
  | .hbm, ⟨27, _⟩ => ⟨S16384x48, .f32⟩
  | .hbm, ⟨28, _⟩ => ⟨S_, .f32⟩
  | .hbm, ⟨29, _⟩ => ⟨S16384x8, .f32⟩
  | .hbm, ⟨30, _⟩ => ⟨S16384x64, .f32⟩
  | .hbm, ⟨31, _⟩ => ⟨S16384x8, .f32⟩
  | .hbm, ⟨32, _⟩ => ⟨S16384x64, .f32⟩
  | .hbm, ⟨33, _⟩ => ⟨S16384x64, .f32⟩
  | .hbm, ⟨34, _⟩ => ⟨S1x16384x1x64, .f32⟩
  | .hbm, ⟨35, _⟩ => ⟨S1x16384x2x64, .f32⟩
  | .hbm, ⟨36, _⟩ => ⟨S16384x128, .f32⟩
  | .hbm, ⟨37, _⟩ => ⟨S1x16384x1x64, .f32⟩
  | .hbm, ⟨38, _⟩ => ⟨S1x16384x2x64, .f32⟩
  | .hbm, ⟨39, _⟩ => ⟨S16384x128, .f32⟩
  | .hbm, ⟨40, _⟩ => ⟨S1x16384x1x64, .f32⟩
  | .hbm, ⟨41, _⟩ => ⟨S1x16384x2x64, .f32⟩
  | .hbm, ⟨42, _⟩ => ⟨S16384x128, .f32⟩
  | .hbm, ⟨43, _⟩ => ⟨S32768x1024, .f32⟩
  | .hbm, ⟨44, _⟩ => ⟨S2x1x1x1024, .f32⟩
  | .hbm, ⟨45, _⟩ => ⟨S2x1024, .f32⟩
  | .hbm, ⟨46, _⟩ => ⟨S2x1x1024, .f32⟩
  | .hbm, ⟨47, _⟩ => ⟨S2x1x1x1024, .f32⟩
  | .hbm, ⟨48, _⟩ => ⟨S2x1024, .f32⟩
  | .hbm, ⟨49, _⟩ => ⟨S2x1x1024, .f32⟩
  | .hbm, ⟨50, _⟩ => ⟨S1x1024, .f32⟩
  | .hbm, ⟨51, _⟩ => ⟨S_, .f32⟩
  | .hbm, ⟨52, _⟩ => ⟨S1024x60, .f32⟩
  | .hbm, ⟨53, _⟩ => ⟨S1024x1092, .f32⟩
  | .hbm, ⟨54, _⟩ => ⟨S1024x1536, .f32⟩
  | .hbm, ⟨55, _⟩ => ⟨S1024x2688, .f32⟩
  | .hbm, ⟨56, _⟩ => ⟨S1024x2688, .bf16⟩
  | .hbm, ⟨57, _⟩ => ⟨S8x32768x128, .bf16⟩
  | .hbm, ⟨58, _⟩ => ⟨S2x128x16384, .f32⟩
  | .hbm, ⟨59, _⟩ => ⟨S2x128x16384, .f32⟩
  | .hbm, ⟨60, _⟩ => ⟨S32768x128, .bf16⟩
  | .hbm, ⟨61, _⟩ => ⟨S32768x512, .bf16⟩
  | .hbm, ⟨62, _⟩ => ⟨S32768x128, .f32⟩
  | .hbm, ⟨63, _⟩ => ⟨S2x128x16384, .f32⟩
  | .hbm, ⟨64, _⟩ => ⟨S32768x512, .f32⟩
  | .hbm, ⟨65, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2688, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x512x128, .bf16⟩
  | .local _ .vmem, ⟨15, _⟩ => ⟨S8x512x128, .bf16⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S512x128, .bf16⟩
  | .local _ .vmem, ⟨21, _⟩ => ⟨S512x128, .bf16⟩
  | .local _ .vmem, ⟨22, _⟩ => ⟨S512x512, .bf16⟩
  | .local _ .vmem, ⟨23, _⟩ => ⟨S512x512, .bf16⟩
  | .local _ .vmem, ⟨24, _⟩ => ⟨S512x128, .f32⟩
  | .local _ .vmem, ⟨25, _⟩ => ⟨S512x128, .f32⟩
  | .local _ .vmem, ⟨26, _⟩ => ⟨S1x128x512, .f32⟩
  | .local _ .vmem, ⟨27, _⟩ => ⟨S1x128x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46_0 : Ref sig .tc := ⟨.hbm, 57, rfl⟩
abbrev main_v46_1 : Ref sig .tc := ⟨.hbm, 58, rfl⟩
abbrev main_v46_2 : Ref sig .tc := ⟨.hbm, 59, rfl⟩
abbrev main_v46_3 : Ref sig .tc := ⟨.hbm, 60, rfl⟩
abbrev main_v46_4 : Ref sig .tc := ⟨.hbm, 61, rfl⟩
abbrev main_v46_5 : Ref sig .tc := ⟨.hbm, 62, rfl⟩
abbrev main_v46_6 : Ref sig .tc := ⟨.hbm, 63, rfl⟩
abbrev main_v46_7 : Ref sig .tc := ⟨.hbm, 64, rfl⟩
abbrev main_v46_8 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixInRefIdeal.lean ====
abbrev S2x16384x1024 : Shape := ⟨3, ![2, 16384, 1024]⟩
abbrev S2x3x3x1024 : Shape := ⟨4, ![2, 3, 3, 1024]⟩
abbrev S3x1024 : Shape := ⟨2, ![3, 1024]⟩
abbrev S1024x2628 : Shape := ⟨2, ![1024, 2628]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S16384 : Shape := ⟨1, ![16384]⟩
abbrev S2x16384x2628 : Shape := ⟨3, ![2, 16384, 2628]⟩
abbrev S2x16384x512 : Shape := ⟨3, ![2, 16384, 512]⟩
abbrev S2x16384x128 : Shape := ⟨3, ![2, 16384, 128]⟩
abbrev S2x16384x256 : Shape := ⟨3, ![2, 16384, 256]⟩
abbrev S2x16384x64 : Shape := ⟨3, ![2, 16384, 64]⟩
abbrev S2x16384x4 : Shape := ⟨3, ![2, 16384, 4]⟩
abbrev S2x16384x8x64 : Shape := ⟨4, ![2, 16384, 8, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x1x8 : Shape := ⟨3, ![16384, 1, 8]⟩
abbrev S2x16384x8x8 : Shape := ⟨4, ![2, 16384, 8, 8]⟩
abbrev S1x16384x1x8 : Shape := ⟨4, ![1, 16384, 1, 8]⟩
abbrev S2x16384x8x48 : Shape := ⟨4, ![2, 16384, 8, 48]⟩
abbrev S2x16384x2x64 : Shape := ⟨4, ![2, 16384, 2, 64]⟩
abbrev S2x16384x2x8 : Shape := ⟨4, ![2, 16384, 2, 8]⟩
abbrev S2x16384x2x48 : Shape := ⟨4, ![2, 16384, 2, 48]⟩
abbrev S2x16384x4x64 : Shape := ⟨4, ![2, 16384, 4, 64]⟩
abbrev S2x16384x4x8 : Shape := ⟨4, ![2, 16384, 4, 8]⟩
abbrev S2x16384x4x48 : Shape := ⟨4, ![2, 16384, 4, 48]⟩
abbrev S2x16384x1x64 : Shape := ⟨4, ![2, 16384, 1, 64]⟩
abbrev S2x16384x1x8 : Shape := ⟨4, ![2, 16384, 1, 8]⟩
abbrev S2x16384x1x48 : Shape := ⟨4, ![2, 16384, 1, 48]⟩
abbrev S2x16384x8x128 : Shape := ⟨4, ![2, 16384, 8, 128]⟩
abbrev S32768x8x128 : Shape := ⟨3, ![32768, 8, 128]⟩
abbrev S8x32768x128 : Shape := ⟨3, ![8, 32768, 128]⟩
abbrev S2x16384x2x1x64 : Shape := ⟨5, ![2, 16384, 2, 1, 64]⟩
abbrev S2x16384x2x2x64 : Shape := ⟨5, ![2, 16384, 2, 2, 64]⟩
abbrev S2x16384x2x4x64 : Shape := ⟨5, ![2, 16384, 2, 4, 64]⟩
abbrev S2x16384x60 : Shape := ⟨3, ![2, 16384, 60]⟩
abbrev S2x128x16384 : Shape := ⟨3, ![2, 128, 16384]⟩
abbrev S32768x128 : Shape := ⟨2, ![32768, 128]⟩
abbrev S32768x512 : Shape := ⟨2, ![32768, 512]⟩

abbrev nBuf : Space → Nat
  | .hbm => 246
  | .vmem => 0
  | .smem => 0
  | _ => 0

abbrev hbmTy0_0 (i : Nat) : BufTy := match i % 128 with
  | 0 => ⟨S2x16384x1024, .f32⟩
  | 1 => ⟨S2x3x3x1024, .f32⟩
  | 2 => ⟨S3x1024, .f32⟩
  | 3 => ⟨S1024x2628, .f32⟩
  | 4 => ⟨S1x1024, .f32⟩
  | 5 => ⟨S1024, .f32⟩
  | 6 => ⟨S2x16384x1024, .f32⟩
  | 7 => ⟨S_, .f32⟩
  | 8 => ⟨S2x16384, .f32⟩
  | 9 => ⟨S2x16384x1, .f32⟩
  | 10 => ⟨S_, .f32⟩
  | 11 => ⟨S2x16384x1, .f32⟩
  | 12 => ⟨S2x16384x1, .f32⟩
  | 13 => ⟨S_, .f32⟩
  | 14 => ⟨S2x16384x1, .f32⟩
  | 15 => ⟨S2x16384x1, .f32⟩
  | 16 => ⟨S2x16384x1, .f32⟩
  | 17 => ⟨S2x16384x1024, .f32⟩
  | 18 => ⟨S2x16384x1024, .f32⟩
  | 19 => ⟨S1x1x1024, .f32⟩
  | 20 => ⟨S2x16384x1024, .f32⟩
  | 21 => ⟨S2x16384x1024, .f32⟩
  | 22 => ⟨S2x1x1x1024, .f32⟩
  | 23 => ⟨S2x1024, .f32⟩
  | 24 => ⟨S2x1x1024, .f32⟩
  | 25 => ⟨S_, .f32⟩
  | 26 => ⟨S2x1x1024, .f32⟩
  | 27 => ⟨S2x1x1024, .f32⟩
  | 28 => ⟨S2x16384x1024, .f32⟩
  | 29 => ⟨S2x16384x1024, .f32⟩
  | 30 => ⟨S2x1x1x1024, .f32⟩
  | 31 => ⟨S2x1024, .f32⟩
  | 32 => ⟨S2x1x1024, .f32⟩
  | 33 => ⟨S2x16384x1024, .f32⟩
  | 34 => ⟨S2x16384x1024, .f32⟩
  | 35 => ⟨S16384, .i32⟩
  | 36 => ⟨S2x16384x2628, .f32⟩
  | 37 => ⟨S2x16384x512, .f32⟩
  | 38 => ⟨S2x16384x128, .f32⟩
  | 39 => ⟨S2x16384x128, .f32⟩
  | 40 => ⟨S2x16384x256, .f32⟩
  | 41 => ⟨S2x16384x64, .f32⟩
  | 42 => ⟨S2x16384x4, .f32⟩
  | 43 => ⟨S2x16384x512, .f32⟩
  | 44 => ⟨S2x16384x512, .f32⟩
  | 45 => ⟨S2x16384x512, .f32⟩
  | 46 => ⟨S2x16384x8x64, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S16384, .f32⟩
  | 59 => ⟨S16384x1, .f32⟩
  | 60 => ⟨S1x8, .f32⟩
  | 61 => ⟨S16384x8, .f32⟩
  | 62 => ⟨S16384x8, .f32⟩
  | 63 => ⟨S16384x8, .f32⟩
  | 64 => ⟨S16384x8, .f32⟩
  | 65 => ⟨S16384x1x8, .f32⟩
  | 66 => ⟨S16384x8, .f32⟩
  | 67 => ⟨S16384x1x8, .f32⟩
  | 68 => ⟨S2x16384x8x8, .f32⟩
  | 69 => ⟨S2x16384x8x8, .f32⟩
  | 70 => ⟨S1x16384x1x8, .f32⟩
  | 71 => ⟨S2x16384x8x8, .f32⟩
  | 72 => ⟨S2x16384x8x8, .f32⟩
  | 73 => ⟨S1x16384x1x8, .f32⟩
  | 74 => ⟨S2x16384x8x8, .f32⟩
  | 75 => ⟨S2x16384x8x8, .f32⟩
  | 76 => ⟨S2x16384x8x8, .f32⟩
  | 77 => ⟨S1x16384x1x8, .f32⟩
  | 78 => ⟨S2x16384x8x8, .f32⟩
  | 79 => ⟨S2x16384x8x8, .f32⟩
  | 80 => ⟨S1x16384x1x8, .f32⟩
  | 81 => ⟨S2x16384x8x8, .f32⟩
  | 82 => ⟨S2x16384x8x8, .f32⟩
  | 83 => ⟨S2x16384x8x8, .f32⟩
  | 84 => ⟨S2x16384x8x48, .f32⟩
  | 85 => ⟨S2x16384x8x64, .f32⟩
  | 86 => ⟨S2x16384x2x64, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S16384, .f32⟩
  | 99 => ⟨S16384x1, .f32⟩
  | 100 => ⟨S1x8, .f32⟩
  | 101 => ⟨S16384x8, .f32⟩
  | 102 => ⟨S16384x8, .f32⟩
  | 103 => ⟨S16384x8, .f32⟩
  | 104 => ⟨S16384x8, .f32⟩
  | 105 => ⟨S16384x1x8, .f32⟩
  | 106 => ⟨S16384x8, .f32⟩
  | 107 => ⟨S16384x1x8, .f32⟩
  | 108 => ⟨S2x16384x2x8, .f32⟩
  | 109 => ⟨S2x16384x2x8, .f32⟩
  | 110 => ⟨S1x16384x1x8, .f32⟩
  | 111 => ⟨S2x16384x2x8, .f32⟩
  | 112 => ⟨S2x16384x2x8, .f32⟩
  | 113 => ⟨S1x16384x1x8, .f32⟩
  | 114 => ⟨S2x16384x2x8, .f32⟩
  | 115 => ⟨S2x16384x2x8, .f32⟩
  | 116 => ⟨S2x16384x2x8, .f32⟩
  | 117 => ⟨S1x16384x1x8, .f32⟩
  | 118 => ⟨S2x16384x2x8, .f32⟩
  | 119 => ⟨S2x16384x2x8, .f32⟩
  | 120 => ⟨S1x16384x1x8, .f32⟩
  | 121 => ⟨S2x16384x2x8, .f32⟩
  | 122 => ⟨S2x16384x2x8, .f32⟩
  | 123 => ⟨S2x16384x2x8, .f32⟩
  | 124 => ⟨S2x16384x2x48, .f32⟩
  | 125 => ⟨S2x16384x2x64, .f32⟩
  | 126 => ⟨S2x16384x2x64, .f32⟩
  | 127 => ⟨S2x16384x4x64, .f32⟩
  | _ => ⟨S2x16384x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S16384, .f32⟩
  | 12 => ⟨S16384x1, .f32⟩
  | 13 => ⟨S1x8, .f32⟩
  | 14 => ⟨S16384x8, .f32⟩
  | 15 => ⟨S16384x8, .f32⟩
  | 16 => ⟨S16384x8, .f32⟩
  | 17 => ⟨S16384x8, .f32⟩
  | 18 => ⟨S16384x1x8, .f32⟩
  | 19 => ⟨S16384x8, .f32⟩
  | 20 => ⟨S16384x1x8, .f32⟩
  | 21 => ⟨S2x16384x4x8, .f32⟩
  | 22 => ⟨S2x16384x4x8, .f32⟩
  | 23 => ⟨S1x16384x1x8, .f32⟩
  | 24 => ⟨S2x16384x4x8, .f32⟩
  | 25 => ⟨S2x16384x4x8, .f32⟩
  | 26 => ⟨S1x16384x1x8, .f32⟩
  | 27 => ⟨S2x16384x4x8, .f32⟩
  | 28 => ⟨S2x16384x4x8, .f32⟩
  | 29 => ⟨S2x16384x4x8, .f32⟩
  | 30 => ⟨S1x16384x1x8, .f32⟩
  | 31 => ⟨S2x16384x4x8, .f32⟩
  | 32 => ⟨S2x16384x4x8, .f32⟩
  | 33 => ⟨S1x16384x1x8, .f32⟩
  | 34 => ⟨S2x16384x4x8, .f32⟩
  | 35 => ⟨S2x16384x4x8, .f32⟩
  | 36 => ⟨S2x16384x4x8, .f32⟩
  | 37 => ⟨S2x16384x4x48, .f32⟩
  | 38 => ⟨S2x16384x4x64, .f32⟩
  | 39 => ⟨S2x16384x1x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S16384, .f32⟩
  | 52 => ⟨S16384x1, .f32⟩
  | 53 => ⟨S1x8, .f32⟩
  | 54 => ⟨S16384x8, .f32⟩
  | 55 => ⟨S16384x8, .f32⟩
  | 56 => ⟨S16384x8, .f32⟩
  | 57 => ⟨S16384x8, .f32⟩
  | 58 => ⟨S16384x1x8, .f32⟩
  | 59 => ⟨S16384x8, .f32⟩
  | 60 => ⟨S16384x1x8, .f32⟩
  | 61 => ⟨S2x16384x1x8, .f32⟩
  | 62 => ⟨S2x16384x1x8, .f32⟩
  | 63 => ⟨S1x16384x1x8, .f32⟩
  | 64 => ⟨S2x16384x1x8, .f32⟩
  | 65 => ⟨S2x16384x1x8, .f32⟩
  | 66 => ⟨S1x16384x1x8, .f32⟩
  | 67 => ⟨S2x16384x1x8, .f32⟩
  | 68 => ⟨S2x16384x1x8, .f32⟩
  | 69 => ⟨S2x16384x1x8, .f32⟩
  | 70 => ⟨S1x16384x1x8, .f32⟩
  | 71 => ⟨S2x16384x1x8, .f32⟩
  | 72 => ⟨S2x16384x1x8, .f32⟩
  | 73 => ⟨S1x16384x1x8, .f32⟩
  | 74 => ⟨S2x16384x1x8, .f32⟩
  | 75 => ⟨S2x16384x1x8, .f32⟩
  | 76 => ⟨S2x16384x1x8, .f32⟩
  | 77 => ⟨S2x16384x1x48, .f32⟩
  | 78 => ⟨S2x16384x1x64, .f32⟩
  | 79 => ⟨S2x16384x64, .f32⟩
  | 80 => ⟨S_, .f32⟩
  | 81 => ⟨S2x16384x4, .f32⟩
  | 82 => ⟨S2x16384x4, .f32⟩
  | 83 => ⟨S2x16384x512, .f32⟩
  | 84 => ⟨S_, .f32⟩
  | 85 => ⟨S2x16384x4x64, .f32⟩
  | 86 => ⟨S_, .f32⟩
  | 87 => ⟨S2x16384x8x64, .f32⟩
  | 88 => ⟨S2x16384x8x64, .f32⟩
  | 89 => ⟨S2x16384x4x64, .f32⟩
  | 90 => ⟨S2x16384x8x64, .f32⟩
  | 91 => ⟨S2x16384x4x64, .f32⟩
  | 92 => ⟨S2x16384x8x64, .f32⟩
  | 93 => ⟨S2x16384x8x128, .f32⟩
  | 94 => ⟨S32768x8x128, .f32⟩
  | 95 => ⟨S8x32768x128, .f32⟩
  | 96 => ⟨S_, .f32⟩
  | 97 => ⟨S2x16384x2x1x64, .f32⟩
  | 98 => ⟨S2x16384x2x2x64, .f32⟩
  | 99 => ⟨S2x16384x2x1x64, .f32⟩
  | 100 => ⟨S2x16384x2x1x64, .f32⟩
  | 101 => ⟨S2x16384x2x4x64, .f32⟩
  | 102 => ⟨S_, .f32⟩
  | 103 => ⟨S2x16384x60, .f32⟩
  | 104 => ⟨S2x16384x128, .f32⟩
  | 105 => ⟨S8x32768x128, .bf16⟩
  | 106 => ⟨S2x16384x128, .f32⟩
  | 107 => ⟨S2x128x16384, .f32⟩
  | 108 => ⟨S2x16384x128, .f32⟩
  | 109 => ⟨S2x128x16384, .f32⟩
  | 110 => ⟨S32768x128, .f32⟩
  | 111 => ⟨S32768x128, .bf16⟩
  | 112 => ⟨S32768x512, .f32⟩
  | 113 => ⟨S32768x512, .bf16⟩
  | 114 => ⟨S32768x128, .f32⟩
  | 115 => ⟨S2x128x16384, .f32⟩
  | 116 => ⟨S32768x512, .f32⟩
  | 117 => ⟨S32768x512, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_cst_6 : Ref sig .tc := ⟨.hbm, 89, rfl⟩
abbrev main_v78 : Ref sig .tc := ⟨.hbm, 90, rfl⟩
abbrev main_v79 : Ref sig .tc := ⟨.hbm, 91, rfl⟩
abbrev main_cst_7 : Ref sig .tc := ⟨.hbm, 92, rfl⟩
abbrev main_v80 : Ref sig .tc := ⟨.hbm, 93, rfl⟩
abbrev main_v81 : Ref sig .tc := ⟨.hbm, 94, rfl⟩
abbrev main_cst_8 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_9 : Ref sig .tc := ⟨.hbm, 130, rfl⟩
abbrev main_v116 : Ref sig .tc := ⟨.hbm, 131, rfl⟩
abbrev main_v117 : Ref sig .tc := ⟨.hbm, 132, rfl⟩
abbrev main_cst_10 : Ref sig .tc := ⟨.hbm, 133, rfl⟩
abbrev main_v118 : Ref sig .tc := ⟨.hbm, 134, rfl⟩
abbrev main_v119 : Ref sig .tc := ⟨.hbm, 135, rfl⟩
abbrev main_cst_11 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_cst_12 : Ref sig .tc := ⟨.hbm, 170, rfl⟩
abbrev main_v153 : Ref sig .tc := ⟨.hbm, 171, rfl⟩
abbrev main_v154 : Ref sig .tc := ⟨.hbm, 172, rfl⟩
abbrev main_cst_13 : Ref sig .tc := ⟨.hbm, 173, rfl⟩
abbrev main_v155 : Ref sig .tc := ⟨.hbm, 174, rfl⟩
abbrev main_v156 : Ref sig .tc := ⟨.hbm, 175, rfl⟩
abbrev main_cst_14 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_cst_15 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_cst_16 : Ref sig .tc := ⟨.hbm, 212, rfl⟩
abbrev main_v191 : Ref sig .tc := ⟨.hbm, 213, rfl⟩
abbrev main_cst_17 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_cst_18 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_cst_19 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩

abbrev nD : Nat := 1
abbrev τ : Topo := Topo.v7x

variable {F : FTy → Type} [FloatOps F]
-- ==== MixOut.lean ====
abbrev S2x16384x1024 : Shape := ⟨3, ![2, 16384, 1024]⟩
abbrev S2x16384x512 : Shape := ⟨3, ![2, 16384, 512]⟩
abbrev S2x3x3x1024 : Shape := ⟨4, ![2, 3, 3, 1024]⟩
abbrev S3x1024 : Shape := ⟨2, ![3, 1024]⟩
abbrev S3x512 : Shape := ⟨2, ![3, 512]⟩
abbrev S1024x1024 : Shape := ⟨2, ![1024, 1024]⟩
abbrev S32768x1024 : Shape := ⟨2, ![32768, 1024]⟩
abbrev S32768x512 : Shape := ⟨2, ![32768, 512]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S512x1024 : Shape := ⟨2, ![512, 1024]⟩
abbrev S512x512 : Shape := ⟨2, ![512, 512]⟩
abbrev S8x512 : Shape := ⟨2, ![8, 512]⟩
abbrev S1x1x1024 : Shape := ⟨3, ![1, 1, 1024]⟩
abbrev S520x512 : Shape := ⟨2, ![520, 512]⟩
abbrev S1x512 : Shape := ⟨2, ![1, 512]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x3x3x1024, .f32⟩
  | .hbm, ⟨5, _⟩ => ⟨S3x1024, .f32⟩
  | .hbm, ⟨6, _⟩ => ⟨S3x512, .f32⟩
  | .hbm, ⟨7, _⟩ => ⟨S1024x1024, .f32⟩
  | .hbm, ⟨8, _⟩ => ⟨S32768x1024, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S2x1x1x1024, .f32⟩
  | .hbm, ⟨13, _⟩ => ⟨S2x1024, .f32⟩
  | .hbm, ⟨14, _⟩ => ⟨S2x1x1024, .f32⟩
  | .hbm, ⟨15, _⟩ => ⟨S1x1024, .f32⟩
  | .hbm, ⟨16, _⟩ => ⟨S1024x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S3x512, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S520x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutRefIdeal.lean ====
abbrev S2x16384x1024 : Shape := ⟨3, ![2, 16384, 1024]⟩
abbrev S2x16384x512 : Shape := ⟨3, ![2, 16384, 512]⟩
abbrev S2x3x3x1024 : Shape := ⟨4, ![2, 3, 3, 1024]⟩
abbrev S3x1024 : Shape := ⟨2, ![3, 1024]⟩
abbrev S3x512 : Shape := ⟨2, ![3, 512]⟩
abbrev S1024x1024 : Shape := ⟨2, ![1024, 1024]⟩
abbrev S_ : Shape := ⟨0, ![]⟩
abbrev S2x2x512 : Shape := ⟨3, ![2, 2, 512]⟩
abbrev S2x16386x512 : Shape := ⟨3, ![2, 16386, 512]⟩
abbrev S1x512 : Shape := ⟨2, ![1, 512]⟩
abbrev S512 : Shape := ⟨1, ![512]⟩
abbrev S1x1x512 : Shape := ⟨3, ![1, 1, 512]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024 : Shape := ⟨2, ![1, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x3x3x1024, .f32⟩
  | .hbm, ⟨5, _⟩ => ⟨S3x1024, .f32⟩
  | .hbm, ⟨6, _⟩ => ⟨S3x512, .f32⟩
  | .hbm, ⟨7, _⟩ => ⟨S1024x1024, .f32⟩
  | .hbm, ⟨8, _⟩ => ⟨S_, .f32⟩
  | .hbm, ⟨9, _⟩ => ⟨S2x2x512, .f32⟩
  | .hbm, ⟨10, _⟩ => ⟨S2x16386x512, .f32⟩
  | .hbm, ⟨11, _⟩ => ⟨S1x512, .f32⟩
  | .hbm, ⟨12, _⟩ => ⟨S512, .f32⟩
  | .hbm, ⟨13, _⟩ => ⟨S2x16384x512, .f32⟩
  | .hbm, ⟨14, _⟩ => ⟨S1x1x512, .f32⟩
  | .hbm, ⟨15, _⟩ => ⟨S2x16384x512, .f32⟩
  | .hbm, ⟨16, _⟩ => ⟨S2x16384x512, .f32⟩
  | .hbm, ⟨17, _⟩ => ⟨S1x512, .f32⟩
  | .hbm, ⟨18, _⟩ => ⟨S512, .f32⟩
  | .hbm, ⟨19, _⟩ => ⟨S2x16384x512, .f32⟩
  | .hbm, ⟨20, _⟩ => ⟨S1x1x512, .f32⟩
  | .hbm, ⟨21, _⟩ => ⟨S2x16384x512, .f32⟩
  | .hbm, ⟨22, _⟩ => ⟨S2x16384x512, .f32⟩
  | .hbm, ⟨23, _⟩ => ⟨S2x16384x512, .f32⟩
  | .hbm, ⟨24, _⟩ => ⟨S1x512, .f32⟩
  | .hbm, ⟨25, _⟩ => ⟨S512, .f32⟩
  | .hbm, ⟨26, _⟩ => ⟨S2x16384x512, .f32⟩
  | .hbm, ⟨27, _⟩ => ⟨S1x1x512, .f32⟩
  | .hbm, ⟨28, _⟩ => ⟨S2x16384x512, .f32⟩
  | .hbm, ⟨29, _⟩ => ⟨S2x16384x512, .f32⟩
  | .hbm, ⟨30, _⟩ => ⟨S2x16384x512, .f32⟩
  | .hbm, ⟨31, _⟩ => ⟨S2x16384x512, .f32⟩
  | .hbm, ⟨32, _⟩ => ⟨S2x16384x1024, .f32⟩
  | .hbm, ⟨33, _⟩ => ⟨S2x16384x1024, .f32⟩
  | .hbm, ⟨34, _⟩ => ⟨S2x1x1x1024, .f32⟩
  | .hbm, ⟨35, _⟩ => ⟨S2x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S1x1024, .f32⟩
  | .hbm, ⟨41, _⟩ => ⟨S1024, .f32⟩
  | .hbm, ⟨42, _⟩ => ⟨S2x16384x1024, .f32⟩
  | .hbm, ⟨43, _⟩ => ⟨S_, .f32⟩
  | .hbm, ⟨44, _⟩ => ⟨S2x16384, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S2x16384x1, .f32⟩
  | .hbm, ⟨53, _⟩ => ⟨S2x16384x1024, .f32⟩
  | .hbm, ⟨54, _⟩ => ⟨S2x16384x1024, .f32⟩
  | .hbm, ⟨55, _⟩ => ⟨S1x1x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== FfnS.lean ====
abbrev S128x4x1024 : Shape := ⟨3, ![128, 4, 1024]⟩
abbrev S128x3x3x1024 : Shape := ⟨4, ![128, 3, 3, 1024]⟩
abbrev S3x1024 : Shape := ⟨2, ![3, 1024]⟩
abbrev S1024x4096 : Shape := ⟨2, ![1024, 4096]⟩
abbrev S2048x1024 : Shape := ⟨2, ![2048, 1024]⟩
abbrev S4x128x1024 : Shape := ⟨3, ![4, 128, 1024]⟩
abbrev S512x1024 : Shape := ⟨2, ![512, 1024]⟩
abbrev S128x1x1x1024 : Shape := ⟨4, ![128, 1, 1, 1024]⟩
abbrev S128x1024 : Shape := ⟨2, ![128, 1024]⟩
abbrev S1x128x1024 : Shape := ⟨3, ![1, 128, 1024]⟩
abbrev S1x1024 : Shape := ⟨2, ![1, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩

abbrev nBuf : Space → Nat
  | .hbm => 22
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S128x3x3x1024, .f32⟩
  | .hbm, ⟨2, _⟩ => ⟨S3x1024, .f32⟩
  | .hbm, ⟨3, _⟩ => ⟨S3x1024, .f32⟩
  | .hbm, ⟨4, _⟩ => ⟨S1024x4096, .f32⟩
  | .hbm, ⟨5, _⟩ => ⟨S2048x1024, .f32⟩
  | .hbm, ⟨6, _⟩ => ⟨S4x128x1024, .f32⟩
  | .hbm, ⟨7, _⟩ => ⟨S512x1024, .f32⟩
  | .hbm, ⟨8, _⟩ => ⟨S128x1x1x1024, .f32⟩
  | .hbm, ⟨9, _⟩ => ⟨S128x1024, .f32⟩
  | .hbm, ⟨10, _⟩ => ⟨S1x128x1024, .f32⟩
  | .hbm, ⟨11, _⟩ => ⟨S128x1x1x1024, .f32⟩
  | .hbm, ⟨12, _⟩ => ⟨S128x1024, .f32⟩
  | .hbm, ⟨13, _⟩ => ⟨S1x128x1024, .f32⟩
  | .hbm, ⟨14, _⟩ => ⟨S128x1x1x1024, .f32⟩
  | .hbm, ⟨15, _⟩ => ⟨S128x1024, .f32⟩
  | .hbm, ⟨16, _⟩ => ⟨S1x128x1024, .f32⟩
  | .hbm, ⟨17, _⟩ => ⟨S1x1024, .f32⟩
  | .hbm, ⟨18, _⟩ => ⟨S1x1024, .f32⟩
  | .hbm, ⟨19, _⟩ => ⟨S1024x4096, .bf16⟩
  | .hbm, ⟨20, _⟩ => ⟨S2048x1024, .bf16⟩
  | .hbm, ⟨21, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S2048x1024, .bf16⟩
  | .local _ .vmem, ⟨12, _⟩ => ⟨S128x1024, .f32⟩
  | .local _ .vmem, ⟨13, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnSRefIdeal.lean ====
abbrev S128x4x1024 : Shape := ⟨3, ![128, 4, 1024]⟩
abbrev S128x3x3x1024 : Shape := ⟨4, ![128, 3, 3, 1024]⟩
abbrev S3x1024 : Shape := ⟨2, ![3, 1024]⟩
abbrev S1024x4096 : Shape := ⟨2, ![1024, 4096]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x1x1x1024 : Shape := ⟨4, ![128, 1, 1, 1024]⟩
abbrev S128x1024 : Shape := ⟨2, ![128, 1024]⟩
abbrev S128x1x1024 : Shape := ⟨3, ![128, 1, 1024]⟩
abbrev S128x4x4096 : Shape := ⟨3, ![128, 4, 4096]⟩
abbrev S128x4x2048 : Shape := ⟨3, ![128, 4, 2048]⟩
abbrev S4x128x1024 : Shape := ⟨3, ![4, 128, 1024]⟩
abbrev S512x1024 : Shape := ⟨2, ![512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x3x3x1024, .f32⟩
  | .hbm, ⟨2, _⟩ => ⟨S3x1024, .f32⟩
  | .hbm, ⟨3, _⟩ => ⟨S3x1024, .f32⟩
  | .hbm, ⟨4, _⟩ => ⟨S1024x4096, .f32⟩
  | .hbm, ⟨5, _⟩ => ⟨S2048x1024, .f32⟩
  | .hbm, ⟨6, _⟩ => ⟨S1x1024, .f32⟩
  | .hbm, ⟨7, _⟩ => ⟨S1024, .f32⟩
  | .hbm, ⟨8, _⟩ => ⟨S128x4x1024, .f32⟩
  | .hbm, ⟨9, _⟩ => ⟨S_, .f32⟩
  | .hbm, ⟨10, _⟩ => ⟨S128x4, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S128x4x1, .f32⟩
  | .hbm, ⟨19, _⟩ => ⟨S128x4x1024, .f32⟩
  | .hbm, ⟨20, _⟩ => ⟨S128x4x1024, .f32⟩
  | .hbm, ⟨21, _⟩ => ⟨S1x1x1024, .f32⟩
  | .hbm, ⟨22, _⟩ => ⟨S128x4x1024, .f32⟩
  | .hbm, ⟨23, _⟩ => ⟨S128x4x1024, .f32⟩
  | .hbm, ⟨24, _⟩ => ⟨S128x1x1x1024, .f32⟩
  | .hbm, ⟨25, _⟩ => ⟨S128x1024, .f32⟩
  | .hbm, ⟨26, _⟩ => ⟨S128x1x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x4x1024, .f32⟩
  | .hbm, ⟨31, _⟩ => ⟨S128x4x1024, .f32⟩
  | .hbm, ⟨32, _⟩ => ⟨S128x1x1x1024, .f32⟩
  | .hbm, ⟨33, _⟩ => ⟨S128x1024, .f32⟩
  | .hbm, ⟨34, _⟩ => ⟨S128x1x1024, .f32⟩
  | .hbm, ⟨35, _⟩ => ⟨S128x4x1024, .f32⟩
  | .hbm, ⟨36, _⟩ => ⟨S128x4x1024, .f32⟩
  | .hbm, ⟨37, _⟩ => ⟨S128x4x4096, .f32⟩
  | .hbm, ⟨38, _⟩ => ⟨S128x4x2048, .f32⟩
  | .hbm, ⟨39, _⟩ => ⟨S128x4x2048, .f32⟩
  | .hbm, ⟨40, _⟩ => ⟨S128x4x2048, .f32⟩
  | .hbm, ⟨41, _⟩ => ⟨S128x4x2048, .f32⟩
  | .hbm, ⟨42, _⟩ => ⟨S_, .f32⟩
  | .hbm, ⟨43, _⟩ => ⟨S128x4x2048, .f32⟩
  | .hbm, ⟨44, _⟩ => ⟨S128x4x2048, .f32⟩
  | .hbm, ⟨45, _⟩ => ⟨S_, .f32⟩
  | .hbm, ⟨46, _⟩ => ⟨S128x4x2048, .f32⟩
  | .hbm, ⟨47, _⟩ => ⟨S128x4x2048, .f32⟩
  | .hbm, ⟨48, _⟩ => ⟨S128x4x2048, .f32⟩
  | .hbm, ⟨49, _⟩ => ⟨S128x4x2048, .f32⟩
  | .hbm, ⟨50, _⟩ => ⟨S128x4x1024, .f32⟩
  | .hbm, ⟨51, _⟩ => ⟨S128x1x1x1024, .f32⟩
  | .hbm, ⟨52, _⟩ => ⟨S128x1024, .f32⟩
  | .hbm, ⟨53, _⟩ => ⟨S128x1x1024, .f32⟩
  | .hbm, ⟨54, _⟩ => ⟨S_, .f32⟩
  | .hbm, ⟨55, _⟩ => ⟨S128x1x1024, .f32⟩
  | .hbm, ⟨56, _⟩ => ⟨S128x1x1024, .f32⟩
  | .hbm, ⟨57, _⟩ => ⟨S1x1024, .f32⟩
  | .hbm, ⟨58, _⟩ => ⟨S1024, .f32⟩
  | .hbm, ⟨59, _⟩ => ⟨S128x4x1024, .f32⟩
  | .hbm, ⟨60, _⟩ => ⟨S_, .f32⟩
  | .hbm, ⟨61, _⟩ => ⟨S128x4, .f32⟩
  | .hbm, ⟨62, _⟩ => ⟨S128x4x1, .f32⟩
  | .hbm, ⟨63, _⟩ => ⟨S_, .f32⟩
  | .hbm, ⟨64, _⟩ => ⟨S128x4x1, .f32⟩
  | .hbm, ⟨65, _⟩ => ⟨S128x4x1, .f32⟩
  | .hbm, ⟨66, _⟩ => ⟨S_, .f32⟩
  | .hbm, ⟨67, _⟩ => ⟨S128x4x1, .f32⟩
  | .hbm, ⟨68, _⟩ => ⟨S128x4x1, .f32⟩
  | .hbm, ⟨69, _⟩ => ⟨S128x4x1, .f32⟩
  | .hbm, ⟨70, _⟩ => ⟨S128x4x1024, .f32⟩
  | .hbm, ⟨71, _⟩ => ⟨S128x4x1024, .f32⟩
  | .hbm, ⟨72, _⟩ => ⟨S1x1x1024, .f32⟩
  | .hbm, ⟨73, _⟩ => ⟨S128x4x1024, .f32⟩
  | .hbm, ⟨74, _⟩ => ⟨S128x4x1024, .f32⟩
  | .hbm, ⟨75, _⟩ => ⟨S128x4x1024, .f32⟩
  | .hbm, ⟨76, _⟩ => ⟨S128x4x1024, .f32⟩
  | .hbm, ⟨77, _⟩ => ⟨S128x4x1024, .f32⟩
  | .hbm, ⟨78, _⟩ => ⟨S4x128x1024, .f32⟩
  | .hbm, ⟨79, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== MixInS.lean ====
abbrev S128x4x1024 : Shape := ⟨3, ![128, 4, 1024]⟩
abbrev S128x3x3x1024 : Shape := ⟨4, ![128, 3, 3, 1024]⟩
abbrev S3x1024 : Shape := ⟨2, ![3, 1024]⟩
abbrev S1024x2628 : Shape := ⟨2, ![1024, 2628]⟩
abbrev S4 : Shape := ⟨1, ![4]⟩
abbrev S_ : Shape := ⟨0, ![]⟩
abbrev S4x128 : Shape := ⟨2, ![4, 128]⟩
abbrev S512 : Shape := ⟨1, ![512]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S4x128x1024 : Shape := ⟨3, ![4, 128, 1024]⟩
abbrev S512x1024 : Shape := ⟨2, ![512, 1024]⟩
abbrev S128x1x1x1024 : Shape := ⟨4, ![128, 1, 1, 1024]⟩
abbrev S1x128x1024 : Shape := ⟨3, ![1, 128, 1024]⟩
abbrev S1x1024 : Shape := ⟨2, ![1, 1024]⟩
abbrev S1024x60 : Shape := ⟨2, ![1024, 60]⟩
abbrev S1024x1092 : Shape := ⟨2, ![1024, 1092]⟩
abbrev S1024x1536 : Shape := ⟨2, ![1024, 1536]⟩
abbrev S1024x2688 : Shape := ⟨2, ![1024, 2688]⟩
abbrev S8x512x128 : Shape := ⟨3, ![8, 512, 128]⟩
abbrev S1x128x512 : Shape := ⟨3, ![1, 128, 512]⟩
abbrev S512x512 : Shape := ⟨2, ![512, 512]⟩
abbrev S128x1024 : Shape := ⟨2, ![128, 1024]⟩
abbrev S128x128 : Shape := ⟨2, ![128, 128]⟩
abbrev S8x128x128 : Shape := ⟨3, ![8, 128, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S1024x128 : Shape := ⟨2, ![1024, 128]⟩
abbrev S1024x256 : Shape := ⟨2, ![1024, 256]⟩
abbrev S128x256 : Shape := ⟨2, ![128, 256]⟩

abbrev nBuf : Space → Nat
  | .hbm => 70
  | .vmem => 32
  | .smem => 0
  | _ => 0

abbrev bufTy : (tb : Table) → Fin (tcTables nBuf tb) → BufTy
  | .hbm, ⟨0, _⟩ => ⟨S128x4x1024, .f32⟩
  | .hbm, ⟨1, _⟩ => ⟨S128x3x3x1024, .f32⟩
  | .hbm, ⟨2, _⟩ => ⟨S3x1024, .f32⟩
  | .hbm, ⟨3, _⟩ => ⟨S1024x2628, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4x128, .i32⟩
  | .hbm, ⟨9, _⟩ => ⟨S512, .i32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S512, .f32⟩
  | .hbm, ⟨22, _⟩ => ⟨S512x1, .f32⟩
  | .hbm, ⟨23, _⟩ => ⟨S1x8, .f32⟩
  | .hbm, ⟨24, _⟩ => ⟨S512x8, .f32⟩
  | .hbm, ⟨25, _⟩ => ⟨S512x8, .f32⟩
  | .hbm, ⟨26, _⟩ => ⟨S512x8, .f32⟩
  | .hbm, ⟨27, _⟩ => ⟨S512x8, .f32⟩
  | .hbm, ⟨28, _⟩ => ⟨S512x8, .f32⟩
  | .hbm, ⟨29, _⟩ => ⟨S_, .f32⟩
  | .hbm, ⟨30, _⟩ => ⟨S512x48, .f32⟩
  | .hbm, ⟨31, _⟩ => ⟨S_, .f32⟩
  | .hbm, ⟨32, _⟩ => ⟨S512x48, .f32⟩
  | .hbm, ⟨33, _⟩ => ⟨S_, .f32⟩
  | .hbm, ⟨34, _⟩ => ⟨S512x8, .f32⟩
  | .hbm, ⟨35, _⟩ => ⟨S512x64, .f32⟩
  | .hbm, ⟨36, _⟩ => ⟨S512x8, .f32⟩
  | .hbm, ⟨37, _⟩ => ⟨S512x64, .f32⟩
  | .hbm, ⟨38, _⟩ => ⟨S512x64, .f32⟩
  | .hbm, ⟨39, _⟩ => ⟨S1x512x1x64, .f32⟩
  | .hbm, ⟨40, _⟩ => ⟨S1x512x2x64, .f32⟩
  | .hbm, ⟨41, _⟩ => ⟨S512x128, .f32⟩
  | .hbm, ⟨42, _⟩ => ⟨S1x512x1x64, .f32⟩
  | .hbm, ⟨43, _⟩ => ⟨S1x512x2x64, .f32⟩
  | .hbm, ⟨44, _⟩ => ⟨S512x128, .f32⟩
  | .hbm, ⟨45, _⟩ => ⟨S1x512x1x64, .f32⟩
  | .hbm, ⟨46, _⟩ => ⟨S1x512x2x64, .f32⟩
  | .hbm, ⟨47, _⟩ => ⟨S512x128, .f32⟩
  | .hbm, ⟨48, _⟩ => ⟨S4x128x1024, .f32⟩
  | .hbm, ⟨49, _⟩ => ⟨S512x1024, .f32⟩
  | .hbm, ⟨50, _⟩ => ⟨S128x1x1x1024, .f32⟩
  | .hbm, ⟨51, _⟩ => ⟨S1x128x1024, .f32⟩
  | .hbm, ⟨52, _⟩ => ⟨S128x1x1x1024, .f32⟩
  | .hbm, ⟨53, _⟩ => ⟨S1x128x1024, .f32⟩
  | .hbm, ⟨54, _⟩ => ⟨S1x1024, .f32⟩
  | .hbm, ⟨55, _⟩ => ⟨S_, .f32⟩
  | .hbm, ⟨56, _⟩ => ⟨S1024x60, .f32⟩
  | .hbm, ⟨57, _⟩ => ⟨S1024x1092, .f32⟩
  | .hbm, ⟨58, _⟩ => ⟨S1024x1536, .f32⟩
  | .hbm, ⟨59, _⟩ => ⟨S1024x2688, .f32⟩
  | .hbm, ⟨60, _⟩ => ⟨S1024x2688, .bf16⟩
  | .hbm, ⟨61, _⟩ => ⟨S8x512x128, .bf16⟩
  | .hbm, ⟨62, _⟩ => ⟨S1x128x512, .f32⟩
  | .hbm, ⟨63, _⟩ => ⟨S1x128x512, .f32⟩
  | .hbm, ⟨64, _⟩ => ⟨S512x128, .bf16⟩
  | .hbm, ⟨65, _⟩ => ⟨S512x512, .bf16⟩
  | .hbm, ⟨66, _⟩ => ⟨S512x128, .f32⟩
  | .hbm, ⟨67, _⟩ => ⟨S1x128x512, .f32⟩
  | .hbm, ⟨68, _⟩ => ⟨S512x512, .f32⟩
  | .hbm, ⟨69, _⟩ => ⟨S512x512, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1024, .f32⟩
  | .local _ .vmem, ⟨7, _⟩ => ⟨S1024x2688, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S8x128x128, .bf16⟩
  | .local _ .vmem, ⟨15, _⟩ => ⟨S8x128x128, .bf16⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S128x128, .bf16⟩
  | .local _ .vmem, ⟨21, _⟩ => ⟨S128x128, .bf16⟩
  | .local _ .vmem, ⟨22, _⟩ => ⟨S128x512, .bf16⟩
  | .local _ .vmem, ⟨23, _⟩ => ⟨S128x512, .bf16⟩
  | .local _ .vmem, ⟨24, _⟩ => ⟨S128x128, .f32⟩
  | .local _ .vmem, ⟨25, _⟩ => ⟨S128x128, .f32⟩
  | .local _ .vmem, ⟨26, _⟩ => ⟨S1x128x128, .f32⟩
  | .local _ .vmem, ⟨27, _⟩ => ⟨S1x128x128, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev main_v49_2 : Ref sig .tc := ⟨.hbm, 63, rfl⟩
abbrev main_v49_3 : Ref sig .tc := ⟨.hbm, 64, rfl⟩
abbrev main_v49_4 : Ref sig .tc := ⟨.hbm, 65, rfl⟩
abbrev main_v49_5 : Ref sig .tc := ⟨.hbm, 66, rfl⟩
abbrev main_v49_6 : Ref sig .tc := ⟨.hbm, 67, rfl⟩
abbrev main_v49_7 : Ref sig .tc := ⟨.hbm, 68, rfl⟩
abbrev main_v49_8 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixInSRefIdeal.lean ====
abbrev S128x4x1024 : Shape := ⟨3, ![128, 4, 1024]⟩
abbrev S128x3x3x1024 : Shape := ⟨4, ![128, 3, 3, 1024]⟩
abbrev S3x1024 : Shape := ⟨2, ![3, 1024]⟩
abbrev S1024x2628 : Shape := ⟨2, ![1024, 2628]⟩
abbrev S1x1024 : Shape := ⟨2, ![1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x1x1x1024 : Shape := ⟨4, ![128, 1, 1, 1024]⟩
abbrev S128x1024 : Shape := ⟨2, ![128, 1024]⟩
abbrev S128x1x1024 : Shape := ⟨3, ![128, 1, 1024]⟩
abbrev S4 : Shape := ⟨1, ![4]⟩
abbrev S128x4x2628 : Shape := ⟨3, ![128, 4, 2628]⟩
abbrev S128x4x512 : Shape := ⟨3, ![128, 4, 512]⟩
abbrev S128x4x128 : Shape := ⟨3, ![128, 4, 128]⟩
abbrev S128x4x256 : Shape := ⟨3, ![128, 4, 256]⟩
abbrev S128x4x64 : Shape := ⟨3, ![128, 4, 64]⟩
abbrev S128x4x4 : Shape := ⟨3, ![128, 4, 4]⟩
abbrev S128x4x8x64 : Shape := ⟨4, ![128, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S1x4x1x8 : Shape := ⟨4, ![1, 4, 1, 8]⟩
abbrev S128x4x8x48 : Shape := ⟨4, ![128, 4, 8, 48]⟩
abbrev S128x4x2x64 : Shape := ⟨4, ![128, 4, 2, 64]⟩
abbrev S128x4x2x8 : Shape := ⟨4, ![128, 4, 2, 8]⟩
abbrev S128x4x2x48 : Shape := ⟨4, ![128, 4, 2, 48]⟩
abbrev S128x4x4x64 : Shape := ⟨4, ![128, 4, 4, 64]⟩
abbrev S128x4x4x8 : Shape := ⟨4, ![128, 4, 4, 8]⟩
abbrev S128x4x4x48 : Shape := ⟨4, ![128, 4, 4, 48]⟩
abbrev S128x4x1x64 : Shape := ⟨4, ![128, 4, 1, 64]⟩
abbrev S128x4x1x8 : Shape := ⟨4, ![128, 4, 1, 8]⟩
abbrev S128x4x1x48 : Shape := ⟨4, ![128, 4, 1, 48]⟩
abbrev S128x4x8x128 : Shape := ⟨4, ![128, 4, 8, 128]⟩
abbrev S4x128x1024 : Shape := ⟨3, ![4, 128, 1024]⟩
abbrev S512x1024 : Shape := ⟨2, ![512, 1024]⟩
abbrev S512x8x128 : Shape := ⟨3, ![512, 8, 128]⟩
abbrev S8x512x128 : Shape := ⟨3, ![8, 512, 128]⟩
abbrev S128x4x2x1x64 : Shape := ⟨5, ![128, 4, 2, 1, 64]⟩
abbrev S128x4x2x2x64 : Shape := ⟨5, ![128, 4, 2, 2, 64]⟩
abbrev S128x4x2x4x64 : Shape := ⟨5, ![128, 4, 2, 4, 64]⟩
abbrev S128x4x60 : Shape := ⟨3, ![128, 4, 60]⟩
abbrev S4x128x128 : Shape := ⟨3, ![4, 128, 128]⟩
abbrev S512x128 : Shape := ⟨2, ![512, 128]⟩
abbrev S128x512 : Shape := ⟨2, ![128, 512]⟩
abbrev S1x128x512 : Shape := ⟨3, ![1, 128, 512]⟩
abbrev S4x128x512 : Shape := ⟨3, ![4, 128, 512]⟩
abbrev S512x512 : Shape := ⟨2, ![512, 512]⟩

abbrev nBuf : Space → Nat
  | .hbm => 268
  | .vmem => 0
  | .smem => 0
  | _ => 0

abbrev hbmTy0_0 (i : Nat) : BufTy := match i % 128 with
  | 0 => ⟨S128x4x1024, .f32⟩
  | 1 => ⟨S128x3x3x1024, .f32⟩
  | 2 => ⟨S3x1024, .f32⟩
  | 3 => ⟨S1024x2628, .f32⟩
  | 4 => ⟨S1x1024, .f32⟩
  | 5 => ⟨S1024, .f32⟩
  | 6 => ⟨S128x4x1024, .f32⟩
  | 7 => ⟨S_, .f32⟩
  | 8 => ⟨S128x4, .f32⟩
  | 9 => ⟨S128x4x1, .f32⟩
  | 10 => ⟨S_, .f32⟩
  | 11 => ⟨S128x4x1, .f32⟩
  | 12 => ⟨S128x4x1, .f32⟩
  | 13 => ⟨S_, .f32⟩
  | 14 => ⟨S128x4x1, .f32⟩
  | 15 => ⟨S128x4x1, .f32⟩
  | 16 => ⟨S128x4x1, .f32⟩
  | 17 => ⟨S128x4x1024, .f32⟩
  | 18 => ⟨S128x4x1024, .f32⟩
  | 19 => ⟨S1x1x1024, .f32⟩
  | 20 => ⟨S128x4x1024, .f32⟩
  | 21 => ⟨S128x4x1024, .f32⟩
  | 22 => ⟨S128x1x1x1024, .f32⟩
  | 23 => ⟨S128x1024, .f32⟩
  | 24 => ⟨S128x1x1024, .f32⟩
  | 25 => ⟨S_, .f32⟩
  | 26 => ⟨S128x1x1024, .f32⟩
  | 27 => ⟨S128x1x1024, .f32⟩
  | 28 => ⟨S128x4x1024, .f32⟩
  | 29 => ⟨S128x4x1024, .f32⟩
  | 30 => ⟨S128x1x1x1024, .f32⟩
  | 31 => ⟨S128x1024, .f32⟩
  | 32 => ⟨S128x1x1024, .f32⟩
  | 33 => ⟨S128x4x1024, .f32⟩
  | 34 => ⟨S128x4x1024, .f32⟩
  | 35 => ⟨S4, .i32⟩
  | 36 => ⟨S_, .i32⟩
  | 37 => ⟨S4, .i32⟩
  | 38 => ⟨S4, .i32⟩
  | 39 => ⟨S128x4x2628, .f32⟩
  | 40 => ⟨S128x4x512, .f32⟩
  | 41 => ⟨S128x4x128, .f32⟩
  | 42 => ⟨S128x4x128, .f32⟩
  | 43 => ⟨S128x4x256, .f32⟩
  | 44 => ⟨S128x4x64, .f32⟩
  | 45 => ⟨S128x4x4, .f32⟩
  | 46 => ⟨S128x4x512, .f32⟩
  | 47 => ⟨S128x4x512, .f32⟩
  | 48 => ⟨S128x4x512, .f32⟩
  | 49 => ⟨S128x4x8x64, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S4, .f32⟩
  | 62 => ⟨S4x1, .f32⟩
  | 63 => ⟨S1x8, .f32⟩
  | 64 => ⟨S4x8, .f32⟩
  | 65 => ⟨S4x8, .f32⟩
  | 66 => ⟨S4x8, .f32⟩
  | 67 => ⟨S4x8, .f32⟩
  | 68 => ⟨S4x1x8, .f32⟩
  | 69 => ⟨S4x8, .f32⟩
  | 70 => ⟨S4x1x8, .f32⟩
  | 71 => ⟨S128x4x8x8, .f32⟩
  | 72 => ⟨S128x4x8x8, .f32⟩
  | 73 => ⟨S1x4x1x8, .f32⟩
  | 74 => ⟨S128x4x8x8, .f32⟩
  | 75 => ⟨S128x4x8x8, .f32⟩
  | 76 => ⟨S1x4x1x8, .f32⟩
  | 77 => ⟨S128x4x8x8, .f32⟩
  | 78 => ⟨S128x4x8x8, .f32⟩
  | 79 => ⟨S128x4x8x8, .f32⟩
  | 80 => ⟨S1x4x1x8, .f32⟩
  | 81 => ⟨S128x4x8x8, .f32⟩
  | 82 => ⟨S128x4x8x8, .f32⟩
  | 83 => ⟨S1x4x1x8, .f32⟩
  | 84 => ⟨S128x4x8x8, .f32⟩
  | 85 => ⟨S128x4x8x8, .f32⟩
  | 86 => ⟨S128x4x8x8, .f32⟩
  | 87 => ⟨S128x4x8x48, .f32⟩
  | 88 => ⟨S128x4x8x64, .f32⟩
  | 89 => ⟨S128x4x2x64, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S4, .f32⟩
  | 102 => ⟨S4x1, .f32⟩
  | 103 => ⟨S1x8, .f32⟩
  | 104 => ⟨S4x8, .f32⟩
  | 105 => ⟨S4x8, .f32⟩
  | 106 => ⟨S4x8, .f32⟩
  | 107 => ⟨S4x8, .f32⟩
  | 108 => ⟨S4x1x8, .f32⟩
  | 109 => ⟨S4x8, .f32⟩
  | 110 => ⟨S4x1x8, .f32⟩
  | 111 => ⟨S128x4x2x8, .f32⟩
  | 112 => ⟨S128x4x2x8, .f32⟩
  | 113 => ⟨S1x4x1x8, .f32⟩
  | 114 => ⟨S128x4x2x8, .f32⟩
  | 115 => ⟨S128x4x2x8, .f32⟩
  | 116 => ⟨S1x4x1x8, .f32⟩
  | 117 => ⟨S128x4x2x8, .f32⟩
  | 118 => ⟨S128x4x2x8, .f32⟩
  | 119 => ⟨S128x4x2x8, .f32⟩
  | 120 => ⟨S1x4x1x8, .f32⟩
  | 121 => ⟨S128x4x2x8, .f32⟩
  | 122 => ⟨S128x4x2x8, .f32⟩
  | 123 => ⟨S1x4x1x8, .f32⟩
  | 124 => ⟨S128x4x2x8, .f32⟩
  | 125 => ⟨S128x4x2x8, .f32⟩
  | 126 => ⟨S128x4x2x8, .f32⟩
  | 127 => ⟨S128x4x2x48, .f32⟩
  | _ => ⟨S128x4x1024, .f32⟩

abbrev hbmTy0_1 (i : Nat) : BufTy := match i % 128 with
  | 0 => ⟨S128x4x2x64, .f32⟩
  | 1 => ⟨S128x4x2x64, .f32⟩
  | 2 => ⟨S128x4x4x64, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S4, .f32⟩
  | 15 => ⟨S4x1, .f32⟩
  | 16 => ⟨S1x8, .f32⟩
  | 17 => ⟨S4x8, .f32⟩
  | 18 => ⟨S4x8, .f32⟩
  | 19 => ⟨S4x8, .f32⟩
  | 20 => ⟨S4x8, .f32⟩
  | 21 => ⟨S4x1x8, .f32⟩
  | 22 => ⟨S4x8, .f32⟩
  | 23 => ⟨S4x1x8, .f32⟩
  | 24 => ⟨S128x4x4x8, .f32⟩
  | 25 => ⟨S128x4x4x8, .f32⟩
  | 26 => ⟨S1x4x1x8, .f32⟩
  | 27 => ⟨S128x4x4x8, .f32⟩
  | 28 => ⟨S128x4x4x8, .f32⟩
  | 29 => ⟨S1x4x1x8, .f32⟩
  | 30 => ⟨S128x4x4x8, .f32⟩
  | 31 => ⟨S128x4x4x8, .f32⟩
  | 32 => ⟨S128x4x4x8, .f32⟩
  | 33 => ⟨S1x4x1x8, .f32⟩
  | 34 => ⟨S128x4x4x8, .f32⟩
  | 35 => ⟨S128x4x4x8, .f32⟩
  | 36 => ⟨S1x4x1x8, .f32⟩
  | 37 => ⟨S128x4x4x8, .f32⟩
  | 38 => ⟨S128x4x4x8, .f32⟩
  | 39 => ⟨S128x4x4x8, .f32⟩
  | 40 => ⟨S128x4x4x48, .f32⟩
  | 41 => ⟨S128x4x4x64, .f32⟩
  | 42 => ⟨S128x4x1x64, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S4, .f32⟩
  | 55 => ⟨S4x1, .f32⟩
  | 56 => ⟨S1x8, .f32⟩
  | 57 => ⟨S4x8, .f32⟩
  | 58 => ⟨S4x8, .f32⟩
  | 59 => ⟨S4x8, .f32⟩
  | 60 => ⟨S4x8, .f32⟩
  | 61 => ⟨S4x1x8, .f32⟩
  | 62 => ⟨S4x8, .f32⟩
  | 63 => ⟨S4x1x8, .f32⟩
  | 64 => ⟨S128x4x1x8, .f32⟩
  | 65 => ⟨S128x4x1x8, .f32⟩
  | 66 => ⟨S1x4x1x8, .f32⟩
  | 67 => ⟨S128x4x1x8, .f32⟩
  | 68 => ⟨S128x4x1x8, .f32⟩
  | 69 => ⟨S1x4x1x8, .f32⟩
  | 70 => ⟨S128x4x1x8, .f32⟩
  | 71 => ⟨S128x4x1x8, .f32⟩
  | 72 => ⟨S128x4x1x8, .f32⟩
  | 73 => ⟨S1x4x1x8, .f32⟩
  | 74 => ⟨S128x4x1x8, .f32⟩
  | 75 => ⟨S128x4x1x8, .f32⟩
  | 76 => ⟨S1x4x1x8, .f32⟩
  | 77 => ⟨S128x4x1x8, .f32⟩
  | 78 => ⟨S128x4x1x8, .f32⟩
  | 79 => ⟨S128x4x1x8, .f32⟩
  | 80 => ⟨S128x4x1x48, .f32⟩
  | 81 => ⟨S128x4x1x64, .f32⟩
  | 82 => ⟨S128x4x64, .f32⟩
  | 83 => ⟨S_, .f32⟩
  | 84 => ⟨S128x4x4, .f32⟩
  | 85 => ⟨S128x4x4, .f32⟩
  | 86 => ⟨S128x4x512, .f32⟩
  | 87 => ⟨S_, .f32⟩
  | 88 => ⟨S128x4x4x64, .f32⟩
  | 89 => ⟨S_, .f32⟩
  | 90 => ⟨S128x4x8x64, .f32⟩
  | 91 => ⟨S128x4x8x64, .f32⟩
  | 92 => ⟨S128x4x4x64, .f32⟩
  | 93 => ⟨S128x4x8x64, .f32⟩
  | 94 => ⟨S128x4x4x64, .f32⟩
  | 95 => ⟨S128x4x8x64, .f32⟩
  | 96 => ⟨S128x4x8x128, .f32⟩
  | 97 => ⟨S128x4x1024, .f32⟩
  | 98 => ⟨S4x128x1024, .f32⟩
  | 99 => ⟨S512x1024, .f32⟩
  | 100 => ⟨S512x8x128, .f32⟩
  | 101 => ⟨S8x512x128, .f32⟩
  | 102 => ⟨S_, .f32⟩
  | 103 => ⟨S128x4x2x1x64, .f32⟩
  | 104 => ⟨S128x4x2x2x64, .f32⟩
  | 105 => ⟨S128x4x2x1x64, .f32⟩
  | 106 => ⟨S128x4x2x1x64, .f32⟩
  | 107 => ⟨S128x4x2x4x64, .f32⟩
  | 108 => ⟨S_, .f32⟩
  | 109 => ⟨S128x4x60, .f32⟩
  | 110 => ⟨S128x4x128, .f32⟩
  | 111 => ⟨S8x512x128, .bf16⟩
  | 112 => ⟨S128x4x128, .f32⟩
  | 113 => ⟨S4x128x128, .f32⟩
  | 114 => ⟨S512x128, .f32⟩
  | 115 => ⟨S128x512, .f32⟩
  | 116 => ⟨S1x128x512, .f32⟩
  | 117 => ⟨S128x4x128, .f32⟩
  | 118 => ⟨S4x128x128, .f32⟩
  | 119 => ⟨S512x128, .f32⟩
  | 120 => ⟨S128x512, .f32⟩
  | 121 => ⟨S1x128x512, .f32⟩
  | 122 => ⟨S128x4x128, .f32⟩
  | 123 => ⟨S4x128x128, .f32⟩
  | 124 => ⟨S512x128, .f32⟩
  | 125 => ⟨S512x128, .bf16⟩
  | 126 => ⟨S128x4x512, .f32⟩
  | 127 => ⟨S4x128x512, .f32⟩
  | _ => ⟨S128x4x1024, .f32⟩

abbrev hbmTy0_2 (i : Nat) : BufTy := match i % 128 with
  | 0 => ⟨S512x512, .f32⟩
  | 1 => ⟨S512x512, .bf16⟩
  | 2 => ⟨S4x128x128, .f32⟩
  | 3 => ⟨S512x128, .f32⟩
  | 4 => ⟨S4x128x128, .f32⟩
  | 5 => ⟨S512x128, .f32⟩
  | 6 => ⟨S128x512, .f32⟩
  | 7 => ⟨S1x128x512, .f32⟩
  | 8 => ⟨S4x128x512, .f32⟩
  | 9 => ⟨S512x512, .f32⟩
  | 10 => ⟨S4x128x512, .f32⟩
  | 11 => ⟨S512x512, .f32⟩
  | _ => ⟨S128x4x1024, .f32⟩

abbrev hbmTy (i : Nat) : BufTy := match i / 128 with
  | 0 => hbmTy0_0 i
  | 1 => hbmTy0_1 i
  | 2 => hbmTy0_2 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_6 : Ref sig .tc := ⟨.hbm, 92, rfl⟩
abbrev main_v80 : Ref sig .tc := ⟨.hbm, 93, rfl⟩
abbrev main_v81 : Ref sig .tc := ⟨.hbm, 94, rfl⟩
abbrev main_cst_7 : Ref sig .tc := ⟨.hbm, 95, rfl⟩
abbrev main_v82 : Ref sig .tc := ⟨.hbm, 96, rfl⟩
abbrev main_v83 : Ref sig .tc := ⟨.hbm, 97, rfl⟩
abbrev main_cst_8 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_cst_9 : Ref sig .tc := ⟨.hbm, 133, rfl⟩
abbrev main_v118 : Ref sig .tc := ⟨.hbm, 134, rfl⟩
abbrev main_v119 : Ref sig .tc := ⟨.hbm, 135, rfl⟩
abbrev main_cst_10 : Ref sig .tc := ⟨.hbm, 136, rfl⟩
abbrev main_v120 : Ref sig .tc := ⟨.hbm, 137, rfl⟩
abbrev main_v121 : Ref sig .tc := ⟨.hbm, 138, rfl⟩
abbrev main_cst_11 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_cst_12 : Ref sig .tc := ⟨.hbm, 173, rfl⟩
abbrev main_v155 : Ref sig .tc := ⟨.hbm, 174, rfl⟩
abbrev main_v156 : Ref sig .tc := ⟨.hbm, 175, rfl⟩
abbrev main_cst_13 : Ref sig .tc := ⟨.hbm, 176, rfl⟩
abbrev main_v157 : Ref sig .tc := ⟨.hbm, 177, rfl⟩
abbrev main_v158 : Ref sig .tc := ⟨.hbm, 178, rfl⟩
abbrev main_cst_14 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_cst_15 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_cst_16 : Ref sig .tc := ⟨.hbm, 215, rfl⟩
abbrev main_v193 : Ref sig .tc := ⟨.hbm, 216, rfl⟩
abbrev main_cst_17 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_cst_18 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_cst_19 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩

abbrev nD : Nat := 1
abbrev τ : Topo := Topo.v7x

variable {F : FTy → Type} [FloatOps F]
-- ==== MixOutS.lean ====
abbrev S128x4x1024 : Shape := ⟨3, ![128, 4, 1024]⟩
abbrev S128x4x512 : Shape := ⟨3, ![128, 4, 512]⟩
abbrev S128x2x512 : Shape := ⟨3, ![128, 2, 512]⟩
abbrev S128x3x3x1024 : Shape := ⟨4, ![128, 3, 3, 1024]⟩
abbrev S3x1024 : Shape := ⟨2, ![3, 1024]⟩
abbrev S3x512 : Shape := ⟨2, ![3, 512]⟩
abbrev S1024x1024 : Shape := ⟨2, ![1024, 1024]⟩
abbrev S2x128x512 : Shape := ⟨3, ![2, 128, 512]⟩
abbrev S256x512 : Shape := ⟨2, ![256, 512]⟩
abbrev S4x128x512 : Shape := ⟨3, ![4, 128, 512]⟩
abbrev S512x512 : Shape := ⟨2, ![512, 512]⟩
abbrev S768x512 : Shape := ⟨2, ![768, 512]⟩
abbrev S4x128x1024 : Shape := ⟨3, ![4, 128, 1024]⟩
abbrev S512x1024 : Shape := ⟨2, ![512, 1024]⟩
abbrev S128x1x1x1024 : Shape := ⟨4, ![128, 1, 1, 1024]⟩
abbrev S128x1024 : Shape := ⟨2, ![128, 1024]⟩
abbrev S1x128x1024 : Shape := ⟨3, ![1, 128, 1024]⟩
abbrev S1x1024 : Shape := ⟨2, ![1, 1024]⟩
abbrev S128x512 : Shape := ⟨2, ![128, 512]⟩
abbrev S1x512 : Shape := ⟨2, ![1, 512]⟩
abbrev S128 : Shape := ⟨1, ![128]⟩
abbrev S128x1 : Shape := ⟨2, ![128, 1]⟩

abbrev nBuf : Space → Nat
  | .hbm => 26
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .f32⟩
  | .hbm, ⟨2, _⟩ => ⟨S128x4x512, .f32⟩
  | .hbm, ⟨3, _⟩ => ⟨S128x4x512, .f32⟩
  | .hbm, ⟨4, _⟩ => ⟨S128x2x512, .f32⟩
  | .hbm, ⟨5, _⟩ => ⟨S128x3x3x1024, .f32⟩
  | .hbm, ⟨6, _⟩ => ⟨S3x1024, .f32⟩
  | .hbm, ⟨7, _⟩ => ⟨S3x512, .f32⟩
  | .hbm, ⟨8, _⟩ => ⟨S1024x1024, .f32⟩
  | .hbm, ⟨9, _⟩ => ⟨S2x128x512, .f32⟩
  | .hbm, ⟨10, _⟩ => ⟨S256x512, .f32⟩
  | .hbm, ⟨11, _⟩ => ⟨S4x128x512, .f32⟩
  | .hbm, ⟨12, _⟩ => ⟨S512x512, .f32⟩
  | .hbm, ⟨13, _⟩ => ⟨S768x512, .f32⟩
  | .hbm, ⟨14, _⟩ => ⟨S4x128x1024, .f32⟩
  | .hbm, ⟨15, _⟩ => ⟨S512x1024, .f32⟩
  | .hbm, ⟨16, _⟩ => ⟨S4x128x512, .f32⟩
  | .hbm, ⟨17, _⟩ => ⟨S512x512, .f32⟩
  | .hbm, ⟨18, _⟩ => ⟨S4x128x512, .f32⟩
  | .hbm, ⟨19, _⟩ => ⟨S512x512, .f32⟩
  | .hbm, ⟨20, _⟩ => ⟨S128x1x1x1024, .f32⟩
  | .hbm, ⟨21, _⟩ => ⟨S128x1024, .f32⟩
  | .hbm, ⟨22, _⟩ => ⟨S1x128x1024, .f32⟩
  | .hbm, ⟨23, _⟩ => ⟨S1x1024, .f32⟩
  | .hbm, ⟨24, _⟩ => ⟨S1024x1024, .bf16⟩
  | .hbm, ⟨25, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S1x128x1024, .f32⟩
  | .local _ .vmem, ⟨13, _⟩ => ⟨S1x1024, .f32⟩
  | .local _ .vmem, ⟨14, _⟩ => ⟨S3x512, .f32⟩
  | .local _ .vmem, ⟨15, _⟩ => ⟨S1024x1024, .bf16⟩
  | .local _ .vmem, ⟨16, _⟩ => ⟨S128x1024, .f32⟩
  | .local _ .vmem, ⟨17, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutSRefIdeal.lean ====
abbrev S128x4x1024 : Shape := ⟨3, ![128, 4, 1024]⟩
abbrev S128x4x512 : Shape := ⟨3, ![128, 4, 512]⟩
abbrev S128x2x512 : Shape := ⟨3, ![128, 2, 512]⟩
abbrev S128x3x3x1024 : Shape := ⟨4, ![128, 3, 3, 1024]⟩
abbrev S3x1024 : Shape := ⟨2, ![3, 1024]⟩
abbrev S3x512 : Shape := ⟨2, ![3, 512]⟩
abbrev S1024x1024 : Shape := ⟨2, ![1024, 1024]⟩
abbrev S128x6x512 : Shape := ⟨3, ![128, 6, 512]⟩
abbrev S1x512 : Shape := ⟨2, ![1, 512]⟩
abbrev S512 : Shape := ⟨1, ![512]⟩
abbrev S1x1x512 : Shape := ⟨3, ![1, 1, 512]⟩
abbrev S128x1x1x1024 : Shape := ⟨4, ![128, 1, 1, 1024]⟩
abbrev S128x1024 : Shape := ⟨2, ![128, 1024]⟩
abbrev S128x1x1024 : Shape := ⟨3, ![128, 1, 1024]⟩
abbrev S_ : Shape := ⟨0, ![]⟩
abbrev S1x1024 : Shape := ⟨2, ![1, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S4x128x1024 : Shape := ⟨3, ![4, 128, 1024]⟩
abbrev S512x1024 : Shape := ⟨2, ![512, 1024]⟩

abbrev nBuf : Space → Nat
  | .hbm => 62
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x512, .f32⟩
  | .hbm, ⟨2, _⟩ => ⟨S128x4x512, .f32⟩
  | .hbm, ⟨3, _⟩ => ⟨S128x4x512, .f32⟩
  | .hbm, ⟨4, _⟩ => ⟨S128x2x512, .f32⟩
  | .hbm, ⟨5, _⟩ => ⟨S128x3x3x1024, .f32⟩
  | .hbm, ⟨6, _⟩ => ⟨S3x1024, .f32⟩
  | .hbm, ⟨7, _⟩ => ⟨S3x512, .f32⟩
  | .hbm, ⟨8, _⟩ => ⟨S1024x1024, .f32⟩
  | .hbm, ⟨9, _⟩ => ⟨S128x6x512, .f32⟩
  | .hbm, ⟨10, _⟩ => ⟨S1x512, .f32⟩
  | .hbm, ⟨11, _⟩ => ⟨S512, .f32⟩
  | .hbm, ⟨12, _⟩ => ⟨S128x4x512, .f32⟩
  | .hbm, ⟨13, _⟩ => ⟨S1x1x512, .f32⟩
  | .hbm, ⟨14, _⟩ => ⟨S128x4x512, .f32⟩
  | .hbm, ⟨15, _⟩ => ⟨S128x4x512, .f32⟩
  | .hbm, ⟨16, _⟩ => ⟨S1x512, .f32⟩
  | .hbm, ⟨17, _⟩ => ⟨S512, .f32⟩
  | .hbm, ⟨18, _⟩ => ⟨S128x4x512, .f32⟩
  | .hbm, ⟨19, _⟩ => ⟨S1x1x512, .f32⟩
  | .hbm, ⟨20, _⟩ => ⟨S128x4x512, .f32⟩
  | .hbm, ⟨21, _⟩ => ⟨S128x4x512, .f32⟩
  | .hbm, ⟨22, _⟩ => ⟨S128x4x512, .f32⟩
  | .hbm, ⟨23, _⟩ => ⟨S1x512, .f32⟩
  | .hbm, ⟨24, _⟩ => ⟨S512, .f32⟩
  | .hbm, ⟨25, _⟩ => ⟨S128x4x512, .f32⟩
  | .hbm, ⟨26, _⟩ => ⟨S1x1x512, .f32⟩
  | .hbm, ⟨27, _⟩ => ⟨S128x4x512, .f32⟩
  | .hbm, ⟨28, _⟩ => ⟨S128x4x512, .f32⟩
  | .hbm, ⟨29, _⟩ => ⟨S128x4x512, .f32⟩
  | .hbm, ⟨30, _⟩ => ⟨S128x4x512, .f32⟩
  | .hbm, ⟨31, _⟩ => ⟨S128x4x1024, .f32⟩
  | .hbm, ⟨32, _⟩ => ⟨S128x4x1024, .f32⟩
  | .hbm, ⟨33, _⟩ => ⟨S128x1x1x1024, .f32⟩
  | .hbm, ⟨34, _⟩ => ⟨S128x1024, .f32⟩
  | .hbm, ⟨35, _⟩ => ⟨S128x1x1024, .f32⟩
  | .hbm, ⟨36, _⟩ => ⟨S_, .f32⟩
  | .hbm, ⟨37, _⟩ => ⟨S128x1x1024, .f32⟩
  | .hbm, ⟨38, _⟩ => ⟨S128x1x1024, .f32⟩
  | .hbm, ⟨39, _⟩ => ⟨S1x1024, .f32⟩
  | .hbm, ⟨40, _⟩ => ⟨S1024, .f32⟩
  | .hbm, ⟨41, _⟩ => ⟨S128x4x1024, .f32⟩
  | .hbm, ⟨42, _⟩ => ⟨S_, .f32⟩
  | .hbm, ⟨43, _⟩ => ⟨S128x4, .f32⟩
  | .hbm, ⟨44, _⟩ => ⟨S128x4x1, .f32⟩
  | .hbm, ⟨45, _⟩ => ⟨S_, .f32⟩
  | .hbm, ⟨46, _⟩ => ⟨S128x4x1, .f32⟩
  | .hbm, ⟨47, _⟩ => ⟨S128x4x1, .f32⟩
  | .hbm, ⟨48, _⟩ => ⟨S_, .f32⟩
  | .hbm, ⟨49, _⟩ => ⟨S128x4x1, .f32⟩
  | .hbm, ⟨50, _⟩ => ⟨S128x4x1, .f32⟩
  | .hbm, ⟨51, _⟩ => ⟨S128x4x1, .f32⟩
  | .hbm, ⟨52, _⟩ => ⟨S128x4x1024, .f32⟩
  | .hbm, ⟨53, _⟩ => ⟨S128x4x1024, .f32⟩
  | .hbm, ⟨54, _⟩ => ⟨S1x1x1024, .f32⟩
  | .hbm, ⟨55, _⟩ => ⟨S128x4x1024, .f32⟩
  | .hbm, ⟨56, _⟩ => ⟨S128x4x1024, .f32⟩
  | .hbm, ⟨57, _⟩ => ⟨S128x4x1024, .f32⟩
  | .hbm, ⟨58, _⟩ => ⟨S128x4x1024, .f32⟩
  | .hbm, ⟨59, _⟩ => ⟨S128x4x1024, .f32⟩
  | .hbm, ⟨60, _⟩ => ⟨S4x128x1024, .f32⟩
  | .hbm, ⟨61, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Ada.lean ====
abbrev S136x1024 : Shape := ⟨2, ![136, 1024]⟩
abbrev S1024x9216 : Shape := ⟨2, ![1024, 9216]⟩
abbrev S9216 : Shape := ⟨1, ![9216]⟩
abbrev S1x9216 : Shape := ⟨2, ![1, 9216]⟩
abbrev S136x9216 : Shape := ⟨2, ![136, 9216]⟩
abbrev S1024x1152 : Shape := ⟨2, ![1024, 1152]⟩
abbrev S1x1152 : Shape := ⟨2, ![1, 1152]⟩
abbrev S136x1152 : Shape := ⟨2, ![136, 1152]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S136x9216, .f32⟩
  | .local _ .vmem, ⟨0, _⟩ => ⟨S136x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S136x1152, .f32⟩
  | .local _ .vmem, ⟨6, _⟩ => ⟨S136x1152, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S136x1024 : Shape := ⟨2, ![136, 1024]⟩
abbrev S1024x9216 : Shape := ⟨2, ![1024, 9216]⟩
abbrev S9216 : Shape := ⟨1, ![9216]⟩
abbrev S_ : Shape := ⟨0, ![]⟩
abbrev S136x9216 : Shape := ⟨2, ![136, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S1024x9216, .f32⟩
  | .hbm, ⟨2, _⟩ => ⟨S9216, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S136x9216, .f32⟩
  | .hbm, ⟨13, _⟩ => ⟨S1x9216, .f32⟩
  | .hbm, ⟨14, _⟩ => ⟨S136x9216, .f32⟩
  | .hbm, ⟨15, _⟩ => ⟨S136x9216, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Attn.lean ====
abbrev S8x32768x128 : Shape := ⟨3, ![8, 32768, 128]⟩
abbrev S2x16384x512 : Shape := ⟨3, ![2, 16384, 512]⟩
abbrev S2x16384x128 : Shape := ⟨3, ![2, 16384, 128]⟩
abbrev S2x64x128x256 : Shape := ⟨4, ![2, 64, 128, 256]⟩
abbrev S8x256x128 : Shape := ⟨3, ![8, 256, 128]⟩
abbrev S1x256x512 : Shape := ⟨3, ![1, 256, 512]⟩
abbrev S1x256x128 : Shape := ⟨3, ![1, 256, 128]⟩
abbrev S1x64x128x256 : Shape := ⟨4, ![1, 64, 128, 256]⟩
abbrev S1x16384x128 : Shape := ⟨3, ![1, 16384, 128]⟩
abbrev S64x256x256 : Shape := ⟨3, ![64, 256, 256]⟩
abbrev S64x128x128 : Shape := ⟨3, ![64, 128, 128]⟩
abbrev S4x256x128 : Shape := ⟨3, ![4, 256, 128]⟩
abbrev S256x128 : Shape := ⟨2, ![256, 128]⟩
abbrev S256x1 : Shape := ⟨2, ![256, 1]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S128x128 : Shape := ⟨2, ![128, 128]⟩
abbrev S1x128x128 : Shape := ⟨3, ![1, 128, 128]⟩
abbrev S256 : Shape := ⟨1, ![256]⟩
abbrev S1 : Shape := ⟨1, ![1]⟩
abbrev S1x1x1 : Shape := ⟨3, ![1, 1, 1]⟩
abbrev S1x128x256 : Shape := ⟨3, ![1, 128, 256]⟩
abbrev S128 : Shape := ⟨1, ![128]⟩
abbrev S128x1 : Shape := ⟨2, ![128, 1]⟩
abbrev S256x64 : Shape := ⟨2, ![256, 64]⟩
abbrev S1x256x64 : Shape := ⟨3, ![1, 256, 64]⟩

abbrev nBuf : Space → Nat
  | .hbm => 7
  | .vmem => 19
  | .smem => 0
  | _ => 0

abbrev bufTy : (tb : Table) → Fin (tcTables nBuf tb) → BufTy
  | .hbm, ⟨0, _⟩ => ⟨S8x32768x128, .bf16⟩
  | .hbm, ⟨1, _⟩ => ⟨S2x16384x512, .bf16⟩
  | .hbm, ⟨2, _⟩ => ⟨S2x16384x128, .f32⟩
  | .hbm, ⟨3, _⟩ => ⟨S2x64x128x256, .bf16⟩
  | .hbm, ⟨4, _⟩ => ⟨S2x16384x128, .bf16⟩
  | .hbm, ⟨5, _⟩ => ⟨S2x64x128x256, .bf16⟩
  | .hbm, ⟨6, _⟩ => ⟨S2x16384x512, .f32⟩
  | .local _ .vmem, ⟨0, _⟩ => ⟨S8x256x128, .bf16⟩
  | .local _ .vmem, ⟨1, _⟩ => ⟨S8x256x128, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .f32⟩
  | .local _ .vmem, ⟨5, _⟩ => ⟨S1x256x128, .f32⟩
  | .local _ .vmem, ⟨6, _⟩ => ⟨S1x64x128x256, .bf16⟩
  | .local _ .vmem, ⟨7, _⟩ => ⟨S1x16384x128, .bf16⟩
  | .local _ .vmem, ⟨8, _⟩ => ⟨S1x64x128x256, .bf16⟩
  | .local _ .vmem, ⟨9, _⟩ => ⟨S1x256x512, .f32⟩
  | .local _ .vmem, ⟨10, _⟩ => ⟨S1x256x512, .f32⟩
  | .local _ .vmem, ⟨11, _⟩ => ⟨S64x256x256, .f32⟩
  | .local _ .vmem, ⟨12, _⟩ => ⟨S64x128x128, .f32⟩
  | .local _ .vmem, ⟨13, _⟩ => ⟨S4x256x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .vmem, ⟨17, _⟩ => ⟨S256x128, .f32⟩
  | .local _ .vmem, ⟨18, _⟩ => ⟨S256x128, .i32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 64], ![false, false]⟩

@[reducible] def k0_t1_loop (i : grid0.Coords) : Scf.Loop 32 :=
  let c0_i32_17 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v28 : BitVec 1 := Scalar.cmpi .sgt v0 c0_i32
  let v29 : BitVec 32 := Scalar.extui v28
  let c0_i32_11 : BitVec 32 := 0#32
  let v30 : BitVec 1 := Scalar.cmpi .slt v0 c0_i32_11
  let v31 : BitVec 32 := Scalar.extui v30
  let v32 : BitVec 32 := Scalar.subi v29 v31
  let c4_i32 : BitVec 32 := 4#32
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v0 c4_i32
  let c0_i32_14 : BitVec 32 := 0#32
  let v40 : BitVec 1 := Scalar.cmpi .ne v39 c0_i32_14
  let v41 : BitVec 1 := Scalar.andi v38 v40
  let v27 : BitVec 32 := Scalar.divsi v0 c4_i32
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_19 : BitVec 32 := 1#32
  ⟨c0_i32_17, v48, c1_i32_19⟩
def k0_off1 (i : grid0.Coords) (k0_t1 : Fin (k0_t1_loop i).trips) (c0_i32_166 : BitVec 32) : Fin 4 → Nat :=
  let c0_167 : Index := 0#32
  let c4_i32_165 : BitVec 32 := 4#32
  let c0_i32_17 : BitVec 32 := 0#32
  let c1_i32_19 : BitVec 32 := 1#32
  let arg17 : BitVec 32 := Scf.iv c0_i32_17 c1_i32_19 k0_t1
  let v280 : BitVec 32 := Scalar.muli c4_i32_165 arg17
  let v281 : BitVec 32 := Scalar.addi v280 c0_i32_166
  let v282 : Index := Scalar.indexCast v281
  let c0_168 : Index := 0#32
  let c0_169 : Index := 0#32
  ![0, v282.toNat, 0, 0]
def k0_off2 (i : grid0.Coords) (k0_t1 : Fin (k0_t1_loop i).trips) (c0_i32_166 : BitVec 32) : Fin 3 → Nat :=
  let c4_i32_165 : BitVec 32 := 4#32
  let c0_i32_17 : BitVec 32 := 0#32
  let c1_i32_19 : BitVec 32 := 1#32
  let arg17 : BitVec 32 := Scf.iv c0_i32_17 c1_i32_19 k0_t1
  let v280 : BitVec 32 := Scalar.muli c4_i32_165 arg17
  let v281 : BitVec 32 := Scalar.addi v280 c0_i32_166
  let v324 : Index := Scalar.indexCast v281
  let c0_202 : Index := 0#32
  let c0_203 : Index := 0#32
  ![v324.toNat, 0, 0]
@[reducible] def k0_t2_loop (i : grid0.Coords) : Scf.Loop 32 :=
  let c0_i32_17 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v28 : BitVec 1 := Scalar.cmpi .sgt v0 c0_i32
  let v29 : BitVec 32 := Scalar.extui v28
  let c0_i32_11 : BitVec 32 := 0#32
  let v30 : BitVec 1 := Scalar.cmpi .slt v0 c0_i32_11
  let v31 : BitVec 32 := Scalar.extui v30
  let v32 : BitVec 32 := Scalar.subi v29 v31
  let c4_i32 : BitVec 32 := 4#32
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v0 c4_i32
  let c0_i32_14 : BitVec 32 := 0#32
  let v40 : BitVec 1 := Scalar.cmpi .ne v39 c0_i32_14
  let v41 : BitVec 1 := Scalar.andi v38 v40
  let v27 : BitVec 32 := Scalar.divsi v0 c4_i32
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let v45 : BitVec 32 := Scalar.addi c0_i32_17 v44
  let c1_i32_20 : BitVec 32 := 1#32
  ⟨v48, v45, c1_i32_20⟩
def k0_off3 (i : grid0.Coords) (k0_t2 : Fin (k0_t2_loop i).trips) (c0_i32_166 : BitVec 32) : Fin 4 → Nat :=
  let c0_167 : Index := 0#32
  let c4_i32_165 : BitVec 32 := 4#32
  let c0_i32_17 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v28 : BitVec 1 := Scalar.cmpi .sgt v0 c0_i32
  let v29 : BitVec 32 := Scalar.extui v28
  let c0_i32_11 : BitVec 32 := 0#32
  let v30 : BitVec 1 := Scalar.cmpi .slt v0 c0_i32_11
  let v31 : BitVec 32 := Scalar.extui v30
  let v32 : BitVec 32 := Scalar.subi v29 v31
  let c4_i32 : BitVec 32 := 4#32
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v0 c4_i32
  let c0_i32_14 : BitVec 32 := 0#32
  let v40 : BitVec 1 := Scalar.cmpi .ne v39 c0_i32_14
  let v41 : BitVec 1 := Scalar.andi v38 v40
  let v27 : BitVec 32 := Scalar.divsi v0 c4_i32
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg17 : BitVec 32 := Scf.iv v48 c1_i32_20 k0_t2
  let v280 : BitVec 32 := Scalar.muli c4_i32_165 arg17
  let v281 : BitVec 32 := Scalar.addi v280 c0_i32_166
  let v282 : Index := Scalar.indexCast v281
  let c0_168 : Index := 0#32
  let c0_169 : Index := 0#32
  ![0, v282.toNat, 0, 0]
def k0_off4 (i : grid0.Coords) (k0_t2 : Fin (k0_t2_loop i).trips) (c0_i32_166 : BitVec 32) : Fin 3 → Nat :=
  let c4_i32_165 : BitVec 32 := 4#32
  let c0_i32_17 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v28 : BitVec 1 := Scalar.cmpi .sgt v0 c0_i32
  let v29 : BitVec 32 := Scalar.extui v28
  let c0_i32_11 : BitVec 32 := 0#32
  let v30 : BitVec 1 := Scalar.cmpi .slt v0 c0_i32_11
  let v31 : BitVec 32 := Scalar.extui v30
  let v32 : BitVec 32 := Scalar.subi v29 v31
  let c4_i32 : BitVec 32 := 4#32
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v0 c4_i32
  let c0_i32_14 : BitVec 32 := 0#32
  let v40 : BitVec 1 := Scalar.cmpi .ne v39 c0_i32_14
  let v41 : BitVec 1 := Scalar.andi v38 v40
  let v27 : BitVec 32 := Scalar.divsi v0 c4_i32
  let c1_i32_15 : BitVec 32 := 1#32
  let v42 : BitVec 32 := Scalar.subi v27 c1_i32_15
  let v43 : BitVec 32 := Scalar.select v41 v42 v27
  let v44 : BitVec 32 := Scalar.subi v43 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg17 : BitVec 32 := Scf.iv v48 c1_i32_20 k0_t2
  let v280 : BitVec 32 := Scalar.muli c4_i32_165 arg17
  let v281 : BitVec 32 := Scalar.addi v280 c0_i32_166
  let v324 : Index := Scalar.indexCast v281
  let c0_202 : Index := 0#32
  let c0_203 : Index := 0#32
  ![v324.toNat, 0, 0]
@[reducible] def k0_t3_loop (i : grid0.Coords) : Scf.Loop 32 :=
  let c4_i32_28 : BitVec 32 := 4#32
  let arg1 : BitVec 32 := BitVec.ofNat 32 (i 1).val
  let c1_i32 : BitVec 32 := 1#32
  let v0 : BitVec 32 := Scalar.addi arg1 c1_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .slt v0 c0_i32_23
  let v53 : BitVec 32 := Scalar.extui v52
  let v54 : BitVec 32 := Scalar.subi v51 v53
  let c4_i32_21 : BitVec 32 := 4#32
  let c0_i32_24 : BitVec 32 := 0#32
  let v55 : BitVec 1 := Scalar.cmpi .sgt c4_i32_21 c0_i32_24
  let v56 : BitVec 32 := Scalar.extui v55
  let c0_i32_25 : BitVec 32 := 0#32
  let v57 : BitVec 1 := Scalar.cmpi .slt c4_i32_21 c0_i32_25
  let v58 : BitVec 32 := Scalar.extui v57
  let v59 : BitVec 32 := Scalar.subi v56 v58
  let v60 : BitVec 1 := Scalar.cmpi .ne v54 v59
  let v61 : BitVec 32 := Scalar.remsi v0 c4_i32_21
  let c0_i32_26 : BitVec 32 := 0#32
  let v62 : BitVec 1 := Scalar.cmpi .ne v61 c0_i32_26
  let v63 : BitVec 1 := Scalar.andi v60 v62
  let v49 : BitVec 32 := Scalar.divsi v0 c4_i32_21
  let c1_i32_27 : BitVec 32 := 1#32
  let v64 : BitVec 32 := Scalar.subi v49 c1_i32_27
  let v65 : BitVec 32 := Scalar.select v63 v64 v49
  let v66 : BitVec 32 := Scalar.muli c4_i32_28 v65
  let v67 : BitVec 32 := Scalar.subi v0 v66
  let c1_i32_30 : BitVec 32 := 1#32
  let v69 : BitVec 32 := Scalar.divsi v67 c1_i32_30
  let v70 : BitVec 32 := Scalar.muli v69 c1_i32_30
  let v71 : BitVec 32 := Scalar.addi v66 v70
  let c1_i32_31 : BitVec 32 := 1#32
  ⟨v66, v71, c1_i32_31⟩
def k0_off5 (i : grid0.Coords) (k0_t3 : Fin (k0_t3_loop i).trips) : Fin 4 → Nat :=
  let c0_165 : Index := 0#32
  let c4_i32_28 : BitVec 32 := 4#32
  let arg1 : BitVec 32 := BitVec.ofNat 32 (i 1).val
  let c1_i32 : BitVec 32 := 1#32
  let v0 : BitVec 32 := Scalar.addi arg1 c1_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .slt v0 c0_i32_23
  let v53 : BitVec 32 := Scalar.extui v52
  let v54 : BitVec 32 := Scalar.subi v51 v53
  let c4_i32_21 : BitVec 32 := 4#32
  let c0_i32_24 : BitVec 32 := 0#32
  let v55 : BitVec 1 := Scalar.cmpi .sgt c4_i32_21 c0_i32_24
  let v56 : BitVec 32 := Scalar.extui v55
  let c0_i32_25 : BitVec 32 := 0#32
  let v57 : BitVec 1 := Scalar.cmpi .slt c4_i32_21 c0_i32_25
  let v58 : BitVec 32 := Scalar.extui v57
  let v59 : BitVec 32 := Scalar.subi v56 v58
  let v60 : BitVec 1 := Scalar.cmpi .ne v54 v59
  let v61 : BitVec 32 := Scalar.remsi v0 c4_i32_21
  let c0_i32_26 : BitVec 32 := 0#32
  let v62 : BitVec 1 := Scalar.cmpi .ne v61 c0_i32_26
  let v63 : BitVec 1 := Scalar.andi v60 v62
  let v49 : BitVec 32 := Scalar.divsi v0 c4_i32_21
  let c1_i32_27 : BitVec 32 := 1#32
  let v64 : BitVec 32 := Scalar.subi v49 c1_i32_27
  let v65 : BitVec 32 := Scalar.select v63 v64 v49
  let v66 : BitVec 32 := Scalar.muli c4_i32_28 v65
  let c1_i32_31 : BitVec 32 := 1#32
  let arg17 : BitVec 32 := Scf.iv v66 c1_i32_31 k0_t3
  let v280 : Index := Scalar.indexCast arg17
  let c0_166 : Index := 0#32
  let c0_167 : Index := 0#32
  ![0, v280.toNat, 0, 0]
def k0_off6 (i : grid0.Coords) (k0_t3 : Fin (k0_t3_loop i).trips) : Fin 3 → Nat :=
  let c4_i32_28 : BitVec 32 := 4#32
  let arg1 : BitVec 32 := BitVec.ofNat 32 (i 1).val
  let c1_i32 : BitVec 32 := 1#32
  let v0 : BitVec 32 := Scalar.addi arg1 c1_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .slt v0 c0_i32_23
  let v53 : BitVec 32 := Scalar.extui v52
  let v54 : BitVec 32 := Scalar.subi v51 v53
  let c4_i32_21 : BitVec 32 := 4#32
  let c0_i32_24 : BitVec 32 := 0#32
  let v55 : BitVec 1 := Scalar.cmpi .sgt c4_i32_21 c0_i32_24
  let v56 : BitVec 32 := Scalar.extui v55
  let c0_i32_25 : BitVec 32 := 0#32
  let v57 : BitVec 1 := Scalar.cmpi .slt c4_i32_21 c0_i32_25
  let v58 : BitVec 32 := Scalar.extui v57
  let v59 : BitVec 32 := Scalar.subi v56 v58
  let v60 : BitVec 1 := Scalar.cmpi .ne v54 v59
  let v61 : BitVec 32 := Scalar.remsi v0 c4_i32_21
  let c0_i32_26 : BitVec 32 := 0#32
  let v62 : BitVec 1 := Scalar.cmpi .ne v61 c0_i32_26
  let v63 : BitVec 1 := Scalar.andi v60 v62
  let v49 : BitVec 32 := Scalar.divsi v0 c4_i32_21
  let c1_i32_27 : BitVec 32 := 1#32
  let v64 : BitVec 32 := Scalar.subi v49 c1_i32_27
  let v65 : BitVec 32 := Scalar.select v63 v64 v49
  let v66 : BitVec 32 := Scalar.muli c4_i32_28 v65
  let c1_i32_31 : BitVec 32 := 1#32
  let arg17 : BitVec 32 := Scf.iv v66 c1_i32_31 k0_t3
  let v322 : Index := Scalar.indexCast arg17
  let c0_200 : Index := 0#32
  let c0_201 : Index := 0#32
  ![v322.toNat, 0, 0]
@[reducible] def k0_t4_loop (i : grid0.Coords) : Scf.Loop 32 :=
  let c4_i32_28 : BitVec 32 := 4#32
  let arg1 : BitVec 32 := BitVec.ofNat 32 (i 1).val
  let c1_i32 : BitVec 32 := 1#32
  let v0 : BitVec 32 := Scalar.addi arg1 c1_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .slt v0 c0_i32_23
  let v53 : BitVec 32 := Scalar.extui v52
  let v54 : BitVec 32 := Scalar.subi v51 v53
  let c4_i32_21 : BitVec 32 := 4#32
  let c0_i32_24 : BitVec 32 := 0#32
  let v55 : BitVec 1 := Scalar.cmpi .sgt c4_i32_21 c0_i32_24
  let v56 : BitVec 32 := Scalar.extui v55
  let c0_i32_25 : BitVec 32 := 0#32
  let v57 : BitVec 1 := Scalar.cmpi .slt c4_i32_21 c0_i32_25
  let v58 : BitVec 32 := Scalar.extui v57
  let v59 : BitVec 32 := Scalar.subi v56 v58
  let v60 : BitVec 1 := Scalar.cmpi .ne v54 v59
  let v61 : BitVec 32 := Scalar.remsi v0 c4_i32_21
  let c0_i32_26 : BitVec 32 := 0#32
  let v62 : BitVec 1 := Scalar.cmpi .ne v61 c0_i32_26
  let v63 : BitVec 1 := Scalar.andi v60 v62
  let v49 : BitVec 32 := Scalar.divsi v0 c4_i32_21
  let c1_i32_27 : BitVec 32 := 1#32
  let v64 : BitVec 32 := Scalar.subi v49 c1_i32_27
  let v65 : BitVec 32 := Scalar.select v63 v64 v49
  let v66 : BitVec 32 := Scalar.muli c4_i32_28 v65
  let v67 : BitVec 32 := Scalar.subi v0 v66
  let c1_i32_30 : BitVec 32 := 1#32
  let v69 : BitVec 32 := Scalar.divsi v67 c1_i32_30
  let v70 : BitVec 32 := Scalar.muli v69 c1_i32_30
  let v71 : BitVec 32 := Scalar.addi v66 v70
  let v68 : BitVec 32 := Scalar.addi v66 v67
  let c1_i32_32 : BitVec 32 := 1#32
  ⟨v71, v68, c1_i32_32⟩
def k0_off7 (i : grid0.Coords) (k0_t4 : Fin (k0_t4_loop i).trips) : Fin 4 → Nat :=
  let c0_165 : Index := 0#32
  let c4_i32_28 : BitVec 32 := 4#32
  let arg1 : BitVec 32 := BitVec.ofNat 32 (i 1).val
  let c1_i32 : BitVec 32 := 1#32
  let v0 : BitVec 32 := Scalar.addi arg1 c1_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .slt v0 c0_i32_23
  let v53 : BitVec 32 := Scalar.extui v52
  let v54 : BitVec 32 := Scalar.subi v51 v53
  let c4_i32_21 : BitVec 32 := 4#32
  let c0_i32_24 : BitVec 32 := 0#32
  let v55 : BitVec 1 := Scalar.cmpi .sgt c4_i32_21 c0_i32_24
  let v56 : BitVec 32 := Scalar.extui v55
  let c0_i32_25 : BitVec 32 := 0#32
  let v57 : BitVec 1 := Scalar.cmpi .slt c4_i32_21 c0_i32_25
  let v58 : BitVec 32 := Scalar.extui v57
  let v59 : BitVec 32 := Scalar.subi v56 v58
  let v60 : BitVec 1 := Scalar.cmpi .ne v54 v59
  let v61 : BitVec 32 := Scalar.remsi v0 c4_i32_21
  let c0_i32_26 : BitVec 32 := 0#32
  let v62 : BitVec 1 := Scalar.cmpi .ne v61 c0_i32_26
  let v63 : BitVec 1 := Scalar.andi v60 v62
  let v49 : BitVec 32 := Scalar.divsi v0 c4_i32_21
  let c1_i32_27 : BitVec 32 := 1#32
  let v64 : BitVec 32 := Scalar.subi v49 c1_i32_27
  let v65 : BitVec 32 := Scalar.select v63 v64 v49
  let v66 : BitVec 32 := Scalar.muli c4_i32_28 v65
  let v67 : BitVec 32 := Scalar.subi v0 v66
  let c1_i32_30 : BitVec 32 := 1#32
  let v69 : BitVec 32 := Scalar.divsi v67 c1_i32_30
  let v70 : BitVec 32 := Scalar.muli v69 c1_i32_30
  let v71 : BitVec 32 := Scalar.addi v66 v70
  let c1_i32_32 : BitVec 32 := 1#32
  let arg17 : BitVec 32 := Scf.iv v71 c1_i32_32 k0_t4
  let v280 : Index := Scalar.indexCast arg17
  let c0_166 : Index := 0#32
  let c0_167 : Index := 0#32
  ![0, v280.toNat, 0, 0]
def k0_off8 (i : grid0.Coords) (k0_t4 : Fin (k0_t4_loop i).trips) : Fin 3 → Nat :=
  let c4_i32_28 : BitVec 32 := 4#32
  let arg1 : BitVec 32 := BitVec.ofNat 32 (i 1).val
  let c1_i32 : BitVec 32 := 1#32
  let v0 : BitVec 32 := Scalar.addi arg1 c1_i32
  let c0_i32_22 : BitVec 32 := 0#32
  let v50 : BitVec 1 := Scalar.cmpi .sgt v0 c0_i32_22
  let v51 : BitVec 32 := Scalar.extui v50
  let c0_i32_23 : BitVec 32 := 0#32
  let v52 : BitVec 1 := Scalar.cmpi .slt v0 c0_i32_23
  let v53 : BitVec 32 := Scalar.extui v52
  let v54 : BitVec 32 := Scalar.subi v51 v53
  let c4_i32_21 : BitVec 32 := 4#32
  let c0_i32_24 : BitVec 32 := 0#32
  let v55 : BitVec 1 := Scalar.cmpi .sgt c4_i32_21 c0_i32_24
  let v56 : BitVec 32 := Scalar.extui v55
  let c0_i32_25 : BitVec 32 := 0#32
  let v57 : BitVec 1 := Scalar.cmpi .slt c4_i32_21 c0_i32_25
  let v58 : BitVec 32 := Scalar.extui v57
  let v59 : BitVec 32 := Scalar.subi v56 v58
  let v60 : BitVec 1 := Scalar.cmpi .ne v54 v59
  let v61 : BitVec 32 := Scalar.remsi v0 c4_i32_21
  let c0_i32_26 : BitVec 32 := 0#32
  let v62 : BitVec 1 := Scalar.cmpi .ne v61 c0_i32_26
  let v63 : BitVec 1 := Scalar.andi v60 v62
  let v49 : BitVec 32 := Scalar.divsi v0 c4_i32_21
  let c1_i32_27 : BitVec 32 := 1#32
  let v64 : BitVec 32 := Scalar.subi v49 c1_i32_27
  let v65 : BitVec 32 := Scalar.select v63 v64 v49
  let v66 : BitVec 32 := Scalar.muli c4_i32_28 v65
  let v67 : BitVec 32 := Scalar.subi v0 v66
  let c1_i32_30 : BitVec 32 := 1#32
  let v69 : BitVec 32 := Scalar.divsi v67 c1_i32_30
  let v70 : BitVec 32 := Scalar.muli v69 c1_i32_30
  let v71 : BitVec 32 := Scalar.addi v66 v70
  let c1_i32_32 : BitVec 32 := 1#32
  let arg17 : BitVec 32 := Scf.iv v71 c1_i32_32 k0_t4
  let v322 : Index := Scalar.indexCast arg17
  let c0_200 : Index := 0#32
  let c0_201 : Index := 0#32
  ![v322.toNat, 0, 0]
def k0_off9 (i : grid0.Coords) : Fin 3 → Nat :=
  let arg1 : BitVec 32 := BitVec.ofNat 32 (i 1).val
  let v75 : Index := Scalar.indexCast arg1
  let c0_33 : Index := 0#32
  let c0_34 : Index := 0#32
  ![v75.toNat, 0, 0]
@[reducible] def k0_t5_loop : Scf.Loop 32 :=
  let c0_i32_39 : BitVec 32 := 0#32
  let c32_i32 : BitVec 32 := 32#32
  let v86 : BitVec 32 := Scalar.addi c0_i32_39 c32_i32
  let c1_i32_40 : BitVec 32 := 1#32
  ⟨c0_i32_39, v86, c1_i32_40⟩
@[reducible] def k0_t6_loop (i : grid0.Coords) : Scf.Loop 32 :=
  let c0_i32_177 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v293 : BitVec 1 := Scalar.cmpi .sgt v0 c0_i32_170
  let v294 : BitVec 32 := Scalar.extui v293
  let c0_i32_171 : BitVec 32 := 0#32
  let v295 : BitVec 1 := Scalar.cmpi .slt v0 c0_i32_171
  let v296 : BitVec 32 := Scalar.extui v295
  let v297 : BitVec 32 := Scalar.subi v294 v296
  let c4_i32_169 : BitVec 32 := 4#32
  let c0_i32_172 : BitVec 32 := 0#32
  let v298 : BitVec 1 := Scalar.cmpi .sgt c4_i32_169 c0_i32_172
  let v299 : BitVec 32 := Scalar.extui v298
  let c0_i32_173 : BitVec 32 := 0#32
  let v300 : BitVec 1 := Scalar.cmpi .slt c4_i32_169 c0_i32_173
  let v301 : BitVec 32 := Scalar.extui v300
  let v302 : BitVec 32 := Scalar.subi v299 v301
  let v303 : BitVec 1 := Scalar.cmpi .ne v297 v302
  let v304 : BitVec 32 := Scalar.remsi v0 c4_i32_169
  let c0_i32_174 : BitVec 32 := 0#32
  let v305 : BitVec 1 := Scalar.cmpi .ne v304 c0_i32_174
  let v306 : BitVec 1 := Scalar.andi v303 v305
  let v292 : BitVec 32 := Scalar.divsi v0 c4_i32_169
  let c1_i32_175 : BitVec 32 := 1#32
  let v307 : BitVec 32 := Scalar.subi v292 c1_i32_175
  let v308 : BitVec 32 := Scalar.select v306 v307 v292
  let v310 : BitVec 32 := Scalar.subi v308 c0_i32_177
  let c1_i32_178 : BitVec 32 := 1#32
  let v312 : BitVec 32 := Scalar.divsi v310 c1_i32_178
  let v313 : BitVec 32 := Scalar.muli v312 c1_i32_178
  let v314 : BitVec 32 := Scalar.addi c0_i32_177 v313
  let c1_i32_179 : BitVec 32 := 1#32
  ⟨c0_i32_177, v314, c1_i32_179⟩
def k0_off10 (i : grid0.Coords) (k0_t6 : Fin (k0_t6_loop i).trips) (c0_i32_218 : BitVec 32) : Fin 3 → Nat :=
  let c4_i32_217 : BitVec 32 := 4#32
  let c0_i32_177 : BitVec 32 := 0#32
  let c1_i32_179 : BitVec 32 := 1#32
  let arg20 : BitVec 32 := Scf.iv c0_i32_177 c1_i32_179 k0_t6
  let v401 : BitVec 32 := Scalar.muli c4_i32_217 arg20
  let v402 : BitVec 32 := Scalar.addi v401 c0_i32_218
  let v403 : Index := Scalar.indexCast v402
  let c0_219 : Index := 0#32
  let c0_220 : Index := 0#32
  ![v403.toNat, 0, 0]
def k0_off11 (i : grid0.Coords) (k0_t6 : Fin (k0_t6_loop i).trips) (c0_i32_218 : BitVec 32) : Fin 3 → Nat :=
  let c4_i32_217 : BitVec 32 := 4#32
  let c0_i32_177 : BitVec 32 := 0#32
  let c1_i32_179 : BitVec 32 := 1#32
  let arg20 : BitVec 32 := Scf.iv c0_i32_177 c1_i32_179 k0_t6
  let v401 : BitVec 32 := Scalar.muli c4_i32_217 arg20
  let v402 : BitVec 32 := Scalar.addi v401 c0_i32_218
  let v417 : Index := Scalar.indexCast v402
  let c0_224 : Index := 0#32
  let c128_225 : Index := 128#32
  ![v417.toNat, 0, 128]
@[reducible] def k0_t7_loop (i : grid0.Coords) : Scf.Loop 32 :=
  let c0_i32_177 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v293 : BitVec 1 := Scalar.cmpi .sgt v0 c0_i32_170
  let v294 : BitVec 32 := Scalar.extui v293
  let c0_i32_171 : BitVec 32 := 0#32
  let v295 : BitVec 1 := Scalar.cmpi .slt v0 c0_i32_171
  let v296 : BitVec 32 := Scalar.extui v295
  let v297 : BitVec 32 := Scalar.subi v294 v296
  let c4_i32_169 : BitVec 32 := 4#32
  let c0_i32_172 : BitVec 32 := 0#32
  let v298 : BitVec 1 := Scalar.cmpi .sgt c4_i32_169 c0_i32_172
  let v299 : BitVec 32 := Scalar.extui v298
  let c0_i32_173 : BitVec 32 := 0#32
  let v300 : BitVec 1 := Scalar.cmpi .slt c4_i32_169 c0_i32_173
  let v301 : BitVec 32 := Scalar.extui v300
  let v302 : BitVec 32 := Scalar.subi v299 v301
  let v303 : BitVec 1 := Scalar.cmpi .ne v297 v302
  let v304 : BitVec 32 := Scalar.remsi v0 c4_i32_169
  let c0_i32_174 : BitVec 32 := 0#32
  let v305 : BitVec 1 := Scalar.cmpi .ne v304 c0_i32_174
  let v306 : BitVec 1 := Scalar.andi v303 v305
  let v292 : BitVec 32 := Scalar.divsi v0 c4_i32_169
  let c1_i32_175 : BitVec 32 := 1#32
  let v307 : BitVec 32 := Scalar.subi v292 c1_i32_175
  let v308 : BitVec 32 := Scalar.select v306 v307 v292
  let v310 : BitVec 32 := Scalar.subi v308 c0_i32_177
  let c1_i32_178 : BitVec 32 := 1#32
  let v312 : BitVec 32 := Scalar.divsi v310 c1_i32_178
  let v313 : BitVec 32 := Scalar.muli v312 c1_i32_178
  let v314 : BitVec 32 := Scalar.addi c0_i32_177 v313
  let v311 : BitVec 32 := Scalar.addi c0_i32_177 v310
  let c1_i32_180 : BitVec 32 := 1#32
  ⟨v314, v311, c1_i32_180⟩
def k0_off12 (i : grid0.Coords) (k0_t7 : Fin (k0_t7_loop i).trips) (c0_i32_218 : BitVec 32) : Fin 3 → Nat :=
  let c4_i32_217 : BitVec 32 := 4#32
  let c0_i32_177 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v293 : BitVec 1 := Scalar.cmpi .sgt v0 c0_i32_170
  let v294 : BitVec 32 := Scalar.extui v293
  let c0_i32_171 : BitVec 32 := 0#32
  let v295 : BitVec 1 := Scalar.cmpi .slt v0 c0_i32_171
  let v296 : BitVec 32 := Scalar.extui v295
  let v297 : BitVec 32 := Scalar.subi v294 v296
  let c4_i32_169 : BitVec 32 := 4#32
  let c0_i32_172 : BitVec 32 := 0#32
  let v298 : BitVec 1 := Scalar.cmpi .sgt c4_i32_169 c0_i32_172
  let v299 : BitVec 32 := Scalar.extui v298
  let c0_i32_173 : BitVec 32 := 0#32
  let v300 : BitVec 1 := Scalar.cmpi .slt c4_i32_169 c0_i32_173
  let v301 : BitVec 32 := Scalar.extui v300
  let v302 : BitVec 32 := Scalar.subi v299 v301
  let v303 : BitVec 1 := Scalar.cmpi .ne v297 v302
  let v304 : BitVec 32 := Scalar.remsi v0 c4_i32_169
  let c0_i32_174 : BitVec 32 := 0#32
  let v305 : BitVec 1 := Scalar.cmpi .ne v304 c0_i32_174
  let v306 : BitVec 1 := Scalar.andi v303 v305
  let v292 : BitVec 32 := Scalar.divsi v0 c4_i32_169
  let c1_i32_175 : BitVec 32 := 1#32
  let v307 : BitVec 32 := Scalar.subi v292 c1_i32_175
  let v308 : BitVec 32 := Scalar.select v306 v307 v292
  let v310 : BitVec 32 := Scalar.subi v308 c0_i32_177
  let c1_i32_178 : BitVec 32 := 1#32
  let v312 : BitVec 32 := Scalar.divsi v310 c1_i32_178
  let v313 : BitVec 32 := Scalar.muli v312 c1_i32_178
  let v314 : BitVec 32 := Scalar.addi c0_i32_177 v313
  let c1_i32_180 : BitVec 32 := 1#32
  let arg20 : BitVec 32 := Scf.iv v314 c1_i32_180 k0_t7
  let v401 : BitVec 32 := Scalar.muli c4_i32_217 arg20
  let v402 : BitVec 32 := Scalar.addi v401 c0_i32_218
  let v403 : Index := Scalar.indexCast v402
  let c0_219 : Index := 0#32
  let c0_220 : Index := 0#32
  ![v403.toNat, 0, 0]
def k0_off13 (i : grid0.Coords) (k0_t7 : Fin (k0_t7_loop i).trips) (c0_i32_218 : BitVec 32) : Fin 3 → Nat :=
  let c4_i32_217 : BitVec 32 := 4#32
  let c0_i32_177 : BitVec 32 := 0#32
  let arg1 : BitVec 32 := BitVec.ofNat 32 (i 1).val
  let c1_i32 : BitVec 32 := 1#32
  let v0 : BitVec 32 := Scalar.addi arg1 c1_i32
  let c0_i32_170 : BitVec 32 := 0#32
  let v293 : BitVec 1 := Scalar.cmpi .sgt v0 c0_i32_170
  let v294 : BitVec 32 := Scalar.extui v293
  let c0_i32_171 : BitVec 32 := 0#32
  let v295 : BitVec 1 := Scalar.cmpi .slt v0 c0_i32_171
  let v296 : BitVec 32 := Scalar.extui v295
  let v297 : BitVec 32 := Scalar.subi v294 v296
  let c4_i32_169 : BitVec 32 := 4#32
  let c0_i32_172 : BitVec 32 := 0#32
  let v298 : BitVec 1 := Scalar.cmpi .sgt c4_i32_169 c0_i32_172
  let v299 : BitVec 32 := Scalar.extui v298
  let c0_i32_173 : BitVec 32 := 0#32
  let v300 : BitVec 1 := Scalar.cmpi .slt c4_i32_169 c0_i32_173
  let v301 : BitVec 32 := Scalar.extui v300
  let v302 : BitVec 32 := Scalar.subi v299 v301
  let v303 : BitVec 1 := Scalar.cmpi .ne v297 v302
  let v304 : BitVec 32 := Scalar.remsi v0 c4_i32_169
  let c0_i32_174 : BitVec 32 := 0#32
  let v305 : BitVec 1 := Scalar.cmpi .ne v304 c0_i32_174
  let v306 : BitVec 1 := Scalar.andi v303 v305
  let v292 : BitVec 32 := Scalar.divsi v0 c4_i32_169
  let c1_i32_175 : BitVec 32 := 1#32
  let v307 : BitVec 32 := Scalar.subi v292 c1_i32_175
  let v308 : BitVec 32 := Scalar.select v306 v307 v292
  let v310 : BitVec 32 := Scalar.subi v308 c0_i32_177
  let c1_i32_178 : BitVec 32 := 1#32
  let v312 : BitVec 32 := Scalar.divsi v310 c1_i32_178
  let v313 : BitVec 32 := Scalar.muli v312 c1_i32_178
  let v314 : BitVec 32 := Scalar.addi c0_i32_177 v313
  let c1_i32_180 : BitVec 32 := 1#32
  let arg20 : BitVec 32 := Scf.iv v314 c1_i32_180 k0_t7
  let v401 : BitVec 32 := Scalar.muli c4_i32_217 arg20
  let v402 : BitVec 32 := Scalar.addi v401 c0_i32_218
  let v417 : Index := Scalar.indexCast v402
  let c0_224 : Index := 0#32
  let c128_225 : Index := 128#32
  ![v417.toNat, 0, 128]
@[reducible] def k0_t8_loop (i : grid0.Coords) : Scf.Loop 32 :=
  let c4_i32_188 : BitVec 32 := 4#32
  let arg1 : BitVec 32 := BitVec.ofNat 32 (i 1).val
  let c1_i32 : BitVec 32 := 1#32
  let v0 : BitVec 32 := Scalar.addi arg1 c1_i32
  let c0_i32_182 : BitVec 32 := 0#32
  let v318 : BitVec 1 := Scalar.cmpi .sgt v0 c0_i32_182
  let v319 : BitVec 32 := Scalar.extui v318
  let c0_i32_183 : BitVec 32 := 0#32
  let v320 : BitVec 1 := Scalar.cmpi .slt v0 c0_i32_183
  let v321 : BitVec 32 := Scalar.extui v320
  let v322 : BitVec 32 := Scalar.subi v319 v321
  let c4_i32_181 : BitVec 32 := 4#32
  let c0_i32_184 : BitVec 32 := 0#32
  let v323 : BitVec 1 := Scalar.cmpi .sgt c4_i32_181 c0_i32_184
  let v324 : BitVec 32 := Scalar.extui v323
  let c0_i32_185 : BitVec 32 := 0#32
  let v325 : BitVec 1 := Scalar.cmpi .slt c4_i32_181 c0_i32_185
  let v326 : BitVec 32 := Scalar.extui v325
  let v327 : BitVec 32 := Scalar.subi v324 v326
  let v328 : BitVec 1 := Scalar.cmpi .ne v322 v327
  let v329 : BitVec 32 := Scalar.remsi v0 c4_i32_181
  let c0_i32_186 : BitVec 32 := 0#32
  let v330 : BitVec 1 := Scalar.cmpi .ne v329 c0_i32_186
  let v331 : BitVec 1 := Scalar.andi v328 v330
  let v317 : BitVec 32 := Scalar.divsi v0 c4_i32_181
  let c1_i32_187 : BitVec 32 := 1#32
  let v332 : BitVec 32 := Scalar.subi v317 c1_i32_187
  let v333 : BitVec 32 := Scalar.select v331 v332 v317
  let v334 : BitVec 32 := Scalar.muli c4_i32_188 v333
  let v335 : BitVec 32 := Scalar.subi v0 v334
  let c1_i32_189 : BitVec 32 := 1#32
  let v337 : BitVec 32 := Scalar.divsi v335 c1_i32_189
  let v338 : BitVec 32 := Scalar.muli v337 c1_i32_189
  let v339 : BitVec 32 := Scalar.addi v334 v338
  let c1_i32_190 : BitVec 32 := 1#32
  ⟨v334, v339, c1_i32_190⟩
def k0_off14 (i : grid0.Coords) (k0_t8 : Fin (k0_t8_loop i).trips) : Fin 3 → Nat :=
  let c4_i32_188 : BitVec 32 := 4#32
  let arg1 : BitVec 32 := BitVec.ofNat 32 (i 1).val
  let c1_i32 : BitVec 32 := 1#32
  let v0 : BitVec 32 := Scalar.addi arg1 c1_i32
  let c0_i32_182 : BitVec 32 := 0#32
  let v318 : BitVec 1 := Scalar.cmpi .sgt v0 c0_i32_182
  let v319 : BitVec 32 := Scalar.extui v318
  let c0_i32_183 : BitVec 32 := 0#32
  let v320 : BitVec 1 := Scalar.cmpi .slt v0 c0_i32_183
  let v321 : BitVec 32 := Scalar.extui v320
  let v322 : BitVec 32 := Scalar.subi v319 v321
  let c4_i32_181 : BitVec 32 := 4#32
  let c0_i32_184 : BitVec 32 := 0#32
  let v323 : BitVec 1 := Scalar.cmpi .sgt c4_i32_181 c0_i32_184
  let v324 : BitVec 32 := Scalar.extui v323
  let c0_i32_185 : BitVec 32 := 0#32
  let v325 : BitVec 1 := Scalar.cmpi .slt c4_i32_181 c0_i32_185
  let v326 : BitVec 32 := Scalar.extui v325
  let v327 : BitVec 32 := Scalar.subi v324 v326
  let v328 : BitVec 1 := Scalar.cmpi .ne v322 v327
  let v329 : BitVec 32 := Scalar.remsi v0 c4_i32_181
  let c0_i32_186 : BitVec 32 := 0#32
  let v330 : BitVec 1 := Scalar.cmpi .ne v329 c0_i32_186
  let v331 : BitVec 1 := Scalar.andi v328 v330
  let v317 : BitVec 32 := Scalar.divsi v0 c4_i32_181
  let c1_i32_187 : BitVec 32 := 1#32
  let v332 : BitVec 32 := Scalar.subi v317 c1_i32_187
  let v333 : BitVec 32 := Scalar.select v331 v332 v317
  let v334 : BitVec 32 := Scalar.muli c4_i32_188 v333
  let c1_i32_190 : BitVec 32 := 1#32
  let arg20 : BitVec 32 := Scf.iv v334 c1_i32_190 k0_t8
  let v401 : Index := Scalar.indexCast arg20
  let c0_217 : Index := 0#32
  let c0_218 : Index := 0#32
  ![v401.toNat, 0, 0]
def k0_off15 (i : grid0.Coords) (k0_t8 : Fin (k0_t8_loop i).trips) : Fin 3 → Nat :=
  let c4_i32_188 : BitVec 32 := 4#32
  let arg1 : BitVec 32 := BitVec.ofNat 32 (i 1).val
  let c1_i32 : BitVec 32 := 1#32
  let v0 : BitVec 32 := Scalar.addi arg1 c1_i32
  let c0_i32_182 : BitVec 32 := 0#32
  let v318 : BitVec 1 := Scalar.cmpi .sgt v0 c0_i32_182
  let v319 : BitVec 32 := Scalar.extui v318
  let c0_i32_183 : BitVec 32 := 0#32
  let v320 : BitVec 1 := Scalar.cmpi .slt v0 c0_i32_183
  let v321 : BitVec 32 := Scalar.extui v320
  let v322 : BitVec 32 := Scalar.subi v319 v321
  let c4_i32_181 : BitVec 32 := 4#32
  let c0_i32_184 : BitVec 32 := 0#32
  let v323 : BitVec 1 := Scalar.cmpi .sgt c4_i32_181 c0_i32_184
  let v324 : BitVec 32 := Scalar.extui v323
  let c0_i32_185 : BitVec 32 := 0#32
  let v325 : BitVec 1 := Scalar.cmpi .slt c4_i32_181 c0_i32_185
  let v326 : BitVec 32 := Scalar.extui v325
  let v327 : BitVec 32 := Scalar.subi v324 v326
  let v328 : BitVec 1 := Scalar.cmpi .ne v322 v327
  let v329 : BitVec 32 := Scalar.remsi v0 c4_i32_181
  let c0_i32_186 : BitVec 32 := 0#32
  let v330 : BitVec 1 := Scalar.cmpi .ne v329 c0_i32_186
  let v331 : BitVec 1 := Scalar.andi v328 v330
  let v317 : BitVec 32 := Scalar.divsi v0 c4_i32_181
  let c1_i32_187 : BitVec 32 := 1#32
  let v332 : BitVec 32 := Scalar.subi v317 c1_i32_187
  let v333 : BitVec 32 := Scalar.select v331 v332 v317
  let v334 : BitVec 32 := Scalar.muli c4_i32_188 v333
  let c1_i32_190 : BitVec 32 := 1#32
  let arg20 : BitVec 32 := Scf.iv v334 c1_i32_190 k0_t8
  let v415 : Index := Scalar.indexCast arg20
  let c0_222 : Index := 0#32
  let c128_223 : Index := 128#32
  ![v415.toNat, 0, 128]
@[reducible] def k0_t9_loop (i : grid0.Coords) : Scf.Loop 32 :=
  let c4_i32_188 : BitVec 32 := 4#32
  let arg1 : BitVec 32 := BitVec.ofNat 32 (i 1).val
  let c1_i32 : BitVec 32 := 1#32
  let v0 : BitVec 32 := Scalar.addi arg1 c1_i32
  let c0_i32_182 : BitVec 32 := 0#32
  let v318 : BitVec 1 := Scalar.cmpi .sgt v0 c0_i32_182
  let v319 : BitVec 32 := Scalar.extui v318
  let c0_i32_183 : BitVec 32 := 0#32
  let v320 : BitVec 1 := Scalar.cmpi .slt v0 c0_i32_183
  let v321 : BitVec 32 := Scalar.extui v320
  let v322 : BitVec 32 := Scalar.subi v319 v321
  let c4_i32_181 : BitVec 32 := 4#32
  let c0_i32_184 : BitVec 32 := 0#32
  let v323 : BitVec 1 := Scalar.cmpi .sgt c4_i32_181 c0_i32_184
  let v324 : BitVec 32 := Scalar.extui v323
  let c0_i32_185 : BitVec 32 := 0#32
  let v325 : BitVec 1 := Scalar.cmpi .slt c4_i32_181 c0_i32_185
  let v326 : BitVec 32 := Scalar.extui v325
  let v327 : BitVec 32 := Scalar.subi v324 v326
  let v328 : BitVec 1 := Scalar.cmpi .ne v322 v327
  let v329 : BitVec 32 := Scalar.remsi v0 c4_i32_181
  let c0_i32_186 : BitVec 32 := 0#32
  let v330 : BitVec 1 := Scalar.cmpi .ne v329 c0_i32_186
  let v331 : BitVec 1 := Scalar.andi v328 v330
  let v317 : BitVec 32 := Scalar.divsi v0 c4_i32_181
  let c1_i32_187 : BitVec 32 := 1#32
  let v332 : BitVec 32 := Scalar.subi v317 c1_i32_187
  let v333 : BitVec 32 := Scalar.select v331 v332 v317
  let v334 : BitVec 32 := Scalar.muli c4_i32_188 v333
  let v335 : BitVec 32 := Scalar.subi v0 v334
  let c1_i32_189 : BitVec 32 := 1#32
  let v337 : BitVec 32 := Scalar.divsi v335 c1_i32_189
  let v338 : BitVec 32 := Scalar.muli v337 c1_i32_189
  let v339 : BitVec 32 := Scalar.addi v334 v338
  let v336 : BitVec 32 := Scalar.addi v334 v335
  let c1_i32_191 : BitVec 32 := 1#32
  ⟨v339, v336, c1_i32_191⟩
def k0_off16 (i : grid0.Coords) (k0_t9 : Fin (k0_t9_loop i).trips) : Fin 3 → Nat :=
  let c4_i32_188 : BitVec 32 := 4#32
  let arg1 : BitVec 32 := BitVec.ofNat 32 (i 1).val
  let c1_i32 : BitVec 32 := 1#32
  let v0 : BitVec 32 := Scalar.addi arg1 c1_i32
  let c0_i32_182 : BitVec 32 := 0#32
  let v318 : BitVec 1 := Scalar.cmpi .sgt v0 c0_i32_182
  let v319 : BitVec 32 := Scalar.extui v318
  let c0_i32_183 : BitVec 32 := 0#32
  let v320 : BitVec 1 := Scalar.cmpi .slt v0 c0_i32_183
  let v321 : BitVec 32 := Scalar.extui v320
  let v322 : BitVec 32 := Scalar.subi v319 v321
  let c4_i32_181 : BitVec 32 := 4#32
  let c0_i32_184 : BitVec 32 := 0#32
  let v323 : BitVec 1 := Scalar.cmpi .sgt c4_i32_181 c0_i32_184
  let v324 : BitVec 32 := Scalar.extui v323
  let c0_i32_185 : BitVec 32 := 0#32
  let v325 : BitVec 1 := Scalar.cmpi .slt c4_i32_181 c0_i32_185
  let v326 : BitVec 32 := Scalar.extui v325
  let v327 : BitVec 32 := Scalar.subi v324 v326
  let v328 : BitVec 1 := Scalar.cmpi .ne v322 v327
  let v329 : BitVec 32 := Scalar.remsi v0 c4_i32_181
  let c0_i32_186 : BitVec 32 := 0#32
  let v330 : BitVec 1 := Scalar.cmpi .ne v329 c0_i32_186
  let v331 : BitVec 1 := Scalar.andi v328 v330
  let v317 : BitVec 32 := Scalar.divsi v0 c4_i32_181
  let c1_i32_187 : BitVec 32 := 1#32
  let v332 : BitVec 32 := Scalar.subi v317 c1_i32_187
  let v333 : BitVec 32 := Scalar.select v331 v332 v317
  let v334 : BitVec 32 := Scalar.muli c4_i32_188 v333
  let v335 : BitVec 32 := Scalar.subi v0 v334
  let c1_i32_189 : BitVec 32 := 1#32
  let v337 : BitVec 32 := Scalar.divsi v335 c1_i32_189
  let v338 : BitVec 32 := Scalar.muli v337 c1_i32_189
  let v339 : BitVec 32 := Scalar.addi v334 v338
  let c1_i32_191 : BitVec 32 := 1#32
  let arg20 : BitVec 32 := Scf.iv v339 c1_i32_191 k0_t9
  let v401 : Index := Scalar.indexCast arg20
  let c0_217 : Index := 0#32
  let c0_218 : Index := 0#32
  ![v401.toNat, 0, 0]
def k0_off17 (i : grid0.Coords) (k0_t9 : Fin (k0_t9_loop i).trips) : Fin 3 → Nat :=
  let c4_i32_188 : BitVec 32 := 4#32
  let arg1 : BitVec 32 := BitVec.ofNat 32 (i 1).val
  let c1_i32 : BitVec 32 := 1#32
  let v0 : BitVec 32 := Scalar.addi arg1 c1_i32
  let c0_i32_182 : BitVec 32 := 0#32
  let v318 : BitVec 1 := Scalar.cmpi .sgt v0 c0_i32_182
  let v319 : BitVec 32 := Scalar.extui v318
  let c0_i32_183 : BitVec 32 := 0#32
  let v320 : BitVec 1 := Scalar.cmpi .slt v0 c0_i32_183
  let v321 : BitVec 32 := Scalar.extui v320
  let v322 : BitVec 32 := Scalar.subi v319 v321
  let c4_i32_181 : BitVec 32 := 4#32
  let c0_i32_184 : BitVec 32 := 0#32
  let v323 : BitVec 1 := Scalar.cmpi .sgt c4_i32_181 c0_i32_184
  let v324 : BitVec 32 := Scalar.extui v323
  let c0_i32_185 : BitVec 32 := 0#32
  let v325 : BitVec 1 := Scalar.cmpi .slt c4_i32_181 c0_i32_185
  let v326 : BitVec 32 := Scalar.extui v325
  let v327 : BitVec 32 := Scalar.subi v324 v326
  let v328 : BitVec 1 := Scalar.cmpi .ne v322 v327
  let v329 : BitVec 32 := Scalar.remsi v0 c4_i32_181
  let c0_i32_186 : BitVec 32 := 0#32
  let v330 : BitVec 1 := Scalar.cmpi .ne v329 c0_i32_186
  let v331 : BitVec 1 := Scalar.andi v328 v330
  let v317 : BitVec 32 := Scalar.divsi v0 c4_i32_181
  let c1_i32_187 : BitVec 32 := 1#32
  let v332 : BitVec 32 := Scalar.subi v317 c1_i32_187
  let v333 : BitVec 32 := Scalar.select v331 v332 v317
  let v334 : BitVec 32 := Scalar.muli c4_i32_188 v333
  let v335 : BitVec 32 := Scalar.subi v0 v334
  let c1_i32_189 : BitVec 32 := 1#32
  let v337 : BitVec 32 := Scalar.divsi v335 c1_i32_189
  let v338 : BitVec 32 := Scalar.muli v337 c1_i32_189
  let v339 : BitVec 32 := Scalar.addi v334 v338
  let c1_i32_191 : BitVec 32 := 1#32
  let arg20 : BitVec 32 := Scf.iv v339 c1_i32_191 k0_t9
  let v415 : Index := Scalar.indexCast arg20
  let c0_222 : Index := 0#32
  let c128_223 : Index := 128#32
  ![v415.toNat, 0, 128]
@[reducible] def k0_t10_loop (i : grid0.Coords) : Scf.Loop 32 :=
  let c0_i32_200 : BitVec 32 := 0#32
  let arg1 : BitVec 32 := BitVec.ofNat 32 (i 1).val
  let c1_i32 : BitVec 32 := 1#32
  let v0 : BitVec 32 := Scalar.addi arg1 c1_i32
  let c0_i32_193 : BitVec 32 := 0#32
  let v343 : BitVec 1 := Scalar.cmpi .sgt v0 c0_i32_193
  let v344 : BitVec 32 := Scalar.extui v343
  let c0_i32_194 : BitVec 32 := 0#32
  let v345 : BitVec 1 := Scalar.cmpi .slt v0 c0_i32_194
  let v346 : BitVec 32 := Scalar.extui v345
  let v347 : BitVec 32 := Scalar.subi v344 v346
  let c4_i32_192 : BitVec 32 := 4#32
  let c0_i32_195 : BitVec 32 := 0#32
  let v348 : BitVec 1 := Scalar.cmpi .sgt c4_i32_192 c0_i32_195
  let v349 : BitVec 32 := Scalar.extui v348
  let c0_i32_196 : BitVec 32 := 0#32
  let v350 : BitVec 1 := Scalar.cmpi .slt c4_i32_192 c0_i32_196
  let v351 : BitVec 32 := Scalar.extui v350
  let v352 : BitVec 32 := Scalar.subi v349 v351
  let v353 : BitVec 1 := Scalar.cmpi .ne v347 v352
  let v354 : BitVec 32 := Scalar.remsi v0 c4_i32_192
  let c0_i32_197 : BitVec 32 := 0#32
  let v355 : BitVec 1 := Scalar.cmpi .ne v354 c0_i32_197
  let v356 : BitVec 1 := Scalar.andi v353 v355
  let v342 : BitVec 32 := Scalar.divsi v0 c4_i32_192
  let c1_i32_198 : BitVec 32 := 1#32
  let v357 : BitVec 32 := Scalar.subi v342 c1_i32_198
  let v358 : BitVec 32 := Scalar.select v356 v357 v342
  let v360 : BitVec 32 := Scalar.subi v358 c0_i32_200
  let c1_i32_201 : BitVec 32 := 1#32
  let v362 : BitVec 32 := Scalar.divsi v360 c1_i32_201
  let v363 : BitVec 32 := Scalar.muli v362 c1_i32_201
  let v364 : BitVec 32 := Scalar.addi c0_i32_200 v363
  let c1_i32_202 : BitVec 32 := 1#32
  ⟨c0_i32_200, v364, c1_i32_202⟩
def k0_off18 (i : grid0.Coords) (k0_t10 : Fin (k0_t10_loop i).trips) (c0_i32_218 : BitVec 32) : Fin 3 → Nat :=
  let c4_i32_217 : BitVec 32 := 4#32
  let c0_i32_200 : BitVec 32 := 0#32
  let c1_i32_202 : BitVec 32 := 1#32
  let arg20 : BitVec 32 := Scf.iv c0_i32_200 c1_i32_202 k0_t10
  let v401 : BitVec 32 := Scalar.muli c4_i32_217 arg20
  let v402 : BitVec 32 := Scalar.addi v401 c0_i32_218
  let v403 : Index := Scalar.indexCast v402
  let c128_219 : Index := 128#32
  let c0_220 : Index := 0#32
  ![v403.toNat, 128, 0]
def k0_off19 (i : grid0.Coords) (k0_t10 : Fin (k0_t10_loop i).trips) (c0_i32_218 : BitVec 32) : Fin 3 → Nat :=
  let c4_i32_217 : BitVec 32 := 4#32
  let c0_i32_200 : BitVec 32 := 0#32
  let c1_i32_202 : BitVec 32 := 1#32
  let arg20 : BitVec 32 := Scf.iv c0_i32_200 c1_i32_202 k0_t10
  let v401 : BitVec 32 := Scalar.muli c4_i32_217 arg20
  let v402 : BitVec 32 := Scalar.addi v401 c0_i32_218
  let v417 : Index := Scalar.indexCast v402
  let c128_224 : Index := 128#32
  let c128_225 : Index := 128#32
  ![v417.toNat, 128, 128]
@[reducible] def k0_t11_loop (i : grid0.Coords) : Scf.Loop 32 :=
  let c0_i32_200 : BitVec 32 := 0#32
  let arg1 : BitVec 32 := BitVec.ofNat 32 (i 1).val
  let c1_i32 : BitVec 32 := 1#32
  let v0 : BitVec 32 := Scalar.addi arg1 c1_i32
  let c0_i32_193 : BitVec 32 := 0#32
  let v343 : BitVec 1 := Scalar.cmpi .sgt v0 c0_i32_193
  let v344 : BitVec 32 := Scalar.extui v343
  let c0_i32_194 : BitVec 32 := 0#32
  let v345 : BitVec 1 := Scalar.cmpi .slt v0 c0_i32_194
  let v346 : BitVec 32 := Scalar.extui v345
  let v347 : BitVec 32 := Scalar.subi v344 v346
  let c4_i32_192 : BitVec 32 := 4#32
  let c0_i32_195 : BitVec 32 := 0#32
  let v348 : BitVec 1 := Scalar.cmpi .sgt c4_i32_192 c0_i32_195
  let v349 : BitVec 32 := Scalar.extui v348
  let c0_i32_196 : BitVec 32 := 0#32
  let v350 : BitVec 1 := Scalar.cmpi .slt c4_i32_192 c0_i32_196
  let v351 : BitVec 32 := Scalar.extui v350
  let v352 : BitVec 32 := Scalar.subi v349 v351
  let v353 : BitVec 1 := Scalar.cmpi .ne v347 v352
  let v354 : BitVec 32 := Scalar.remsi v0 c4_i32_192
  let c0_i32_197 : BitVec 32 := 0#32
  let v355 : BitVec 1 := Scalar.cmpi .ne v354 c0_i32_197
  let v356 : BitVec 1 := Scalar.andi v353 v355
  let v342 : BitVec 32 := Scalar.divsi v0 c4_i32_192
  let c1_i32_198 : BitVec 32 := 1#32
  let v357 : BitVec 32 := Scalar.subi v342 c1_i32_198
  let v358 : BitVec 32 := Scalar.select v356 v357 v342
  let v360 : BitVec 32 := Scalar.subi v358 c0_i32_200
  let c1_i32_201 : BitVec 32 := 1#32
  let v362 : BitVec 32 := Scalar.divsi v360 c1_i32_201
  let v363 : BitVec 32 := Scalar.muli v362 c1_i32_201
  let v364 : BitVec 32 := Scalar.addi c0_i32_200 v363
  let v361 : BitVec 32 := Scalar.addi c0_i32_200 v360
  let c1_i32_203 : BitVec 32 := 1#32
  ⟨v364, v361, c1_i32_203⟩
def k0_off20 (i : grid0.Coords) (k0_t11 : Fin (k0_t11_loop i).trips) (c0_i32_218 : BitVec 32) : Fin 3 → Nat :=
  let c4_i32_217 : BitVec 32 := 4#32
  let c0_i32_200 : BitVec 32 := 0#32
  let arg1 : BitVec 32 := BitVec.ofNat 32 (i 1).val
  let c1_i32 : BitVec 32 := 1#32
  let v0 : BitVec 32 := Scalar.addi arg1 c1_i32
  let c0_i32_193 : BitVec 32 := 0#32
  let v343 : BitVec 1 := Scalar.cmpi .sgt v0 c0_i32_193
  let v344 : BitVec 32 := Scalar.extui v343
  let c0_i32_194 : BitVec 32 := 0#32
  let v345 : BitVec 1 := Scalar.cmpi .slt v0 c0_i32_194
  let v346 : BitVec 32 := Scalar.extui v345
  let v347 : BitVec 32 := Scalar.subi v344 v346
  let c4_i32_192 : BitVec 32 := 4#32
  let c0_i32_195 : BitVec 32 := 0#32
  let v348 : BitVec 1 := Scalar.cmpi .sgt c4_i32_192 c0_i32_195
  let v349 : BitVec 32 := Scalar.extui v348
  let c0_i32_196 : BitVec 32 := 0#32
  let v350 : BitVec 1 := Scalar.cmpi .slt c4_i32_192 c0_i32_196
  let v351 : BitVec 32 := Scalar.extui v350
  let v352 : BitVec 32 := Scalar.subi v349 v351
  let v353 : BitVec 1 := Scalar.cmpi .ne v347 v352
  let v354 : BitVec 32 := Scalar.remsi v0 c4_i32_192
  let c0_i32_197 : BitVec 32 := 0#32
  let v355 : BitVec 1 := Scalar.cmpi .ne v354 c0_i32_197
  let v356 : BitVec 1 := Scalar.andi v353 v355
  let v342 : BitVec 32 := Scalar.divsi v0 c4_i32_192
  let c1_i32_198 : BitVec 32 := 1#32
  let v357 : BitVec 32 := Scalar.subi v342 c1_i32_198
  let v358 : BitVec 32 := Scalar.select v356 v357 v342
  let v360 : BitVec 32 := Scalar.subi v358 c0_i32_200
  let c1_i32_201 : BitVec 32 := 1#32
  let v362 : BitVec 32 := Scalar.divsi v360 c1_i32_201
  let v363 : BitVec 32 := Scalar.muli v362 c1_i32_201
  let v364 : BitVec 32 := Scalar.addi c0_i32_200 v363
  let c1_i32_203 : BitVec 32 := 1#32
  let arg20 : BitVec 32 := Scf.iv v364 c1_i32_203 k0_t11
  let v401 : BitVec 32 := Scalar.muli c4_i32_217 arg20
  let v402 : BitVec 32 := Scalar.addi v401 c0_i32_218
  let v403 : Index := Scalar.indexCast v402
  let c128_219 : Index := 128#32
  let c0_220 : Index := 0#32
  ![v403.toNat, 128, 0]
def k0_off21 (i : grid0.Coords) (k0_t11 : Fin (k0_t11_loop i).trips) (c0_i32_218 : BitVec 32) : Fin 3 → Nat :=
  let c4_i32_217 : BitVec 32 := 4#32
  let c0_i32_200 : BitVec 32 := 0#32
  let arg1 : BitVec 32 := BitVec.ofNat 32 (i 1).val
  let c1_i32 : BitVec 32 := 1#32
  let v0 : BitVec 32 := Scalar.addi arg1 c1_i32
  let c0_i32_193 : BitVec 32 := 0#32
  let v343 : BitVec 1 := Scalar.cmpi .sgt v0 c0_i32_193
  let v344 : BitVec 32 := Scalar.extui v343
  let c0_i32_194 : BitVec 32 := 0#32
  let v345 : BitVec 1 := Scalar.cmpi .slt v0 c0_i32_194
  let v346 : BitVec 32 := Scalar.extui v345
  let v347 : BitVec 32 := Scalar.subi v344 v346
  let c4_i32_192 : BitVec 32 := 4#32
  let c0_i32_195 : BitVec 32 := 0#32
  let v348 : BitVec 1 := Scalar.cmpi .sgt c4_i32_192 c0_i32_195
  let v349 : BitVec 32 := Scalar.extui v348
  let c0_i32_196 : BitVec 32 := 0#32
  let v350 : BitVec 1 := Scalar.cmpi .slt c4_i32_192 c0_i32_196
  let v351 : BitVec 32 := Scalar.extui v350
  let v352 : BitVec 32 := Scalar.subi v349 v351
  let v353 : BitVec 1 := Scalar.cmpi .ne v347 v352
  let v354 : BitVec 32 := Scalar.remsi v0 c4_i32_192
  let c0_i32_197 : BitVec 32 := 0#32
  let v355 : BitVec 1 := Scalar.cmpi .ne v354 c0_i32_197
  let v356 : BitVec 1 := Scalar.andi v353 v355
  let v342 : BitVec 32 := Scalar.divsi v0 c4_i32_192
  let c1_i32_198 : BitVec 32 := 1#32
  let v357 : BitVec 32 := Scalar.subi v342 c1_i32_198
  let v358 : BitVec 32 := Scalar.select v356 v357 v342
  let v360 : BitVec 32 := Scalar.subi v358 c0_i32_200
  let c1_i32_201 : BitVec 32 := 1#32
  let v362 : BitVec 32 := Scalar.divsi v360 c1_i32_201
  let v363 : BitVec 32 := Scalar.muli v362 c1_i32_201
  let v364 : BitVec 32 := Scalar.addi c0_i32_200 v363
  let c1_i32_203 : BitVec 32 := 1#32
  let arg20 : BitVec 32 := Scf.iv v364 c1_i32_203 k0_t11
  let v401 : BitVec 32 := Scalar.muli c4_i32_217 arg20
  let v402 : BitVec 32 := Scalar.addi v401 c0_i32_218
  let v417 : Index := Scalar.indexCast v402
  let c128_224 : Index := 128#32
  let c128_225 : Index := 128#32
  ![v417.toNat, 128, 128]
@[reducible] def k0_t12_loop (i : grid0.Coords) : Scf.Loop 32 :=
  let c4_i32_211 : BitVec 32 := 4#32
  let arg1 : BitVec 32 := BitVec.ofNat 32 (i 1).val
  let c1_i32 : BitVec 32 := 1#32
  let v0 : BitVec 32 := Scalar.addi arg1 c1_i32
  let c0_i32_205 : BitVec 32 := 0#32
  let v368 : BitVec 1 := Scalar.cmpi .sgt v0 c0_i32_205
  let v369 : BitVec 32 := Scalar.extui v368
  let c0_i32_206 : BitVec 32 := 0#32
  let v370 : BitVec 1 := Scalar.cmpi .slt v0 c0_i32_206
  let v371 : BitVec 32 := Scalar.extui v370
  let v372 : BitVec 32 := Scalar.subi v369 v371
  let c4_i32_204 : BitVec 32 := 4#32
  let c0_i32_207 : BitVec 32 := 0#32
  let v373 : BitVec 1 := Scalar.cmpi .sgt c4_i32_204 c0_i32_207
  let v374 : BitVec 32 := Scalar.extui v373
  let c0_i32_208 : BitVec 32 := 0#32
  let v375 : BitVec 1 := Scalar.cmpi .slt c4_i32_204 c0_i32_208
  let v376 : BitVec 32 := Scalar.extui v375
  let v377 : BitVec 32 := Scalar.subi v374 v376
  let v378 : BitVec 1 := Scalar.cmpi .ne v372 v377
  let v379 : BitVec 32 := Scalar.remsi v0 c4_i32_204
  let c0_i32_209 : BitVec 32 := 0#32
  let v380 : BitVec 1 := Scalar.cmpi .ne v379 c0_i32_209
  let v381 : BitVec 1 := Scalar.andi v378 v380
  let v367 : BitVec 32 := Scalar.divsi v0 c4_i32_204
  let c1_i32_210 : BitVec 32 := 1#32
  let v382 : BitVec 32 := Scalar.subi v367 c1_i32_210
  let v383 : BitVec 32 := Scalar.select v381 v382 v367
  let v384 : BitVec 32 := Scalar.muli c4_i32_211 v383
  let v385 : BitVec 32 := Scalar.subi v0 v384
  let c1_i32_212 : BitVec 32 := 1#32
  let v387 : BitVec 32 := Scalar.divsi v385 c1_i32_212
  let v388 : BitVec 32 := Scalar.muli v387 c1_i32_212
  let v389 : BitVec 32 := Scalar.addi v384 v388
  let c1_i32_213 : BitVec 32 := 1#32
  ⟨v384, v389, c1_i32_213⟩
def k0_off22 (i : grid0.Coords) (k0_t12 : Fin (k0_t12_loop i).trips) : Fin 3 → Nat :=
  let c4_i32_211 : BitVec 32 := 4#32
  let arg1 : BitVec 32 := BitVec.ofNat 32 (i 1).val
  let c1_i32 : BitVec 32 := 1#32
  let v0 : BitVec 32 := Scalar.addi arg1 c1_i32
  let c0_i32_205 : BitVec 32 := 0#32
  let v368 : BitVec 1 := Scalar.cmpi .sgt v0 c0_i32_205
  let v369 : BitVec 32 := Scalar.extui v368
  let c0_i32_206 : BitVec 32 := 0#32
  let v370 : BitVec 1 := Scalar.cmpi .slt v0 c0_i32_206
  let v371 : BitVec 32 := Scalar.extui v370
  let v372 : BitVec 32 := Scalar.subi v369 v371
  let c4_i32_204 : BitVec 32 := 4#32
  let c0_i32_207 : BitVec 32 := 0#32
  let v373 : BitVec 1 := Scalar.cmpi .sgt c4_i32_204 c0_i32_207
  let v374 : BitVec 32 := Scalar.extui v373
  let c0_i32_208 : BitVec 32 := 0#32
  let v375 : BitVec 1 := Scalar.cmpi .slt c4_i32_204 c0_i32_208
  let v376 : BitVec 32 := Scalar.extui v375
  let v377 : BitVec 32 := Scalar.subi v374 v376
  let v378 : BitVec 1 := Scalar.cmpi .ne v372 v377
  let v379 : BitVec 32 := Scalar.remsi v0 c4_i32_204
  let c0_i32_209 : BitVec 32 := 0#32
  let v380 : BitVec 1 := Scalar.cmpi .ne v379 c0_i32_209
  let v381 : BitVec 1 := Scalar.andi v378 v380
  let v367 : BitVec 32 := Scalar.divsi v0 c4_i32_204
  let c1_i32_210 : BitVec 32 := 1#32
  let v382 : BitVec 32 := Scalar.subi v367 c1_i32_210
  let v383 : BitVec 32 := Scalar.select v381 v382 v367
  let v384 : BitVec 32 := Scalar.muli c4_i32_211 v383
  let c1_i32_213 : BitVec 32 := 1#32
  let arg20 : BitVec 32 := Scf.iv v384 c1_i32_213 k0_t12
  let v401 : Index := Scalar.indexCast arg20
  let c128_217 : Index := 128#32
  let c0_218 : Index := 0#32
  ![v401.toNat, 128, 0]
def k0_off23 (i : grid0.Coords) (k0_t12 : Fin (k0_t12_loop i).trips) : Fin 3 → Nat :=
  let c4_i32_211 : BitVec 32 := 4#32
  let arg1 : BitVec 32 := BitVec.ofNat 32 (i 1).val
  let c1_i32 : BitVec 32 := 1#32
  let v0 : BitVec 32 := Scalar.addi arg1 c1_i32
  let c0_i32_205 : BitVec 32 := 0#32
  let v368 : BitVec 1 := Scalar.cmpi .sgt v0 c0_i32_205
  let v369 : BitVec 32 := Scalar.extui v368
  let c0_i32_206 : BitVec 32 := 0#32
  let v370 : BitVec 1 := Scalar.cmpi .slt v0 c0_i32_206
  let v371 : BitVec 32 := Scalar.extui v370
  let v372 : BitVec 32 := Scalar.subi v369 v371
  let c4_i32_204 : BitVec 32 := 4#32
  let c0_i32_207 : BitVec 32 := 0#32
  let v373 : BitVec 1 := Scalar.cmpi .sgt c4_i32_204 c0_i32_207
  let v374 : BitVec 32 := Scalar.extui v373
  let c0_i32_208 : BitVec 32 := 0#32
  let v375 : BitVec 1 := Scalar.cmpi .slt c4_i32_204 c0_i32_208
  let v376 : BitVec 32 := Scalar.extui v375
  let v377 : BitVec 32 := Scalar.subi v374 v376
  let v378 : BitVec 1 := Scalar.cmpi .ne v372 v377
  let v379 : BitVec 32 := Scalar.remsi v0 c4_i32_204
  let c0_i32_209 : BitVec 32 := 0#32
  let v380 : BitVec 1 := Scalar.cmpi .ne v379 c0_i32_209
  let v381 : BitVec 1 := Scalar.andi v378 v380
  let v367 : BitVec 32 := Scalar.divsi v0 c4_i32_204
  let c1_i32_210 : BitVec 32 := 1#32
  let v382 : BitVec 32 := Scalar.subi v367 c1_i32_210
  let v383 : BitVec 32 := Scalar.select v381 v382 v367
  let v384 : BitVec 32 := Scalar.muli c4_i32_211 v383
  let c1_i32_213 : BitVec 32 := 1#32
  let arg20 : BitVec 32 := Scf.iv v384 c1_i32_213 k0_t12
  let v415 : Index := Scalar.indexCast arg20
  let c128_222 : Index := 128#32
  let c128_223 : Index := 128#32
  ![v415.toNat, 128, 128]
@[reducible] def k0_t13_loop (i : grid0.Coords) : Scf.Loop 32 :=
  let c4_i32_211 : BitVec 32 := 4#32
  let arg1 : BitVec 32 := BitVec.ofNat 32 (i 1).val
  let c1_i32 : BitVec 32 := 1#32
  let v0 : BitVec 32 := Scalar.addi arg1 c1_i32
  let c0_i32_205 : BitVec 32 := 0#32
  let v368 : BitVec 1 := Scalar.cmpi .sgt v0 c0_i32_205
  let v369 : BitVec 32 := Scalar.extui v368
  let c0_i32_206 : BitVec 32 := 0#32
  let v370 : BitVec 1 := Scalar.cmpi .slt v0 c0_i32_206
  let v371 : BitVec 32 := Scalar.extui v370
  let v372 : BitVec 32 := Scalar.subi v369 v371
  let c4_i32_204 : BitVec 32 := 4#32
  let c0_i32_207 : BitVec 32 := 0#32
  let v373 : BitVec 1 := Scalar.cmpi .sgt c4_i32_204 c0_i32_207
  let v374 : BitVec 32 := Scalar.extui v373
  let c0_i32_208 : BitVec 32 := 0#32
  let v375 : BitVec 1 := Scalar.cmpi .slt c4_i32_204 c0_i32_208
  let v376 : BitVec 32 := Scalar.extui v375
  let v377 : BitVec 32 := Scalar.subi v374 v376
  let v378 : BitVec 1 := Scalar.cmpi .ne v372 v377
  let v379 : BitVec 32 := Scalar.remsi v0 c4_i32_204
  let c0_i32_209 : BitVec 32 := 0#32
  let v380 : BitVec 1 := Scalar.cmpi .ne v379 c0_i32_209
  let v381 : BitVec 1 := Scalar.andi v378 v380
  let v367 : BitVec 32 := Scalar.divsi v0 c4_i32_204
  let c1_i32_210 : BitVec 32 := 1#32
  let v382 : BitVec 32 := Scalar.subi v367 c1_i32_210
  let v383 : BitVec 32 := Scalar.select v381 v382 v367
  let v384 : BitVec 32 := Scalar.muli c4_i32_211 v383
  let v385 : BitVec 32 := Scalar.subi v0 v384
  let c1_i32_212 : BitVec 32 := 1#32
  let v387 : BitVec 32 := Scalar.divsi v385 c1_i32_212
  let v388 : BitVec 32 := Scalar.muli v387 c1_i32_212
  let v389 : BitVec 32 := Scalar.addi v384 v388
  let v386 : BitVec 32 := Scalar.addi v384 v385
  let c1_i32_214 : BitVec 32 := 1#32
  ⟨v389, v386, c1_i32_214⟩
def k0_off24 (i : grid0.Coords) (k0_t13 : Fin (k0_t13_loop i).trips) : Fin 3 → Nat :=
  let c4_i32_211 : BitVec 32 := 4#32
  let arg1 : BitVec 32 := BitVec.ofNat 32 (i 1).val
  let c1_i32 : BitVec 32 := 1#32
  let v0 : BitVec 32 := Scalar.addi arg1 c1_i32
  let c0_i32_205 : BitVec 32 := 0#32
  let v368 : BitVec 1 := Scalar.cmpi .sgt v0 c0_i32_205
  let v369 : BitVec 32 := Scalar.extui v368
  let c0_i32_206 : BitVec 32 := 0#32
  let v370 : BitVec 1 := Scalar.cmpi .slt v0 c0_i32_206
  let v371 : BitVec 32 := Scalar.extui v370
  let v372 : BitVec 32 := Scalar.subi v369 v371
  let c4_i32_204 : BitVec 32 := 4#32
  let c0_i32_207 : BitVec 32 := 0#32
  let v373 : BitVec 1 := Scalar.cmpi .sgt c4_i32_204 c0_i32_207
  let v374 : BitVec 32 := Scalar.extui v373
  let c0_i32_208 : BitVec 32 := 0#32
  let v375 : BitVec 1 := Scalar.cmpi .slt c4_i32_204 c0_i32_208
  let v376 : BitVec 32 := Scalar.extui v375
  let v377 : BitVec 32 := Scalar.subi v374 v376
  let v378 : BitVec 1 := Scalar.cmpi .ne v372 v377
  let v379 : BitVec 32 := Scalar.remsi v0 c4_i32_204
  let c0_i32_209 : BitVec 32 := 0#32
  let v380 : BitVec 1 := Scalar.cmpi .ne v379 c0_i32_209
  let v381 : BitVec 1 := Scalar.andi v378 v380
  let v367 : BitVec 32 := Scalar.divsi v0 c4_i32_204
  let c1_i32_210 : BitVec 32 := 1#32
  let v382 : BitVec 32 := Scalar.subi v367 c1_i32_210
  let v383 : BitVec 32 := Scalar.select v381 v382 v367
  let v384 : BitVec 32 := Scalar.muli c4_i32_211 v383
  let v385 : BitVec 32 := Scalar.subi v0 v384
  let c1_i32_212 : BitVec 32 := 1#32
  let v387 : BitVec 32 := Scalar.divsi v385 c1_i32_212
  let v388 : BitVec 32 := Scalar.muli v387 c1_i32_212
  let v389 : BitVec 32 := Scalar.addi v384 v388
  let c1_i32_214 : BitVec 32 := 1#32
  let arg20 : BitVec 32 := Scf.iv v389 c1_i32_214 k0_t13
  let v401 : Index := Scalar.indexCast arg20
  let c128_217 : Index := 128#32
  let c0_218 : Index := 0#32
  ![v401.toNat, 128, 0]
def k0_off25 (i : grid0.Coords) (k0_t13 : Fin (k0_t13_loop i).trips) : Fin 3 → Nat :=
  let c4_i32_211 : BitVec 32 := 4#32
  let arg1 : BitVec 32 := BitVec.ofNat 32 (i 1).val
  let c1_i32 : BitVec 32 := 1#32
  let v0 : BitVec 32 := Scalar.addi arg1 c1_i32
  let c0_i32_205 : BitVec 32 := 0#32
  let v368 : BitVec 1 := Scalar.cmpi .sgt v0 c0_i32_205
  let v369 : BitVec 32 := Scalar.extui v368
  let c0_i32_206 : BitVec 32 := 0#32
  let v370 : BitVec 1 := Scalar.cmpi .slt v0 c0_i32_206
  let v371 : BitVec 32 := Scalar.extui v370
  let v372 : BitVec 32 := Scalar.subi v369 v371
  let c4_i32_204 : BitVec 32 := 4#32
  let c0_i32_207 : BitVec 32 := 0#32
  let v373 : BitVec 1 := Scalar.cmpi .sgt c4_i32_204 c0_i32_207
  let v374 : BitVec 32 := Scalar.extui v373
  let c0_i32_208 : BitVec 32 := 0#32
  let v375 : BitVec 1 := Scalar.cmpi .slt c4_i32_204 c0_i32_208
  let v376 : BitVec 32 := Scalar.extui v375
  let v377 : BitVec 32 := Scalar.subi v374 v376
  let v378 : BitVec 1 := Scalar.cmpi .ne v372 v377
  let v379 : BitVec 32 := Scalar.remsi v0 c4_i32_204
  let c0_i32_209 : BitVec 32 := 0#32
  let v380 : BitVec 1 := Scalar.cmpi .ne v379 c0_i32_209
  let v381 : BitVec 1 := Scalar.andi v378 v380
  let v367 : BitVec 32 := Scalar.divsi v0 c4_i32_204
  let c1_i32_210 : BitVec 32 := 1#32
  let v382 : BitVec 32 := Scalar.subi v367 c1_i32_210
  let v383 : BitVec 32 := Scalar.select v381 v382 v367
  let v384 : BitVec 32 := Scalar.muli c4_i32_211 v383
  let v385 : BitVec 32 := Scalar.subi v0 v384
  let c1_i32_212 : BitVec 32 := 1#32
  let v387 : BitVec 32 := Scalar.divsi v385 c1_i32_212
  let v388 : BitVec 32 := Scalar.muli v387 c1_i32_212
  let v389 : BitVec 32 := Scalar.addi v384 v388
  let c1_i32_214 : BitVec 32 := 1#32
  let arg20 : BitVec 32 := Scf.iv v389 c1_i32_214 k0_t13
  let v415 : Index := Scalar.indexCast arg20
  let c128_222 : Index := 128#32
  let c128_223 : Index := 128#32
  ![v415.toNat, 128, 128]
@[reducible] def k0_t14_loop (i : grid0.Coords) : Scf.Loop 32 :=
  let c0_i32_174 : BitVec 32 := 0#32
  let arg1 : BitVec 32 := BitVec.ofNat 32 (i 1).val
  let c1_i32 : BitVec 32 := 1#32
  let v0 : BitVec 32 := Scalar.addi arg1 c1_i32
  let c8_i32 : BitVec 32 := 8#32
  let v283 : BitVec 32 := Scalar.addi v0 c8_i32
  let c1_i32_165 : BitVec 32 := 1#32
  let v284 : BitVec 32 := Scalar.subi v283 c1_i32_165
  let c0_i32_167 : BitVec 32 := 0#32
  let v286 : BitVec 1 := Scalar.cmpi .sgt v284 c0_i32_167
  let v287 : BitVec 32 := Scalar.extui v286
  let c0_i32_168 : BitVec 32 := 0#32
  let v288 : BitVec 1 := Scalar.cmpi .slt v284 c0_i32_168
  let v289 : BitVec 32 := Scalar.extui v288
  let v290 : BitVec 32 := Scalar.subi v287 v289
  let c8_i32_166 : BitVec 32 := 8#32
  let c0_i32_169 : BitVec 32 := 0#32
  let v291 : BitVec 1 := Scalar.cmpi .sgt c8_i32_166 c0_i32_169
  let v292 : BitVec 32 := Scalar.extui v291
  let c0_i32_170 : BitVec 32 := 0#32
  let v293 : BitVec 1 := Scalar.cmpi .slt c8_i32_166 c0_i32_170
  let v294 : BitVec 32 := Scalar.extui v293
  let v295 : BitVec 32 := Scalar.subi v292 v294
  let v296 : BitVec 1 := Scalar.cmpi .ne v290 v295
  let v297 : BitVec 32 := Scalar.remsi v284 c8_i32_166
  let c0_i32_171 : BitVec 32 := 0#32
  let v298 : BitVec 1 := Scalar.cmpi .ne v297 c0_i32_171
  let v299 : BitVec 1 := Scalar.andi v296 v298
  let v285 : BitVec 32 := Scalar.divsi v284 c8_i32_166
  let c1_i32_172 : BitVec 32 := 1#32
  let v300 : BitVec 32 := Scalar.subi v285 c1_i32_172
  let v301 : BitVec 32 := Scalar.select v299 v300 v285
  let v302 : BitVec 32 := Scalar.subi v301 c0_i32_174
  let c1_i32_175 : BitVec 32 := 1#32
  let v304 : BitVec 32 := Scalar.divsi v302 c1_i32_175
  let v305 : BitVec 32 := Scalar.muli v304 c1_i32_175
  let v306 : BitVec 32 := Scalar.addi c0_i32_174 v305
  let c1_i32_176 : BitVec 32 := 1#32
  ⟨c0_i32_174, v306, c1_i32_176⟩
def k0_off26 (i : grid0.Coords) (k0_t14 : Fin (k0_t14_loop i).trips) (c0_i32_315 : BitVec 32) : Fin 3 → Nat :=
  let c8_i32_314 : BitVec 32 := 8#32
  let c0_i32_174 : BitVec 32 := 0#32
  let c1_i32_176 : BitVec 32 := 1#32
  let arg17 : BitVec 32 := Scf.iv c0_i32_174 c1_i32_176 k0_t14
  let v613 : BitVec 32 := Scalar.muli c8_i32_314 arg17
  let v614 : BitVec 32 := Scalar.addi v613 c0_i32_315
  let arg1 : BitVec 32 := BitVec.ofNat 32 (i 1).val
  let c1_i32 : BitVec 32 := 1#32
  let v0 : BitVec 32 := Scalar.addi arg1 c1_i32
  let c1_i32_316 : BitVec 32 := 1#32
  let v615 : BitVec 32 := Scalar.subi v0 c1_i32_316
  let v616 : BitVec 32 := Scalar.minsi v614 v615
  let v617 : Index := Scalar.indexCast v616
  let c0_317 : Index := 0#32
  let c0_318 : Index := 0#32
  ![v617.toNat, 0, 0]
def k0_off27 (i : grid0.Coords) (k0_t14 : Fin (k0_t14_loop i).trips) (c0_i32_315 : BitVec 32) : Fin 3 → Nat :=
  let c8_i32_314 : BitVec 32 := 8#32
  let c0_i32_174 : BitVec 32 := 0#32
  let c1_i32_176 : BitVec 32 := 1#32
  let arg17 : BitVec 32 := Scf.iv c0_i32_174 c1_i32_176 k0_t14
  let v613 : BitVec 32 := Scalar.muli c8_i32_314 arg17
  let v614 : BitVec 32 := Scalar.addi v613 c0_i32_315
  let arg1 : BitVec 32 := BitVec.ofNat 32 (i 1).val
  let c1_i32 : BitVec 32 := 1#32
  let v0 : BitVec 32 := Scalar.addi arg1 c1_i32
  let c1_i32_316 : BitVec 32 := 1#32
  let v615 : BitVec 32 := Scalar.subi v0 c1_i32_316
  let v616 : BitVec 32 := Scalar.minsi v614 v615
  let v633 : Index := Scalar.indexCast v616
  let c0_323 : Index := 0#32
  let c0_324 : Index := 0#32
  ![v633.toNat, 0, 0]
@[reducible] def k0_t15_loop (i : grid0.Coords) : Scf.Loop 32 :=
  let c0_i32_174 : BitVec 32 := 0#32
  let arg1 : BitVec 32 := BitVec.ofNat 32 (i 1).val
  let c1_i32 : BitVec 32 := 1#32
  let v0 : BitVec 32 := Scalar.addi arg1 c1_i32
  let c8_i32 : BitVec 32 := 8#32
  let v283 : BitVec 32 := Scalar.addi v0 c8_i32
  let c1_i32_165 : BitVec 32 := 1#32
  let v284 : BitVec 32 := Scalar.subi v283 c1_i32_165
  let c0_i32_167 : BitVec 32 := 0#32
  let v286 : BitVec 1 := Scalar.cmpi .sgt v284 c0_i32_167
  let v287 : BitVec 32 := Scalar.extui v286
  let c0_i32_168 : BitVec 32 := 0#32
  let v288 : BitVec 1 := Scalar.cmpi .slt v284 c0_i32_168
  let v289 : BitVec 32 := Scalar.extui v288
  let v290 : BitVec 32 := Scalar.subi v287 v289
  let c8_i32_166 : BitVec 32 := 8#32
  let c0_i32_169 : BitVec 32 := 0#32
  let v291 : BitVec 1 := Scalar.cmpi .sgt c8_i32_166 c0_i32_169
  let v292 : BitVec 32 := Scalar.extui v291
  let c0_i32_170 : BitVec 32 := 0#32
  let v293 : BitVec 1 := Scalar.cmpi .slt c8_i32_166 c0_i32_170
  let v294 : BitVec 32 := Scalar.extui v293
  let v295 : BitVec 32 := Scalar.subi v292 v294
  let v296 : BitVec 1 := Scalar.cmpi .ne v290 v295
  let v297 : BitVec 32 := Scalar.remsi v284 c8_i32_166
  let c0_i32_171 : BitVec 32 := 0#32
  let v298 : BitVec 1 := Scalar.cmpi .ne v297 c0_i32_171
  let v299 : BitVec 1 := Scalar.andi v296 v298
  let v285 : BitVec 32 := Scalar.divsi v284 c8_i32_166
  let c1_i32_172 : BitVec 32 := 1#32
  let v300 : BitVec 32 := Scalar.subi v285 c1_i32_172
  let v301 : BitVec 32 := Scalar.select v299 v300 v285
  let v302 : BitVec 32 := Scalar.subi v301 c0_i32_174
  let c1_i32_175 : BitVec 32 := 1#32
  let v304 : BitVec 32 := Scalar.divsi v302 c1_i32_175
  let v305 : BitVec 32 := Scalar.muli v304 c1_i32_175
  let v306 : BitVec 32 := Scalar.addi c0_i32_174 v305
  let v303 : BitVec 32 := Scalar.addi c0_i32_174 v302
  let c1_i32_177 : BitVec 32 := 1#32
  ⟨v306, v303, c1_i32_177⟩
def k0_off28 (i : grid0.Coords) (k0_t15 : Fin (k0_t15_loop i).trips) (c0_i32_315 : BitVec 32) : Fin 3 → Nat :=
  let c8_i32_314 : BitVec 32 := 8#32
  let c0_i32_174 : BitVec 32 := 0#32
  let arg1 : BitVec 32 := BitVec.ofNat 32 (i 1).val
  let c1_i32 : BitVec 32 := 1#32
  let v0 : BitVec 32 := Scalar.addi arg1 c1_i32
  let c8_i32 : BitVec 32 := 8#32
  let v283 : BitVec 32 := Scalar.addi v0 c8_i32
  let c1_i32_165 : BitVec 32 := 1#32
  let v284 : BitVec 32 := Scalar.subi v283 c1_i32_165
  let c0_i32_167 : BitVec 32 := 0#32
  let v286 : BitVec 1 := Scalar.cmpi .sgt v284 c0_i32_167
  let v287 : BitVec 32 := Scalar.extui v286
  let c0_i32_168 : BitVec 32 := 0#32
  let v288 : BitVec 1 := Scalar.cmpi .slt v284 c0_i32_168
  let v289 : BitVec 32 := Scalar.extui v288
  let v290 : BitVec 32 := Scalar.subi v287 v289
  let c8_i32_166 : BitVec 32 := 8#32
  let c0_i32_169 : BitVec 32 := 0#32
  let v291 : BitVec 1 := Scalar.cmpi .sgt c8_i32_166 c0_i32_169
  let v292 : BitVec 32 := Scalar.extui v291
  let c0_i32_170 : BitVec 32 := 0#32
  let v293 : BitVec 1 := Scalar.cmpi .slt c8_i32_166 c0_i32_170
  let v294 : BitVec 32 := Scalar.extui v293
  let v295 : BitVec 32 := Scalar.subi v292 v294
  let v296 : BitVec 1 := Scalar.cmpi .ne v290 v295
  let v297 : BitVec 32 := Scalar.remsi v284 c8_i32_166
  let c0_i32_171 : BitVec 32 := 0#32
  let v298 : BitVec 1 := Scalar.cmpi .ne v297 c0_i32_171
  let v299 : BitVec 1 := Scalar.andi v296 v298
  let v285 : BitVec 32 := Scalar.divsi v284 c8_i32_166
  let c1_i32_172 : BitVec 32 := 1#32
  let v300 : BitVec 32 := Scalar.subi v285 c1_i32_172
  let v301 : BitVec 32 := Scalar.select v299 v300 v285
  let v302 : BitVec 32 := Scalar.subi v301 c0_i32_174
  let c1_i32_175 : BitVec 32 := 1#32
  let v304 : BitVec 32 := Scalar.divsi v302 c1_i32_175
  let v305 : BitVec 32 := Scalar.muli v304 c1_i32_175
  let v306 : BitVec 32 := Scalar.addi c0_i32_174 v305
  let c1_i32_177 : BitVec 32 := 1#32
  let arg17 : BitVec 32 := Scf.iv v306 c1_i32_177 k0_t15
  let v613 : BitVec 32 := Scalar.muli c8_i32_314 arg17
  let v614 : BitVec 32 := Scalar.addi v613 c0_i32_315
  let c1_i32_316 : BitVec 32 := 1#32
  let v615 : BitVec 32 := Scalar.subi v0 c1_i32_316
  let v616 : BitVec 32 := Scalar.minsi v614 v615
  let v617 : Index := Scalar.indexCast v616
  let c0_317 : Index := 0#32
  let c0_318 : Index := 0#32
  ![v617.toNat, 0, 0]
def k0_off29 (i : grid0.Coords) (k0_t15 : Fin (k0_t15_loop i).trips) (c0_i32_315 : BitVec 32) : Fin 3 → Nat :=
  let c8_i32_314 : BitVec 32 := 8#32
  let c0_i32_174 : BitVec 32 := 0#32
  let arg1 : BitVec 32 := BitVec.ofNat 32 (i 1).val
  let c1_i32 : BitVec 32 := 1#32
  let v0 : BitVec 32 := Scalar.addi arg1 c1_i32
  let c8_i32 : BitVec 32 := 8#32
  let v283 : BitVec 32 := Scalar.addi v0 c8_i32
  let c1_i32_165 : BitVec 32 := 1#32
  let v284 : BitVec 32 := Scalar.subi v283 c1_i32_165
  let c0_i32_167 : BitVec 32 := 0#32
  let v286 : BitVec 1 := Scalar.cmpi .sgt v284 c0_i32_167
  let v287 : BitVec 32 := Scalar.extui v286
  let c0_i32_168 : BitVec 32 := 0#32
  let v288 : BitVec 1 := Scalar.cmpi .slt v284 c0_i32_168
  let v289 : BitVec 32 := Scalar.extui v288
  let v290 : BitVec 32 := Scalar.subi v287 v289
  let c8_i32_166 : BitVec 32 := 8#32
  let c0_i32_169 : BitVec 32 := 0#32
  let v291 : BitVec 1 := Scalar.cmpi .sgt c8_i32_166 c0_i32_169
  let v292 : BitVec 32 := Scalar.extui v291
  let c0_i32_170 : BitVec 32 := 0#32
  let v293 : BitVec 1 := Scalar.cmpi .slt c8_i32_166 c0_i32_170
  let v294 : BitVec 32 := Scalar.extui v293
  let v295 : BitVec 32 := Scalar.subi v292 v294
  let v296 : BitVec 1 := Scalar.cmpi .ne v290 v295
  let v297 : BitVec 32 := Scalar.remsi v284 c8_i32_166
  let c0_i32_171 : BitVec 32 := 0#32
  let v298 : BitVec 1 := Scalar.cmpi .ne v297 c0_i32_171
  let v299 : BitVec 1 := Scalar.andi v296 v298
  let v285 : BitVec 32 := Scalar.divsi v284 c8_i32_166
  let c1_i32_172 : BitVec 32 := 1#32
  let v300 : BitVec 32 := Scalar.subi v285 c1_i32_172
  let v301 : BitVec 32 := Scalar.select v299 v300 v285
  let v302 : BitVec 32 := Scalar.subi v301 c0_i32_174
  let c1_i32_175 : BitVec 32 := 1#32
  let v304 : BitVec 32 := Scalar.divsi v302 c1_i32_175
  let v305 : BitVec 32 := Scalar.muli v304 c1_i32_175
  let v306 : BitVec 32 := Scalar.addi c0_i32_174 v305
  let c1_i32_177 : BitVec 32 := 1#32
  let arg17 : BitVec 32 := Scf.iv v306 c1_i32_177 k0_t15
  let v613 : BitVec 32 := Scalar.muli c8_i32_314 arg17
  let v614 : BitVec 32 := Scalar.addi v613 c0_i32_315
  let c1_i32_316 : BitVec 32 := 1#32
  let v615 : BitVec 32 := Scalar.subi v0 c1_i32_316
  let v616 : BitVec 32 := Scalar.minsi v614 v615
  let v633 : Index := Scalar.indexCast v616
  let c0_323 : Index := 0#32
  let c0_324 : Index := 0#32
  ![v633.toNat, 0, 0]
@[reducible] def k0_t16_loop (i : grid0.Coords) : Scf.Loop 32 :=
  let c0_i32_179 : BitVec 32 := 0#32
  let arg1 : BitVec 32 := BitVec.ofNat 32 (i 1).val
  let c1_i32 : BitVec 32 := 1#32
  let v0 : BitVec 32 := Scalar.addi arg1 c1_i32
  let v308 : BitVec 32 := Scalar.subi v0 c0_i32_179
  let c1_i32_180 : BitVec 32 := 1#32
  let v310 : BitVec 32 := Scalar.divsi v308 c1_i32_180
  let v311 : BitVec 32 := Scalar.muli v310 c1_i32_180
  let v312 : BitVec 32 := Scalar.addi c0_i32_179 v311
  let c1_i32_181 : BitVec 32 := 1#32
  ⟨c0_i32_179, v312, c1_i32_181⟩
def k0_off30 (i : grid0.Coords) (k0_t16 : Fin (k0_t16_loop i).trips) : Fin 3 → Nat :=
  let c0_i32_179 : BitVec 32 := 0#32
  let c1_i32_181 : BitVec 32 := 1#32
  let arg17 : BitVec 32 := Scf.iv c0_i32_179 c1_i32_181 k0_t16
  let v613 : Index := Scalar.indexCast arg17
  let c0_314 : Index := 0#32
  let c0_315 : Index := 0#32
  ![v613.toNat, 0, 0]
@[reducible] def k0_t17_loop (i : grid0.Coords) : Scf.Loop 32 :=
  let c0_i32_179 : BitVec 32 := 0#32
  let arg1 : BitVec 32 := BitVec.ofNat 32 (i 1).val
  let c1_i32 : BitVec 32 := 1#32
  let v0 : BitVec 32 := Scalar.addi arg1 c1_i32
  let v308 : BitVec 32 := Scalar.subi v0 c0_i32_179
  let c1_i32_180 : BitVec 32 := 1#32
  let v310 : BitVec 32 := Scalar.divsi v308 c1_i32_180
  let v311 : BitVec 32 := Scalar.muli v310 c1_i32_180
  let v312 : BitVec 32 := Scalar.addi c0_i32_179 v311
  let v309 : BitVec 32 := Scalar.addi c0_i32_179 v308
  let c1_i32_182 : BitVec 32 := 1#32
  ⟨v312, v309, c1_i32_182⟩
def k0_off31 (i : grid0.Coords) (k0_t17 : Fin (k0_t17_loop i).trips) : Fin 3 → Nat :=
  let c0_i32_179 : BitVec 32 := 0#32
  let arg1 : BitVec 32 := BitVec.ofNat 32 (i 1).val
  let c1_i32 : BitVec 32 := 1#32
  let v0 : BitVec 32 := Scalar.addi arg1 c1_i32
  let v308 : BitVec 32 := Scalar.subi v0 c0_i32_179
  let c1_i32_180 : BitVec 32 := 1#32
  let v310 : BitVec 32 := Scalar.divsi v308 c1_i32_180
  let v311 : BitVec 32 := Scalar.muli v310 c1_i32_180
  let v312 : BitVec 32 := Scalar.addi c0_i32_179 v311
  let c1_i32_182 : BitVec 32 := 1#32
  let arg17 : BitVec 32 := Scf.iv v312 c1_i32_182 k0_t17
  let v613 : Index := Scalar.indexCast arg17
  let c0_314 : Index := 0#32
  let c0_315 : Index := 0#32
  ![v613.toNat, 0, 0]
@[reducible] def k0_t18_loop (i : grid0.Coords) : Scf.Loop 32 :=
  let c0_i32_192 : BitVec 32 := 0#32
  let arg1 : BitVec 32 := BitVec.ofNat 32 (i 1).val
  let c1_i32 : BitVec 32 := 1#32
  let v0 : BitVec 32 := Scalar.addi arg1 c1_i32
  let c0_i32_186 : BitVec 32 := 0#32
  let v321 : BitVec 1 := Scalar.cmpi .sgt v0 c0_i32_186
  let v322 : BitVec 32 := Scalar.extui v321
  let c0_i32_187 : BitVec 32 := 0#32
  let v323 : BitVec 1 := Scalar.cmpi .slt v0 c0_i32_187
  let v324 : BitVec 32 := Scalar.extui v323
  let v325 : BitVec 32 := Scalar.subi v322 v324
  let c4_i32_185 : BitVec 32 := 4#32
  let c0_i32_188 : BitVec 32 := 0#32
  let v326 : BitVec 1 := Scalar.cmpi .sgt c4_i32_185 c0_i32_188
  let v327 : BitVec 32 := Scalar.extui v326
  let c0_i32_189 : BitVec 32 := 0#32
  let v328 : BitVec 1 := Scalar.cmpi .slt c4_i32_185 c0_i32_189
  let v329 : BitVec 32 := Scalar.extui v328
  let v330 : BitVec 32 := Scalar.subi v327 v329
  let v331 : BitVec 1 := Scalar.cmpi .ne v325 v330
  let v332 : BitVec 32 := Scalar.remsi v0 c4_i32_185
  let c0_i32_190 : BitVec 32 := 0#32
  let v333 : BitVec 1 := Scalar.cmpi .ne v332 c0_i32_190
  let v334 : BitVec 1 := Scalar.andi v331 v333
  let v320 : BitVec 32 := Scalar.divsi v0 c4_i32_185
  let c1_i32_191 : BitVec 32 := 1#32
  let v335 : BitVec 32 := Scalar.subi v320 c1_i32_191
  let v336 : BitVec 32 := Scalar.select v334 v335 v320
  let v337 : BitVec 32 := Scalar.subi v336 c0_i32_192
  let c1_i32_193 : BitVec 32 := 1#32
  let v339 : BitVec 32 := Scalar.divsi v337 c1_i32_193
  let v340 : BitVec 32 := Scalar.muli v339 c1_i32_193
  let v341 : BitVec 32 := Scalar.addi c0_i32_192 v340
  let c1_i32_194 : BitVec 32 := 1#32
  ⟨c0_i32_192, v341, c1_i32_194⟩
def k0_off32 (i : grid0.Coords) (k0_t18 : Fin (k0_t18_loop i).trips) (c0_i32_315 : BitVec 32) : Fin 3 → Nat :=
  let c4_i32_314 : BitVec 32 := 4#32
  let c0_i32_192 : BitVec 32 := 0#32
  let c1_i32_194 : BitVec 32 := 1#32
  let arg17 : BitVec 32 := Scf.iv c0_i32_192 c1_i32_194 k0_t18
  let v613 : BitVec 32 := Scalar.muli c4_i32_314 arg17
  let v614 : BitVec 32 := Scalar.addi v613 c0_i32_315
  let v615 : Index := Scalar.indexCast v614
  let c0_316 : Index := 0#32
  let c0_317 : Index := 0#32
  ![v615.toNat, 0, 0]
@[reducible] def k0_t19_loop (i : grid0.Coords) : Scf.Loop 32 :=
  let c0_i32_192 : BitVec 32 := 0#32
  let arg1 : BitVec 32 := BitVec.ofNat 32 (i 1).val
  let c1_i32 : BitVec 32 := 1#32
  let v0 : BitVec 32 := Scalar.addi arg1 c1_i32
  let c0_i32_186 : BitVec 32 := 0#32
  let v321 : BitVec 1 := Scalar.cmpi .sgt v0 c0_i32_186
  let v322 : BitVec 32 := Scalar.extui v321
  let c0_i32_187 : BitVec 32 := 0#32
  let v323 : BitVec 1 := Scalar.cmpi .slt v0 c0_i32_187
  let v324 : BitVec 32 := Scalar.extui v323
  let v325 : BitVec 32 := Scalar.subi v322 v324
  let c4_i32_185 : BitVec 32 := 4#32
  let c0_i32_188 : BitVec 32 := 0#32
  let v326 : BitVec 1 := Scalar.cmpi .sgt c4_i32_185 c0_i32_188
  let v327 : BitVec 32 := Scalar.extui v326
  let c0_i32_189 : BitVec 32 := 0#32
  let v328 : BitVec 1 := Scalar.cmpi .slt c4_i32_185 c0_i32_189
  let v329 : BitVec 32 := Scalar.extui v328
  let v330 : BitVec 32 := Scalar.subi v327 v329
  let v331 : BitVec 1 := Scalar.cmpi .ne v325 v330
  let v332 : BitVec 32 := Scalar.remsi v0 c4_i32_185
  let c0_i32_190 : BitVec 32 := 0#32
  let v333 : BitVec 1 := Scalar.cmpi .ne v332 c0_i32_190
  let v334 : BitVec 1 := Scalar.andi v331 v333
  let v320 : BitVec 32 := Scalar.divsi v0 c4_i32_185
  let c1_i32_191 : BitVec 32 := 1#32
  let v335 : BitVec 32 := Scalar.subi v320 c1_i32_191
  let v336 : BitVec 32 := Scalar.select v334 v335 v320
  let v337 : BitVec 32 := Scalar.subi v336 c0_i32_192
  let c1_i32_193 : BitVec 32 := 1#32
  let v339 : BitVec 32 := Scalar.divsi v337 c1_i32_193
  let v340 : BitVec 32 := Scalar.muli v339 c1_i32_193
  let v341 : BitVec 32 := Scalar.addi c0_i32_192 v340
  let v338 : BitVec 32 := Scalar.addi c0_i32_192 v337
  let c1_i32_195 : BitVec 32 := 1#32
  ⟨v341, v338, c1_i32_195⟩
def k0_off33 (i : grid0.Coords) (k0_t19 : Fin (k0_t19_loop i).trips) (c0_i32_315 : BitVec 32) : Fin 3 → Nat :=
  let c4_i32_314 : BitVec 32 := 4#32
  let c0_i32_192 : BitVec 32 := 0#32
  let arg1 : BitVec 32 := BitVec.ofNat 32 (i 1).val
  let c1_i32 : BitVec 32 := 1#32
  let v0 : BitVec 32 := Scalar.addi arg1 c1_i32
  let c0_i32_186 : BitVec 32 := 0#32
  let v321 : BitVec 1 := Scalar.cmpi .sgt v0 c0_i32_186
  let v322 : BitVec 32 := Scalar.extui v321
  let c0_i32_187 : BitVec 32 := 0#32
  let v323 : BitVec 1 := Scalar.cmpi .slt v0 c0_i32_187
  let v324 : BitVec 32 := Scalar.extui v323
  let v325 : BitVec 32 := Scalar.subi v322 v324
  let c4_i32_185 : BitVec 32 := 4#32
  let c0_i32_188 : BitVec 32 := 0#32
  let v326 : BitVec 1 := Scalar.cmpi .sgt c4_i32_185 c0_i32_188
  let v327 : BitVec 32 := Scalar.extui v326
  let c0_i32_189 : BitVec 32 := 0#32
  let v328 : BitVec 1 := Scalar.cmpi .slt c4_i32_185 c0_i32_189
  let v329 : BitVec 32 := Scalar.extui v328
  let v330 : BitVec 32 := Scalar.subi v327 v329
  let v331 : BitVec 1 := Scalar.cmpi .ne v325 v330
  let v332 : BitVec 32 := Scalar.remsi v0 c4_i32_185
  let c0_i32_190 : BitVec 32 := 0#32
  let v333 : BitVec 1 := Scalar.cmpi .ne v332 c0_i32_190
  let v334 : BitVec 1 := Scalar.andi v331 v333
  let v320 : BitVec 32 := Scalar.divsi v0 c4_i32_185
  let c1_i32_191 : BitVec 32 := 1#32
  let v335 : BitVec 32 := Scalar.subi v320 c1_i32_191
  let v336 : BitVec 32 := Scalar.select v334 v335 v320
  let v337 : BitVec 32 := Scalar.subi v336 c0_i32_192
  let c1_i32_193 : BitVec 32 := 1#32
  let v339 : BitVec 32 := Scalar.divsi v337 c1_i32_193
  let v340 : BitVec 32 := Scalar.muli v339 c1_i32_193
  let v341 : BitVec 32 := Scalar.addi c0_i32_192 v340
  let c1_i32_195 : BitVec 32 := 1#32
  let arg17 : BitVec 32 := Scf.iv v341 c1_i32_195 k0_t19
  let v613 : BitVec 32 := Scalar.muli c4_i32_314 arg17
  let v614 : BitVec 32 := Scalar.addi v613 c0_i32_315
  let v615 : Index := Scalar.indexCast v614
  let c0_316 : Index := 0#32
  let c0_317 : Index := 0#32
  ![v615.toNat, 0, 0]
@[reducible] def k0_t20_loop (i : grid0.Coords) : Scf.Loop 32 :=
  let c4_i32_203 : BitVec 32 := 4#32
  let arg1 : BitVec 32 := BitVec.ofNat 32 (i 1).val
  let c1_i32 : BitVec 32 := 1#32
  let v0 : BitVec 32 := Scalar.addi arg1 c1_i32
  let c0_i32_197 : BitVec 32 := 0#32
  let v345 : BitVec 1 := Scalar.cmpi .sgt v0 c0_i32_197
  let v346 : BitVec 32 := Scalar.extui v345
  let c0_i32_198 : BitVec 32 := 0#32
  let v347 : BitVec 1 := Scalar.cmpi .slt v0 c0_i32_198
  let v348 : BitVec 32 := Scalar.extui v347
  let v349 : BitVec 32 := Scalar.subi v346 v348
  let c4_i32_196 : BitVec 32 := 4#32
  let c0_i32_199 : BitVec 32 := 0#32
  let v350 : BitVec 1 := Scalar.cmpi .sgt c4_i32_196 c0_i32_199
  let v351 : BitVec 32 := Scalar.extui v350
  let c0_i32_200 : BitVec 32 := 0#32
  let v352 : BitVec 1 := Scalar.cmpi .slt c4_i32_196 c0_i32_200
  let v353 : BitVec 32 := Scalar.extui v352
  let v354 : BitVec 32 := Scalar.subi v351 v353
  let v355 : BitVec 1 := Scalar.cmpi .ne v349 v354
  let v356 : BitVec 32 := Scalar.remsi v0 c4_i32_196
  let c0_i32_201 : BitVec 32 := 0#32
  let v357 : BitVec 1 := Scalar.cmpi .ne v356 c0_i32_201
  let v358 : BitVec 1 := Scalar.andi v355 v357
  let v344 : BitVec 32 := Scalar.divsi v0 c4_i32_196
  let c1_i32_202 : BitVec 32 := 1#32
  let v359 : BitVec 32 := Scalar.subi v344 c1_i32_202
  let v360 : BitVec 32 := Scalar.select v358 v359 v344
  let v361 : BitVec 32 := Scalar.muli c4_i32_203 v360
  let v362 : BitVec 32 := Scalar.subi v0 v361
  let c1_i32_204 : BitVec 32 := 1#32
  let v364 : BitVec 32 := Scalar.divsi v362 c1_i32_204
  let v365 : BitVec 32 := Scalar.muli v364 c1_i32_204
  let v366 : BitVec 32 := Scalar.addi v361 v365
  let c1_i32_205 : BitVec 32 := 1#32
  ⟨v361, v366, c1_i32_205⟩
def k0_off34 (i : grid0.Coords) (k0_t20 : Fin (k0_t20_loop i).trips) : Fin 3 → Nat :=
  let c4_i32_203 : BitVec 32 := 4#32
  let arg1 : BitVec 32 := BitVec.ofNat 32 (i 1).val
  let c1_i32 : BitVec 32 := 1#32
  let v0 : BitVec 32 := Scalar.addi arg1 c1_i32
  let c0_i32_197 : BitVec 32 := 0#32
  let v345 : BitVec 1 := Scalar.cmpi .sgt v0 c0_i32_197
  let v346 : BitVec 32 := Scalar.extui v345
  let c0_i32_198 : BitVec 32 := 0#32
  let v347 : BitVec 1 := Scalar.cmpi .slt v0 c0_i32_198
  let v348 : BitVec 32 := Scalar.extui v347
  let v349 : BitVec 32 := Scalar.subi v346 v348
  let c4_i32_196 : BitVec 32 := 4#32
  let c0_i32_199 : BitVec 32 := 0#32
  let v350 : BitVec 1 := Scalar.cmpi .sgt c4_i32_196 c0_i32_199
  let v351 : BitVec 32 := Scalar.extui v350
  let c0_i32_200 : BitVec 32 := 0#32
  let v352 : BitVec 1 := Scalar.cmpi .slt c4_i32_196 c0_i32_200
  let v353 : BitVec 32 := Scalar.extui v352
  let v354 : BitVec 32 := Scalar.subi v351 v353
  let v355 : BitVec 1 := Scalar.cmpi .ne v349 v354
  let v356 : BitVec 32 := Scalar.remsi v0 c4_i32_196
  let c0_i32_201 : BitVec 32 := 0#32
  let v357 : BitVec 1 := Scalar.cmpi .ne v356 c0_i32_201
  let v358 : BitVec 1 := Scalar.andi v355 v357
  let v344 : BitVec 32 := Scalar.divsi v0 c4_i32_196
  let c1_i32_202 : BitVec 32 := 1#32
  let v359 : BitVec 32 := Scalar.subi v344 c1_i32_202
  let v360 : BitVec 32 := Scalar.select v358 v359 v344
  let v361 : BitVec 32 := Scalar.muli c4_i32_203 v360
  let c1_i32_205 : BitVec 32 := 1#32
  let arg17 : BitVec 32 := Scf.iv v361 c1_i32_205 k0_t20
  let v613 : Index := Scalar.indexCast arg17
  let c0_314 : Index := 0#32
  let c0_315 : Index := 0#32
  ![v613.toNat, 0, 0]
@[reducible] def k0_t21_loop (i : grid0.Coords) : Scf.Loop 32 :=
  let c4_i32_203 : BitVec 32 := 4#32
  let arg1 : BitVec 32 := BitVec.ofNat 32 (i 1).val
  let c1_i32 : BitVec 32 := 1#32
  let v0 : BitVec 32 := Scalar.addi arg1 c1_i32
  let c0_i32_197 : BitVec 32 := 0#32
  let v345 : BitVec 1 := Scalar.cmpi .sgt v0 c0_i32_197
  let v346 : BitVec 32 := Scalar.extui v345
  let c0_i32_198 : BitVec 32 := 0#32
  let v347 : BitVec 1 := Scalar.cmpi .slt v0 c0_i32_198
  let v348 : BitVec 32 := Scalar.extui v347
  let v349 : BitVec 32 := Scalar.subi v346 v348
  let c4_i32_196 : BitVec 32 := 4#32
  let c0_i32_199 : BitVec 32 := 0#32
  let v350 : BitVec 1 := Scalar.cmpi .sgt c4_i32_196 c0_i32_199
  let v351 : BitVec 32 := Scalar.extui v350
  let c0_i32_200 : BitVec 32 := 0#32
  let v352 : BitVec 1 := Scalar.cmpi .slt c4_i32_196 c0_i32_200
  let v353 : BitVec 32 := Scalar.extui v352
  let v354 : BitVec 32 := Scalar.subi v351 v353
  let v355 : BitVec 1 := Scalar.cmpi .ne v349 v354
  let v356 : BitVec 32 := Scalar.remsi v0 c4_i32_196
  let c0_i32_201 : BitVec 32 := 0#32
  let v357 : BitVec 1 := Scalar.cmpi .ne v356 c0_i32_201
  let v358 : BitVec 1 := Scalar.andi v355 v357
  let v344 : BitVec 32 := Scalar.divsi v0 c4_i32_196
  let c1_i32_202 : BitVec 32 := 1#32
  let v359 : BitVec 32 := Scalar.subi v344 c1_i32_202
  let v360 : BitVec 32 := Scalar.select v358 v359 v344
  let v361 : BitVec 32 := Scalar.muli c4_i32_203 v360
  let v362 : BitVec 32 := Scalar.subi v0 v361
  let c1_i32_204 : BitVec 32 := 1#32
  let v364 : BitVec 32 := Scalar.divsi v362 c1_i32_204
  let v365 : BitVec 32 := Scalar.muli v364 c1_i32_204
  let v366 : BitVec 32 := Scalar.addi v361 v365
  let v363 : BitVec 32 := Scalar.addi v361 v362
  let c1_i32_206 : BitVec 32 := 1#32
  ⟨v366, v363, c1_i32_206⟩
def k0_off35 (i : grid0.Coords) (k0_t21 : Fin (k0_t21_loop i).trips) : Fin 3 → Nat :=
  let c4_i32_203 : BitVec 32 := 4#32
  let arg1 : BitVec 32 := BitVec.ofNat 32 (i 1).val
  let c1_i32 : BitVec 32 := 1#32
  let v0 : BitVec 32 := Scalar.addi arg1 c1_i32
  let c0_i32_197 : BitVec 32 := 0#32
  let v345 : BitVec 1 := Scalar.cmpi .sgt v0 c0_i32_197
  let v346 : BitVec 32 := Scalar.extui v345
  let c0_i32_198 : BitVec 32 := 0#32
  let v347 : BitVec 1 := Scalar.cmpi .slt v0 c0_i32_198
  let v348 : BitVec 32 := Scalar.extui v347
  let v349 : BitVec 32 := Scalar.subi v346 v348
  let c4_i32_196 : BitVec 32 := 4#32
  let c0_i32_199 : BitVec 32 := 0#32
  let v350 : BitVec 1 := Scalar.cmpi .sgt c4_i32_196 c0_i32_199
  let v351 : BitVec 32 := Scalar.extui v350
  let c0_i32_200 : BitVec 32 := 0#32
  let v352 : BitVec 1 := Scalar.cmpi .slt c4_i32_196 c0_i32_200
  let v353 : BitVec 32 := Scalar.extui v352
  let v354 : BitVec 32 := Scalar.subi v351 v353
  let v355 : BitVec 1 := Scalar.cmpi .ne v349 v354
  let v356 : BitVec 32 := Scalar.remsi v0 c4_i32_196
  let c0_i32_201 : BitVec 32 := 0#32
  let v357 : BitVec 1 := Scalar.cmpi .ne v356 c0_i32_201
  let v358 : BitVec 1 := Scalar.andi v355 v357
  let v344 : BitVec 32 := Scalar.divsi v0 c4_i32_196
  let c1_i32_202 : BitVec 32 := 1#32
  let v359 : BitVec 32 := Scalar.subi v344 c1_i32_202
  let v360 : BitVec 32 := Scalar.select v358 v359 v344
  let v361 : BitVec 32 := Scalar.muli c4_i32_203 v360
  let v362 : BitVec 32 := Scalar.subi v0 v361
  let c1_i32_204 : BitVec 32 := 1#32
  let v364 : BitVec 32 := Scalar.divsi v362 c1_i32_204
  let v365 : BitVec 32 := Scalar.muli v364 c1_i32_204
  let v366 : BitVec 32 := Scalar.addi v361 v365
  let c1_i32_206 : BitVec 32 := 1#32
  let arg17 : BitVec 32 := Scf.iv v366 c1_i32_206 k0_t21
  let v613 : Index := Scalar.indexCast arg17
  let c0_314 : Index := 0#32
  let c0_315 : Index := 0#32
  ![v613.toNat, 0, 0]
@[reducible] def k0_t22_loop (i : grid0.Coords) : Scf.Loop 32 :=
  let c0_i32_215 : BitVec 32 := 0#32
  let arg1 : BitVec 32 := BitVec.ofNat 32 (i 1).val
  let c1_i32 : BitVec 32 := 1#32
  let v0 : BitVec 32 := Scalar.addi arg1 c1_i32
  let c0_i32_209 : BitVec 32 := 0#32
  let v372 : BitVec 1 := Scalar.cmpi .sgt v0 c0_i32_209
  let v373 : BitVec 32 := Scalar.extui v372
  let c0_i32_210 : BitVec 32 := 0#32
  let v374 : BitVec 1 := Scalar.cmpi .slt v0 c0_i32_210
  let v375 : BitVec 32 := Scalar.extui v374
  let v376 : BitVec 32 := Scalar.subi v373 v375
  let c4_i32_208 : BitVec 32 := 4#32
  let c0_i32_211 : BitVec 32 := 0#32
  let v377 : BitVec 1 := Scalar.cmpi .sgt c4_i32_208 c0_i32_211
  let v378 : BitVec 32 := Scalar.extui v377
  let c0_i32_212 : BitVec 32 := 0#32
  let v379 : BitVec 1 := Scalar.cmpi .slt c4_i32_208 c0_i32_212
  let v380 : BitVec 32 := Scalar.extui v379
  let v381 : BitVec 32 := Scalar.subi v378 v380
  let v382 : BitVec 1 := Scalar.cmpi .ne v376 v381
  let v383 : BitVec 32 := Scalar.remsi v0 c4_i32_208
  let c0_i32_213 : BitVec 32 := 0#32
  let v384 : BitVec 1 := Scalar.cmpi .ne v383 c0_i32_213
  let v385 : BitVec 1 := Scalar.andi v382 v384
  let v371 : BitVec 32 := Scalar.divsi v0 c4_i32_208
  let c1_i32_214 : BitVec 32 := 1#32
  let v386 : BitVec 32 := Scalar.subi v371 c1_i32_214
  let v387 : BitVec 32 := Scalar.select v385 v386 v371
  let v388 : BitVec 32 := Scalar.subi v387 c0_i32_215
  let c1_i32_216 : BitVec 32 := 1#32
  let v390 : BitVec 32 := Scalar.divsi v388 c1_i32_216
  let v391 : BitVec 32 := Scalar.muli v390 c1_i32_216
  let v392 : BitVec 32 := Scalar.addi c0_i32_215 v391
  let c1_i32_217 : BitVec 32 := 1#32
  ⟨c0_i32_215, v392, c1_i32_217⟩
def k0_off36 (i : grid0.Coords) (k0_t22 : Fin (k0_t22_loop i).trips) (c0_i32_315 : BitVec 32) : Fin 3 → Nat :=
  let c4_i32_314 : BitVec 32 := 4#32
  let c0_i32_215 : BitVec 32 := 0#32
  let c1_i32_217 : BitVec 32 := 1#32
  let arg17 : BitVec 32 := Scf.iv c0_i32_215 c1_i32_217 k0_t22
  let v613 : BitVec 32 := Scalar.muli c4_i32_314 arg17
  let v614 : BitVec 32 := Scalar.addi v613 c0_i32_315
  let v615 : Index := Scalar.indexCast v614
  let c0_316 : Index := 0#32
  let c0_317 : Index := 0#32
  ![v615.toNat, 0, 0]
@[reducible] def k0_t23_loop (i : grid0.Coords) : Scf.Loop 32 :=
  let c0_i32_215 : BitVec 32 := 0#32
  let arg1 : BitVec 32 := BitVec.ofNat 32 (i 1).val
  let c1_i32 : BitVec 32 := 1#32
  let v0 : BitVec 32 := Scalar.addi arg1 c1_i32
  let c0_i32_209 : BitVec 32 := 0#32
  let v372 : BitVec 1 := Scalar.cmpi .sgt v0 c0_i32_209
  let v373 : BitVec 32 := Scalar.extui v372
  let c0_i32_210 : BitVec 32 := 0#32
  let v374 : BitVec 1 := Scalar.cmpi .slt v0 c0_i32_210
  let v375 : BitVec 32 := Scalar.extui v374
  let v376 : BitVec 32 := Scalar.subi v373 v375
  let c4_i32_208 : BitVec 32 := 4#32
  let c0_i32_211 : BitVec 32 := 0#32
  let v377 : BitVec 1 := Scalar.cmpi .sgt c4_i32_208 c0_i32_211
  let v378 : BitVec 32 := Scalar.extui v377
  let c0_i32_212 : BitVec 32 := 0#32
  let v379 : BitVec 1 := Scalar.cmpi .slt c4_i32_208 c0_i32_212
  let v380 : BitVec 32 := Scalar.extui v379
  let v381 : BitVec 32 := Scalar.subi v378 v380
  let v382 : BitVec 1 := Scalar.cmpi .ne v376 v381
  let v383 : BitVec 32 := Scalar.remsi v0 c4_i32_208
  let c0_i32_213 : BitVec 32 := 0#32
  let v384 : BitVec 1 := Scalar.cmpi .ne v383 c0_i32_213
  let v385 : BitVec 1 := Scalar.andi v382 v384
  let v371 : BitVec 32 := Scalar.divsi v0 c4_i32_208
  let c1_i32_214 : BitVec 32 := 1#32
  let v386 : BitVec 32 := Scalar.subi v371 c1_i32_214
  let v387 : BitVec 32 := Scalar.select v385 v386 v371
  let v388 : BitVec 32 := Scalar.subi v387 c0_i32_215
  let c1_i32_216 : BitVec 32 := 1#32
  let v390 : BitVec 32 := Scalar.divsi v388 c1_i32_216
  let v391 : BitVec 32 := Scalar.muli v390 c1_i32_216
  let v392 : BitVec 32 := Scalar.addi c0_i32_215 v391
  let v389 : BitVec 32 := Scalar.addi c0_i32_215 v388
  let c1_i32_218 : BitVec 32 := 1#32
  ⟨v392, v389, c1_i32_218⟩
def k0_off37 (i : grid0.Coords) (k0_t23 : Fin (k0_t23_loop i).trips) (c0_i32_315 : BitVec 32) : Fin 3 → Nat :=
  let c4_i32_314 : BitVec 32 := 4#32
  let c0_i32_215 : BitVec 32 := 0#32
  let arg1 : BitVec 32 := BitVec.ofNat 32 (i 1).val
  let c1_i32 : BitVec 32 := 1#32
  let v0 : BitVec 32 := Scalar.addi arg1 c1_i32
  let c0_i32_209 : BitVec 32 := 0#32
  let v372 : BitVec 1 := Scalar.cmpi .sgt v0 c0_i32_209
  let v373 : BitVec 32 := Scalar.extui v372
  let c0_i32_210 : BitVec 32 := 0#32
  let v374 : BitVec 1 := Scalar.cmpi .slt v0 c0_i32_210
  let v375 : BitVec 32 := Scalar.extui v374
  let v376 : BitVec 32 := Scalar.subi v373 v375
  let c4_i32_208 : BitVec 32 := 4#32
  let c0_i32_211 : BitVec 32 := 0#32
  let v377 : BitVec 1 := Scalar.cmpi .sgt c4_i32_208 c0_i32_211
  let v378 : BitVec 32 := Scalar.extui v377
  let c0_i32_212 : BitVec 32 := 0#32
  let v379 : BitVec 1 := Scalar.cmpi .slt c4_i32_208 c0_i32_212
  let v380 : BitVec 32 := Scalar.extui v379
  let v381 : BitVec 32 := Scalar.subi v378 v380
  let v382 : BitVec 1 := Scalar.cmpi .ne v376 v381
  let v383 : BitVec 32 := Scalar.remsi v0 c4_i32_208
  let c0_i32_213 : BitVec 32 := 0#32
  let v384 : BitVec 1 := Scalar.cmpi .ne v383 c0_i32_213
  let v385 : BitVec 1 := Scalar.andi v382 v384
  let v371 : BitVec 32 := Scalar.divsi v0 c4_i32_208
  let c1_i32_214 : BitVec 32 := 1#32
  let v386 : BitVec 32 := Scalar.subi v371 c1_i32_214
  let v387 : BitVec 32 := Scalar.select v385 v386 v371
  let v388 : BitVec 32 := Scalar.subi v387 c0_i32_215
  let c1_i32_216 : BitVec 32 := 1#32
  let v390 : BitVec 32 := Scalar.divsi v388 c1_i32_216
  let v391 : BitVec 32 := Scalar.muli v390 c1_i32_216
  let v392 : BitVec 32 := Scalar.addi c0_i32_215 v391
  let c1_i32_218 : BitVec 32 := 1#32
  let arg17 : BitVec 32 := Scf.iv v392 c1_i32_218 k0_t23
  let v613 : BitVec 32 := Scalar.muli c4_i32_314 arg17
  let v614 : BitVec 32 := Scalar.addi v613 c0_i32_315
  let v615 : Index := Scalar.indexCast v614
  let c0_316 : Index := 0#32
  let c0_317 : Index := 0#32
  ![v615.toNat, 0, 0]
@[reducible] def k0_t24_loop (i : grid0.Coords) : Scf.Loop 32 :=
  let c4_i32_226 : BitVec 32 := 4#32
  let arg1 : BitVec 32 := BitVec.ofNat 32 (i 1).val
  let c1_i32 : BitVec 32 := 1#32
  let v0 : BitVec 32 := Scalar.addi arg1 c1_i32
  let c0_i32_220 : BitVec 32 := 0#32
  let v396 : BitVec 1 := Scalar.cmpi .sgt v0 c0_i32_220
  let v397 : BitVec 32 := Scalar.extui v396
  let c0_i32_221 : BitVec 32 := 0#32
  let v398 : BitVec 1 := Scalar.cmpi .slt v0 c0_i32_221
  let v399 : BitVec 32 := Scalar.extui v398
  let v400 : BitVec 32 := Scalar.subi v397 v399
  let c4_i32_219 : BitVec 32 := 4#32
  let c0_i32_222 : BitVec 32 := 0#32
  let v401 : BitVec 1 := Scalar.cmpi .sgt c4_i32_219 c0_i32_222
  let v402 : BitVec 32 := Scalar.extui v401
  let c0_i32_223 : BitVec 32 := 0#32
  let v403 : BitVec 1 := Scalar.cmpi .slt c4_i32_219 c0_i32_223
  let v404 : BitVec 32 := Scalar.extui v403
  let v405 : BitVec 32 := Scalar.subi v402 v404
  let v406 : BitVec 1 := Scalar.cmpi .ne v400 v405
  let v407 : BitVec 32 := Scalar.remsi v0 c4_i32_219
  let c0_i32_224 : BitVec 32 := 0#32
  let v408 : BitVec 1 := Scalar.cmpi .ne v407 c0_i32_224
  let v409 : BitVec 1 := Scalar.andi v406 v408
  let v395 : BitVec 32 := Scalar.divsi v0 c4_i32_219
  let c1_i32_225 : BitVec 32 := 1#32
  let v410 : BitVec 32 := Scalar.subi v395 c1_i32_225
  let v411 : BitVec 32 := Scalar.select v409 v410 v395
  let v412 : BitVec 32 := Scalar.muli c4_i32_226 v411
  let v413 : BitVec 32 := Scalar.subi v0 v412
  let c1_i32_227 : BitVec 32 := 1#32
  let v415 : BitVec 32 := Scalar.divsi v413 c1_i32_227
  let v416 : BitVec 32 := Scalar.muli v415 c1_i32_227
  let v417 : BitVec 32 := Scalar.addi v412 v416
  let c1_i32_228 : BitVec 32 := 1#32
  ⟨v412, v417, c1_i32_228⟩
def k0_off38 (i : grid0.Coords) (k0_t24 : Fin (k0_t24_loop i).trips) : Fin 3 → Nat :=
  let c4_i32_226 : BitVec 32 := 4#32
  let arg1 : BitVec 32 := BitVec.ofNat 32 (i 1).val
  let c1_i32 : BitVec 32 := 1#32
  let v0 : BitVec 32 := Scalar.addi arg1 c1_i32
  let c0_i32_220 : BitVec 32 := 0#32
  let v396 : BitVec 1 := Scalar.cmpi .sgt v0 c0_i32_220
  let v397 : BitVec 32 := Scalar.extui v396
  let c0_i32_221 : BitVec 32 := 0#32
  let v398 : BitVec 1 := Scalar.cmpi .slt v0 c0_i32_221
  let v399 : BitVec 32 := Scalar.extui v398
  let v400 : BitVec 32 := Scalar.subi v397 v399
  let c4_i32_219 : BitVec 32 := 4#32
  let c0_i32_222 : BitVec 32 := 0#32
  let v401 : BitVec 1 := Scalar.cmpi .sgt c4_i32_219 c0_i32_222
  let v402 : BitVec 32 := Scalar.extui v401
  let c0_i32_223 : BitVec 32 := 0#32
  let v403 : BitVec 1 := Scalar.cmpi .slt c4_i32_219 c0_i32_223
  let v404 : BitVec 32 := Scalar.extui v403
  let v405 : BitVec 32 := Scalar.subi v402 v404
  let v406 : BitVec 1 := Scalar.cmpi .ne v400 v405
  let v407 : BitVec 32 := Scalar.remsi v0 c4_i32_219
  let c0_i32_224 : BitVec 32 := 0#32
  let v408 : BitVec 1 := Scalar.cmpi .ne v407 c0_i32_224
  let v409 : BitVec 1 := Scalar.andi v406 v408
  let v395 : BitVec 32 := Scalar.divsi v0 c4_i32_219
  let c1_i32_225 : BitVec 32 := 1#32
  let v410 : BitVec 32 := Scalar.subi v395 c1_i32_225
  let v411 : BitVec 32 := Scalar.select v409 v410 v395
  let v412 : BitVec 32 := Scalar.muli c4_i32_226 v411
  let c1_i32_228 : BitVec 32 := 1#32
  let arg17 : BitVec 32 := Scf.iv v412 c1_i32_228 k0_t24
  let v613 : Index := Scalar.indexCast arg17
  let c0_314 : Index := 0#32
  let c0_315 : Index := 0#32
  ![v613.toNat, 0, 0]
@[reducible] def k0_t25_loop (i : grid0.Coords) : Scf.Loop 32 :=
  let c4_i32_226 : BitVec 32 := 4#32
  let arg1 : BitVec 32 := BitVec.ofNat 32 (i 1).val
  let c1_i32 : BitVec 32 := 1#32
  let v0 : BitVec 32 := Scalar.addi arg1 c1_i32
  let c0_i32_220 : BitVec 32 := 0#32
  let v396 : BitVec 1 := Scalar.cmpi .sgt v0 c0_i32_220
  let v397 : BitVec 32 := Scalar.extui v396
  let c0_i32_221 : BitVec 32 := 0#32
  let v398 : BitVec 1 := Scalar.cmpi .slt v0 c0_i32_221
  let v399 : BitVec 32 := Scalar.extui v398
  let v400 : BitVec 32 := Scalar.subi v397 v399
  let c4_i32_219 : BitVec 32 := 4#32
  let c0_i32_222 : BitVec 32 := 0#32
  let v401 : BitVec 1 := Scalar.cmpi .sgt c4_i32_219 c0_i32_222
  let v402 : BitVec 32 := Scalar.extui v401
  let c0_i32_223 : BitVec 32 := 0#32
  let v403 : BitVec 1 := Scalar.cmpi .slt c4_i32_219 c0_i32_223
  let v404 : BitVec 32 := Scalar.extui v403
  let v405 : BitVec 32 := Scalar.subi v402 v404
  let v406 : BitVec 1 := Scalar.cmpi .ne v400 v405
  let v407 : BitVec 32 := Scalar.remsi v0 c4_i32_219
  let c0_i32_224 : BitVec 32 := 0#32
  let v408 : BitVec 1 := Scalar.cmpi .ne v407 c0_i32_224
  let v409 : BitVec 1 := Scalar.andi v406 v408
  let v395 : BitVec 32 := Scalar.divsi v0 c4_i32_219
  let c1_i32_225 : BitVec 32 := 1#32
  let v410 : BitVec 32 := Scalar.subi v395 c1_i32_225
  let v411 : BitVec 32 := Scalar.select v409 v410 v395
  let v412 : BitVec 32 := Scalar.muli c4_i32_226 v411
  let v413 : BitVec 32 := Scalar.subi v0 v412
  let c1_i32_227 : BitVec 32 := 1#32
  let v415 : BitVec 32 := Scalar.divsi v413 c1_i32_227
  let v416 : BitVec 32 := Scalar.muli v415 c1_i32_227
  let v417 : BitVec 32 := Scalar.addi v412 v416
  let v414 : BitVec 32 := Scalar.addi v412 v413
  let c1_i32_229 : BitVec 32 := 1#32
  ⟨v417, v414, c1_i32_229⟩
def k0_off39 (i : grid0.Coords) (k0_t25 : Fin (k0_t25_loop i).trips) : Fin 3 → Nat :=
  let c4_i32_226 : BitVec 32 := 4#32
  let arg1 : BitVec 32 := BitVec.ofNat 32 (i 1).val
  let c1_i32 : BitVec 32 := 1#32
  let v0 : BitVec 32 := Scalar.addi arg1 c1_i32
  let c0_i32_220 : BitVec 32 := 0#32
  let v396 : BitVec 1 := Scalar.cmpi .sgt v0 c0_i32_220
  let v397 : BitVec 32 := Scalar.extui v396
  let c0_i32_221 : BitVec 32 := 0#32
  let v398 : BitVec 1 := Scalar.cmpi .slt v0 c0_i32_221
  let v399 : BitVec 32 := Scalar.extui v398
  let v400 : BitVec 32 := Scalar.subi v397 v399
  let c4_i32_219 : BitVec 32 := 4#32
  let c0_i32_222 : BitVec 32 := 0#32
  let v401 : BitVec 1 := Scalar.cmpi .sgt c4_i32_219 c0_i32_222
  let v402 : BitVec 32 := Scalar.extui v401
  let c0_i32_223 : BitVec 32 := 0#32
  let v403 : BitVec 1 := Scalar.cmpi .slt c4_i32_219 c0_i32_223
  let v404 : BitVec 32 := Scalar.extui v403
  let v405 : BitVec 32 := Scalar.subi v402 v404
  let v406 : BitVec 1 := Scalar.cmpi .ne v400 v405
  let v407 : BitVec 32 := Scalar.remsi v0 c4_i32_219
  let c0_i32_224 : BitVec 32 := 0#32
  let v408 : BitVec 1 := Scalar.cmpi .ne v407 c0_i32_224
  let v409 : BitVec 1 := Scalar.andi v406 v408
  let v395 : BitVec 32 := Scalar.divsi v0 c4_i32_219
  let c1_i32_225 : BitVec 32 := 1#32
  let v410 : BitVec 32 := Scalar.subi v395 c1_i32_225
  let v411 : BitVec 32 := Scalar.select v409 v410 v395
  let v412 : BitVec 32 := Scalar.muli c4_i32_226 v411
  let v413 : BitVec 32 := Scalar.subi v0 v412
  let c1_i32_227 : BitVec 32 := 1#32
  let v415 : BitVec 32 := Scalar.divsi v413 c1_i32_227
  let v416 : BitVec 32 := Scalar.muli v415 c1_i32_227
  let v417 : BitVec 32 := Scalar.addi v412 v416
  let c1_i32_229 : BitVec 32 := 1#32
  let arg17 : BitVec 32 := Scf.iv v417 c1_i32_229 k0_t25
  let v613 : Index := Scalar.indexCast arg17
  let c0_314 : Index := 0#32
  let c0_315 : Index := 0#32
  ![v613.toNat, 0, 0]
@[reducible] def k0_t26_loop (i : grid0.Coords) : Scf.Loop 32 :=
  let c0_i32_248 : BitVec 32 := 0#32
  let arg1 : BitVec 32 := BitVec.ofNat 32 (i 1).val
  let c1_i32 : BitVec 32 := 1#32
  let v0 : BitVec 32 := Scalar.addi arg1 c1_i32
  let c8_i32_238 : BitVec 32 := 8#32
  let v449 : BitVec 32 := Scalar.addi v0 c8_i32_238
  let c1_i32_239 : BitVec 32 := 1#32
  let v450 : BitVec 32 := Scalar.subi v449 c1_i32_239
  let c0_i32_241 : BitVec 32 := 0#32
  let v452 : BitVec 1 := Scalar.cmpi .sgt v450 c0_i32_241
  let v453 : BitVec 32 := Scalar.extui v452
  let c0_i32_242 : BitVec 32 := 0#32
  let v454 : BitVec 1 := Scalar.cmpi .slt v450 c0_i32_242
  let v455 : BitVec 32 := Scalar.extui v454
  let v456 : BitVec 32 := Scalar.subi v453 v455
  let c8_i32_240 : BitVec 32 := 8#32
  let c0_i32_243 : BitVec 32 := 0#32
  let v457 : BitVec 1 := Scalar.cmpi .sgt c8_i32_240 c0_i32_243
  let v458 : BitVec 32 := Scalar.extui v457
  let c0_i32_244 : BitVec 32 := 0#32
  let v459 : BitVec 1 := Scalar.cmpi .slt c8_i32_240 c0_i32_244
  let v460 : BitVec 32 := Scalar.extui v459
  let v461 : BitVec 32 := Scalar.subi v458 v460
  let v462 : BitVec 1 := Scalar.cmpi .ne v456 v461
  let v463 : BitVec 32 := Scalar.remsi v450 c8_i32_240
  let c0_i32_245 : BitVec 32 := 0#32
  let v464 : BitVec 1 := Scalar.cmpi .ne v463 c0_i32_245
  let v465 : BitVec 1 := Scalar.andi v462 v464
  let v451 : BitVec 32 := Scalar.divsi v450 c8_i32_240
  let c1_i32_246 : BitVec 32 := 1#32
  let v466 : BitVec 32 := Scalar.subi v451 c1_i32_246
  let v467 : BitVec 32 := Scalar.select v465 v466 v451
  let v468 : BitVec 32 := Scalar.subi v467 c0_i32_248
  let c1_i32_249 : BitVec 32 := 1#32
  let v470 : BitVec 32 := Scalar.divsi v468 c1_i32_249
  let v471 : BitVec 32 := Scalar.muli v470 c1_i32_249
  let v472 : BitVec 32 := Scalar.addi c0_i32_248 v471
  let c1_i32_250 : BitVec 32 := 1#32
  ⟨c0_i32_248, v472, c1_i32_250⟩
def k0_off40 (i : grid0.Coords) (k0_t26 : Fin (k0_t26_loop i).trips) (c0_i32_315 : BitVec 32) : Fin 3 → Nat :=
  let c8_i32_314 : BitVec 32 := 8#32
  let c0_i32_248 : BitVec 32 := 0#32
  let c1_i32_250 : BitVec 32 := 1#32
  let arg17 : BitVec 32 := Scf.iv c0_i32_248 c1_i32_250 k0_t26
  let v613 : BitVec 32 := Scalar.muli c8_i32_314 arg17
  let v614 : BitVec 32 := Scalar.addi v613 c0_i32_315
  let arg1 : BitVec 32 := BitVec.ofNat 32 (i 1).val
  let c1_i32 : BitVec 32 := 1#32
  let v0 : BitVec 32 := Scalar.addi arg1 c1_i32
  let c1_i32_316 : BitVec 32 := 1#32
  let v615 : BitVec 32 := Scalar.subi v0 c1_i32_316
  let v616 : BitVec 32 := Scalar.minsi v614 v615
  let v617 : Index := Scalar.indexCast v616
  let c128_317 : Index := 128#32
  let c0_318 : Index := 0#32
  ![v617.toNat, 128, 0]
def k0_off41 (i : grid0.Coords) (k0_t26 : Fin (k0_t26_loop i).trips) (c0_i32_315 : BitVec 32) : Fin 3 → Nat :=
  let c8_i32_314 : BitVec 32 := 8#32
  let c0_i32_248 : BitVec 32 := 0#32
  let c1_i32_250 : BitVec 32 := 1#32
  let arg17 : BitVec 32 := Scf.iv c0_i32_248 c1_i32_250 k0_t26
  let v613 : BitVec 32 := Scalar.muli c8_i32_314 arg17
  let v614 : BitVec 32 := Scalar.addi v613 c0_i32_315
  let arg1 : BitVec 32 := BitVec.ofNat 32 (i 1).val
  let c1_i32 : BitVec 32 := 1#32
  let v0 : BitVec 32 := Scalar.addi arg1 c1_i32
  let c1_i32_316 : BitVec 32 := 1#32
  let v615 : BitVec 32 := Scalar.subi v0 c1_i32_316
  let v616 : BitVec 32 := Scalar.minsi v614 v615
  let v633 : Index := Scalar.indexCast v616
  let c0_323 : Index := 0#32
  let c0_324 : Index := 0#32
  ![v633.toNat, 0, 0]
@[reducible] def k0_t27_loop (i : grid0.Coords) : Scf.Loop 32 :=
  let c0_i32_248 : BitVec 32 := 0#32
  let arg1 : BitVec 32 := BitVec.ofNat 32 (i 1).val
  let c1_i32 : BitVec 32 := 1#32
  let v0 : BitVec 32 := Scalar.addi arg1 c1_i32
  let c8_i32_238 : BitVec 32 := 8#32
  let v449 : BitVec 32 := Scalar.addi v0 c8_i32_238
  let c1_i32_239 : BitVec 32 := 1#32
  let v450 : BitVec 32 := Scalar.subi v449 c1_i32_239
  let c0_i32_241 : BitVec 32 := 0#32
  let v452 : BitVec 1 := Scalar.cmpi .sgt v450 c0_i32_241
  let v453 : BitVec 32 := Scalar.extui v452
  let c0_i32_242 : BitVec 32 := 0#32
  let v454 : BitVec 1 := Scalar.cmpi .slt v450 c0_i32_242
  let v455 : BitVec 32 := Scalar.extui v454
  let v456 : BitVec 32 := Scalar.subi v453 v455
  let c8_i32_240 : BitVec 32 := 8#32
  let c0_i32_243 : BitVec 32 := 0#32
  let v457 : BitVec 1 := Scalar.cmpi .sgt c8_i32_240 c0_i32_243
  let v458 : BitVec 32 := Scalar.extui v457
  let c0_i32_244 : BitVec 32 := 0#32
  let v459 : BitVec 1 := Scalar.cmpi .slt c8_i32_240 c0_i32_244
  let v460 : BitVec 32 := Scalar.extui v459
  let v461 : BitVec 32 := Scalar.subi v458 v460
  let v462 : BitVec 1 := Scalar.cmpi .ne v456 v461
  let v463 : BitVec 32 := Scalar.remsi v450 c8_i32_240
  let c0_i32_245 : BitVec 32 := 0#32
  let v464 : BitVec 1 := Scalar.cmpi .ne v463 c0_i32_245
  let v465 : BitVec 1 := Scalar.andi v462 v464
  let v451 : BitVec 32 := Scalar.divsi v450 c8_i32_240
  let c1_i32_246 : BitVec 32 := 1#32
  let v466 : BitVec 32 := Scalar.subi v451 c1_i32_246
  let v467 : BitVec 32 := Scalar.select v465 v466 v451
  let v468 : BitVec 32 := Scalar.subi v467 c0_i32_248
  let c1_i32_249 : BitVec 32 := 1#32
  let v470 : BitVec 32 := Scalar.divsi v468 c1_i32_249
  let v471 : BitVec 32 := Scalar.muli v470 c1_i32_249
  let v472 : BitVec 32 := Scalar.addi c0_i32_248 v471
  let v469 : BitVec 32 := Scalar.addi c0_i32_248 v468
  let c1_i32_251 : BitVec 32 := 1#32
  ⟨v472, v469, c1_i32_251⟩
def k0_off42 (i : grid0.Coords) (k0_t27 : Fin (k0_t27_loop i).trips) (c0_i32_315 : BitVec 32) : Fin 3 → Nat :=
  let c8_i32_314 : BitVec 32 := 8#32
  let c0_i32_248 : BitVec 32 := 0#32
  let arg1 : BitVec 32 := BitVec.ofNat 32 (i 1).val
  let c1_i32 : BitVec 32 := 1#32
  let v0 : BitVec 32 := Scalar.addi arg1 c1_i32
  let c8_i32_238 : BitVec 32 := 8#32
  let v449 : BitVec 32 := Scalar.addi v0 c8_i32_238
  let c1_i32_239 : BitVec 32 := 1#32
  let v450 : BitVec 32 := Scalar.subi v449 c1_i32_239
  let c0_i32_241 : BitVec 32 := 0#32
  let v452 : BitVec 1 := Scalar.cmpi .sgt v450 c0_i32_241
  let v453 : BitVec 32 := Scalar.extui v452
  let c0_i32_242 : BitVec 32 := 0#32
  let v454 : BitVec 1 := Scalar.cmpi .slt v450 c0_i32_242
  let v455 : BitVec 32 := Scalar.extui v454
  let v456 : BitVec 32 := Scalar.subi v453 v455
  let c8_i32_240 : BitVec 32 := 8#32
  let c0_i32_243 : BitVec 32 := 0#32
  let v457 : BitVec 1 := Scalar.cmpi .sgt c8_i32_240 c0_i32_243
  let v458 : BitVec 32 := Scalar.extui v457
  let c0_i32_244 : BitVec 32 := 0#32
  let v459 : BitVec 1 := Scalar.cmpi .slt c8_i32_240 c0_i32_244
  let v460 : BitVec 32 := Scalar.extui v459
  let v461 : BitVec 32 := Scalar.subi v458 v460
  let v462 : BitVec 1 := Scalar.cmpi .ne v456 v461
  let v463 : BitVec 32 := Scalar.remsi v450 c8_i32_240
  let c0_i32_245 : BitVec 32 := 0#32
  let v464 : BitVec 1 := Scalar.cmpi .ne v463 c0_i32_245
  let v465 : BitVec 1 := Scalar.andi v462 v464
  let v451 : BitVec 32 := Scalar.divsi v450 c8_i32_240
  let c1_i32_246 : BitVec 32 := 1#32
  let v466 : BitVec 32 := Scalar.subi v451 c1_i32_246
  let v467 : BitVec 32 := Scalar.select v465 v466 v451
  let v468 : BitVec 32 := Scalar.subi v467 c0_i32_248
  let c1_i32_249 : BitVec 32 := 1#32
  let v470 : BitVec 32 := Scalar.divsi v468 c1_i32_249
  let v471 : BitVec 32 := Scalar.muli v470 c1_i32_249
  let v472 : BitVec 32 := Scalar.addi c0_i32_248 v471
  let c1_i32_251 : BitVec 32 := 1#32
  let arg17 : BitVec 32 := Scf.iv v472 c1_i32_251 k0_t27
  let v613 : BitVec 32 := Scalar.muli c8_i32_314 arg17
  let v614 : BitVec 32 := Scalar.addi v613 c0_i32_315
  let c1_i32_316 : BitVec 32 := 1#32
  let v615 : BitVec 32 := Scalar.subi v0 c1_i32_316
  let v616 : BitVec 32 := Scalar.minsi v614 v615
  let v617 : Index := Scalar.indexCast v616
  let c128_317 : Index := 128#32
  let c0_318 : Index := 0#32
  ![v617.toNat, 128, 0]
def k0_off43 (i : grid0.Coords) (k0_t27 : Fin (k0_t27_loop i).trips) (c0_i32_315 : BitVec 32) : Fin 3 → Nat :=
  let c8_i32_314 : BitVec 32 := 8#32
  let c0_i32_248 : BitVec 32 := 0#32
  let arg1 : BitVec 32 := BitVec.ofNat 32 (i 1).val
  let c1_i32 : BitVec 32 := 1#32
  let v0 : BitVec 32 := Scalar.addi arg1 c1_i32
  let c8_i32_238 : BitVec 32 := 8#32
  let v449 : BitVec 32 := Scalar.addi v0 c8_i32_238
  let c1_i32_239 : BitVec 32 := 1#32
  let v450 : BitVec 32 := Scalar.subi v449 c1_i32_239
  let c0_i32_241 : BitVec 32 := 0#32
  let v452 : BitVec 1 := Scalar.cmpi .sgt v450 c0_i32_241
  let v453 : BitVec 32 := Scalar.extui v452
  let c0_i32_242 : BitVec 32 := 0#32
  let v454 : BitVec 1 := Scalar.cmpi .slt v450 c0_i32_242
  let v455 : BitVec 32 := Scalar.extui v454
  let v456 : BitVec 32 := Scalar.subi v453 v455
  let c8_i32_240 : BitVec 32 := 8#32
  let c0_i32_243 : BitVec 32 := 0#32
  let v457 : BitVec 1 := Scalar.cmpi .sgt c8_i32_240 c0_i32_243
  let v458 : BitVec 32 := Scalar.extui v457
  let c0_i32_244 : BitVec 32 := 0#32
  let v459 : BitVec 1 := Scalar.cmpi .slt c8_i32_240 c0_i32_244
  let v460 : BitVec 32 := Scalar.extui v459
  let v461 : BitVec 32 := Scalar.subi v458 v460
  let v462 : BitVec 1 := Scalar.cmpi .ne v456 v461
  let v463 : BitVec 32 := Scalar.remsi v450 c8_i32_240
  let c0_i32_245 : BitVec 32 := 0#32
  let v464 : BitVec 1 := Scalar.cmpi .ne v463 c0_i32_245
  let v465 : BitVec 1 := Scalar.andi v462 v464
  let v451 : BitVec 32 := Scalar.divsi v450 c8_i32_240
  let c1_i32_246 : BitVec 32 := 1#32
  let v466 : BitVec 32 := Scalar.subi v451 c1_i32_246
  let v467 : BitVec 32 := Scalar.select v465 v466 v451
  let v468 : BitVec 32 := Scalar.subi v467 c0_i32_248
  let c1_i32_249 : BitVec 32 := 1#32
  let v470 : BitVec 32 := Scalar.divsi v468 c1_i32_249
  let v471 : BitVec 32 := Scalar.muli v470 c1_i32_249
  let v472 : BitVec 32 := Scalar.addi c0_i32_248 v471
  let c1_i32_251 : BitVec 32 := 1#32
  let arg17 : BitVec 32 := Scf.iv v472 c1_i32_251 k0_t27
  let v613 : BitVec 32 := Scalar.muli c8_i32_314 arg17
  let v614 : BitVec 32 := Scalar.addi v613 c0_i32_315
  let c1_i32_316 : BitVec 32 := 1#32
  let v615 : BitVec 32 := Scalar.subi v0 c1_i32_316
  let v616 : BitVec 32 := Scalar.minsi v614 v615
  let v633 : Index := Scalar.indexCast v616
  let c0_323 : Index := 0#32
  let c0_324 : Index := 0#32
  ![v633.toNat, 0, 0]
@[reducible] def k0_t28_loop (i : grid0.Coords) : Scf.Loop 32 :=
  let c0_i32_253 : BitVec 32 := 0#32
  let arg1 : BitVec 32 := BitVec.ofNat 32 (i 1).val
  let c1_i32 : BitVec 32 := 1#32
  let v0 : BitVec 32 := Scalar.addi arg1 c1_i32
  let v474 : BitVec 32 := Scalar.subi v0 c0_i32_253
  let c1_i32_254 : BitVec 32 := 1#32
  let v476 : BitVec 32 := Scalar.divsi v474 c1_i32_254
  let v477 : BitVec 32 := Scalar.muli v476 c1_i32_254
  let v478 : BitVec 32 := Scalar.addi c0_i32_253 v477
  let c1_i32_255 : BitVec 32 := 1#32
  ⟨c0_i32_253, v478, c1_i32_255⟩
def k0_off44 (i : grid0.Coords) (k0_t28 : Fin (k0_t28_loop i).trips) : Fin 3 → Nat :=
  let c0_i32_253 : BitVec 32 := 0#32
  let c1_i32_255 : BitVec 32 := 1#32
  let arg17 : BitVec 32 := Scf.iv c0_i32_253 c1_i32_255 k0_t28
  let v613 : Index := Scalar.indexCast arg17
  let c0_314 : Index := 0#32
  let c0_315 : Index := 0#32
  ![v613.toNat, 0, 0]
@[reducible] def k0_t29_loop (i : grid0.Coords) : Scf.Loop 32 :=
  let c0_i32_253 : BitVec 32 := 0#32
  let arg1 : BitVec 32 := BitVec.ofNat 32 (i 1).val
  let c1_i32 : BitVec 32 := 1#32
  let v0 : BitVec 32 := Scalar.addi arg1 c1_i32
  let v474 : BitVec 32 := Scalar.subi v0 c0_i32_253
  let c1_i32_254 : BitVec 32 := 1#32
  let v476 : BitVec 32 := Scalar.divsi v474 c1_i32_254
  let v477 : BitVec 32 := Scalar.muli v476 c1_i32_254
  let v478 : BitVec 32 := Scalar.addi c0_i32_253 v477
  let v475 : BitVec 32 := Scalar.addi c0_i32_253 v474
  let c1_i32_256 : BitVec 32 := 1#32
  ⟨v478, v475, c1_i32_256⟩
def k0_off45 (i : grid0.Coords) (k0_t29 : Fin (k0_t29_loop i).trips) : Fin 3 → Nat :=
  let c0_i32_253 : BitVec 32 := 0#32
  let arg1 : BitVec 32 := BitVec.ofNat 32 (i 1).val
  let c1_i32 : BitVec 32 := 1#32
  let v0 : BitVec 32 := Scalar.addi arg1 c1_i32
  let v474 : BitVec 32 := Scalar.subi v0 c0_i32_253
  let c1_i32_254 : BitVec 32 := 1#32
  let v476 : BitVec 32 := Scalar.divsi v474 c1_i32_254
  let v477 : BitVec 32 := Scalar.muli v476 c1_i32_254
  let v478 : BitVec 32 := Scalar.addi c0_i32_253 v477
  let c1_i32_256 : BitVec 32 := 1#32
  let arg17 : BitVec 32 := Scf.iv v478 c1_i32_256 k0_t29
  let v613 : Index := Scalar.indexCast arg17
  let c0_314 : Index := 0#32
  let c0_315 : Index := 0#32
  ![v613.toNat, 0, 0]
@[reducible] def k0_t30_loop (i : grid0.Coords) : Scf.Loop 32 :=
  let c0_i32_267 : BitVec 32 := 0#32
  let arg1 : BitVec 32 := BitVec.ofNat 32 (i 1).val
  let c1_i32 : BitVec 32 := 1#32
  let v0 : BitVec 32 := Scalar.addi arg1 c1_i32
  let c0_i32_261 : BitVec 32 := 0#32
  let v487 : BitVec 1 := Scalar.cmpi .sgt v0 c0_i32_261
  let v488 : BitVec 32 := Scalar.extui v487
  let c0_i32_262 : BitVec 32 := 0#32
  let v489 : BitVec 1 := Scalar.cmpi .slt v0 c0_i32_262
  let v490 : BitVec 32 := Scalar.extui v489
  let v491 : BitVec 32 := Scalar.subi v488 v490
  let c4_i32_260 : BitVec 32 := 4#32
  let c0_i32_263 : BitVec 32 := 0#32
  let v492 : BitVec 1 := Scalar.cmpi .sgt c4_i32_260 c0_i32_263
  let v493 : BitVec 32 := Scalar.extui v492
  let c0_i32_264 : BitVec 32 := 0#32
  let v494 : BitVec 1 := Scalar.cmpi .slt c4_i32_260 c0_i32_264
  let v495 : BitVec 32 := Scalar.extui v494
  let v496 : BitVec 32 := Scalar.subi v493 v495
  let v497 : BitVec 1 := Scalar.cmpi .ne v491 v496
  let v498 : BitVec 32 := Scalar.remsi v0 c4_i32_260
  let c0_i32_265 : BitVec 32 := 0#32
  let v499 : BitVec 1 := Scalar.cmpi .ne v498 c0_i32_265
  let v500 : BitVec 1 := Scalar.andi v497 v499
  let v486 : BitVec 32 := Scalar.divsi v0 c4_i32_260
  let c1_i32_266 : BitVec 32 := 1#32
  let v501 : BitVec 32 := Scalar.subi v486 c1_i32_266
  let v502 : BitVec 32 := Scalar.select v500 v501 v486
  let v503 : BitVec 32 := Scalar.subi v502 c0_i32_267
  let c1_i32_268 : BitVec 32 := 1#32
  let v505 : BitVec 32 := Scalar.divsi v503 c1_i32_268
  let v506 : BitVec 32 := Scalar.muli v505 c1_i32_268
  let v507 : BitVec 32 := Scalar.addi c0_i32_267 v506
  let c1_i32_269 : BitVec 32 := 1#32
  ⟨c0_i32_267, v507, c1_i32_269⟩
def k0_off46 (i : grid0.Coords) (k0_t30 : Fin (k0_t30_loop i).trips) (c0_i32_315 : BitVec 32) : Fin 3 → Nat :=
  let c4_i32_314 : BitVec 32 := 4#32
  let c0_i32_267 : BitVec 32 := 0#32
  let c1_i32_269 : BitVec 32 := 1#32
  let arg17 : BitVec 32 := Scf.iv c0_i32_267 c1_i32_269 k0_t30
  let v613 : BitVec 32 := Scalar.muli c4_i32_314 arg17
  let v614 : BitVec 32 := Scalar.addi v613 c0_i32_315
  let v615 : Index := Scalar.indexCast v614
  let c0_316 : Index := 0#32
  let c0_317 : Index := 0#32
  ![v615.toNat, 0, 0]
@[reducible] def k0_t31_loop (i : grid0.Coords) : Scf.Loop 32 :=
  let c0_i32_267 : BitVec 32 := 0#32
  let arg1 : BitVec 32 := BitVec.ofNat 32 (i 1).val
  let c1_i32 : BitVec 32 := 1#32
  let v0 : BitVec 32 := Scalar.addi arg1 c1_i32
  let c0_i32_261 : BitVec 32 := 0#32
  let v487 : BitVec 1 := Scalar.cmpi .sgt v0 c0_i32_261
  let v488 : BitVec 32 := Scalar.extui v487
  let c0_i32_262 : BitVec 32 := 0#32
  let v489 : BitVec 1 := Scalar.cmpi .slt v0 c0_i32_262
  let v490 : BitVec 32 := Scalar.extui v489
  let v491 : BitVec 32 := Scalar.subi v488 v490
  let c4_i32_260 : BitVec 32 := 4#32
  let c0_i32_263 : BitVec 32 := 0#32
  let v492 : BitVec 1 := Scalar.cmpi .sgt c4_i32_260 c0_i32_263
  let v493 : BitVec 32 := Scalar.extui v492
  let c0_i32_264 : BitVec 32 := 0#32
  let v494 : BitVec 1 := Scalar.cmpi .slt c4_i32_260 c0_i32_264
  let v495 : BitVec 32 := Scalar.extui v494
  let v496 : BitVec 32 := Scalar.subi v493 v495
  let v497 : BitVec 1 := Scalar.cmpi .ne v491 v496
  let v498 : BitVec 32 := Scalar.remsi v0 c4_i32_260
  let c0_i32_265 : BitVec 32 := 0#32
  let v499 : BitVec 1 := Scalar.cmpi .ne v498 c0_i32_265
  let v500 : BitVec 1 := Scalar.andi v497 v499
  let v486 : BitVec 32 := Scalar.divsi v0 c4_i32_260
  let c1_i32_266 : BitVec 32 := 1#32
  let v501 : BitVec 32 := Scalar.subi v486 c1_i32_266
  let v502 : BitVec 32 := Scalar.select v500 v501 v486
  let v503 : BitVec 32 := Scalar.subi v502 c0_i32_267
  let c1_i32_268 : BitVec 32 := 1#32
  let v505 : BitVec 32 := Scalar.divsi v503 c1_i32_268
  let v506 : BitVec 32 := Scalar.muli v505 c1_i32_268
  let v507 : BitVec 32 := Scalar.addi c0_i32_267 v506
  let v504 : BitVec 32 := Scalar.addi c0_i32_267 v503
  let c1_i32_270 : BitVec 32 := 1#32
  ⟨v507, v504, c1_i32_270⟩
def k0_off47 (i : grid0.Coords) (k0_t31 : Fin (k0_t31_loop i).trips) (c0_i32_315 : BitVec 32) : Fin 3 → Nat :=
  let c4_i32_314 : BitVec 32 := 4#32
  let c0_i32_267 : BitVec 32 := 0#32
  let arg1 : BitVec 32 := BitVec.ofNat 32 (i 1).val
  let c1_i32 : BitVec 32 := 1#32
  let v0 : BitVec 32 := Scalar.addi arg1 c1_i32
  let c0_i32_261 : BitVec 32 := 0#32
  let v487 : BitVec 1 := Scalar.cmpi .sgt v0 c0_i32_261
  let v488 : BitVec 32 := Scalar.extui v487
  let c0_i32_262 : BitVec 32 := 0#32
  let v489 : BitVec 1 := Scalar.cmpi .slt v0 c0_i32_262
  let v490 : BitVec 32 := Scalar.extui v489
  let v491 : BitVec 32 := Scalar.subi v488 v490
  let c4_i32_260 : BitVec 32 := 4#32
  let c0_i32_263 : BitVec 32 := 0#32
  let v492 : BitVec 1 := Scalar.cmpi .sgt c4_i32_260 c0_i32_263
  let v493 : BitVec 32 := Scalar.extui v492
  let c0_i32_264 : BitVec 32 := 0#32
  let v494 : BitVec 1 := Scalar.cmpi .slt c4_i32_260 c0_i32_264
  let v495 : BitVec 32 := Scalar.extui v494
  let v496 : BitVec 32 := Scalar.subi v493 v495
  let v497 : BitVec 1 := Scalar.cmpi .ne v491 v496
  let v498 : BitVec 32 := Scalar.remsi v0 c4_i32_260
  let c0_i32_265 : BitVec 32 := 0#32
  let v499 : BitVec 1 := Scalar.cmpi .ne v498 c0_i32_265
  let v500 : BitVec 1 := Scalar.andi v497 v499
  let v486 : BitVec 32 := Scalar.divsi v0 c4_i32_260
  let c1_i32_266 : BitVec 32 := 1#32
  let v501 : BitVec 32 := Scalar.subi v486 c1_i32_266
  let v502 : BitVec 32 := Scalar.select v500 v501 v486
  let v503 : BitVec 32 := Scalar.subi v502 c0_i32_267
  let c1_i32_268 : BitVec 32 := 1#32
  let v505 : BitVec 32 := Scalar.divsi v503 c1_i32_268
  let v506 : BitVec 32 := Scalar.muli v505 c1_i32_268
  let v507 : BitVec 32 := Scalar.addi c0_i32_267 v506
  let c1_i32_270 : BitVec 32 := 1#32
  let arg17 : BitVec 32 := Scf.iv v507 c1_i32_270 k0_t31
  let v613 : BitVec 32 := Scalar.muli c4_i32_314 arg17
  let v614 : BitVec 32 := Scalar.addi v613 c0_i32_315
  let v615 : Index := Scalar.indexCast v614
  let c0_316 : Index := 0#32
  let c0_317 : Index := 0#32
  ![v615.toNat, 0, 0]
@[reducible] def k0_t32_loop (i : grid0.Coords) : Scf.Loop 32 :=
  let c4_i32_278 : BitVec 32 := 4#32
  let arg1 : BitVec 32 := BitVec.ofNat 32 (i 1).val
  let c1_i32 : BitVec 32 := 1#32
  let v0 : BitVec 32 := Scalar.addi arg1 c1_i32
  let c0_i32_272 : BitVec 32 := 0#32
  let v511 : BitVec 1 := Scalar.cmpi .sgt v0 c0_i32_272
  let v512 : BitVec 32 := Scalar.extui v511
  let c0_i32_273 : BitVec 32 := 0#32
  let v513 : BitVec 1 := Scalar.cmpi .slt v0 c0_i32_273
  let v514 : BitVec 32 := Scalar.extui v513
  let v515 : BitVec 32 := Scalar.subi v512 v514
  let c4_i32_271 : BitVec 32 := 4#32
  let c0_i32_274 : BitVec 32 := 0#32
  let v516 : BitVec 1 := Scalar.cmpi .sgt c4_i32_271 c0_i32_274
  let v517 : BitVec 32 := Scalar.extui v516
  let c0_i32_275 : BitVec 32 := 0#32
  let v518 : BitVec 1 := Scalar.cmpi .slt c4_i32_271 c0_i32_275
  let v519 : BitVec 32 := Scalar.extui v518
  let v520 : BitVec 32 := Scalar.subi v517 v519
  let v521 : BitVec 1 := Scalar.cmpi .ne v515 v520
  let v522 : BitVec 32 := Scalar.remsi v0 c4_i32_271
  let c0_i32_276 : BitVec 32 := 0#32
  let v523 : BitVec 1 := Scalar.cmpi .ne v522 c0_i32_276
  let v524 : BitVec 1 := Scalar.andi v521 v523
  let v510 : BitVec 32 := Scalar.divsi v0 c4_i32_271
  let c1_i32_277 : BitVec 32 := 1#32
  let v525 : BitVec 32 := Scalar.subi v510 c1_i32_277
  let v526 : BitVec 32 := Scalar.select v524 v525 v510
  let v527 : BitVec 32 := Scalar.muli c4_i32_278 v526
  let v528 : BitVec 32 := Scalar.subi v0 v527
  let c1_i32_279 : BitVec 32 := 1#32
  let v530 : BitVec 32 := Scalar.divsi v528 c1_i32_279
  let v531 : BitVec 32 := Scalar.muli v530 c1_i32_279
  let v532 : BitVec 32 := Scalar.addi v527 v531
  let c1_i32_280 : BitVec 32 := 1#32
  ⟨v527, v532, c1_i32_280⟩
def k0_off48 (i : grid0.Coords) (k0_t32 : Fin (k0_t32_loop i).trips) : Fin 3 → Nat :=
  let c4_i32_278 : BitVec 32 := 4#32
  let arg1 : BitVec 32 := BitVec.ofNat 32 (i 1).val
  let c1_i32 : BitVec 32 := 1#32
  let v0 : BitVec 32 := Scalar.addi arg1 c1_i32
  let c0_i32_272 : BitVec 32 := 0#32
  let v511 : BitVec 1 := Scalar.cmpi .sgt v0 c0_i32_272
  let v512 : BitVec 32 := Scalar.extui v511
  let c0_i32_273 : BitVec 32 := 0#32
  let v513 : BitVec 1 := Scalar.cmpi .slt v0 c0_i32_273
  let v514 : BitVec 32 := Scalar.extui v513
  let v515 : BitVec 32 := Scalar.subi v512 v514
  let c4_i32_271 : BitVec 32 := 4#32
  let c0_i32_274 : BitVec 32 := 0#32
  let v516 : BitVec 1 := Scalar.cmpi .sgt c4_i32_271 c0_i32_274
  let v517 : BitVec 32 := Scalar.extui v516
  let c0_i32_275 : BitVec 32 := 0#32
  let v518 : BitVec 1 := Scalar.cmpi .slt c4_i32_271 c0_i32_275
  let v519 : BitVec 32 := Scalar.extui v518
  let v520 : BitVec 32 := Scalar.subi v517 v519
  let v521 : BitVec 1 := Scalar.cmpi .ne v515 v520
  let v522 : BitVec 32 := Scalar.remsi v0 c4_i32_271
  let c0_i32_276 : BitVec 32 := 0#32
  let v523 : BitVec 1 := Scalar.cmpi .ne v522 c0_i32_276
  let v524 : BitVec 1 := Scalar.andi v521 v523
  let v510 : BitVec 32 := Scalar.divsi v0 c4_i32_271
  let c1_i32_277 : BitVec 32 := 1#32
  let v525 : BitVec 32 := Scalar.subi v510 c1_i32_277
  let v526 : BitVec 32 := Scalar.select v524 v525 v510
  let v527 : BitVec 32 := Scalar.muli c4_i32_278 v526
  let c1_i32_280 : BitVec 32 := 1#32
  let arg17 : BitVec 32 := Scf.iv v527 c1_i32_280 k0_t32
  let v613 : Index := Scalar.indexCast arg17
  let c0_314 : Index := 0#32
  let c0_315 : Index := 0#32
  ![v613.toNat, 0, 0]
@[reducible] def k0_t33_loop (i : grid0.Coords) : Scf.Loop 32 :=
  let c4_i32_278 : BitVec 32 := 4#32
  let arg1 : BitVec 32 := BitVec.ofNat 32 (i 1).val
  let c1_i32 : BitVec 32 := 1#32
  let v0 : BitVec 32 := Scalar.addi arg1 c1_i32
  let c0_i32_272 : BitVec 32 := 0#32
  let v511 : BitVec 1 := Scalar.cmpi .sgt v0 c0_i32_272
  let v512 : BitVec 32 := Scalar.extui v511
  let c0_i32_273 : BitVec 32 := 0#32
  let v513 : BitVec 1 := Scalar.cmpi .slt v0 c0_i32_273
  let v514 : BitVec 32 := Scalar.extui v513
  let v515 : BitVec 32 := Scalar.subi v512 v514
  let c4_i32_271 : BitVec 32 := 4#32
  let c0_i32_274 : BitVec 32 := 0#32
  let v516 : BitVec 1 := Scalar.cmpi .sgt c4_i32_271 c0_i32_274
  let v517 : BitVec 32 := Scalar.extui v516
  let c0_i32_275 : BitVec 32 := 0#32
  let v518 : BitVec 1 := Scalar.cmpi .slt c4_i32_271 c0_i32_275
  let v519 : BitVec 32 := Scalar.extui v518
  let v520 : BitVec 32 := Scalar.subi v517 v519
  let v521 : BitVec 1 := Scalar.cmpi .ne v515 v520
  let v522 : BitVec 32 := Scalar.remsi v0 c4_i32_271
  let c0_i32_276 : BitVec 32 := 0#32
  let v523 : BitVec 1 := Scalar.cmpi .ne v522 c0_i32_276
  let v524 : BitVec 1 := Scalar.andi v521 v523
  let v510 : BitVec 32 := Scalar.divsi v0 c4_i32_271
  let c1_i32_277 : BitVec 32 := 1#32
  let v525 : BitVec 32 := Scalar.subi v510 c1_i32_277
  let v526 : BitVec 32 := Scalar.select v524 v525 v510
  let v527 : BitVec 32 := Scalar.muli c4_i32_278 v526
  let v528 : BitVec 32 := Scalar.subi v0 v527
  let c1_i32_279 : BitVec 32 := 1#32
  let v530 : BitVec 32 := Scalar.divsi v528 c1_i32_279
  let v531 : BitVec 32 := Scalar.muli v530 c1_i32_279
  let v532 : BitVec 32 := Scalar.addi v527 v531
  let v529 : BitVec 32 := Scalar.addi v527 v528
  let c1_i32_281 : BitVec 32 := 1#32
  ⟨v532, v529, c1_i32_281⟩
def k0_off49 (i : grid0.Coords) (k0_t33 : Fin (k0_t33_loop i).trips) : Fin 3 → Nat :=
  let c4_i32_278 : BitVec 32 := 4#32
  let arg1 : BitVec 32 := BitVec.ofNat 32 (i 1).val
  let c1_i32 : BitVec 32 := 1#32
  let v0 : BitVec 32 := Scalar.addi arg1 c1_i32
  let c0_i32_272 : BitVec 32 := 0#32
  let v511 : BitVec 1 := Scalar.cmpi .sgt v0 c0_i32_272
  let v512 : BitVec 32 := Scalar.extui v511
  let c0_i32_273 : BitVec 32 := 0#32
  let v513 : BitVec 1 := Scalar.cmpi .slt v0 c0_i32_273
  let v514 : BitVec 32 := Scalar.extui v513
  let v515 : BitVec 32 := Scalar.subi v512 v514
  let c4_i32_271 : BitVec 32 := 4#32
  let c0_i32_274 : BitVec 32 := 0#32
  let v516 : BitVec 1 := Scalar.cmpi .sgt c4_i32_271 c0_i32_274
  let v517 : BitVec 32 := Scalar.extui v516
  let c0_i32_275 : BitVec 32 := 0#32
  let v518 : BitVec 1 := Scalar.cmpi .slt c4_i32_271 c0_i32_275
  let v519 : BitVec 32 := Scalar.extui v518
  let v520 : BitVec 32 := Scalar.subi v517 v519
  let v521 : BitVec 1 := Scalar.cmpi .ne v515 v520
  let v522 : BitVec 32 := Scalar.remsi v0 c4_i32_271
  let c0_i32_276 : BitVec 32 := 0#32
  let v523 : BitVec 1 := Scalar.cmpi .ne v522 c0_i32_276
  let v524 : BitVec 1 := Scalar.andi v521 v523
  let v510 : BitVec 32 := Scalar.divsi v0 c4_i32_271
  let c1_i32_277 : BitVec 32 := 1#32
  let v525 : BitVec 32 := Scalar.subi v510 c1_i32_277
  let v526 : BitVec 32 := Scalar.select v524 v525 v510
  let v527 : BitVec 32 := Scalar.muli c4_i32_278 v526
  let v528 : BitVec 32 := Scalar.subi v0 v527
  let c1_i32_279 : BitVec 32 := 1#32
  let v530 : BitVec 32 := Scalar.divsi v528 c1_i32_279
  let v531 : BitVec 32 := Scalar.muli v530 c1_i32_279
  let v532 : BitVec 32 := Scalar.addi v527 v531
  let c1_i32_281 : BitVec 32 := 1#32
  let arg17 : BitVec 32 := Scf.iv v532 c1_i32_281 k0_t33
  let v613 : Index := Scalar.indexCast arg17
  let c0_314 : Index := 0#32
  let c0_315 : Index := 0#32
  ![v613.toNat, 0, 0]
@[reducible] def k0_t34_loop (i : grid0.Coords) : Scf.Loop 32 :=
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v538 : BitVec 1 := Scalar.cmpi .sgt v0 c0_i32_284
  let v539 : BitVec 32 := Scalar.extui v538
  let c0_i32_285 : BitVec 32 := 0#32
  let v540 : BitVec 1 := Scalar.cmpi .slt v0 c0_i32_285
  let v541 : BitVec 32 := Scalar.extui v540
  let v542 : BitVec 32 := Scalar.subi v539 v541
  let c4_i32_283 : BitVec 32 := 4#32
  let c0_i32_286 : BitVec 32 := 0#32
  let v543 : BitVec 1 := Scalar.cmpi .sgt c4_i32_283 c0_i32_286
  let v544 : BitVec 32 := Scalar.extui v543
  let c0_i32_287 : BitVec 32 := 0#32
  let v545 : BitVec 1 := Scalar.cmpi .slt c4_i32_283 c0_i32_287
  let v546 : BitVec 32 := Scalar.extui v545
  let v547 : BitVec 32 := Scalar.subi v544 v546
  let v548 : BitVec 1 := Scalar.cmpi .ne v542 v547
  let v549 : BitVec 32 := Scalar.remsi v0 c4_i32_283
  let c0_i32_288 : BitVec 32 := 0#32
  let v550 : BitVec 1 := Scalar.cmpi .ne v549 c0_i32_288
  let v551 : BitVec 1 := Scalar.andi v548 v550
  let v537 : BitVec 32 := Scalar.divsi v0 c4_i32_283
  let c1_i32_289 : BitVec 32 := 1#32
  let v552 : BitVec 32 := Scalar.subi v537 c1_i32_289
  let v553 : BitVec 32 := Scalar.select v551 v552 v537
  let v554 : BitVec 32 := Scalar.subi v553 c0_i32_290
  let c1_i32_291 : BitVec 32 := 1#32
  let v556 : BitVec 32 := Scalar.divsi v554 c1_i32_291
  let v557 : BitVec 32 := Scalar.muli v556 c1_i32_291
  let v558 : BitVec 32 := Scalar.addi c0_i32_290 v557
  let c1_i32_292 : BitVec 32 := 1#32
  ⟨c0_i32_290, v558, c1_i32_292⟩
def k0_off50 (i : grid0.Coords) (k0_t34 : Fin (k0_t34_loop i).trips) (c0_i32_315 : BitVec 32) : Fin 3 → Nat :=
  let c4_i32_314 : BitVec 32 := 4#32
  let c0_i32_290 : BitVec 32 := 0#32
  let c1_i32_292 : BitVec 32 := 1#32
  let arg17 : BitVec 32 := Scf.iv c0_i32_290 c1_i32_292 k0_t34
  let v613 : BitVec 32 := Scalar.muli c4_i32_314 arg17
  let v614 : BitVec 32 := Scalar.addi v613 c0_i32_315
  let v615 : Index := Scalar.indexCast v614
  let c128_316 : Index := 128#32
  let c0_317 : Index := 0#32
  ![v615.toNat, 128, 0]
@[reducible] def k0_t35_loop (i : grid0.Coords) : Scf.Loop 32 :=
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v538 : BitVec 1 := Scalar.cmpi .sgt v0 c0_i32_284
  let v539 : BitVec 32 := Scalar.extui v538
  let c0_i32_285 : BitVec 32 := 0#32
  let v540 : BitVec 1 := Scalar.cmpi .slt v0 c0_i32_285
  let v541 : BitVec 32 := Scalar.extui v540
  let v542 : BitVec 32 := Scalar.subi v539 v541
  let c4_i32_283 : BitVec 32 := 4#32
  let c0_i32_286 : BitVec 32 := 0#32
  let v543 : BitVec 1 := Scalar.cmpi .sgt c4_i32_283 c0_i32_286
  let v544 : BitVec 32 := Scalar.extui v543
  let c0_i32_287 : BitVec 32 := 0#32
  let v545 : BitVec 1 := Scalar.cmpi .slt c4_i32_283 c0_i32_287
  let v546 : BitVec 32 := Scalar.extui v545
  let v547 : BitVec 32 := Scalar.subi v544 v546
  let v548 : BitVec 1 := Scalar.cmpi .ne v542 v547
  let v549 : BitVec 32 := Scalar.remsi v0 c4_i32_283
  let c0_i32_288 : BitVec 32 := 0#32
  let v550 : BitVec 1 := Scalar.cmpi .ne v549 c0_i32_288
  let v551 : BitVec 1 := Scalar.andi v548 v550
  let v537 : BitVec 32 := Scalar.divsi v0 c4_i32_283
  let c1_i32_289 : BitVec 32 := 1#32
  let v552 : BitVec 32 := Scalar.subi v537 c1_i32_289
  let v553 : BitVec 32 := Scalar.select v551 v552 v537
  let v554 : BitVec 32 := Scalar.subi v553 c0_i32_290
  let c1_i32_291 : BitVec 32 := 1#32
  let v556 : BitVec 32 := Scalar.divsi v554 c1_i32_291
  let v557 : BitVec 32 := Scalar.muli v556 c1_i32_291
  let v558 : BitVec 32 := Scalar.addi c0_i32_290 v557
  let v555 : BitVec 32 := Scalar.addi c0_i32_290 v554
  let c1_i32_293 : BitVec 32 := 1#32
  ⟨v558, v555, c1_i32_293⟩
def k0_off51 (i : grid0.Coords) (k0_t35 : Fin (k0_t35_loop i).trips) (c0_i32_315 : BitVec 32) : Fin 3 → Nat :=
  let c4_i32_314 : BitVec 32 := 4#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v538 : BitVec 1 := Scalar.cmpi .sgt v0 c0_i32_284
  let v539 : BitVec 32 := Scalar.extui v538
  let c0_i32_285 : BitVec 32 := 0#32
  let v540 : BitVec 1 := Scalar.cmpi .slt v0 c0_i32_285
  let v541 : BitVec 32 := Scalar.extui v540
  let v542 : BitVec 32 := Scalar.subi v539 v541
  let c4_i32_283 : BitVec 32 := 4#32
  let c0_i32_286 : BitVec 32 := 0#32
  let v543 : BitVec 1 := Scalar.cmpi .sgt c4_i32_283 c0_i32_286
  let v544 : BitVec 32 := Scalar.extui v543
  let c0_i32_287 : BitVec 32 := 0#32
  let v545 : BitVec 1 := Scalar.cmpi .slt c4_i32_283 c0_i32_287
  let v546 : BitVec 32 := Scalar.extui v545
  let v547 : BitVec 32 := Scalar.subi v544 v546
  let v548 : BitVec 1 := Scalar.cmpi .ne v542 v547
  let v549 : BitVec 32 := Scalar.remsi v0 c4_i32_283
  let c0_i32_288 : BitVec 32 := 0#32
  let v550 : BitVec 1 := Scalar.cmpi .ne v549 c0_i32_288
  let v551 : BitVec 1 := Scalar.andi v548 v550
  let v537 : BitVec 32 := Scalar.divsi v0 c4_i32_283
  let c1_i32_289 : BitVec 32 := 1#32
  let v552 : BitVec 32 := Scalar.subi v537 c1_i32_289
  let v553 : BitVec 32 := Scalar.select v551 v552 v537
  let v554 : BitVec 32 := Scalar.subi v553 c0_i32_290
  let c1_i32_291 : BitVec 32 := 1#32
  let v556 : BitVec 32 := Scalar.divsi v554 c1_i32_291
  let v557 : BitVec 32 := Scalar.muli v556 c1_i32_291
  let v558 : BitVec 32 := Scalar.addi c0_i32_290 v557
  let c1_i32_293 : BitVec 32 := 1#32
  let arg17 : BitVec 32 := Scf.iv v558 c1_i32_293 k0_t35
  let v613 : BitVec 32 := Scalar.muli c4_i32_314 arg17
  let v614 : BitVec 32 := Scalar.addi v613 c0_i32_315
  let v615 : Index := Scalar.indexCast v614
  let c128_316 : Index := 128#32
  let c0_317 : Index := 0#32
  ![v615.toNat, 128, 0]
@[reducible] def k0_t36_loop (i : grid0.Coords) : Scf.Loop 32 :=
  let c4_i32_301 : BitVec 32 := 4#32
  let arg1 : BitVec 32 := BitVec.ofNat 32 (i 1).val
  let c1_i32 : BitVec 32 := 1#32
  let v0 : BitVec 32 := Scalar.addi arg1 c1_i32
  let c0_i32_295 : BitVec 32 := 0#32
  let v562 : BitVec 1 := Scalar.cmpi .sgt v0 c0_i32_295
  let v563 : BitVec 32 := Scalar.extui v562
  let c0_i32_296 : BitVec 32 := 0#32
  let v564 : BitVec 1 := Scalar.cmpi .slt v0 c0_i32_296
  let v565 : BitVec 32 := Scalar.extui v564
  let v566 : BitVec 32 := Scalar.subi v563 v565
  let c4_i32_294 : BitVec 32 := 4#32
  let c0_i32_297 : BitVec 32 := 0#32
  let v567 : BitVec 1 := Scalar.cmpi .sgt c4_i32_294 c0_i32_297
  let v568 : BitVec 32 := Scalar.extui v567
  let c0_i32_298 : BitVec 32 := 0#32
  let v569 : BitVec 1 := Scalar.cmpi .slt c4_i32_294 c0_i32_298
  let v570 : BitVec 32 := Scalar.extui v569
  let v571 : BitVec 32 := Scalar.subi v568 v570
  let v572 : BitVec 1 := Scalar.cmpi .ne v566 v571
  let v573 : BitVec 32 := Scalar.remsi v0 c4_i32_294
  let c0_i32_299 : BitVec 32 := 0#32
  let v574 : BitVec 1 := Scalar.cmpi .ne v573 c0_i32_299
  let v575 : BitVec 1 := Scalar.andi v572 v574
  let v561 : BitVec 32 := Scalar.divsi v0 c4_i32_294
  let c1_i32_300 : BitVec 32 := 1#32
  let v576 : BitVec 32 := Scalar.subi v561 c1_i32_300
  let v577 : BitVec 32 := Scalar.select v575 v576 v561
  let v578 : BitVec 32 := Scalar.muli c4_i32_301 v577
  let v579 : BitVec 32 := Scalar.subi v0 v578
  let c1_i32_302 : BitVec 32 := 1#32
  let v581 : BitVec 32 := Scalar.divsi v579 c1_i32_302
  let v582 : BitVec 32 := Scalar.muli v581 c1_i32_302
  let v583 : BitVec 32 := Scalar.addi v578 v582
  let c1_i32_303 : BitVec 32 := 1#32
  ⟨v578, v583, c1_i32_303⟩
def k0_off52 (i : grid0.Coords) (k0_t36 : Fin (k0_t36_loop i).trips) : Fin 3 → Nat :=
  let c4_i32_301 : BitVec 32 := 4#32
  let arg1 : BitVec 32 := BitVec.ofNat 32 (i 1).val
  let c1_i32 : BitVec 32 := 1#32
  let v0 : BitVec 32 := Scalar.addi arg1 c1_i32
  let c0_i32_295 : BitVec 32 := 0#32
  let v562 : BitVec 1 := Scalar.cmpi .sgt v0 c0_i32_295
  let v563 : BitVec 32 := Scalar.extui v562
  let c0_i32_296 : BitVec 32 := 0#32
  let v564 : BitVec 1 := Scalar.cmpi .slt v0 c0_i32_296
  let v565 : BitVec 32 := Scalar.extui v564
  let v566 : BitVec 32 := Scalar.subi v563 v565
  let c4_i32_294 : BitVec 32 := 4#32
  let c0_i32_297 : BitVec 32 := 0#32
  let v567 : BitVec 1 := Scalar.cmpi .sgt c4_i32_294 c0_i32_297
  let v568 : BitVec 32 := Scalar.extui v567
  let c0_i32_298 : BitVec 32 := 0#32
  let v569 : BitVec 1 := Scalar.cmpi .slt c4_i32_294 c0_i32_298
  let v570 : BitVec 32 := Scalar.extui v569
  let v571 : BitVec 32 := Scalar.subi v568 v570
  let v572 : BitVec 1 := Scalar.cmpi .ne v566 v571
  let v573 : BitVec 32 := Scalar.remsi v0 c4_i32_294
  let c0_i32_299 : BitVec 32 := 0#32
  let v574 : BitVec 1 := Scalar.cmpi .ne v573 c0_i32_299
  let v575 : BitVec 1 := Scalar.andi v572 v574
  let v561 : BitVec 32 := Scalar.divsi v0 c4_i32_294
  let c1_i32_300 : BitVec 32 := 1#32
  let v576 : BitVec 32 := Scalar.subi v561 c1_i32_300
  let v577 : BitVec 32 := Scalar.select v575 v576 v561
  let v578 : BitVec 32 := Scalar.muli c4_i32_301 v577
  let c1_i32_303 : BitVec 32 := 1#32
  let arg17 : BitVec 32 := Scf.iv v578 c1_i32_303 k0_t36
  let v613 : Index := Scalar.indexCast arg17
  let c128_314 : Index := 128#32
  let c0_315 : Index := 0#32
  ![v613.toNat, 128, 0]
@[reducible] def k0_t37_loop (i : grid0.Coords) : Scf.Loop 32 :=
  let c4_i32_301 : BitVec 32 := 4#32
  let arg1 : BitVec 32 := BitVec.ofNat 32 (i 1).val
  let c1_i32 : BitVec 32 := 1#32
  let v0 : BitVec 32 := Scalar.addi arg1 c1_i32
  let c0_i32_295 : BitVec 32 := 0#32
  let v562 : BitVec 1 := Scalar.cmpi .sgt v0 c0_i32_295
  let v563 : BitVec 32 := Scalar.extui v562
  let c0_i32_296 : BitVec 32 := 0#32
  let v564 : BitVec 1 := Scalar.cmpi .slt v0 c0_i32_296
  let v565 : BitVec 32 := Scalar.extui v564
  let v566 : BitVec 32 := Scalar.subi v563 v565
  let c4_i32_294 : BitVec 32 := 4#32
  let c0_i32_297 : BitVec 32 := 0#32
  let v567 : BitVec 1 := Scalar.cmpi .sgt c4_i32_294 c0_i32_297
  let v568 : BitVec 32 := Scalar.extui v567
  let c0_i32_298 : BitVec 32 := 0#32
  let v569 : BitVec 1 := Scalar.cmpi .slt c4_i32_294 c0_i32_298
  let v570 : BitVec 32 := Scalar.extui v569
  let v571 : BitVec 32 := Scalar.subi v568 v570
  let v572 : BitVec 1 := Scalar.cmpi .ne v566 v571
  let v573 : BitVec 32 := Scalar.remsi v0 c4_i32_294
  let c0_i32_299 : BitVec 32 := 0#32
  let v574 : BitVec 1 := Scalar.cmpi .ne v573 c0_i32_299
  let v575 : BitVec 1 := Scalar.andi v572 v574
  let v561 : BitVec 32 := Scalar.divsi v0 c4_i32_294
  let c1_i32_300 : BitVec 32 := 1#32
  let v576 : BitVec 32 := Scalar.subi v561 c1_i32_300
  let v577 : BitVec 32 := Scalar.select v575 v576 v561
  let v578 : BitVec 32 := Scalar.muli c4_i32_301 v577
  let v579 : BitVec 32 := Scalar.subi v0 v578
  let c1_i32_302 : BitVec 32 := 1#32
  let v581 : BitVec 32 := Scalar.divsi v579 c1_i32_302
  let v582 : BitVec 32 := Scalar.muli v581 c1_i32_302
  let v583 : BitVec 32 := Scalar.addi v578 v582
  let v580 : BitVec 32 := Scalar.addi v578 v579
  let c1_i32_304 : BitVec 32 := 1#32
  ⟨v583, v580, c1_i32_304⟩
def k0_off53 (i : grid0.Coords) (k0_t37 : Fin (k0_t37_loop i).trips) : Fin 3 → Nat :=
  let c4_i32_301 : BitVec 32 := 4#32
  let arg1 : BitVec 32 := BitVec.ofNat 32 (i 1).val
  let c1_i32 : BitVec 32 := 1#32
  let v0 : BitVec 32 := Scalar.addi arg1 c1_i32
  let c0_i32_295 : BitVec 32 := 0#32
  let v562 : BitVec 1 := Scalar.cmpi .sgt v0 c0_i32_295
  let v563 : BitVec 32 := Scalar.extui v562
  let c0_i32_296 : BitVec 32 := 0#32
  let v564 : BitVec 1 := Scalar.cmpi .slt v0 c0_i32_296
  let v565 : BitVec 32 := Scalar.extui v564
  let v566 : BitVec 32 := Scalar.subi v563 v565
  let c4_i32_294 : BitVec 32 := 4#32
  let c0_i32_297 : BitVec 32 := 0#32
  let v567 : BitVec 1 := Scalar.cmpi .sgt c4_i32_294 c0_i32_297
  let v568 : BitVec 32 := Scalar.extui v567
  let c0_i32_298 : BitVec 32 := 0#32
  let v569 : BitVec 1 := Scalar.cmpi .slt c4_i32_294 c0_i32_298
  let v570 : BitVec 32 := Scalar.extui v569
  let v571 : BitVec 32 := Scalar.subi v568 v570
  let v572 : BitVec 1 := Scalar.cmpi .ne v566 v571
  let v573 : BitVec 32 := Scalar.remsi v0 c4_i32_294
  let c0_i32_299 : BitVec 32 := 0#32
  let v574 : BitVec 1 := Scalar.cmpi .ne v573 c0_i32_299
  let v575 : BitVec 1 := Scalar.andi v572 v574
  let v561 : BitVec 32 := Scalar.divsi v0 c4_i32_294
  let c1_i32_300 : BitVec 32 := 1#32
  let v576 : BitVec 32 := Scalar.subi v561 c1_i32_300
  let v577 : BitVec 32 := Scalar.select v575 v576 v561
  let v578 : BitVec 32 := Scalar.muli c4_i32_301 v577
  let v579 : BitVec 32 := Scalar.subi v0 v578
  let c1_i32_302 : BitVec 32 := 1#32
  let v581 : BitVec 32 := Scalar.divsi v579 c1_i32_302
  let v582 : BitVec 32 := Scalar.muli v581 c1_i32_302
  let v583 : BitVec 32 := Scalar.addi v578 v582
  let c1_i32_304 : BitVec 32 := 1#32
  let arg17 : BitVec 32 := Scf.iv v583 c1_i32_304 k0_t37
  let v613 : Index := Scalar.indexCast arg17
  let c128_314 : Index := 128#32
  let c0_315 : Index := 0#32
  ![v613.toNat, 128, 0]
@[reducible] def k0_t38_loop (i : grid0.Coords) : Scf.Loop 32 :=
  let c0_i32_56 : BitVec 32 := 0#32
  let arg1 : BitVec 32 := BitVec.ofNat 32 (i 1).val
  let c1_i32 : BitVec 32 := 1#32
  let v0 : BitVec 32 := Scalar.addi arg1 c1_i32
  let v122 : BitVec 32 := Scalar.subi v0 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_58 : BitVec 32 := 1#32
  ⟨c0_i32_56, v126, c1_i32_58⟩
def k0_off54 (i : grid0.Coords) (k0_t38 : Fin (k0_t38_loop i).trips) : Fin 3 → Nat :=
  let c0_i32_56 : BitVec 32 := 0#32
  let c1_i32_58 : BitVec 32 := 1#32
  let arg17 : BitVec 32 := Scf.iv c0_i32_56 c1_i32_58 k0_t38
  let v284 : Index := Scalar.indexCast arg17
  let c0_169 : Index := 0#32
  let c0_170 : Index := 0#32
  ![v284.toNat, 0, 0]
@[reducible] def k0_t39_loop (i : grid0.Coords) : Scf.Loop 32 :=
  let c0_i32_56 : BitVec 32 := 0#32
  let arg1 : BitVec 32 := BitVec.ofNat 32 (i 1).val
  let c1_i32 : BitVec 32 := 1#32
  let v0 : BitVec 32 := Scalar.addi arg1 c1_i32
  let v122 : BitVec 32 := Scalar.subi v0 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let v123 : BitVec 32 := Scalar.addi c0_i32_56 v122
  let c1_i32_59 : BitVec 32 := 1#32
  ⟨v126, v123, c1_i32_59⟩
def k0_off55 (i : grid0.Coords) (k0_t39 : Fin (k0_t39_loop i).trips) : Fin 3 → Nat :=
  let c0_i32_56 : BitVec 32 := 0#32
  let arg1 : BitVec 32 := BitVec.ofNat 32 (i 1).val
  let c1_i32 : BitVec 32 := 1#32
  let v0 : BitVec 32 := Scalar.addi arg1 c1_i32
  let v122 : BitVec 32 := Scalar.subi v0 c0_i32_56
  let c1_i32_57 : BitVec 32 := 1#32
  let v124 : BitVec 32 := Scalar.divsi v122 c1_i32_57
  let v125 : BitVec 32 := Scalar.muli v124 c1_i32_57
  let v126 : BitVec 32 := Scalar.addi c0_i32_56 v125
  let c1_i32_59 : BitVec 32 := 1#32
  let arg17 : BitVec 32 := Scf.iv v126 c1_i32_59 k0_t39
  let v284 : Index := Scalar.indexCast arg17
  let c0_169 : Index := 0#32
  let c0_170 : Index := 0#32
  ![v284.toNat, 0, 0]
@[reducible] def k0_t40_loop (i : grid0.Coords) : Scf.Loop 32 :=
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_82 : BitVec 32 := 1#32
  ⟨c0_i32_80, v160, c1_i32_82⟩
def k0_off56 (i : grid0.Coords) (k0_t40 : Fin (k0_t40_loop i).trips) (c0_i32_166 : BitVec 32) : Fin 4 → Nat :=
  let c0_167 : Index := 0#32
  let c4_i32_165 : BitVec 32 := 4#32
  let c0_i32_80 : BitVec 32 := 0#32
  let c1_i32_82 : BitVec 32 := 1#32
  let arg17 : BitVec 32 := Scf.iv c0_i32_80 c1_i32_82 k0_t40
  let v280 : BitVec 32 := Scalar.muli c4_i32_165 arg17
  let v281 : BitVec 32 := Scalar.addi v280 c0_i32_166
  let v282 : Index := Scalar.indexCast v281
  let c0_168 : Index := 0#32
  let c0_169 : Index := 0#32
  ![0, v282.toNat, 0, 0]
def k0_mult1 (i : grid0.Coords) (k0_t40 : Fin (k0_t40_loop i).trips) : BitVec 32 :=
  let c4_i32_165 : BitVec 32 := 4#32
  let c0_i32_80 : BitVec 32 := 0#32
  let c1_i32_82 : BitVec 32 := 1#32
  let arg17 : BitVec 32 := Scf.iv c0_i32_80 c1_i32_82 k0_t40
  let v280 : BitVec 32 := Scalar.muli c4_i32_165 arg17
  let c0_i32_166 : BitVec 32 := 0#32
  let v281 : BitVec 32 := Scalar.addi v280 c0_i32_166
  let c256_i32 : BitVec 32 := 256#32
  let v285 : BitVec 32 := Scalar.muli v281 c256_i32
  v285
def k0_off57 (i : grid0.Coords) (k0_t40 : Fin (k0_t40_loop i).trips) (c0_i32_166 : BitVec 32) : Fin 3 → Nat :=
  let c0_170 : Index := 0#32
  let c4_i32_165 : BitVec 32 := 4#32
  let c0_i32_80 : BitVec 32 := 0#32
  let c1_i32_82 : BitVec 32 := 1#32
  let arg17 : BitVec 32 := Scf.iv c0_i32_80 c1_i32_82 k0_t40
  let v280 : BitVec 32 := Scalar.muli c4_i32_165 arg17
  let v281 : BitVec 32 := Scalar.addi v280 c0_i32_166
  let c256_i32 : BitVec 32 := 256#32
  let v285 : BitVec 32 := Scalar.muli v281 c256_i32
  let v286 : BitVec 32 := v285
  let v287 : Index := Scalar.indexCast v286
  let c0_171 : Index := 0#32
  ![0, v287.toNat, 0]
def k0_off58 (i : grid0.Coords) (k0_t40 : Fin (k0_t40_loop i).trips) (c0_i32_166 : BitVec 32) : Fin 3 → Nat :=
  let c4_i32_165 : BitVec 32 := 4#32
  let c0_i32_80 : BitVec 32 := 0#32
  let c1_i32_82 : BitVec 32 := 1#32
  let arg17 : BitVec 32 := Scf.iv c0_i32_80 c1_i32_82 k0_t40
  let v280 : BitVec 32 := Scalar.muli c4_i32_165 arg17
  let v281 : BitVec 32 := Scalar.addi v280 c0_i32_166
  let v290 : Index := Scalar.indexCast v281
  let c0_172 : Index := 0#32
  let c0_173 : Index := 0#32
  ![v290.toNat, 0, 0]
def k0_mult2 (i : grid0.Coords) (k0_t40 : Fin (k0_t40_loop i).trips) : BitVec 32 :=
  let c4_i32_374 : BitVec 32 := 4#32
  let c0_i32_80 : BitVec 32 := 0#32
  let c1_i32_82 : BitVec 32 := 1#32
  let arg17 : BitVec 32 := Scf.iv c0_i32_80 c1_i32_82 k0_t40
  let v605 : BitVec 32 := Scalar.muli c4_i32_374 arg17
  let c1_i32_375 : BitVec 32 := 1#32
  let v606 : BitVec 32 := Scalar.addi v605 c1_i32_375
  let c256_i32_379 : BitVec 32 := 256#32
  let v610 : BitVec 32 := Scalar.muli v606 c256_i32_379
  v610
def k0_mult3 (i : grid0.Coords) (k0_t40 : Fin (k0_t40_loop i).trips) : BitVec 32 :=
  let c4_i32_584 : BitVec 32 := 4#32
  let c0_i32_80 : BitVec 32 := 0#32
  let c1_i32_82 : BitVec 32 := 1#32
  let arg17 : BitVec 32 := Scf.iv c0_i32_80 c1_i32_82 k0_t40
  let v930 : BitVec 32 := Scalar.muli c4_i32_584 arg17
  let c2_i32 : BitVec 32 := 2#32
  let v931 : BitVec 32 := Scalar.addi v930 c2_i32
  let c256_i32_588 : BitVec 32 := 256#32
  let v935 : BitVec 32 := Scalar.muli v931 c256_i32_588
  v935
def k0_mult4 (i : grid0.Coords) (k0_t40 : Fin (k0_t40_loop i).trips) : BitVec 32 :=
  let c4_i32_793 : BitVec 32 := 4#32
  let c0_i32_80 : BitVec 32 := 0#32
  let c1_i32_82 : BitVec 32 := 1#32
  let arg17 : BitVec 32 := Scf.iv c0_i32_80 c1_i32_82 k0_t40
  let v1255 : BitVec 32 := Scalar.muli c4_i32_793 arg17
  let c3_i32 : BitVec 32 := 3#32
  let v1256 : BitVec 32 := Scalar.addi v1255 c3_i32
  let c256_i32_797 : BitVec 32 := 256#32
  let v1260 : BitVec 32 := Scalar.muli v1256 c256_i32_797
  v1260
@[reducible] def k0_t41_loop (i : grid0.Coords) : Scf.Loop 32 :=
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let v157 : BitVec 32 := Scalar.addi c0_i32_80 v156
  let c1_i32_83 : BitVec 32 := 1#32
  ⟨v160, v157, c1_i32_83⟩
def k0_off59 (i : grid0.Coords) (k0_t41 : Fin (k0_t41_loop i).trips) (c0_i32_166 : BitVec 32) : Fin 4 → Nat :=
  let c0_167 : Index := 0#32
  let c4_i32_165 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v280 : BitVec 32 := Scalar.muli c4_i32_165 arg17
  let v281 : BitVec 32 := Scalar.addi v280 c0_i32_166
  let v282 : Index := Scalar.indexCast v281
  let c0_168 : Index := 0#32
  let c0_169 : Index := 0#32
  ![0, v282.toNat, 0, 0]
def k0_mult5 (i : grid0.Coords) (k0_t41 : Fin (k0_t41_loop i).trips) : BitVec 32 :=
  let c4_i32_165 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v280 : BitVec 32 := Scalar.muli c4_i32_165 arg17
  let c0_i32_166 : BitVec 32 := 0#32
  let v281 : BitVec 32 := Scalar.addi v280 c0_i32_166
  let c256_i32 : BitVec 32 := 256#32
  let v285 : BitVec 32 := Scalar.muli v281 c256_i32
  v285
def k0_off60 (i : grid0.Coords) (k0_t41 : Fin (k0_t41_loop i).trips) (c0_i32_166 : BitVec 32) : Fin 3 → Nat :=
  let c0_170 : Index := 0#32
  let c4_i32_165 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v280 : BitVec 32 := Scalar.muli c4_i32_165 arg17
  let v281 : BitVec 32 := Scalar.addi v280 c0_i32_166
  let c256_i32 : BitVec 32 := 256#32
  let v285 : BitVec 32 := Scalar.muli v281 c256_i32
  let v286 : BitVec 32 := v285
  let v287 : Index := Scalar.indexCast v286
  let c0_171 : Index := 0#32
  ![0, v287.toNat, 0]
def k0_off61 (i : grid0.Coords) (k0_t41 : Fin (k0_t41_loop i).trips) (c0_i32_166 : BitVec 32) : Fin 3 → Nat :=
  let c4_i32_165 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v280 : BitVec 32 := Scalar.muli c4_i32_165 arg17
  let v281 : BitVec 32 := Scalar.addi v280 c0_i32_166
  let v290 : Index := Scalar.indexCast v281
  let c0_172 : Index := 0#32
  let c0_173 : Index := 0#32
  ![v290.toNat, 0, 0]
def k0_mult6 (i : grid0.Coords) (k0_t41 : Fin (k0_t41_loop i).trips) : BitVec 32 :=
  let c4_i32_374 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v605 : BitVec 32 := Scalar.muli c4_i32_374 arg17
  let c1_i32_375 : BitVec 32 := 1#32
  let v606 : BitVec 32 := Scalar.addi v605 c1_i32_375
  let c256_i32_379 : BitVec 32 := 256#32
  let v610 : BitVec 32 := Scalar.muli v606 c256_i32_379
  v610
def k0_mult7 (i : grid0.Coords) (k0_t41 : Fin (k0_t41_loop i).trips) : BitVec 32 :=
  let c4_i32_584 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v930 : BitVec 32 := Scalar.muli c4_i32_584 arg17
  let c2_i32 : BitVec 32 := 2#32
  let v931 : BitVec 32 := Scalar.addi v930 c2_i32
  let c256_i32_588 : BitVec 32 := 256#32
  let v935 : BitVec 32 := Scalar.muli v931 c256_i32_588
  v935
def k0_mult8 (i : grid0.Coords) (k0_t41 : Fin (k0_t41_loop i).trips) : BitVec 32 :=
  let c4_i32_793 : BitVec 32 := 4#32
  let c0_i32_80 : BitVec 32 := 0#32
  let arg1 : BitVec 32 := BitVec.ofNat 32 (i 1).val
  let c1_i32 : BitVec 32 := 1#32
  let v0 : BitVec 32 := Scalar.addi arg1 c1_i32
  let c0_i32_73 : BitVec 32 := 0#32
  let v140 : BitVec 1 := Scalar.cmpi .sgt v0 c0_i32_73
  let v141 : BitVec 32 := Scalar.extui v140
  let c0_i32_74 : BitVec 32 := 0#32
  let v142 : BitVec 1 := Scalar.cmpi .slt v0 c0_i32_74
  let v143 : BitVec 32 := Scalar.extui v142
  let v144 : BitVec 32 := Scalar.subi v141 v143
  let c4_i32_72 : BitVec 32 := 4#32
  let c0_i32_75 : BitVec 32 := 0#32
  let v145 : BitVec 1 := Scalar.cmpi .sgt c4_i32_72 c0_i32_75
  let v146 : BitVec 32 := Scalar.extui v145
  let c0_i32_76 : BitVec 32 := 0#32
  let v147 : BitVec 1 := Scalar.cmpi .slt c4_i32_72 c0_i32_76
  let v148 : BitVec 32 := Scalar.extui v147
  let v149 : BitVec 32 := Scalar.subi v146 v148
  let v150 : BitVec 1 := Scalar.cmpi .ne v144 v149
  let v151 : BitVec 32 := Scalar.remsi v0 c4_i32_72
  let c0_i32_77 : BitVec 32 := 0#32
  let v152 : BitVec 1 := Scalar.cmpi .ne v151 c0_i32_77
  let v153 : BitVec 1 := Scalar.andi v150 v152
  let v139 : BitVec 32 := Scalar.divsi v0 c4_i32_72
  let c1_i32_78 : BitVec 32 := 1#32
  let v154 : BitVec 32 := Scalar.subi v139 c1_i32_78
  let v155 : BitVec 32 := Scalar.select v153 v154 v139
  let v156 : BitVec 32 := Scalar.subi v155 c0_i32_80
  let c1_i32_81 : BitVec 32 := 1#32
  let v158 : BitVec 32 := Scalar.divsi v156 c1_i32_81
  let v159 : BitVec 32 := Scalar.muli v158 c1_i32_81
  let v160 : BitVec 32 := Scalar.addi c0_i32_80 v159
  let c1_i32_83 : BitVec 32 := 1#32
  let arg17 : BitVec 32 := Scf.iv v160 c1_i32_83 k0_t41
  let v1255 : BitVec 32 := Scalar.muli c4_i32_793 arg17
  let c3_i32 : BitVec 32 := 3#32
  let v1256 : BitVec 32 := Scalar.addi v1255 c3_i32
  let c256_i32_797 : BitVec 32 := 256#32
  let v1260 : BitVec 32 := Scalar.muli v1256 c256_i32_797
  v1260
@[reducible] def k0_t42_loop (i : grid0.Coords) : Scf.Loop 32 :=
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let v179 : BitVec 32 := Scalar.subi v0 v178
  let c1_i32_93 : BitVec 32 := 1#32
  let v181 : BitVec 32 := Scalar.divsi v179 c1_i32_93
  let v182 : BitVec 32 := Scalar.muli v181 c1_i32_93
  let v183 : BitVec 32 := Scalar.addi v178 v182
  let c1_i32_94 : BitVec 32 := 1#32
  ⟨v178, v183, c1_i32_94⟩
def k0_off62 (i : grid0.Coords) (k0_t42 : Fin (k0_t42_loop i).trips) : Fin 4 → Nat :=
  let c0_165 : Index := 0#32
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let c1_i32_94 : BitVec 32 := 1#32
  let arg17 : BitVec 32 := Scf.iv v178 c1_i32_94 k0_t42
  let v280 : Index := Scalar.indexCast arg17
  let c0_166 : Index := 0#32
  let c0_167 : Index := 0#32
  ![0, v280.toNat, 0, 0]
def k0_mult9 (i : grid0.Coords) (k0_t42 : Fin (k0_t42_loop i).trips) : BitVec 32 :=
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let c1_i32_94 : BitVec 32 := 1#32
  let arg17 : BitVec 32 := Scf.iv v178 c1_i32_94 k0_t42
  let c256_i32 : BitVec 32 := 256#32
  let v283 : BitVec 32 := Scalar.muli arg17 c256_i32
  v283
def k0_off63 (i : grid0.Coords) (k0_t42 : Fin (k0_t42_loop i).trips) : Fin 3 → Nat :=
  let c0_168 : Index := 0#32
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let c1_i32_94 : BitVec 32 := 1#32
  let arg17 : BitVec 32 := Scf.iv v178 c1_i32_94 k0_t42
  let c256_i32 : BitVec 32 := 256#32
  let v283 : BitVec 32 := Scalar.muli arg17 c256_i32
  let v284 : BitVec 32 := v283
  let v285 : Index := Scalar.indexCast v284
  let c0_169 : Index := 0#32
  ![0, v285.toNat, 0]
def k0_off64 (i : grid0.Coords) (k0_t42 : Fin (k0_t42_loop i).trips) : Fin 3 → Nat :=
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let c1_i32_94 : BitVec 32 := 1#32
  let arg17 : BitVec 32 := Scf.iv v178 c1_i32_94 k0_t42
  let v288 : Index := Scalar.indexCast arg17
  let c0_170 : Index := 0#32
  let c0_171 : Index := 0#32
  ![v288.toNat, 0, 0]
@[reducible] def k0_t43_loop (i : grid0.Coords) : Scf.Loop 32 :=
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let v179 : BitVec 32 := Scalar.subi v0 v178
  let c1_i32_93 : BitVec 32 := 1#32
  let v181 : BitVec 32 := Scalar.divsi v179 c1_i32_93
  let v182 : BitVec 32 := Scalar.muli v181 c1_i32_93
  let v183 : BitVec 32 := Scalar.addi v178 v182
  let v180 : BitVec 32 := Scalar.addi v178 v179
  let c1_i32_95 : BitVec 32 := 1#32
  ⟨v183, v180, c1_i32_95⟩
def k0_off65 (i : grid0.Coords) (k0_t43 : Fin (k0_t43_loop i).trips) : Fin 4 → Nat :=
  let c0_165 : Index := 0#32
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let v179 : BitVec 32 := Scalar.subi v0 v178
  let c1_i32_93 : BitVec 32 := 1#32
  let v181 : BitVec 32 := Scalar.divsi v179 c1_i32_93
  let v182 : BitVec 32 := Scalar.muli v181 c1_i32_93
  let v183 : BitVec 32 := Scalar.addi v178 v182
  let c1_i32_95 : BitVec 32 := 1#32
  let arg17 : BitVec 32 := Scf.iv v183 c1_i32_95 k0_t43
  let v280 : Index := Scalar.indexCast arg17
  let c0_166 : Index := 0#32
  let c0_167 : Index := 0#32
  ![0, v280.toNat, 0, 0]
def k0_mult10 (i : grid0.Coords) (k0_t43 : Fin (k0_t43_loop i).trips) : BitVec 32 :=
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let v179 : BitVec 32 := Scalar.subi v0 v178
  let c1_i32_93 : BitVec 32 := 1#32
  let v181 : BitVec 32 := Scalar.divsi v179 c1_i32_93
  let v182 : BitVec 32 := Scalar.muli v181 c1_i32_93
  let v183 : BitVec 32 := Scalar.addi v178 v182
  let c1_i32_95 : BitVec 32 := 1#32
  let arg17 : BitVec 32 := Scf.iv v183 c1_i32_95 k0_t43
  let c256_i32 : BitVec 32 := 256#32
  let v283 : BitVec 32 := Scalar.muli arg17 c256_i32
  v283
def k0_off66 (i : grid0.Coords) (k0_t43 : Fin (k0_t43_loop i).trips) : Fin 3 → Nat :=
  let c0_168 : Index := 0#32
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let v179 : BitVec 32 := Scalar.subi v0 v178
  let c1_i32_93 : BitVec 32 := 1#32
  let v181 : BitVec 32 := Scalar.divsi v179 c1_i32_93
  let v182 : BitVec 32 := Scalar.muli v181 c1_i32_93
  let v183 : BitVec 32 := Scalar.addi v178 v182
  let c1_i32_95 : BitVec 32 := 1#32
  let arg17 : BitVec 32 := Scf.iv v183 c1_i32_95 k0_t43
  let c256_i32 : BitVec 32 := 256#32
  let v283 : BitVec 32 := Scalar.muli arg17 c256_i32
  let v284 : BitVec 32 := v283
  let v285 : Index := Scalar.indexCast v284
  let c0_169 : Index := 0#32
  ![0, v285.toNat, 0]
def k0_off67 (i : grid0.Coords) (k0_t43 : Fin (k0_t43_loop i).trips) : Fin 3 → Nat :=
  let c4_i32_91 : BitVec 32 := 4#32
  let arg1 : BitVec 32 := BitVec.ofNat 32 (i 1).val
  let c1_i32 : BitVec 32 := 1#32
  let v0 : BitVec 32 := Scalar.addi arg1 c1_i32
  let c0_i32_85 : BitVec 32 := 0#32
  let v162 : BitVec 1 := Scalar.cmpi .sgt v0 c0_i32_85
  let v163 : BitVec 32 := Scalar.extui v162
  let c0_i32_86 : BitVec 32 := 0#32
  let v164 : BitVec 1 := Scalar.cmpi .slt v0 c0_i32_86
  let v165 : BitVec 32 := Scalar.extui v164
  let v166 : BitVec 32 := Scalar.subi v163 v165
  let c4_i32_84 : BitVec 32 := 4#32
  let c0_i32_87 : BitVec 32 := 0#32
  let v167 : BitVec 1 := Scalar.cmpi .sgt c4_i32_84 c0_i32_87
  let v168 : BitVec 32 := Scalar.extui v167
  let c0_i32_88 : BitVec 32 := 0#32
  let v169 : BitVec 1 := Scalar.cmpi .slt c4_i32_84 c0_i32_88
  let v170 : BitVec 32 := Scalar.extui v169
  let v171 : BitVec 32 := Scalar.subi v168 v170
  let v172 : BitVec 1 := Scalar.cmpi .ne v166 v171
  let v173 : BitVec 32 := Scalar.remsi v0 c4_i32_84
  let c0_i32_89 : BitVec 32 := 0#32
  let v174 : BitVec 1 := Scalar.cmpi .ne v173 c0_i32_89
  let v175 : BitVec 1 := Scalar.andi v172 v174
  let v161 : BitVec 32 := Scalar.divsi v0 c4_i32_84
  let c1_i32_90 : BitVec 32 := 1#32
  let v176 : BitVec 32 := Scalar.subi v161 c1_i32_90
  let v177 : BitVec 32 := Scalar.select v175 v176 v161
  let v178 : BitVec 32 := Scalar.muli c4_i32_91 v177
  let v179 : BitVec 32 := Scalar.subi v0 v178
  let c1_i32_93 : BitVec 32 := 1#32
  let v181 : BitVec 32 := Scalar.divsi v179 c1_i32_93
  let v182 : BitVec 32 := Scalar.muli v181 c1_i32_93
  let v183 : BitVec 32 := Scalar.addi v178 v182
  let c1_i32_95 : BitVec 32 := 1#32
  let arg17 : BitVec 32 := Scf.iv v183 c1_i32_95 k0_t43
  let v288 : Index := Scalar.indexCast arg17
  let c0_170 : Index := 0#32
  let c0_171 : Index := 0#32
  ![v288.toNat, 0, 0]
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x16384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x64x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SampleAttn.lean ====
abbrev S128x64 : Shape := ⟨2, ![128, 64]⟩
abbrev S128x32x128 : Shape := ⟨3, ![128, 32, 128]⟩
abbrev S128x32x64 : Shape := ⟨3, ![128, 32, 64]⟩
abbrev S128x64x128 : Shape := ⟨3, ![128, 64, 128]⟩
abbrev S128x128x128 : Shape := ⟨3, ![128, 128, 128]⟩
abbrev S10240x64x128 : Shape := ⟨3, ![10240, 64, 128]⟩
abbrev S10240x128x128 : Shape := ⟨3, ![10240, 128, 128]⟩
abbrev S1x32x128 : Shape := ⟨3, ![1, 32, 128]⟩
abbrev S1x32x64 : Shape := ⟨3, ![1, 32, 64]⟩
abbrev S1x64x128 : Shape := ⟨3, ![1, 64, 128]⟩
abbrev S1x128x128 : Shape := ⟨3, ![1, 128, 128]⟩
abbrev S1x1 : Shape := ⟨2, ![1, 1]⟩
abbrev S65x8x128 : Shape := ⟨3, ![65, 8, 128]⟩
abbrev S65x32x128 : Shape := ⟨3, ![65, 32, 128]⟩
abbrev S65x128x128 : Shape := ⟨3, ![65, 128, 128]⟩
abbrev S32x64 : Shape := ⟨2, ![32, 64]⟩
abbrev S32x128 : Shape := ⟨2, ![32, 128]⟩
abbrev S64x128 : Shape := ⟨2, ![64, 128]⟩
abbrev S8x128 : Shape := ⟨2, ![8, 128]⟩
abbrev S1x8x128 : Shape := ⟨3, ![1, 8, 128]⟩
abbrev S128x128 : Shape := ⟨2, ![128, 128]⟩
abbrev S9x8x128 : Shape := ⟨3, ![9, 8, 128]⟩
abbrev S2x8x128 : Shape := ⟨3, ![2, 8, 128]⟩
abbrev S8 : Shape := ⟨1, ![8]⟩
abbrev S8x1 : Shape := ⟨2, ![8, 1]⟩
abbrev S1 : Shape := ⟨1, ![1]⟩
abbrev S1x1x1 : Shape := ⟨3, ![1, 1, 1]⟩
abbrev S65x1x128 : Shape := ⟨3, ![65, 1, 128]⟩
abbrev S1x8x1 : Shape := ⟨3, ![1, 8, 1]⟩
abbrev S32x8320 : Shape := ⟨2, ![32, 8320]⟩
abbrev S128x8320 : Shape := ⟨2, ![128, 8320]⟩

abbrev nBuf : Space → Nat
  | .hbm => 10
  | .vmem => 113
  | .smem => 1
  | _ => 0

abbrev bufTy : (tb : Table) → Fin (tcTables nBuf tb) → BufTy
  | .hbm, ⟨0, _⟩ => ⟨S128x32x128, .bf16⟩
  | .hbm, ⟨1, _⟩ => ⟨S128x32x64, .bf16⟩
  | .hbm, ⟨2, _⟩ => ⟨S128x32x128, .f32⟩
  | .hbm, ⟨3, _⟩ => ⟨S128x64x128, .bf16⟩
  | .hbm, ⟨4, _⟩ => ⟨S128x128x128, .bf16⟩
  | .hbm, ⟨5, _⟩ => ⟨S128x128x128, .bf16⟩
  | .hbm, ⟨6, _⟩ => ⟨S10240x64x128, .f32⟩
  | .hbm, ⟨7, _⟩ => ⟨S10240x128x128, .f32⟩
  | .hbm, ⟨8, _⟩ => ⟨S10240x128x128, .f32⟩
  | .hbm, ⟨9, _⟩ => ⟨S128x32x128, .f32⟩
  | .local _ .vmem, ⟨0, _⟩ => ⟨S1x32x128, .bf16⟩
  | .local _ .vmem, ⟨1, _⟩ => ⟨S1x32x128, .bf16⟩
  | .local _ .vmem, ⟨2, _⟩ => ⟨S1x32x64, .bf16⟩
  | .local _ .vmem, ⟨3, _⟩ => ⟨S1x32x64, .bf16⟩
  | .local _ .vmem, ⟨4, _⟩ => ⟨S1x32x128, .f32⟩
  | .local _ .vmem, ⟨5, _⟩ => ⟨S1x32x128, .f32⟩
  | .local _ .vmem, ⟨6, _⟩ => ⟨S1x64x128, .bf16⟩
  | .local _ .vmem, ⟨7, _⟩ => ⟨S1x64x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x64x128, .f32⟩
  | .local _ .vmem, ⟨26, _⟩ => ⟨S1x64x128, .f32⟩
  | .local _ .vmem, ⟨27, _⟩ => ⟨S1x64x128, .f32⟩
  | .local _ .vmem, ⟨28, _⟩ => ⟨S1x64x128, .f32⟩
  | .local _ .vmem, ⟨29, _⟩ => ⟨S1x64x128, .f32⟩
  | .local _ .vmem, ⟨30, _⟩ => ⟨S1x64x128, .f32⟩
  | .local _ .vmem, ⟨31, _⟩ => ⟨S1x64x128, .f32⟩
  | .local _ .vmem, ⟨32, _⟩ => ⟨S1x64x128, .f32⟩
  | .local _ .vmem, ⟨33, _⟩ => ⟨S1x64x128, .f32⟩
  | .local _ .vmem, ⟨34, _⟩ => ⟨S1x64x128, .f32⟩
  | .local _ .vmem, ⟨35, _⟩ => ⟨S1x64x128, .f32⟩
  | .local _ .vmem, ⟨36, _⟩ => ⟨S1x64x128, .f32⟩
  | .local _ .vmem, ⟨37, _⟩ => ⟨S1x64x128, .f32⟩
  | .local _ .vmem, ⟨38, _⟩ => ⟨S1x64x128, .f32⟩
  | .local _ .vmem, ⟨39, _⟩ => ⟨S1x64x128, .f32⟩
  | .local _ .vmem, ⟨40, _⟩ => ⟨S1x64x128, .f32⟩
  | .local _ .vmem, ⟨41, _⟩ => ⟨S1x64x128, .f32⟩
  | .local _ .vmem, ⟨42, _⟩ => ⟨S1x64x128, .f32⟩
  | .local _ .vmem, ⟨43, _⟩ => ⟨S1x64x128, .f32⟩
  | .local _ .vmem, ⟨44, _⟩ => ⟨S1x128x128, .f32⟩
  | .local _ .vmem, ⟨45, _⟩ => ⟨S1x128x128, .f32⟩
  | .local _ .vmem, ⟨46, _⟩ => ⟨S1x128x128, .f32⟩
  | .local _ .vmem, ⟨47, _⟩ => ⟨S1x128x128, .f32⟩
  | .local _ .vmem, ⟨48, _⟩ => ⟨S1x128x128, .f32⟩
  | .local _ .vmem, ⟨49, _⟩ => ⟨S1x128x128, .f32⟩
  | .local _ .vmem, ⟨50, _⟩ => ⟨S1x128x128, .f32⟩
  | .local _ .vmem, ⟨51, _⟩ => ⟨S1x128x128, .f32⟩
  | .local _ .vmem, ⟨52, _⟩ => ⟨S1x128x128, .f32⟩
  | .local _ .vmem, ⟨53, _⟩ => ⟨S1x128x128, .f32⟩
  | .local _ .vmem, ⟨54, _⟩ => ⟨S1x128x128, .f32⟩
  | .local _ .vmem, ⟨55, _⟩ => ⟨S1x128x128, .f32⟩
  | .local _ .vmem, ⟨56, _⟩ => ⟨S1x128x128, .f32⟩
  | .local _ .vmem, ⟨57, _⟩ => ⟨S1x128x128, .f32⟩
  | .local _ .vmem, ⟨58, _⟩ => ⟨S1x128x128, .f32⟩
  | .local _ .vmem, ⟨59, _⟩ => ⟨S1x128x128, .f32⟩
  | .local _ .vmem, ⟨60, _⟩ => ⟨S1x128x128, .f32⟩
  | .local _ .vmem, ⟨61, _⟩ => ⟨S1x128x128, .f32⟩
  | .local _ .vmem, ⟨62, _⟩ => ⟨S1x128x128, .f32⟩
  | .local _ .vmem, ⟨63, _⟩ => ⟨S1x128x128, .f32⟩
  | .local _ .vmem, ⟨64, _⟩ => ⟨S1x128x128, .f32⟩
  | .local _ .vmem, ⟨65, _⟩ => ⟨S1x128x128, .f32⟩
  | .local _ .vmem, ⟨66, _⟩ => ⟨S1x128x128, .f32⟩
  | .local _ .vmem, ⟨67, _⟩ => ⟨S1x128x128, .f32⟩
  | .local _ .vmem, ⟨68, _⟩ => ⟨S1x128x128, .f32⟩
  | .local _ .vmem, ⟨69, _⟩ => ⟨S1x128x128, .f32⟩
  | .local _ .vmem, ⟨70, _⟩ => ⟨S1x128x128, .f32⟩
  | .local _ .vmem, ⟨71, _⟩ => ⟨S1x128x128, .f32⟩
  | .local _ .vmem, ⟨72, _⟩ => ⟨S1x128x128, .f32⟩
  | .local _ .vmem, ⟨73, _⟩ => ⟨S1x128x128, .f32⟩
  | .local _ .vmem, ⟨74, _⟩ => ⟨S1x128x128, .f32⟩
  | .local _ .vmem, ⟨75, _⟩ => ⟨S1x128x128, .f32⟩
  | .local _ .vmem, ⟨76, _⟩ => ⟨S1x128x128, .f32⟩
  | .local _ .vmem, ⟨77, _⟩ => ⟨S1x128x128, .f32⟩
  | .local _ .vmem, ⟨78, _⟩ => ⟨S1x128x128, .f32⟩
  | .local _ .vmem, ⟨79, _⟩ => ⟨S1x128x128, .f32⟩
  | .local _ .vmem, ⟨80, _⟩ => ⟨S1x128x128, .f32⟩
  | .local _ .vmem, ⟨81, _⟩ => ⟨S1x128x128, .f32⟩
  | .local _ .vmem, ⟨82, _⟩ => ⟨S1x128x128, .f32⟩
  | .local _ .vmem, ⟨83, _⟩ => ⟨S1x128x128, .f32⟩
  | .local _ .vmem, ⟨84, _⟩ => ⟨S1x128x128, .f32⟩
  | .local _ .vmem, ⟨85, _⟩ => ⟨S1x128x128, .f32⟩
  | .local _ .vmem, ⟨86, _⟩ => ⟨S1x128x128, .f32⟩
  | .local _ .vmem, ⟨87, _⟩ => ⟨S1x128x128, .f32⟩
  | .local _ .vmem, ⟨88, _⟩ => ⟨S1x128x128, .f32⟩
  | .local _ .vmem, ⟨89, _⟩ => ⟨S1x128x128, .f32⟩
  | .local _ .vmem, ⟨90, _⟩ => ⟨S1x128x128, .f32⟩
  | .local _ .vmem, ⟨91, _⟩ => ⟨S1x128x128, .f32⟩
  | .local _ .vmem, ⟨92, _⟩ => ⟨S1x128x128, .f32⟩
  | .local _ .vmem, ⟨93, _⟩ => ⟨S1x128x128, .f32⟩
  | .local _ .vmem, ⟨94, _⟩ => ⟨S1x128x128, .f32⟩
  | .local _ .vmem, ⟨95, _⟩ => ⟨S1x128x128, .f32⟩
  | .local _ .vmem, ⟨96, _⟩ => ⟨S1x128x128, .f32⟩
  | .local _ .vmem, ⟨97, _⟩ => ⟨S1x128x128, .f32⟩
  | .local _ .vmem, ⟨98, _⟩ => ⟨S1x128x128, .f32⟩
  | .local _ .vmem, ⟨99, _⟩ => ⟨S1x128x128, .f32⟩
  | .local _ .vmem, ⟨100, _⟩ => ⟨S1x128x128, .f32⟩
  | .local _ .vmem, ⟨101, _⟩ => ⟨S1x128x128, .f32⟩
  | .local _ .vmem, ⟨102, _⟩ => ⟨S1x128x128, .f32⟩
  | .local _ .vmem, ⟨103, _⟩ => ⟨S1x128x128, .f32⟩
  | .local _ .vmem, ⟨104, _⟩ => ⟨S1x128x128, .f32⟩
  | .local _ .vmem, ⟨105, _⟩ => ⟨S1x128x128, .f32⟩
  | .local _ .vmem, ⟨106, _⟩ => ⟨S1x128x128, .f32⟩
  | .local _ .vmem, ⟨107, _⟩ => ⟨S1x128x128, .f32⟩
  | .local _ .vmem, ⟨108, _⟩ => ⟨S1x32x128, .f32⟩
  | .local _ .vmem, ⟨109, _⟩ => ⟨S1x32x128, .f32⟩
  | .local _ .vmem, ⟨110, _⟩ => ⟨S65x8x128, .f32⟩
  | .local _ .vmem, ⟨111, _⟩ => ⟨S65x32x128, .f32⟩
  | .local _ .vmem, ⟨112, _⟩ => ⟨S65x128x128, .bf16⟩
  | .local _ .smem, ⟨0, _⟩ => ⟨S128x64, .i32⟩
  | _, _ => ⟨S128x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_scratch0 : Ref sig .tc := ⟨.vmem, 110, rfl⟩
abbrev cc0_scratch1 : Ref sig .tc := ⟨.vmem, 111, rfl⟩
abbrev cc0_scratch2 : Ref sig .tc := ⟨.vmem, 112, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109

abbrev nD : Nat := 1
abbrev τ : Topo := Topo.v7x

variable {F : FTy → Type} [FloatOps F]

abbrev grid0 : Pipeline.Grid := ⟨2, ![128, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c16_i32 : BitVec 32 := 16#32
  let v0 : BitVec 32 := Scalar.muli arg1 c16_i32
  let v1 : BitVec 32 := Scalar.addi v0 c0_i32
  let v3 : Index := Scalar.indexCast v1
  ![v2.toNat, v3.toNat]
def k0_off2 (i : grid0.Coords) (c0_i32 : BitVec 32) : Fin 3 → Nat :=
  let arg1 : BitVec 32 := BitVec.ofNat 32 (i 1).val
  let c16_i32 : BitVec 32 := 16#32
  let v6 : BitVec 32 := Scalar.muli arg1 c16_i32
  let v7 : BitVec 32 := Scalar.addi v6 c0_i32
  let v35 : Index := Scalar.indexCast v7
  let c0_15 : Index := 0#32
  let c0_16 : Index := 0#32
  ![v35.toNat, 0, 0]
def k0_off3 (i : grid0.Coords) (c0_i32 : BitVec 32) : Fin 3 → Nat :=
  let arg1 : BitVec 32 := BitVec.ofNat 32 (i 1).val
  let c16_i32 : BitVec 32 := 16#32
  let v6 : BitVec 32 := Scalar.muli arg1 c16_i32
  let v7 : BitVec 32 := Scalar.addi v6 c0_i32
  let v43 : Index := Scalar.indexCast v7
  let c0_21 : Index := 0#32
  let c0_22 : Index := 0#32
  ![v43.toNat, 0, 0]
def k0_off4 (i : grid0.Coords) (c0_i32 : BitVec 32) : Fin 3 → Nat :=
  let arg1 : BitVec 32 := BitVec.ofNat 32 (i 1).val
  let c16_i32 : BitVec 32 := 16#32
  let v6 : BitVec 32 := Scalar.muli arg1 c16_i32
  let v7 : BitVec 32 := Scalar.addi v6 c0_i32
  let v50 : Index := Scalar.indexCast v7
  let c0_26 : Index := 0#32
  let c0_27 : Index := 0#32
  ![v50.toNat, 0, 0]
def k0_cond1 (i : grid0.Coords) : BitVec 1 :=
  let arg1 : BitVec 32 := BitVec.ofNat 32 (i 1).val
  let c3_i32_358 : BitVec 32 := 3#32
  let v774 : BitVec 1 := Scalar.cmpi .eq arg1 c3_i32_358
  let v775 : BitVec 32 := Scalar.extui v774
  let c0_i32_359 : BitVec 32 := 0#32
  let v776 : BitVec 1 := Scalar.cmpi .ne v775 c0_i32_359
  v776

@[reducible] def k0_t1_loop : Scf.Loop 32 :=
  let c0_i32_388 : BitVec 32 := 0#32
  let c16_i32_389 : BitVec 32 := 16#32
  let v834 : BitVec 32 := Scalar.addi c0_i32_388 c16_i32_389
  let c1_i32_390 : BitVec 32 := 1#32
  ⟨c0_i32_388, v834, c1_i32_390⟩
@[reducible] def k0_t2_loop : Scf.Loop 32 :=
  let c0_i32_815 : BitVec 32 := 0#32
  let c14_i32_816 : BitVec 32 := 14#32
  let v1338 : BitVec 32 := Scalar.addi c0_i32_815 c14_i32_816
  let c1_i32_817 : BitVec 32 := 1#32
  ⟨c0_i32_815, v1338, c1_i32_817⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_7 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_8 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_9 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_10 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_11 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_12 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_13 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_14 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S128x64) ![v2.toNat, v3.toNat] S1x1.size (k0_off1_inb i 8)) numel1_S1x1
  let c0_i32 : BitVec 32 := 0#32
  let c0_i32_0 : BitVec 32 := 0#32
  let c0_i32_1 : BitVec 32 := 0#32
  ![v4.toNat, c0_i32.toNat, c0_i32_0.toNat]

def cc0_transform_15 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S128x64) ![v2.toNat, v3.toNat] S1x1.size (k0_off1_inb i 9)) numel1_S1x1
  let c0_i32 : BitVec 32 := 0#32
  let c0_i32_0 : BitVec 32 := 0#32
  let c0_i32_1 : BitVec 32 := 0#32
  ![v4.toNat, c0_i32.toNat, c0_i32_0.toNat]

def cc0_transform_16 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S128x64) ![v2.toNat, v3.toNat] S1x1.size (k0_off1_inb i 10)) numel1_S1x1
  let c0_i32 : BitVec 32 := 0#32
  let c0_i32_0 : BitVec 32 := 0#32
  let c0_i32_1 : BitVec 32 := 0#32
  ![v4.toNat, c0_i32.toNat, c0_i32_0.toNat]

def cc0_transform_17 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S128x64) ![v2.toNat, v3.toNat] S1x1.size (k0_off1_inb i 11)) numel1_S1x1
  let c0_i32 : BitVec 32 := 0#32
  let c0_i32_0 : BitVec 32 := 0#32
  let c0_i32_1 : BitVec 32 := 0#32
  ![v4.toNat, c0_i32.toNat, c0_i32_0.toNat]

def cc0_transform_18 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S128x64) ![v2.toNat, v3.toNat] S1x1.size (k0_off1_inb i 12)) numel1_S1x1
  let c0_i32 : BitVec 32 := 0#32
  let c0_i32_0 : BitVec 32 := 0#32
  let c0_i32_1 : BitVec 32 := 0#32
  ![v4.toNat, c0_i32.toNat, c0_i32_0.toNat]

def cc0_transform_19 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S128x64) ![v2.toNat, v3.toNat] S1x1.size (k0_off1_inb i 13)) numel1_S1x1
  let c0_i32 : BitVec 32 := 0#32
  let c0_i32_0 : BitVec 32 := 0#32
  let c0_i32_1 : BitVec 32 := 0#32
  ![v4.toNat, c0_i32.toNat, c0_i32_0.toNat]

def cc0_transform_20 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S128x64) ![v2.toNat, v3.toNat] S1x1.size (k0_off1_inb i 14)) numel1_S1x1
  let c0_i32 : BitVec 32 := 0#32
  let c0_i32_0 : BitVec 32 := 0#32
  let c0_i32_1 : BitVec 32 := 0#32
  ![v4.toNat, c0_i32.toNat, c0_i32_0.toNat]

def cc0_transform_21 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S128x64) ![v2.toNat, v3.toNat] S1x1.size (k0_off1_inb i 15)) numel1_S1x1
  let c0_i32 : BitVec 32 := 0#32
  let c0_i32_0 : BitVec 32 := 0#32
  let c0_i32_1 : BitVec 32 := 0#32
  ![v4.toNat, c0_i32.toNat, c0_i32_0.toNat]

def cc0_transform_22 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_23 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_24 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_25 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_26 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_27 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_28 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_29 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_30 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S128x64) ![v2.toNat, v3.toNat] S1x1.size (k0_off1_inb i 8)) numel1_S1x1
  let c0_i32 : BitVec 32 := 0#32
  let c0_i32_0 : BitVec 32 := 0#32
  let c0_i32_1 : BitVec 32 := 0#32
  ![v4.toNat, c0_i32.toNat, c0_i32_0.toNat]

def cc0_transform_31 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S128x64) ![v2.toNat, v3.toNat] S1x1.size (k0_off1_inb i 9)) numel1_S1x1
  let c0_i32 : BitVec 32 := 0#32
  let c0_i32_0 : BitVec 32 := 0#32
  let c0_i32_1 : BitVec 32 := 0#32
  ![v4.toNat, c0_i32.toNat, c0_i32_0.toNat]

def cc0_transform_32 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S128x64) ![v2.toNat, v3.toNat] S1x1.size (k0_off1_inb i 10)) numel1_S1x1
  let c0_i32 : BitVec 32 := 0#32
  let c0_i32_0 : BitVec 32 := 0#32
  let c0_i32_1 : BitVec 32 := 0#32
  ![v4.toNat, c0_i32.toNat, c0_i32_0.toNat]

def cc0_transform_33 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S128x64) ![v2.toNat, v3.toNat] S1x1.size (k0_off1_inb i 11)) numel1_S1x1
  let c0_i32 : BitVec 32 := 0#32
  let c0_i32_0 : BitVec 32 := 0#32
  let c0_i32_1 : BitVec 32 := 0#32
  ![v4.toNat, c0_i32.toNat, c0_i32_0.toNat]

def cc0_transform_34 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S128x64) ![v2.toNat, v3.toNat] S1x1.size (k0_off1_inb i 12)) numel1_S1x1
  let c0_i32 : BitVec 32 := 0#32
  let c0_i32_0 : BitVec 32 := 0#32
  let c0_i32_1 : BitVec 32 := 0#32
  ![v4.toNat, c0_i32.toNat, c0_i32_0.toNat]

def cc0_transform_35 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S128x64) ![v2.toNat, v3.toNat] S1x1.size (k0_off1_inb i 13)) numel1_S1x1
  let c0_i32 : BitVec 32 := 0#32
  let c0_i32_0 : BitVec 32 := 0#32
  let c0_i32_1 : BitVec 32 := 0#32
  ![v4.toNat, c0_i32.toNat, c0_i32_0.toNat]

def cc0_transform_36 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S128x64) ![v2.toNat, v3.toNat] S1x1.size (k0_off1_inb i 14)) numel1_S1x1
  let c0_i32 : BitVec 32 := 0#32
  let c0_i32_0 : BitVec 32 := 0#32
  let c0_i32_1 : BitVec 32 := 0#32
  ![v4.toNat, c0_i32.toNat, c0_i32_0.toNat]

def cc0_transform_37 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S128x64) ![v2.toNat, v3.toNat] S1x1.size (k0_off1_inb i 15)) numel1_S1x1
  let c0_i32 : BitVec 32 := 0#32
  let c0_i32_0 : BitVec 32 := 0#32
  let c0_i32_1 : BitVec 32 := 0#32
  ![v4.toNat, c0_i32.toNat, c0_i32_0.toNat]

def cc0_transform_38 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S128x64) ![v2.toNat, v3.toNat] S1x1.size (k0_off1_inb i 0)) numel1_S1x1
  let c0_i32_0 : BitVec 32 := 0#32
  let c0_i32_1 : BitVec 32 := 0#32
  let c0_i32_2 : BitVec 32 := 0#32
  ![v4.toNat, c0_i32_0.toNat, c0_i32_1.toNat]

def cc0_transform_39 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S128x64) ![v2.toNat, v3.toNat] S1x1.size (k0_off1_inb i 1)) numel1_S1x1
  let c0_i32 : BitVec 32 := 0#32
  let c0_i32_0 : BitVec 32 := 0#32
  let c0_i32_1 : BitVec 32 := 0#32
  ![v4.toNat, c0_i32.toNat, c0_i32_0.toNat]

def cc0_transform_40 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S128x64) ![v2.toNat, v3.toNat] S1x1.size (k0_off1_inb i 2)) numel1_S1x1
  let c0_i32 : BitVec 32 := 0#32
  let c0_i32_0 : BitVec 32 := 0#32
  let c0_i32_1 : BitVec 32 := 0#32
  ![v4.toNat, c0_i32.toNat, c0_i32_0.toNat]

def cc0_transform_41 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S128x64) ![v2.toNat, v3.toNat] S1x1.size (k0_off1_inb i 3)) numel1_S1x1
  let c0_i32 : BitVec 32 := 0#32
  let c0_i32_0 : BitVec 32 := 0#32
  let c0_i32_1 : BitVec 32 := 0#32
  ![v4.toNat, c0_i32.toNat, c0_i32_0.toNat]

def cc0_transform_42 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S128x64) ![v2.toNat, v3.toNat] S1x1.size (k0_off1_inb i 4)) numel1_S1x1
  let c0_i32 : BitVec 32 := 0#32
  let c0_i32_0 : BitVec 32 := 0#32
  let c0_i32_1 : BitVec 32 := 0#32
  ![v4.toNat, c0_i32.toNat, c0_i32_0.toNat]

def cc0_transform_43 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S128x64) ![v2.toNat, v3.toNat] S1x1.size (k0_off1_inb i 5)) numel1_S1x1
  let c0_i32 : BitVec 32 := 0#32
  let c0_i32_0 : BitVec 32 := 0#32
  let c0_i32_1 : BitVec 32 := 0#32
  ![v4.toNat, c0_i32.toNat, c0_i32_0.toNat]

def cc0_transform_44 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S128x64) ![v2.toNat, v3.toNat] S1x1.size (k0_off1_inb i 6)) numel1_S1x1
  let c0_i32 : BitVec 32 := 0#32
  let c0_i32_0 : BitVec 32 := 0#32
  let c0_i32_1 : BitVec 32 := 0#32
  ![v4.toNat, c0_i32.toNat, c0_i32_0.toNat]

def cc0_transform_45 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S128x64) ![v2.toNat, v3.toNat] S1x1.size (k0_off1_inb i 7)) numel1_S1x1
  let c0_i32 : BitVec 32 := 0#32
  let c0_i32_0 : BitVec 32 := 0#32
  let c0_i32_1 : BitVec 32 := 0#32
  ![v4.toNat, c0_i32.toNat, c0_i32_0.toNat]

def cc0_transform_46 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S128x64) ![v2.toNat, v3.toNat] S1x1.size (k0_off1_inb i 8)) numel1_S1x1
  let c0_i32 : BitVec 32 := 0#32
  let c0_i32_0 : BitVec 32 := 0#32
  let c0_i32_1 : BitVec 32 := 0#32
  ![v4.toNat, c0_i32.toNat, c0_i32_0.toNat]

def cc0_transform_47 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S128x64) ![v2.toNat, v3.toNat] S1x1.size (k0_off1_inb i 9)) numel1_S1x1
  let c0_i32 : BitVec 32 := 0#32
  let c0_i32_0 : BitVec 32 := 0#32
  let c0_i32_1 : BitVec 32 := 0#32
  ![v4.toNat, c0_i32.toNat, c0_i32_0.toNat]

def cc0_transform_48 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S128x64) ![v2.toNat, v3.toNat] S1x1.size (k0_off1_inb i 10)) numel1_S1x1
  let c0_i32 : BitVec 32 := 0#32
  let c0_i32_0 : BitVec 32 := 0#32
  let c0_i32_1 : BitVec 32 := 0#32
  ![v4.toNat, c0_i32.toNat, c0_i32_0.toNat]

def cc0_transform_49 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S128x64) ![v2.toNat, v3.toNat] S1x1.size (k0_off1_inb i 11)) numel1_S1x1
  let c0_i32 : BitVec 32 := 0#32
  let c0_i32_0 : BitVec 32 := 0#32
  let c0_i32_1 : BitVec 32 := 0#32
  ![v4.toNat, c0_i32.toNat, c0_i32_0.toNat]

def cc0_transform_50 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S128x64) ![v2.toNat, v3.toNat] S1x1.size (k0_off1_inb i 12)) numel1_S1x1
  let c0_i32 : BitVec 32 := 0#32
  let c0_i32_0 : BitVec 32 := 0#32
  let c0_i32_1 : BitVec 32 := 0#32
  ![v4.toNat, c0_i32.toNat, c0_i32_0.toNat]

def cc0_transform_51 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S128x64) ![v2.toNat, v3.toNat] S1x1.size (k0_off1_inb i 13)) numel1_S1x1
  let c0_i32 : BitVec 32 := 0#32
  let c0_i32_0 : BitVec 32 := 0#32
  let c0_i32_1 : BitVec 32 := 0#32
  ![v4.toNat, c0_i32.toNat, c0_i32_0.toNat]

def cc0_transform_52 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S128x64) ![v2.toNat, v3.toNat] S1x1.size (k0_off1_inb i 14)) numel1_S1x1
  let c0_i32 : BitVec 32 := 0#32
  let c0_i32_0 : BitVec 32 := 0#32
  let c0_i32_1 : BitVec 32 := 0#32
  ![v4.toNat, c0_i32.toNat, c0_i32_0.toNat]

def cc0_transform_53 (k0_off1_inb : ∀ i : grid0.Coords, ∀ (r : Fin 16), ∀ a, (k0_off1 i (BitVec.ofNat 32 r.val)) a + S1x1.size a ≤ S128x64.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S128x64) ![v2.toNat, v3.toNat] S1x1.size (k0_off1_inb i 15)) numel1_S1x1
  let c0_i32 : BitVec 32 := 0#32
  let c0_i32_0 : BitVec 32 := 0#32
  let c0_i32_1 : BitVec 32 := 0#32
  ![v4.toNat, c0_i32.toNat, c0_i32_0.toNat]

def cc0_transform_54 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x128x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x128x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x128x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x128x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x128x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x128x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x128x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x128x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x128x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x128x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]

abbrev stage0_36 : Fin 2 → Memref sig .tc .vmem S1x128x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, true]

abbrev stage0_37 : Fin 2 → Memref sig .tc .vmem S1x128x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true, true]

abbrev stage0_38 : Fin 2 → Memref sig .tc .vmem S1x128x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true, true]

abbrev stage0_39 : Fin 2 → Memref sig .tc .vmem S1x128x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true, true]

abbrev stage0_40 : Fin 2 → Memref sig .tc .vmem S1x128x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true, true]

abbrev stage0_41 : Fin 2 → Memref sig .tc .vmem S1x128x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true, true]

abbrev stage0_42 : Fin 2 → Memref sig .tc .vmem S1x128x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true, true]

abbrev stage0_43 : Fin 2 → Memref sig .tc .vmem S1x128x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true, true]

abbrev stage0_44 : Fin 2 → Memref sig .tc .vmem S1x128x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true, true]

abbrev stage0_45 : Fin 2 → Memref sig .tc .vmem S1x128x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true, true]

abbrev stage0_46 : Fin 2 → Memref sig .tc .vmem S1x128x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true, true]

abbrev stage0_47 : Fin 2 → Memref sig .tc .vmem S1x128x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true, true]

abbrev stage0_48 : Fin 2 → Memref sig .tc .vmem S1x128x128 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true, true]

abbrev stage0_49 : Fin 2 → Memref sig .tc .vmem S1x128x128 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true, true]

abbrev stage0_50 : Fin 2 → Memref sig .tc .vmem S1x128x128 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true, true]

abbrev stage0_51 : Fin 2 → Memref sig .tc .vmem S1x128x128 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true, true]

abbrev stage0_52 : Fin 2 → Memref sig .tc .vmem S1x128x128 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true, true]

abbrev stage0_53 : Fin 2 → Memref sig .tc .vmem S1x128x128 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true, true]

abbrev stage0_54 : Fin 2 → Memref sig .tc .vmem S1x32x128 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true, false]
-- ==== Proof.Scalar.lean ====
module

public import Idealize.ShloMosaic.Lib.Pointwise

@[expose] public section

/-!
The layer's row formulas over the extended reals: a sub-layer reads one row of the residual stream, the shift, scale and
gate of that row's sequence and the weights, and gives one row. Both programs of each claim are read down to these.
-/

noncomputable section

namespace Cert.Layer

open Idealize.ShloMosaic

/-- The reciprocal root mean square of a row of 1024, as both programs spell it: `1/√(Σx²/1024 + 1e-6)`. -/
def rms (x : Fin 1024 → EReal) : EReal :=
  Ideal.rsqrt (Ideal.div (∑ k, x k * x k) (Ideal.ofBits .f32 0x44800000#32) + Ideal.ofBits .f32 0x358637BD#32)

/-- A row normalised, weighted by the pre-norm's gain, then scaled and shifted. -/
def prenorm (x g sc sh : Fin 1024 → EReal) (k : Fin 1024) : EReal :=
  x k * rms x * g k * (1 + sc k) + sh k

/-- The residual row: `x` plus half the gate times the sub-layer's row normalised and weighted. -/
def resid (x y gate g : Fin 1024 → EReal) (l : Fin 1024) : EReal :=
  x l + Ideal.ofBits .f32 0x3F000000#32 * gate l * (y l * rms y * g l)

/-- The same residual with a whole gate. -/
def residWhole (x y gate g : Fin 1024 → EReal) (l : Fin 1024) : EReal :=
  x l + gate l * (y l * rms y * g l)

/-- `a · 1/(1 + e^(−a))`. -/
def silu (a : EReal) : EReal := a * Ideal.div 1 (1 + Ideal.exp (-a))

/-- One hidden unit of the feed-forward: the gated half's product through `silu`, times the other half's. -/
def hid (h : Fin 1024 → EReal) (w13 : Fin 1024 → Fin 4096 → EReal) (j : Fin 2048) : EReal :=
  silu (∑ k, h k * w13 k ⟨j, by omega⟩) * ∑ k, h k * w13 k ⟨2048 + j, by omega⟩

/-- The feed-forward's row before its post-norm. -/
def ffn (h : Fin 1024 → EReal) (w13 : Fin 1024 → Fin 4096 → EReal) (w2 : Fin 2048 → Fin 1024 → EReal) (l : Fin 1024) : EReal :=
  ∑ j, hid h w13 j * w2 j l

/-- A sum over 2048 hidden units is the sum of its four blocks of 512, added in order from nothing. -/
theorem sum_four (f : Fin 2048 → EReal) :
    ∑ j, f j = 0 + ∑ j : Fin 512, f ⟨j, by omega⟩ + ∑ j : Fin 512, f ⟨512 + j, by omega⟩
      + ∑ j : Fin 512, f ⟨1024 + j, by omega⟩ + ∑ j : Fin 512, f ⟨1536 + j, by omega⟩ := by
  have e (k : Fin 512) : f ⟨1024 + (512 + k.val), by omega⟩ = f ⟨1536 + k, by omega⟩ := congrArg f (Fin.ext (by show 1024 + (512 + k.val) = 1536 + k.val; omega))
  rw [Fin.sum_univ_two_halves 1024 1024 rfl f, Fin.sum_univ_two_halves 512 512 rfl (fun k : Fin 1024 => f ⟨k, by omega⟩),
    Fin.sum_univ_two_halves 512 512 rfl (fun k : Fin 1024 => f ⟨1024 + k, by omega⟩), zero_add, ← add_assoc]
  simp only [e]

end Cert.Layer
-- ==== Proof.FfnKernel.lean ====
module

public import proofs.«01_k».proof.Proof.Scalar
public import proofs.«01_k».proof.Proof.Gen.FfnIdeal.Value
public import Idealize.ShloMosaic.Lib.StableHlo.ReadAt

@[expose] public section

noncomputable section

namespace Cert.FfnKernel

open Cert.FfnIdeal Cert.FfnIdeal.Gen Idealize.ShloMosaic Idealize.ShloMosaic.TcCoe Idealize.SL.Sem Cert.Layer

/-- The normalised, modulated row the body hands to its products. -/
theorem pay3_at (v0 : Vec Ideal S512x1024 .f32) (v12 : Vec Ideal S1x1024 .f32) (v16 v22 : Vec Ideal S1x1x1024 .f32)
    (r : Fin 512) (l : Fin 1024) :
    k0_pay3 v0 v12 v16 v22 (ix2 r l)
      = prenorm (fun k => v0 (ix2 r k)) (fun k => v12 (ix2 0 k)) (fun k => v16 (ix3 0 0 k)) (fun k => v22 (ix3 0 0 k)) l := by
  pointwise [k0_pay3, k0_pay2, prenorm, rms]

/-- The body's residual row over the row it accumulated. -/
theorem pay1_at (v1 v107 : FVec Ideal S512x1024 .f32) (v108 : Vec Ideal S1x1x1024 .f32) (v122 : Vec Ideal S1x1024 .f32)
    (r : Fin 512) (l : Fin 1024) :
    k0_pay1 v1 v107 (k0_pay12 v108) v122 (ix2 r l)
      = resid (fun k => v1 (ix2 r k)) (fun k => v107 (ix2 r k)) (fun k => v108 (ix3 0 0 k)) (fun k => v122 (ix2 0 k)) l := by
  pointwise [k0_pay1, k0_pay12, resid, rms]

/-- The block a grid point leaves, at a row and a column: the residual row over the feed-forward of the pre-normed row. -/
theorem out_at (x0 : Vec Ideal S512x1024 .f32) (x1 x2 x3 : Vec Ideal S1x1x1024 .f32) (x4 x5 : Vec Ideal S1x1024 .f32)
    (x6 : Vec Ideal S1024x4096 .bf16) (x7 : Vec Ideal S2048x1024 .bf16) (r : Fin 512) (l : Fin 1024) :
    out0_8 x0 x1 x2 x3 x4 x5 x6 x7 (ix2 r l)
      = resid (fun k => x0 (ix2 r k))
          (ffn (prenorm (fun k => x0 (ix2 r k)) (fun k => x4 (ix2 0 k)) (fun k => x2 (ix3 0 0 k)) (fun k => x1 (ix3 0 0 k)))
            (fun k j => x6 (ix2 k j)) (fun j l => x7 (ix2 j l)))
          (fun k => x3 (ix3 0 0 k)) (fun k => x5 (ix2 0 k)) l := by
  have hz2 : (![0, 0] : Fin 2 → Nat) = fun _ => 0 := funext fun a => by fin_cases a <;> rfl
  unfold_out out0_8
  refine (congrFun (View.canon_unit_zero hz2 _ _) _).trans ?_
  rw [pay1_at]
  have e0 : k0_pay2 (View.ld x0 r0_0) = x0 := by funext j; idx_vars j; pointwise [k0_pay2, r0_0]
  have e3 (r : Fin 512) (l : Fin 1024) : k0_pay3 (View.ld x0 r0_0) (View.ld x4 r0_1) (View.ld x2 r0_2) (View.ld x1 r0_2) (ix2 r l)
      = prenorm (fun k => x0 (ix2 r k)) (fun k => x4 (ix2 0 k)) (fun k => x2 (ix3 0 0 k)) (fun k => x1 (ix3 0 0 k)) l := by
    rw [pay3_at]
    simp only [r0_0, r0_1, r0_2]
    pointwise
  have e5 (w : Vec Ideal S1024x512 .bf16) : k0_pay5 (View.ld x0 r0_0) (View.ld x4 r0_1) (View.ld x2 r0_2) (View.ld x1 r0_2) w
      = k0_pay9 (k0_pay3 (View.ld x0 r0_0) (View.ld x4 r0_1) (View.ld x2 r0_2) (View.ld x1 r0_2)) w := rfl
  have e6 (w : Vec Ideal S1024x512 .bf16) : k0_pay6 (View.ld x0 r0_0) (View.ld x4 r0_1) (View.ld x2 r0_2) (View.ld x1 r0_2) w
      = k0_pay9 (k0_pay3 (View.ld x0 r0_0) (View.ld x4 r0_1) (View.ld x2 r0_2) (View.ld x1 r0_2)) w := rfl
  unfold k0_pay7
  rw [e5, e6]
  generalize k0_pay3 (View.ld x0 r0_0) (View.ld x4 r0_1) (View.ld x2 r0_2) (View.ld x1 r0_2) = X at e3
  rw [e0]
  congr 1
  · funext l
    rw [ffn, sum_four]
    simp only [k0_pay11, k0_pay8, k0_pay9, k0_pay10, k0_pay4, r0_3, r0_4, r0_5, r0_6, r0_7, r0_8, r0_9, r0_10, r0_11, r0_12, r0_13, r0_14]
    pointwise
    simp only [e3, hid, silu, sub_eq_add_neg, zero_add]
    simp only [← Nat.add_assoc, Nat.reduceAdd]
  · funext k; pointwise [r0_2]
  · funext k; pointwise [r0_1]

/-! ## Blocks and the final array -/

variable (m : (ℓ : Loc nD τ sig) → Buf (Elt Ideal) ℓ)

/-- The rows of the residual stream, the two sequences one after the other. -/
theorem V0_at (c : Dev nD) (R : Fin 32768) (l : Fin 1024) :
    (V m c main_v0 : S32768x1024.Idx → EReal) (ix2 R l) = (m ((c : Thread nD τ).loc main_arg0) : S2x16384x1024.Idx → EReal) (ix3 ⟨R / 16384, by omega⟩ ⟨R % 16384, by omega⟩ l) := by
  unfold V
  after_reads_at

/-- The shift of this sub-layer, per sequence. -/
theorem V3_at (c : Dev nD) (b : Fin 2) (l : Fin 1024) :
    (V m c main_v3 : S2x1x1024.Idx → EReal) (ix3 b 0 l) = (m ((c : Thread nD τ).loc main_arg1) : S2x3x3x1024.Idx → EReal) (ix4 b 2 0 l) := by
  unfold V
  after_reads_at

/-- The scale of this sub-layer, per sequence. -/
theorem V6_at (c : Dev nD) (b : Fin 2) (l : Fin 1024) :
    (V m c main_v6 : S2x1x1024.Idx → EReal) (ix3 b 0 l) = (m ((c : Thread nD τ).loc main_arg1) : S2x3x3x1024.Idx → EReal) (ix4 b 2 1 l) := by
  unfold V
  after_reads_at

/-- The gate of this sub-layer, per sequence. -/
theorem V9_at (c : Dev nD) (b : Fin 2) (l : Fin 1024) :
    (V m c main_v9 : S2x1x1024.Idx → EReal) (ix3 b 0 l) = (m ((c : Thread nD τ).loc main_arg1) : S2x3x3x1024.Idx → EReal) (ix4 b 2 2 l) := by
  unfold V
  after_reads_at

/-- This sub-layer's pre-norm gain. -/
theorem V10_at (c : Dev nD) (l : Fin 1024) :
    (V m c main_v10 : S1x1024.Idx → EReal) (ix2 0 l) = (m ((c : Thread nD τ).loc main_arg2) : S3x1024.Idx → EReal) (ix2 2 l) := by
  unfold V
  after_reads_at

/-- This sub-layer's post-norm gain. -/
theorem V11_at (c : Dev nD) (l : Fin 1024) :
    (V m c main_v11 : S1x1024.Idx → EReal) (ix2 0 l) = (m ((c : Thread nD τ).loc main_arg3) : S3x1024.Idx → EReal) (ix2 2 l) := by
  unfold V
  after_reads_at

/-- The first weight matrix. -/
theorem V12_at (c : Dev nD) (k : Fin 1024) (j : Fin 4096) :
    (V m c main_v12 : S1024x4096.Idx → EReal) (ix2 k j) = (m ((c : Thread nD τ).loc main_arg4) : S1024x4096.Idx → EReal) (ix2 k j) := by
  unfold V
  after_reads_at

/-- The second weight matrix. -/
theorem V13_at (c : Dev nD) (j : Fin 2048) (l : Fin 1024) :
    (V m c main_v13 : S2048x1024.Idx → EReal) (ix2 j l) = (m ((c : Thread nD τ).loc main_arg5) : S2048x1024.Idx → EReal) (ix2 j l) := by
  unfold V
  after_reads_at

/-- The block indices of the windows that move, decided over the grid: the rows by point, the modulation by sequence. -/
theorem idx_at : ∀ t : Fin cfg0.N, win0_0.index t = ![t.val, 0] ∧ win0_8.index t = ![t.val, 0]
    ∧ win0_1.index t = ![t.val / 32, 0, 0] ∧ win0_2.index t = ![t.val / 32, 0, 0] ∧ win0_3.index t = ![t.val / 32, 0, 0]
    ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_8.index t = ![t.val, 0]
    ∧ win0_1.index t = ![t.val / 32, 0, 0] ∧ win0_2.index t = ![t.val / 32, 0, 0] ∧ win0_3.index t = ![t.val / 32, 0, 0]
    ∧ win0_4.index t = ![0, 0] ∧ win0_5.index t = ![0, 0] ∧ win0_6.index t = ![0, 0] ∧ win0_7.index t = ![0, 0])

/-- What window 0's block at a point holds, in the array's own indices. -/
theorem iblk0_at (c : Dev nD) (t : Fin cfg0.N) (r : Fin 512) (l : Fin 1024) :
    (iblk m c 0 t : S512x1024.Idx → EReal) (ix2 r l) = (m ((c : Thread nD τ).loc main_arg0) : S2x16384x1024.Idx → EReal) (ix3 ⟨(512 * t.val + r) / 16384, by have := t.isLt; have : cfg0.N = 64 := N_0; omega⟩ ⟨(512 * t.val + r) % 16384, by omega⟩ l) := by
  have ht : t.val < 64 := lt_of_lt_of_eq t.isLt N_0
  obtain ⟨h0, h8, h1, h2, h3, h4, h5, h6, h7⟩ := idx_at t
  refine Eq.trans ?_ (V0_at m c (⟨512 * t.val + r, by have := t.isLt; have : cfg0.N = 64 := N_0; omega⟩ : Fin 32768) l)
  unfold iblk
  rw [View.read_apply]
  show V m c main_v0 _ = V m c main_v0 _
  congr 1
  funext a
  apply Fin.ext
  match a with
  | ⟨0, _⟩ => show win0_0.index t 0 * 512 + 1 * _ = _; rw [h0]; show t.val * 512 + 1 * r.val = 512 * t.val + r.val; omega
  | ⟨1, _⟩ => show win0_0.index t 1 * 1024 + 1 * _ = _; rw [h0]; show 0 * 1024 + 1 * l.val = l.val; omega

/-- What window 1's block at a point holds, in the array's own indices. -/
theorem iblk1_at (c : Dev nD) (t : Fin cfg0.N) (l : Fin 1024) :
    (iblk m c 1 t : S1x1x1024.Idx → EReal) (ix3 0 0 l) = (m ((c : Thread nD τ).loc main_arg1) : S2x3x3x1024.Idx → EReal) (ix4 ⟨t.val / 32, by have := t.isLt; have : cfg0.N = 64 := N_0; omega⟩ 2 0 l) := by
  have ht : t.val < 64 := lt_of_lt_of_eq t.isLt N_0
  obtain ⟨h0, h8, h1, h2, h3, h4, h5, h6, h7⟩ := idx_at t
  refine Eq.trans ?_ (V3_at m c (⟨t.val / 32, by have := t.isLt; have : cfg0.N = 64 := N_0; omega⟩ : Fin 2) l)
  unfold iblk
  rw [View.read_apply]
  show V m c main_v3 _ = V m c main_v3 _
  congr 1
  funext a
  apply Fin.ext
  match a with
  | ⟨0, _⟩ => show win0_1.index t 0 * 1 + 1 * _ = _; rw [h1]; show t.val / 32 * 1 + 1 * 0 = t.val / 32; omega
  | ⟨1, _⟩ => show win0_1.index t 1 * 1 + 1 * _ = _; rw [h1]; show 0 * 1 + 1 * 0 = 0; omega
  | ⟨2, _⟩ => show win0_1.index t 2 * 1024 + 1 * _ = _; rw [h1]; show 0 * 1024 + 1 * l.val = l.val; omega

/-- What window 2's block at a point holds, in the array's own indices. -/
theorem iblk2_at (c : Dev nD) (t : Fin cfg0.N) (l : Fin 1024) :
    (iblk m c 2 t : S1x1x1024.Idx → EReal) (ix3 0 0 l) = (m ((c : Thread nD τ).loc main_arg1) : S2x3x3x1024.Idx → EReal) (ix4 ⟨t.val / 32, by have := t.isLt; have : cfg0.N = 64 := N_0; omega⟩ 2 1 l) := by
  have ht : t.val < 64 := lt_of_lt_of_eq t.isLt N_0
  obtain ⟨h0, h8, h1, h2, h3, h4, h5, h6, h7⟩ := idx_at t
  refine Eq.trans ?_ (V6_at m c (⟨t.val / 32, by have := t.isLt; have : cfg0.N = 64 := N_0; omega⟩ : Fin 2) l)
  unfold iblk
  rw [View.read_apply]
  show V m c main_v6 _ = V m c main_v6 _
  congr 1
  funext a
  apply Fin.ext
  match a with
  | ⟨0, _⟩ => show win0_2.index t 0 * 1 + 1 * _ = _; rw [h2]; show t.val / 32 * 1 + 1 * 0 = t.val / 32; omega
  | ⟨1, _⟩ => show win0_2.index t 1 * 1 + 1 * _ = _; rw [h2]; show 0 * 1 + 1 * 0 = 0; omega
  | ⟨2, _⟩ => show win0_2.index t 2 * 1024 + 1 * _ = _; rw [h2]; show 0 * 1024 + 1 * l.val = l.val; omega

/-- What window 3's block at a point holds, in the array's own indices. -/
theorem iblk3_at (c : Dev nD) (t : Fin cfg0.N) (l : Fin 1024) :
    (iblk m c 3 t : S1x1x1024.Idx → EReal) (ix3 0 0 l) = (m ((c : Thread nD τ).loc main_arg1) : S2x3x3x1024.Idx → EReal) (ix4 ⟨t.val / 32, by have := t.isLt; have : cfg0.N = 64 := N_0; omega⟩ 2 2 l) := by
  have ht : t.val < 64 := lt_of_lt_of_eq t.isLt N_0
  obtain ⟨h0, h8, h1, h2, h3, h4, h5, h6, h7⟩ := idx_at t
  refine Eq.trans ?_ (V9_at m c (⟨t.val / 32, by have := t.isLt; have : cfg0.N = 64 := N_0; omega⟩ : Fin 2) l)
  unfold iblk
  rw [View.read_apply]
  show V m c main_v9 _ = V m c main_v9 _
  congr 1
  funext a
  apply Fin.ext
  match a with
  | ⟨0, _⟩ => show win0_3.index t 0 * 1 + 1 * _ = _; rw [h3]; show t.val / 32 * 1 + 1 * 0 = t.val / 32; omega
  | ⟨1, _⟩ => show win0_3.index t 1 * 1 + 1 * _ = _; rw [h3]; show 0 * 1 + 1 * 0 = 0; omega
  | ⟨2, _⟩ => show win0_3.index t 2 * 1024 + 1 * _ = _; rw [h3]; show 0 * 1024 + 1 * l.val = l.val; omega

/-- What window 4's block at a point holds, in the array's own indices. -/
theorem iblk4_at (c : Dev nD) (t : Fin cfg0.N) (l : Fin 1024) :
    (iblk m c 4 t : S1x1024.Idx → EReal) (ix2 0 l) = (m ((c : Thread nD τ).loc main_arg2) : S3x1024.Idx → EReal) (ix2 2 l) := by
  have ht : t.val < 64 := lt_of_lt_of_eq t.isLt N_0
  obtain ⟨h0, h8, h1, h2, h3, h4, h5, h6, h7⟩ := idx_at t
  refine Eq.trans ?_ (V10_at m c l)
  unfold iblk
  rw [View.read_apply]
  show V m c main_v10 _ = V m c main_v10 _
  congr 1
  funext a
  apply Fin.ext
  match a with
  | ⟨0, _⟩ => show win0_4.index t 0 * 1 + 1 * _ = _; rw [h4]; show 0 * 1 + 1 * 0 = 0; omega
  | ⟨1, _⟩ => show win0_4.index t 1 * 1024 + 1 * _ = _; rw [h4]; show 0 * 1024 + 1 * l.val = l.val; omega

/-- What window 5's block at a point holds, in the array's own indices. -/
theorem iblk5_at (c : Dev nD) (t : Fin cfg0.N) (l : Fin 1024) :
    (iblk m c 5 t : S1x1024.Idx → EReal) (ix2 0 l) = (m ((c : Thread nD τ).loc main_arg3) : S3x1024.Idx → EReal) (ix2 2 l) := by
  have ht : t.val < 64 := lt_of_lt_of_eq t.isLt N_0
  obtain ⟨h0, h8, h1, h2, h3, h4, h5, h6, h7⟩ := idx_at t
  refine Eq.trans ?_ (V11_at m c l)
  unfold iblk
  rw [View.read_apply]
  show V m c main_v11 _ = V m c main_v11 _
  congr 1
  funext a
  apply Fin.ext
  match a with
  | ⟨0, _⟩ => show win0_5.index t 0 * 1 + 1 * _ = _; rw [h5]; show 0 * 1 + 1 * 0 = 0; omega
  | ⟨1, _⟩ => show win0_5.index t 1 * 1024 + 1 * _ = _; rw [h5]; show 0 * 1024 + 1 * l.val = l.val; omega

/-- What window 6's block at a point holds, in the array's own indices. -/
theorem iblk6_at (c : Dev nD) (t : Fin cfg0.N) (k : Fin 1024) (j : Fin 4096) :
    (iblk m c 6 t : S1024x4096.Idx → EReal) (ix2 k j) = (m ((c : Thread nD τ).loc main_arg4) : S1024x4096.Idx → EReal) (ix2 k j) := by
  have ht : t.val < 64 := lt_of_lt_of_eq t.isLt N_0
  obtain ⟨h0, h8, h1, h2, h3, h4, h5, h6, h7⟩ := idx_at t
  refine Eq.trans ?_ (V12_at m c k j)
  unfold iblk
  rw [View.read_apply]
  show V m c main_v12 _ = V m c main_v12 _
  congr 1
  funext a
  apply Fin.ext
  match a with
  | ⟨0, _⟩ => show win0_6.index t 0 * 1024 + 1 * _ = _; rw [h6]; show 0 * 1024 + 1 * k.val = k.val; omega
  | ⟨1, _⟩ => show win0_6.index t 1 * 4096 + 1 * _ = _; rw [h6]; show 0 * 4096 + 1 * j.val = j.val; omega

/-- What window 7's block at a point holds, in the array's own indices. -/
theorem iblk7_at (c : Dev nD) (t : Fin cfg0.N) (j : Fin 2048) (l : Fin 1024) :
    (iblk m c 7 t : S2048x1024.Idx → EReal) (ix2 j l) = (m ((c : Thread nD τ).loc main_arg5) : S2048x1024.Idx → EReal) (ix2 j l) := by
  have ht : t.val < 64 := lt_of_lt_of_eq t.isLt N_0
  obtain ⟨h0, h8, h1, h2, h3, h4, h5, h6, h7⟩ := idx_at t
  refine Eq.trans ?_ (V13_at m c j l)
  unfold iblk
  rw [View.read_apply]
  show V m c main_v13 _ = V m c main_v13 _
  congr 1
  funext a
  apply Fin.ext
  match a with
  | ⟨0, _⟩ => show win0_7.index t 0 * 2048 + 1 * _ = _; rw [h7]; show 0 * 2048 + 1 * j.val = j.val; omega
  | ⟨1, _⟩ => show win0_7.index t 1 * 1024 + 1 * _ = _; rw [h7]; show 0 * 1024 + 1 * l.val = l.val; omega

/-- One row of the result: row `R` of the 32768, from the arguments as launched. -/
def row (A0 : S2x16384x1024.Idx → EReal) (A1 : S2x3x3x1024.Idx → EReal) (A2 A3 : S3x1024.Idx → EReal)
    (A4 : S1024x4096.Idx → EReal) (A5 : S2048x1024.Idx → EReal) (b : Fin 2) (p : Fin 16384) (l : Fin 1024) : EReal :=
  resid (fun k => A0 (ix3 b p k))
    (ffn (prenorm (fun k => A0 (ix3 b p k)) (fun k => A2 (ix2 2 k)) (fun k => A1 (ix4 b 2 1 k)) (fun k => A1 (ix4 b 2 0 k)))
      (fun k j => A4 (ix2 k j)) (fun j l => A5 (ix2 j l)))
    (fun k => A1 (ix4 b 2 2 k)) (fun k => A3 (ix2 2 k)) l

/-- The whole result array as a function of the arguments. -/
def result (c : Dev nD) : S32768x1024.Idx → EReal := fun i =>
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(i 0).val / 16384, by have : (i 0).val < 32768 := (i 0).isLt; omega⟩ ⟨(i 0).val % 16384, by omega⟩ (i 1)

/-- What a point writes back is its block of `result`. -/
theorem flushed_eq (c : Dev nD) (t : Fin cfg0.N) :
    (dats m 0 c).flushed 8 t = ((cfg0.win 8).blk t).view.read (Elt Ideal) (result m c : S32768x1024.Idx → EReal) := by
  have ht : t.val < 64 := lt_of_lt_of_eq t.isLt N_0
  rw [Value.flushed8]
  funext y
  obtain ⟨r, l, rfl⟩ : ∃ (r : Fin 512) (l : Fin 1024), y = ix2 r l := ⟨y 0, y 1, eq_ix2 (n0 := 512) (n1 := 1024) y⟩
  rw [View.read_apply]
  have hi : ((cfg0.win 8).blk t).view.emb (ix2 r l) = (ix2 (⟨512 * t.val + r, by omega⟩ : Fin 32768) l : S32768x1024.Idx) := by
    obtain ⟨h0, h8, -⟩ := idx_at t
    funext a
    apply Fin.ext
    match a with
    | ⟨0, _⟩ => show win0_8.index t 0 * 512 + 1 * _ = _; rw [h8]; show t.val * 512 + 1 * r.val = 512 * t.val + r.val; omega
    | ⟨1, _⟩ => show win0_8.index t 1 * 1024 + 1 * _ = _; rw [h8]; show 0 * 1024 + 1 * l.val = l.val; omega
  rw [hi]
  show out0_8 (iblk m c 0 t) (iblk m c 1 t) (iblk m c 2 t) (iblk m c 3 t) (iblk m c 4 t) (iblk m c 5 t) (iblk m c 6 t) (iblk m c 7 t) (ix2 r l)
    = result m c (ix2 (⟨512 * t.val + r, by omega⟩ : Fin 32768) l)
  rw [out_at]
  simp only [iblk0_at, iblk1_at, iblk2_at, iblk3_at, iblk4_at, iblk5_at, iblk6_at, iblk7_at]
  have hb : t.val / 32 = (512 * t.val + r.val) / 16384 := by omega
  simp only [hb]
  rfl

/-- Every element of the result is in some point's block. -/
theorem cover (i : S32768x1024.Idx) : ∃ t : Fin cfg0.N, (cfg0.win 8).flush t = true ∧ i ∈ ((cfg0.win 8).blk t).view.set := by
  have h0 : (i 0 : Nat) < 32768 := (i 0).isLt
  have h1 : (i 1 : Nat) < 1024 := (i 1).isLt
  have hN : cfg0.N = 64 := N_0
  let t : Fin cfg0.N := ⟨(i 0 : Nat) / 512, by omega⟩
  refine ⟨t, flush0_8 t, ?_⟩
  · obtain ⟨-, h8, -⟩ := idx_at t
    show i ∈ ((View.whole main_v14).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [h8]; show (i 0 : Nat) / 512 * 512 ≤ (i 0 : Nat) ∧ (i 0 : Nat) < (i 0 : Nat) / 512 * 512 + 512; omega
    | ⟨1, _⟩ => show win0_8.index t 1 * 1024 ≤ (i 1 : Nat) ∧ (i 1 : Nat) < win0_8.index t 1 * 1024 + 1024
                rw [h8]; show 0 * 1024 ≤ (i 1 : Nat) ∧ (i 1 : Nat) < 0 * 1024 + 1024; omega

/-- So the result array ends holding `result`. -/
theorem final (c : Dev nD) : (dats m 0 c).arrAt 8 cfg0.N = (result m c : S32768x1024.Idx → EReal) :=
  (dats m 0 c).arrAt_eq_of_cover 8 (result m c) (fun t _ => flushed_eq m c t) cover

end Cert.FfnKernel
-- ==== Proof.FfnReference.lean ====
module

public import proofs.«01_k».proof.Proof.Scalar
public import proofs.«01_k».proof.Proof.Gen.FfnRefIdeal.Read

@[expose] public section

noncomputable section

namespace Cert.FfnReference

open Cert.FfnRefIdeal Cert.FfnRefIdeal.Gen Cert.FfnRefIdeal.Read Idealize.ShloMosaic Cert.Layer

variable (x0 : (⟨S2x16384x1024, .f32⟩ : BufTy).Contents (Elt Ideal)) (x1 : (⟨S2x3x3x1024, .f32⟩ : BufTy).Contents (Elt Ideal))
  (x2 x3 : (⟨S3x1024, .f32⟩ : BufTy).Contents (Elt Ideal)) (x4 : (⟨S1024x4096, .f32⟩ : BufTy).Contents (Elt Ideal))
  (x5 : (⟨S2048x1024, .f32⟩ : BufTy).Contents (Elt Ideal))

/-- The pre-normed, modulated row. -/
theorem v26_at (b : Fin 2) (p : Fin 16384) (l : Fin 1024) :
    val_main_v26 (F := Ideal) x0 x1 x2 (ix3 b p l)
      = prenorm (fun k => x0 (ix3 b p k)) (fun k => x2 (ix2 2 k)) (fun k => x1 (ix4 b 2 1 k)) (fun k => x1 (ix4 b 2 0 k)) l := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, prenorm, rms]

/-- The gated hidden unit. -/
theorem v31_at (b : Fin 2) (p : Fin 16384) (j : Fin 2048) :
    val_main_v31 (F := Ideal) x0 x1 x2 x4 (ix3 b p j)
      = hid (prenorm (fun k => x0 (ix3 b p k)) (fun k => x2 (ix2 2 k)) (fun k => x1 (ix4 b 2 1 k)) (fun k => x1 (ix4 b 2 0 k)))
          (fun k j => x4 (ix2 k j)) j := by
  pointwise [val_main_v31, val_main_v30, val_main_v29, val_main_v28, val_main_v27, val_main_call0_v0, val_main_call0_v1, val_main_call0_v2,
    val_main_call0_v3, val_main_call0_v4, val_main_call0_v5, val_main_call0_cst, val_main_call0_cst_0]
  simp only [v26_at, hid, silu]

/-- The feed-forward's row. -/
theorem v32_at (b : Fin 2) (p : Fin 16384) (l : Fin 1024) :
    val_main_v32 (F := Ideal) x0 x1 x2 x4 x5 (ix3 b p l)
      = ffn (prenorm (fun k => x0 (ix3 b p k)) (fun k => x2 (ix2 2 k)) (fun k => x1 (ix4 b 2 1 k)) (fun k => x1 (ix4 b 2 0 k)))
          (fun k j => x4 (ix2 k j)) (fun j l => x5 (ix2 j l)) l := by
  pointwise [val_main_v32]
  simp only [v31_at, ffn]

/-- The result array, row by row. -/
theorem v56_at (R : Fin 32768) (l : Fin 1024) :
    val_main_v56 (F := Ideal) x0 x1 x2 x3 x4 x5 (ix2 R l)
      = resid (fun k => x0 (ix3 ⟨R / 16384, by omega⟩ ⟨R % 16384, by omega⟩ k))
          (ffn (prenorm (fun k => x0 (ix3 ⟨R / 16384, by omega⟩ ⟨R % 16384, by omega⟩ k)) (fun k => x2 (ix2 2 k))
              (fun k => x1 (ix4 ⟨R / 16384, by omega⟩ 2 1 k)) (fun k => x1 (ix4 ⟨R / 16384, by omega⟩ 2 0 k)))
            (fun k j => x4 (ix2 k j)) (fun j l => x5 (ix2 j l)))
          (fun k => x1 (ix4 ⟨R / 16384, by omega⟩ 2 2 k)) (fun k => x3 (ix2 2 k)) l := by
  pointwise [val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35, val_main_v34, val_main_v33, val_main_cst_3, val_main_cst_4, val_main_cst_5, val_main_cst_6]
  simp only [v32_at, resid, rms]

end Cert.FfnReference
-- ==== Proof.FfnClaim.lean ====
module

public import proofs.«01_k».proof.Proof.FfnKernel
public import proofs.«01_k».proof.Proof.FfnReference
public import proofs.«01_k».proof.Defs

@[expose] public section

noncomputable section

namespace Cert.FfnClaim

open Idealize.ShloMosaic Idealize.SL.Sem

/-- The reference's result is the kernel's, where the arguments agree. -/
theorem reference_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    (Cert.FfnRefIdeal.Value.res_main_v56 m' c : Cert.FfnRefIdeal.S32768x1024.Idx → EReal) = Cert.FfnKernel.result m c := by
  rw [Cert.FfnRefIdeal.Read.val_main_v56_eq, h0, h1, h2, h3, h4, h5]
  funext i
  obtain ⟨r, l, rfl⟩ : ∃ (r : Fin 32768) (l : Fin 1024), i = ix2 r l := ⟨i 0, i 1, eq_ix2 (n0 := 32768) (n1 := 1024) i⟩
  exact Cert.FfnReference.v56_at _ _ _ _ _ _ r l

/-- Both programs' results are one array: the residual row over the feed-forward of the pre-normed row. -/
theorem algebraic : algebraic_FfnIdeal_FfnRefIdeal := by
  intro m g m' g' _ h
  refine ⟨fun c => Cert.FfnKernel.result m c, ?_, ?_⟩
  · exact (θ_run _ _ _).mono (fun r hr c => ⟨(hr c).1.trans (Cert.FfnKernel.final m c), (hr c).2⟩) (Cert.FfnIdeal.Value.run_blocks m g)
  · refine (θ_run _ _ _).mono (fun r hr c => ⟨(hr c).1.trans ?_, (hr c).2⟩) (Cert.FfnRefIdeal.Value.run m' g')
    obtain ⟨h0, h1, h2, h3, h4, h5⟩ := h c
    exact reference_eq m m' c h0 h1 h2 h3 h4 h5

end Cert.FfnClaim
-- ==== Proof.MixScalar.lean ====
module

public import proofs.«01_k».proof.Proof.Scalar

@[expose] public section

/-!
The mixer's row formulas over the extended reals: one row of the residual stream, pre-normed, is multiplied into 2628
columns; the queries, the keys and the indexer's heads are turned by the row's position; and each result array is a choice
of those columns. Positions and columns are plain numbers here.
-/

noncomputable section

namespace Cert.Layer

open Idealize.ShloMosaic

/-- A weight row read at a column number: nothing past its end. -/
def entry (w : Fin 2628 → EReal) (n : Nat) : EReal := if h : n < 2628 then w ⟨n, h⟩ else 0

/-- One column of a row's product with the weights. -/
def col (h : Fin 1024 → EReal) (w : Fin 1024 → Fin 2628 → EReal) (n : Nat) : EReal := ∑ k, h k * entry (w k) n

/-- The weight row as the kernel packs it: 60 columns of zeros between the indexer's columns and the branches'. -/
def packed (w : Fin 2628 → EReal) (n : Nat) : EReal :=
  if n < 1092 then entry w n else if n < 1152 then 0 else entry w (n - 60)

/-- One column of a row's product with the packed weights. -/
def pcol (h : Fin 1024 → EReal) (w : Fin 1024 → Fin 2628 → EReal) (n : Nat) : EReal :=
  if n < 1092 then col h w n else if n < 1152 then 0 else col h w (n - 60)

/-- A product with the packed weights, column by column. -/
theorem sum_packed (h : Fin 1024 → EReal) (w : Fin 1024 → Fin 2628 → EReal) (n : Nat) :
    ∑ k, h k * packed (w k) n = pcol h w n := by
  unfold packed pcol col
  split
  · rfl
  split
  · simp only [mul_zero, Finset.sum_const_zero]
  · rfl

/-- A packed column below the gap is that column of the product. -/
theorem pcol_low (h : Fin 1024 → EReal) (w : Fin 1024 → Fin 2628 → EReal) {n : Nat} (hn : n < 1092) : pcol h w n = col h w n := if_pos hn

/-- A packed column inside the gap is zero. -/
theorem pcol_mid (h : Fin 1024 → EReal) (w : Fin 1024 → Fin 2628 → EReal) {n : Nat} (h1 : 1092 ≤ n) (h2 : n < 1152) : pcol h w n = 0 := by
  unfold pcol
  rw [if_neg (by omega), if_pos h2]

/-- A packed column above the gap is the column 60 places before it. -/
theorem pcol_high (h : Fin 1024 → EReal) (w : Fin 1024 → Fin 2628 → EReal) {n : Nat} (h2 : 1092 ≤ n) : pcol h w (60 + n) = col h w n := by
  unfold pcol
  rw [if_neg (by omega), if_neg (by omega), show 60 + n - 60 = n by omega]

/-- The angle of lane `k` at position `p`: the position times `500000^(-2k/16)`. -/
def angle (p k : Nat) : EReal :=
  FloatOps.sitofp (F := Ideal) FTy.f32 (BitVec.ofNat 32 p) *
    Ideal.pow (Ideal.ofBits FTy.f32 1223959552#32)
      (Ideal.div (-FloatOps.sitofp (F := Ideal) FTy.f32 (BitVec.ofNat 32 k) * Ideal.ofBits FTy.f32 1073741824#32)
        (Ideal.ofBits FTy.f32 1098907648#32))

/-- A head of 64 lanes turned by position `p`: the first eight lanes against the next eight, the rest as they are. -/
def rope (p : Nat) (z : Nat → EReal) (d : Nat) : EReal :=
  if d < 8 then z d * Ideal.cos (angle p d) - z (8 + d) * Ideal.sin (angle p d)
  else if d < 16 then z d * Ideal.cos (angle p (d - 8)) + z (d - 8) * Ideal.sin (angle p (d - 8))
  else z d

/-- The kernel's table of factors of a lane itself. -/
def tabC (p l : Nat) : EReal :=
  if l % 64 < 8 then Ideal.cos (angle p (l % 64)) else if l % 64 < 16 then Ideal.cos (angle p (l % 64 - 8)) else 1

/-- The kernel's table of factors of the lane eight further on. -/
def tabS (p l : Nat) : EReal := if l % 64 < 8 then -Ideal.sin (angle p (l % 64)) else 0

/-- The kernel's table of factors of the lane eight before. -/
def tabT (p l : Nat) : EReal :=
  if l % 64 < 8 then 0 else if l % 64 < 16 then Ideal.sin (angle p (l % 64 - 8)) else 0

/-- Two heads side by side, each lane against its neighbours by the three tables, is each head turned. -/
theorem lanes_rope (p : Nat) (Z : Nat → EReal) (l : Nat) (hl : l < 128) :
    Z l * tabC p l + Z ((l + 128 - 120) % 128) * tabS p l + Z ((l + 128 - 8) % 128) * tabT p l
      = rope p (fun n => Z (64 * (l / 64) + n)) (l % 64) := by
  unfold tabC tabS tabT rope
  have e : 64 * (l / 64) + l % 64 = l := by omega
  by_cases h8 : l % 64 < 8
  · have e1 : (l + 128 - 120) % 128 = 64 * (l / 64) + (8 + l % 64) := by omega
    simp only [h8, if_true, e, e1, mul_zero, add_zero, mul_neg, sub_eq_add_neg]
  by_cases h16 : l % 64 < 16
  · have e1 : (l + 128 - 8) % 128 = 64 * (l / 64) + (l % 64 - 8) := by omega
    simp only [h8, h16, if_true, if_false, e, e1, mul_zero, add_zero]
  · simp only [h8, h16, if_false, e, mul_zero, add_zero, mul_one]

/-- A turned lane reads its own head only. -/
theorem rope_congr (p : Nat) {Z Z' : Nat → EReal} (e : ∀ n, n < 64 → Z n = Z' n) {d : Nat} (hd : d < 64) : rope p Z d = rope p Z' d := by
  unfold rope
  rw [e d hd]
  split
  · rw [e (8 + d) (by omega)]
  split
  · rw [e (d - 8) (by omega)]
  · rfl

/-- The same over the packed columns, where the pair of heads starts at column `b`, below the zeros. -/
theorem lanes_pcol (p : Nat) (h : Fin 1024 → EReal) (w : Fin 1024 → Fin 2628 → EReal) (b l : Nat) (hl : l < 128)
    (hb : b + 64 * (l / 64) + 64 ≤ 1092) :
    pcol h w (b + l) * tabC p l + pcol h w (b + (l + 128 - 120) % 128) * tabS p l + pcol h w (b + (l + 128 - 8) % 128) * tabT p l
      = rope p (fun n => col h w (b + 64 * (l / 64) + n)) (l % 64) := by
  refine (lanes_rope p (fun n => pcol h w (b + n)) l hl).trans (rope_congr p (fun n hn => ?_) (by omega))
  show pcol h w (b + (64 * (l / 64) + n)) = col h w (b + 64 * (l / 64) + n)
  rw [← add_assoc, pcol_low h w (by omega)]

/-! ## The nine arrays, at a row and a column -/

variable (h : Fin 1024 → EReal) (w : Fin 1024 → Fin 2628 → EReal) (p : Nat)

/-- Query head `a` in 128 lanes: the first four heads in the lower half, the rest in the upper, the other half nothing. -/
def qAt (a l : Nat) : EReal :=
  if l < 64 ↔ a < 4 then rope p (fun n => col h w (64 * a + n)) (l % 64) * Ideal.ofBits FTy.f32 1043900987#32 else 0

/-- The two key heads side by side. -/
def kAt (l : Nat) : EReal := rope p (fun n => col h w (512 + 64 * (l / 64) + n)) (l % 64)

/-- The two value heads side by side. -/
def vAt (l : Nat) : EReal := col h w (640 + l)

/-- The four indexer query heads, each in 128 lanes: an even one in the lower half, an odd one in the upper. -/
def qiAt (l : Nat) : EReal :=
  if l % 128 < 64 ↔ l / 128 % 2 = 0 then rope p (fun n => col h w (768 + 64 * (l / 128) + n)) (l % 64) else 0

/-- The indexer's key head, its four weights, and nothing. -/
def kiAt (l : Nat) : EReal :=
  if l < 64 then rope p (fun n => col h w (1024 + n)) l
  else if l < 68 then col h w (1024 + l) * Ideal.ofBits FTy.f32 0x3D800000#32 else 0

/-- The convolution branch's gate. -/
def gbAt (l : Nat) : EReal := col h w (1092 + l)

/-- The convolution branch's input. -/
def uAt (l : Nat) : EReal := col h w (1604 + l) * col h w (2116 + l)

end Cert.Layer
-- ==== Proof.MixInBlock.lean ====
module

public import proofs.«01_k».proof.Proof.MixScalar
public import proofs.«01_k».proof.Proof.Gen.MixInIdeal.Value

@[expose] public section

noncomputable section

namespace Cert.MixInKernel

open Cert.MixInIdeal Cert.MixInIdeal.Gen Idealize.ShloMosaic Idealize.ShloMosaic.TcCoe Idealize.SL.Sem Cert.Layer

/-- What the input blocks of a grid point hold: rows whose pre-normed rows are `H`, the packed weights of `w`, and the
    tables of the positions `p`. -/
structure Holds (x0 : Vec Ideal S512x1024 .f32) (x1 x2 : Vec Ideal S1x1x1024 .f32) (x3 : Vec Ideal S1x1024 .f32)
    (x4 : Vec Ideal S1024x2688 .bf16) (x5 x6 x7 : Vec Ideal S512x128 .f32) (H : Fin 512 → Fin 1024 → EReal)
    (w : Fin 1024 → Fin 2628 → EReal) (p : Fin 512 → Nat) : Prop where
  rows : ∀ r l, prenorm (fun k => x0 (ix2 r k)) (fun k => x3 (ix2 0 k)) (fun k => x2 (ix3 0 0 k)) (fun k => x1 (ix3 0 0 k)) l = H r l
  weights : ∀ k (j : Fin 2688), x4 (ix2 k j) = packed (w k) j.val
  tableC : ∀ r (l : Fin 128), x5 (ix2 r l) = tabC (p r) l.val
  tableS : ∀ r (l : Fin 128), x6 (ix2 r l) = tabS (p r) l.val
  tableT : ∀ r (l : Fin 128), x7 (ix2 r l) = tabT (p r) l.val

/-- The normalised, modulated row the body hands to its products. -/
theorem pay2_at (v0 : Vec Ideal S512x1024 .f32) (v12 : Vec Ideal S1x1024 .f32) (v16 v22 : Vec Ideal S1x1x1024 .f32)
    (r : Fin 512) (l : Fin 1024) :
    k0_pay2 v0 v12 v16 v22 (ix2 r l)
      = prenorm (fun k => v0 (ix2 r k)) (fun k => v12 (ix2 0 k)) (fun k => v16 (ix3 0 0 k)) (fun k => v22 (ix3 0 0 k)) l := by
  pointwise [k0_pay2, prenorm, rms]

/-- The body's lower-half mask picks its first value in the first 64 lanes. -/
theorem select_low (l : Fin 128) (a b : EReal) :
    Scalar.select (IntOp.cmpi CmpIPredicate.slt (BitVec.ofNat 32 l.val) 64#32) a b = if l.val < 64 then a else b := by
  have e : ∀ l : Fin 128, IntOp.cmpi CmpIPredicate.slt (BitVec.ofNat 32 l.val) 64#32 = if l.val < 64 then 1#1 else 0#1 := by decide +kernel
  rw [e]
  split <;> rfl

/-- Its complement picks its first value in the last 64 lanes. -/
theorem select_high (l : Fin 128) (a b : EReal) :
    Scalar.select (IntOp.xori (IntOp.cmpi CmpIPredicate.slt (BitVec.ofNat 32 l.val) 64#32) 1#1) a b = if l.val < 64 then b else a := by
  have e : ∀ l : Fin 128, IntOp.xori (IntOp.cmpi CmpIPredicate.slt (BitVec.ofNat 32 l.val) 64#32) 1#1 = if l.val < 64 then 0#1 else 1#1 := by decide +kernel
  rw [e]
  split <;> rfl

variable {x0 : Vec Ideal S512x1024 .f32} {x1 x2 : Vec Ideal S1x1x1024 .f32} {x3 : Vec Ideal S1x1024 .f32}
  {x4 : Vec Ideal S1024x2688 .bf16} {x5 x6 x7 : Vec Ideal S512x128 .f32} {H : Fin 512 → Fin 1024 → EReal}
  {w : Fin 1024 → Fin 2628 → EReal} {p : Fin 512 → Nat}

/-- The blocks' pre-normed row, at row `r` and channel `l`. -/
theorem Holds.pre (B : Holds x0 x1 x2 x3 x4 x5 x6 x7 H w p) (r : Fin 512) (l : Fin 1024) :
    k0_pay42 x0 x1 x2 x3 x4 x5 x6 x7 (ix2 r l) = H r l := by
  unfold k0_pay42
  rw [pay2_at, ← B.rows r l]
  simp only [r0_0, r0_1, r0_2]
  pointwise

/-- The block of cosines at row `r` and lane `l` is the table at that row's position. -/
theorem Holds.tC (B : Holds x0 x1 x2 x3 x4 x5 x6 x7 H w p) (r : Fin 512) (l : Fin 128) :
    k0_pay43 x0 x1 x2 x3 x4 x5 x6 x7 (ix2 r l) = tabC (p r) l.val := by
  rw [← B.tableC r l]
  pointwise [k0_pay43, k0_pay3, r0_3]

/-- The block of negated sines likewise. -/
theorem Holds.tS (B : Holds x0 x1 x2 x3 x4 x5 x6 x7 H w p) (r : Fin 512) (l : Fin 128) :
    k0_pay44 x0 x1 x2 x3 x4 x5 x6 x7 (ix2 r l) = tabS (p r) l.val := by
  rw [← B.tableS r l]
  pointwise [k0_pay44, k0_pay4, r0_3]

/-- And the block of sines eight lanes on. -/
theorem Holds.tT (B : Holds x0 x1 x2 x3 x4 x5 x6 x7 H w p) (r : Fin 512) (l : Fin 128) :
    k0_pay45 x0 x1 x2 x3 x4 x5 x6 x7 (ix2 r l) = tabT (p r) l.val := by
  rw [← B.tableT r l]
  pointwise [k0_pay45, k0_pay5, r0_3]

/-- The keys' block, channels first. -/
theorem out9_at (B : Holds x0 x1 x2 x3 x4 x5 x6 x7 H w p) (r : Fin 512) (l : Fin 128) :
    out0_9 x0 x1 x2 x3 x4 x5 x6 x7 (ix3 0 l r) = kAt (H r) w (p r) l.val := by
  have hz3 : (![0, 0, 0] : Fin 3 → Nat) = fun _ => 0 := funext fun a => by fin_cases a <;> rfl
  unfold out0_9
  refine (congrFun (View.canon_unit_zero hz3 _ _) _).trans ?_
  pointwise [k0_pay27, k0_pay26, r0_13]
  simp only [B.pre, B.tC, B.tS, B.tT, B.weights, sum_packed]
  exact lanes_pcol (p r) (H r) w 512 l.val l.isLt (by omega)

/-- The values' block, channels first. -/
theorem out10_at (B : Holds x0 x1 x2 x3 x4 x5 x6 x7 H w p) (r : Fin 512) (l : Fin 128) :
    out0_10 x0 x1 x2 x3 x4 x5 x6 x7 (ix3 0 l r) = vAt (H r) w l.val := by
  have hz3 : (![0, 0, 0] : Fin 3 → Nat) = fun _ => 0 := funext fun a => by fin_cases a <;> rfl
  unfold out0_10
  refine (congrFun (View.canon_unit_zero hz3 _ _) _).trans ?_
  pointwise [k0_pay29, k0_pay28, r0_15]
  simp only [B.pre, B.weights, sum_packed]
  exact pcol_low _ _ (by omega)

/-- The values' block, row by row. -/
theorem out11_at (B : Holds x0 x1 x2 x3 x4 x5 x6 x7 H w p) (r : Fin 512) (l : Fin 128) :
    out0_11 x0 x1 x2 x3 x4 x5 x6 x7 (ix2 r l) = vAt (H r) w l.val := by
  have hz2 : (![0, 0] : Fin 2 → Nat) = fun _ => 0 := funext fun a => by fin_cases a <;> rfl
  unfold out0_11
  refine (congrFun (View.canon_unit_zero hz2 _ _) _).trans ?_
  pointwise [k0_pay30, k0_pay28, r0_15]
  simp only [B.pre, B.weights, sum_packed]
  exact pcol_low _ _ (by omega)

/-- The indexer's key head turned, its weights scaled, and the zeros' columns: one lane of the kernel's row. -/
theorem kiwi_lane (h : Fin 1024 → EReal) (w : Fin 1024 → Fin 2628 → EReal) (p : Nat) (l : Fin 128) :
    (if l.val < 64 then
      pcol h w (1024 + l.val) * tabC p l.val + pcol h w (1024 + (l.val + 128 - 120) % 128) * tabS p l.val +
        pcol h w (1024 + (l.val + 128 - 8) % 128) * tabT p l.val
    else pcol h w (1024 + l.val) * Ideal.ofBits FTy.f32 1031798784#32) = kiAt h w p l.val := by
  unfold kiAt
  split
  · rw [lanes_pcol p h w 1024 l.val l.isLt (by omega), show l.val / 64 = 0 by omega, show l.val % 64 = l.val by omega]
  split
  · rw [pcol_low h w (by omega)]
  · rw [pcol_mid h w (by omega) (by omega), zero_mul]

/-- The indexer's keys and weights, row by row. -/
theorem out13_at (B : Holds x0 x1 x2 x3 x4 x5 x6 x7 H w p) (r : Fin 512) (l : Fin 128) :
    out0_13 x0 x1 x2 x3 x4 x5 x6 x7 (ix2 r l) = kiAt (H r) w (p r) l.val := by
  have hz2 : (![0, 0] : Fin 2 → Nat) = fun _ => 0 := funext fun a => by fin_cases a <;> rfl
  unfold out0_13
  refine (congrFun (View.canon_unit_zero hz2 _ _) _).trans ?_
  pointwise [k0_pay38, k0_pay41, r0_21]
  simp only [B.pre, B.tC, B.tS, B.tT, B.weights, sum_packed, select_low]
  exact kiwi_lane (H r) w (p r) l

/-- The indexer's keys and weights, channels first. -/
theorem out14_at (B : Holds x0 x1 x2 x3 x4 x5 x6 x7 H w p) (r : Fin 512) (l : Fin 128) :
    out0_14 x0 x1 x2 x3 x4 x5 x6 x7 (ix3 0 l r) = kiAt (H r) w (p r) l.val := by
  have hz3 : (![0, 0, 0] : Fin 3 → Nat) = fun _ => 0 := funext fun a => by fin_cases a <;> rfl
  unfold out0_14
  refine (congrFun (View.canon_unit_zero hz3 _ _) _).trans ?_
  pointwise [k0_pay39, k0_pay38, k0_pay41, r0_21]
  simp only [B.pre, B.tC, B.tS, B.tT, B.weights, sum_packed, select_low]
  exact kiwi_lane (H r) w (p r) l

/-- The convolution branch's gate. -/
theorem out15_at (B : Holds x0 x1 x2 x3 x4 x5 x6 x7 H w p) (r : Fin 512) (l : Fin 512) :
    out0_15 x0 x1 x2 x3 x4 x5 x6 x7 (ix2 r l) = gbAt (H r) w l.val := by
  have hz2 : (![0, 0] : Fin 2 → Nat) = fun _ => 0 := funext fun a => by fin_cases a <;> rfl
  unfold out0_15
  refine (congrFun (View.canon_unit_zero hz2 _ _) _).trans ?_
  pointwise [k0_pay40, r0_22]
  simp only [B.pre, B.weights, sum_packed]
  rw [show 1152 + l.val = 60 + (1092 + l.val) by omega]
  exact pcol_high _ _ (by omega)

/-- The convolution branch's input. -/
theorem out16_at (B : Holds x0 x1 x2 x3 x4 x5 x6 x7 H w p) (r : Fin 512) (l : Fin 512) :
    out0_16 x0 x1 x2 x3 x4 x5 x6 x7 (ix2 r l) = uAt (H r) w l.val := by
  have hz2 : (![0, 0] : Fin 2 → Nat) = fun _ => 0 := funext fun a => by fin_cases a <;> rfl
  unfold out0_16
  refine (congrFun (View.canon_unit_zero hz2 _ _) _).trans ?_
  pointwise [k0_pay1, r0_24, r0_25]
  simp only [B.pre, B.weights, sum_packed]
  rw [show 1664 + l.val = 60 + (1604 + l.val) by omega, show 2176 + l.val = 60 + (2116 + l.val) by omega,
    pcol_high _ _ (by omega), pcol_high _ _ (by omega), uAt]

/-- A lane of a query head whose 64 lanes stay where the product left them. -/
theorem q_stay (h : Fin 1024 → EReal) (w : Fin 1024 → Fin 2628 → EReal) (p a b l : Nat) (hl : l < 128) (ha : a < 8) (hb : b = 128 * (a / 2))
    (hs : l < 64 ↔ a < 4) (he : l < 64 ↔ a % 2 = 0) :
    (pcol h w (b + l) * tabC p l + pcol h w (b + (l + 128 - 120) % 128) * tabS p l + pcol h w (b + (l + 128 - 8) % 128) * tabT p l)
      * Ideal.ofBits FTy.f32 1043900987#32 = qAt h w p a l := by
  rw [lanes_pcol p h w b l hl (by omega), qAt, if_pos hs, show b + 64 * (l / 64) = 64 * a by omega]

/-- A lane of a query head whose 64 lanes move to the other half. -/
theorem q_move (h : Fin 1024 → EReal) (w : Fin 1024 → Fin 2628 → EReal) (p a b l : Nat) (hl : l < 128) (ha : a < 8) (hb : b = 128 * (a / 2))
    (hs : l < 64 ↔ a < 4) (he : l < 64 ↔ a % 2 = 1) :
    (pcol h w (b + (l + 128 - 64) % 128) * tabC p ((l + 128 - 64) % 128)
      + pcol h w (b + ((l + 128 - 64) % 128 + 128 - 120) % 128) * tabS p ((l + 128 - 64) % 128)
      + pcol h w (b + ((l + 128 - 64) % 128 + 128 - 8) % 128) * tabT p ((l + 128 - 64) % 128))
      * Ideal.ofBits FTy.f32 1043900987#32 = qAt h w p a l := by
  rw [lanes_pcol p h w b _ (by omega) (by omega), qAt, if_pos hs, show b + 64 * ((l + 128 - 64) % 128 / 64) = 64 * a by omega,
    show (l + 128 - 64) % 128 % 64 = l % 64 by omega]

/-- The half of a query head's lanes that holds nothing. -/
theorem q_none (h : Fin 1024 → EReal) (w : Fin 1024 → Fin 2628 → EReal) (p a l : Nat) (hs : ¬(l < 64 ↔ a < 4)) : 0 = qAt h w p a l := by
  rw [qAt, if_neg hs]

/-- Where a query head's store lies in its window's block. -/
theorem head_emb (a : Fin 8) (inb : ∀ b, (![a.val, 0, 0] : Fin 3 → Nat) b + S1x512x128.size b ≤ S8x512x128.size b) (u : Fin 1) (r : Fin 512) (l : Fin 128) :
    (Rect.unit (s := S8x512x128) ![a.val, 0, 0] S1x512x128.size inb).emb (ix3 u r l) = (ix3 a r l : S8x512x128.Idx) := by
  funext b
  apply Fin.ext
  match b with
  | ⟨0, _⟩ => show a.val + 1 * u.val = a.val; omega
  | ⟨1, _⟩ => show 0 + 1 * r.val = r.val; omega
  | ⟨2, _⟩ => show 0 + 1 * l.val = l.val; omega

/-- The queries' block: eight stores, a head each. -/
theorem out8_at (B : Holds x0 x1 x2 x3 x4 x5 x6 x7 H w p) (a : Fin 8) (r : Fin 512) (l : Fin 128) :
    out0_8 x0 x1 x2 x3 x4 x5 x6 x7 (ix3 a r l) = qAt (H r) w (p r) a.val l.val := by
  let G : S8x512x128.Idx → EReal := fun y => qAt (H (y 1)) w (p (y 1)) (y 0).val (y 2).val
  unfold out0_8
  refine View.canon_apply_of_pieces (Val := Elt Ideal) (e := .bf16) G _ ?_ (ix3 a r l) (cover0_8 _ _ _ _ _ _ _ _ _)
  intro q hq
  simp only [List.mem_cons, List.not_mem_nil, or_false] at hq
  rcases hq with rfl | rfl | rfl | rfl | rfl | rfl | rfl | rfl
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 7 inb_S8x512x128_S1x512x128_7_0_0 u r l)).symm
    show _ = qAt (H r) w (p r) 7 l.val
    pointwise [k0_pay25, k0_pay23, k0_pay49, k0_pay46, k0_pay10, k0_pay7, k0_pay6, r0_4]
    simp only [B.pre, B.tC, B.tS, B.tT, B.weights, sum_packed, select_low, select_high, Nat.zero_add]
    split
    · exact q_none (H r) w (p r) 7 l.val (by omega)
    · exact q_stay (H r) w (p r) 7 384 l.val l.isLt (by omega) (by omega) (by omega) (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 6 inb_S8x512x128_S1x512x128_6_0_0 u r l)).symm
    show _ = qAt (H r) w (p r) 6 l.val
    pointwise [k0_pay24, k0_pay23, k0_pay49, k0_pay46, k0_pay10, k0_pay7, k0_pay6, r0_4]
    simp only [B.pre, B.tC, B.tS, B.tT, B.weights, sum_packed, select_low, select_high, Nat.zero_add]
    split
    · exact q_none (H r) w (p r) 6 l.val (by omega)
    · exact q_move (H r) w (p r) 6 384 l.val l.isLt (by omega) (by omega) (by omega) (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 5 inb_S8x512x128_S1x512x128_5_0_0 u r l)).symm
    show _ = qAt (H r) w (p r) 5 l.val
    pointwise [k0_pay22, k0_pay18, k0_pay20, k0_pay21, k0_pay48, k0_pay46, k0_pay9, k0_pay7, k0_pay6, r0_4]
    simp only [B.pre, B.tC, B.tS, B.tT, B.weights, sum_packed, select_low, select_high, Nat.zero_add]
    split
    · exact q_none (H r) w (p r) 5 l.val (by omega)
    · exact q_stay (H r) w (p r) 5 256 l.val l.isLt (by omega) (by omega) (by omega) (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 4 inb_S8x512x128_S1x512x128_4_0_0 u r l)).symm
    show _ = qAt (H r) w (p r) 4 l.val
    pointwise [k0_pay19, k0_pay18, k0_pay48, k0_pay46, k0_pay9, k0_pay7, k0_pay6, r0_4]
    simp only [B.pre, B.tC, B.tS, B.tT, B.weights, sum_packed, select_low, select_high, Nat.zero_add]
    split
    · exact q_none (H r) w (p r) 4 l.val (by omega)
    · exact q_move (H r) w (p r) 4 256 l.val l.isLt (by omega) (by omega) (by omega) (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 3 inb_S8x512x128_S1x512x128_3_0_0 u r l)).symm
    show _ = qAt (H r) w (p r) 3 l.val
    pointwise [k0_pay17, k0_pay15, k0_pay47, k0_pay46, k0_pay8, k0_pay7, k0_pay6, r0_4]
    simp only [B.pre, B.tC, B.tS, B.tT, B.weights, sum_packed, select_low, select_high, Nat.zero_add]
    split
    · exact q_move (H r) w (p r) 3 128 l.val l.isLt (by omega) (by omega) (by omega) (by omega)
    · exact q_none (H r) w (p r) 3 l.val (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 2 inb_S8x512x128_S1x512x128_2_0_0 u r l)).symm
    show _ = qAt (H r) w (p r) 2 l.val
    pointwise [k0_pay16, k0_pay15, k0_pay47, k0_pay46, k0_pay8, k0_pay7, k0_pay6, r0_4]
    simp only [B.pre, B.tC, B.tS, B.tT, B.weights, sum_packed, select_low, select_high, Nat.zero_add]
    split
    · exact q_stay (H r) w (p r) 2 128 l.val l.isLt (by omega) (by omega) (by omega) (by omega)
    · exact q_none (H r) w (p r) 2 l.val (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 1 inb_S8x512x128_S1x512x128_1_0_0 u r l)).symm
    show _ = qAt (H r) w (p r) 1 l.val
    pointwise [k0_pay14, k0_pay12, k0_pay11, k0_pay46, k0_pay7, k0_pay6, r0_4]
    simp only [B.pre, B.tC, B.tS, B.tT, B.weights, sum_packed, select_low, select_high, Nat.zero_add]
    split
    · simpa only [Nat.zero_add] using q_move (H r) w (p r) 1 0 l.val l.isLt (by omega) (by omega) (by omega) (by omega)
    · exact q_none (H r) w (p r) 1 l.val (by omega)
  · intro x
    obtain ⟨u, r, l, rfl⟩ : ∃ (u : Fin 1) (r : Fin 512) (l : Fin 128), x = ix3 u r l := ⟨x 0, x 1, x 2, eq_ix3 (n0 := 1) (n1 := 512) (n2 := 128) x⟩
    refine Eq.trans ?_ (congrArg G (head_emb 0 inb_S8x512x128_S1x512x128_0_0_0 u r l)).symm
    show _ = qAt (H r) w (p r) 0 l.val
    pointwise [k0_pay13, k0_pay11, k0_pay46, k0_pay7, k0_pay6, r0_4]
    simp only [B.pre, B.tC, B.tS, B.tT, B.weights, sum_packed, select_low, select_high, Nat.zero_add]
    split
    · simpa only [Nat.zero_add] using q_stay (H r) w (p r) 0 0 l.val l.isLt (by omega) (by omega) (by omega) (by omega)
    · exact q_none (H r) w (p r) 0 l.val (by omega)

/-- A lane of an indexer query head, or nothing. -/
theorem qi_some (h : Fin 1024 → EReal) (w : Fin 1024 → Fin 2628 → EReal) (p a b l : Nat) (hl : l < 128) (ha : a < 4) (hb : b = 768 + 128 * (a / 2))
    (hs : l < 64 ↔ a % 2 = 0) :
    pcol h w (b + l) * tabC p l + pcol h w (b + (l + 128 - 120) % 128) * tabS p l + pcol h w (b + (l + 128 - 8) % 128) * tabT p l
      = qiAt h w p (128 * a + l) := by
  rw [lanes_pcol p h w b l hl (by omega), qiAt, if_pos (by omega), show b + 64 * (l / 64) = 768 + 64 * ((128 * a + l) / 128) by omega,
    show (128 * a + l) % 64 = l % 64 by omega]

/-- In the half of the lanes the indexer head does not use, its padded query is zero. -/
theorem qi_none (h : Fin 1024 → EReal) (w : Fin 1024 → Fin 2628 → EReal) (p a l : Nat) (hl : l < 128) (hs : ¬(l < 64 ↔ a % 2 = 0)) :
    0 = qiAt h w p (128 * a + l) := by
  rw [qiAt, if_neg (by omega)]

/-- Where an indexer query head's store lies in its window's block. -/
theorem group_emb (a : Fin 4) (inb : ∀ b, (![0, 128 * a.val] : Fin 2 → Nat) b + S512x128.size b ≤ S512x512.size b) (r : Fin 512) (l : Fin 128) :
    (Rect.unit (s := S512x512) ![0, 128 * a.val] S512x128.size inb).emb (ix2 r l) = (ix2 r (⟨128 * a.val + l.val, by omega⟩ : Fin 512) : S512x512.Idx) := by
  funext b
  apply Fin.ext
  match b with
  | ⟨0, _⟩ => show 0 + 1 * r.val = r.val; omega
  | ⟨1, _⟩ => show 128 * a.val + 1 * l.val = 128 * a.val + l.val; omega

/-- The indexer queries' block: four stores, a head each. -/
theorem out12_at (B : Holds x0 x1 x2 x3 x4 x5 x6 x7 H w p) (r : Fin 512) (l : Fin 512) :
    out0_12 x0 x1 x2 x3 x4 x5 x6 x7 (ix2 r l) = qiAt (H r) w (p r) l.val := by
  let G : S512x512.Idx → EReal := fun y => qiAt (H (y 0)) w (p (y 0)) (y 1).val
  unfold out0_12
  refine View.canon_apply_of_pieces (Val := Elt Ideal) (e := .bf16) G _ ?_ (ix2 r l) (cover0_12 _ _ _ _ _)
  intro q hq
  simp only [List.mem_cons, List.not_mem_nil, or_false] at hq
  rcases hq with rfl | rfl | rfl | rfl
  · intro x
    obtain ⟨r, l, rfl⟩ : ∃ (r : Fin 512) (l : Fin 128), x = ix2 r l := ⟨x 0, x 1, eq_ix2 (n0 := 512) (n1 := 128) x⟩
    refine Eq.trans ?_ (congrArg G (group_emb 3 inb_S512x512_S512x128_0_384 r l)).symm
    show _ = qiAt (H r) w (p r) (128 * 3 + l.val)
    pointwise [k0_pay37, k0_pay50, k0_pay46, k0_pay33, k0_pay31, k0_pay6, r0_16]
    simp only [B.pre, B.tC, B.tS, B.tT, B.weights, sum_packed, select_low, ← Nat.add_assoc, Nat.reduceAdd]
    split
    · exact qi_none (H r) w (p r) 3 l.val l.isLt (by omega)
    · exact qi_some (H r) w (p r) 3 896 l.val l.isLt (by omega) (by omega) (by omega)
  · intro x
    obtain ⟨r, l, rfl⟩ : ∃ (r : Fin 512) (l : Fin 128), x = ix2 r l := ⟨x 0, x 1, eq_ix2 (n0 := 512) (n1 := 128) x⟩
    refine Eq.trans ?_ (congrArg G (group_emb 2 inb_S512x512_S512x128_0_256 r l)).symm
    show _ = qiAt (H r) w (p r) (128 * 2 + l.val)
    pointwise [k0_pay36, k0_pay50, k0_pay46, k0_pay33, k0_pay31, k0_pay6, r0_16]
    simp only [B.pre, B.tC, B.tS, B.tT, B.weights, sum_packed, select_low, ← Nat.add_assoc, Nat.reduceAdd]
    split
    · exact qi_some (H r) w (p r) 2 896 l.val l.isLt (by omega) (by omega) (by omega)
    · exact qi_none (H r) w (p r) 2 l.val l.isLt (by omega)
  · intro x
    obtain ⟨r, l, rfl⟩ : ∃ (r : Fin 512) (l : Fin 128), x = ix2 r l := ⟨x 0, x 1, eq_ix2 (n0 := 512) (n1 := 128) x⟩
    refine Eq.trans ?_ (congrArg G (group_emb 1 inb_S512x512_S512x128_0_128 r l)).symm
    show _ = qiAt (H r) w (p r) (128 * 1 + l.val)
    pointwise [k0_pay35, k0_pay46, k0_pay32, k0_pay31, k0_pay6, r0_16]
    simp only [B.pre, B.tC, B.tS, B.tT, B.weights, sum_packed, select_low, ← Nat.add_assoc, Nat.reduceAdd]
    split
    · exact qi_none (H r) w (p r) 1 l.val l.isLt (by omega)
    · exact qi_some (H r) w (p r) 1 768 l.val l.isLt (by omega) (by omega) (by omega)
  · intro x
    obtain ⟨r, l, rfl⟩ : ∃ (r : Fin 512) (l : Fin 128), x = ix2 r l := ⟨x 0, x 1, eq_ix2 (n0 := 512) (n1 := 128) x⟩
    refine Eq.trans ?_ (congrArg G (group_emb 0 inb_S512x512_S512x128_0_0 r l)).symm
    show _ = qiAt (H r) w (p r) (128 * 0 + l.val)
    pointwise [k0_pay34, k0_pay46, k0_pay32, k0_pay31, k0_pay6, r0_16]
    simp only [B.pre, B.tC, B.tS, B.tT, B.weights, sum_packed, select_low, ← Nat.add_assoc, Nat.reduceAdd]
    split
    · simpa only [Nat.mul_zero, Nat.zero_add] using qi_some (H r) w (p r) 0 768 l.val l.isLt (by omega) (by omega) (by omega)
    · simpa only [Nat.mul_zero, Nat.zero_add] using qi_none (H r) w (p r) 0 l.val l.isLt (by omega)

end Cert.MixInKernel
-- ==== Proof.MixInKernel.lean ====
module

public import proofs.«01_k».proof.Proof.MixInBlock
public import Idealize.ShloMosaic.Lib.StableHlo.ReadAt

@[expose] public section

noncomputable section

namespace Cert.MixInKernel

open Cert.MixInIdeal Cert.MixInIdeal.Gen Idealize.ShloMosaic Idealize.ShloMosaic.TcCoe Idealize.SL.Sem Cert.Layer

variable (m : (ℓ : Loc nD τ sig) → Buf (Elt Ideal) ℓ)

/-! ## The arrays the kernel is launched over -/

/-- The rows of the residual stream, the two sequences one after the other. -/
theorem V33_at (c : Dev nD) (R : Fin 32768) (l : Fin 1024) :
    (V m c main_v33 : S32768x1024.Idx → EReal) (ix2 R l) = (m ((c : Thread nD τ).loc main_arg0) : S2x16384x1024.Idx → EReal) (ix3 ⟨R / 16384, by omega⟩ ⟨R % 16384, by omega⟩ l) := by
  unfold V
  after_reads_at

/-- The shift of this sub-layer, per sequence. -/
theorem V36_at (c : Dev nD) (b : Fin 2) (l : Fin 1024) :
    (V m c main_v36 : S2x1x1024.Idx → EReal) (ix3 b 0 l) = (m ((c : Thread nD τ).loc main_arg1) : S2x3x3x1024.Idx → EReal) (ix4 b 1 0 l) := by
  unfold V
  after_reads_at

/-- The scale of this sub-layer, per sequence. -/
theorem V39_at (c : Dev nD) (b : Fin 2) (l : Fin 1024) :
    (V m c main_v39 : S2x1x1024.Idx → EReal) (ix3 b 0 l) = (m ((c : Thread nD τ).loc main_arg1) : S2x3x3x1024.Idx → EReal) (ix4 b 1 1 l) := by
  unfold V
  after_reads_at

/-- This sub-layer's pre-norm gain. -/
theorem V40_at (c : Dev nD) (l : Fin 1024) :
    (V m c main_v40 : S1x1024.Idx → EReal) (ix2 0 l) = (m ((c : Thread nD τ).loc main_arg2) : S3x1024.Idx → EReal) (ix2 1 l) := by
  unfold V
  after_reads_at

/-- The packed weights. -/
theorem V45_at (c : Dev nD) (k : Fin 1024) (j : Fin 2688) :
    (V m c main_v45 : S1024x2688.Idx → EReal) (ix2 k j)
      = packed (fun n => (m ((c : Thread nD τ).loc main_arg3) : S1024x2628.Idx → EReal) (ix2 k n)) j.val := by
  unfold V
  after_reads_at
  unfold packed entry
  by_cases h1 : j.val < 1092
  · have h2 : j.val < 2628 := by omega
    simp only [h1, h2, dif_pos, if_pos]
    after_reads_at
  by_cases h2 : j.val < 1152
  · have h3 : j.val - 1092 < 60 := by omega
    simp only [h1, h2, h3, dif_pos, dif_neg, if_pos, if_neg, not_false_eq_true]
    after_reads_at
  · have h3 : ¬j.val - 1092 < 60 := by omega
    have h4 : j.val - 60 < 2628 := by omega
    have e : 1092 + (j.val - 1092 - 60) = j.val - 60 := by omega
    simp only [h1, h2, h3, h4, dif_pos, dif_neg, if_neg, not_false_eq_true]
    after_reads_at
    simp only [e]

/-- The table of cosines. -/
theorem V26_at (c : Dev nD) (p : Fin 16384) (j : Fin 128) :
    (V m c main_v26 : S16384x128.Idx → EReal) (ix2 p j) = tabC p.val j.val := by
  unfold V
  after_reads_at
  unfold tabC angle
  by_cases h1 : j.val % 64 < 8
  · simp only [h1, dif_pos, if_pos]
    after_reads_at
  by_cases h2 : j.val % 64 < 16
  · have h3 : j.val % 64 - 8 < 8 := by omega
    simp only [h1, h2, h3, dif_pos, dif_neg, if_pos, if_neg, not_false_eq_true]
    after_reads_at
  · have h3 : ¬j.val % 64 - 8 < 8 := by omega
    simp only [h1, h2, h3, dif_neg, if_neg, not_false_eq_true]
    after_reads_at

/-- The table of sines, negated. -/
theorem V29_at (c : Dev nD) (p : Fin 16384) (j : Fin 128) :
    (V m c main_v29 : S16384x128.Idx → EReal) (ix2 p j) = tabS p.val j.val := by
  unfold V
  after_reads_at
  unfold tabS angle
  by_cases h1 : j.val % 64 < 8
  · simp only [h1, dif_pos, if_pos]
    after_reads_at
  simp only [h1, dif_neg, if_neg, not_false_eq_true]
  split <;> after_reads_at

/-- The table of sines, eight lanes on. -/
theorem V32_at (c : Dev nD) (p : Fin 16384) (j : Fin 128) :
    (V m c main_v32 : S16384x128.Idx → EReal) (ix2 p j) = tabT p.val j.val := by
  unfold V
  after_reads_at
  unfold tabT angle
  by_cases h1 : j.val % 64 < 8
  · simp only [h1, dif_pos, if_pos]
    after_reads_at
  by_cases h2 : j.val % 64 < 16
  · have h3 : j.val % 64 - 8 < 8 := by omega
    simp only [h1, h2, h3, dif_pos, dif_neg, if_pos, if_neg, not_false_eq_true]
    after_reads_at
  · have h3 : ¬j.val % 64 - 8 < 8 := by omega
    simp only [h1, h2, h3, dif_neg, if_neg, not_false_eq_true]
    after_reads_at

/-! ## The blocks a grid point reads -/

/-- The block indices of the windows it reads, decided over the grid. -/
theorem in_idx : ∀ t : Fin cfg0.N, win0_0.index t = ![t.val, 0] ∧ win0_1.index t = ![t.val / 32, 0, 0] ∧ win0_2.index t = ![t.val / 32, 0, 0] ∧ win0_3.index t = ![0, 0] ∧ win0_4.index t = ![0, 0] ∧ win0_5.index t = ![t.val % 32, 0] ∧ win0_6.index t = ![t.val % 32, 0] ∧ win0_7.index t = ![t.val % 32, 0] :=
  (by decide +kernel : ∀ t : Fin grid0.N, win0_0.index t = ![t.val, 0] ∧ win0_1.index t = ![t.val / 32, 0, 0] ∧ win0_2.index t = ![t.val / 32, 0, 0] ∧ win0_3.index t = ![0, 0] ∧ win0_4.index t = ![0, 0] ∧ win0_5.index t = ![t.val % 32, 0] ∧ win0_6.index t = ![t.val % 32, 0] ∧ win0_7.index t = ![t.val % 32, 0])

/-- The block indices of the windows it writes, decided over the grid. -/
theorem out_idx : ∀ t : Fin cfg0.N, win0_8.index t = ![0, t.val, 0] ∧ win0_9.index t = ![t.val / 32, 0, t.val % 32] ∧ win0_10.index t = ![t.val / 32, 0, t.val % 32] ∧ win0_11.index t = ![t.val, 0] ∧ win0_12.index t = ![t.val, 0] ∧ win0_13.index t = ![t.val, 0] ∧ win0_14.index t = ![t.val / 32, 0, t.val % 32] ∧ win0_15.index t = ![t.val, 0] ∧ win0_16.index t = ![t.val, 0] :=
  (by decide +kernel : ∀ t : Fin grid0.N, win0_8.index t = ![0, t.val, 0] ∧ win0_9.index t = ![t.val / 32, 0, t.val % 32] ∧ win0_10.index t = ![t.val / 32, 0, t.val % 32] ∧ win0_11.index t = ![t.val, 0] ∧ win0_12.index t = ![t.val, 0] ∧ win0_13.index t = ![t.val, 0] ∧ win0_14.index t = ![t.val / 32, 0, t.val % 32] ∧ win0_15.index t = ![t.val, 0] ∧ win0_16.index t = ![t.val, 0])

/-- What window 0's block at a point holds, in the array's own indices. -/
theorem iblk0_at (c : Dev nD) (t : Fin cfg0.N) (r : Fin 512) (l : Fin 1024) :
    (iblk m c 0 t : S512x1024.Idx → EReal) (ix2 r l) = (m ((c : Thread nD τ).loc main_arg0) : S2x16384x1024.Idx → EReal) (ix3 ⟨(512 * t.val + r) / 16384, by have := t.isLt; have : cfg0.N = 64 := N_0; omega⟩ ⟨(512 * t.val + r) % 16384, by omega⟩ l) := by
  have ht : t.val < 64 := lt_of_lt_of_eq t.isLt N_0
  obtain ⟨h0, h1, h2, h3, h4, h5, h6, h7⟩ := in_idx t
  refine Eq.trans ?_ (V33_at m c (⟨512 * t.val + r, by have := t.isLt; have : cfg0.N = 64 := N_0; omega⟩ : Fin 32768) l)
  unfold iblk
  rw [View.read_apply]
  show V m c main_v33 _ = V m c main_v33 _
  congr 1
  funext a
  apply Fin.ext
  match a with
  | ⟨0, _⟩ => show win0_0.index t 0 * 512 + 1 * _ = _; rw [h0]; show t.val * 512 + 1 * r.val = 512 * t.val + r.val; omega
  | ⟨1, _⟩ => show win0_0.index t 1 * 1024 + 1 * _ = _; rw [h0]; show 0 * 1024 + 1 * l.val = l.val; omega

/-- What window 1's block at a point holds, in the array's own indices. -/
theorem iblk1_at (c : Dev nD) (t : Fin cfg0.N) (l : Fin 1024) :
    (iblk m c 1 t : S1x1x1024.Idx → EReal) (ix3 0 0 l) = (m ((c : Thread nD τ).loc main_arg1) : S2x3x3x1024.Idx → EReal) (ix4 ⟨t.val / 32, by have := t.isLt; have : cfg0.N = 64 := N_0; omega⟩ 1 0 l) := by
  have ht : t.val < 64 := lt_of_lt_of_eq t.isLt N_0
  obtain ⟨h0, h1, h2, h3, h4, h5, h6, h7⟩ := in_idx t
  refine Eq.trans ?_ (V36_at m c (⟨t.val / 32, by have := t.isLt; have : cfg0.N = 64 := N_0; omega⟩ : Fin 2) l)
  unfold iblk
  rw [View.read_apply]
  show V m c main_v36 _ = V m c main_v36 _
  congr 1
  funext a
  apply Fin.ext
  match a with
  | ⟨0, _⟩ => show win0_1.index t 0 * 1 + 1 * _ = _; rw [h1]; show t.val / 32 * 1 + 1 * 0 = t.val / 32; omega
  | ⟨1, _⟩ => show win0_1.index t 1 * 1 + 1 * _ = _; rw [h1]; show 0 * 1 + 1 * 0 = 0; omega
  | ⟨2, _⟩ => show win0_1.index t 2 * 1024 + 1 * _ = _; rw [h1]; show 0 * 1024 + 1 * l.val = l.val; omega

/-- What window 2's block at a point holds, in the array's own indices. -/
theorem iblk2_at (c : Dev nD) (t : Fin cfg0.N) (l : Fin 1024) :
    (iblk m c 2 t : S1x1x1024.Idx → EReal) (ix3 0 0 l) = (m ((c : Thread nD τ).loc main_arg1) : S2x3x3x1024.Idx → EReal) (ix4 ⟨t.val / 32, by have := t.isLt; have : cfg0.N = 64 := N_0; omega⟩ 1 1 l) := by
  have ht : t.val < 64 := lt_of_lt_of_eq t.isLt N_0
  obtain ⟨h0, h1, h2, h3, h4, h5, h6, h7⟩ := in_idx t
  refine Eq.trans ?_ (V39_at m c (⟨t.val / 32, by have := t.isLt; have : cfg0.N = 64 := N_0; omega⟩ : Fin 2) l)
  unfold iblk
  rw [View.read_apply]
  show V m c main_v39 _ = V m c main_v39 _
  congr 1
  funext a
  apply Fin.ext
  match a with
  | ⟨0, _⟩ => show win0_2.index t 0 * 1 + 1 * _ = _; rw [h2]; show t.val / 32 * 1 + 1 * 0 = t.val / 32; omega
  | ⟨1, _⟩ => show win0_2.index t 1 * 1 + 1 * _ = _; rw [h2]; show 0 * 1 + 1 * 0 = 0; omega
  | ⟨2, _⟩ => show win0_2.index t 2 * 1024 + 1 * _ = _; rw [h2]; show 0 * 1024 + 1 * l.val = l.val; omega

/-- What window 3's block at a point holds, in the array's own indices. -/
theorem iblk3_at (c : Dev nD) (t : Fin cfg0.N) (l : Fin 1024) :
    (iblk m c 3 t : S1x1024.Idx → EReal) (ix2 0 l) = (m ((c : Thread nD τ).loc main_arg2) : S3x1024.Idx → EReal) (ix2 1 l) := by
  have ht : t.val < 64 := lt_of_lt_of_eq t.isLt N_0
  obtain ⟨h0, h1, h2, h3, h4, h5, h6, h7⟩ := in_idx t
  refine Eq.trans ?_ (V40_at m c l)
  unfold iblk
  rw [View.read_apply]
  show V m c main_v40 _ = V m c main_v40 _
  congr 1
  funext a
  apply Fin.ext
  match a with
  | ⟨0, _⟩ => show win0_3.index t 0 * 1 + 1 * _ = _; rw [h3]; show 0 * 1 + 1 * 0 = 0; omega
  | ⟨1, _⟩ => show win0_3.index t 1 * 1024 + 1 * _ = _; rw [h3]; show 0 * 1024 + 1 * l.val = l.val; omega

/-- What window 4's block at a point holds, in the array's own indices. -/
theorem iblk4_at (c : Dev nD) (t : Fin cfg0.N) (k : Fin 1024) (j : Fin 2688) :
    (iblk m c 4 t : S1024x2688.Idx → EReal) (ix2 k j) = packed (fun n => (m ((c : Thread nD τ).loc main_arg3) : S1024x2628.Idx → EReal) (ix2 k n)) j.val := by
  have ht : t.val < 64 := lt_of_lt_of_eq t.isLt N_0
  obtain ⟨h0, h1, h2, h3, h4, h5, h6, h7⟩ := in_idx t
  refine Eq.trans ?_ (V45_at m c k j)
  unfold iblk
  rw [View.read_apply]
  show V m c main_v45 _ = V m c main_v45 _
  congr 1
  funext a
  apply Fin.ext
  match a with
  | ⟨0, _⟩ => show win0_4.index t 0 * 1024 + 1 * _ = _; rw [h4]; show 0 * 1024 + 1 * k.val = k.val; omega
  | ⟨1, _⟩ => show win0_4.index t 1 * 2688 + 1 * _ = _; rw [h4]; show 0 * 2688 + 1 * j.val = j.val; omega

/-- What window 5's block at a point holds, in the array's own indices. -/
theorem iblk5_at (c : Dev nD) (t : Fin cfg0.N) (r : Fin 512) (l : Fin 128) :
    (iblk m c 5 t : S512x128.Idx → EReal) (ix2 r l) = tabC ((512 * t.val + r.val) % 16384) l.val := by
  have ht : t.val < 64 := lt_of_lt_of_eq t.isLt N_0
  obtain ⟨h0, h1, h2, h3, h4, h5, h6, h7⟩ := in_idx t
  refine Eq.trans ?_ (V26_at m c (⟨(512 * t.val + r) % 16384, by omega⟩ : Fin 16384) l)
  unfold iblk
  rw [View.read_apply]
  show V m c main_v26 _ = V m c main_v26 _
  congr 1
  funext a
  apply Fin.ext
  match a with
  | ⟨0, _⟩ => show win0_5.index t 0 * 512 + 1 * _ = _; rw [h5]; show t.val % 32 * 512 + 1 * r.val = (512 * t.val + r.val) % 16384; omega
  | ⟨1, _⟩ => show win0_5.index t 1 * 128 + 1 * _ = _; rw [h5]; show 0 * 128 + 1 * l.val = l.val; omega

/-- What window 6's block at a point holds, in the array's own indices. -/
theorem iblk6_at (c : Dev nD) (t : Fin cfg0.N) (r : Fin 512) (l : Fin 128) :
    (iblk m c 6 t : S512x128.Idx → EReal) (ix2 r l) = tabS ((512 * t.val + r.val) % 16384) l.val := by
  have ht : t.val < 64 := lt_of_lt_of_eq t.isLt N_0
  obtain ⟨h0, h1, h2, h3, h4, h5, h6, h7⟩ := in_idx t
  refine Eq.trans ?_ (V29_at m c (⟨(512 * t.val + r) % 16384, by omega⟩ : Fin 16384) l)
  unfold iblk
  rw [View.read_apply]
  show V m c main_v29 _ = V m c main_v29 _
  congr 1
  funext a
  apply Fin.ext
  match a with
  | ⟨0, _⟩ => show win0_6.index t 0 * 512 + 1 * _ = _; rw [h6]; show t.val % 32 * 512 + 1 * r.val = (512 * t.val + r.val) % 16384; omega
  | ⟨1, _⟩ => show win0_6.index t 1 * 128 + 1 * _ = _; rw [h6]; show 0 * 128 + 1 * l.val = l.val; omega

/-- What window 7's block at a point holds, in the array's own indices. -/
theorem iblk7_at (c : Dev nD) (t : Fin cfg0.N) (r : Fin 512) (l : Fin 128) :
    (iblk m c 7 t : S512x128.Idx → EReal) (ix2 r l) = tabT ((512 * t.val + r.val) % 16384) l.val := by
  have ht : t.val < 64 := lt_of_lt_of_eq t.isLt N_0
  obtain ⟨h0, h1, h2, h3, h4, h5, h6, h7⟩ := in_idx t
  refine Eq.trans ?_ (V32_at m c (⟨(512 * t.val + r) % 16384, by omega⟩ : Fin 16384) l)
  unfold iblk
  rw [View.read_apply]
  show V m c main_v32 _ = V m c main_v32 _
  congr 1
  funext a
  apply Fin.ext
  match a with
  | ⟨0, _⟩ => show win0_7.index t 0 * 512 + 1 * _ = _; rw [h7]; show t.val % 32 * 512 + 1 * r.val = (512 * t.val + r.val) % 16384; omega
  | ⟨1, _⟩ => show win0_7.index t 1 * 128 + 1 * _ = _; rw [h7]; show 0 * 128 + 1 * l.val = l.val; omega

/-- The pre-normed row of sequence `b` at position `p`. -/
def pre (c : Dev nD) (b : Fin 2) (p : Fin 16384) : Fin 1024 → EReal :=
  prenorm (fun k => (m ((c : Thread nD τ).loc main_arg0) : S2x16384x1024.Idx → EReal) (ix3 b p k)) (fun k => (m ((c : Thread nD τ).loc main_arg2) : S3x1024.Idx → EReal) (ix2 1 k))
    (fun k => (m ((c : Thread nD τ).loc main_arg1) : S2x3x3x1024.Idx → EReal) (ix4 b 1 1 k)) (fun k => (m ((c : Thread nD τ).loc main_arg1) : S2x3x3x1024.Idx → EReal) (ix4 b 1 0 k))

/-- The weights. -/
def wts (c : Dev nD) (k : Fin 1024) (n : Fin 2628) : EReal := (m ((c : Thread nD τ).loc main_arg3) : S1024x2628.Idx → EReal) (ix2 k n)

/-- What a point's blocks hold. -/
theorem holds (c : Dev nD) (t : Fin cfg0.N) :
    Holds (iblk m c 0 t) (iblk m c 1 t) (iblk m c 2 t) (iblk m c 3 t) (iblk m c 4 t) (iblk m c 5 t) (iblk m c 6 t) (iblk m c 7 t)
      (fun r => pre m c ⟨(512 * t.val + r) / 16384, by have := t.isLt; have : cfg0.N = 64 := N_0; omega⟩ ⟨(512 * t.val + r) % 16384, by omega⟩) (wts m c) (fun r => (512 * t.val + r.val) % 16384) where
  rows r l := by
    have ht : t.val < 64 := lt_of_lt_of_eq t.isLt N_0
    have hb : t.val / 32 = (512 * t.val + r.val) / 16384 := by omega
    simp only [iblk0_at, iblk1_at, iblk2_at, iblk3_at, hb]
    rfl
  weights k j := iblk4_at m c t k j
  tableC r l := iblk5_at m c t r l
  tableS r l := iblk6_at m c t r l
  tableT r l := iblk7_at m c t r l

/-! ## The nine results -/

/-- The queries, as a function of the arguments. -/
def result8 (c : Dev nD) : S8x32768x128.Idx → EReal := fun i => qAt (pre m c ⟨(i 1).val / 16384, by have : (i 1).val < 32768 := (i 1).isLt; omega⟩ ⟨(i 1).val % 16384, by omega⟩) (wts m c) ((i 1).val % 16384) (i 0).val (i 2).val

/-- What a point writes back to that array is its block of it. -/
theorem flushed8_eq (c : Dev nD) (t : Fin cfg0.N) :
    (dats m 0 c).flushed 8 t = ((cfg0.win 8).blk t).view.read (Elt Ideal) (result8 m c : S8x32768x128.Idx → EReal) := by
  have ht : t.val < 64 := lt_of_lt_of_eq t.isLt N_0
  rw [Value.flushed8]
  funext y
  obtain ⟨h, r, l, rfl⟩ : ∃ (h : Fin 8) (r : Fin 512) (l : Fin 128), y = ix3 h r l := ⟨y 0, y 1, y 2, eq_ix3 (n0 := 8) (n1 := 512) (n2 := 128) y⟩
  rw [View.read_apply]
  have hi : ((cfg0.win 8).blk t).view.emb (ix3 h r l) = (ix3 h (⟨512 * t.val + r, by omega⟩ : Fin 32768) l : S8x32768x128.Idx) := by
    obtain ⟨h8, h9, h10, h11, h12, h13, h14, h15, h16⟩ := out_idx t
    funext a
    apply Fin.ext
    match a with
    | ⟨0, _⟩ => show win0_8.index t 0 * 8 + 1 * _ = _; rw [h8]; show 0 * 8 + 1 * h.val = h.val; omega
    | ⟨1, _⟩ => show win0_8.index t 1 * 512 + 1 * _ = _; rw [h8]; show t.val * 512 + 1 * r.val = 512 * t.val + r.val; omega
    | ⟨2, _⟩ => show win0_8.index t 2 * 128 + 1 * _ = _; rw [h8]; show 0 * 128 + 1 * l.val = l.val; omega
  rw [hi]
  exact out8_at (holds m c t) h r l

/-- Every element of that array is in some point's block. -/
theorem cover8 (i : S8x32768x128.Idx) : ∃ t : Fin cfg0.N, (cfg0.win 8).flush t = true ∧ i ∈ ((cfg0.win 8).blk t).view.set := by
  have h0 : (i 0 : Nat) < 8 := (i 0).isLt
  have h1 : (i 1 : Nat) < 32768 := (i 1).isLt
  have h2 : (i 2 : Nat) < 128 := (i 2).isLt
  have hN : cfg0.N = 64 := N_0
  let t : Fin cfg0.N := ⟨(i 1 : Nat) / 512, by omega⟩
  refine ⟨t, flush0_8 t, ?_⟩
  obtain ⟨e8, e9, e10, e11, e12, e13, e14, e15, e16⟩ := out_idx t
  show i ∈ ((View.whole main_v46_0).slice (win0_8.rect t)).set
  rw [View.set_slice_whole, Rect.mem_set_unit]
  intro a
  match a with
  | ⟨0, _⟩ => show win0_8.index t 0 * 8 ≤ (i 0 : Nat) ∧ (i 0 : Nat) < win0_8.index t 0 * 8 + 8
              rw [e8]; show 0 * 8 ≤ (i 0 : Nat) ∧ (i 0 : Nat) < 0 * 8 + 8; omega
  | ⟨1, _⟩ => show win0_8.index t 1 * 512 ≤ (i 1 : Nat) ∧ (i 1 : Nat) < win0_8.index t 1 * 512 + 512
              rw [e8]; show (i 1 : Nat) / 512 * 512 ≤ (i 1 : Nat) ∧ (i 1 : Nat) < (i 1 : Nat) / 512 * 512 + 512; omega
  | ⟨2, _⟩ => show win0_8.index t 2 * 128 ≤ (i 2 : Nat) ∧ (i 2 : Nat) < win0_8.index t 2 * 128 + 128
              rw [e8]; show 0 * 128 ≤ (i 2 : Nat) ∧ (i 2 : Nat) < 0 * 128 + 128; omega

/-- So that array ends holding it. -/
theorem final8 (c : Dev nD) : (dats m 0 c).arrAt 8 cfg0.N = (result8 m c : S8x32768x128.Idx → EReal) :=
  (dats m 0 c).arrAt_eq_of_cover 8 (result8 m c) (fun t _ => flushed8_eq m c t) cover8

/-- The keys, channels first, as a function of the arguments. -/
def result9 (c : Dev nD) : S2x128x16384.Idx → EReal := fun i => kAt (pre m c (i 0) (i 2)) (wts m c) (i 2).val (i 1).val

/-- What a point writes back to that array is its block of it. -/
theorem flushed9_eq (c : Dev nD) (t : Fin cfg0.N) :
    (dats m 0 c).flushed 9 t = ((cfg0.win 9).blk t).view.read (Elt Ideal) (result9 m c : S2x128x16384.Idx → EReal) := by
  have ht : t.val < 64 := lt_of_lt_of_eq t.isLt N_0
  rw [Value.flushed9]
  funext y
  obtain ⟨u, l, r, rfl⟩ : ∃ (u : Fin 1) (l : Fin 128) (r : Fin 512), y = ix3 u l r := ⟨y 0, y 1, y 2, eq_ix3 (n0 := 1) (n1 := 128) (n2 := 512) y⟩
  obtain rfl : u = 0 := Subsingleton.elim _ _
  rw [View.read_apply]
  have hi : ((cfg0.win 9).blk t).view.emb (ix3 0 l r) = (ix3 (⟨(512 * t.val + r.val) / 16384, by omega⟩ : Fin 2) l (⟨(512 * t.val + r.val) % 16384, by omega⟩ : Fin 16384) : S2x128x16384.Idx) := by
    obtain ⟨h8, h9, h10, h11, h12, h13, h14, h15, h16⟩ := out_idx t
    funext a
    apply Fin.ext
    match a with
    | ⟨0, _⟩ => show win0_9.index t 0 * 1 + 1 * _ = _; rw [h9]; show t.val / 32 * 1 + 1 * 0 = (512 * t.val + r.val) / 16384; omega
    | ⟨1, _⟩ => show win0_9.index t 1 * 128 + 1 * _ = _; rw [h9]; show 0 * 128 + 1 * l.val = l.val; omega
    | ⟨2, _⟩ => show win0_9.index t 2 * 512 + 1 * _ = _; rw [h9]; show t.val % 32 * 512 + 1 * r.val = (512 * t.val + r.val) % 16384; omega
  rw [hi]
  exact out9_at (holds m c t) r l

/-- Every element of that array is in some point's block. -/
theorem cover9 (i : S2x128x16384.Idx) : ∃ t : Fin cfg0.N, (cfg0.win 9).flush t = true ∧ i ∈ ((cfg0.win 9).blk t).view.set := by
  have h0 : (i 0 : Nat) < 2 := (i 0).isLt
  have h1 : (i 1 : Nat) < 128 := (i 1).isLt
  have h2 : (i 2 : Nat) < 16384 := (i 2).isLt
  have hN : cfg0.N = 64 := N_0
  let t : Fin cfg0.N := ⟨32 * (i 0 : Nat) + (i 2 : Nat) / 512, by omega⟩
  refine ⟨t, flush0_9 t, ?_⟩
  obtain ⟨e8, e9, e10, e11, e12, e13, e14, e15, e16⟩ := out_idx t
  show i ∈ ((View.whole main_v46_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [e9]; show (32 * (i 0 : Nat) + (i 2 : Nat) / 512) / 32 * 1 ≤ (i 0 : Nat) ∧ (i 0 : Nat) < (32 * (i 0 : Nat) + (i 2 : Nat) / 512) / 32 * 1 + 1; omega
  | ⟨1, _⟩ => show win0_9.index t 1 * 128 ≤ (i 1 : Nat) ∧ (i 1 : Nat) < win0_9.index t 1 * 128 + 128
              rw [e9]; show 0 * 128 ≤ (i 1 : Nat) ∧ (i 1 : Nat) < 0 * 128 + 128; omega
  | ⟨2, _⟩ => show win0_9.index t 2 * 512 ≤ (i 2 : Nat) ∧ (i 2 : Nat) < win0_9.index t 2 * 512 + 512
              rw [e9]; show (32 * (i 0 : Nat) + (i 2 : Nat) / 512) % 32 * 512 ≤ (i 2 : Nat) ∧ (i 2 : Nat) < (32 * (i 0 : Nat) + (i 2 : Nat) / 512) % 32 * 512 + 512; omega

/-- So that array ends holding it. -/
theorem final9 (c : Dev nD) : (dats m 0 c).arrAt 9 cfg0.N = (result9 m c : S2x128x16384.Idx → EReal) :=
  (dats m 0 c).arrAt_eq_of_cover 9 (result9 m c) (fun t _ => flushed9_eq m c t) cover9

/-- The values, channels first, as a function of the arguments. -/
def result10 (c : Dev nD) : S2x128x16384.Idx → EReal := fun i => vAt (pre m c (i 0) (i 2)) (wts m c) (i 1).val

/-- What a point writes back to that array is its block of it. -/
theorem flushed10_eq (c : Dev nD) (t : Fin cfg0.N) :
    (dats m 0 c).flushed 10 t = ((cfg0.win 10).blk t).view.read (Elt Ideal) (result10 m c : S2x128x16384.Idx → EReal) := by
  have ht : t.val < 64 := lt_of_lt_of_eq t.isLt N_0
  rw [Value.flushed10]
  funext y
  obtain ⟨u, l, r, rfl⟩ : ∃ (u : Fin 1) (l : Fin 128) (r : Fin 512), y = ix3 u l r := ⟨y 0, y 1, y 2, eq_ix3 (n0 := 1) (n1 := 128) (n2 := 512) y⟩
  obtain rfl : u = 0 := Subsingleton.elim _ _
  rw [View.read_apply]
  have hi : ((cfg0.win 10).blk t).view.emb (ix3 0 l r) = (ix3 (⟨(512 * t.val + r.val) / 16384, by omega⟩ : Fin 2) l (⟨(512 * t.val + r.val) % 16384, by omega⟩ : Fin 16384) : S2x128x16384.Idx) := by
    obtain ⟨h8, h9, h10, h11, h12, h13, h14, h15, h16⟩ := out_idx t
    funext a
    apply Fin.ext
    match a with
    | ⟨0, _⟩ => show win0_10.index t 0 * 1 + 1 * _ = _; rw [h10]; show t.val / 32 * 1 + 1 * 0 = (512 * t.val + r.val) / 16384; omega
    | ⟨1, _⟩ => show win0_10.index t 1 * 128 + 1 * _ = _; rw [h10]; show 0 * 128 + 1 * l.val = l.val; omega
    | ⟨2, _⟩ => show win0_10.index t 2 * 512 + 1 * _ = _; rw [h10]; show t.val % 32 * 512 + 1 * r.val = (512 * t.val + r.val) % 16384; omega
  rw [hi]
  exact out10_at (holds m c t) r l

/-- Every element of that array is in some point's block. -/
theorem cover10 (i : S2x128x16384.Idx) : ∃ t : Fin cfg0.N, (cfg0.win 10).flush t = true ∧ i ∈ ((cfg0.win 10).blk t).view.set := by
  have h0 : (i 0 : Nat) < 2 := (i 0).isLt
  have h1 : (i 1 : Nat) < 128 := (i 1).isLt
  have h2 : (i 2 : Nat) < 16384 := (i 2).isLt
  have hN : cfg0.N = 64 := N_0
  let t : Fin cfg0.N := ⟨32 * (i 0 : Nat) + (i 2 : Nat) / 512, by omega⟩
  refine ⟨t, flush0_10 t, ?_⟩
  obtain ⟨e8, e9, e10, e11, e12, e13, e14, e15, e16⟩ := out_idx t
  show i ∈ ((View.whole main_v46_2).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1
              rw [e10]; show (32 * (i 0 : Nat) + (i 2 : Nat) / 512) / 32 * 1 ≤ (i 0 : Nat) ∧ (i 0 : Nat) < (32 * (i 0 : Nat) + (i 2 : Nat) / 512) / 32 * 1 + 1; omega
  | ⟨1, _⟩ => show win0_10.index t 1 * 128 ≤ (i 1 : Nat) ∧ (i 1 : Nat) < win0_10.index t 1 * 128 + 128
              rw [e10]; show 0 * 128 ≤ (i 1 : Nat) ∧ (i 1 : Nat) < 0 * 128 + 128; omega
  | ⟨2, _⟩ => show win0_10.index t 2 * 512 ≤ (i 2 : Nat) ∧ (i 2 : Nat) < win0_10.index t 2 * 512 + 512
              rw [e10]; show (32 * (i 0 : Nat) + (i 2 : Nat) / 512) % 32 * 512 ≤ (i 2 : Nat) ∧ (i 2 : Nat) < (32 * (i 0 : Nat) + (i 2 : Nat) / 512) % 32 * 512 + 512; omega

/-- So that array ends holding it. -/
theorem final10 (c : Dev nD) : (dats m 0 c).arrAt 10 cfg0.N = (result10 m c : S2x128x16384.Idx → EReal) :=
  (dats m 0 c).arrAt_eq_of_cover 10 (result10 m c) (fun t _ => flushed10_eq m c t) cover10

/-- The values, row by row, as a function of the arguments. -/
def result11 (c : Dev nD) : S32768x128.Idx → EReal := fun i => vAt (pre m c ⟨(i 0).val / 16384, by have : (i 0).val < 32768 := (i 0).isLt; omega⟩ ⟨(i 0).val % 16384, by omega⟩) (wts m c) (i 1).val

/-- What a point writes back to that array is its block of it. -/
theorem flushed11_eq (c : Dev nD) (t : Fin cfg0.N) :
    (dats m 0 c).flushed 11 t = ((cfg0.win 11).blk t).view.read (Elt Ideal) (result11 m c : S32768x128.Idx → EReal) := by
  have ht : t.val < 64 := lt_of_lt_of_eq t.isLt N_0
  rw [Value.flushed11]
  funext y
  obtain ⟨r, l, rfl⟩ : ∃ (r : Fin 512) (l : Fin 128), y = ix2 r l := ⟨y 0, y 1, eq_ix2 (n0 := 512) (n1 := 128) y⟩
  rw [View.read_apply]
  have hi : ((cfg0.win 11).blk t).view.emb (ix2 r l) = (ix2 (⟨512 * t.val + r, by omega⟩ : Fin 32768) l : S32768x128.Idx) := by
    obtain ⟨h8, h9, h10, h11, h12, h13, h14, h15, h16⟩ := out_idx t
    funext a
    apply Fin.ext
    match a with
    | ⟨0, _⟩ => show win0_11.index t 0 * 512 + 1 * _ = _; rw [h11]; show t.val * 512 + 1 * r.val = 512 * t.val + r.val; omega
    | ⟨1, _⟩ => show win0_11.index t 1 * 128 + 1 * _ = _; rw [h11]; show 0 * 128 + 1 * l.val = l.val; omega
  rw [hi]
  exact out11_at (holds m c t) r l

/-- Every element of that array is in some point's block. -/
theorem cover11 (i : S32768x128.Idx) : ∃ t : Fin cfg0.N, (cfg0.win 11).flush t = true ∧ i ∈ ((cfg0.win 11).blk t).view.set := by
  have h0 : (i 0 : Nat) < 32768 := (i 0).isLt
  have h1 : (i 1 : Nat) < 128 := (i 1).isLt
  have hN : cfg0.N = 64 := N_0
  let t : Fin cfg0.N := ⟨(i 0 : Nat) / 512, by omega⟩
  refine ⟨t, flush0_11 t, ?_⟩
  obtain ⟨e8, e9, e10, e11, e12, e13, e14, e15, e16⟩ := out_idx t
  show i ∈ ((View.whole main_v46_3).slice (win0_11.rect t)).set
  rw [View.set_slice_whole, Rect.mem_set_unit]
  intro a
  match a with
  | ⟨0, _⟩ => show win0_11.index t 0 * 512 ≤ (i 0 : Nat) ∧ (i 0 : Nat) < win0_11.index t 0 * 512 + 512
              rw [e11]; show (i 0 : Nat) / 512 * 512 ≤ (i 0 : Nat) ∧ (i 0 : Nat) < (i 0 : Nat) / 512 * 512 + 512; omega
  | ⟨1, _⟩ => show win0_11.index t 1 * 128 ≤ (i 1 : Nat) ∧ (i 1 : Nat) < win0_11.index t 1 * 128 + 128
              rw [e11]; show 0 * 128 ≤ (i 1 : Nat) ∧ (i 1 : Nat) < 0 * 128 + 128; omega

/-- So that array ends holding it. -/
theorem final11 (c : Dev nD) : (dats m 0 c).arrAt 11 cfg0.N = (result11 m c : S32768x128.Idx → EReal) :=
  (dats m 0 c).arrAt_eq_of_cover 11 (result11 m c) (fun t _ => flushed11_eq m c t) cover11

/-- The indexer queries, as a function of the arguments. -/
def result12 (c : Dev nD) : S32768x512.Idx → EReal := fun i => qiAt (pre m c ⟨(i 0).val / 16384, by have : (i 0).val < 32768 := (i 0).isLt; omega⟩ ⟨(i 0).val % 16384, by omega⟩) (wts m c) ((i 0).val % 16384) (i 1).val

/-- What a point writes back to that array is its block of it. -/
theorem flushed12_eq (c : Dev nD) (t : Fin cfg0.N) :
    (dats m 0 c).flushed 12 t = ((cfg0.win 12).blk t).view.read (Elt Ideal) (result12 m c : S32768x512.Idx → EReal) := by
  have ht : t.val < 64 := lt_of_lt_of_eq t.isLt N_0
  rw [Value.flushed12]
  funext y
  obtain ⟨r, l, rfl⟩ : ∃ (r : Fin 512) (l : Fin 512), y = ix2 r l := ⟨y 0, y 1, eq_ix2 (n0 := 512) (n1 := 512) y⟩
  rw [View.read_apply]
  have hi : ((cfg0.win 12).blk t).view.emb (ix2 r l) = (ix2 (⟨512 * t.val + r, by omega⟩ : Fin 32768) l : S32768x512.Idx) := by
    obtain ⟨h8, h9, h10, h11, h12, h13, h14, h15, h16⟩ := out_idx t
    funext a
    apply Fin.ext
    match a with
    | ⟨0, _⟩ => show win0_12.index t 0 * 512 + 1 * _ = _; rw [h12]; show t.val * 512 + 1 * r.val = 512 * t.val + r.val; omega
    | ⟨1, _⟩ => show win0_12.index t 1 * 512 + 1 * _ = _; rw [h12]; show 0 * 512 + 1 * l.val = l.val; omega
  rw [hi]
  exact out12_at (holds m c t) r l

/-- Every element of that array is in some point's block. -/
theorem cover12 (i : S32768x512.Idx) : ∃ t : Fin cfg0.N, (cfg0.win 12).flush t = true ∧ i ∈ ((cfg0.win 12).blk t).view.set := by
  have h0 : (i 0 : Nat) < 32768 := (i 0).isLt
  have h1 : (i 1 : Nat) < 512 := (i 1).isLt
  have hN : cfg0.N = 64 := N_0
  let t : Fin cfg0.N := ⟨(i 0 : Nat) / 512, by omega⟩
  refine ⟨t, flush0_12 t, ?_⟩
  obtain ⟨e8, e9, e10, e11, e12, e13, e14, e15, e16⟩ := out_idx t
  show i ∈ ((View.whole main_v46_4).slice (win0_12.rect t)).set
  rw [View.set_slice_whole, Rect.mem_set_unit]
  intro a
  match a with
  | ⟨0, _⟩ => show win0_12.index t 0 * 512 ≤ (i 0 : Nat) ∧ (i 0 : Nat) < win0_12.index t 0 * 512 + 512
              rw [e12]; show (i 0 : Nat) / 512 * 512 ≤ (i 0 : Nat) ∧ (i 0 : Nat) < (i 0 : Nat) / 512 * 512 + 512; omega
  | ⟨1, _⟩ => show win0_12.index t 1 * 512 ≤ (i 1 : Nat) ∧ (i 1 : Nat) < win0_12.index t 1 * 512 + 512
              rw [e12]; show 0 * 512 ≤ (i 1 : Nat) ∧ (i 1 : Nat) < 0 * 512 + 512; omega

/-- So that array ends holding it. -/
theorem final12 (c : Dev nD) : (dats m 0 c).arrAt 12 cfg0.N = (result12 m c : S32768x512.Idx → EReal) :=
  (dats m 0 c).arrAt_eq_of_cover 12 (result12 m c) (fun t _ => flushed12_eq m c t) cover12

/-- The indexer's keys and weights, row by row, as a function of the arguments. -/
def result13 (c : Dev nD) : S32768x128.Idx → EReal := fun i => kiAt (pre m c ⟨(i 0).val / 16384, by have : (i 0).val < 32768 := (i 0).isLt; omega⟩ ⟨(i 0).val % 16384, by omega⟩) (wts m c) ((i 0).val % 16384) (i 1).val

/-- What a point writes back to that array is its block of it. -/
theorem flushed13_eq (c : Dev nD) (t : Fin cfg0.N) :
    (dats m 0 c).flushed 13 t = ((cfg0.win 13).blk t).view.read (Elt Ideal) (result13 m c : S32768x128.Idx → EReal) := by
  have ht : t.val < 64 := lt_of_lt_of_eq t.isLt N_0
  rw [Value.flushed13]
  funext y
  obtain ⟨r, l, rfl⟩ : ∃ (r : Fin 512) (l : Fin 128), y = ix2 r l := ⟨y 0, y 1, eq_ix2 (n0 := 512) (n1 := 128) y⟩
  rw [View.read_apply]
  have hi : ((cfg0.win 13).blk t).view.emb (ix2 r l) = (ix2 (⟨512 * t.val + r, by omega⟩ : Fin 32768) l : S32768x128.Idx) := by
    obtain ⟨h8, h9, h10, h11, h12, h13, h14, h15, h16⟩ := out_idx t
    funext a
    apply Fin.ext
    match a with
    | ⟨0, _⟩ => show win0_13.index t 0 * 512 + 1 * _ = _; rw [h13]; show t.val * 512 + 1 * r.val = 512 * t.val + r.val; omega
    | ⟨1, _⟩ => show win0_13.index t 1 * 128 + 1 * _ = _; rw [h13]; show 0 * 128 + 1 * l.val = l.val; omega
  rw [hi]
  exact out13_at (holds m c t) r l

/-- Every element of that array is in some point's block. -/
theorem cover13 (i : S32768x128.Idx) : ∃ t : Fin cfg0.N, (cfg0.win 13).flush t = true ∧ i ∈ ((cfg0.win 13).blk t).view.set := by
  have h0 : (i 0 : Nat) < 32768 := (i 0).isLt
  have h1 : (i 1 : Nat) < 128 := (i 1).isLt
  have hN : cfg0.N = 64 := N_0
  let t : Fin cfg0.N := ⟨(i 0 : Nat) / 512, by omega⟩
  refine ⟨t, flush0_13 t, ?_⟩
  obtain ⟨e8, e9, e10, e11, e12, e13, e14, e15, e16⟩ := out_idx t
  show i ∈ ((View.whole main_v46_5).slice (win0_13.rect t)).set
  rw [View.set_slice_whole, Rect.mem_set_unit]
  intro a
  match a with
  | ⟨0, _⟩ => show win0_13.index t 0 * 512 ≤ (i 0 : Nat) ∧ (i 0 : Nat) < win0_13.index t 0 * 512 + 512
              rw [e13]; show (i 0 : Nat) / 512 * 512 ≤ (i 0 : Nat) ∧ (i 0 : Nat) < (i 0 : Nat) / 512 * 512 + 512; omega
  | ⟨1, _⟩ => show win0_13.index t 1 * 128 ≤ (i 1 : Nat) ∧ (i 1 : Nat) < win0_13.index t 1 * 128 + 128
              rw [e13]; show 0 * 128 ≤ (i 1 : Nat) ∧ (i 1 : Nat) < 0 * 128 + 128; omega

/-- So that array ends holding it. -/
theorem final13 (c : Dev nD) : (dats m 0 c).arrAt 13 cfg0.N = (result13 m c : S32768x128.Idx → EReal) :=
  (dats m 0 c).arrAt_eq_of_cover 13 (result13 m c) (fun t _ => flushed13_eq m c t) cover13

/-- The indexer's keys and weights, channels first, as a function of the arguments. -/
def result14 (c : Dev nD) : S2x128x16384.Idx → EReal := fun i => kiAt (pre m c (i 0) (i 2)) (wts m c) (i 2).val (i 1).val

/-- What a point writes back to that array is its block of it. -/
theorem flushed14_eq (c : Dev nD) (t : Fin cfg0.N) :
    (dats m 0 c).flushed 14 t = ((cfg0.win 14).blk t).view.read (Elt Ideal) (result14 m c : S2x128x16384.Idx → EReal) := by
  have ht : t.val < 64 := lt_of_lt_of_eq t.isLt N_0
  rw [Value.flushed14]
  funext y
  obtain ⟨u, l, r, rfl⟩ : ∃ (u : Fin 1) (l : Fin 128) (r : Fin 512), y = ix3 u l r := ⟨y 0, y 1, y 2, eq_ix3 (n0 := 1) (n1 := 128) (n2 := 512) y⟩
  obtain rfl : u = 0 := Subsingleton.elim _ _
  rw [View.read_apply]
  have hi : ((cfg0.win 14).blk t).view.emb (ix3 0 l r) = (ix3 (⟨(512 * t.val + r.val) / 16384, by omega⟩ : Fin 2) l (⟨(512 * t.val + r.val) % 16384, by omega⟩ : Fin 16384) : S2x128x16384.Idx) := by
    obtain ⟨h8, h9, h10, h11, h12, h13, h14, h15, h16⟩ := out_idx t
    funext a
    apply Fin.ext
    match a with
    | ⟨0, _⟩ => show win0_14.index t 0 * 1 + 1 * _ = _; rw [h14]; show t.val / 32 * 1 + 1 * 0 = (512 * t.val + r.val) / 16384; omega
    | ⟨1, _⟩ => show win0_14.index t 1 * 128 + 1 * _ = _; rw [h14]; show 0 * 128 + 1 * l.val = l.val; omega
    | ⟨2, _⟩ => show win0_14.index t 2 * 512 + 1 * _ = _; rw [h14]; show t.val % 32 * 512 + 1 * r.val = (512 * t.val + r.val) % 16384; omega
  rw [hi]
  exact out14_at (holds m c t) r l

/-- Every element of that array is in some point's block. -/
theorem cover14 (i : S2x128x16384.Idx) : ∃ t : Fin cfg0.N, (cfg0.win 14).flush t = true ∧ i ∈ ((cfg0.win 14).blk t).view.set := by
  have h0 : (i 0 : Nat) < 2 := (i 0).isLt
  have h1 : (i 1 : Nat) < 128 := (i 1).isLt
  have h2 : (i 2 : Nat) < 16384 := (i 2).isLt
  have hN : cfg0.N = 64 := N_0
  let t : Fin cfg0.N := ⟨32 * (i 0 : Nat) + (i 2 : Nat) / 512, by omega⟩
  refine ⟨t, flush0_14 t, ?_⟩
  obtain ⟨e8, e9, e10, e11, e12, e13, e14, e15, e16⟩ := out_idx t
  show i ∈ ((View.whole main_v46_6).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + 1
              rw [e14]; show (32 * (i 0 : Nat) + (i 2 : Nat) / 512) / 32 * 1 ≤ (i 0 : Nat) ∧ (i 0 : Nat) < (32 * (i 0 : Nat) + (i 2 : Nat) / 512) / 32 * 1 + 1; omega
  | ⟨1, _⟩ => show win0_14.index t 1 * 128 ≤ (i 1 : Nat) ∧ (i 1 : Nat) < win0_14.index t 1 * 128 + 128
              rw [e14]; show 0 * 128 ≤ (i 1 : Nat) ∧ (i 1 : Nat) < 0 * 128 + 128; omega
  | ⟨2, _⟩ => show win0_14.index t 2 * 512 ≤ (i 2 : Nat) ∧ (i 2 : Nat) < win0_14.index t 2 * 512 + 512
              rw [e14]; show (32 * (i 0 : Nat) + (i 2 : Nat) / 512) % 32 * 512 ≤ (i 2 : Nat) ∧ (i 2 : Nat) < (32 * (i 0 : Nat) + (i 2 : Nat) / 512) % 32 * 512 + 512; omega

/-- So that array ends holding it. -/
theorem final14 (c : Dev nD) : (dats m 0 c).arrAt 14 cfg0.N = (result14 m c : S2x128x16384.Idx → EReal) :=
  (dats m 0 c).arrAt_eq_of_cover 14 (result14 m c) (fun t _ => flushed14_eq m c t) cover14

/-- The convolution branch's gate, as a function of the arguments. -/
def result15 (c : Dev nD) : S32768x512.Idx → EReal := fun i => gbAt (pre m c ⟨(i 0).val / 16384, by have : (i 0).val < 32768 := (i 0).isLt; omega⟩ ⟨(i 0).val % 16384, by omega⟩) (wts m c) (i 1).val

/-- What a point writes back to that array is its block of it. -/
theorem flushed15_eq (c : Dev nD) (t : Fin cfg0.N) :
    (dats m 0 c).flushed 15 t = ((cfg0.win 15).blk t).view.read (Elt Ideal) (result15 m c : S32768x512.Idx → EReal) := by
  have ht : t.val < 64 := lt_of_lt_of_eq t.isLt N_0
  rw [Value.flushed15]
  funext y
  obtain ⟨r, l, rfl⟩ : ∃ (r : Fin 512) (l : Fin 512), y = ix2 r l := ⟨y 0, y 1, eq_ix2 (n0 := 512) (n1 := 512) y⟩
  rw [View.read_apply]
  have hi : ((cfg0.win 15).blk t).view.emb (ix2 r l) = (ix2 (⟨512 * t.val + r, by omega⟩ : Fin 32768) l : S32768x512.Idx) := by
    obtain ⟨h8, h9, h10, h11, h12, h13, h14, h15, h16⟩ := out_idx t
    funext a
    apply Fin.ext
    match a with
    | ⟨0, _⟩ => show win0_15.index t 0 * 512 + 1 * _ = _; rw [h15]; show t.val * 512 + 1 * r.val = 512 * t.val + r.val; omega
    | ⟨1, _⟩ => show win0_15.index t 1 * 512 + 1 * _ = _; rw [h15]; show 0 * 512 + 1 * l.val = l.val; omega
  rw [hi]
  exact out15_at (holds m c t) r l

/-- Every element of that array is in some point's block. -/
theorem cover15 (i : S32768x512.Idx) : ∃ t : Fin cfg0.N, (cfg0.win 15).flush t = true ∧ i ∈ ((cfg0.win 15).blk t).view.set := by
  have h0 : (i 0 : Nat) < 32768 := (i 0).isLt
  have h1 : (i 1 : Nat) < 512 := (i 1).isLt
  have hN : cfg0.N = 64 := N_0
  let t : Fin cfg0.N := ⟨(i 0 : Nat) / 512, by omega⟩
  refine ⟨t, flush0_15 t, ?_⟩
  obtain ⟨e8, e9, e10, e11, e12, e13, e14, e15, e16⟩ := out_idx t
  show i ∈ ((View.whole main_v46_7).slice (win0_15.rect t)).set
  rw [View.set_slice_whole, Rect.mem_set_unit]
  intro a
  match a with
  | ⟨0, _⟩ => show win0_15.index t 0 * 512 ≤ (i 0 : Nat) ∧ (i 0 : Nat) < win0_15.index t 0 * 512 + 512
              rw [e15]; show (i 0 : Nat) / 512 * 512 ≤ (i 0 : Nat) ∧ (i 0 : Nat) < (i 0 : Nat) / 512 * 512 + 512; omega
  | ⟨1, _⟩ => show win0_15.index t 1 * 512 ≤ (i 1 : Nat) ∧ (i 1 : Nat) < win0_15.index t 1 * 512 + 512
              rw [e15]; show 0 * 512 ≤ (i 1 : Nat) ∧ (i 1 : Nat) < 0 * 512 + 512; omega

/-- So that array ends holding it. -/
theorem final15 (c : Dev nD) : (dats m 0 c).arrAt 15 cfg0.N = (result15 m c : S32768x512.Idx → EReal) :=
  (dats m 0 c).arrAt_eq_of_cover 15 (result15 m c) (fun t _ => flushed15_eq m c t) cover15

/-- The convolution branch's input, as a function of the arguments. -/
def result16 (c : Dev nD) : S32768x512.Idx → EReal := fun i => uAt (pre m c ⟨(i 0).val / 16384, by have : (i 0).val < 32768 := (i 0).isLt; omega⟩ ⟨(i 0).val % 16384, by omega⟩) (wts m c) (i 1).val

/-- What a point writes back to that array is its block of it. -/
theorem flushed16_eq (c : Dev nD) (t : Fin cfg0.N) :
    (dats m 0 c).flushed 16 t = ((cfg0.win 16).blk t).view.read (Elt Ideal) (result16 m c : S32768x512.Idx → EReal) := by
  have ht : t.val < 64 := lt_of_lt_of_eq t.isLt N_0
  rw [Value.flushed16]
  funext y
  obtain ⟨r, l, rfl⟩ : ∃ (r : Fin 512) (l : Fin 512), y = ix2 r l := ⟨y 0, y 1, eq_ix2 (n0 := 512) (n1 := 512) y⟩
  rw [View.read_apply]
  have hi : ((cfg0.win 16).blk t).view.emb (ix2 r l) = (ix2 (⟨512 * t.val + r, by omega⟩ : Fin 32768) l : S32768x512.Idx) := by
    obtain ⟨h8, h9, h10, h11, h12, h13, h14, h15, h16⟩ := out_idx t
    funext a
    apply Fin.ext
    match a with
    | ⟨0, _⟩ => show win0_16.index t 0 * 512 + 1 * _ = _; rw [h16]; show t.val * 512 + 1 * r.val = 512 * t.val + r.val; omega
    | ⟨1, _⟩ => show win0_16.index t 1 * 512 + 1 * _ = _; rw [h16]; show 0 * 512 + 1 * l.val = l.val; omega
  rw [hi]
  exact out16_at (holds m c t) r l

/-- Every element of that array is in some point's block. -/
theorem cover16 (i : S32768x512.Idx) : ∃ t : Fin cfg0.N, (cfg0.win 16).flush t = true ∧ i ∈ ((cfg0.win 16).blk t).view.set := by
  have h0 : (i 0 : Nat) < 32768 := (i 0).isLt
  have h1 : (i 1 : Nat) < 512 := (i 1).isLt
  have hN : cfg0.N = 64 := N_0
  let t : Fin cfg0.N := ⟨(i 0 : Nat) / 512, by omega⟩
  refine ⟨t, flush0_16 t, ?_⟩
  obtain ⟨e8, e9, e10, e11, e12, e13, e14, e15, e16⟩ := out_idx t
  show i ∈ ((View.whole main_v46_8).slice (win0_16.rect t)).set
  rw [View.set_slice_whole, Rect.mem_set_unit]
  intro a
  match a with
  | ⟨0, _⟩ => show win0_16.index t 0 * 512 ≤ (i 0 : Nat) ∧ (i 0 : Nat) < win0_16.index t 0 * 512 + 512
              rw [e16]; show (i 0 : Nat) / 512 * 512 ≤ (i 0 : Nat) ∧ (i 0 : Nat) < (i 0 : Nat) / 512 * 512 + 512; omega
  | ⟨1, _⟩ => show win0_16.index t 1 * 512 ≤ (i 1 : Nat) ∧ (i 1 : Nat) < win0_16.index t 1 * 512 + 512
              rw [e16]; show 0 * 512 ≤ (i 1 : Nat) ∧ (i 1 : Nat) < 0 * 512 + 512; omega

/-- So that array ends holding it. -/
theorem final16 (c : Dev nD) : (dats m 0 c).arrAt 16 cfg0.N = (result16 m c : S32768x512.Idx → EReal) :=
  (dats m 0 c).arrAt_eq_of_cover 16 (result16 m c) (fun t _ => flushed16_eq m c t) cover16

end Cert.MixInKernel
-- ==== Proof.MixInReference.lean ====
module

public import proofs.«01_k».proof.Proof.MixScalar
public import proofs.«01_k».proof.Proof.Gen.MixInRefIdeal.Read

@[expose] public section

noncomputable section

namespace Cert.MixInReference

open Cert.MixInRefIdeal Cert.MixInRefIdeal.Gen Cert.MixInRefIdeal.Read Idealize.ShloMosaic Cert.Layer

variable (x0 : (⟨S2x16384x1024, .f32⟩ : BufTy).Contents (Elt Ideal)) (x1 : (⟨S2x3x3x1024, .f32⟩ : BufTy).Contents (Elt Ideal))
  (x2 : (⟨S3x1024, .f32⟩ : BufTy).Contents (Elt Ideal)) (x3 : (⟨S1024x2628, .f32⟩ : BufTy).Contents (Elt Ideal))

/-- The pre-normed row of sequence `b` at position `p`. -/
def pre (b : Fin 2) (p : Fin 16384) : Fin 1024 → EReal :=
  prenorm (fun k => x0 (ix3 b p k)) (fun k => x2 (ix2 1 k)) (fun k => x1 (ix4 b 1 1 k)) (fun k => x1 (ix4 b 1 0 k))

/-- The weights. -/
def wts (k : Fin 1024) (n : Fin 2628) : EReal := x3 (ix2 k n)

/-- The pre-normed, modulated row. -/
theorem v26_at (b : Fin 2) (p : Fin 16384) (l : Fin 1024) :
    val_main_v26 (F := Ideal) x0 x1 x2 (ix3 b p l) = pre x0 x1 x2 b p l := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, pre, prenorm, rms]

/-- A column of its product with the weights. -/
theorem v28_at (b : Fin 2) (p : Fin 16384) (n : Nat) (hn : n < 2628) :
    val_main_v28 (F := Ideal) x0 x1 x2 x3 (ix3 b p ⟨n, hn⟩) = col (pre x0 x1 x2 b p) (wts x3) n := by
  pointwise [val_main_v28]
  simp only [v26_at, col, entry, hn, dif_pos]
  rfl

/-- The cosine the queries are turned by. -/
theorem v53_at (p : Fin 16384) (k : Fin 8) : val_main_v53 (F := Ideal) (ix2 p k) = Ideal.cos (angle p.val k.val) := by
  pointwise [val_main_v53, val_main_v52, val_main_v51, val_main_v50, val_main_v49, val_main_v48, val_main_v47, val_main_v46, val_main_v45, val_main_v44, val_main_v43, val_main_v42, val_main_v41, val_main_v40, val_main_v39, val_main_v27, val_main_cst_3, val_main_cst_4, val_main_cst_5, angle]

/-- The sine the queries are turned by. -/
theorem v55_at (p : Fin 16384) (k : Fin 8) : val_main_v55 (F := Ideal) (ix2 p k) = Ideal.sin (angle p.val k.val) := by
  pointwise [val_main_v55, val_main_v52, val_main_v51, val_main_v50, val_main_v49, val_main_v48, val_main_v47, val_main_v46, val_main_v45, val_main_v44, val_main_v43, val_main_v42, val_main_v41, val_main_v40, val_main_v39, val_main_v27, val_main_cst_3, val_main_cst_4, val_main_cst_5, angle]

/-- A query head, turned. -/
theorem v74_at (b : Fin 2) (p : Fin 16384) (h : Fin 8) (d : Fin 64) :
    val_main_v74 (F := Ideal) x0 x1 x2 x3 (ix4 b p h d)
      = rope p.val (fun n => col (pre x0 x1 x2 b p) (wts x3) (64 * h.val + n)) d.val := by
  have e (d : Nat) (hd : d < 64) : val_main_v38 (F := Ideal) x0 x1 x2 x3 (ix4 b p h ⟨d, hd⟩) = col (pre x0 x1 x2 b p) (wts x3) (64 * h.val + d) := by
    have hn : 64 * h.val + d < 2628 := by omega
    refine Eq.trans ?_ (v28_at x0 x1 x2 x3 b p _ hn)
    pointwise [val_main_v38, val_main_v29]
    simp only [show h.val * 64 + d = 64 * h.val + d by omega]
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v54]
  unfold rope
  by_cases h1 : d.val < 8
  · simp only [h1, dif_pos, if_pos, e, v53_at, v55_at]
  by_cases h2 : d.val < 16
  · have h3 : d.val - 8 < 8 := by omega
    have e1 : 8 + (d.val - 8) = d.val := by omega
    simp only [h1, h2, h3, dif_pos, dif_neg, if_pos, if_neg, not_false_eq_true, e, e1, v53_at, v55_at]
  · have h3 : ¬d.val - 8 < 8 := by omega
    have e1 : 16 + (d.val - 8 - 8) = d.val := by omega
    simp only [h1, h2, h3, dif_neg, if_neg, not_false_eq_true, e, e1]

/-- The cosine the keys are turned by. -/
theorem v90_at (p : Fin 16384) (k : Fin 8) : val_main_v90 (F := Ideal) (ix2 p k) = Ideal.cos (angle p.val k.val) := by
  pointwise [val_main_v90, val_main_v89, val_main_v88, val_main_v87, val_main_v86, val_main_v85, val_main_v84, val_main_v83, val_main_v82, val_main_v81, val_main_v80, val_main_v79, val_main_v78, val_main_v77, val_main_v76, val_main_v27, val_main_cst_6, val_main_cst_7, val_main_cst_8, angle]

/-- The sine the keys are turned by. -/
theorem v92_at (p : Fin 16384) (k : Fin 8) : val_main_v92 (F := Ideal) (ix2 p k) = Ideal.sin (angle p.val k.val) := by
  pointwise [val_main_v92, val_main_v89, val_main_v88, val_main_v87, val_main_v86, val_main_v85, val_main_v84, val_main_v83, val_main_v82, val_main_v81, val_main_v80, val_main_v79, val_main_v78, val_main_v77, val_main_v76, val_main_v27, val_main_cst_6, val_main_cst_7, val_main_cst_8, angle]

/-- A key head, turned. -/
theorem v111_at (b : Fin 2) (p : Fin 16384) (h : Fin 2) (d : Fin 64) :
    val_main_v111 (F := Ideal) x0 x1 x2 x3 (ix4 b p h d)
      = rope p.val (fun n => col (pre x0 x1 x2 b p) (wts x3) (512 + 64 * h.val + n)) d.val := by
  have e (d : Nat) (hd : d < 64) : val_main_v75 (F := Ideal) x0 x1 x2 x3 (ix4 b p h ⟨d, hd⟩) = col (pre x0 x1 x2 b p) (wts x3) (512 + 64 * h.val + d) := by
    have hn : 512 + 64 * h.val + d < 2628 := by omega
    refine Eq.trans ?_ (v28_at x0 x1 x2 x3 b p _ hn)
    pointwise [val_main_v75, val_main_v30]
    simp only [show 512 + (h.val * 64 + d) = 512 + 64 * h.val + d by omega]
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v91]
  unfold rope
  by_cases h1 : d.val < 8
  · simp only [h1, dif_pos, if_pos, e, v90_at, v92_at]
  by_cases h2 : d.val < 16
  · have h3 : d.val - 8 < 8 := by omega
    have e1 : 8 + (d.val - 8) = d.val := by omega
    simp only [h1, h2, h3, dif_pos, dif_neg, if_pos, if_neg, not_false_eq_true, e, e1, v90_at, v92_at]
  · have h3 : ¬d.val - 8 < 8 := by omega
    have e1 : 16 + (d.val - 8 - 8) = d.val := by omega
    simp only [h1, h2, h3, dif_neg, if_neg, not_false_eq_true, e, e1]

/-- The cosine the indexer queries are turned by. -/
theorem v128_at (p : Fin 16384) (k : Fin 8) : val_main_v128 (F := Ideal) (ix2 p k) = Ideal.cos (angle p.val k.val) := by
  pointwise [val_main_v128, val_main_v127, val_main_v126, val_main_v125, val_main_v124, val_main_v123, val_main_v122, val_main_v121, val_main_v120, val_main_v119, val_main_v118, val_main_v117, val_main_v116, val_main_v115, val_main_v114, val_main_v27, val_main_cst_9, val_main_cst_10, val_main_cst_11, angle]

/-- The sine the indexer queries are turned by. -/
theorem v130_at (p : Fin 16384) (k : Fin 8) : val_main_v130 (F := Ideal) (ix2 p k) = Ideal.sin (angle p.val k.val) := by
  pointwise [val_main_v130, val_main_v127, val_main_v126, val_main_v125, val_main_v124, val_main_v123, val_main_v122, val_main_v121, val_main_v120, val_main_v119, val_main_v118, val_main_v117, val_main_v116, val_main_v115, val_main_v114, val_main_v27, val_main_cst_9, val_main_cst_10, val_main_cst_11, angle]

/-- An indexer query head, turned. -/
theorem v149_at (b : Fin 2) (p : Fin 16384) (h : Fin 4) (d : Fin 64) :
    val_main_v149 (F := Ideal) x0 x1 x2 x3 (ix4 b p h d)
      = rope p.val (fun n => col (pre x0 x1 x2 b p) (wts x3) (768 + 64 * h.val + n)) d.val := by
  have e (d : Nat) (hd : d < 64) : val_main_v113 (F := Ideal) x0 x1 x2 x3 (ix4 b p h ⟨d, hd⟩) = col (pre x0 x1 x2 b p) (wts x3) (768 + 64 * h.val + d) := by
    have hn : 768 + 64 * h.val + d < 2628 := by omega
    refine Eq.trans ?_ (v28_at x0 x1 x2 x3 b p _ hn)
    pointwise [val_main_v113, val_main_v32]
    simp only [show 768 + (h.val * 64 + d) = 768 + 64 * h.val + d by omega]
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v129]
  unfold rope
  by_cases h1 : d.val < 8
  · simp only [h1, dif_pos, if_pos, e, v128_at, v130_at]
  by_cases h2 : d.val < 16
  · have h3 : d.val - 8 < 8 := by omega
    have e1 : 8 + (d.val - 8) = d.val := by omega
    simp only [h1, h2, h3, dif_pos, dif_neg, if_pos, if_neg, not_false_eq_true, e, e1, v128_at, v130_at]
  · have h3 : ¬d.val - 8 < 8 := by omega
    have e1 : 16 + (d.val - 8 - 8) = d.val := by omega
    simp only [h1, h2, h3, dif_neg, if_neg, not_false_eq_true, e, e1]

/-- The cosine the indexer keys are turned by. -/
theorem v165_at (p : Fin 16384) (k : Fin 8) : val_main_v165 (F := Ideal) (ix2 p k) = Ideal.cos (angle p.val k.val) := by
  pointwise [val_main_v165, val_main_v164, val_main_v163, val_main_v162, val_main_v161, val_main_v160, val_main_v159, val_main_v158, val_main_v157, val_main_v156, val_main_v155, val_main_v154, val_main_v153, val_main_v152, val_main_v151, val_main_v27, val_main_cst_12, val_main_cst_13, val_main_cst_14, angle]

/-- The sine the indexer keys are turned by. -/
theorem v167_at (p : Fin 16384) (k : Fin 8) : val_main_v167 (F := Ideal) (ix2 p k) = Ideal.sin (angle p.val k.val) := by
  pointwise [val_main_v167, val_main_v164, val_main_v163, val_main_v162, val_main_v161, val_main_v160, val_main_v159, val_main_v158, val_main_v157, val_main_v156, val_main_v155, val_main_v154, val_main_v153, val_main_v152, val_main_v151, val_main_v27, val_main_cst_12, val_main_cst_13, val_main_cst_14, angle]

/-- The indexer's key head, turned. -/
theorem v186_at (b : Fin 2) (p : Fin 16384) (d : Fin 64) :
    val_main_v186 (F := Ideal) x0 x1 x2 x3 (ix4 b p 0 d)
      = rope p.val (fun n => col (pre x0 x1 x2 b p) (wts x3) (1024 + n)) d.val := by
  have e (d : Nat) (hd : d < 64) : val_main_v150 (F := Ideal) x0 x1 x2 x3 (ix4 b p 0 ⟨d, hd⟩) = col (pre x0 x1 x2 b p) (wts x3) (1024 + d) := by
    have hn : 1024 + d < 2628 := by omega
    refine Eq.trans ?_ (v28_at x0 x1 x2 x3 b p _ hn)
    pointwise [val_main_v150, val_main_v33]
  pointwise [val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v166]
  unfold rope
  by_cases h1 : d.val < 8
  · simp only [h1, dif_pos, if_pos, e, v165_at, v167_at]
  by_cases h2 : d.val < 16
  · have h3 : d.val - 8 < 8 := by omega
    have e1 : 8 + (d.val - 8) = d.val := by omega
    simp only [h1, h2, h3, dif_pos, dif_neg, if_pos, if_neg, not_false_eq_true, e, e1, v165_at, v167_at]
  · have h3 : ¬d.val - 8 < 8 := by omega
    have e1 : 16 + (d.val - 8 - 8) = d.val := by omega
    simp only [h1, h2, h3, dif_neg, if_neg, not_false_eq_true, e, e1]

/-- The queries. -/
theorem v208_at (h : Fin 8) (R : Fin 32768) (d : Fin 128) :
    val_main_v208 (F := Ideal) x0 x1 x2 x3 (ix3 h R d)
      = qAt (pre x0 x1 x2 ⟨R / 16384, by omega⟩ ⟨R % 16384, by omega⟩) (wts x3) (R % 16384) h.val d.val := by
  pointwise [val_main_v208, val_main_v200, val_main_v199, val_main_v198, val_main_v197, val_main_v196, val_main_v195, val_main_v194,
    val_main_v193, val_main_v192, val_main_v191, val_main_cst_16, val_main_cst_17]
  simp only [v74_at]
  unfold qAt
  by_cases h1 : d.val < 64
  · by_cases h2 : h.val < 4
    · simp only [h1, h2, dif_pos, if_true, show d.val % 64 = d.val by omega]
    · simp only [h1, h2, dif_pos, dif_neg, not_false_eq_true, iff_false, not_true_eq_false, if_false]
  · by_cases h2 : h.val < 4
    · simp only [h1, h2, dif_pos, dif_neg, not_false_eq_true, iff_true, if_false]
    · simp only [h1, h2, dif_neg, not_false_eq_true, if_true, show d.val % 64 = d.val - 64 by omega, show 4 + (h.val - 4) = h.val by omega]

/-- The keys, channels first. -/
theorem v210_at (b : Fin 2) (l : Fin 128) (p : Fin 16384) :
    val_main_v210 (F := Ideal) x0 x1 x2 x3 (ix3 b l p) = kAt (pre x0 x1 x2 b p) (wts x3) p.val l.val := by
  unfold kAt
  have e1 : val_main_v210 (F := Ideal) x0 x1 x2 x3 (ix3 b l p)
      = val_main_v111 (F := Ideal) x0 x1 x2 x3 (ix4 b p ⟨l.val / 64, by omega⟩ ⟨l.val % 64, by omega⟩) := by
    rw [val_main_v210_apply, val_main_v209_apply]
    generalize val_main_v111 (F := Ideal) x0 x1 x2 x3 = X
    refine congrArg X (funext fun a => Fin.ext ?_)
    have hb := b.isLt
    have hp := p.isLt
    have hl := l.isLt
    match a with
    | ⟨0, _⟩ => show _ = b.val; dsimp; omega
    | ⟨1, _⟩ => show _ = p.val; dsimp; omega
    | ⟨2, _⟩ => show _ = l.val / 64; dsimp; omega
    | ⟨3, _⟩ => show _ = l.val % 64; dsimp; omega
  rw [e1, v111_at]

/-- The values, channels first. -/
theorem v212_at (b : Fin 2) (l : Fin 128) (p : Fin 16384) :
    val_main_v212 (F := Ideal) x0 x1 x2 x3 (ix3 b l p) = vAt (pre x0 x1 x2 b p) (wts x3) l.val := by
  pointwise [val_main_v212, val_main_v211, val_main_v112, val_main_v31]
  simp only [v28_at]
  rfl

/-- The values, row by row. -/
theorem v214_at (R : Fin 32768) (l : Fin 128) :
    val_main_v214 (F := Ideal) x0 x1 x2 x3 (ix2 R l) = vAt (pre x0 x1 x2 ⟨R / 16384, by omega⟩ ⟨R % 16384, by omega⟩) (wts x3) l.val := by
  pointwise [val_main_v214, val_main_v213, val_main_v112, val_main_v31]
  simp only [v28_at]
  rfl

/-- The odd heads of the indexer queries' two pairs. -/
theorem v204_at (b : Fin 2) (p : Fin 16384) (g : Fin 2) (s : Fin 1) (d : Fin 64) :
    val_main_v204 (F := Ideal) x0 x1 x2 x3 (ix5 b p g s d) = val_main_v202 (F := Ideal) x0 x1 x2 x3 (ix5 b p g 1 d) := by
  rw [val_main_v204_apply]
  generalize val_main_v202 (F := Ideal) x0 x1 x2 x3 = X
  obtain rfl : s = 0 := Subsingleton.elim _ _
  refine congrArg X (funext fun a => ?_)
  match a with
  | ⟨0, _⟩ => rfl
  | ⟨1, _⟩ => rfl
  | ⟨2, _⟩ => rfl
  | ⟨3, _⟩ => rfl
  | ⟨4, _⟩ => rfl

/-- The even heads of the indexer queries' two pairs. -/
theorem v203_at (b : Fin 2) (p : Fin 16384) (g : Fin 2) (s : Fin 1) (d : Fin 64) :
    val_main_v203 (F := Ideal) x0 x1 x2 x3 (ix5 b p g s d) = val_main_v202 (F := Ideal) x0 x1 x2 x3 (ix5 b p g 0 d) := by
  rw [val_main_v203_apply]
  generalize val_main_v202 (F := Ideal) x0 x1 x2 x3 = X
  obtain rfl : s = 0 := Subsingleton.elim _ _
  refine congrArg X (funext fun a => ?_)
  match a with
  | ⟨0, _⟩ => rfl
  | ⟨1, _⟩ => rfl
  | ⟨2, _⟩ => rfl
  | ⟨3, _⟩ => rfl
  | ⟨4, _⟩ => rfl

/-- The pairs of indexer query heads. -/
theorem v202_at (b : Fin 2) (p : Fin 16384) (g : Fin 2) (s : Fin 2) (d : Fin 64) :
    val_main_v202 (F := Ideal) x0 x1 x2 x3 (ix5 b p g s d)
      = rope p.val (fun n => col (pre x0 x1 x2 b p) (wts x3) (768 + 64 * (g.val * 2 + s.val) + n)) d.val := by
  pointwise [val_main_v202]
  rw [v149_at]

/-- The zeros between them. -/
theorem v201_at (b : Fin 2) (p : Fin 16384) (g : Fin 2) (s : Fin 1) (d : Fin 64) : val_main_v201 (F := Ideal) (ix5 b p g s d) = 0 := by
  pointwise [val_main_v201, val_main_cst_18]

/-- The indexer query heads with the zeros between them. -/
theorem v205_at (b : Fin 2) (p : Fin 16384) (g : Fin 2) (s : Fin 4) (d : Fin 64) :
    val_main_v205 (F := Ideal) x0 x1 x2 x3 (ix5 b p g s d)
      = if s.val = 0 then rope p.val (fun n => col (pre x0 x1 x2 b p) (wts x3) (768 + 64 * (g.val * 2) + n)) d.val
        else if s.val = 3 then rope p.val (fun n => col (pre x0 x1 x2 b p) (wts x3) (768 + 64 * (g.val * 2 + 1) + n)) d.val else 0 := by
  pointwise [val_main_v205]
  simp only [v201_at, v203_at, v204_at, v202_at, Fin.val_zero, Fin.val_one, Nat.add_zero]
  obtain ⟨s, hs⟩ := s
  obtain rfl | rfl | rfl | rfl : s = 0 ∨ s = 1 ∨ s = 2 ∨ s = 3 := by omega
  all_goals rfl

/-- The indexer queries. -/
theorem v216_at (R : Fin 32768) (l : Fin 512) :
    val_main_v216 (F := Ideal) x0 x1 x2 x3 (ix2 R l)
      = qiAt (pre x0 x1 x2 ⟨R / 16384, by omega⟩ ⟨R % 16384, by omega⟩) (wts x3) (R % 16384) l.val := by
  have e := v205_at x0 x1 x2 x3 ⟨R / 16384, by omega⟩ ⟨R % 16384, by omega⟩ ⟨l.val / 256, by omega⟩ ⟨l.val / 64 % 4, by omega⟩ ⟨l.val % 64, by omega⟩
  have e1 : val_main_v216 (F := Ideal) x0 x1 x2 x3 (ix2 R l) = val_main_v205 (F := Ideal) x0 x1 x2 x3
      (ix5 ⟨R / 16384, by omega⟩ ⟨R % 16384, by omega⟩ ⟨l.val / 256, by omega⟩ ⟨l.val / 64 % 4, by omega⟩ ⟨l.val % 64, by omega⟩) := by
    unfold val_main_v216 val_main_v215
    generalize val_main_v205 (F := Ideal) x0 x1 x2 x3 = X
    pointwise
  rw [e1, e]
  unfold qiAt
  have h4 : l.val / 64 % 4 = 0 ∨ l.val / 64 % 4 = 1 ∨ l.val / 64 % 4 = 2 ∨ l.val / 64 % 4 = 3 := by omega
  rcases h4 with h | h | h | h
  · have hc : l.val % 128 < 64 ↔ l.val / 128 % 2 = 0 := by omega
    have hi : l.val / 256 * 2 = l.val / 128 := by omega
    simp only [h, hi, if_pos hc, if_true]
  · have hc : ¬(l.val % 128 < 64 ↔ l.val / 128 % 2 = 0) := by omega
    rw [if_neg hc]
    simp only [h, Nat.reduceEqDiff, if_false]
  · have hc : ¬(l.val % 128 < 64 ↔ l.val / 128 % 2 = 0) := by omega
    rw [if_neg hc]
    simp only [h, Nat.reduceEqDiff, if_false]
  · have hc : l.val % 128 < 64 ↔ l.val / 128 % 2 = 0 := by omega
    have hi : l.val / 256 * 2 + 1 = l.val / 128 := by omega
    rw [if_pos hc]
    simp only [h, hi, Nat.reduceEqDiff, if_false, if_true]

/-- The indexer's keys and weights. -/
theorem v207_at (b : Fin 2) (p : Fin 16384) (l : Fin 128) :
    val_main_v207 (F := Ideal) x0 x1 x2 x3 (ix3 b p l) = kiAt (pre x0 x1 x2 b p) (wts x3) p.val l.val := by
  pointwise [val_main_v207, val_main_v206, val_main_cst_19, val_main_v189, val_main_v188, val_main_cst_15, val_main_v187, val_main_v34]
  simp only [v186_at, v28_at]
  unfold kiAt
  by_cases h1 : l.val < 64
  · simp only [h1, dif_pos, if_pos]
  by_cases h2 : l.val < 68
  · have h3 : l.val - 64 < 4 := by omega
    simp only [h1, h2, h3, dif_pos, dif_neg, if_pos, if_neg, not_false_eq_true, show 1088 + (l.val - 64) = 1024 + l.val by omega]
  · have h3 : ¬l.val - 64 < 4 := by omega
    simp only [h1, h2, h3, dif_neg, if_neg, not_false_eq_true]

/-- The indexer's keys and weights, row by row. -/
theorem v217_at (R : Fin 32768) (l : Fin 128) :
    val_main_v217 (F := Ideal) x0 x1 x2 x3 (ix2 R l)
      = kiAt (pre x0 x1 x2 ⟨R / 16384, by omega⟩ ⟨R % 16384, by omega⟩) (wts x3) (R % 16384) l.val := by
  pointwise [val_main_v217]
  simp only [v207_at]

/-- The indexer's keys and weights, channels first. -/
theorem v218_at (b : Fin 2) (l : Fin 128) (p : Fin 16384) :
    val_main_v218 (F := Ideal) x0 x1 x2 x3 (ix3 b l p) = kiAt (pre x0 x1 x2 b p) (wts x3) p.val l.val := by
  pointwise [val_main_v218]
  simp only [v207_at]

/-- The convolution branch's gate. -/
theorem v219_at (R : Fin 32768) (l : Fin 512) :
    val_main_v219 (F := Ideal) x0 x1 x2 x3 (ix2 R l) = gbAt (pre x0 x1 x2 ⟨R / 16384, by omega⟩ ⟨R % 16384, by omega⟩) (wts x3) l.val := by
  pointwise [val_main_v219, val_main_v35]
  simp only [v28_at]
  rfl

/-- The convolution branch's input. -/
theorem v220_at (R : Fin 32768) (l : Fin 512) :
    val_main_v220 (F := Ideal) x0 x1 x2 x3 (ix2 R l) = uAt (pre x0 x1 x2 ⟨R / 16384, by omega⟩ ⟨R % 16384, by omega⟩) (wts x3) l.val := by
  pointwise [val_main_v220, val_main_v190, val_main_v36, val_main_v37]
  simp only [v28_at]
  rfl

end Cert.MixInReference
-- ==== Proof.MixInClaim.lean ====
module

public import proofs.«01_k».proof.Proof.MixInKernel
public import proofs.«01_k».proof.Proof.MixInReference
public import proofs.«01_k».proof.Defs

@[expose] public section

noncomputable section

namespace Cert.MixInClaim

open Idealize.ShloMosaic Idealize.SL.Sem

/-! The reference's nine arrays are the kernel's, over the same arguments. -/

variable (m : (ℓ : Loc Cert.MixInIdeal.nD Cert.MixInIdeal.τ Cert.MixInIdeal.sig) → Buf (Elt Ideal) ℓ) (c : Dev Cert.MixInIdeal.nD)

/-- The reference's array of the queries is the kernel's. -/
theorem reference8 : (Cert.MixInRefIdeal.Read.val_main_v208 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S8x32768x128.Idx → EReal) = Cert.MixInKernel.result8 m c := by
  funext i
  obtain ⟨h, r, l, rfl⟩ : ∃ (h : Fin 8) (r : Fin 32768) (l : Fin 128), i = ix3 h r l := ⟨i 0, i 1, i 2, eq_ix3 (n0 := 8) (n1 := 32768) (n2 := 128) i⟩
  exact Cert.MixInReference.v208_at _ _ _ _ h r l

/-- The reference's array of the keys, channels first is the kernel's. -/
theorem reference9 : (Cert.MixInRefIdeal.Read.val_main_v210 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S2x128x16384.Idx → EReal) = Cert.MixInKernel.result9 m c := by
  funext i
  obtain ⟨b, l, p, rfl⟩ : ∃ (b : Fin 2) (l : Fin 128) (p : Fin 16384), i = ix3 b l p := ⟨i 0, i 1, i 2, eq_ix3 (n0 := 2) (n1 := 128) (n2 := 16384) i⟩
  exact Cert.MixInReference.v210_at _ _ _ _ b l p

/-- The reference's array of the values, channels first is the kernel's. -/
theorem reference10 : (Cert.MixInRefIdeal.Read.val_main_v212 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S2x128x16384.Idx → EReal) = Cert.MixInKernel.result10 m c := by
  funext i
  obtain ⟨b, l, p, rfl⟩ : ∃ (b : Fin 2) (l : Fin 128) (p : Fin 16384), i = ix3 b l p := ⟨i 0, i 1, i 2, eq_ix3 (n0 := 2) (n1 := 128) (n2 := 16384) i⟩
  exact Cert.MixInReference.v212_at _ _ _ _ b l p

/-- The reference's array of the values, row by row is the kernel's. -/
theorem reference11 : (Cert.MixInRefIdeal.Read.val_main_v214 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S32768x128.Idx → EReal) = Cert.MixInKernel.result11 m c := by
  funext i
  obtain ⟨r, l, rfl⟩ : ∃ (r : Fin 32768) (l : Fin 128), i = ix2 r l := ⟨i 0, i 1, eq_ix2 (n0 := 32768) (n1 := 128) i⟩
  exact Cert.MixInReference.v214_at _ _ _ _ r l

/-- The reference's array of the indexer queries is the kernel's. -/
theorem reference12 : (Cert.MixInRefIdeal.Read.val_main_v216 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S32768x512.Idx → EReal) = Cert.MixInKernel.result12 m c := by
  funext i
  obtain ⟨r, l, rfl⟩ : ∃ (r : Fin 32768) (l : Fin 512), i = ix2 r l := ⟨i 0, i 1, eq_ix2 (n0 := 32768) (n1 := 512) i⟩
  exact Cert.MixInReference.v216_at _ _ _ _ r l

/-- The reference's array of the indexer's keys and weights is the kernel's. -/
theorem reference13 : (Cert.MixInRefIdeal.Read.val_main_v217 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S32768x128.Idx → EReal) = Cert.MixInKernel.result13 m c := by
  funext i
  obtain ⟨r, l, rfl⟩ : ∃ (r : Fin 32768) (l : Fin 128), i = ix2 r l := ⟨i 0, i 1, eq_ix2 (n0 := 32768) (n1 := 128) i⟩
  exact Cert.MixInReference.v217_at _ _ _ _ r l

/-- The reference's array of the indexer's keys and weights, channels first is the kernel's. -/
theorem reference14 : (Cert.MixInRefIdeal.Read.val_main_v218 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S2x128x16384.Idx → EReal) = Cert.MixInKernel.result14 m c := by
  funext i
  obtain ⟨b, l, p, rfl⟩ : ∃ (b : Fin 2) (l : Fin 128) (p : Fin 16384), i = ix3 b l p := ⟨i 0, i 1, i 2, eq_ix3 (n0 := 2) (n1 := 128) (n2 := 16384) i⟩
  exact Cert.MixInReference.v218_at _ _ _ _ b l p

/-- The reference's array of the convolution branch's gate is the kernel's. -/
theorem reference15 : (Cert.MixInRefIdeal.Read.val_main_v219 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S32768x512.Idx → EReal) = Cert.MixInKernel.result15 m c := by
  funext i
  obtain ⟨r, l, rfl⟩ : ∃ (r : Fin 32768) (l : Fin 512), i = ix2 r l := ⟨i 0, i 1, eq_ix2 (n0 := 32768) (n1 := 512) i⟩
  exact Cert.MixInReference.v219_at _ _ _ _ r l

/-- The reference's array of the convolution branch's input is the kernel's. -/
theorem reference16 : (Cert.MixInRefIdeal.Read.val_main_v220 (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) : Cert.MixInRefIdeal.S32768x512.Idx → EReal) = Cert.MixInKernel.result16 m c := by
  funext i
  obtain ⟨r, l, rfl⟩ : ∃ (r : Fin 32768) (l : Fin 512), i = ix2 r l := ⟨i 0, i 1, eq_ix2 (n0 := 32768) (n1 := 512) i⟩
  exact Cert.MixInReference.v220_at _ _ _ _ r l

/-- Both programs' nine arrays are the same choices of the pre-normed row's turned columns. -/
theorem algebraic : algebraic_MixInIdeal_MixInRefIdeal := by
  intro m g m' g' _ h
  refine ⟨fun c => Cert.MixInKernel.result8 m c, fun c => Cert.MixInKernel.result9 m c, fun c => Cert.MixInKernel.result10 m c, fun c => Cert.MixInKernel.result11 m c, fun c => Cert.MixInKernel.result12 m c, fun c => Cert.MixInKernel.result13 m c, fun c => Cert.MixInKernel.result14 m c, fun c => Cert.MixInKernel.result15 m c, fun c => Cert.MixInKernel.result16 m c, ?_, ?_⟩
  · refine (θ_run _ _ _).mono (fun r hr c => ?_) (Cert.MixInIdeal.Value.run_blocks m g)
    obtain ⟨e8, e9, e10, e11, e12, e13, e14, e15, e16, e⟩ := hr c
    exact ⟨e8.trans (Cert.MixInKernel.final8 m c), e9.trans (Cert.MixInKernel.final9 m c), e10.trans (Cert.MixInKernel.final10 m c), e11.trans (Cert.MixInKernel.final11 m c), e12.trans (Cert.MixInKernel.final12 m c), e13.trans (Cert.MixInKernel.final13 m c), e14.trans (Cert.MixInKernel.final14 m c), e15.trans (Cert.MixInKernel.final15 m c), e16.trans (Cert.MixInKernel.final16 m c), e⟩
  · refine (θ_run _ _ _).mono (fun r hr c => ?_) (Cert.MixInRefIdeal.Value.run m' g')
    obtain ⟨h0, h1, h2, h3⟩ := h c
    obtain ⟨e8, e9, e10, e11, e12, e13, e14, e15, e16, e⟩ := hr c
    have a0 : StableHlo.launchContents m' c (Proc.devRef .tc Cert.MixInRefIdeal.main_arg0) = _ := h0
    have a1 : StableHlo.launchContents m' c (Proc.devRef .tc Cert.MixInRefIdeal.main_arg1) = _ := h1
    have a2 : StableHlo.launchContents m' c (Proc.devRef .tc Cert.MixInRefIdeal.main_arg2) = _ := h2
    have a3 : StableHlo.launchContents m' c (Proc.devRef .tc Cert.MixInRefIdeal.main_arg3) = _ := h3
    have f8 := e8.trans (Cert.MixInRefIdeal.Read.val_main_v208_eq (F := Ideal) (StableHlo.launchContents m' c))
    rw [a0, a1, a2, a3] at f8
    have f9 := e9.trans (Cert.MixInRefIdeal.Read.val_main_v210_eq (F := Ideal) (StableHlo.launchContents m' c))
    rw [a0, a1, a2, a3] at f9
    have f10 := e10.trans (Cert.MixInRefIdeal.Read.val_main_v212_eq (F := Ideal) (StableHlo.launchContents m' c))
    rw [a0, a1, a2, a3] at f10
    have f11 := e11.trans (Cert.MixInRefIdeal.Read.val_main_v214_eq (F := Ideal) (StableHlo.launchContents m' c))
    rw [a0, a1, a2, a3] at f11
    have f12 := e12.trans (Cert.MixInRefIdeal.Read.val_main_v216_eq (F := Ideal) (StableHlo.launchContents m' c))
    rw [a0, a1, a2, a3] at f12
    have f13 := e13.trans (Cert.MixInRefIdeal.Read.val_main_v217_eq (F := Ideal) (StableHlo.launchContents m' c))
    rw [a0, a1, a2, a3] at f13
    have f14 := e14.trans (Cert.MixInRefIdeal.Read.val_main_v218_eq (F := Ideal) (StableHlo.launchContents m' c))
    rw [a0, a1, a2, a3] at f14
    have f15 := e15.trans (Cert.MixInRefIdeal.Read.val_main_v219_eq (F := Ideal) (StableHlo.launchContents m' c))
    rw [a0, a1, a2, a3] at f15
    have f16 := e16.trans (Cert.MixInRefIdeal.Read.val_main_v220_eq (F := Ideal) (StableHlo.launchContents m' c))
    rw [a0, a1, a2, a3] at f16
    exact ⟨f8.trans (reference8 m c), f9.trans (reference9 m c), f10.trans (reference10 m c), f11.trans (reference11 m c), f12.trans (reference12 m c), f13.trans (reference13 m c), f14.trans (reference14 m c), f15.trans (reference15 m c), f16.trans (reference16 m c), e⟩

end Cert.MixInClaim
-- ==== Proof.ConvScalar.lean ====
module

public import proofs.«01_k».proof.Proof.Scalar

@[expose] public section

/-!
The short causal convolution and the mixed row it feeds, over the extended reals.
-/

noncomputable section

namespace Cert.Layer

open Idealize.ShloMosaic

/-- What a column `U` of a sequence held `n` positions before position `p`; nothing before the sequence's start. -/
def tap (U : ℕ → EReal) (n p : ℕ) : EReal := if n ≤ p then U (p - n) else 0

/-- The convolution of width three at position `p`: the oldest position's weight first. -/
def conv (w : Fin 3 → EReal) (U : ℕ → EReal) (p : ℕ) : EReal :=
  w 0 * tap U 2 p + w 1 * tap U 1 p + w 2 * tap U 0 p

/-- The row the output projection makes of the attention's half `o` and the convolution's half `g`. -/
def mixed (o g : Fin 512 → EReal) (w : Fin 1024 → Fin 1024 → EReal) (l : Fin 1024) : EReal :=
  ∑ k : Fin 512, o k * w ⟨k, by omega⟩ l + ∑ k : Fin 512, g k * w ⟨512 + k, by omega⟩ l

end Cert.Layer
-- ==== Proof.MixOutKernel.lean ====
module

public import proofs.«01_k».proof.Proof.ConvScalar
public import proofs.«01_k».proof.Proof.Gen.MixOutIdeal.Value
public import Idealize.ShloMosaic.Lib.StableHlo.ReadAt
public import Idealize.ShloMosaic.Lib.WritesUnit

@[expose] public section

noncomputable section

namespace Cert.MixOutKernel

open Cert.MixOutIdeal Cert.MixOutIdeal.Gen Idealize.ShloMosaic Idealize.ShloMosaic.TcCoe Idealize.SL.Sem Cert.Layer

/-- The body's arithmetic over what it loaded: the residual row over the projected, convolved row. -/
theorem body_at (v25 : Vec Ideal S512x1024 .f32) (v33 : Vec Ideal S1x1x1024 .f32) (v23 v24 v27 v29 v31 : Vec Ideal S512x512 .f32)
    (v37 v40 v44 : Vec Ideal S1x512 .f32) (v49 v54 : Vec Ideal S512x1024 .bf16) (v35 : Vec Ideal S1x1024 .f32) (r : Fin 512) (l : Fin 1024) :
    k0_pay1 (k0_pay4 v25) (k0_pay7 v33) (k0_pay8 v23 v24 (k0_pay5 v27) (k0_pay6 v29) v31 v37 v40 v44 v49 v54) (k0_pay9 v35) (ix2 r l)
      = residWhole (fun k => v25 (ix2 r k))
          (fun l => ∑ k : Fin 512, v27 (ix2 r k) * v49 (ix2 k l)
            + ∑ k : Fin 512, v29 (ix2 r k) * (v37 (ix2 0 k) * v23 (ix2 r k) + v40 (ix2 0 k) * v24 (ix2 r k) + v44 (ix2 0 k) * v31 (ix2 r k)) * v54 (ix2 k l))
          (fun k => v33 (ix3 0 0 k)) (fun k => v35 (ix2 0 k)) l := by
  pointwise [k0_pay1, k0_pay4, k0_pay5, k0_pay6, k0_pay7, k0_pay8, k0_pay9, residWhole, rms]

/-- The eight rows before a block, emptied where the block starts a sequence. -/
theorem pay2_at (i : grid0.Coords) (v0 : Vec Ideal S8x512 .f32) (r : Fin 8) (k : Fin 512) :
    k0_pay2 i v0 (ix2 r k) = if (i 0).val % 32 = 0 then 0 else v0 (ix2 r k) := by
  have hc : ∀ n : Fin 64, (let arg0 : BitVec 32 := BitVec.ofNat 32 n.val
      let v2 : BitVec 1 := Scalar.cmpi .eq 32#32 0#32
      let v3 : BitVec 32 := Scalar.select v2 1#32 32#32
      let v4 : BitVec 32 := Scalar.remsi arg0 v3
      let v5 : BitVec 1 := Scalar.cmpi .ne v4 0#32
      let v6 : BitVec 1 := Scalar.cmpi .slt v4 0#32
      let v7 : BitVec 1 := Scalar.cmpi .slt v3 0#32
      let v8 : BitVec 1 := Scalar.xori v6 v7
      let v9 : BitVec 1 := Scalar.andi v8 v5
      let v10 : BitVec 32 := Scalar.addi v4 v3
      let v11 : BitVec 32 := Scalar.select v9 v10 v4
      Scalar.cmpi .eq v11 0#32) = if n.val % 32 = 0 then 1#1 else 0#1 := by decide +kernel
  have h := hc (i 0)
  dsimp only at h
  unfold k0_pay2
  dsimp only
  rw [h]
  by_cases h0 : (i 0).val % 32 = 0
  · rw [if_pos h0, if_pos h0]
    show shapeCast S8x512 (broadcast S8x512 _) _ _ = _
    refine Eq.trans (b := Ideal.ofBits .f32 0x00000000#32) ?_ (by pointwise)
    rfl
  · rw [if_neg h0, if_neg h0]
    show shapeCast S8x512 (shapeCast S8x512 v0 _) _ _ = _
    pointwise

/-- Column `k` of the block `n` rows before row `r`, for `n` up to eight: the block's own rows, then the rows before it. -/
def hist (i : grid0.Coords) (x3 : Vec Ideal S512x512 .f32) (x4 : Vec Ideal S8x512 .f32) (n : ℕ) (hn : 0 < n ∧ n ≤ 8) (r k : Fin 512) : EReal :=
  if h : n ≤ r.val then x3 (ix2 ⟨r.val - n, by omega⟩ k)
  else if (i 0).val % 32 = 0 then 0 else x4 (ix2 ⟨8 + r.val - n, by omega⟩ k)

/-- What the body reads back from its scratch array `8 - o` rows early. -/
theorem scratch_at (i : grid0.Coords) (arg11 : Memref sig .tc .vmem S520x512 .f32) (x3 : Vec Ideal S512x512 .f32) (x4 : Vec Ideal S8x512 .f32)
    (o : ℕ) (ho : o < 8) (inb : ∀ a, (![o, 0] : Fin 2 → ℕ) a + S512x512.size a ≤ S520x512.size a) (r k : Fin 512) :
    arg11.view.readCov (Val := Elt Ideal) [⟨Rect.unit (s := S520x512) ![8, 0] S512x512.size inb_S520x512_S512x512_8_0, k0_pay3 x3⟩,
        ⟨Rect.unit (s := S520x512) ![0, 0] S8x512.size inb_S520x512_S8x512_0_0, k0_pay2 i x4⟩]
      (Rect.unit (s := S520x512) ![o, 0] S512x512.size inb).toLoadRect (ix2 r k)
      = hist i x3 x4 (8 - o) ⟨by omega, by omega⟩ r k := by
  have e3 (a b : Fin 512) : k0_pay3 x3 (ix2 a b) = x3 (ix2 a b) := by pointwise [k0_pay3]
  have e4 (a : Fin 8) (b : Fin 512) := pay2_at i x4 a b
  generalize k0_pay3 x3 = P at e3
  generalize k0_pay2 i x4 = Q at e4
  show arg11.view.read (Elt Ideal) (arg11.view.writes (Elt Ideal) arg11.view.junk _) ((Rect.unit (s := S520x512) ![o, 0] S512x512.size inb).emb (ix2 r k)) = _
  have hy0 : ((Rect.unit (s := S520x512) ![o, 0] S512x512.size inb).emb (ix2 r k) 0).val = o + r.val := by
    show o + 1 * r.val = _; omega
  have hy1 : ((Rect.unit (s := S520x512) ![o, 0] S512x512.size inb).emb (ix2 r k) 1).val = k.val := by
    show 0 + 1 * k.val = _; omega
  generalize (Rect.unit (s := S520x512) ![o, 0] S512x512.size inb).emb (ix2 r k) = y at hy0 hy1
  unfold hist
  by_cases h : 8 - o ≤ r.val
  · rw [dif_pos h, ← e3]
    have := View.read_writes_cons_unit_of_mem (Val := Elt Ideal) (s := S520x512) arg11.view arg11.view.junk (off := ![8, 0]) (off' := ![8, 0]) (size := S512x512.size) inb_S520x512_S512x512_8_0 P
      [⟨Rect.unit (s := S520x512) ![0, 0] S8x512.size inb_S520x512_S8x512_0_0, Q⟩] y (ix2 (⟨r.val - (8 - o), by omega⟩ : Fin 512) k) rfl
      (Fin.forall_fin_two.mpr ⟨hy0.trans (show o + r.val = 8 + (r.val - (8 - o)) by omega), hy1.trans (Nat.zero_add _).symm⟩)
    exact this
  · rw [dif_neg h, ← e4]
    have h1 := View.read_writes_cons_unit_of_not_mem (Val := Elt Ideal) (s := S520x512) arg11.view arg11.view.junk (off := ![8, 0]) (off' := ![8, 0]) (size := S512x512.size) inb_S520x512_S512x512_8_0 P
      [⟨Rect.unit (s := S520x512) ![0, 0] S8x512.size inb_S520x512_S8x512_0_0, Q⟩] y rfl (0 : Fin 2) (Or.inl (hy0.trans_lt (show o + r.val < 8 by omega)))
    have h2 := View.read_writes_cons_unit_of_mem (Val := Elt Ideal) (s := S520x512) arg11.view arg11.view.junk (off := ![0, 0]) (off' := ![0, 0]) (size := S8x512.size) inb_S520x512_S8x512_0_0 Q
      [] y (ix2 (⟨8 + r.val - (8 - o), by omega⟩ : Fin 8) k) rfl
      (Fin.forall_fin_two.mpr ⟨hy0.trans (show o + r.val = 0 + (8 + r.val - (8 - o)) by omega), hy1.trans (Nat.zero_add _).symm⟩)
    exact h1.trans h2

/-- The block a grid point leaves, at a row and a column. -/
theorem out_at (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S3x512 .f32) (harg8 : arg8.IsWhole) (arg9 : Memref sig .tc .vmem S1024x1024 .bf16) (harg9 : arg9.IsWhole) (arg10 : Memref sig .tc .vmem S512x1024 .f32) (harg10 : arg10.IsWhole) (arg11 : Memref sig .tc .vmem S520x512 .f32) (harg11 : arg11.IsWhole)
    (x0 : Vec Ideal S512x1024 .f32) (x1 x2 x3 : Vec Ideal S512x512 .f32) (x4 : Vec Ideal S8x512 .f32) (x5 : Vec Ideal S1x1x1024 .f32) (x6 : Vec Ideal S1x1024 .f32) (x7 : Vec Ideal S3x512 .f32) (x8 : Vec Ideal S1024x1024 .bf16) (r : Fin 512) (l : Fin 1024) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 (ix2 r l)
      = residWhole (fun k => x0 (ix2 r k))
          (mixed (fun k => x1 (ix2 r k))
            (fun k => x2 (ix2 r k) * (x7 (ix2 0 k) * hist i x3 x4 2 ⟨by omega, by omega⟩ r k + x7 (ix2 1 k) * hist i x3 x4 1 ⟨by omega, by omega⟩ r k + x7 (ix2 2 k) * x3 (ix2 r k)))
            (fun k l => x8 (ix2 k l)))
          (fun k => x5 (ix3 0 0 k)) (fun k => x6 (ix2 0 k)) l := by
  have hz2 : (![0, 0] : Fin 2 → Nat) = fun _ => 0 := funext fun a => by fin_cases a <;> rfl
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  refine (congrFun (View.canon_unit_zero hz2 _ _) _).trans ?_
  sl_unfold_words
  refine (body_at _ _ _ _ _ _ _ _ _ _ _ _ _ r l).trans ?_
  simp only [View.readAt_eq_ld, Memref.IsWhole.read_unread]
  have e3 : View.ld x3 (Rect.unit (s := S512x512) ![0, 0] S512x512.size inb_S512x512_S512x512_0_0) = x3 := by
    funext y
    obtain ⟨a, b, rfl⟩ : ∃ (a : Fin 512) (b : Fin 512), y = ix2 a b := ⟨y 0, y 1, eq_ix2 (n0 := 512) (n1 := 512) y⟩
    pointwise
  have e4 : View.ld x4 (Rect.unit (s := S8x512) ![0, 0] S8x512.size inb_S8x512_S8x512_0_0) = x4 := by
    funext y
    obtain ⟨a, b, rfl⟩ : ∃ (a : Fin 8) (b : Fin 512), y = ix2 a b := ⟨y 0, y 1, eq_ix2 (n0 := 8) (n1 := 512) y⟩
    pointwise
  rw [e3, e4]
  unfold mixed
  congr 1
  · funext k; pointwise
  · funext l
    have h6 (k : Fin 512) := scratch_at i arg11 x3 x4 6 (by omega) inb_S520x512_S512x512_6_0 r k
    have h7 (k : Fin 512) := scratch_at i arg11 x3 x4 7 (by omega) inb_S520x512_S512x512_7_0 r k
    refine congrArg₂ (· + ·) (Finset.sum_congr rfl fun k _ => ?_) (Finset.sum_congr rfl fun k _ => ?_)
    · pointwise
    · refine congrArg₂ (· * ·) (congrArg₂ (· * ·) ?_ (congrArg₂ (· + ·) (congrArg₂ (· + ·) (congrArg₂ (· * ·) ?_ (h6 k)) (congrArg₂ (· * ·) ?_ (h7 k))) (congrArg₂ (· * ·) ?_ rfl))) ?_
      all_goals pointwise
  · funext k; pointwise
  · funext k; pointwise

/-! ## Blocks and the final array -/

variable (m : (ℓ : Loc nD τ sig) → Buf (Elt Ideal) ℓ)

/-- The rows of the residual stream, the two sequences one after the other. -/
theorem V0_at (c : Dev nD) (R : Fin 32768) (l : Fin 1024) :
    (V m c main_v0 : S32768x1024.Idx → EReal) (ix2 R l) = (m ((c : Thread nD τ).loc main_arg0) : S2x16384x1024.Idx → EReal) (ix3 ⟨R / 16384, by omega⟩ ⟨R % 16384, by omega⟩ l) := by
  unfold V
  after_reads_at

/-- The attention's half of the rows. -/
theorem V1_at (c : Dev nD) (R : Fin 32768) (k : Fin 512) :
    (V m c main_v1 : S32768x512.Idx → EReal) (ix2 R k) = (m ((c : Thread nD τ).loc main_arg1) : S2x16384x512.Idx → EReal) (ix3 ⟨R / 16384, by omega⟩ ⟨R % 16384, by omega⟩ k) := by
  unfold V
  after_reads_at

/-- The convolution's gates. -/
theorem V2_at (c : Dev nD) (R : Fin 32768) (k : Fin 512) :
    (V m c main_v2 : S32768x512.Idx → EReal) (ix2 R k) = (m ((c : Thread nD τ).loc main_arg2) : S2x16384x512.Idx → EReal) (ix3 ⟨R / 16384, by omega⟩ ⟨R % 16384, by omega⟩ k) := by
  unfold V
  after_reads_at

/-- The convolution's inputs. -/
theorem V3_at (c : Dev nD) (R : Fin 32768) (k : Fin 512) :
    (V m c main_v3 : S32768x512.Idx → EReal) (ix2 R k) = (m ((c : Thread nD τ).loc main_arg3) : S2x16384x512.Idx → EReal) (ix3 ⟨R / 16384, by omega⟩ ⟨R % 16384, by omega⟩ k) := by
  unfold V
  after_reads_at

/-- The gate of this sub-layer, per sequence. -/
theorem V6_at (c : Dev nD) (b : Fin 2) (l : Fin 1024) :
    (V m c main_v6 : S2x1x1024.Idx → EReal) (ix3 b 0 l) = (m ((c : Thread nD τ).loc main_arg4) : S2x3x3x1024.Idx → EReal) (ix4 b 1 2 l) := by
  unfold V
  after_reads_at

/-- This sub-layer's post-norm gain. -/
theorem V7_at (c : Dev nD) (l : Fin 1024) :
    (V m c main_v7 : S1x1024.Idx → EReal) (ix2 0 l) = (m ((c : Thread nD τ).loc main_arg5) : S3x1024.Idx → EReal) (ix2 1 l) := by
  unfold V
  after_reads_at

/-- The output projection. -/
theorem V8_at (c : Dev nD) (k : Fin 1024) (l : Fin 1024) :
    (V m c main_v8 : S1024x1024.Idx → EReal) (ix2 k l) = (m ((c : Thread nD τ).loc main_arg7) : S1024x1024.Idx → EReal) (ix2 k l) := by
  unfold V
  after_reads_at

/-- The block indices of the windows, decided over the grid. -/
theorem idx_at : ∀ t : Fin cfg0.N, win0_0.index t = ![t.val, 0] ∧ win0_1.index t = ![t.val, 0] ∧ win0_2.index t = ![t.val, 0] ∧ win0_3.index t = ![t.val, 0] ∧ win0_4.index t = ![64 * t.val - 1, 0] ∧ win0_5.index t = ![t.val / 32, 0, 0] ∧ win0_6.index t = ![0, 0] ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![64 * t.val - 1, 0] ∧ win0_5.index t = ![t.val / 32, 0, 0] ∧ win0_6.index t = ![0, 0] ∧ win0_7.index t = ![0, 0] ∧ win0_8.index t = ![0, 0] ∧ win0_9.index t = ![t.val, 0])

/-- The grid coordinate of a point is its number. -/
theorem coords_at : ∀ t : Fin cfg0.N, (grid0.coords t 0).val = t.val :=
  (by decide +kernel : ∀ t : Fin grid0.N, (grid0.coords t 0).val = t.val)

/-- What window 0's block at a point holds, in the array's own indices. -/
theorem iblk0_at (c : Dev nD) (t : Fin cfg0.N) (r : Fin 512) (l : Fin 1024) :
    (iblk m c 0 t : S512x1024.Idx → EReal) (ix2 r l) = (m ((c : Thread nD τ).loc main_arg0) : S2x16384x1024.Idx → EReal) (ix3 ⟨(512 * t.val + r) / 16384, by have := t.isLt; have : cfg0.N = 64 := N_0; omega⟩ ⟨(512 * t.val + r) % 16384, by omega⟩ l) := by
  have ht : t.val < 64 := lt_of_lt_of_eq t.isLt N_0
  obtain ⟨h0, h1, h2, h3, h4, h5, h6, h7, h8, h9⟩ := idx_at t
  refine Eq.trans ?_ (V0_at m c (⟨512 * t.val + r, by have := t.isLt; have : cfg0.N = 64 := N_0; omega⟩ : Fin 32768) l)
  unfold iblk
  rw [View.read_apply]
  show V m c main_v0 _ = V m c main_v0 _
  congr 1
  funext a
  apply Fin.ext
  match a with
  | ⟨0, _⟩ => show win0_0.index t 0 * 512 + 1 * _ = _; rw [h0]; show t.val * 512 + 1 * r.val = 512 * t.val + r.val; omega
  | ⟨1, _⟩ => show win0_0.index t 1 * 1024 + 1 * _ = _; rw [h0]; show 0 * 1024 + 1 * l.val = l.val; omega

/-- What window 1's block at a point holds, in the array's own indices. -/
theorem iblk1_at (c : Dev nD) (t : Fin cfg0.N) (r : Fin 512) (k : Fin 512) :
    (iblk m c 1 t : S512x512.Idx → EReal) (ix2 r k) = (m ((c : Thread nD τ).loc main_arg1) : S2x16384x512.Idx → EReal) (ix3 ⟨(512 * t.val + r) / 16384, by have := t.isLt; have : cfg0.N = 64 := N_0; omega⟩ ⟨(512 * t.val + r) % 16384, by omega⟩ k) := by
  have ht : t.val < 64 := lt_of_lt_of_eq t.isLt N_0
  obtain ⟨h0, h1, h2, h3, h4, h5, h6, h7, h8, h9⟩ := idx_at t
  refine Eq.trans ?_ (V1_at m c (⟨512 * t.val + r, by have := t.isLt; have : cfg0.N = 64 := N_0; omega⟩ : Fin 32768) k)
  unfold iblk
  rw [View.read_apply]
  show V m c main_v1 _ = V m c main_v1 _
  congr 1
  funext a
  apply Fin.ext
  match a with
  | ⟨0, _⟩ => show win0_1.index t 0 * 512 + 1 * _ = _; rw [h1]; show t.val * 512 + 1 * r.val = 512 * t.val + r.val; omega
  | ⟨1, _⟩ => show win0_1.index t 1 * 512 + 1 * _ = _; rw [h1]; show 0 * 512 + 1 * k.val = k.val; omega

/-- What window 2's block at a point holds, in the array's own indices. -/
theorem iblk2_at (c : Dev nD) (t : Fin cfg0.N) (r : Fin 512) (k : Fin 512) :
    (iblk m c 2 t : S512x512.Idx → EReal) (ix2 r k) = (m ((c : Thread nD τ).loc main_arg2) : S2x16384x512.Idx → EReal) (ix3 ⟨(512 * t.val + r) / 16384, by have := t.isLt; have : cfg0.N = 64 := N_0; omega⟩ ⟨(512 * t.val + r) % 16384, by omega⟩ k) := by
  have ht : t.val < 64 := lt_of_lt_of_eq t.isLt N_0
  obtain ⟨h0, h1, h2, h3, h4, h5, h6, h7, h8, h9⟩ := idx_at t
  refine Eq.trans ?_ (V2_at m c (⟨512 * t.val + r, by have := t.isLt; have : cfg0.N = 64 := N_0; omega⟩ : Fin 32768) k)
  unfold iblk
  rw [View.read_apply]
  show V m c main_v2 _ = V m c main_v2 _
  congr 1
  funext a
  apply Fin.ext
  match a with
  | ⟨0, _⟩ => show win0_2.index t 0 * 512 + 1 * _ = _; rw [h2]; show t.val * 512 + 1 * r.val = 512 * t.val + r.val; omega
  | ⟨1, _⟩ => show win0_2.index t 1 * 512 + 1 * _ = _; rw [h2]; show 0 * 512 + 1 * k.val = k.val; omega

/-- What window 3's block at a point holds, in the array's own indices. -/
theorem iblk3_at (c : Dev nD) (t : Fin cfg0.N) (r : Fin 512) (k : Fin 512) :
    (iblk m c 3 t : S512x512.Idx → EReal) (ix2 r k) = (m ((c : Thread nD τ).loc main_arg3) : S2x16384x512.Idx → EReal) (ix3 ⟨(512 * t.val + r) / 16384, by have := t.isLt; have : cfg0.N = 64 := N_0; omega⟩ ⟨(512 * t.val + r) % 16384, by omega⟩ k) := by
  have ht : t.val < 64 := lt_of_lt_of_eq t.isLt N_0
  obtain ⟨h0, h1, h2, h3, h4, h5, h6, h7, h8, h9⟩ := idx_at t
  refine Eq.trans ?_ (V3_at m c (⟨512 * t.val + r, by have := t.isLt; have : cfg0.N = 64 := N_0; omega⟩ : Fin 32768) k)
  unfold iblk
  rw [View.read_apply]
  show V m c main_v3 _ = V m c main_v3 _
  congr 1
  funext a
  apply Fin.ext
  match a with
  | ⟨0, _⟩ => show win0_3.index t 0 * 512 + 1 * _ = _; rw [h3]; show t.val * 512 + 1 * r.val = 512 * t.val + r.val; omega
  | ⟨1, _⟩ => show win0_3.index t 1 * 512 + 1 * _ = _; rw [h3]; show 0 * 512 + 1 * k.val = k.val; omega

/-- What window 4's block at a point holds, in the array's own indices. -/
theorem iblk4_at (c : Dev nD) (t : Fin cfg0.N) (h : 0 < t.val) (r : Fin 8) (k : Fin 512) :
    (iblk m c 4 t : S8x512.Idx → EReal) (ix2 r k) = (m ((c : Thread nD τ).loc main_arg3) : S2x16384x512.Idx → EReal) (ix3 ⟨(512 * t.val + r - 8) / 16384, by have := t.isLt; have : cfg0.N = 64 := N_0; omega⟩ ⟨(512 * t.val + r - 8) % 16384, by omega⟩ k) := by
  have ht : t.val < 64 := lt_of_lt_of_eq t.isLt N_0
  obtain ⟨h0, h1, h2, h3, h4, h5, h6, h7, h8, h9⟩ := idx_at t
  refine Eq.trans ?_ (V3_at m c (⟨512 * t.val + r - 8, by have := t.isLt; have : cfg0.N = 64 := N_0; omega⟩ : Fin 32768) k)
  unfold iblk
  rw [View.read_apply]
  show V m c main_v3 _ = V m c main_v3 _
  congr 1
  funext a
  apply Fin.ext
  match a with
  | ⟨0, _⟩ => show win0_4.index t 0 * 8 + 1 * _ = _; rw [h4]; show (64 * t.val - 1) * 8 + 1 * r.val = 512 * t.val + r.val - 8; omega
  | ⟨1, _⟩ => show win0_4.index t 1 * 512 + 1 * _ = _; rw [h4]; show 0 * 512 + 1 * k.val = k.val; omega

/-- What window 5's block at a point holds, in the array's own indices. -/
theorem iblk5_at (c : Dev nD) (t : Fin cfg0.N) (l : Fin 1024) :
    (iblk m c 5 t : S1x1x1024.Idx → EReal) (ix3 0 0 l) = (m ((c : Thread nD τ).loc main_arg4) : S2x3x3x1024.Idx → EReal) (ix4 ⟨t.val / 32, by have := t.isLt; have : cfg0.N = 64 := N_0; omega⟩ 1 2 l) := by
  have ht : t.val < 64 := lt_of_lt_of_eq t.isLt N_0
  obtain ⟨h0, h1, h2, h3, h4, h5, h6, h7, h8, h9⟩ := idx_at t
  refine Eq.trans ?_ (V6_at m c (⟨t.val / 32, by have := t.isLt; have : cfg0.N = 64 := N_0; omega⟩ : Fin 2) l)
  unfold iblk
  rw [View.read_apply]
  show V m c main_v6 _ = V m c main_v6 _
  congr 1
  funext a
  apply Fin.ext
  match a with
  | ⟨0, _⟩ => show win0_5.index t 0 * 1 + 1 * _ = _; rw [h5]; show t.val / 32 * 1 + 1 * 0 = t.val / 32; omega
  | ⟨1, _⟩ => show win0_5.index t 1 * 1 + 1 * _ = _; rw [h5]; show 0 * 1 + 1 * 0 = 0; omega
  | ⟨2, _⟩ => show win0_5.index t 2 * 1024 + 1 * _ = _; rw [h5]; show 0 * 1024 + 1 * l.val = l.val; omega

/-- What window 6's block at a point holds, in the array's own indices. -/
theorem iblk6_at (c : Dev nD) (t : Fin cfg0.N) (l : Fin 1024) :
    (iblk m c 6 t : S1x1024.Idx → EReal) (ix2 0 l) = (m ((c : Thread nD τ).loc main_arg5) : S3x1024.Idx → EReal) (ix2 1 l) := by
  have ht : t.val < 64 := lt_of_lt_of_eq t.isLt N_0
  obtain ⟨h0, h1, h2, h3, h4, h5, h6, h7, h8, h9⟩ := idx_at t
  refine Eq.trans ?_ (V7_at m c l)
  unfold iblk
  rw [View.read_apply]
  show V m c main_v7 _ = V m c main_v7 _
  congr 1
  funext a
  apply Fin.ext
  match a with
  | ⟨0, _⟩ => show win0_6.index t 0 * 1 + 1 * _ = _; rw [h6]; show 0 * 1 + 1 * 0 = 0; omega
  | ⟨1, _⟩ => show win0_6.index t 1 * 1024 + 1 * _ = _; rw [h6]; show 0 * 1024 + 1 * l.val = l.val; omega

/-- What window 7's block at a point holds, in the array's own indices. -/
theorem iblk7_at (c : Dev nD) (t : Fin cfg0.N) (n : Fin 3) (k : Fin 512) :
    (iblk m c 7 t : S3x512.Idx → EReal) (ix2 n k) = (m ((c : Thread nD τ).loc main_arg6) : S3x512.Idx → EReal) (ix2 n k) := by
  have ht : t.val < 64 := lt_of_lt_of_eq t.isLt N_0
  obtain ⟨h0, h1, h2, h3, h4, h5, h6, h7, h8, h9⟩ := idx_at t
  unfold iblk
  rw [View.read_apply]
  show V m c main_arg6 _ = V m c main_arg6 _
  congr 1
  funext a
  apply Fin.ext
  match a with
  | ⟨0, _⟩ => show win0_7.index t 0 * 3 + 1 * _ = _; rw [h7]; show 0 * 3 + 1 * n.val = n.val; omega
  | ⟨1, _⟩ => show win0_7.index t 1 * 512 + 1 * _ = _; rw [h7]; show 0 * 512 + 1 * k.val = k.val; omega

/-- What window 8's block at a point holds, in the array's own indices. -/
theorem iblk8_at (c : Dev nD) (t : Fin cfg0.N) (k : Fin 1024) (l : Fin 1024) :
    (iblk m c 8 t : S1024x1024.Idx → EReal) (ix2 k l) = (m ((c : Thread nD τ).loc main_arg7) : S1024x1024.Idx → EReal) (ix2 k l) := by
  have ht : t.val < 64 := lt_of_lt_of_eq t.isLt N_0
  obtain ⟨h0, h1, h2, h3, h4, h5, h6, h7, h8, h9⟩ := idx_at t
  refine Eq.trans ?_ (V8_at m c k l)
  unfold iblk
  rw [View.read_apply]
  show V m c main_v8 _ = V m c main_v8 _
  congr 1
  funext a
  apply Fin.ext
  match a with
  | ⟨0, _⟩ => show win0_8.index t 0 * 1024 + 1 * _ = _; rw [h8]; show 0 * 1024 + 1 * k.val = k.val; omega
  | ⟨1, _⟩ => show win0_8.index t 1 * 1024 + 1 * _ = _; rw [h8]; show 0 * 1024 + 1 * l.val = l.val; omega

/-- What the rows before row `r` of a point's block hold: the sequence's earlier positions, nothing before its start. -/
theorem hist_at (c : Dev nD) (t : Fin cfg0.N) (n : ℕ) (hn : 0 < n ∧ n ≤ 8) (r k : Fin 512) :
    hist (grid0.coords t) (iblk m c 3 t) (iblk m c 4 t) n hn r k
      = tap (fun p => if h : p < 16384 then (m ((c : Thread nD τ).loc main_arg3) : S2x16384x512.Idx → EReal) (ix3 ⟨(512 * t.val + r) / 16384, by have := t.isLt; have : cfg0.N = 64 := N_0; omega⟩ ⟨p, h⟩ k) else 0) n ((512 * t.val + r.val) % 16384) := by
  have ht : t.val < 64 := lt_of_lt_of_eq t.isLt N_0
  obtain ⟨hn0, hn8⟩ := hn
  unfold hist tap
  rw [coords_at]
  by_cases h : n ≤ r.val
  · rw [dif_pos h, if_pos (by omega)]; dsimp only; rw [dif_pos (by omega), iblk3_at]
    congr 2 <;> apply Fin.ext <;> dsimp only <;> omega
  · rw [dif_neg h]
    by_cases h0 : t.val % 32 = 0
    · rw [if_pos h0, if_neg (by omega)]
    · rw [if_neg h0, if_pos (by omega)]; dsimp only; rw [dif_pos (by omega), iblk4_at m c t (by omega)]
      congr 2 <;> apply Fin.ext <;> dsimp only <;> omega

/-- One row of the result: position `p` of sequence `b`, from the arguments as launched. -/
def row (A0 : S2x16384x1024.Idx → EReal) (A1 A2 A3 : S2x16384x512.Idx → EReal) (A4 : S2x3x3x1024.Idx → EReal) (A5 : S3x1024.Idx → EReal)
    (A6 : S3x512.Idx → EReal) (A7 : S1024x1024.Idx → EReal) (b : Fin 2) (p : Fin 16384) (l : Fin 1024) : EReal :=
  residWhole (fun k => A0 (ix3 b p k))
    (mixed (fun k => A1 (ix3 b p k))
      (fun k => A2 (ix3 b p k) * conv (fun a => A6 (ix2 a k)) (fun q => if h : q < 16384 then A3 (ix3 b ⟨q, h⟩ k) else 0) p.val)
      (fun k l => A7 (ix2 k l)))
    (fun k => A4 (ix4 b 1 2 k)) (fun k => A5 (ix2 1 k)) l

/-- The whole result array as a function of the arguments. -/
def result (c : Dev nD) : S32768x1024.Idx → EReal := fun i =>
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    ⟨(i 0).val / 16384, by have : (i 0).val < 32768 := (i 0).isLt; omega⟩ ⟨(i 0).val % 16384, by omega⟩ (i 1)

/-- What a point writes back is its block of `result`. -/
theorem flushed_eq (c : Dev nD) (t : Fin cfg0.N) :
    (dats m 0 c).flushed 9 t = ((cfg0.win 9).blk t).view.read (Elt Ideal) (result m c : S32768x1024.Idx → EReal) := by
  have ht : t.val < 64 := lt_of_lt_of_eq t.isLt N_0
  rw [Value.flushed9_A]
  funext y
  obtain ⟨r, l, rfl⟩ : ∃ (r : Fin 512) (l : Fin 1024), y = ix2 r l := ⟨y 0, y 1, eq_ix2 (n0 := 512) (n1 := 1024) y⟩
  rw [View.read_apply]
  have hi : ((cfg0.win 9).blk t).view.emb (ix2 r l) = (ix2 (⟨512 * t.val + r, by omega⟩ : Fin 32768) l : S32768x1024.Idx) := by
    obtain ⟨h0, h1, h2, h3, h4, h5, h6, h7, h8, h9⟩ := idx_at t
    funext a
    apply Fin.ext
    match a with
    | ⟨0, _⟩ => show win0_9.index t 0 * 512 + 1 * _ = _; rw [h9]; show t.val * 512 + 1 * r.val = 512 * t.val + r.val; omega
    | ⟨1, _⟩ => show win0_9.index t 1 * 1024 + 1 * _ = _; rw [h9]; show 0 * 1024 + 1 * l.val = l.val; omega
  rw [hi]
  show out0_A_9 c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (ix2 r l)
    = result m c (ix2 (⟨512 * t.val + r, by omega⟩ : Fin 32768) l)
  rw [out_at]
  have hp : (512 * t.val + r.val) % 16384 < 16384 := by omega
  have h0 (k : Fin 512) : (iblk m c 3 t : S512x512.Idx → EReal) (ix2 r k)
      = tap (fun p => if h : p < 16384 then (m ((c : Thread nD τ).loc main_arg3) : S2x16384x512.Idx → EReal) (ix3 ⟨(512 * t.val + r) / 16384, by have := t.isLt; have : cfg0.N = 64 := N_0; omega⟩ ⟨p, h⟩ k) else 0) 0 ((512 * t.val + r.val) % 16384) := by
    unfold tap
    rw [if_pos (Nat.zero_le _), Nat.sub_zero]; dsimp only; rw [dif_pos hp, iblk3_at]
  simp only [hist_at, h0]
  simp only [iblk0_at, iblk1_at, iblk2_at, iblk5_at, iblk6_at, iblk7_at, iblk8_at]
  have hb : t.val / 32 = (512 * t.val + r.val) / 16384 := by omega
  simp only [hb]
  rfl

/-- Every element of the result is in some point's block. -/
theorem cover (i : S32768x1024.Idx) : ∃ t : Fin cfg0.N, (cfg0.win 9).flush t = true ∧ i ∈ ((cfg0.win 9).blk t).view.set := by
  have h0 : (i 0 : Nat) < 32768 := (i 0).isLt
  have h1 : (i 1 : Nat) < 1024 := (i 1).isLt
  have hN : cfg0.N = 64 := N_0
  let t : Fin cfg0.N := ⟨(i 0 : Nat) / 512, by omega⟩
  refine ⟨t, flush0_9 t, ?_⟩
  obtain ⟨-, -, -, -, -, -, -, -, -, h9⟩ := idx_at t
  show i ∈ ((View.whole main_v9).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [h9]; show (i 0 : Nat) / 512 * 512 ≤ (i 0 : Nat) ∧ (i 0 : Nat) < (i 0 : Nat) / 512 * 512 + 512; omega
  | ⟨1, _⟩ => show win0_9.index t 1 * 1024 ≤ (i 1 : Nat) ∧ (i 1 : Nat) < win0_9.index t 1 * 1024 + 1024
              rw [h9]; show 0 * 1024 ≤ (i 1 : Nat) ∧ (i 1 : Nat) < 0 * 1024 + 1024; omega

/-- So the result array ends holding `result`. -/
theorem final (c : Dev nD) : (dats m 0 c).arrAt 9 cfg0.N = (result m c : S32768x1024.Idx → EReal) :=
  (dats m 0 c).arrAt_eq_of_cover 9 (result m c) (fun t _ => flushed_eq m c t) cover

end Cert.MixOutKernel
-- ==== Proof.MixOutReference.lean ====
module

public import proofs.«01_k».proof.Proof.ConvScalar
public import proofs.«01_k».proof.Proof.Gen.MixOutRefIdeal.Read

@[expose] public section

noncomputable section

namespace Cert.MixOutReference

open Cert.MixOutRefIdeal Cert.MixOutRefIdeal.Gen Cert.MixOutRefIdeal.Read Idealize.ShloMosaic Cert.Layer

variable (x0 : (⟨S2x16384x1024, .f32⟩ : BufTy).Contents (Elt Ideal)) (x1 x2 x3 : (⟨S2x16384x512, .f32⟩ : BufTy).Contents (Elt Ideal))
  (x4 : (⟨S2x3x3x1024, .f32⟩ : BufTy).Contents (Elt Ideal)) (x5 : (⟨S3x1024, .f32⟩ : BufTy).Contents (Elt Ideal))
  (x6 : (⟨S3x512, .f32⟩ : BufTy).Contents (Elt Ideal)) (x7 : (⟨S1024x1024, .f32⟩ : BufTy).Contents (Elt Ideal))

/-- A column of the convolution's inputs, by position. -/
def column (b : Fin 2) (k : Fin 512) (q : ℕ) : EReal := if h : q < 16384 then x3 (ix3 b ⟨q, h⟩ k) else 0

/-- The inputs with two empty positions before the first, read `n` positions back. -/
theorem v1_at (b : Fin 2) (p : Fin 16384) (k : Fin 512) (n : ℕ) (hn : n ≤ 2) :
    val_main_v1 (F := Ideal) x3 (ix3 b ⟨2 - n + p.val, by omega⟩ k) = tap (column x3 b k) n p.val := by
  unfold tap column
  pointwise [val_main_v1, val_main_v0, val_main_cst]
  by_cases h : n ≤ p.val
  · have e : 2 - n + p.val - 2 = p.val - n := by omega
    rw [dif_neg (by omega), if_pos h, dif_pos (by omega)]
    simp only [e]
  · rw [dif_pos (by omega), if_neg h]

/-- The convolution. -/
theorem v21_at (b : Fin 2) (p : Fin 16384) (k : Fin 512) :
    val_main_v21 (F := Ideal) x3 x6 (ix3 b p k) = conv (fun a => x6 (ix2 a k)) (column x3 b k) p.val := by
  have e0 : val_main_v4 (F := Ideal) x3 (ix3 b p k) = tap (column x3 b k) 2 p.val := by
    refine Eq.trans ?_ (v1_at x3 b p k 2 (by omega))
    pointwise [val_main_v4]
  have e1 : val_main_v10 (F := Ideal) x3 (ix3 b p k) = tap (column x3 b k) 1 p.val := by
    refine Eq.trans ?_ (v1_at x3 b p k 1 (by omega))
    pointwise [val_main_v10]
  have e2 : val_main_v17 (F := Ideal) x3 (ix3 b p k) = tap (column x3 b k) 0 p.val := by
    refine Eq.trans ?_ (v1_at x3 b p k 0 (by omega))
    pointwise [val_main_v17]
  pointwise [val_main_v21, val_main_v20, val_main_v19, val_main_v18, val_main_v16, val_main_v15, val_main_v14, val_main_v13, val_main_v12, val_main_v11, val_main_v9, val_main_v8, val_main_v7, val_main_v6, val_main_v5, val_main_v3, val_main_v2]
  simp only [e0, e1, e2, conv]

/-- The gated convolution. -/
theorem v22_at (b : Fin 2) (p : Fin 16384) (k : Fin 512) :
    val_main_v22 (F := Ideal) x2 x3 x6 (ix3 b p k) = x2 (ix3 b p k) * conv (fun a => x6 (ix2 a k)) (column x3 b k) p.val :=
  (val_main_v22_apply x2 x3 x6 (ix3 b p k)).trans (congrArg (x2 (ix3 b p k) * ·) (v21_at x3 x6 b p k))

/-- The first half of the concatenated row is the attention's. -/
theorem v23_fst (b : Fin 2) (p : Fin 16384) (k : Fin 512) :
    val_main_v23 (F := Ideal) x1 x2 x3 x6 (ix3 b p ⟨k, by omega⟩) = x1 (ix3 b p k) := by
  unfold val_main_v23
  generalize val_main_v22 (F := Ideal) x2 x3 x6 = Y
  refine concatenate_apply_piece (t := S2x16384x1024) 2 _ _ _ 0 (by show 0 < 2; omega) S2x16384x512 x1 rfl rfl 0 rfl (ix3 b p k) ?_ ?_
  · intro a ha
    match a with
    | ⟨0, _⟩ => rfl
    | ⟨1, _⟩ => rfl
    | ⟨2, _⟩ => exact absurd rfl ha
  · exact Nat.zero_add _

/-- The second half is the gated convolution. -/
theorem v23_snd (b : Fin 2) (p : Fin 16384) (k : Fin 512) :
    val_main_v23 (F := Ideal) x1 x2 x3 x6 (ix3 b p ⟨512 + k, by omega⟩) = x2 (ix3 b p k) * conv (fun a => x6 (ix2 a k)) (column x3 b k) p.val := by
  rw [← v22_at]
  unfold val_main_v23
  generalize val_main_v22 (F := Ideal) x2 x3 x6 = Y
  refine concatenate_apply_piece (t := S2x16384x1024) 2 _ _ _ 1 (by show 1 < 2; omega) S2x16384x512 Y rfl rfl 512 rfl (ix3 b p k) ?_ rfl
  intro a ha
  match a with
  | ⟨0, _⟩ => rfl
  | ⟨1, _⟩ => rfl
  | ⟨2, _⟩ => exact absurd rfl ha

/-- The projected row. -/
theorem v24_at (b : Fin 2) (p : Fin 16384) (l : Fin 1024) :
    val_main_v24 (F := Ideal) x1 x2 x3 x6 x7 (ix3 b p l)
      = mixed (fun k => x1 (ix3 b p k)) (fun k => x2 (ix3 b p k) * conv (fun a => x6 (ix2 a k)) (column x3 b k) p.val) (fun k l => x7 (ix2 k l)) l := by
  have e0 (k : Fin 512) := v23_fst x1 x2 x3 x6 b p k
  have e1 (k : Fin 512) := v23_snd x1 x2 x3 x6 b p k
  unfold val_main_v24 mixed
  generalize val_main_v23 (F := Ideal) x1 x2 x3 x6 = Y at e0 e1
  pointwise
  rw [Fin.sum_univ_two_halves 512 512 rfl]
  simp only [e0, e1]

/-- The result array, row by row. -/
theorem v48_at (R : Fin 32768) (l : Fin 1024) :
    val_main_v48 (F := Ideal) x0 x1 x2 x3 x4 x5 x6 x7 (ix2 R l)
      = residWhole (fun k => x0 (ix3 ⟨R / 16384, by omega⟩ ⟨R % 16384, by omega⟩ k))
          (mixed (fun k => x1 (ix3 ⟨R / 16384, by omega⟩ ⟨R % 16384, by omega⟩ k))
            (fun k => x2 (ix3 ⟨R / 16384, by omega⟩ ⟨R % 16384, by omega⟩ k) * conv (fun a => x6 (ix2 a k)) (column x3 ⟨R / 16384, by omega⟩ k) (R.val % 16384))
            (fun k l => x7 (ix2 k l)))
          (fun k => x4 (ix4 ⟨R / 16384, by omega⟩ 1 2 k)) (fun k => x5 (ix2 1 k)) l := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_0, val_main_cst_1, val_main_cst_2, val_main_cst_3]
  simp only [v24_at, residWhole, rms]

end Cert.MixOutReference
-- ==== Proof.MixOutClaim.lean ====
module

public import proofs.«01_k».proof.Proof.MixOutKernel
public import proofs.«01_k».proof.Proof.MixOutReference
public import proofs.«01_k».proof.Defs

@[expose] public section

noncomputable section

namespace Cert.MixOutClaim

open Idealize.ShloMosaic Idealize.SL.Sem

/-- The reference's result is the kernel's, where the arguments agree. -/
theorem reference_eq (m : (ℓ : Loc Cert.MixOutIdeal.nD Cert.MixOutIdeal.τ Cert.MixOutIdeal.sig) → Buf (Elt Ideal) ℓ)
    (m' : (ℓ : Loc Cert.MixOutRefIdeal.nD Cert.MixOutRefIdeal.τ Cert.MixOutRefIdeal.sig) → Buf (Elt Ideal) ℓ) (c : Dev Cert.MixOutIdeal.nD)
    (h0 : m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0))
    (h1 : m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1))
    (h2 : m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2))
    (h3 : m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3))
    (h4 : m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4))
    (h5 : m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5))
    (h6 : m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6))
    (h7 : m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) :
    (Cert.MixOutRefIdeal.Value.res_main_v48 m' c : Cert.MixOutRefIdeal.S32768x1024.Idx → EReal) = Cert.MixOutKernel.result m c := by
  rw [Cert.MixOutRefIdeal.Read.val_main_v48_eq, h0, h1, h2, h3, h4, h5, h6, h7]
  funext i
  obtain ⟨r, l, rfl⟩ : ∃ (r : Fin 32768) (l : Fin 1024), i = ix2 r l := ⟨i 0, i 1, eq_ix2 (n0 := 32768) (n1 := 1024) i⟩
  exact Cert.MixOutReference.v48_at _ _ _ _ _ _ _ _ r l

/-- Both programs' results are one array: the residual row over the projected attention and gated convolution. -/
theorem algebraic : algebraic_MixOutIdeal_MixOutRefIdeal := by
  intro m g m' g' _ h
  refine ⟨fun c => Cert.MixOutKernel.result m c, ?_, ?_⟩
  · exact (θ_run _ _ _).mono (fun r hr c => ⟨(hr c).1.trans (Cert.MixOutKernel.final m c), (hr c).2⟩) (Cert.MixOutIdeal.Value.run_blocks m g)
  · refine (θ_run _ _ _).mono (fun r hr c => ⟨(hr c).1.trans ?_, (hr c).2⟩) (Cert.MixOutRefIdeal.Value.run m' g')
    obtain ⟨h0, h1, h2, h3, h4, h5, h6, h7⟩ := h c
    exact reference_eq m m' c h0 h1 h2 h3 h4 h5 h6 h7

end Cert.MixOutClaim
-- ==== Proof.FfnSKernel.lean ====
module

public import proofs.«01_k».proof.Proof.Scalar
public import proofs.«01_k».proof.Proof.Gen.FfnSIdeal.Value
public import Idealize.ShloMosaic.Lib.StableHlo.ReadAt

@[expose] public section

noncomputable section

namespace Cert.FfnSKernel

open Cert.FfnSIdeal Cert.FfnSIdeal.Gen Idealize.ShloMosaic Idealize.ShloMosaic.TcCoe Idealize.SL.Sem Cert.Layer

/-- The normalised row the body hands to its products, modulated by its own sequence. -/
theorem pay3_at (v0 : Vec Ideal S128x1024 .f32) (v12 : Vec Ideal S1x1024 .f32) (v16 v21 : Vec Ideal S1x128x1024 .f32)
    (r : Fin 128) (l : Fin 1024) :
    k0_pay3 v0 v12 v16 v21 (ix2 r l)
      = prenorm (fun k => v0 (ix2 r k)) (fun k => v12 (ix2 0 k)) (fun k => v16 (ix3 0 r k)) (fun k => v21 (ix3 0 r k)) l := by
  pointwise [k0_pay3, k0_pay2, prenorm, rms]

/-- The residual over the row `y` the body accumulated, `gate` its half gate and `sq` that row's squares. -/
theorem pay1_at (v1 y gate sq : FVec Ideal S128x1024 .f32) (v120 : Vec Ideal S1x1024 .f32) (r : Fin 128) (l : Fin 1024)
    (hsq : ∀ k, sq (ix2 r k) = y (ix2 r k) * y (ix2 r k)) :
    k0_pay1 v1 y gate sq v120 (ix2 r l)
      = v1 (ix2 r l) + gate (ix2 r l) * (y (ix2 r l) * rms (fun k => y (ix2 r k)) * v120 (ix2 0 l)) := by
  pointwise [k0_pay1, rms]
  simp only [hsq]

/-- The row the body accumulates over the four blocks of hidden units is the feed-forward of the row it was handed. -/
theorem acc_at (X : FVec Ideal S128x1024 .bf16) (x6 : Vec Ideal S1024x4096 .bf16) (x7 : Vec Ideal S2048x1024 .bf16) (r : Fin 128)
    (h : Fin 1024 → EReal) (hX : ∀ l, X (ix2 r l) = h l) (k : Fin 1024) :
    k0_pay13 X (k0_pay9 X k0_pay4 (k0_pay10 X (View.ld x6 r0_3)) (k0_pay10 X (View.ld x6 r0_4))
          (exp (subf (broadcast S128x512 (Scalar.ofBits .f32 0x00000000#32)) (k0_pay10 X (View.ld x6 r0_3)))) k0_pay8
          (View.ld x7 r0_5) (View.ld x6 r0_6) (View.ld x6 r0_7) (View.ld x7 r0_8))
        (k0_pay10 X (View.ld x6 r0_9)) (k0_pay11 X (View.ld x6 r0_10)) k0_pay12 (View.ld x7 r0_11)
        (View.ld x6 r0_12) (View.ld x6 r0_13) (View.ld x7 r0_14) (ix2 r k)
      = ffn h (fun k j => x6 (ix2 k j)) (fun j l => x7 (ix2 j l)) k := by
  rw [ffn, sum_four]
  simp only [k0_pay13, k0_pay12, k0_pay11, k0_pay8, k0_pay9, k0_pay10, k0_pay4, r0_3, r0_4, r0_5, r0_6, r0_7, r0_8, r0_9, r0_10, r0_11, r0_12, r0_13, r0_14]
  pointwise
  simp only [hX, hid, silu, sub_eq_add_neg, zero_add]
  simp only [← Nat.add_assoc, Nat.reduceAdd]

/-- The block a grid point leaves, at a row and a column: the residual row over the feed-forward of the pre-normed row. -/
theorem out_at (x0 : Vec Ideal S128x1024 .f32) (x1 x2 x3 : Vec Ideal S1x128x1024 .f32) (x4 x5 : Vec Ideal S1x1024 .f32)
    (x6 : Vec Ideal S1024x4096 .bf16) (x7 : Vec Ideal S2048x1024 .bf16) (r : Fin 128) (l : Fin 1024) :
    out0_8 x0 x1 x2 x3 x4 x5 x6 x7 (ix2 r l)
      = resid (fun k => x0 (ix2 r k))
          (ffn (prenorm (fun k => x0 (ix2 r k)) (fun k => x4 (ix2 0 k)) (fun k => x2 (ix3 0 r k)) (fun k => x1 (ix3 0 r k)))
            (fun k j => x6 (ix2 k j)) (fun j l => x7 (ix2 j l)))
          (fun k => x3 (ix3 0 r k)) (fun k => x5 (ix2 0 k)) l := by
  have hz2 : (![0, 0] : Fin 2 → Nat) = fun _ => 0 := funext fun a => by fin_cases a <;> rfl
  unfold_out out0_8
  refine (congrFun (View.canon_unit_zero hz2 _ _) _).trans ?_
  have e0 : k0_pay2 (View.ld x0 r0_0) = x0 := by funext j; idx_vars j; pointwise [k0_pay2, r0_0]
  have e3 (r : Fin 128) (l : Fin 1024) : k0_pay3 (View.ld x0 r0_0) (View.ld x4 r0_1) (View.ld x2 r0_2) (View.ld x1 r0_2) (ix2 r l)
      = prenorm (fun k => x0 (ix2 r k)) (fun k => x4 (ix2 0 k)) (fun k => x2 (ix3 0 r k)) (fun k => x1 (ix3 0 r k)) l := by
    rw [pay3_at]
    simp only [r0_0, r0_1, r0_2]
    pointwise
  have e5 (w : Vec Ideal S1024x512 .bf16) : k0_pay5 (View.ld x0 r0_0) (View.ld x4 r0_1) (View.ld x2 r0_2) (View.ld x1 r0_2) w
      = k0_pay10 (k0_pay3 (View.ld x0 r0_0) (View.ld x4 r0_1) (View.ld x2 r0_2) (View.ld x1 r0_2)) w := rfl
  have e6 (w : Vec Ideal S1024x512 .bf16) : k0_pay6 (View.ld x0 r0_0) (View.ld x4 r0_1) (View.ld x2 r0_2) (View.ld x1 r0_2) w
      = k0_pay10 (k0_pay3 (View.ld x0 r0_0) (View.ld x4 r0_1) (View.ld x2 r0_2) (View.ld x1 r0_2)) w := rfl
  unfold k0_pay7
  rw [e5, e6]
  generalize k0_pay3 (View.ld x0 r0_0) (View.ld x4 r0_1) (View.ld x2 r0_2) (View.ld x1 r0_2) = X at e3
  rw [e0]
  have esq (X : FVec Ideal S128x1024 .bf16) (a : FVec Ideal S128x1024 .f32) (b d e : FVec Ideal S128x512 .f32) (w : Vec Ideal S512x1024 .bf16)
      (w' w'' : Vec Ideal S1024x512 .bf16) (w3 : Vec Ideal S512x1024 .bf16) (k : Fin 1024) :
      k0_pay15 X a b d e w w' w'' w3 (ix2 r k) = k0_pay13 X a b d e w w' w'' w3 (ix2 r k) * k0_pay13 X a b d e w w' w'' w3 (ix2 r k) := rfl
  rw [pay1_at _ _ _ _ _ _ _ (esq _ _ _ _ _ _ _ _ _), resid]
  refine congrArg₂ (· + ·) rfl (congrArg₂ (· * ·) ?_ (congrArg₂ (· * ·) (congrArg₂ (· * ·) (acc_at X x6 x7 r _ (e3 r) l)
    (congrArg rms (funext fun k => acc_at X x6 x7 r _ (e3 r) k))) ?_))
  · pointwise [k0_pay14, r0_2]
  · pointwise [r0_1]

/-! ## Blocks and the final array -/

variable (m : (ℓ : Loc nD τ sig) → Buf (Elt Ideal) ℓ)

/-- The rows of the residual stream, one token of all sequences after the other. -/
theorem V1_at (c : Dev nD) (R : Fin 512) (l : Fin 1024) :
    (V m c main_v1 : S512x1024.Idx → EReal) (ix2 R l) = (m ((c : Thread nD τ).loc main_arg0) : S128x4x1024.Idx → EReal) (ix3 ⟨R % 128, by omega⟩ ⟨R / 128, by omega⟩ l) := by
  unfold V
  after_reads_at

/-- The shift of this sub-layer, per sequence. -/
theorem V4_at (c : Dev nD) (b : Fin 128) (l : Fin 1024) :
    (V m c main_v4 : S1x128x1024.Idx → EReal) (ix3 0 b l) = (m ((c : Thread nD τ).loc main_arg1) : S128x3x3x1024.Idx → EReal) (ix4 b 2 0 l) := by
  unfold V
  after_reads_at

/-- The scale of this sub-layer, per sequence. -/
theorem V7_at (c : Dev nD) (b : Fin 128) (l : Fin 1024) :
    (V m c main_v7 : S1x128x1024.Idx → EReal) (ix3 0 b l) = (m ((c : Thread nD τ).loc main_arg1) : S128x3x3x1024.Idx → EReal) (ix4 b 2 1 l) := by
  unfold V
  after_reads_at

/-- The gate of this sub-layer, per sequence. -/
theorem V10_at (c : Dev nD) (b : Fin 128) (l : Fin 1024) :
    (V m c main_v10 : S1x128x1024.Idx → EReal) (ix3 0 b l) = (m ((c : Thread nD τ).loc main_arg1) : S128x3x3x1024.Idx → EReal) (ix4 b 2 2 l) := by
  unfold V
  after_reads_at

/-- This sub-layer's pre-norm gain. -/
theorem V11_at (c : Dev nD) (l : Fin 1024) :
    (V m c main_v11 : S1x1024.Idx → EReal) (ix2 0 l) = (m ((c : Thread nD τ).loc main_arg2) : S3x1024.Idx → EReal) (ix2 2 l) := by
  unfold V
  after_reads_at

/-- This sub-layer's post-norm gain. -/
theorem V12_at (c : Dev nD) (l : Fin 1024) :
    (V m c main_v12 : S1x1024.Idx → EReal) (ix2 0 l) = (m ((c : Thread nD τ).loc main_arg3) : S3x1024.Idx → EReal) (ix2 2 l) := by
  unfold V
  after_reads_at

/-- The first weight matrix. -/
theorem V13_at (c : Dev nD) (k : Fin 1024) (j : Fin 4096) :
    (V m c main_v13 : S1024x4096.Idx → EReal) (ix2 k j) = (m ((c : Thread nD τ).loc main_arg4) : S1024x4096.Idx → EReal) (ix2 k j) := by
  unfold V
  after_reads_at

/-- The second weight matrix. -/
theorem V14_at (c : Dev nD) (j : Fin 2048) (l : Fin 1024) :
    (V m c main_v14 : S2048x1024.Idx → EReal) (ix2 j l) = (m ((c : Thread nD τ).loc main_arg5) : S2048x1024.Idx → EReal) (ix2 j l) := by
  unfold V
  after_reads_at

/-- The block indices, decided over the grid: only the rows move. -/
theorem idx_at : ∀ t : Fin cfg0.N, win0_0.index t = ![t.val, 0] ∧ win0_8.index t = ![t.val, 0]
    ∧ win0_1.index t = ![0, 0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, win0_0.index t = ![t.val, 0] ∧ win0_8.index t = ![t.val, 0]
    ∧ win0_1.index t = ![0, 0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0])

/-- What window 0's block at a point holds: one token of every sequence. -/
theorem iblk0_at (c : Dev nD) (t : Fin cfg0.N) (r : Fin 128) (l : Fin 1024) :
    (iblk m c 0 t : S128x1024.Idx → EReal) (ix2 r l) = (m ((c : Thread nD τ).loc main_arg0) : S128x4x1024.Idx → EReal) (ix3 r ⟨t.val, lt_of_lt_of_eq t.isLt N_0⟩ l) := by
  have ht : t.val < 4 := lt_of_lt_of_eq t.isLt N_0
  obtain ⟨h0, h8, h1, h2, h3, h4, h5, h6, h7⟩ := idx_at t
  have e := V1_at m c (⟨128 * t.val + r, by omega⟩ : Fin 512) l
  have e1 : (⟨(128 * t.val + r.val) % 128, by omega⟩ : Fin 128) = r := Fin.ext (by show (128 * t.val + r.val) % 128 = r.val; omega)
  have e2 : (⟨(128 * t.val + r.val) / 128, by omega⟩ : Fin 4) = ⟨t.val, ht⟩ := Fin.ext (by show (128 * t.val + r.val) / 128 = t.val; omega)
  simp only [e1, e2] at e
  refine Eq.trans ?_ e
  unfold iblk
  rw [View.read_apply]
  show V m c main_v1 _ = V m c main_v1 _
  congr 1
  funext a
  apply Fin.ext
  match a with
  | ⟨0, _⟩ => show win0_0.index t 0 * 128 + 1 * _ = _; rw [h0]; show t.val * 128 + 1 * r.val = 128 * t.val + r.val; omega
  | ⟨1, _⟩ => show win0_0.index t 1 * 1024 + 1 * _ = _; rw [h0]; show 0 * 1024 + 1 * l.val = l.val; omega

/-- What window 1's block at a point holds: the same for every point. -/
theorem iblk1_at (c : Dev nD) (t : Fin cfg0.N) (r : Fin 128) (l : Fin 1024) :
    (iblk m c 1 t : S1x128x1024.Idx → EReal) (ix3 0 r l) = (m ((c : Thread nD τ).loc main_arg1) : S128x3x3x1024.Idx → EReal) (ix4 r 2 0 l) := by
  obtain ⟨h0, h8, h1, h2, h3, h4, h5, h6, h7⟩ := idx_at t
  refine Eq.trans ?_ (V4_at m c r l)
  unfold iblk
  rw [View.read_apply]
  show V m c main_v4 _ = V m c main_v4 _
  congr 1
  funext a
  apply Fin.ext
  match a with
  | ⟨0, _⟩ => show win0_1.index t 0 * 1 + 1 * _ = _; rw [h1]; show 0 * 1 + 1 * 0 = 0; omega
  | ⟨1, _⟩ => show win0_1.index t 1 * 128 + 1 * _ = _; rw [h1]; show 0 * 128 + 1 * r.val = r.val; omega
  | ⟨2, _⟩ => show win0_1.index t 2 * 1024 + 1 * _ = _; rw [h1]; show 0 * 1024 + 1 * l.val = l.val; omega

/-- What window 2's block at a point holds: the same for every point. -/
theorem iblk2_at (c : Dev nD) (t : Fin cfg0.N) (r : Fin 128) (l : Fin 1024) :
    (iblk m c 2 t : S1x128x1024.Idx → EReal) (ix3 0 r l) = (m ((c : Thread nD τ).loc main_arg1) : S128x3x3x1024.Idx → EReal) (ix4 r 2 1 l) := by
  obtain ⟨h0, h8, h1, h2, h3, h4, h5, h6, h7⟩ := idx_at t
  refine Eq.trans ?_ (V7_at m c r l)
  unfold iblk
  rw [View.read_apply]
  show V m c main_v7 _ = V m c main_v7 _
  congr 1
  funext a
  apply Fin.ext
  match a with
  | ⟨0, _⟩ => show win0_2.index t 0 * 1 + 1 * _ = _; rw [h2]; show 0 * 1 + 1 * 0 = 0; omega
  | ⟨1, _⟩ => show win0_2.index t 1 * 128 + 1 * _ = _; rw [h2]; show 0 * 128 + 1 * r.val = r.val; omega
  | ⟨2, _⟩ => show win0_2.index t 2 * 1024 + 1 * _ = _; rw [h2]; show 0 * 1024 + 1 * l.val = l.val; omega

/-- What window 3's block at a point holds: the same for every point. -/
theorem iblk3_at (c : Dev nD) (t : Fin cfg0.N) (r : Fin 128) (l : Fin 1024) :
    (iblk m c 3 t : S1x128x1024.Idx → EReal) (ix3 0 r l) = (m ((c : Thread nD τ).loc main_arg1) : S128x3x3x1024.Idx → EReal) (ix4 r 2 2 l) := by
  obtain ⟨h0, h8, h1, h2, h3, h4, h5, h6, h7⟩ := idx_at t
  refine Eq.trans ?_ (V10_at m c r l)
  unfold iblk
  rw [View.read_apply]
  show V m c main_v10 _ = V m c main_v10 _
  congr 1
  funext a
  apply Fin.ext
  match a with
  | ⟨0, _⟩ => show win0_3.index t 0 * 1 + 1 * _ = _; rw [h3]; show 0 * 1 + 1 * 0 = 0; omega
  | ⟨1, _⟩ => show win0_3.index t 1 * 128 + 1 * _ = _; rw [h3]; show 0 * 128 + 1 * r.val = r.val; omega
  | ⟨2, _⟩ => show win0_3.index t 2 * 1024 + 1 * _ = _; rw [h3]; show 0 * 1024 + 1 * l.val = l.val; omega

/-- What window 4's block at a point holds, in the array's own indices. -/
theorem iblk4_at (c : Dev nD) (t : Fin cfg0.N) (l : Fin 1024) :
    (iblk m c 4 t : S1x1024.Idx → EReal) (ix2 0 l) = (m ((c : Thread nD τ).loc main_arg2) : S3x1024.Idx → EReal) (ix2 2 l) := by
  obtain ⟨h0, h8, h1, h2, h3, h4, h5, h6, h7⟩ := idx_at t
  refine Eq.trans ?_ (V11_at m c l)
  unfold iblk
  rw [View.read_apply]
  show V m c main_v11 _ = V m c main_v11 _
  congr 1
  funext a
  apply Fin.ext
  match a with
  | ⟨0, _⟩ => show win0_4.index t 0 * 1 + 1 * _ = _; rw [h4]; show 0 * 1 + 1 * 0 = 0; omega
  | ⟨1, _⟩ => show win0_4.index t 1 * 1024 + 1 * _ = _; rw [h4]; show 0 * 1024 + 1 * l.val = l.val; omega

/-- What window 5's block at a point holds, in the array's own indices. -/
theorem iblk5_at (c : Dev nD) (t : Fin cfg0.N) (l : Fin 1024) :
    (iblk m c 5 t : S1x1024.Idx → EReal) (ix2 0 l) = (m ((c : Thread nD τ).loc main_arg3) : S3x1024.Idx → EReal) (ix2 2 l) := by
  obtain ⟨h0, h8, h1, h2, h3, h4, h5, h6, h7⟩ := idx_at t
  refine Eq.trans ?_ (V12_at m c l)
  unfold iblk
  rw [View.read_apply]
  show V m c main_v12 _ = V m c main_v12 _
  congr 1
  funext a
  apply Fin.ext
  match a with
  | ⟨0, _⟩ => show win0_5.index t 0 * 1 + 1 * _ = _; rw [h5]; show 0 * 1 + 1 * 0 = 0; omega
  | ⟨1, _⟩ => show win0_5.index t 1 * 1024 + 1 * _ = _; rw [h5]; show 0 * 1024 + 1 * l.val = l.val; omega

/-- What window 6's block at a point holds, in the array's own indices. -/
theorem iblk6_at (c : Dev nD) (t : Fin cfg0.N) (k : Fin 1024) (j : Fin 4096) :
    (iblk m c 6 t : S1024x4096.Idx → EReal) (ix2 k j) = (m ((c : Thread nD τ).loc main_arg4) : S1024x4096.Idx → EReal) (ix2 k j) := by
  obtain ⟨h0, h8, h1, h2, h3, h4, h5, h6, h7⟩ := idx_at t
  refine Eq.trans ?_ (V13_at m c k j)
  unfold iblk
  rw [View.read_apply]
  show V m c main_v13 _ = V m c main_v13 _
  congr 1
  funext a
  apply Fin.ext
  match a with
  | ⟨0, _⟩ => show win0_6.index t 0 * 1024 + 1 * _ = _; rw [h6]; show 0 * 1024 + 1 * k.val = k.val; omega
  | ⟨1, _⟩ => show win0_6.index t 1 * 4096 + 1 * _ = _; rw [h6]; show 0 * 4096 + 1 * j.val = j.val; omega

/-- What window 7's block at a point holds, in the array's own indices. -/
theorem iblk7_at (c : Dev nD) (t : Fin cfg0.N) (j : Fin 2048) (l : Fin 1024) :
    (iblk m c 7 t : S2048x1024.Idx → EReal) (ix2 j l) = (m ((c : Thread nD τ).loc main_arg5) : S2048x1024.Idx → EReal) (ix2 j l) := by
  obtain ⟨h0, h8, h1, h2, h3, h4, h5, h6, h7⟩ := idx_at t
  refine Eq.trans ?_ (V14_at m c j l)
  unfold iblk
  rw [View.read_apply]
  show V m c main_v14 _ = V m c main_v14 _
  congr 1
  funext a
  apply Fin.ext
  match a with
  | ⟨0, _⟩ => show win0_7.index t 0 * 2048 + 1 * _ = _; rw [h7]; show 0 * 2048 + 1 * j.val = j.val; omega
  | ⟨1, _⟩ => show win0_7.index t 1 * 1024 + 1 * _ = _; rw [h7]; show 0 * 1024 + 1 * l.val = l.val; omega

/-- One row of the result: token `p` of sequence `b`, from the arguments as launched. -/
def row (A0 : S128x4x1024.Idx → EReal) (A1 : S128x3x3x1024.Idx → EReal) (A2 A3 : S3x1024.Idx → EReal)
    (A4 : S1024x4096.Idx → EReal) (A5 : S2048x1024.Idx → EReal) (b : Fin 128) (p : Fin 4) (l : Fin 1024) : EReal :=
  resid (fun k => A0 (ix3 b p k))
    (ffn (prenorm (fun k => A0 (ix3 b p k)) (fun k => A2 (ix2 2 k)) (fun k => A1 (ix4 b 2 1 k)) (fun k => A1 (ix4 b 2 0 k)))
      (fun k j => A4 (ix2 k j)) (fun j l => A5 (ix2 j l)))
    (fun k => A1 (ix4 b 2 2 k)) (fun k => A3 (ix2 2 k)) l

/-- The whole result array as a function of the arguments. -/
def result (c : Dev nD) : S512x1024.Idx → EReal := fun i =>
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(i 0).val % 128, by omega⟩ ⟨(i 0).val / 128, by have : (i 0).val < 512 := (i 0).isLt; omega⟩ (i 1)

/-- What a point writes back is its block of `result`. -/
theorem flushed_eq (c : Dev nD) (t : Fin cfg0.N) :
    (dats m 0 c).flushed 8 t = ((cfg0.win 8).blk t).view.read (Elt Ideal) (result m c : S512x1024.Idx → EReal) := by
  have ht : t.val < 4 := lt_of_lt_of_eq t.isLt N_0
  rw [Value.flushed8]
  funext y
  obtain ⟨r, l, rfl⟩ : ∃ (r : Fin 128) (l : Fin 1024), y = ix2 r l := ⟨y 0, y 1, eq_ix2 (n0 := 128) (n1 := 1024) y⟩
  rw [View.read_apply]
  have hi : ((cfg0.win 8).blk t).view.emb (ix2 r l) = (ix2 (⟨128 * t.val + r, by omega⟩ : Fin 512) l : S512x1024.Idx) := by
    obtain ⟨h0, h8, -⟩ := idx_at t
    funext a
    apply Fin.ext
    match a with
    | ⟨0, _⟩ => show win0_8.index t 0 * 128 + 1 * _ = _; rw [h8]; show t.val * 128 + 1 * r.val = 128 * t.val + r.val; omega
    | ⟨1, _⟩ => show win0_8.index t 1 * 1024 + 1 * _ = _; rw [h8]; show 0 * 1024 + 1 * l.val = l.val; omega
  rw [hi]
  show out0_8 (iblk m c 0 t) (iblk m c 1 t) (iblk m c 2 t) (iblk m c 3 t) (iblk m c 4 t) (iblk m c 5 t) (iblk m c 6 t) (iblk m c 7 t) (ix2 r l)
    = row _ _ _ _ _ _ ⟨(128 * t.val + r.val) % 128, _⟩ ⟨(128 * t.val + r.val) / 128, _⟩ l
  have e1 : (⟨(128 * t.val + r.val) % 128, by omega⟩ : Fin 128) = r := Fin.ext (by show (128 * t.val + r.val) % 128 = r.val; omega)
  have e2 : (⟨(128 * t.val + r.val) / 128, by omega⟩ : Fin 4) = ⟨t.val, ht⟩ := Fin.ext (by show (128 * t.val + r.val) / 128 = t.val; omega)
  rw [out_at, e1, e2]
  simp only [iblk0_at, iblk1_at, iblk2_at, iblk3_at, iblk4_at, iblk5_at, iblk6_at, iblk7_at]
  rfl

/-- Every element of the result is in some point's block. -/
theorem cover (i : S512x1024.Idx) : ∃ t : Fin cfg0.N, (cfg0.win 8).flush t = true ∧ i ∈ ((cfg0.win 8).blk t).view.set := by
  have h0 : (i 0 : Nat) < 512 := (i 0).isLt
  have h1 : (i 1 : Nat) < 1024 := (i 1).isLt
  have hN : cfg0.N = 4 := N_0
  let t : Fin cfg0.N := ⟨(i 0 : Nat) / 128, by omega⟩
  refine ⟨t, flush0_8 t, ?_⟩
  · obtain ⟨-, h8, -⟩ := idx_at t
    show i ∈ ((View.whole main_v15).slice (win0_8.rect t)).set
    rw [View.set_slice_whole, Rect.mem_set_unit]
    intro a
    match a with
    | ⟨0, _⟩ => show win0_8.index t 0 * 128 ≤ (i 0 : Nat) ∧ (i 0 : Nat) < win0_8.index t 0 * 128 + 128
                rw [h8]; show (i 0 : Nat) / 128 * 128 ≤ (i 0 : Nat) ∧ (i 0 : Nat) < (i 0 : Nat) / 128 * 128 + 128; omega
    | ⟨1, _⟩ => show win0_8.index t 1 * 1024 ≤ (i 1 : Nat) ∧ (i 1 : Nat) < win0_8.index t 1 * 1024 + 1024
                rw [h8]; show 0 * 1024 ≤ (i 1 : Nat) ∧ (i 1 : Nat) < 0 * 1024 + 1024; omega

/-- So the result array ends holding `result`. -/
theorem final (c : Dev nD) : (dats m 0 c).arrAt 8 cfg0.N = (result m c : S512x1024.Idx → EReal) :=
  (dats m 0 c).arrAt_eq_of_cover 8 (result m c) (fun t _ => flushed_eq m c t) cover

end Cert.FfnSKernel
-- ==== Proof.FfnSReference.lean ====
module

public import proofs.«01_k».proof.Proof.Scalar
public import proofs.«01_k».proof.Proof.Gen.FfnSRefIdeal.Read

@[expose] public section

noncomputable section

namespace Cert.FfnSReference

open Cert.FfnSRefIdeal Cert.FfnSRefIdeal.Gen Cert.FfnSRefIdeal.Read Idealize.ShloMosaic Cert.Layer

variable (x0 : (⟨S128x4x1024, .f32⟩ : BufTy).Contents (Elt Ideal)) (x1 : (⟨S128x3x3x1024, .f32⟩ : BufTy).Contents (Elt Ideal))
  (x2 x3 : (⟨S3x1024, .f32⟩ : BufTy).Contents (Elt Ideal)) (x4 : (⟨S1024x4096, .f32⟩ : BufTy).Contents (Elt Ideal))
  (x5 : (⟨S2048x1024, .f32⟩ : BufTy).Contents (Elt Ideal))

/-- The pre-normed, modulated row. -/
theorem v26_at (b : Fin 128) (p : Fin 4) (l : Fin 1024) :
    val_main_v26 (F := Ideal) x0 x1 x2 (ix3 b p l)
      = prenorm (fun k => x0 (ix3 b p k)) (fun k => x2 (ix2 2 k)) (fun k => x1 (ix4 b 2 1 k)) (fun k => x1 (ix4 b 2 0 k)) l := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, prenorm, rms]

/-- The gated hidden unit. -/
theorem v31_at (b : Fin 128) (p : Fin 4) (j : Fin 2048) :
    val_main_v31 (F := Ideal) x0 x1 x2 x4 (ix3 b p j)
      = hid (prenorm (fun k => x0 (ix3 b p k)) (fun k => x2 (ix2 2 k)) (fun k => x1 (ix4 b 2 1 k)) (fun k => x1 (ix4 b 2 0 k)))
          (fun k j => x4 (ix2 k j)) j := by
  pointwise [val_main_v31, val_main_v30, val_main_v29, val_main_v28, val_main_v27, val_main_call0_v0, val_main_call0_v1, val_main_call0_v2,
    val_main_call0_v3, val_main_call0_v4, val_main_call0_v5, val_main_call0_cst, val_main_call0_cst_0]
  simp only [v26_at, hid, silu]

/-- The feed-forward's row. -/
theorem v32_at (b : Fin 128) (p : Fin 4) (l : Fin 1024) :
    val_main_v32 (F := Ideal) x0 x1 x2 x4 x5 (ix3 b p l)
      = ffn (prenorm (fun k => x0 (ix3 b p k)) (fun k => x2 (ix2 2 k)) (fun k => x1 (ix4 b 2 1 k)) (fun k => x1 (ix4 b 2 0 k)))
          (fun k j => x4 (ix2 k j)) (fun j l => x5 (ix2 j l)) l := by
  pointwise [val_main_v32]
  simp only [v31_at, ffn]

/-- The result array, row by row. -/
theorem v57_at (R : Fin 512) (l : Fin 1024) :
    val_main_v57 (F := Ideal) x0 x1 x2 x3 x4 x5 (ix2 R l)
      = resid (fun k => x0 (ix3 ⟨R % 128, by omega⟩ ⟨R / 128, by omega⟩ k))
          (ffn (prenorm (fun k => x0 (ix3 ⟨R % 128, by omega⟩ ⟨R / 128, by omega⟩ k)) (fun k => x2 (ix2 2 k))
              (fun k => x1 (ix4 ⟨R % 128, by omega⟩ 2 1 k)) (fun k => x1 (ix4 ⟨R % 128, by omega⟩ 2 0 k)))
            (fun k j => x4 (ix2 k j)) (fun j l => x5 (ix2 j l)))
          (fun k => x1 (ix4 ⟨R % 128, by omega⟩ 2 2 k)) (fun k => x3 (ix2 2 k)) l := by
  pointwise [val_main_v57, val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35, val_main_v34, val_main_v33, val_main_cst_3, val_main_cst_4, val_main_cst_5, val_main_cst_6]
  simp only [v32_at, resid, rms]

end Cert.FfnSReference
-- ==== Proof.FfnSClaim.lean ====
module

public import proofs.«01_k».proof.Proof.FfnSKernel
public import proofs.«01_k».proof.Proof.FfnSReference
public import proofs.«01_k».proof.Defs

@[expose] public section

noncomputable section

namespace Cert.FfnSClaim

open Idealize.ShloMosaic Idealize.SL.Sem

/-- The reference's result is the kernel's, where the arguments agree. -/
theorem reference_eq (m : (ℓ : Loc Cert.FfnSIdeal.nD Cert.FfnSIdeal.τ Cert.FfnSIdeal.sig) → Buf (Elt Ideal) ℓ)
    (m' : (ℓ : Loc Cert.FfnSRefIdeal.nD Cert.FfnSRefIdeal.τ Cert.FfnSRefIdeal.sig) → Buf (Elt Ideal) ℓ) (c : Dev Cert.FfnSIdeal.nD)
    (h0 : m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0))
    (h1 : m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1))
    (h2 : m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2))
    (h3 : m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3))
    (h4 : m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4))
    (h5 : m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) :
    (Cert.FfnSRefIdeal.Value.res_main_v57 m' c : Cert.FfnSRefIdeal.S512x1024.Idx → EReal) = Cert.FfnSKernel.result m c := by
  rw [Cert.FfnSRefIdeal.Read.val_main_v57_eq, h0, h1, h2, h3, h4, h5]
  funext i
  obtain ⟨r, l, rfl⟩ : ∃ (r : Fin 512) (l : Fin 1024), i = ix2 r l := ⟨i 0, i 1, eq_ix2 (n0 := 512) (n1 := 1024) i⟩
  exact Cert.FfnSReference.v57_at _ _ _ _ _ _ r l

/-- Both programs' results are one array: the residual row over the feed-forward of the pre-normed row. -/
theorem algebraic : algebraic_FfnSIdeal_FfnSRefIdeal := by
  intro m g m' g' _ h
  refine ⟨fun c => Cert.FfnSKernel.result m c, ?_, ?_⟩
  · exact (θ_run _ _ _).mono (fun r hr c => ⟨(hr c).1.trans (Cert.FfnSKernel.final m c), (hr c).2⟩) (Cert.FfnSIdeal.Value.run_blocks m g)
  · refine (θ_run _ _ _).mono (fun r hr c => ⟨(hr c).1.trans ?_, (hr c).2⟩) (Cert.FfnSRefIdeal.Value.run m' g')
    obtain ⟨h0, h1, h2, h3, h4, h5⟩ := h c
    exact reference_eq m m' c h0 h1 h2 h3 h4 h5

end Cert.FfnSClaim
-- ==== Proof.MixInSBlock.lean ====
module

public import proofs.«01_k».proof.Proof.MixInBlock
public import proofs.«01_k».proof.Proof.Gen.MixInSIdeal.Value

@[expose] public section

noncomputable section

namespace Cert.MixInSKernel

open Cert.MixInSIdeal Cert.MixInSIdeal.Gen Idealize.ShloMosaic Idealize.ShloMosaic.TcCoe Idealize.SL.Sem Cert.Layer
open Cert.MixInKernel (select_low select_high kiwi_lane q_stay q_move q_none qi_some qi_none)

/-- What the input blocks of a grid point hold: rows whose pre-normed rows are `H`, the packed weights of `w`, and the
    tables of the positions `p`. -/
structure Holds (x0 : Vec Ideal S128x1024 .f32) (x1 x2 : Vec Ideal S1x128x1024 .f32) (x3 : Vec Ideal S1x1024 .f32)
    (x4 : Vec Ideal S1024x2688 .bf16) (x5 x6 x7 : Vec Ideal S128x128 .f32) (H : Fin 128 → Fin 1024 → EReal)
    (w : Fin 1024 → Fin 2628 → EReal) (p : Fin 128 → Nat) : Prop where
  rows : ∀ r l, prenorm (fun k => x0 (ix2 r k)) (fun k => x3 (ix2 0 k)) (fun k => x2 (ix3 0 r k)) (fun k => x1 (ix3 0 r k)) l = H r l
  weights : ∀ k (j : Fin 2688), x4 (ix2 k j) = packed (w k) j.val
  tableC : ∀ r (l : Fin 128), x5 (ix2 r l) = tabC (p r) l.val
  tableS : ∀ r (l : Fin 128), x6 (ix2 r l) = tabS (p r) l.val
  tableT : ∀ r (l : Fin 128), x7 (ix2 r l) = tabT (p r) l.val

/-- The normalised, modulated row the body hands to its products. -/
theorem pay2_at (v0 : Vec Ideal S128x1024 .f32) (v12 : Vec Ideal S1x1024 .f32) (v16 v22 : Vec Ideal S1x128x1024 .f32)
    (r : Fin 128) (l : Fin 1024) :
    k0_pay2 v0 v12 v16 v22 (ix2 r l)
      = prenorm (fun k => v0 (ix2 r k)) (fun k => v12 (ix2 0 k)) (fun k => v16 (ix3 0 r k)) (fun k => v22 (ix3 0 r k)) l := by
  pointwise [k0_pay2, prenorm, rms]

variable {x0 : Vec Ideal S128x1024 .f32} {x1 x2 : Vec Ideal S1x128x1024 .f32} {x3 : Vec Ideal S1x1024 .f32}
  {x4 : Vec Ideal S1024x2688 .bf16} {x5 x6 x7 : Vec Ideal S128x128 .f32} {H : Fin 128 → Fin 1024 → EReal}
  {w : Fin 1024 → Fin 2628 → EReal} {p : Fin 128 → Nat}

/-- The blocks' pre-normed row, at row `r` and channel `l`. -/
theorem Holds.pre (B : Holds x0 x1 x2 x3 x4 x5 x6 x7 H w p) (r : Fin 128) (l : Fin 1024) :
    k0_pay42 x0 x1 x2 x3 x4 x5 x6 x7 (ix2 r l) = H r l := by
  unfold k0_pay42
  rw [pay2_at, ← B.rows r l]
  simp only [r0_0, r0_1, r0_2]
  pointwise

/-- The block of cosines at row `r` and lane `l` is the table at that row's position. -/
theorem Holds.tC (B : Holds x0 x1 x2 x3 x4 x5 x6 x7 H w p) (r : Fin 128) (l : Fin 128) :
    k0_pay43 x0 x1 x2 x3 x4 x5 x6 x7 (ix2 r l) = tabC (p r) l.val := by
  rw [← B.tableC r l]
  pointwise [k0_pay43, k0_pay3, r0_3]

/-- The block of negated sines likewise. -/
theorem Holds.tS (B : Holds x0 x1 x2 x3 x4 x5 x6 x7 H w p) (r : Fin 128) (l : Fin 128) :
    k0_pay44 x0 x1 x2 x3 x4 x5 x6 x7 (ix2 r l) = tabS (p r) l.val := by
  rw [← B.tableS r l]
  pointwise [k0_pay44, k0_pay4, r0_3]

/-- And the block of sines eight lanes on. -/
theorem Holds.tT (B : Holds x0 x1 x2 x3 x4 x5 x6 x7 H w p) (r : Fin 128) (l : Fin 128) :
    k0_pay45 x0 x1 x2 x3 x4 x5 x6 x7 (ix2 r l) = tabT (p r) l.val := by
  rw [← B.tableT r l]
  pointwise [k0_pay45, k0_pay5, r0_3]

/-- The keys' block, channels first. -/
theorem out9_at (B : Holds x0 x1 x2 x3 x4 x5 x6 x7 H w p) (r : Fin 128) (l : Fin 128) :
    out0_9 x0 x1 x2 x3 x4 x5 x6 x7 (ix3 0 l r) = kAt (H r) w (p r) l.val := by
  have hz3 : (![0, 0, 0] : Fin 3 → Nat) = fun _ => 0 := funext fun a => by fin_cases a <;> rfl
  unfold out0_9
  refine (congrFun (View.canon_unit_zero hz3 _ _) _).trans ?_
  pointwise [k0_pay27, r0_13]
  simp only [B.pre, B.tC, B.tS, B.tT, B.weights, sum_packed]
  exact lanes_pcol (p r) (H r) w 512 l.val l.isLt (by omega)

/-- The values' block, channels first. -/
theorem out10_at (B : Holds x0 x1 x2 x3 x4 x5 x6 x7 H w p) (r : Fin 128) (l : Fin 128) :
    out0_10 x0 x1 x2 x3 x4 x5 x6 x7 (ix3 0 l r) = vAt (H r) w l.val := by
  have hz3 : (![0, 0, 0] : Fin 3 → Nat) = fun _ => 0 := funext fun a => by fin_cases a <;> rfl
  unfold out0_10
  refine (congrFun (View.canon_unit_zero hz3 _ _) _).trans ?_
  pointwise [k0_pay29, k0_pay28, r0_15]
  simp only [B.pre, B.weights, sum_packed]
  exact pcol_low _ _ (by omega)

/-- The values' block, row by row. -/
theorem out11_at (B : Holds x0 x1 x2 x3 x4 x5 x6 x7 H w p) (r : Fin 128) (l : Fin 128) :
    out0_11 x0 x1 x2 x3 x4 x5 x6 x7 (ix2 r l) = vAt (H r) w l.val := by
  have hz2 : (![0, 0] : Fin 2 → Nat) = fun _ => 0 := funext fun a => by fin_cases a <;> rfl
  unfold out0_11
  refine (congrFun (View.canon_unit_zero hz2 _ _) _).trans ?_
  pointwise [k0_pay30, k0_pay28, r0_15]
  simp only [B.pre, B.weights, sum_packed]
  exact pcol_low _ _ (by omega)

/-- The indexer's keys and weights, row by row. -/
theorem out13_at (B : Holds x0 x1 x2 x3 x4 x5 x6 x7 H w p) (r : Fin 128) (l : Fin 128) :
    out0_13 x0 x1 x2 x3 x4 x5 x6 x7 (ix2 r l) = kiAt (H r) w (p r) l.val := by
  have hz2 : (![0, 0] : Fin 2 → Nat) = fun _ => 0 := funext fun a => by fin_cases a <;> rfl
  unfold out0_13
  refine (congrFun (View.canon_unit_zero hz2 _ _) _).trans ?_
  pointwise [k0_pay38, k0_pay41, r0_21]
  simp only [B.pre, B.tC, B.tS, B.tT, B.weights, sum_packed, select_low]
  exact kiwi_lane (H r) w (p r) l

/-- The indexer's keys and weights, channels first. -/
theorem out14_at (B : Holds x0 x1 x2 x3 x4 x5 x6 x7 H w p) (r : Fin 128) (l : Fin 128) :
    out0_14 x0 x1 x2 x3 x4 x5 x6 x7 (ix3 0 l r) = kiAt (H r) w (p r) l.val := by
  have hz3 : (![0, 0, 0] : Fin 3 → Nat) = fun _ => 0 := funext fun a => by fin_cases a <;> rfl
  unfold out0_14
  refine (congrFun (View.canon_unit_zero hz3 _ _) _).trans ?_
  pointwise [k0_pay39, k0_pay38, k0_pay41, r0_21]
  simp only [B.pre, B.tC, B.tS, B.tT, B.weights, sum_packed, select_low]
  exact kiwi_lane (H r) w (p r) l

/-- The convolution branch's gate. -/
theorem out15_at (B : Holds x0 x1 x2 x3 x4 x5 x6 x7 H w p) (r : Fin 128) (l : Fin 512) :
    out0_15 x0 x1 x2 x3 x4 x5 x6 x7 (ix2 r l) = gbAt (H r) w l.val := by
  have hz2 : (![0, 0] : Fin 2 → Nat) = fun _ => 0 := funext fun a => by fin_cases a <;> rfl
  unfold out0_15
  refine (congrFun (View.canon_unit_zero hz2 _ _) _).trans ?_
  pointwise [k0_pay40, r0_22]
  simp only [B.pre, B.weights, sum_packed]
  rw [show 1152 + l.val = 60 + (1092 + l.val) by omega]
  exact pcol_high _ _ (by omega)

/-- The convolution branch's input. -/
theorem out16_at (B : Holds x0 x1 x2 x3 x4 x5 x6 x7 H w p) (r : Fin 128) (l : Fin 512) :
    out0_16 x0 x1 x2 x3 x4 x5 x6 x7 (ix2 r l) = uAt (H r) w l.val := by
  have hz2 : (![0, 0] : Fin 2 → Nat) = fun _ => 0 := funext fun a => by fin_cases a <;> rfl
  unfold out0_16
  refine (congrFun (View.canon_unit_zero hz2 _ _) _).trans ?_
  pointwise [k0_pay1, r0_24, r0_25]
  simp only [B.pre, B.weights, sum_packed]
  rw [show 1664 + l.val = 60 + (1604 + l.val) by omega, show 2176 + l.val = 60 + (2116 + l.val) by omega,
    pcol_high _ _ (by omega), pcol_high _ _ (by omega), uAt]

/-- Where a query head's store lies in its window's block. -/
theorem head_emb (a : Fin 8) (inb : ∀ b, (![a.val, 0, 0] : Fin 3 → Nat) b + S1x128x128.size b ≤ S8x128x128.size b) (u : Fin 1) (r : Fin 128) (l : Fin 128) :
    (Rect.unit (s := S8x128x128) ![a.val, 0, 0] S1x128x128.size inb).emb (ix3 u r l) = (ix3 a r l : S8x128x128.Idx) := by
  funext b
  apply Fin.ext
  match b with
  | ⟨0, _⟩ => show a.val + 1 * u.val = a.val; omega
  | ⟨1, _⟩ => show 0 + 1 * r.val = r.val; omega
  | ⟨2, _⟩ => show 0 + 1 * l.val = l.val; omega

/-- The queries' block: eight stores, a head each. -/
theorem out8_at (B : Holds x0 x1 x2 x3 x4 x5 x6 x7 H w p) (a : Fin 8) (r : Fin 128) (l : Fin 128) :
    out0_8 x0 x1 x2 x3 x4 x5 x6 x7 (ix3 a r l) = qAt (H r) w (p r) a.val l.val := by
  let G : S8x128x128.Idx → EReal := fun y => qAt (H (y 1)) w (p (y 1)) (y 0).val (y 2).val
  unfold out0_8
  refine View.canon_apply_of_pieces (Val := Elt Ideal) (e := .bf16) G _ ?_ (ix3 a r l) (cover0_8 _ _ _ _ _ _ _ _ _)
  intro q hq
  simp only [List.mem_cons, List.not_mem_nil, or_false] at hq
  rcases hq with rfl | rfl | rfl | rfl | rfl | rfl | rfl | rfl
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 7 inb_S8x128x128_S1x128x128_7_0_0 u r l)).symm
    show _ = qAt (H r) w (p r) 7 l.val
    pointwise [k0_pay26, k0_pay24, k0_pay50, k0_pay46, k0_pay47, k0_pay11, k0_pay8, k0_pay7, k0_pay6, r0_4]
    simp only [B.pre, B.tC, B.tS, B.tT, B.weights, sum_packed, select_low, select_high, Nat.zero_add]
    split
    · exact q_none (H r) w (p r) 7 l.val (by omega)
    · exact q_stay (H r) w (p r) 7 384 l.val l.isLt (by omega) (by omega) (by omega) (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 6 inb_S8x128x128_S1x128x128_6_0_0 u r l)).symm
    show _ = qAt (H r) w (p r) 6 l.val
    pointwise [k0_pay25, k0_pay24, k0_pay50, k0_pay46, k0_pay47, k0_pay11, k0_pay8, k0_pay7, k0_pay6, r0_4]
    simp only [B.pre, B.tC, B.tS, B.tT, B.weights, sum_packed, select_low, select_high, Nat.zero_add]
    split
    · exact q_none (H r) w (p r) 6 l.val (by omega)
    · exact q_move (H r) w (p r) 6 384 l.val l.isLt (by omega) (by omega) (by omega) (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 5 inb_S8x128x128_S1x128x128_5_0_0 u r l)).symm
    show _ = qAt (H r) w (p r) 5 l.val
    pointwise [k0_pay23, k0_pay22, k0_pay20, k0_pay49, k0_pay46, k0_pay47, k0_pay10, k0_pay8, k0_pay7, k0_pay6, r0_4]
    simp only [B.pre, B.tC, B.tS, B.tT, B.weights, sum_packed, select_low, select_high, Nat.zero_add]
    split
    · exact q_none (H r) w (p r) 5 l.val (by omega)
    · exact q_stay (H r) w (p r) 5 256 l.val l.isLt (by omega) (by omega) (by omega) (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 4 inb_S8x128x128_S1x128x128_4_0_0 u r l)).symm
    show _ = qAt (H r) w (p r) 4 l.val
    pointwise [k0_pay21, k0_pay20, k0_pay49, k0_pay46, k0_pay47, k0_pay10, k0_pay8, k0_pay7, k0_pay6, r0_4]
    simp only [B.pre, B.tC, B.tS, B.tT, B.weights, sum_packed, select_low, select_high, Nat.zero_add]
    split
    · exact q_none (H r) w (p r) 4 l.val (by omega)
    · exact q_move (H r) w (p r) 4 256 l.val l.isLt (by omega) (by omega) (by omega) (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 3 inb_S8x128x128_S1x128x128_3_0_0 u r l)).symm
    show _ = qAt (H r) w (p r) 3 l.val
    pointwise [k0_pay19, k0_pay17, k0_pay48, k0_pay46, k0_pay47, k0_pay9, k0_pay8, k0_pay7, k0_pay6, r0_4]
    simp only [B.pre, B.tC, B.tS, B.tT, B.weights, sum_packed, select_low, select_high, Nat.zero_add]
    split
    · exact q_move (H r) w (p r) 3 128 l.val l.isLt (by omega) (by omega) (by omega) (by omega)
    · exact q_none (H r) w (p r) 3 l.val (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 2 inb_S8x128x128_S1x128x128_2_0_0 u r l)).symm
    show _ = qAt (H r) w (p r) 2 l.val
    pointwise [k0_pay18, k0_pay17, k0_pay48, k0_pay46, k0_pay47, k0_pay9, k0_pay8, k0_pay7, k0_pay6, r0_4]
    simp only [B.pre, B.tC, B.tS, B.tT, B.weights, sum_packed, select_low, select_high, Nat.zero_add]
    split
    · exact q_stay (H r) w (p r) 2 128 l.val l.isLt (by omega) (by omega) (by omega) (by omega)
    · exact q_none (H r) w (p r) 2 l.val (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 1 inb_S8x128x128_S1x128x128_1_0_0 u r l)).symm
    show _ = qAt (H r) w (p r) 1 l.val
    pointwise [k0_pay16, k0_pay15, k0_pay13, k0_pay12, k0_pay46, k0_pay47, k0_pay8, k0_pay7, k0_pay6, r0_4]
    simp only [B.pre, B.tC, B.tS, B.tT, B.weights, sum_packed, select_low, select_high, Nat.zero_add]
    split
    · simpa only [Nat.zero_add] using q_move (H r) w (p r) 1 0 l.val l.isLt (by omega) (by omega) (by omega) (by omega)
    · exact q_none (H r) w (p r) 1 l.val (by omega)
  · intro x
    obtain ⟨u, r, l, rfl⟩ : ∃ (u : Fin 1) (r : Fin 128) (l : Fin 128), x = ix3 u r l := ⟨x 0, x 1, x 2, eq_ix3 (n0 := 1) (n1 := 128) (n2 := 128) x⟩
    refine Eq.trans ?_ (congrArg G (head_emb 0 inb_S8x128x128_S1x128x128_0_0_0 u r l)).symm
    show _ = qAt (H r) w (p r) 0 l.val
    pointwise [k0_pay14, k0_pay12, k0_pay46, k0_pay47, k0_pay8, k0_pay7, k0_pay6, r0_4]
    simp only [B.pre, B.tC, B.tS, B.tT, B.weights, sum_packed, select_low, select_high, Nat.zero_add]
    split
    · simpa only [Nat.zero_add] using q_stay (H r) w (p r) 0 0 l.val l.isLt (by omega) (by omega) (by omega) (by omega)
    · exact q_none (H r) w (p r) 0 l.val (by omega)

/-- Where an indexer query head's store lies in its window's block. -/
theorem group_emb (a : Fin 4) (inb : ∀ b, (![0, 128 * a.val] : Fin 2 → Nat) b + S128x128.size b ≤ S128x512.size b) (r : Fin 128) (l : Fin 128) :
    (Rect.unit (s := S128x512) ![0, 128 * a.val] S128x128.size inb).emb (ix2 r l) = (ix2 r (⟨128 * a.val + l.val, by omega⟩ : Fin 512) : S128x512.Idx) := by
  funext b
  apply Fin.ext
  match b with
  | ⟨0, _⟩ => show 0 + 1 * r.val = r.val; omega
  | ⟨1, _⟩ => show 128 * a.val + 1 * l.val = 128 * a.val + l.val; omega

/-- The indexer queries' block: four stores, a head each. -/
theorem out12_at (B : Holds x0 x1 x2 x3 x4 x5 x6 x7 H w p) (r : Fin 128) (l : Fin 512) :
    out0_12 x0 x1 x2 x3 x4 x5 x6 x7 (ix2 r l) = qiAt (H r) w (p r) l.val := by
  let G : S128x512.Idx → EReal := fun y => qiAt (H (y 0)) w (p (y 0)) (y 1).val
  unfold out0_12
  refine View.canon_apply_of_pieces (Val := Elt Ideal) (e := .bf16) G _ ?_ (ix2 r l) (cover0_12 _ _ _ _ _)
  intro q hq
  simp only [List.mem_cons, List.not_mem_nil, or_false] at hq
  rcases hq with rfl | rfl | rfl | rfl
  · intro x
    obtain ⟨r, l, rfl⟩ : ∃ (r : Fin 128) (l : Fin 128), x = ix2 r l := ⟨x 0, x 1, eq_ix2 (n0 := 128) (n1 := 128) x⟩
    refine Eq.trans ?_ (congrArg G (group_emb 3 inb_S128x512_S128x128_0_384 r l)).symm
    show _ = qiAt (H r) w (p r) (128 * 3 + l.val)
    pointwise [k0_pay37, k0_pay51, k0_pay46, k0_pay33, k0_pay31, k0_pay6, r0_16]
    simp only [B.pre, B.tC, B.tS, B.tT, B.weights, sum_packed, select_low, ← Nat.add_assoc, Nat.reduceAdd]
    split
    · exact qi_none (H r) w (p r) 3 l.val l.isLt (by omega)
    · exact qi_some (H r) w (p r) 3 896 l.val l.isLt (by omega) (by omega) (by omega)
  · intro x
    obtain ⟨r, l, rfl⟩ : ∃ (r : Fin 128) (l : Fin 128), x = ix2 r l := ⟨x 0, x 1, eq_ix2 (n0 := 128) (n1 := 128) x⟩
    refine Eq.trans ?_ (congrArg G (group_emb 2 inb_S128x512_S128x128_0_256 r l)).symm
    show _ = qiAt (H r) w (p r) (128 * 2 + l.val)
    pointwise [k0_pay36, k0_pay51, k0_pay46, k0_pay33, k0_pay31, k0_pay6, r0_16]
    simp only [B.pre, B.tC, B.tS, B.tT, B.weights, sum_packed, select_low, ← Nat.add_assoc, Nat.reduceAdd]
    split
    · exact qi_some (H r) w (p r) 2 896 l.val l.isLt (by omega) (by omega) (by omega)
    · exact qi_none (H r) w (p r) 2 l.val l.isLt (by omega)
  · intro x
    obtain ⟨r, l, rfl⟩ : ∃ (r : Fin 128) (l : Fin 128), x = ix2 r l := ⟨x 0, x 1, eq_ix2 (n0 := 128) (n1 := 128) x⟩
    refine Eq.trans ?_ (congrArg G (group_emb 1 inb_S128x512_S128x128_0_128 r l)).symm
    show _ = qiAt (H r) w (p r) (128 * 1 + l.val)
    pointwise [k0_pay35, k0_pay46, k0_pay32, k0_pay31, k0_pay6, r0_16]
    simp only [B.pre, B.tC, B.tS, B.tT, B.weights, sum_packed, select_low, ← Nat.add_assoc, Nat.reduceAdd]
    split
    · exact qi_none (H r) w (p r) 1 l.val l.isLt (by omega)
    · exact qi_some (H r) w (p r) 1 768 l.val l.isLt (by omega) (by omega) (by omega)
  · intro x
    obtain ⟨r, l, rfl⟩ : ∃ (r : Fin 128) (l : Fin 128), x = ix2 r l := ⟨x 0, x 1, eq_ix2 (n0 := 128) (n1 := 128) x⟩
    refine Eq.trans ?_ (congrArg G (group_emb 0 inb_S128x512_S128x128_0_0 r l)).symm
    show _ = qiAt (H r) w (p r) (128 * 0 + l.val)
    pointwise [k0_pay34, k0_pay46, k0_pay32, k0_pay31, k0_pay6, r0_16]
    simp only [B.pre, B.tC, B.tS, B.tT, B.weights, sum_packed, select_low, ← Nat.add_assoc, Nat.reduceAdd]
    split
    · simpa only [Nat.mul_zero, Nat.zero_add] using qi_some (H r) w (p r) 0 768 l.val l.isLt (by omega) (by omega) (by omega)
    · simpa only [Nat.mul_zero, Nat.zero_add] using qi_none (H r) w (p r) 0 l.val l.isLt (by omega)

end Cert.MixInSKernel
-- ==== Proof.MixInSKernel.lean ====
module

public import proofs.«01_k».proof.Proof.MixInSBlock
public import Idealize.ShloMosaic.Lib.StableHlo.ReadAt

@[expose] public section

noncomputable section

namespace Cert.MixInSKernel

open Cert.MixInSIdeal Cert.MixInSIdeal.Gen Idealize.ShloMosaic Idealize.ShloMosaic.TcCoe Idealize.SL.Sem Cert.Layer

variable (m : (ℓ : Loc nD τ sig) → Buf (Elt Ideal) ℓ)

/-! ## The arrays the kernel is launched over -/

/-- The rows of the residual stream, one token of all sequences after the other. -/
theorem V38_at (c : Dev nD) (R : Fin 512) (l : Fin 1024) :
    (V m c main_v38 : S512x1024.Idx → EReal) (ix2 R l) = (m ((c : Thread nD τ).loc main_arg0) : S128x4x1024.Idx → EReal) (ix3 ⟨R % 128, by omega⟩ ⟨R / 128, by omega⟩ l) := by
  unfold V
  after_reads_at

/-- The shift of this sub-layer, per sequence. -/
theorem V40_at (c : Dev nD) (b : Fin 128) (l : Fin 1024) :
    (V m c main_v40 : S1x128x1024.Idx → EReal) (ix3 0 b l) = (m ((c : Thread nD τ).loc main_arg1) : S128x3x3x1024.Idx → EReal) (ix4 b 1 0 l) := by
  unfold V
  after_reads_at

/-- The scale of this sub-layer, per sequence. -/
theorem V42_at (c : Dev nD) (b : Fin 128) (l : Fin 1024) :
    (V m c main_v42 : S1x128x1024.Idx → EReal) (ix3 0 b l) = (m ((c : Thread nD τ).loc main_arg1) : S128x3x3x1024.Idx → EReal) (ix4 b 1 1 l) := by
  unfold V
  after_reads_at

/-- This sub-layer's pre-norm gain. -/
theorem V43_at (c : Dev nD) (l : Fin 1024) :
    (V m c main_v43 : S1x1024.Idx → EReal) (ix2 0 l) = (m ((c : Thread nD τ).loc main_arg2) : S3x1024.Idx → EReal) (ix2 1 l) := by
  unfold V
  after_reads_at

/-- The packed weights. -/
theorem V48_at (c : Dev nD) (k : Fin 1024) (j : Fin 2688) :
    (V m c main_v48 : S1024x2688.Idx → EReal) (ix2 k j)
      = packed (fun n => (m ((c : Thread nD τ).loc main_arg3) : S1024x2628.Idx → EReal) (ix2 k n)) j.val := by
  unfold V
  after_reads_at
  unfold packed entry
  by_cases h1 : j.val < 1092
  · have h2 : j.val < 2628 := by omega
    simp only [h1, h2, dif_pos, if_pos]
    after_reads_at
  by_cases h2 : j.val < 1152
  · have h3 : j.val - 1092 < 60 := by omega
    simp only [h1, h2, h3, dif_pos, dif_neg, if_pos, if_neg, not_false_eq_true]
    after_reads_at
  · have h3 : ¬j.val - 1092 < 60 := by omega
    have h4 : j.val - 60 < 2628 := by omega
    have e : 1092 + (j.val - 1092 - 60) = j.val - 60 := by omega
    simp only [h1, h2, h3, h4, dif_pos, dif_neg, if_neg, not_false_eq_true]
    after_reads_at
    simp only [e]

/-- The position of token `p`: 8192 before it. -/
theorem position (p : Fin 4) : IntOp.addi 8192#32 (BitVec.ofNat 32 p.val) = BitVec.ofNat 32 (8192 + p.val) := by
  revert p
  decide

/-- The position of the token row `R` holds, as the tables' integers write it. -/
theorem position_row (R : Fin 512) : IntOp.addi 8192#32 (BitVec.ofNat 32 (R.val / 128)) = BitVec.ofNat 32 (8192 + R.val / 128) :=
  position ⟨R.val / 128, by omega⟩

/-- The table of cosines. -/
theorem V30_at (c : Dev nD) (R : Fin 512) (j : Fin 128) :
    (V m c main_v30 : S512x128.Idx → EReal) (ix2 R j) = tabC (8192 + R.val / 128) j.val := by
  unfold V
  after_reads_at
  unfold tabC angle
  by_cases h1 : j.val % 64 < 8
  · simp only [h1, dif_pos, if_pos]
    after_reads_at
    rw [position_row]
  by_cases h2 : j.val % 64 < 16
  · have h3 : j.val % 64 - 8 < 8 := by omega
    simp only [h1, h2, h3, dif_pos, dif_neg, if_pos, if_neg, not_false_eq_true]
    after_reads_at
    rw [position_row]
  · have h3 : ¬j.val % 64 - 8 < 8 := by omega
    simp only [h1, h2, h3, dif_neg, if_neg, not_false_eq_true]
    after_reads_at

/-- The table of sines, negated. -/
theorem V33_at (c : Dev nD) (R : Fin 512) (j : Fin 128) :
    (V m c main_v33 : S512x128.Idx → EReal) (ix2 R j) = tabS (8192 + R.val / 128) j.val := by
  unfold V
  after_reads_at
  unfold tabS angle
  by_cases h1 : j.val % 64 < 8
  · simp only [h1, dif_pos, if_pos]
    after_reads_at
    rw [position_row]
  simp only [h1, dif_neg, if_neg, not_false_eq_true]
  split <;> after_reads_at

/-- The table of sines, eight lanes on. -/
theorem V36_at (c : Dev nD) (R : Fin 512) (j : Fin 128) :
    (V m c main_v36 : S512x128.Idx → EReal) (ix2 R j) = tabT (8192 + R.val / 128) j.val := by
  unfold V
  after_reads_at
  unfold tabT angle
  by_cases h1 : j.val % 64 < 8
  · simp only [h1, dif_pos, if_pos]
    after_reads_at
  by_cases h2 : j.val % 64 < 16
  · have h3 : j.val % 64 - 8 < 8 := by omega
    simp only [h1, h2, h3, dif_pos, dif_neg, if_pos, if_neg, not_false_eq_true]
    after_reads_at
    rw [position_row]
  · have h3 : ¬j.val % 64 - 8 < 8 := by omega
    simp only [h1, h2, h3, dif_neg, if_neg, not_false_eq_true]
    after_reads_at

/-! ## The blocks a grid point reads -/

/-- The block indices of the windows it reads, decided over the grid. -/
theorem in_idx : ∀ t : Fin cfg0.N, win0_0.index t = ![t.val, 0] ∧ win0_1.index t = ![0, 0, 0] ∧ win0_2.index t = ![0, 0, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0, 0] ∧ win0_2.index t = ![0, 0, 0] ∧ win0_3.index t = ![0, 0] ∧ win0_4.index t = ![0, 0] ∧ win0_5.index t = ![t.val, 0] ∧ win0_6.index t = ![t.val, 0] ∧ win0_7.index t = ![t.val, 0])

/-- The block indices of the windows it writes, decided over the grid. -/
theorem out_idx : ∀ t : Fin cfg0.N, win0_8.index t = ![0, t.val, 0] ∧ win0_9.index t = ![0, 0, t.val] ∧ win0_10.index t = ![0, 0, t.val] ∧ win0_11.index t = ![t.val, 0] ∧ win0_12.index t = ![t.val, 0] ∧ win0_13.index t = ![t.val, 0] ∧ win0_14.index t = ![0, 0, t.val] ∧ win0_15.index t = ![t.val, 0] ∧ win0_16.index t = ![t.val, 0] :=
  (by decide +kernel : ∀ t : Fin grid0.N, win0_8.index t = ![0, t.val, 0] ∧ win0_9.index t = ![0, 0, t.val] ∧ win0_10.index t = ![0, 0, t.val] ∧ win0_11.index t = ![t.val, 0] ∧ win0_12.index t = ![t.val, 0] ∧ win0_13.index t = ![t.val, 0] ∧ win0_14.index t = ![0, 0, t.val] ∧ win0_15.index t = ![t.val, 0] ∧ win0_16.index t = ![t.val, 0])

/-- Row `128 t + r` of the rows laid token by token is token `t` of sequence `r`. -/
theorem row_mod (t : ℕ) (r : Fin 128) (h : (128 * t + r.val) % 128 < 128) : (⟨(128 * t + r.val) % 128, h⟩ : Fin 128) = r :=
  Fin.ext (by show (128 * t + r.val) % 128 = r.val; omega)

/-- The token that row belongs to. -/
theorem row_div (t : ℕ) (r : Fin 128) : (128 * t + r.val) / 128 = t := by omega

/-- What window 0's block at a point holds, in the array's own indices. -/
theorem iblk0_at (c : Dev nD) (t : Fin cfg0.N) (r : Fin 128) (l : Fin 1024) :
    (iblk m c 0 t : S128x1024.Idx → EReal) (ix2 r l) = (m ((c : Thread nD τ).loc main_arg0) : S128x4x1024.Idx → EReal) (ix3 r ⟨t.val, lt_of_lt_of_eq t.isLt N_0⟩ l) := by
  have ht : t.val < 4 := lt_of_lt_of_eq t.isLt N_0
  obtain ⟨h0, h1, h2, h3, h4, h5, h6, h7⟩ := in_idx t
  have e := V38_at m c (⟨128 * t.val + r, by omega⟩ : Fin 512) l
  simp only [row_mod, row_div] at e
  refine Eq.trans ?_ e
  unfold iblk
  rw [View.read_apply]
  show V m c main_v38 _ = V m c main_v38 _
  congr 1
  funext a
  apply Fin.ext
  match a with
  | ⟨0, _⟩ => show win0_0.index t 0 * 128 + 1 * _ = _; rw [h0]; show t.val * 128 + 1 * r.val = 128 * t.val + r.val; omega
  | ⟨1, _⟩ => show win0_0.index t 1 * 1024 + 1 * _ = _; rw [h0]; show 0 * 1024 + 1 * l.val = l.val; omega

/-- What window 1's block at a point holds, in the array's own indices. -/
theorem iblk1_at (c : Dev nD) (t : Fin cfg0.N) (r : Fin 128) (l : Fin 1024) :
    (iblk m c 1 t : S1x128x1024.Idx → EReal) (ix3 0 r l) = (m ((c : Thread nD τ).loc main_arg1) : S128x3x3x1024.Idx → EReal) (ix4 r 1 0 l) := by
  have ht : t.val < 4 := lt_of_lt_of_eq t.isLt N_0
  obtain ⟨h0, h1, h2, h3, h4, h5, h6, h7⟩ := in_idx t
  have e := V40_at m c r l
  refine Eq.trans ?_ e
  unfold iblk
  rw [View.read_apply]
  show V m c main_v40 _ = V m c main_v40 _
  congr 1
  funext a
  apply Fin.ext
  match a with
  | ⟨0, _⟩ => show win0_1.index t 0 * 1 + 1 * _ = _; rw [h1]; show 0 * 1 + 1 * 0 = 0; omega
  | ⟨1, _⟩ => show win0_1.index t 1 * 128 + 1 * _ = _; rw [h1]; show 0 * 128 + 1 * r.val = r.val; omega
  | ⟨2, _⟩ => show win0_1.index t 2 * 1024 + 1 * _ = _; rw [h1]; show 0 * 1024 + 1 * l.val = l.val; omega

/-- What window 2's block at a point holds, in the array's own indices. -/
theorem iblk2_at (c : Dev nD) (t : Fin cfg0.N) (r : Fin 128) (l : Fin 1024) :
    (iblk m c 2 t : S1x128x1024.Idx → EReal) (ix3 0 r l) = (m ((c : Thread nD τ).loc main_arg1) : S128x3x3x1024.Idx → EReal) (ix4 r 1 1 l) := by
  have ht : t.val < 4 := lt_of_lt_of_eq t.isLt N_0
  obtain ⟨h0, h1, h2, h3, h4, h5, h6, h7⟩ := in_idx t
  have e := V42_at m c r l
  refine Eq.trans ?_ e
  unfold iblk
  rw [View.read_apply]
  show V m c main_v42 _ = V m c main_v42 _
  congr 1
  funext a
  apply Fin.ext
  match a with
  | ⟨0, _⟩ => show win0_2.index t 0 * 1 + 1 * _ = _; rw [h2]; show 0 * 1 + 1 * 0 = 0; omega
  | ⟨1, _⟩ => show win0_2.index t 1 * 128 + 1 * _ = _; rw [h2]; show 0 * 128 + 1 * r.val = r.val; omega
  | ⟨2, _⟩ => show win0_2.index t 2 * 1024 + 1 * _ = _; rw [h2]; show 0 * 1024 + 1 * l.val = l.val; omega

/-- What window 3's block at a point holds, in the array's own indices. -/
theorem iblk3_at (c : Dev nD) (t : Fin cfg0.N) (l : Fin 1024) :
    (iblk m c 3 t : S1x1024.Idx → EReal) (ix2 0 l) = (m ((c : Thread nD τ).loc main_arg2) : S3x1024.Idx → EReal) (ix2 1 l) := by
  have ht : t.val < 4 := lt_of_lt_of_eq t.isLt N_0
  obtain ⟨h0, h1, h2, h3, h4, h5, h6, h7⟩ := in_idx t
  have e := V43_at m c l
  refine Eq.trans ?_ e
  unfold iblk
  rw [View.read_apply]
  show V m c main_v43 _ = V m c main_v43 _
  congr 1
  funext a
  apply Fin.ext
  match a with
  | ⟨0, _⟩ => show win0_3.index t 0 * 1 + 1 * _ = _; rw [h3]; show 0 * 1 + 1 * 0 = 0; omega
  | ⟨1, _⟩ => show win0_3.index t 1 * 1024 + 1 * _ = _; rw [h3]; show 0 * 1024 + 1 * l.val = l.val; omega

/-- What window 4's block at a point holds, in the array's own indices. -/
theorem iblk4_at (c : Dev nD) (t : Fin cfg0.N) (k : Fin 1024) (j : Fin 2688) :
    (iblk m c 4 t : S1024x2688.Idx → EReal) (ix2 k j) = packed (fun n => (m ((c : Thread nD τ).loc main_arg3) : S1024x2628.Idx → EReal) (ix2 k n)) j.val := by
  have ht : t.val < 4 := lt_of_lt_of_eq t.isLt N_0
  obtain ⟨h0, h1, h2, h3, h4, h5, h6, h7⟩ := in_idx t
  have e := V48_at m c k j
  refine Eq.trans ?_ e
  unfold iblk
  rw [View.read_apply]
  show V m c main_v48 _ = V m c main_v48 _
  congr 1
  funext a
  apply Fin.ext
  match a with
  | ⟨0, _⟩ => show win0_4.index t 0 * 1024 + 1 * _ = _; rw [h4]; show 0 * 1024 + 1 * k.val = k.val; omega
  | ⟨1, _⟩ => show win0_4.index t 1 * 2688 + 1 * _ = _; rw [h4]; show 0 * 2688 + 1 * j.val = j.val; omega

/-- What window 5's block at a point holds, in the array's own indices. -/
theorem iblk5_at (c : Dev nD) (t : Fin cfg0.N) (r : Fin 128) (l : Fin 128) :
    (iblk m c 5 t : S128x128.Idx → EReal) (ix2 r l) = tabC (8192 + t.val) l.val := by
  have ht : t.val < 4 := lt_of_lt_of_eq t.isLt N_0
  obtain ⟨h0, h1, h2, h3, h4, h5, h6, h7⟩ := in_idx t
  have e := V30_at m c (⟨128 * t.val + r, by omega⟩ : Fin 512) l
  simp only [row_mod, row_div] at e
  refine Eq.trans ?_ e
  unfold iblk
  rw [View.read_apply]
  show V m c main_v30 _ = V m c main_v30 _
  congr 1
  funext a
  apply Fin.ext
  match a with
  | ⟨0, _⟩ => show win0_5.index t 0 * 128 + 1 * _ = _; rw [h5]; show t.val * 128 + 1 * r.val = 128 * t.val + r.val; omega
  | ⟨1, _⟩ => show win0_5.index t 1 * 128 + 1 * _ = _; rw [h5]; show 0 * 128 + 1 * l.val = l.val; omega

/-- What window 6's block at a point holds, in the array's own indices. -/
theorem iblk6_at (c : Dev nD) (t : Fin cfg0.N) (r : Fin 128) (l : Fin 128) :
    (iblk m c 6 t : S128x128.Idx → EReal) (ix2 r l) = tabS (8192 + t.val) l.val := by
  have ht : t.val < 4 := lt_of_lt_of_eq t.isLt N_0
  obtain ⟨h0, h1, h2, h3, h4, h5, h6, h7⟩ := in_idx t
  have e := V33_at m c (⟨128 * t.val + r, by omega⟩ : Fin 512) l
  simp only [row_mod, row_div] at e
  refine Eq.trans ?_ e
  unfold iblk
  rw [View.read_apply]
  show V m c main_v33 _ = V m c main_v33 _
  congr 1
  funext a
  apply Fin.ext
  match a with
  | ⟨0, _⟩ => show win0_6.index t 0 * 128 + 1 * _ = _; rw [h6]; show t.val * 128 + 1 * r.val = 128 * t.val + r.val; omega
  | ⟨1, _⟩ => show win0_6.index t 1 * 128 + 1 * _ = _; rw [h6]; show 0 * 128 + 1 * l.val = l.val; omega

/-- What window 7's block at a point holds, in the array's own indices. -/
theorem iblk7_at (c : Dev nD) (t : Fin cfg0.N) (r : Fin 128) (l : Fin 128) :
    (iblk m c 7 t : S128x128.Idx → EReal) (ix2 r l) = tabT (8192 + t.val) l.val := by
  have ht : t.val < 4 := lt_of_lt_of_eq t.isLt N_0
  obtain ⟨h0, h1, h2, h3, h4, h5, h6, h7⟩ := in_idx t
  have e := V36_at m c (⟨128 * t.val + r, by omega⟩ : Fin 512) l
  simp only [row_mod, row_div] at e
  refine Eq.trans ?_ e
  unfold iblk
  rw [View.read_apply]
  show V m c main_v36 _ = V m c main_v36 _
  congr 1
  funext a
  apply Fin.ext
  match a with
  | ⟨0, _⟩ => show win0_7.index t 0 * 128 + 1 * _ = _; rw [h7]; show t.val * 128 + 1 * r.val = 128 * t.val + r.val; omega
  | ⟨1, _⟩ => show win0_7.index t 1 * 128 + 1 * _ = _; rw [h7]; show 0 * 128 + 1 * l.val = l.val; omega

/-- The pre-normed row of token `p` of sequence `b`. -/
def pre (c : Dev nD) (b : Fin 128) (p : Fin 4) : Fin 1024 → EReal :=
  prenorm (fun k => (m ((c : Thread nD τ).loc main_arg0) : S128x4x1024.Idx → EReal) (ix3 b p k)) (fun k => (m ((c : Thread nD τ).loc main_arg2) : S3x1024.Idx → EReal) (ix2 1 k))
    (fun k => (m ((c : Thread nD τ).loc main_arg1) : S128x3x3x1024.Idx → EReal) (ix4 b 1 1 k)) (fun k => (m ((c : Thread nD τ).loc main_arg1) : S128x3x3x1024.Idx → EReal) (ix4 b 1 0 k))

/-- The pre-normed row at row `R` of the rows laid token by token. -/
def preRow (c : Dev nD) (R : Fin 512) : Fin 1024 → EReal := pre m c ⟨R % 128, by omega⟩ ⟨R / 128, by omega⟩

/-- The weights. -/
def wts (c : Dev nD) (k : Fin 1024) (n : Fin 2628) : EReal := (m ((c : Thread nD τ).loc main_arg3) : S1024x2628.Idx → EReal) (ix2 k n)

/-- What a point's blocks hold. -/
theorem holds (c : Dev nD) (t : Fin cfg0.N) :
    Holds (iblk m c 0 t) (iblk m c 1 t) (iblk m c 2 t) (iblk m c 3 t) (iblk m c 4 t) (iblk m c 5 t) (iblk m c 6 t) (iblk m c 7 t)
      (fun r => preRow m c ⟨128 * t.val + r, by have := t.isLt; have : cfg0.N = 4 := N_0; omega⟩) (wts m c) (fun r => 8192 + (128 * t.val + r.val) / 128) where
  rows r l := by
    have ht : t.val < 4 := lt_of_lt_of_eq t.isLt N_0
    have e1 : (⟨(128 * t.val + r.val) % 128, by omega⟩ : Fin 128) = r := row_mod t.val r _
    have e2 : (⟨(128 * t.val + r.val) / 128, by omega⟩ : Fin 4) = ⟨t.val, ht⟩ := Fin.ext (row_div t.val r)
    show _ = pre m c ⟨(128 * t.val + r.val) % 128, by omega⟩ ⟨(128 * t.val + r.val) / 128, by omega⟩ l
    rw [e1, e2]
    simp only [iblk0_at, iblk1_at, iblk2_at, iblk3_at]
    rfl
  weights k j := iblk4_at m c t k j
  tableC r l := by simp only [row_div]; exact iblk5_at m c t r l
  tableS r l := by simp only [row_div]; exact iblk6_at m c t r l
  tableT r l := by simp only [row_div]; exact iblk7_at m c t r l

/-! ## The nine results -/

/-- The queries, as a function of the arguments. -/
def result8 (c : Dev nD) : S8x512x128.Idx → EReal := fun i => qAt (preRow m c (i 1)) (wts m c) (8192 + (i 1).val / 128) (i 0).val (i 2).val

/-- What a point writes back to that array is its block of it. -/
theorem flushed8_eq (c : Dev nD) (t : Fin cfg0.N) :
    (dats m 0 c).flushed 8 t = ((cfg0.win 8).blk t).view.read (Elt Ideal) (result8 m c : S8x512x128.Idx → EReal) := by
  have ht : t.val < 4 := lt_of_lt_of_eq t.isLt N_0
  rw [Value.flushed8]
  funext y
  obtain ⟨h, r, l, rfl⟩ : ∃ (h : Fin 8) (r : Fin 128) (l : Fin 128), y = ix3 h r l := ⟨y 0, y 1, y 2, eq_ix3 (n0 := 8) (n1 := 128) (n2 := 128) y⟩
  rw [View.read_apply]
  have hi : ((cfg0.win 8).blk t).view.emb (ix3 h r l) = (ix3 h (⟨128 * t.val + r, by omega⟩ : Fin 512) l : S8x512x128.Idx) := by
    obtain ⟨h8, h9, h10, h11, h12, h13, h14, h15, h16⟩ := out_idx t
    funext a
    apply Fin.ext
    match a with
    | ⟨0, _⟩ => show win0_8.index t 0 * 8 + 1 * _ = _; rw [h8]; show 0 * 8 + 1 * h.val = h.val; omega
    | ⟨1, _⟩ => show win0_8.index t 1 * 128 + 1 * _ = _; rw [h8]; show t.val * 128 + 1 * r.val = 128 * t.val + r.val; omega
    | ⟨2, _⟩ => show win0_8.index t 2 * 128 + 1 * _ = _; rw [h8]; show 0 * 128 + 1 * l.val = l.val; omega
  rw [hi]
  exact out8_at (holds m c t) h r l

/-- Every element of that array is in some point's block. -/
theorem cover8 (i : S8x512x128.Idx) : ∃ t : Fin cfg0.N, (cfg0.win 8).flush t = true ∧ i ∈ ((cfg0.win 8).blk t).view.set := by
  have h0 : (i 0 : Nat) < 8 := (i 0).isLt
  have h1 : (i 1 : Nat) < 512 := (i 1).isLt
  have h2 : (i 2 : Nat) < 128 := (i 2).isLt
  have hN : cfg0.N = 4 := N_0
  let t : Fin cfg0.N := ⟨(i 1 : Nat) / 128, by omega⟩
  refine ⟨t, flush0_8 t, ?_⟩
  obtain ⟨e8, e9, e10, e11, e12, e13, e14, e15, e16⟩ := out_idx t
  show i ∈ ((View.whole main_v49_0).slice (win0_8.rect t)).set
  rw [View.set_slice_whole, Rect.mem_set_unit]
  intro a
  match a with
  | ⟨0, _⟩ => show win0_8.index t 0 * 8 ≤ (i 0 : Nat) ∧ (i 0 : Nat) < win0_8.index t 0 * 8 + 8
              rw [e8]; show 0 * 8 ≤ (i 0 : Nat) ∧ (i 0 : Nat) < 0 * 8 + 8; omega
  | ⟨1, _⟩ => show win0_8.index t 1 * 128 ≤ (i 1 : Nat) ∧ (i 1 : Nat) < win0_8.index t 1 * 128 + 128
              rw [e8]; show (i 1 : Nat) / 128 * 128 ≤ (i 1 : Nat) ∧ (i 1 : Nat) < (i 1 : Nat) / 128 * 128 + 128; omega
  | ⟨2, _⟩ => show win0_8.index t 2 * 128 ≤ (i 2 : Nat) ∧ (i 2 : Nat) < win0_8.index t 2 * 128 + 128
              rw [e8]; show 0 * 128 ≤ (i 2 : Nat) ∧ (i 2 : Nat) < 0 * 128 + 128; omega

/-- So that array ends holding it. -/
theorem final8 (c : Dev nD) : (dats m 0 c).arrAt 8 cfg0.N = (result8 m c : S8x512x128.Idx → EReal) :=
  (dats m 0 c).arrAt_eq_of_cover 8 (result8 m c) (fun t _ => flushed8_eq m c t) cover8

/-- The keys, channels first, as a function of the arguments. -/
def result9 (c : Dev nD) : S1x128x512.Idx → EReal := fun i => kAt (preRow m c (i 2)) (wts m c) (8192 + (i 2).val / 128) (i 1).val

/-- What a point writes back to that array is its block of it. -/
theorem flushed9_eq (c : Dev nD) (t : Fin cfg0.N) :
    (dats m 0 c).flushed 9 t = ((cfg0.win 9).blk t).view.read (Elt Ideal) (result9 m c : S1x128x512.Idx → EReal) := by
  have ht : t.val < 4 := lt_of_lt_of_eq t.isLt N_0
  rw [Value.flushed9]
  funext y
  obtain ⟨u, l, r, rfl⟩ : ∃ (u : Fin 1) (l : Fin 128) (r : Fin 128), y = ix3 u l r := ⟨y 0, y 1, y 2, eq_ix3 (n0 := 1) (n1 := 128) (n2 := 128) y⟩
  obtain rfl : u = 0 := Subsingleton.elim _ _
  rw [View.read_apply]
  have hi : ((cfg0.win 9).blk t).view.emb (ix3 0 l r) = (ix3 0 l (⟨128 * t.val + r, by omega⟩ : Fin 512) : S1x128x512.Idx) := by
    obtain ⟨h8, h9, h10, h11, h12, h13, h14, h15, h16⟩ := out_idx t
    funext a
    apply Fin.ext
    match a with
    | ⟨0, _⟩ => show win0_9.index t 0 * 1 + 1 * _ = _; rw [h9]; show 0 * 1 + 1 * 0 = 0; omega
    | ⟨1, _⟩ => show win0_9.index t 1 * 128 + 1 * _ = _; rw [h9]; show 0 * 128 + 1 * l.val = l.val; omega
    | ⟨2, _⟩ => show win0_9.index t 2 * 128 + 1 * _ = _; rw [h9]; show t.val * 128 + 1 * r.val = 128 * t.val + r.val; omega
  rw [hi]
  exact out9_at (holds m c t) r l

/-- Every element of that array is in some point's block. -/
theorem cover9 (i : S1x128x512.Idx) : ∃ t : Fin cfg0.N, (cfg0.win 9).flush t = true ∧ i ∈ ((cfg0.win 9).blk t).view.set := by
  have h0 : (i 0 : Nat) < 1 := (i 0).isLt
  have h1 : (i 1 : Nat) < 128 := (i 1).isLt
  have h2 : (i 2 : Nat) < 512 := (i 2).isLt
  have hN : cfg0.N = 4 := N_0
  let t : Fin cfg0.N := ⟨(i 2 : Nat) / 128, by omega⟩
  refine ⟨t, flush0_9 t, ?_⟩
  obtain ⟨e8, e9, e10, e11, e12, e13, e14, e15, e16⟩ := out_idx t
  show i ∈ ((View.whole main_v49_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [e9]; show 0 * 1 ≤ (i 0 : Nat) ∧ (i 0 : Nat) < 0 * 1 + 1; omega
  | ⟨1, _⟩ => show win0_9.index t 1 * 128 ≤ (i 1 : Nat) ∧ (i 1 : Nat) < win0_9.index t 1 * 128 + 128
              rw [e9]; show 0 * 128 ≤ (i 1 : Nat) ∧ (i 1 : Nat) < 0 * 128 + 128; omega
  | ⟨2, _⟩ => show win0_9.index t 2 * 128 ≤ (i 2 : Nat) ∧ (i 2 : Nat) < win0_9.index t 2 * 128 + 128
              rw [e9]; show (i 2 : Nat) / 128 * 128 ≤ (i 2 : Nat) ∧ (i 2 : Nat) < (i 2 : Nat) / 128 * 128 + 128; omega

/-- So that array ends holding it. -/
theorem final9 (c : Dev nD) : (dats m 0 c).arrAt 9 cfg0.N = (result9 m c : S1x128x512.Idx → EReal) :=
  (dats m 0 c).arrAt_eq_of_cover 9 (result9 m c) (fun t _ => flushed9_eq m c t) cover9

/-- The values, channels first, as a function of the arguments. -/
def result10 (c : Dev nD) : S1x128x512.Idx → EReal := fun i => vAt (preRow m c (i 2)) (wts m c) (i 1).val

/-- What a point writes back to that array is its block of it. -/
theorem flushed10_eq (c : Dev nD) (t : Fin cfg0.N) :
    (dats m 0 c).flushed 10 t = ((cfg0.win 10).blk t).view.read (Elt Ideal) (result10 m c : S1x128x512.Idx → EReal) := by
  have ht : t.val < 4 := lt_of_lt_of_eq t.isLt N_0
  rw [Value.flushed10]
  funext y
  obtain ⟨u, l, r, rfl⟩ : ∃ (u : Fin 1) (l : Fin 128) (r : Fin 128), y = ix3 u l r := ⟨y 0, y 1, y 2, eq_ix3 (n0 := 1) (n1 := 128) (n2 := 128) y⟩
  obtain rfl : u = 0 := Subsingleton.elim _ _
  rw [View.read_apply]
  have hi : ((cfg0.win 10).blk t).view.emb (ix3 0 l r) = (ix3 0 l (⟨128 * t.val + r, by omega⟩ : Fin 512) : S1x128x512.Idx) := by
    obtain ⟨h8, h9, h10, h11, h12, h13, h14, h15, h16⟩ := out_idx t
    funext a
    apply Fin.ext
    match a with
    | ⟨0, _⟩ => show win0_10.index t 0 * 1 + 1 * _ = _; rw [h10]; show 0 * 1 + 1 * 0 = 0; omega
    | ⟨1, _⟩ => show win0_10.index t 1 * 128 + 1 * _ = _; rw [h10]; show 0 * 128 + 1 * l.val = l.val; omega
    | ⟨2, _⟩ => show win0_10.index t 2 * 128 + 1 * _ = _; rw [h10]; show t.val * 128 + 1 * r.val = 128 * t.val + r.val; omega
  rw [hi]
  exact out10_at (holds m c t) r l

/-- Every element of that array is in some point's block. -/
theorem cover10 (i : S1x128x512.Idx) : ∃ t : Fin cfg0.N, (cfg0.win 10).flush t = true ∧ i ∈ ((cfg0.win 10).blk t).view.set := by
  have h0 : (i 0 : Nat) < 1 := (i 0).isLt
  have h1 : (i 1 : Nat) < 128 := (i 1).isLt
  have h2 : (i 2 : Nat) < 512 := (i 2).isLt
  have hN : cfg0.N = 4 := N_0
  let t : Fin cfg0.N := ⟨(i 2 : Nat) / 128, by omega⟩
  refine ⟨t, flush0_10 t, ?_⟩
  obtain ⟨e8, e9, e10, e11, e12, e13, e14, e15, e16⟩ := out_idx t
  show i ∈ ((View.whole main_v49_2).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1
              rw [e10]; show 0 * 1 ≤ (i 0 : Nat) ∧ (i 0 : Nat) < 0 * 1 + 1; omega
  | ⟨1, _⟩ => show win0_10.index t 1 * 128 ≤ (i 1 : Nat) ∧ (i 1 : Nat) < win0_10.index t 1 * 128 + 128
              rw [e10]; show 0 * 128 ≤ (i 1 : Nat) ∧ (i 1 : Nat) < 0 * 128 + 128; omega
  | ⟨2, _⟩ => show win0_10.index t 2 * 128 ≤ (i 2 : Nat) ∧ (i 2 : Nat) < win0_10.index t 2 * 128 + 128
              rw [e10]; show (i 2 : Nat) / 128 * 128 ≤ (i 2 : Nat) ∧ (i 2 : Nat) < (i 2 : Nat) / 128 * 128 + 128; omega

/-- So that array ends holding it. -/
theorem final10 (c : Dev nD) : (dats m 0 c).arrAt 10 cfg0.N = (result10 m c : S1x128x512.Idx → EReal) :=
  (dats m 0 c).arrAt_eq_of_cover 10 (result10 m c) (fun t _ => flushed10_eq m c t) cover10

/-- The values, row by row, as a function of the arguments. -/
def result11 (c : Dev nD) : S512x128.Idx → EReal := fun i => vAt (preRow m c (i 0)) (wts m c) (i 1).val

/-- What a point writes back to that array is its block of it. -/
theorem flushed11_eq (c : Dev nD) (t : Fin cfg0.N) :
    (dats m 0 c).flushed 11 t = ((cfg0.win 11).blk t).view.read (Elt Ideal) (result11 m c : S512x128.Idx → EReal) := by
  have ht : t.val < 4 := lt_of_lt_of_eq t.isLt N_0
  rw [Value.flushed11]
  funext y
  obtain ⟨r, l, rfl⟩ : ∃ (r : Fin 128) (l : Fin 128), y = ix2 r l := ⟨y 0, y 1, eq_ix2 (n0 := 128) (n1 := 128) y⟩
  rw [View.read_apply]
  have hi : ((cfg0.win 11).blk t).view.emb (ix2 r l) = (ix2 (⟨128 * t.val + r, by omega⟩ : Fin 512) l : S512x128.Idx) := by
    obtain ⟨h8, h9, h10, h11, h12, h13, h14, h15, h16⟩ := out_idx t
    funext a
    apply Fin.ext
    match a with
    | ⟨0, _⟩ => show win0_11.index t 0 * 128 + 1 * _ = _; rw [h11]; show t.val * 128 + 1 * r.val = 128 * t.val + r.val; omega
    | ⟨1, _⟩ => show win0_11.index t 1 * 128 + 1 * _ = _; rw [h11]; show 0 * 128 + 1 * l.val = l.val; omega
  rw [hi]
  exact out11_at (holds m c t) r l

/-- Every element of that array is in some point's block. -/
theorem cover11 (i : S512x128.Idx) : ∃ t : Fin cfg0.N, (cfg0.win 11).flush t = true ∧ i ∈ ((cfg0.win 11).blk t).view.set := by
  have h0 : (i 0 : Nat) < 512 := (i 0).isLt
  have h1 : (i 1 : Nat) < 128 := (i 1).isLt
  have hN : cfg0.N = 4 := N_0
  let t : Fin cfg0.N := ⟨(i 0 : Nat) / 128, by omega⟩
  refine ⟨t, flush0_11 t, ?_⟩
  obtain ⟨e8, e9, e10, e11, e12, e13, e14, e15, e16⟩ := out_idx t
  show i ∈ ((View.whole main_v49_3).slice (win0_11.rect t)).set
  rw [View.set_slice_whole, Rect.mem_set_unit]
  intro a
  match a with
  | ⟨0, _⟩ => show win0_11.index t 0 * 128 ≤ (i 0 : Nat) ∧ (i 0 : Nat) < win0_11.index t 0 * 128 + 128
              rw [e11]; show (i 0 : Nat) / 128 * 128 ≤ (i 0 : Nat) ∧ (i 0 : Nat) < (i 0 : Nat) / 128 * 128 + 128; omega
  | ⟨1, _⟩ => show win0_11.index t 1 * 128 ≤ (i 1 : Nat) ∧ (i 1 : Nat) < win0_11.index t 1 * 128 + 128
              rw [e11]; show 0 * 128 ≤ (i 1 : Nat) ∧ (i 1 : Nat) < 0 * 128 + 128; omega

/-- So that array ends holding it. -/
theorem final11 (c : Dev nD) : (dats m 0 c).arrAt 11 cfg0.N = (result11 m c : S512x128.Idx → EReal) :=
  (dats m 0 c).arrAt_eq_of_cover 11 (result11 m c) (fun t _ => flushed11_eq m c t) cover11

/-- The indexer queries, as a function of the arguments. -/
def result12 (c : Dev nD) : S512x512.Idx → EReal := fun i => qiAt (preRow m c (i 0)) (wts m c) (8192 + (i 0).val / 128) (i 1).val

/-- What a point writes back to that array is its block of it. -/
theorem flushed12_eq (c : Dev nD) (t : Fin cfg0.N) :
    (dats m 0 c).flushed 12 t = ((cfg0.win 12).blk t).view.read (Elt Ideal) (result12 m c : S512x512.Idx → EReal) := by
  have ht : t.val < 4 := lt_of_lt_of_eq t.isLt N_0
  rw [Value.flushed12]
  funext y
  obtain ⟨r, l, rfl⟩ : ∃ (r : Fin 128) (l : Fin 512), y = ix2 r l := ⟨y 0, y 1, eq_ix2 (n0 := 128) (n1 := 512) y⟩
  rw [View.read_apply]
  have hi : ((cfg0.win 12).blk t).view.emb (ix2 r l) = (ix2 (⟨128 * t.val + r, by omega⟩ : Fin 512) l : S512x512.Idx) := by
    obtain ⟨h8, h9, h10, h11, h12, h13, h14, h15, h16⟩ := out_idx t
    funext a
    apply Fin.ext
    match a with
    | ⟨0, _⟩ => show win0_12.index t 0 * 128 + 1 * _ = _; rw [h12]; show t.val * 128 + 1 * r.val = 128 * t.val + r.val; omega
    | ⟨1, _⟩ => show win0_12.index t 1 * 512 + 1 * _ = _; rw [h12]; show 0 * 512 + 1 * l.val = l.val; omega
  rw [hi]
  exact out12_at (holds m c t) r l

/-- Every element of that array is in some point's block. -/
theorem cover12 (i : S512x512.Idx) : ∃ t : Fin cfg0.N, (cfg0.win 12).flush t = true ∧ i ∈ ((cfg0.win 12).blk t).view.set := by
  have h0 : (i 0 : Nat) < 512 := (i 0).isLt
  have h1 : (i 1 : Nat) < 512 := (i 1).isLt
  have hN : cfg0.N = 4 := N_0
  let t : Fin cfg0.N := ⟨(i 0 : Nat) / 128, by omega⟩
  refine ⟨t, flush0_12 t, ?_⟩
  obtain ⟨e8, e9, e10, e11, e12, e13, e14, e15, e16⟩ := out_idx t
  show i ∈ ((View.whole main_v49_4).slice (win0_12.rect t)).set
  rw [View.set_slice_whole, Rect.mem_set_unit]
  intro a
  match a with
  | ⟨0, _⟩ => show win0_12.index t 0 * 128 ≤ (i 0 : Nat) ∧ (i 0 : Nat) < win0_12.index t 0 * 128 + 128
              rw [e12]; show (i 0 : Nat) / 128 * 128 ≤ (i 0 : Nat) ∧ (i 0 : Nat) < (i 0 : Nat) / 128 * 128 + 128; omega
  | ⟨1, _⟩ => show win0_12.index t 1 * 512 ≤ (i 1 : Nat) ∧ (i 1 : Nat) < win0_12.index t 1 * 512 + 512
              rw [e12]; show 0 * 512 ≤ (i 1 : Nat) ∧ (i 1 : Nat) < 0 * 512 + 512; omega

/-- So that array ends holding it. -/
theorem final12 (c : Dev nD) : (dats m 0 c).arrAt 12 cfg0.N = (result12 m c : S512x512.Idx → EReal) :=
  (dats m 0 c).arrAt_eq_of_cover 12 (result12 m c) (fun t _ => flushed12_eq m c t) cover12

/-- The indexer's keys and weights, as a function of the arguments. -/
def result13 (c : Dev nD) : S512x128.Idx → EReal := fun i => kiAt (preRow m c (i 0)) (wts m c) (8192 + (i 0).val / 128) (i 1).val

/-- What a point writes back to that array is its block of it. -/
theorem flushed13_eq (c : Dev nD) (t : Fin cfg0.N) :
    (dats m 0 c).flushed 13 t = ((cfg0.win 13).blk t).view.read (Elt Ideal) (result13 m c : S512x128.Idx → EReal) := by
  have ht : t.val < 4 := lt_of_lt_of_eq t.isLt N_0
  rw [Value.flushed13]
  funext y
  obtain ⟨r, l, rfl⟩ : ∃ (r : Fin 128) (l : Fin 128), y = ix2 r l := ⟨y 0, y 1, eq_ix2 (n0 := 128) (n1 := 128) y⟩
  rw [View.read_apply]
  have hi : ((cfg0.win 13).blk t).view.emb (ix2 r l) = (ix2 (⟨128 * t.val + r, by omega⟩ : Fin 512) l : S512x128.Idx) := by
    obtain ⟨h8, h9, h10, h11, h12, h13, h14, h15, h16⟩ := out_idx t
    funext a
    apply Fin.ext
    match a with
    | ⟨0, _⟩ => show win0_13.index t 0 * 128 + 1 * _ = _; rw [h13]; show t.val * 128 + 1 * r.val = 128 * t.val + r.val; omega
    | ⟨1, _⟩ => show win0_13.index t 1 * 128 + 1 * _ = _; rw [h13]; show 0 * 128 + 1 * l.val = l.val; omega
  rw [hi]
  exact out13_at (holds m c t) r l

/-- Every element of that array is in some point's block. -/
theorem cover13 (i : S512x128.Idx) : ∃ t : Fin cfg0.N, (cfg0.win 13).flush t = true ∧ i ∈ ((cfg0.win 13).blk t).view.set := by
  have h0 : (i 0 : Nat) < 512 := (i 0).isLt
  have h1 : (i 1 : Nat) < 128 := (i 1).isLt
  have hN : cfg0.N = 4 := N_0
  let t : Fin cfg0.N := ⟨(i 0 : Nat) / 128, by omega⟩
  refine ⟨t, flush0_13 t, ?_⟩
  obtain ⟨e8, e9, e10, e11, e12, e13, e14, e15, e16⟩ := out_idx t
  show i ∈ ((View.whole main_v49_5).slice (win0_13.rect t)).set
  rw [View.set_slice_whole, Rect.mem_set_unit]
  intro a
  match a with
  | ⟨0, _⟩ => show win0_13.index t 0 * 128 ≤ (i 0 : Nat) ∧ (i 0 : Nat) < win0_13.index t 0 * 128 + 128
              rw [e13]; show (i 0 : Nat) / 128 * 128 ≤ (i 0 : Nat) ∧ (i 0 : Nat) < (i 0 : Nat) / 128 * 128 + 128; omega
  | ⟨1, _⟩ => show win0_13.index t 1 * 128 ≤ (i 1 : Nat) ∧ (i 1 : Nat) < win0_13.index t 1 * 128 + 128
              rw [e13]; show 0 * 128 ≤ (i 1 : Nat) ∧ (i 1 : Nat) < 0 * 128 + 128; omega

/-- So that array ends holding it. -/
theorem final13 (c : Dev nD) : (dats m 0 c).arrAt 13 cfg0.N = (result13 m c : S512x128.Idx → EReal) :=
  (dats m 0 c).arrAt_eq_of_cover 13 (result13 m c) (fun t _ => flushed13_eq m c t) cover13

/-- The indexer's keys and weights, channels first, as a function of the arguments. -/
def result14 (c : Dev nD) : S1x128x512.Idx → EReal := fun i => kiAt (preRow m c (i 2)) (wts m c) (8192 + (i 2).val / 128) (i 1).val

/-- What a point writes back to that array is its block of it. -/
theorem flushed14_eq (c : Dev nD) (t : Fin cfg0.N) :
    (dats m 0 c).flushed 14 t = ((cfg0.win 14).blk t).view.read (Elt Ideal) (result14 m c : S1x128x512.Idx → EReal) := by
  have ht : t.val < 4 := lt_of_lt_of_eq t.isLt N_0
  rw [Value.flushed14]
  funext y
  obtain ⟨u, l, r, rfl⟩ : ∃ (u : Fin 1) (l : Fin 128) (r : Fin 128), y = ix3 u l r := ⟨y 0, y 1, y 2, eq_ix3 (n0 := 1) (n1 := 128) (n2 := 128) y⟩
  obtain rfl : u = 0 := Subsingleton.elim _ _
  rw [View.read_apply]
  have hi : ((cfg0.win 14).blk t).view.emb (ix3 0 l r) = (ix3 0 l (⟨128 * t.val + r, by omega⟩ : Fin 512) : S1x128x512.Idx) := by
    obtain ⟨h8, h9, h10, h11, h12, h13, h14, h15, h16⟩ := out_idx t
    funext a
    apply Fin.ext
    match a with
    | ⟨0, _⟩ => show win0_14.index t 0 * 1 + 1 * _ = _; rw [h14]; show 0 * 1 + 1 * 0 = 0; omega
    | ⟨1, _⟩ => show win0_14.index t 1 * 128 + 1 * _ = _; rw [h14]; show 0 * 128 + 1 * l.val = l.val; omega
    | ⟨2, _⟩ => show win0_14.index t 2 * 128 + 1 * _ = _; rw [h14]; show t.val * 128 + 1 * r.val = 128 * t.val + r.val; omega
  rw [hi]
  exact out14_at (holds m c t) r l

/-- Every element of that array is in some point's block. -/
theorem cover14 (i : S1x128x512.Idx) : ∃ t : Fin cfg0.N, (cfg0.win 14).flush t = true ∧ i ∈ ((cfg0.win 14).blk t).view.set := by
  have h0 : (i 0 : Nat) < 1 := (i 0).isLt
  have h1 : (i 1 : Nat) < 128 := (i 1).isLt
  have h2 : (i 2 : Nat) < 512 := (i 2).isLt
  have hN : cfg0.N = 4 := N_0
  let t : Fin cfg0.N := ⟨(i 2 : Nat) / 128, by omega⟩
  refine ⟨t, flush0_14 t, ?_⟩
  obtain ⟨e8, e9, e10, e11, e12, e13, e14, e15, e16⟩ := out_idx t
  show i ∈ ((View.whole main_v49_6).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + 1
              rw [e14]; show 0 * 1 ≤ (i 0 : Nat) ∧ (i 0 : Nat) < 0 * 1 + 1; omega
  | ⟨1, _⟩ => show win0_14.index t 1 * 128 ≤ (i 1 : Nat) ∧ (i 1 : Nat) < win0_14.index t 1 * 128 + 128
              rw [e14]; show 0 * 128 ≤ (i 1 : Nat) ∧ (i 1 : Nat) < 0 * 128 + 128; omega
  | ⟨2, _⟩ => show win0_14.index t 2 * 128 ≤ (i 2 : Nat) ∧ (i 2 : Nat) < win0_14.index t 2 * 128 + 128
              rw [e14]; show (i 2 : Nat) / 128 * 128 ≤ (i 2 : Nat) ∧ (i 2 : Nat) < (i 2 : Nat) / 128 * 128 + 128; omega

/-- So that array ends holding it. -/
theorem final14 (c : Dev nD) : (dats m 0 c).arrAt 14 cfg0.N = (result14 m c : S1x128x512.Idx → EReal) :=
  (dats m 0 c).arrAt_eq_of_cover 14 (result14 m c) (fun t _ => flushed14_eq m c t) cover14

/-- The convolution branch's gate, as a function of the arguments. -/
def result15 (c : Dev nD) : S512x512.Idx → EReal := fun i => gbAt (preRow m c (i 0)) (wts m c) (i 1).val

/-- What a point writes back to that array is its block of it. -/
theorem flushed15_eq (c : Dev nD) (t : Fin cfg0.N) :
    (dats m 0 c).flushed 15 t = ((cfg0.win 15).blk t).view.read (Elt Ideal) (result15 m c : S512x512.Idx → EReal) := by
  have ht : t.val < 4 := lt_of_lt_of_eq t.isLt N_0
  rw [Value.flushed15]
  funext y
  obtain ⟨r, l, rfl⟩ : ∃ (r : Fin 128) (l : Fin 512), y = ix2 r l := ⟨y 0, y 1, eq_ix2 (n0 := 128) (n1 := 512) y⟩
  rw [View.read_apply]
  have hi : ((cfg0.win 15).blk t).view.emb (ix2 r l) = (ix2 (⟨128 * t.val + r, by omega⟩ : Fin 512) l : S512x512.Idx) := by
    obtain ⟨h8, h9, h10, h11, h12, h13, h14, h15, h16⟩ := out_idx t
    funext a
    apply Fin.ext
    match a with
    | ⟨0, _⟩ => show win0_15.index t 0 * 128 + 1 * _ = _; rw [h15]; show t.val * 128 + 1 * r.val = 128 * t.val + r.val; omega
    | ⟨1, _⟩ => show win0_15.index t 1 * 512 + 1 * _ = _; rw [h15]; show 0 * 512 + 1 * l.val = l.val; omega
  rw [hi]
  exact out15_at (holds m c t) r l

/-- Every element of that array is in some point's block. -/
theorem cover15 (i : S512x512.Idx) : ∃ t : Fin cfg0.N, (cfg0.win 15).flush t = true ∧ i ∈ ((cfg0.win 15).blk t).view.set := by
  have h0 : (i 0 : Nat) < 512 := (i 0).isLt
  have h1 : (i 1 : Nat) < 512 := (i 1).isLt
  have hN : cfg0.N = 4 := N_0
  let t : Fin cfg0.N := ⟨(i 0 : Nat) / 128, by omega⟩
  refine ⟨t, flush0_15 t, ?_⟩
  obtain ⟨e8, e9, e10, e11, e12, e13, e14, e15, e16⟩ := out_idx t
  show i ∈ ((View.whole main_v49_7).slice (win0_15.rect t)).set
  rw [View.set_slice_whole, Rect.mem_set_unit]
  intro a
  match a with
  | ⟨0, _⟩ => show win0_15.index t 0 * 128 ≤ (i 0 : Nat) ∧ (i 0 : Nat) < win0_15.index t 0 * 128 + 128
              rw [e15]; show (i 0 : Nat) / 128 * 128 ≤ (i 0 : Nat) ∧ (i 0 : Nat) < (i 0 : Nat) / 128 * 128 + 128; omega
  | ⟨1, _⟩ => show win0_15.index t 1 * 512 ≤ (i 1 : Nat) ∧ (i 1 : Nat) < win0_15.index t 1 * 512 + 512
              rw [e15]; show 0 * 512 ≤ (i 1 : Nat) ∧ (i 1 : Nat) < 0 * 512 + 512; omega

/-- So that array ends holding it. -/
theorem final15 (c : Dev nD) : (dats m 0 c).arrAt 15 cfg0.N = (result15 m c : S512x512.Idx → EReal) :=
  (dats m 0 c).arrAt_eq_of_cover 15 (result15 m c) (fun t _ => flushed15_eq m c t) cover15

/-- The convolution branch's input, as a function of the arguments. -/
def result16 (c : Dev nD) : S512x512.Idx → EReal := fun i => uAt (preRow m c (i 0)) (wts m c) (i 1).val

/-- What a point writes back to that array is its block of it. -/
theorem flushed16_eq (c : Dev nD) (t : Fin cfg0.N) :
    (dats m 0 c).flushed 16 t = ((cfg0.win 16).blk t).view.read (Elt Ideal) (result16 m c : S512x512.Idx → EReal) := by
  have ht : t.val < 4 := lt_of_lt_of_eq t.isLt N_0
  rw [Value.flushed16]
  funext y
  obtain ⟨r, l, rfl⟩ : ∃ (r : Fin 128) (l : Fin 512), y = ix2 r l := ⟨y 0, y 1, eq_ix2 (n0 := 128) (n1 := 512) y⟩
  rw [View.read_apply]
  have hi : ((cfg0.win 16).blk t).view.emb (ix2 r l) = (ix2 (⟨128 * t.val + r, by omega⟩ : Fin 512) l : S512x512.Idx) := by
    obtain ⟨h8, h9, h10, h11, h12, h13, h14, h15, h16⟩ := out_idx t
    funext a
    apply Fin.ext
    match a with
    | ⟨0, _⟩ => show win0_16.index t 0 * 128 + 1 * _ = _; rw [h16]; show t.val * 128 + 1 * r.val = 128 * t.val + r.val; omega
    | ⟨1, _⟩ => show win0_16.index t 1 * 512 + 1 * _ = _; rw [h16]; show 0 * 512 + 1 * l.val = l.val; omega
  rw [hi]
  exact out16_at (holds m c t) r l

/-- Every element of that array is in some point's block. -/
theorem cover16 (i : S512x512.Idx) : ∃ t : Fin cfg0.N, (cfg0.win 16).flush t = true ∧ i ∈ ((cfg0.win 16).blk t).view.set := by
  have h0 : (i 0 : Nat) < 512 := (i 0).isLt
  have h1 : (i 1 : Nat) < 512 := (i 1).isLt
  have hN : cfg0.N = 4 := N_0
  let t : Fin cfg0.N := ⟨(i 0 : Nat) / 128, by omega⟩
  refine ⟨t, flush0_16 t, ?_⟩
  obtain ⟨e8, e9, e10, e11, e12, e13, e14, e15, e16⟩ := out_idx t
  show i ∈ ((View.whole main_v49_8).slice (win0_16.rect t)).set
  rw [View.set_slice_whole, Rect.mem_set_unit]
  intro a
  match a with
  | ⟨0, _⟩ => show win0_16.index t 0 * 128 ≤ (i 0 : Nat) ∧ (i 0 : Nat) < win0_16.index t 0 * 128 + 128
              rw [e16]; show (i 0 : Nat) / 128 * 128 ≤ (i 0 : Nat) ∧ (i 0 : Nat) < (i 0 : Nat) / 128 * 128 + 128; omega
  | ⟨1, _⟩ => show win0_16.index t 1 * 512 ≤ (i 1 : Nat) ∧ (i 1 : Nat) < win0_16.index t 1 * 512 + 512
              rw [e16]; show 0 * 512 ≤ (i 1 : Nat) ∧ (i 1 : Nat) < 0 * 512 + 512; omega

/-- So that array ends holding it. -/
theorem final16 (c : Dev nD) : (dats m 0 c).arrAt 16 cfg0.N = (result16 m c : S512x512.Idx → EReal) :=
  (dats m 0 c).arrAt_eq_of_cover 16 (result16 m c) (fun t _ => flushed16_eq m c t) cover16

end Cert.MixInSKernel
-- ==== Proof.MixInSReference.lean ====
module

public import proofs.«01_k».proof.Proof.MixScalar
public import proofs.«01_k».proof.Proof.Gen.MixInSRefIdeal.Read

@[expose] public section

noncomputable section

namespace Cert.MixInSReference

open Cert.MixInSRefIdeal Cert.MixInSRefIdeal.Gen Cert.MixInSRefIdeal.Read Idealize.ShloMosaic Cert.Layer

variable (x0 : (⟨S128x4x1024, .f32⟩ : BufTy).Contents (Elt Ideal)) (x1 : (⟨S128x3x3x1024, .f32⟩ : BufTy).Contents (Elt Ideal))
  (x2 : (⟨S3x1024, .f32⟩ : BufTy).Contents (Elt Ideal)) (x3 : (⟨S1024x2628, .f32⟩ : BufTy).Contents (Elt Ideal))

/-- The pre-normed row of sequence `b` at position `p`. -/
def pre (b : Fin 128) (p : Fin 4) : Fin 1024 → EReal :=
  prenorm (fun k => x0 (ix3 b p k)) (fun k => x2 (ix2 1 k)) (fun k => x1 (ix4 b 1 1 k)) (fun k => x1 (ix4 b 1 0 k))

/-- The weights. -/
def wts (k : Fin 1024) (n : Fin 2628) : EReal := x3 (ix2 k n)

/-- The position of token `p`: 8192 before it. -/
theorem position (p : Fin 4) : IntOp.addi 8192#32 (BitVec.ofNat 32 p.val) = BitVec.ofNat 32 (8192 + p.val) := by
  revert p
  decide

/-- The pre-normed, modulated row. -/
theorem v26_at (b : Fin 128) (p : Fin 4) (l : Fin 1024) :
    val_main_v26 (F := Ideal) x0 x1 x2 (ix3 b p l) = pre x0 x1 x2 b p l := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, pre, prenorm, rms]

/-- A column of its product with the weights. -/
theorem v30_at (b : Fin 128) (p : Fin 4) (n : Nat) (hn : n < 2628) :
    val_main_v30 (F := Ideal) x0 x1 x2 x3 (ix3 b p ⟨n, hn⟩) = col (pre x0 x1 x2 b p) (wts x3) n := by
  pointwise [val_main_v30]
  simp only [v26_at, col, entry, hn, dif_pos]
  rfl

/-- The table of cosines a head is turned by. -/
theorem v55_at (p : Fin 4) (k : Fin 8) : val_main_v55 (F := Ideal) (ix2 p k) = Ideal.cos (angle (8192 + p.val) k.val) := by
  pointwise [val_main_v55, val_main_v54, val_main_v53, val_main_v52, val_main_v51, val_main_v50, val_main_v49, val_main_v48, val_main_v47, val_main_v46, val_main_v45, val_main_v44, val_main_v43, val_main_v42, val_main_v41, val_main_v29, val_main_v28, val_main_v27, val_main_c, val_main_cst_3, val_main_cst_4, val_main_cst_5, angle]
  rw [position]

/-- The table of sines a head is turned by. -/
theorem v57_at (p : Fin 4) (k : Fin 8) : val_main_v57 (F := Ideal) (ix2 p k) = Ideal.sin (angle (8192 + p.val) k.val) := by
  pointwise [val_main_v57, val_main_v54, val_main_v53, val_main_v52, val_main_v51, val_main_v50, val_main_v49, val_main_v48, val_main_v47, val_main_v46, val_main_v45, val_main_v44, val_main_v43, val_main_v42, val_main_v41, val_main_v29, val_main_v28, val_main_v27, val_main_c, val_main_cst_3, val_main_cst_4, val_main_cst_5, angle]
  rw [position]

/-- A query head, turned. -/
theorem v76_at (b : Fin 128) (p : Fin 4) (h : Fin 8) (d : Fin 64) :
    val_main_v76 (F := Ideal) x0 x1 x2 x3 (ix4 b p h d)
      = rope (8192 + p.val) (fun n => col (pre x0 x1 x2 b p) (wts x3) (64 * h.val + n)) d.val := by
  have e (d : Nat) (hd : d < 64) : val_main_v40 (F := Ideal) x0 x1 x2 x3 (ix4 b p h ⟨d, hd⟩) = col (pre x0 x1 x2 b p) (wts x3) (64 * h.val + d) := by
    have hn : 64 * h.val + d < 2628 := by omega
    refine Eq.trans ?_ (v30_at x0 x1 x2 x3 b p _ hn)
    pointwise [val_main_v40, val_main_v31]
    simp only [show h.val * 64 + d = 64 * h.val + d by omega]
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v56]
  unfold rope
  by_cases h1 : d.val < 8
  · simp only [h1, dif_pos, if_pos, e, v55_at, v57_at]
  by_cases h2 : d.val < 16
  · have h3 : d.val - 8 < 8 := by omega
    have e1 : 8 + (d.val - 8) = d.val := by omega
    simp only [h1, h2, h3, dif_pos, dif_neg, if_pos, if_neg, not_false_eq_true, e, e1, v55_at, v57_at]
  · have h3 : ¬d.val - 8 < 8 := by omega
    have e1 : 16 + (d.val - 8 - 8) = d.val := by omega
    simp only [h1, h2, h3, dif_neg, if_neg, not_false_eq_true, e, e1]

/-- The table of cosines a head is turned by. -/
theorem v92_at (p : Fin 4) (k : Fin 8) : val_main_v92 (F := Ideal) (ix2 p k) = Ideal.cos (angle (8192 + p.val) k.val) := by
  pointwise [val_main_v92, val_main_v91, val_main_v90, val_main_v89, val_main_v88, val_main_v87, val_main_v86, val_main_v85, val_main_v84, val_main_v83, val_main_v82, val_main_v81, val_main_v80, val_main_v79, val_main_v78, val_main_v29, val_main_v28, val_main_v27, val_main_c, val_main_cst_6, val_main_cst_7, val_main_cst_8, angle]
  rw [position]

/-- The table of sines a head is turned by. -/
theorem v94_at (p : Fin 4) (k : Fin 8) : val_main_v94 (F := Ideal) (ix2 p k) = Ideal.sin (angle (8192 + p.val) k.val) := by
  pointwise [val_main_v94, val_main_v91, val_main_v90, val_main_v89, val_main_v88, val_main_v87, val_main_v86, val_main_v85, val_main_v84, val_main_v83, val_main_v82, val_main_v81, val_main_v80, val_main_v79, val_main_v78, val_main_v29, val_main_v28, val_main_v27, val_main_c, val_main_cst_6, val_main_cst_7, val_main_cst_8, angle]
  rw [position]

/-- A key head, turned. -/
theorem v113_at (b : Fin 128) (p : Fin 4) (h : Fin 2) (d : Fin 64) :
    val_main_v113 (F := Ideal) x0 x1 x2 x3 (ix4 b p h d)
      = rope (8192 + p.val) (fun n => col (pre x0 x1 x2 b p) (wts x3) (512 + 64 * h.val + n)) d.val := by
  have e (d : Nat) (hd : d < 64) : val_main_v77 (F := Ideal) x0 x1 x2 x3 (ix4 b p h ⟨d, hd⟩) = col (pre x0 x1 x2 b p) (wts x3) (512 + 64 * h.val + d) := by
    have hn : 512 + 64 * h.val + d < 2628 := by omega
    refine Eq.trans ?_ (v30_at x0 x1 x2 x3 b p _ hn)
    pointwise [val_main_v77, val_main_v32]
    simp only [show 512 + (h.val * 64 + d) = 512 + 64 * h.val + d by omega]
  pointwise [val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v93]
  unfold rope
  by_cases h1 : d.val < 8
  · simp only [h1, dif_pos, if_pos, e, v92_at, v94_at]
  by_cases h2 : d.val < 16
  · have h3 : d.val - 8 < 8 := by omega
    have e1 : 8 + (d.val - 8) = d.val := by omega
    simp only [h1, h2, h3, dif_pos, dif_neg, if_pos, if_neg, not_false_eq_true, e, e1, v92_at, v94_at]
  · have h3 : ¬d.val - 8 < 8 := by omega
    have e1 : 16 + (d.val - 8 - 8) = d.val := by omega
    simp only [h1, h2, h3, dif_neg, if_neg, not_false_eq_true, e, e1]

/-- The table of cosines a head is turned by. -/
theorem v130_at (p : Fin 4) (k : Fin 8) : val_main_v130 (F := Ideal) (ix2 p k) = Ideal.cos (angle (8192 + p.val) k.val) := by
  pointwise [val_main_v130, val_main_v129, val_main_v128, val_main_v127, val_main_v126, val_main_v125, val_main_v124, val_main_v123, val_main_v122, val_main_v121, val_main_v120, val_main_v119, val_main_v118, val_main_v117, val_main_v116, val_main_v29, val_main_v28, val_main_v27, val_main_c, val_main_cst_9, val_main_cst_10, val_main_cst_11, angle]
  rw [position]

/-- The table of sines a head is turned by. -/
theorem v132_at (p : Fin 4) (k : Fin 8) : val_main_v132 (F := Ideal) (ix2 p k) = Ideal.sin (angle (8192 + p.val) k.val) := by
  pointwise [val_main_v132, val_main_v129, val_main_v128, val_main_v127, val_main_v126, val_main_v125, val_main_v124, val_main_v123, val_main_v122, val_main_v121, val_main_v120, val_main_v119, val_main_v118, val_main_v117, val_main_v116, val_main_v29, val_main_v28, val_main_v27, val_main_c, val_main_cst_9, val_main_cst_10, val_main_cst_11, angle]
  rw [position]

/-- An indexer query head, turned. -/
theorem v151_at (b : Fin 128) (p : Fin 4) (h : Fin 4) (d : Fin 64) :
    val_main_v151 (F := Ideal) x0 x1 x2 x3 (ix4 b p h d)
      = rope (8192 + p.val) (fun n => col (pre x0 x1 x2 b p) (wts x3) (768 + 64 * h.val + n)) d.val := by
  have e (d : Nat) (hd : d < 64) : val_main_v115 (F := Ideal) x0 x1 x2 x3 (ix4 b p h ⟨d, hd⟩) = col (pre x0 x1 x2 b p) (wts x3) (768 + 64 * h.val + d) := by
    have hn : 768 + 64 * h.val + d < 2628 := by omega
    refine Eq.trans ?_ (v30_at x0 x1 x2 x3 b p _ hn)
    pointwise [val_main_v115, val_main_v34]
    simp only [show 768 + (h.val * 64 + d) = 768 + 64 * h.val + d by omega]
  pointwise [val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v131]
  unfold rope
  by_cases h1 : d.val < 8
  · simp only [h1, dif_pos, if_pos, e, v130_at, v132_at]
  by_cases h2 : d.val < 16
  · have h3 : d.val - 8 < 8 := by omega
    have e1 : 8 + (d.val - 8) = d.val := by omega
    simp only [h1, h2, h3, dif_pos, dif_neg, if_pos, if_neg, not_false_eq_true, e, e1, v130_at, v132_at]
  · have h3 : ¬d.val - 8 < 8 := by omega
    have e1 : 16 + (d.val - 8 - 8) = d.val := by omega
    simp only [h1, h2, h3, dif_neg, if_neg, not_false_eq_true, e, e1]

/-- The table of cosines a head is turned by. -/
theorem v167_at (p : Fin 4) (k : Fin 8) : val_main_v167 (F := Ideal) (ix2 p k) = Ideal.cos (angle (8192 + p.val) k.val) := by
  pointwise [val_main_v167, val_main_v166, val_main_v165, val_main_v164, val_main_v163, val_main_v162, val_main_v161, val_main_v160, val_main_v159, val_main_v158, val_main_v157, val_main_v156, val_main_v155, val_main_v154, val_main_v153, val_main_v29, val_main_v28, val_main_v27, val_main_c, val_main_cst_12, val_main_cst_13, val_main_cst_14, angle]
  rw [position]

/-- The table of sines a head is turned by. -/
theorem v169_at (p : Fin 4) (k : Fin 8) : val_main_v169 (F := Ideal) (ix2 p k) = Ideal.sin (angle (8192 + p.val) k.val) := by
  pointwise [val_main_v169, val_main_v166, val_main_v165, val_main_v164, val_main_v163, val_main_v162, val_main_v161, val_main_v160, val_main_v159, val_main_v158, val_main_v157, val_main_v156, val_main_v155, val_main_v154, val_main_v153, val_main_v29, val_main_v28, val_main_v27, val_main_c, val_main_cst_12, val_main_cst_13, val_main_cst_14, angle]
  rw [position]

/-- The indexer's key head, turned. -/
theorem v188_at (b : Fin 128) (p : Fin 4) (d : Fin 64) :
    val_main_v188 (F := Ideal) x0 x1 x2 x3 (ix4 b p 0 d)
      = rope (8192 + p.val) (fun n => col (pre x0 x1 x2 b p) (wts x3) (1024 + n)) d.val := by
  have e (d : Nat) (hd : d < 64) : val_main_v152 (F := Ideal) x0 x1 x2 x3 (ix4 b p 0 ⟨d, hd⟩) = col (pre x0 x1 x2 b p) (wts x3) (1024 + d) := by
    have hn : 1024 + d < 2628 := by omega
    refine Eq.trans ?_ (v30_at x0 x1 x2 x3 b p _ hn)
    pointwise [val_main_v152, val_main_v35]
  pointwise [val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v168]
  unfold rope
  by_cases h1 : d.val < 8
  · simp only [h1, dif_pos, if_pos, e, v167_at, v169_at]
  by_cases h2 : d.val < 16
  · have h3 : d.val - 8 < 8 := by omega
    have e1 : 8 + (d.val - 8) = d.val := by omega
    simp only [h1, h2, h3, dif_pos, dif_neg, if_pos, if_neg, not_false_eq_true, e, e1, v167_at, v169_at]
  · have h3 : ¬d.val - 8 < 8 := by omega
    have e1 : 16 + (d.val - 8 - 8) = d.val := by omega
    simp only [h1, h2, h3, dif_neg, if_neg, not_false_eq_true, e, e1]

/-- The queries. -/
theorem v213_at (h : Fin 8) (R : Fin 512) (d : Fin 128) :
    val_main_v213 (F := Ideal) x0 x1 x2 x3 (ix3 h R d) = qAt (pre x0 x1 x2 ⟨R % 128, by omega⟩ ⟨R / 128, by omega⟩) (wts x3) (8192 + R.val / 128) h.val d.val := by
  pointwise [val_main_v213, val_main_v205, val_main_v204, val_main_v203, val_main_v202, val_main_v201, val_main_v200, val_main_v199,
    val_main_v198, val_main_v197, val_main_v196, val_main_v195, val_main_v194, val_main_v193, val_main_cst_16, val_main_cst_17]
  simp only [v76_at]
  unfold qAt
  by_cases h1 : d.val < 64
  · by_cases h2 : h.val < 4
    · simp only [h1, h2, dif_pos, if_true, show d.val % 64 = d.val by omega]
    · simp only [h1, h2, dif_pos, dif_neg, not_false_eq_true, iff_false, not_true_eq_false, if_false]
  · by_cases h2 : h.val < 4
    · simp only [h1, h2, dif_pos, dif_neg, not_false_eq_true, iff_true, if_false]
    · simp only [h1, h2, dif_neg, not_false_eq_true, if_true, show d.val % 64 = d.val - 64 by omega, show 4 + (h.val - 4) = h.val by omega]

/-- The keys, the two heads side by side. -/
theorem v214_at (b : Fin 128) (p : Fin 4) (l : Fin 128) :
    val_main_v214 (F := Ideal) x0 x1 x2 x3 (ix3 b p l) = kAt (pre x0 x1 x2 b p) (wts x3) (8192 + p.val) l.val := by
  unfold kAt
  have e1 : val_main_v214 (F := Ideal) x0 x1 x2 x3 (ix3 b p l)
      = val_main_v113 (F := Ideal) x0 x1 x2 x3 (ix4 b p ⟨l.val / 64, by omega⟩ ⟨l.val % 64, by omega⟩) := by
    rw [val_main_v214_apply]
    generalize val_main_v113 (F := Ideal) x0 x1 x2 x3 = X
    refine congrArg X (funext fun a => Fin.ext ?_)
    have hb := b.isLt
    have hp := p.isLt
    have hl := l.isLt
    match a with
    | ⟨0, _⟩ => show _ = b.val; dsimp; omega
    | ⟨1, _⟩ => show _ = p.val; dsimp; omega
    | ⟨2, _⟩ => show _ = l.val / 64; dsimp; omega
    | ⟨3, _⟩ => show _ = l.val % 64; dsimp; omega
  rw [e1, v113_at]

/-- The keys, channels first. -/
theorem v218_at (u : Fin 1) (l : Fin 128) (R : Fin 512) :
    val_main_v218 (F := Ideal) x0 x1 x2 x3 (ix3 u l R) = kAt (pre x0 x1 x2 ⟨R % 128, by omega⟩ ⟨R / 128, by omega⟩) (wts x3) (8192 + R.val / 128) l.val := by
  pointwise [val_main_v218, val_main_v217, val_main_v216, val_main_v215]
  rw [v214_at]

/-- The values, channels first. -/
theorem v223_at (u : Fin 1) (l : Fin 128) (R : Fin 512) :
    val_main_v223 (F := Ideal) x0 x1 x2 x3 (ix3 u l R) = vAt (pre x0 x1 x2 ⟨R % 128, by omega⟩ ⟨R / 128, by omega⟩) (wts x3) l.val := by
  pointwise [val_main_v223, val_main_v222, val_main_v221, val_main_v220, val_main_v219, val_main_v114, val_main_v33]
  simp only [v30_at]
  rfl

/-- The values, row by row. -/
theorem v227_at (R : Fin 512) (l : Fin 128) :
    val_main_v227 (F := Ideal) x0 x1 x2 x3 (ix2 R l) = vAt (pre x0 x1 x2 ⟨R % 128, by omega⟩ ⟨R / 128, by omega⟩) (wts x3) l.val := by
  pointwise [val_main_v227, val_main_v226, val_main_v225, val_main_v224, val_main_v114, val_main_v33]
  simp only [v30_at]
  rfl

/-- The odd heads of the indexer queries' two pairs. -/
theorem v209_at (b : Fin 128) (p : Fin 4) (g : Fin 2) (s : Fin 1) (d : Fin 64) :
    val_main_v209 (F := Ideal) x0 x1 x2 x3 (ix5 b p g s d) = val_main_v207 (F := Ideal) x0 x1 x2 x3 (ix5 b p g 1 d) := by
  rw [val_main_v209_apply]
  generalize val_main_v207 (F := Ideal) x0 x1 x2 x3 = X
  obtain rfl : s = 0 := Subsingleton.elim _ _
  refine congrArg X (funext fun a => ?_)
  match a with
  | ⟨0, _⟩ => rfl
  | ⟨1, _⟩ => rfl
  | ⟨2, _⟩ => rfl
  | ⟨3, _⟩ => rfl
  | ⟨4, _⟩ => rfl

/-- The even heads of the indexer queries' two pairs. -/
theorem v208_at (b : Fin 128) (p : Fin 4) (g : Fin 2) (s : Fin 1) (d : Fin 64) :
    val_main_v208 (F := Ideal) x0 x1 x2 x3 (ix5 b p g s d) = val_main_v207 (F := Ideal) x0 x1 x2 x3 (ix5 b p g 0 d) := by
  rw [val_main_v208_apply]
  generalize val_main_v207 (F := Ideal) x0 x1 x2 x3 = X
  obtain rfl : s = 0 := Subsingleton.elim _ _
  refine congrArg X (funext fun a => ?_)
  match a with
  | ⟨0, _⟩ => rfl
  | ⟨1, _⟩ => rfl
  | ⟨2, _⟩ => rfl
  | ⟨3, _⟩ => rfl
  | ⟨4, _⟩ => rfl

/-- The pairs of indexer query heads. -/
theorem v207_at (b : Fin 128) (p : Fin 4) (g : Fin 2) (s : Fin 2) (d : Fin 64) :
    val_main_v207 (F := Ideal) x0 x1 x2 x3 (ix5 b p g s d)
      = rope (8192 + p.val) (fun n => col (pre x0 x1 x2 b p) (wts x3) (768 + 64 * (g.val * 2 + s.val) + n)) d.val := by
  pointwise [val_main_v207]
  rw [v151_at]

/-- The zeros between them. -/
theorem v206_at (b : Fin 128) (p : Fin 4) (g : Fin 2) (s : Fin 1) (d : Fin 64) : val_main_v206 (F := Ideal) (ix5 b p g s d) = 0 := by
  pointwise [val_main_v206, val_main_cst_18]

/-- The indexer query heads with the zeros between them. -/
theorem v210_at (b : Fin 128) (p : Fin 4) (g : Fin 2) (s : Fin 4) (d : Fin 64) :
    val_main_v210 (F := Ideal) x0 x1 x2 x3 (ix5 b p g s d)
      = if s.val = 0 then rope (8192 + p.val) (fun n => col (pre x0 x1 x2 b p) (wts x3) (768 + 64 * (g.val * 2) + n)) d.val
        else if s.val = 3 then rope (8192 + p.val) (fun n => col (pre x0 x1 x2 b p) (wts x3) (768 + 64 * (g.val * 2 + 1) + n)) d.val else 0 := by
  pointwise [val_main_v210]
  simp only [v206_at, v208_at, v209_at, v207_at, Fin.val_zero, Fin.val_one, Nat.add_zero]
  obtain ⟨s, hs⟩ := s
  obtain rfl | rfl | rfl | rfl : s = 0 ∨ s = 1 ∨ s = 2 ∨ s = 3 := by omega
  all_goals rfl

/-- The indexer queries. -/
theorem v231_at (R : Fin 512) (l : Fin 512) :
    val_main_v231 (F := Ideal) x0 x1 x2 x3 (ix2 R l) = qiAt (pre x0 x1 x2 ⟨R % 128, by omega⟩ ⟨R / 128, by omega⟩) (wts x3) (8192 + R.val / 128) l.val := by
  have e := v210_at x0 x1 x2 x3 ⟨R % 128, by omega⟩ ⟨R / 128, by omega⟩ ⟨l.val / 256, by omega⟩ ⟨l.val / 64 % 4, by omega⟩ ⟨l.val % 64, by omega⟩
  have e1 : val_main_v231 (F := Ideal) x0 x1 x2 x3 (ix2 R l) = val_main_v210 (F := Ideal) x0 x1 x2 x3
      (ix5 ⟨R % 128, by omega⟩ ⟨R / 128, by omega⟩ ⟨l.val / 256, by omega⟩ ⟨l.val / 64 % 4, by omega⟩ ⟨l.val % 64, by omega⟩) := by
    unfold val_main_v231 val_main_v230 val_main_v229 val_main_v228
    generalize val_main_v210 (F := Ideal) x0 x1 x2 x3 = X
    pointwise
  rw [e1, e]
  unfold qiAt
  have h4 : l.val / 64 % 4 = 0 ∨ l.val / 64 % 4 = 1 ∨ l.val / 64 % 4 = 2 ∨ l.val / 64 % 4 = 3 := by omega
  rcases h4 with h | h | h | h
  · have hc : l.val % 128 < 64 ↔ l.val / 128 % 2 = 0 := by omega
    have hi : l.val / 256 * 2 = l.val / 128 := by omega
    simp only [h, hi, if_pos hc, if_true]
  · have hc : ¬(l.val % 128 < 64 ↔ l.val / 128 % 2 = 0) := by omega
    rw [if_neg hc]
    simp only [h, Nat.reduceEqDiff, if_false]
  · have hc : ¬(l.val % 128 < 64 ↔ l.val / 128 % 2 = 0) := by omega
    rw [if_neg hc]
    simp only [h, Nat.reduceEqDiff, if_false]
  · have hc : l.val % 128 < 64 ↔ l.val / 128 % 2 = 0 := by omega
    have hi : l.val / 256 * 2 + 1 = l.val / 128 := by omega
    rw [if_pos hc]
    simp only [h, hi, Nat.reduceEqDiff, if_false, if_true]

/-- The indexer's keys and weights. -/
theorem v212_at (b : Fin 128) (p : Fin 4) (l : Fin 128) :
    val_main_v212 (F := Ideal) x0 x1 x2 x3 (ix3 b p l) = kiAt (pre x0 x1 x2 b p) (wts x3) (8192 + p.val) l.val := by
  pointwise [val_main_v212, val_main_v211, val_main_cst_19, val_main_v191, val_main_v190, val_main_cst_15, val_main_v189, val_main_v36]
  simp only [v188_at, v30_at]
  unfold kiAt
  by_cases h1 : l.val < 64
  · simp only [h1, dif_pos, if_pos]
  by_cases h2 : l.val < 68
  · have h3 : l.val - 64 < 4 := by omega
    simp only [h1, h2, h3, dif_pos, dif_neg, if_pos, if_neg, not_false_eq_true, show 1088 + (l.val - 64) = 1024 + l.val by omega]
  · have h3 : ¬l.val - 64 < 4 := by omega
    simp only [h1, h2, h3, dif_neg, if_neg, not_false_eq_true]

/-- The indexer's keys and weights, row by row. -/
theorem v233_at (R : Fin 512) (l : Fin 128) :
    val_main_v233 (F := Ideal) x0 x1 x2 x3 (ix2 R l) = kiAt (pre x0 x1 x2 ⟨R % 128, by omega⟩ ⟨R / 128, by omega⟩) (wts x3) (8192 + R.val / 128) l.val := by
  pointwise [val_main_v233, val_main_v232]
  simp only [v212_at]

/-- The indexer's keys and weights, channels first. -/
theorem v237_at (u : Fin 1) (l : Fin 128) (R : Fin 512) :
    val_main_v237 (F := Ideal) x0 x1 x2 x3 (ix3 u l R) = kiAt (pre x0 x1 x2 ⟨R % 128, by omega⟩ ⟨R / 128, by omega⟩) (wts x3) (8192 + R.val / 128) l.val := by
  pointwise [val_main_v237, val_main_v236, val_main_v235, val_main_v234]
  simp only [v212_at]

/-- The convolution branch's gate. -/
theorem v239_at (R : Fin 512) (l : Fin 512) :
    val_main_v239 (F := Ideal) x0 x1 x2 x3 (ix2 R l) = gbAt (pre x0 x1 x2 ⟨R % 128, by omega⟩ ⟨R / 128, by omega⟩) (wts x3) l.val := by
  pointwise [val_main_v239, val_main_v238, val_main_v37]
  simp only [v30_at]
  rfl

/-- The convolution branch's input. -/
theorem v241_at (R : Fin 512) (l : Fin 512) :
    val_main_v241 (F := Ideal) x0 x1 x2 x3 (ix2 R l) = uAt (pre x0 x1 x2 ⟨R % 128, by omega⟩ ⟨R / 128, by omega⟩) (wts x3) l.val := by
  pointwise [val_main_v241, val_main_v240, val_main_v192, val_main_v38, val_main_v39]
  simp only [v30_at]
  rfl

end Cert.MixInSReference
-- ==== Proof.MixInSClaim.lean ====
module

public import proofs.«01_k».proof.Proof.MixInSKernel
public import proofs.«01_k».proof.Proof.MixInSReference
public import proofs.«01_k».proof.Defs

@[expose] public section

noncomputable section

namespace Cert.MixInSClaim

open Idealize.ShloMosaic Idealize.SL.Sem

/-! The reference's nine arrays are the kernel's, over the same arguments. -/

variable (m : (ℓ : Loc Cert.MixInSIdeal.nD Cert.MixInSIdeal.τ Cert.MixInSIdeal.sig) → Buf (Elt Ideal) ℓ) (c : Dev Cert.MixInSIdeal.nD)

/-- The reference's array of the queries is the kernel's. -/
theorem reference8 : (Cert.MixInSRefIdeal.Read.val_main_v213 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S8x512x128.Idx → EReal) = Cert.MixInSKernel.result8 m c := by
  funext i
  obtain ⟨h, r, l, rfl⟩ : ∃ (h : Fin 8) (r : Fin 512) (l : Fin 128), i = ix3 h r l := ⟨i 0, i 1, i 2, eq_ix3 (n0 := 8) (n1 := 512) (n2 := 128) i⟩
  exact Cert.MixInSReference.v213_at _ _ _ _ h r l

/-- The reference's array of the keys, channels first is the kernel's. -/
theorem reference9 : (Cert.MixInSRefIdeal.Read.val_main_v218 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S1x128x512.Idx → EReal) = Cert.MixInSKernel.result9 m c := by
  funext i
  obtain ⟨u, l, r, rfl⟩ : ∃ (u : Fin 1) (l : Fin 128) (r : Fin 512), i = ix3 u l r := ⟨i 0, i 1, i 2, eq_ix3 (n0 := 1) (n1 := 128) (n2 := 512) i⟩
  exact Cert.MixInSReference.v218_at _ _ _ _ u l r

/-- The reference's array of the values, channels first is the kernel's. -/
theorem reference10 : (Cert.MixInSRefIdeal.Read.val_main_v223 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S1x128x512.Idx → EReal) = Cert.MixInSKernel.result10 m c := by
  funext i
  obtain ⟨u, l, r, rfl⟩ : ∃ (u : Fin 1) (l : Fin 128) (r : Fin 512), i = ix3 u l r := ⟨i 0, i 1, i 2, eq_ix3 (n0 := 1) (n1 := 128) (n2 := 512) i⟩
  exact Cert.MixInSReference.v223_at _ _ _ _ u l r

/-- The reference's array of the values, row by row is the kernel's. -/
theorem reference11 : (Cert.MixInSRefIdeal.Read.val_main_v227 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S512x128.Idx → EReal) = Cert.MixInSKernel.result11 m c := by
  funext i
  obtain ⟨r, l, rfl⟩ : ∃ (r : Fin 512) (l : Fin 128), i = ix2 r l := ⟨i 0, i 1, eq_ix2 (n0 := 512) (n1 := 128) i⟩
  exact Cert.MixInSReference.v227_at _ _ _ _ r l

/-- The reference's array of the indexer queries is the kernel's. -/
theorem reference12 : (Cert.MixInSRefIdeal.Read.val_main_v231 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S512x512.Idx → EReal) = Cert.MixInSKernel.result12 m c := by
  funext i
  obtain ⟨r, l, rfl⟩ : ∃ (r : Fin 512) (l : Fin 512), i = ix2 r l := ⟨i 0, i 1, eq_ix2 (n0 := 512) (n1 := 512) i⟩
  exact Cert.MixInSReference.v231_at _ _ _ _ r l

/-- The reference's array of the indexer's keys and weights is the kernel's. -/
theorem reference13 : (Cert.MixInSRefIdeal.Read.val_main_v233 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S512x128.Idx → EReal) = Cert.MixInSKernel.result13 m c := by
  funext i
  obtain ⟨r, l, rfl⟩ : ∃ (r : Fin 512) (l : Fin 128), i = ix2 r l := ⟨i 0, i 1, eq_ix2 (n0 := 512) (n1 := 128) i⟩
  exact Cert.MixInSReference.v233_at _ _ _ _ r l

/-- The reference's array of the indexer's keys and weights, channels first is the kernel's. -/
theorem reference14 : (Cert.MixInSRefIdeal.Read.val_main_v237 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S1x128x512.Idx → EReal) = Cert.MixInSKernel.result14 m c := by
  funext i
  obtain ⟨u, l, r, rfl⟩ : ∃ (u : Fin 1) (l : Fin 128) (r : Fin 512), i = ix3 u l r := ⟨i 0, i 1, i 2, eq_ix3 (n0 := 1) (n1 := 128) (n2 := 512) i⟩
  exact Cert.MixInSReference.v237_at _ _ _ _ u l r

/-- The reference's array of the convolution branch's gate is the kernel's. -/
theorem reference15 : (Cert.MixInSRefIdeal.Read.val_main_v239 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S512x512.Idx → EReal) = Cert.MixInSKernel.result15 m c := by
  funext i
  obtain ⟨r, l, rfl⟩ : ∃ (r : Fin 512) (l : Fin 512), i = ix2 r l := ⟨i 0, i 1, eq_ix2 (n0 := 512) (n1 := 512) i⟩
  exact Cert.MixInSReference.v239_at _ _ _ _ r l

/-- The reference's array of the convolution branch's input is the kernel's. -/
theorem reference16 : (Cert.MixInSRefIdeal.Read.val_main_v241 (F := Ideal) (m ((c.tc : Thread Cert.MixInSIdeal.nD Cert.MixInSIdeal.τ).loc Cert.MixInSIdeal.main_arg0)) (m ((c.tc : Thread Cert.MixInSIdeal.nD Cert.MixInSIdeal.τ).loc Cert.MixInSIdeal.main_arg1)) (m ((c.tc : Thread Cert.MixInSIdeal.nD Cert.MixInSIdeal.τ).loc Cert.MixInSIdeal.main_arg2)) (m ((c.tc : Thread Cert.MixInSIdeal.nD Cert.MixInSIdeal.τ).loc Cert.MixInSIdeal.main_arg3)) : Cert.MixInSRefIdeal.S512x512.Idx → EReal) = Cert.MixInSKernel.result16 m c := by
  funext i
  obtain ⟨r, l, rfl⟩ : ∃ (r : Fin 512) (l : Fin 512), i = ix2 r l := ⟨i 0, i 1, eq_ix2 (n0 := 512) (n1 := 512) i⟩
  exact Cert.MixInSReference.v241_at _ _ _ _ r l

/-- Both programs' nine arrays are the same choices of the pre-normed row's turned columns. -/
theorem algebraic : algebraic_MixInSIdeal_MixInSRefIdeal := by
  intro m g m' g' _ h
  refine ⟨fun c => Cert.MixInSKernel.result8 m c, fun c => Cert.MixInSKernel.result9 m c, fun c => Cert.MixInSKernel.result10 m c, fun c => Cert.MixInSKernel.result11 m c, fun c => Cert.MixInSKernel.result12 m c, fun c => Cert.MixInSKernel.result13 m c, fun c => Cert.MixInSKernel.result14 m c, fun c => Cert.MixInSKernel.result15 m c, fun c => Cert.MixInSKernel.result16 m c, ?_, ?_⟩
  · refine (θ_run _ _ _).mono (fun r hr c => ?_) (Cert.MixInSIdeal.Value.run_blocks m g)
    obtain ⟨e8, e9, e10, e11, e12, e13, e14, e15, e16, e⟩ := hr c
    exact ⟨e8.trans (Cert.MixInSKernel.final8 m c), e9.trans (Cert.MixInSKernel.final9 m c), e10.trans (Cert.MixInSKernel.final10 m c), e11.trans (Cert.MixInSKernel.final11 m c), e12.trans (Cert.MixInSKernel.final12 m c), e13.trans (Cert.MixInSKernel.final13 m c), e14.trans (Cert.MixInSKernel.final14 m c), e15.trans (Cert.MixInSKernel.final15 m c), e16.trans (Cert.MixInSKernel.final16 m c), e⟩
  · refine (θ_run _ _ _).mono (fun r hr c => ?_) (Cert.MixInSRefIdeal.Value.run m' g')
    obtain ⟨h0, h1, h2, h3⟩ := h c
    obtain ⟨e8, e9, e10, e11, e12, e13, e14, e15, e16, e⟩ := hr c
    have a0 : StableHlo.launchContents m' c (Proc.devRef .tc Cert.MixInSRefIdeal.main_arg0) = _ := h0
    have a1 : StableHlo.launchContents m' c (Proc.devRef .tc Cert.MixInSRefIdeal.main_arg1) = _ := h1
    have a2 : StableHlo.launchContents m' c (Proc.devRef .tc Cert.MixInSRefIdeal.main_arg2) = _ := h2
    have a3 : StableHlo.launchContents m' c (Proc.devRef .tc Cert.MixInSRefIdeal.main_arg3) = _ := h3
    have f8 := e8.trans (Cert.MixInSRefIdeal.Read.val_main_v213_eq (F := Ideal) (StableHlo.launchContents m' c))
    rw [a0, a1, a2, a3] at f8
    have f9 := e9.trans (Cert.MixInSRefIdeal.Read.val_main_v218_eq (F := Ideal) (StableHlo.launchContents m' c))
    rw [a0, a1, a2, a3] at f9
    have f10 := e10.trans (Cert.MixInSRefIdeal.Read.val_main_v223_eq (F := Ideal) (StableHlo.launchContents m' c))
    rw [a0, a1, a2, a3] at f10
    have f11 := e11.trans (Cert.MixInSRefIdeal.Read.val_main_v227_eq (F := Ideal) (StableHlo.launchContents m' c))
    rw [a0, a1, a2, a3] at f11
    have f12 := e12.trans (Cert.MixInSRefIdeal.Read.val_main_v231_eq (F := Ideal) (StableHlo.launchContents m' c))
    rw [a0, a1, a2, a3] at f12
    have f13 := e13.trans (Cert.MixInSRefIdeal.Read.val_main_v233_eq (F := Ideal) (StableHlo.launchContents m' c))
    rw [a0, a1, a2, a3] at f13
    have f14 := e14.trans (Cert.MixInSRefIdeal.Read.val_main_v237_eq (F := Ideal) (StableHlo.launchContents m' c))
    rw [a0, a1, a2, a3] at f14
    have f15 := e15.trans (Cert.MixInSRefIdeal.Read.val_main_v239_eq (F := Ideal) (StableHlo.launchContents m' c))
    rw [a0, a1, a2, a3] at f15
    have f16 := e16.trans (Cert.MixInSRefIdeal.Read.val_main_v241_eq (F := Ideal) (StableHlo.launchContents m' c))
    rw [a0, a1, a2, a3] at f16
    exact ⟨f8.trans (reference8 m c), f9.trans (reference9 m c), f10.trans (reference10 m c), f11.trans (reference11 m c), f12.trans (reference12 m c), f13.trans (reference13 m c), f14.trans (reference14 m c), f15.trans (reference15 m c), f16.trans (reference16 m c), e⟩

end Cert.MixInSClaim
-- ==== Proof.MixOutSKernel.lean ====
module

public import proofs.«01_k».proof.Proof.ConvScalar
public import proofs.«01_k».proof.Proof.Gen.MixOutSIdeal.Value
public import Idealize.ShloMosaic.Lib.StableHlo.ReadAt

@[expose] public section

noncomputable section

namespace Cert.MixOutSKernel

open Cert.MixOutSIdeal Cert.MixOutSIdeal.Gen Idealize.ShloMosaic Idealize.ShloMosaic.TcCoe Idealize.SL.Sem Cert.Layer

/-- The body's arithmetic over what it loaded: the residual row over the projected, convolved row. -/
theorem body_at (v0 : Vec Ideal S128x1024 .f32) (v12 : Vec Ideal S1x128x1024 .f32) (v14 : Vec Ideal S1x1024 .f32)
    (v2 v4 v6 v8 v10 : Vec Ideal S128x512 .f32) (v28 v33 : Vec Ideal S512x1024 .bf16) (v16 v19 v23 : Vec Ideal S1x512 .f32) (r : Fin 128) (l : Fin 1024) :
    k0_pay1 (k0_pay2 v0) (k0_pay3 v12) (k0_pay4 v14) (k0_pay5 v2 v28) (k0_pay6 v4 v6 v8 v10 v16 v19 v23) v33 (ix2 r l)
      = residWhole (fun k => v0 (ix2 r k))
          (fun l => ∑ k : Fin 512, v2 (ix2 r k) * v28 (ix2 k l)
            + ∑ k : Fin 512, v4 (ix2 r k) * (v16 (ix2 0 k) * v10 (ix2 r k) + v19 (ix2 0 k) * v8 (ix2 r k) + v23 (ix2 0 k) * v6 (ix2 r k)) * v33 (ix2 k l))
          (fun k => v12 (ix3 0 r k)) (fun k => v14 (ix2 0 k)) l := by
  pointwise [k0_pay1, k0_pay2, k0_pay3, k0_pay4, k0_pay5, k0_pay6, residWhole, rms]

/-- The block a grid point leaves, at a row and a column. -/
theorem out_at (x0 : Vec Ideal S128x1024 .f32) (x1 x2 x3 x4 x5 : Vec Ideal S128x512 .f32) (x6 : Vec Ideal S1x128x1024 .f32) (x7 : Vec Ideal S1x1024 .f32)
    (x8 : Vec Ideal S3x512 .f32) (x9 : Vec Ideal S1024x1024 .bf16) (r : Fin 128) (l : Fin 1024) :
    out0_10 x0 x1 x2 x3 x4 x5 x6 x7 x8 x9 (ix2 r l)
      = residWhole (fun k => x0 (ix2 r k))
          (mixed (fun k => x1 (ix2 r k))
            (fun k => x2 (ix2 r k) * (x8 (ix2 0 k) * x3 (ix2 r k) + x8 (ix2 1 k) * x4 (ix2 r k) + x8 (ix2 2 k) * x5 (ix2 r k)))
            (fun k l => x9 (ix2 k l)))
          (fun k => x6 (ix3 0 r k)) (fun k => x7 (ix2 0 k)) l := by
  have hz2 : (![0, 0] : Fin 2 → Nat) = fun _ => 0 := funext fun a => by fin_cases a <;> rfl
  unfold out0_10
  refine (congrFun (View.canon_unit_zero hz2 _ _) _).trans ?_
  rw [body_at]
  unfold mixed
  simp only [r0_0, r0_1, r0_2, r0_3, r0_4, r0_5, r0_6, r0_7, r0_8]
  congr 1
  · funext k; pointwise
  · funext l; pointwise
  · funext k; pointwise
  · funext k; pointwise

/-! ## Blocks and the final array -/

variable (m : (ℓ : Loc nD τ sig) → Buf (Elt Ideal) ℓ)

/-- Position `q` of a sequence's inputs with its two carried positions before them. -/
def past (A4 : S128x2x512.Idx → EReal) (A3 : S128x4x512.Idx → EReal) (b : Fin 128) (k : Fin 512) (q : Fin 6) : EReal :=
  if h : q.val < 2 then A4 (ix3 b ⟨q, h⟩ k) else A3 (ix3 b ⟨q - 2, by omega⟩ k)

/-- The convolution's inputs, the carried positions of all sequences first. -/
theorem V4_at (c : Dev nD) (R : Fin 768) (k : Fin 512) :
    (V m c main_v4 : S768x512.Idx → EReal) (ix2 R k) = past (m ((c : Thread nD τ).loc main_arg4)) (m ((c : Thread nD τ).loc main_arg3)) ⟨R % 128, by omega⟩ k ⟨R / 128, by omega⟩ := by
  unfold V past
  after_reads_at
  by_cases h : R.val < 256
  · have h' : R.val / 128 < 2 := by omega
    simp only [dif_pos h, dif_pos h']
  · have e1 : (R.val - 256) % 128 = R.val % 128 := by omega
    have e2 : (R.val - 256) / 128 = R.val / 128 - 2 := by omega
    have h' : ¬R.val / 128 < 2 := by omega
    simp only [dif_neg h, dif_neg h', e1, e2]

/-- The rows of the residual stream, one token of all sequences after the other. -/
theorem V6_at (c : Dev nD) (R : Fin 512) (l : Fin 1024) :
    (V m c main_v6 : S512x1024.Idx → EReal) (ix2 R l) = (m ((c : Thread nD τ).loc main_arg0) : S128x4x1024.Idx → EReal) (ix3 ⟨R % 128, by omega⟩ ⟨R / 128, by omega⟩ l) := by
  unfold V
  after_reads_at

/-- The attention's half of the rows. -/
theorem V8_at (c : Dev nD) (R : Fin 512) (l : Fin 512) :
    (V m c main_v8 : S512x512.Idx → EReal) (ix2 R l) = (m ((c : Thread nD τ).loc main_arg1) : S128x4x512.Idx → EReal) (ix3 ⟨R % 128, by omega⟩ ⟨R / 128, by omega⟩ l) := by
  unfold V
  after_reads_at

/-- The convolution's gates. -/
theorem V10_at (c : Dev nD) (R : Fin 512) (l : Fin 512) :
    (V m c main_v10 : S512x512.Idx → EReal) (ix2 R l) = (m ((c : Thread nD τ).loc main_arg2) : S128x4x512.Idx → EReal) (ix3 ⟨R % 128, by omega⟩ ⟨R / 128, by omega⟩ l) := by
  unfold V
  after_reads_at

/-- The gate of this sub-layer, per sequence. -/
theorem V13_at (c : Dev nD) (b : Fin 128) (l : Fin 1024) :
    (V m c main_v13 : S1x128x1024.Idx → EReal) (ix3 0 b l) = (m ((c : Thread nD τ).loc main_arg5) : S128x3x3x1024.Idx → EReal) (ix4 b 1 2 l) := by
  unfold V
  after_reads_at

/-- This sub-layer's post-norm gain. -/
theorem V14_at (c : Dev nD) (l : Fin 1024) :
    (V m c main_v14 : S1x1024.Idx → EReal) (ix2 0 l) = (m ((c : Thread nD τ).loc main_arg6) : S3x1024.Idx → EReal) (ix2 1 l) := by
  unfold V
  after_reads_at

/-- The output projection. -/
theorem V15_at (c : Dev nD) (k : Fin 1024) (l : Fin 1024) :
    (V m c main_v15 : S1024x1024.Idx → EReal) (ix2 k l) = (m ((c : Thread nD τ).loc main_arg8) : S1024x1024.Idx → EReal) (ix2 k l) := by
  unfold V
  after_reads_at

/-- The block indices of the windows, decided over the grid. -/
theorem idx_at : ∀ t : Fin cfg0.N, win0_0.index t = ![t.val, 0] ∧ win0_1.index t = ![t.val, 0] ∧ win0_2.index t = ![t.val, 0] ∧ win0_3.index t = ![t.val, 0] ∧ win0_4.index t = ![t.val + 1, 0] ∧ win0_5.index t = ![t.val + 2, 0] ∧ win0_6.index t = ![0, 0, 0] ∧ win0_7.index t = ![0, 0] ∧ win0_8.index t = ![0, 0] ∧ win0_9.index t = ![0, 0] ∧ win0_10.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val + 1, 0] ∧ win0_5.index t = ![t.val + 2, 0] ∧ win0_6.index t = ![0, 0, 0] ∧ win0_7.index t = ![0, 0] ∧ win0_8.index t = ![0, 0] ∧ win0_9.index t = ![0, 0] ∧ win0_10.index t = ![t.val, 0])

/-- Row `128 t + r` of the rows laid token by token is token `t` of sequence `r`. -/
theorem row_mod (t : ℕ) (r : Fin 128) (h : (128 * t + r.val) % 128 < 128) : (⟨(128 * t + r.val) % 128, h⟩ : Fin 128) = r :=
  Fin.ext (by show (128 * t + r.val) % 128 = r.val; omega)

/-- The token that row belongs to. -/
theorem row_div (n t : ℕ) (r : Fin 128) (ht : t < n) (h : (128 * t + r.val) / 128 < n) : (⟨(128 * t + r.val) / 128, h⟩ : Fin n) = ⟨t, ht⟩ :=
  Fin.ext (by show (128 * t + r.val) / 128 = t; omega)

/-- What window 0's block at a point holds: one token of every sequence. -/
theorem iblk0_at (c : Dev nD) (t : Fin cfg0.N) (r : Fin 128) (l : Fin 1024) :
    (iblk m c 0 t : S128x1024.Idx → EReal) (ix2 r l) = (m ((c : Thread nD τ).loc main_arg0) : S128x4x1024.Idx → EReal) (ix3 r ⟨t.val, lt_of_lt_of_eq t.isLt N_0⟩ l) := by
  have ht : t.val < 4 := lt_of_lt_of_eq t.isLt N_0
  obtain ⟨h0, h1, h2, h3, h4, h5, h6, h7, h8, h9, h10⟩ := idx_at t
  have e := V6_at m c (⟨128 * t.val + r, by omega⟩ : Fin 512) l
  simp only [row_mod, row_div 4 t.val r ht] at e
  refine Eq.trans ?_ e
  unfold iblk
  rw [View.read_apply]
  show V m c main_v6 _ = V m c main_v6 _
  congr 1
  funext a
  apply Fin.ext
  match a with
  | ⟨0, _⟩ => show win0_0.index t 0 * 128 + 1 * _ = _; rw [h0]; show t.val * 128 + 1 * r.val = 128 * t.val + r.val; omega
  | ⟨1, _⟩ => show win0_0.index t 1 * 1024 + 1 * _ = _; rw [h0]; show 0 * 1024 + 1 * l.val = l.val; omega

/-- What window 1's block at a point holds: one token of every sequence. -/
theorem iblk1_at (c : Dev nD) (t : Fin cfg0.N) (r : Fin 128) (l : Fin 512) :
    (iblk m c 1 t : S128x512.Idx → EReal) (ix2 r l) = (m ((c : Thread nD τ).loc main_arg1) : S128x4x512.Idx → EReal) (ix3 r ⟨t.val, lt_of_lt_of_eq t.isLt N_0⟩ l) := by
  have ht : t.val < 4 := lt_of_lt_of_eq t.isLt N_0
  obtain ⟨h0, h1, h2, h3, h4, h5, h6, h7, h8, h9, h10⟩ := idx_at t
  have e := V8_at m c (⟨128 * t.val + r, by omega⟩ : Fin 512) l
  simp only [row_mod, row_div 4 t.val r ht] at e
  refine Eq.trans ?_ e
  unfold iblk
  rw [View.read_apply]
  show V m c main_v8 _ = V m c main_v8 _
  congr 1
  funext a
  apply Fin.ext
  match a with
  | ⟨0, _⟩ => show win0_1.index t 0 * 128 + 1 * _ = _; rw [h1]; show t.val * 128 + 1 * r.val = 128 * t.val + r.val; omega
  | ⟨1, _⟩ => show win0_1.index t 1 * 512 + 1 * _ = _; rw [h1]; show 0 * 512 + 1 * l.val = l.val; omega

/-- What window 2's block at a point holds: one token of every sequence. -/
theorem iblk2_at (c : Dev nD) (t : Fin cfg0.N) (r : Fin 128) (l : Fin 512) :
    (iblk m c 2 t : S128x512.Idx → EReal) (ix2 r l) = (m ((c : Thread nD τ).loc main_arg2) : S128x4x512.Idx → EReal) (ix3 r ⟨t.val, lt_of_lt_of_eq t.isLt N_0⟩ l) := by
  have ht : t.val < 4 := lt_of_lt_of_eq t.isLt N_0
  obtain ⟨h0, h1, h2, h3, h4, h5, h6, h7, h8, h9, h10⟩ := idx_at t
  have e := V10_at m c (⟨128 * t.val + r, by omega⟩ : Fin 512) l
  simp only [row_mod, row_div 4 t.val r ht] at e
  refine Eq.trans ?_ e
  unfold iblk
  rw [View.read_apply]
  show V m c main_v10 _ = V m c main_v10 _
  congr 1
  funext a
  apply Fin.ext
  match a with
  | ⟨0, _⟩ => show win0_2.index t 0 * 128 + 1 * _ = _; rw [h2]; show t.val * 128 + 1 * r.val = 128 * t.val + r.val; omega
  | ⟨1, _⟩ => show win0_2.index t 1 * 512 + 1 * _ = _; rw [h2]; show 0 * 512 + 1 * l.val = l.val; omega

/-- What window 3's block at a point holds: every sequence's inputs at position t, carried positions counted. -/
theorem iblk3_at (c : Dev nD) (t : Fin cfg0.N) (r : Fin 128) (k : Fin 512) :
    (iblk m c 3 t : S128x512.Idx → EReal) (ix2 r k) = past (m ((c : Thread nD τ).loc main_arg4)) (m ((c : Thread nD τ).loc main_arg3)) r k ⟨t.val, by have := t.isLt; have : cfg0.N = 4 := N_0; omega⟩ := by
  have ht : t.val < 4 := lt_of_lt_of_eq t.isLt N_0
  obtain ⟨h0, h1, h2, h3, h4, h5, h6, h7, h8, h9, h10⟩ := idx_at t
  have e := V4_at m c (⟨128 * (t.val) + r, by omega⟩ : Fin 768) k
  simp only [row_mod, row_div 6 (t.val) r (by omega)] at e
  refine Eq.trans ?_ e
  unfold iblk
  rw [View.read_apply]
  show V m c main_v4 _ = V m c main_v4 _
  congr 1
  funext a
  apply Fin.ext
  match a with
  | ⟨0, _⟩ => show win0_3.index t 0 * 128 + 1 * _ = _; rw [h3]; show (t.val) * 128 + 1 * r.val = 128 * (t.val) + r.val; omega
  | ⟨1, _⟩ => show win0_3.index t 1 * 512 + 1 * _ = _; rw [h3]; show 0 * 512 + 1 * k.val = k.val; omega

/-- What window 4's block at a point holds: every sequence's inputs at position t + 1, carried positions counted. -/
theorem iblk4_at (c : Dev nD) (t : Fin cfg0.N) (r : Fin 128) (k : Fin 512) :
    (iblk m c 4 t : S128x512.Idx → EReal) (ix2 r k) = past (m ((c : Thread nD τ).loc main_arg4)) (m ((c : Thread nD τ).loc main_arg3)) r k ⟨t.val + 1, by have := t.isLt; have : cfg0.N = 4 := N_0; omega⟩ := by
  have ht : t.val < 4 := lt_of_lt_of_eq t.isLt N_0
  obtain ⟨h0, h1, h2, h3, h4, h5, h6, h7, h8, h9, h10⟩ := idx_at t
  have e := V4_at m c (⟨128 * (t.val + 1) + r, by omega⟩ : Fin 768) k
  simp only [row_mod, row_div 6 (t.val + 1) r (by omega)] at e
  refine Eq.trans ?_ e
  unfold iblk
  rw [View.read_apply]
  show V m c main_v4 _ = V m c main_v4 _
  congr 1
  funext a
  apply Fin.ext
  match a with
  | ⟨0, _⟩ => show win0_4.index t 0 * 128 + 1 * _ = _; rw [h4]; show (t.val + 1) * 128 + 1 * r.val = 128 * (t.val + 1) + r.val; omega
  | ⟨1, _⟩ => show win0_4.index t 1 * 512 + 1 * _ = _; rw [h4]; show 0 * 512 + 1 * k.val = k.val; omega

/-- What window 5's block at a point holds: every sequence's inputs at position t + 2, carried positions counted. -/
theorem iblk5_at (c : Dev nD) (t : Fin cfg0.N) (r : Fin 128) (k : Fin 512) :
    (iblk m c 5 t : S128x512.Idx → EReal) (ix2 r k) = past (m ((c : Thread nD τ).loc main_arg4)) (m ((c : Thread nD τ).loc main_arg3)) r k ⟨t.val + 2, by have := t.isLt; have : cfg0.N = 4 := N_0; omega⟩ := by
  have ht : t.val < 4 := lt_of_lt_of_eq t.isLt N_0
  obtain ⟨h0, h1, h2, h3, h4, h5, h6, h7, h8, h9, h10⟩ := idx_at t
  have e := V4_at m c (⟨128 * (t.val + 2) + r, by omega⟩ : Fin 768) k
  simp only [row_mod, row_div 6 (t.val + 2) r (by omega)] at e
  refine Eq.trans ?_ e
  unfold iblk
  rw [View.read_apply]
  show V m c main_v4 _ = V m c main_v4 _
  congr 1
  funext a
  apply Fin.ext
  match a with
  | ⟨0, _⟩ => show win0_5.index t 0 * 128 + 1 * _ = _; rw [h5]; show (t.val + 2) * 128 + 1 * r.val = 128 * (t.val + 2) + r.val; omega
  | ⟨1, _⟩ => show win0_5.index t 1 * 512 + 1 * _ = _; rw [h5]; show 0 * 512 + 1 * k.val = k.val; omega

/-- What window 6's block at a point holds: the same for every point. -/
theorem iblk6_at (c : Dev nD) (t : Fin cfg0.N) (r : Fin 128) (l : Fin 1024) :
    (iblk m c 6 t : S1x128x1024.Idx → EReal) (ix3 0 r l) = (m ((c : Thread nD τ).loc main_arg5) : S128x3x3x1024.Idx → EReal) (ix4 r 1 2 l) := by
  obtain ⟨h0, h1, h2, h3, h4, h5, h6, h7, h8, h9, h10⟩ := idx_at t
  refine Eq.trans ?_ (V13_at m c r l)
  unfold iblk
  rw [View.read_apply]
  show V m c main_v13 _ = V m c main_v13 _
  congr 1
  funext a
  apply Fin.ext
  match a with
  | ⟨0, _⟩ => show win0_6.index t 0 * 1 + 1 * _ = _; rw [h6]; show 0 * 1 + 1 * 0 = 0; omega
  | ⟨1, _⟩ => show win0_6.index t 1 * 128 + 1 * _ = _; rw [h6]; show 0 * 128 + 1 * r.val = r.val; omega
  | ⟨2, _⟩ => show win0_6.index t 2 * 1024 + 1 * _ = _; rw [h6]; show 0 * 1024 + 1 * l.val = l.val; omega

/-- What window 7's block at a point holds: the same for every point. -/
theorem iblk7_at (c : Dev nD) (t : Fin cfg0.N) (l : Fin 1024) :
    (iblk m c 7 t : S1x1024.Idx → EReal) (ix2 0 l) = (m ((c : Thread nD τ).loc main_arg6) : S3x1024.Idx → EReal) (ix2 1 l) := by
  obtain ⟨h0, h1, h2, h3, h4, h5, h6, h7, h8, h9, h10⟩ := idx_at t
  refine Eq.trans ?_ (V14_at m c l)
  unfold iblk
  rw [View.read_apply]
  show V m c main_v14 _ = V m c main_v14 _
  congr 1
  funext a
  apply Fin.ext
  match a with
  | ⟨0, _⟩ => show win0_7.index t 0 * 1 + 1 * _ = _; rw [h7]; show 0 * 1 + 1 * 0 = 0; omega
  | ⟨1, _⟩ => show win0_7.index t 1 * 1024 + 1 * _ = _; rw [h7]; show 0 * 1024 + 1 * l.val = l.val; omega

/-- What window 8's block at a point holds: the same for every point. -/
theorem iblk8_at (c : Dev nD) (t : Fin cfg0.N) (n : Fin 3) (k : Fin 512) :
    (iblk m c 8 t : S3x512.Idx → EReal) (ix2 n k) = (m ((c : Thread nD τ).loc main_arg7) : S3x512.Idx → EReal) (ix2 n k) := by
  obtain ⟨h0, h1, h2, h3, h4, h5, h6, h7, h8, h9, h10⟩ := idx_at t
  unfold iblk
  rw [View.read_apply]
  show V m c main_arg7 _ = V m c main_arg7 _
  congr 1
  funext a
  apply Fin.ext
  match a with
  | ⟨0, _⟩ => show win0_8.index t 0 * 3 + 1 * _ = _; rw [h8]; show 0 * 3 + 1 * n.val = n.val; omega
  | ⟨1, _⟩ => show win0_8.index t 1 * 512 + 1 * _ = _; rw [h8]; show 0 * 512 + 1 * k.val = k.val; omega

/-- What window 9's block at a point holds: the same for every point. -/
theorem iblk9_at (c : Dev nD) (t : Fin cfg0.N) (k : Fin 1024) (l : Fin 1024) :
    (iblk m c 9 t : S1024x1024.Idx → EReal) (ix2 k l) = (m ((c : Thread nD τ).loc main_arg8) : S1024x1024.Idx → EReal) (ix2 k l) := by
  obtain ⟨h0, h1, h2, h3, h4, h5, h6, h7, h8, h9, h10⟩ := idx_at t
  refine Eq.trans ?_ (V15_at m c k l)
  unfold iblk
  rw [View.read_apply]
  show V m c main_v15 _ = V m c main_v15 _
  congr 1
  funext a
  apply Fin.ext
  match a with
  | ⟨0, _⟩ => show win0_9.index t 0 * 1024 + 1 * _ = _; rw [h9]; show 0 * 1024 + 1 * k.val = k.val; omega
  | ⟨1, _⟩ => show win0_9.index t 1 * 1024 + 1 * _ = _; rw [h9]; show 0 * 1024 + 1 * l.val = l.val; omega

/-- One row of the result: token `p` of sequence `b`, from the arguments as launched. -/
def row (A0 : S128x4x1024.Idx → EReal) (A1 A2 A3 : S128x4x512.Idx → EReal) (A4 : S128x2x512.Idx → EReal) (A5 : S128x3x3x1024.Idx → EReal)
    (A6 : S3x1024.Idx → EReal) (A7 : S3x512.Idx → EReal) (A8 : S1024x1024.Idx → EReal) (b : Fin 128) (p : Fin 4) (l : Fin 1024) : EReal :=
  residWhole (fun k => A0 (ix3 b p k))
    (mixed (fun k => A1 (ix3 b p k))
      (fun k => A2 (ix3 b p k) * (A7 (ix2 0 k) * past A4 A3 b k ⟨p, by omega⟩ + A7 (ix2 1 k) * past A4 A3 b k ⟨p + 1, by omega⟩ + A7 (ix2 2 k) * past A4 A3 b k ⟨p + 2, by omega⟩))
      (fun k l => A8 (ix2 k l)))
    (fun k => A5 (ix4 b 1 2 k)) (fun k => A6 (ix2 1 k)) l

/-- The whole result array as a function of the arguments. -/
def result (c : Dev nD) : S512x1024.Idx → EReal := fun i =>
  row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ⟨(i 0).val % 128, by omega⟩ ⟨(i 0).val / 128, by have : (i 0).val < 512 := (i 0).isLt; omega⟩ (i 1)

/-- What a point writes back is its block of `result`. -/
theorem flushed_eq (c : Dev nD) (t : Fin cfg0.N) :
    (dats m 0 c).flushed 10 t = ((cfg0.win 10).blk t).view.read (Elt Ideal) (result m c : S512x1024.Idx → EReal) := by
  have ht : t.val < 4 := lt_of_lt_of_eq t.isLt N_0
  rw [Value.flushed10]
  funext y
  obtain ⟨r, l, rfl⟩ : ∃ (r : Fin 128) (l : Fin 1024), y = ix2 r l := ⟨y 0, y 1, eq_ix2 (n0 := 128) (n1 := 1024) y⟩
  rw [View.read_apply]
  have hi : ((cfg0.win 10).blk t).view.emb (ix2 r l) = (ix2 (⟨128 * t.val + r, by omega⟩ : Fin 512) l : S512x1024.Idx) := by
    obtain ⟨h0, h1, h2, h3, h4, h5, h6, h7, h8, h9, h10⟩ := idx_at t
    funext a
    apply Fin.ext
    match a with
    | ⟨0, _⟩ => show win0_10.index t 0 * 128 + 1 * _ = _; rw [h10]; show t.val * 128 + 1 * r.val = 128 * t.val + r.val; omega
    | ⟨1, _⟩ => show win0_10.index t 1 * 1024 + 1 * _ = _; rw [h10]; show 0 * 1024 + 1 * l.val = l.val; omega
  rw [hi]
  show out0_10 (iblk m c 0 t) (iblk m c 1 t) (iblk m c 2 t) (iblk m c 3 t) (iblk m c 4 t) (iblk m c 5 t) (iblk m c 6 t) (iblk m c 7 t) (iblk m c 8 t) (iblk m c 9 t) (ix2 r l)
    = row _ _ _ _ _ _ _ _ _ ⟨(128 * t.val + r.val) % 128, by omega⟩ ⟨(128 * t.val + r.val) / 128, by omega⟩ l
  rw [out_at, row_mod, row_div 4 t.val r ht]
  simp only [iblk0_at, iblk1_at, iblk2_at, iblk3_at, iblk4_at, iblk5_at, iblk6_at, iblk7_at, iblk8_at, iblk9_at]
  rfl

/-- Every element of the result is in some point's block. -/
theorem cover (i : S512x1024.Idx) : ∃ t : Fin cfg0.N, (cfg0.win 10).flush t = true ∧ i ∈ ((cfg0.win 10).blk t).view.set := by
  have h0 : (i 0 : Nat) < 512 := (i 0).isLt
  have h1 : (i 1 : Nat) < 1024 := (i 1).isLt
  have hN : cfg0.N = 4 := N_0
  let t : Fin cfg0.N := ⟨(i 0 : Nat) / 128, by omega⟩
  refine ⟨t, flush0_10 t, ?_⟩
  obtain ⟨-, -, -, -, -, -, -, -, -, -, h10⟩ := idx_at t
  show i ∈ ((View.whole main_v16).slice (win0_10.rect t)).set
  rw [View.set_slice_whole, Rect.mem_set_unit]
  intro a
  match a with
  | ⟨0, _⟩ => show win0_10.index t 0 * 128 ≤ (i 0 : Nat) ∧ (i 0 : Nat) < win0_10.index t 0 * 128 + 128
              rw [h10]; show (i 0 : Nat) / 128 * 128 ≤ (i 0 : Nat) ∧ (i 0 : Nat) < (i 0 : Nat) / 128 * 128 + 128; omega
  | ⟨1, _⟩ => show win0_10.index t 1 * 1024 ≤ (i 1 : Nat) ∧ (i 1 : Nat) < win0_10.index t 1 * 1024 + 1024
              rw [h10]; show 0 * 1024 ≤ (i 1 : Nat) ∧ (i 1 : Nat) < 0 * 1024 + 1024; omega

/-- So the result array ends holding `result`. -/
theorem final (c : Dev nD) : (dats m 0 c).arrAt 10 cfg0.N = (result m c : S512x1024.Idx → EReal) :=
  (dats m 0 c).arrAt_eq_of_cover 10 (result m c) (fun t _ => flushed_eq m c t) cover

end Cert.MixOutSKernel
-- ==== Proof.MixOutSReference.lean ====
module

public import proofs.«01_k».proof.Proof.ConvScalar
public import proofs.«01_k».proof.Proof.Gen.MixOutSRefIdeal.Read

@[expose] public section

noncomputable section

namespace Cert.MixOutSReference

open Cert.MixOutSRefIdeal Cert.MixOutSRefIdeal.Gen Cert.MixOutSRefIdeal.Read Idealize.ShloMosaic Cert.Layer

variable (x0 : (⟨S128x4x1024, .f32⟩ : BufTy).Contents (Elt Ideal)) (x1 x2 x3 : (⟨S128x4x512, .f32⟩ : BufTy).Contents (Elt Ideal))
  (x4 : (⟨S128x2x512, .f32⟩ : BufTy).Contents (Elt Ideal)) (x5 : (⟨S128x3x3x1024, .f32⟩ : BufTy).Contents (Elt Ideal)) (x6 : (⟨S3x1024, .f32⟩ : BufTy).Contents (Elt Ideal))
  (x7 : (⟨S3x512, .f32⟩ : BufTy).Contents (Elt Ideal)) (x8 : (⟨S1024x1024, .f32⟩ : BufTy).Contents (Elt Ideal))

/-- Position `q` of a sequence's inputs with its two carried positions before them. -/
def past (b : Fin 128) (k : Fin 512) (q : Fin 6) : EReal :=
  if h : q.val < 2 then x4 (ix3 b ⟨q, h⟩ k) else x3 (ix3 b ⟨q - 2, by omega⟩ k)

/-- The inputs behind the carried positions. -/
theorem v0_at (b : Fin 128) (q : Fin 6) (k : Fin 512) : val_main_v0 (F := Ideal) x3 x4 (ix3 b q k) = past x3 x4 b k q := by
  unfold past
  pointwise [val_main_v0]

/-- The convolution. -/
theorem v20_at (b : Fin 128) (p : Fin 4) (k : Fin 512) :
    val_main_v20 (F := Ideal) x3 x4 x7 (ix3 b p k)
      = x7 (ix2 0 k) * past x3 x4 b k ⟨p, by omega⟩ + x7 (ix2 1 k) * past x3 x4 b k ⟨p + 1, by omega⟩ + x7 (ix2 2 k) * past x3 x4 b k ⟨p + 2, by omega⟩ := by
  have e0 : val_main_v3 (F := Ideal) x3 x4 (ix3 b p k) = past x3 x4 b k ⟨p, by omega⟩ := by
    refine Eq.trans ?_ (v0_at x3 x4 b ⟨p, by omega⟩ k)
    pointwise [val_main_v3]
  have e1 : val_main_v9 (F := Ideal) x3 x4 (ix3 b p k) = past x3 x4 b k ⟨p + 1, by omega⟩ := by
    refine Eq.trans ?_ (v0_at x3 x4 b ⟨p + 1, by omega⟩ k)
    unfold val_main_v9
    generalize val_main_v0 (F := Ideal) x3 x4 = Y
    pointwise
    congr 2
    exact Fin.ext (Nat.add_comm _ _)
  have e2 : val_main_v16 (F := Ideal) x3 x4 (ix3 b p k) = past x3 x4 b k ⟨p + 2, by omega⟩ := by
    refine Eq.trans ?_ (v0_at x3 x4 b ⟨p + 2, by omega⟩ k)
    unfold val_main_v16
    generalize val_main_v0 (F := Ideal) x3 x4 = Y
    pointwise
    congr 2
    exact Fin.ext (Nat.add_comm _ _)
  pointwise [val_main_v20, val_main_v19, val_main_v18, val_main_v17, val_main_v15, val_main_v14, val_main_v13, val_main_v12, val_main_v11, val_main_v10, val_main_v8, val_main_v7, val_main_v6, val_main_v5, val_main_v4, val_main_v2, val_main_v1]
  simp only [e0, e1, e2]

/-- The gated convolution. -/
def gated (b : Fin 128) (p : Fin 4) (k : Fin 512) : EReal :=
  x2 (ix3 b p k) * (x7 (ix2 0 k) * past x3 x4 b k ⟨p, by omega⟩ + x7 (ix2 1 k) * past x3 x4 b k ⟨p + 1, by omega⟩ + x7 (ix2 2 k) * past x3 x4 b k ⟨p + 2, by omega⟩)

/-- The reference's gated convolution. -/
theorem v21_at (b : Fin 128) (p : Fin 4) (k : Fin 512) :
    val_main_v21 (F := Ideal) x2 x3 x4 x7 (ix3 b p k) = gated x2 x3 x4 x7 b p k :=
  (val_main_v21_apply x2 x3 x4 x7 (ix3 b p k)).trans (congrArg (x2 (ix3 b p k) * ·) (v20_at x3 x4 x7 b p k))

/-- The first half of the concatenated row is the attention's. -/
theorem v22_fst (b : Fin 128) (p : Fin 4) (k : Fin 512) :
    val_main_v22 (F := Ideal) x1 x2 x3 x4 x7 (ix3 b p ⟨k, by omega⟩) = x1 (ix3 b p k) := by
  unfold val_main_v22
  generalize val_main_v21 (F := Ideal) x2 x3 x4 x7 = Y
  refine concatenate_apply_piece (t := S128x4x1024) 2 _ _ _ 0 (by show 0 < 2; omega) S128x4x512 x1 rfl rfl 0 rfl (ix3 b p k) ?_ ?_
  · intro a ha
    match a with
    | ⟨0, _⟩ => rfl
    | ⟨1, _⟩ => rfl
    | ⟨2, _⟩ => exact absurd rfl ha
  · exact Nat.zero_add _

/-- The second half is the gated convolution. -/
theorem v22_snd (b : Fin 128) (p : Fin 4) (k : Fin 512) :
    val_main_v22 (F := Ideal) x1 x2 x3 x4 x7 (ix3 b p ⟨512 + k, by omega⟩) = gated x2 x3 x4 x7 b p k := by
  rw [← v21_at]
  unfold val_main_v22
  generalize val_main_v21 (F := Ideal) x2 x3 x4 x7 = Y
  refine concatenate_apply_piece (t := S128x4x1024) 2 _ _ _ 1 (by show 1 < 2; omega) S128x4x512 Y rfl rfl 512 rfl (ix3 b p k) ?_ rfl
  intro a ha
  match a with
  | ⟨0, _⟩ => rfl
  | ⟨1, _⟩ => rfl
  | ⟨2, _⟩ => exact absurd rfl ha

/-- The projected row. -/
theorem v23_at (b : Fin 128) (p : Fin 4) (l : Fin 1024) :
    val_main_v23 (F := Ideal) x1 x2 x3 x4 x7 x8 (ix3 b p l)
      = mixed (fun k => x1 (ix3 b p k)) (gated x2 x3 x4 x7 b p) (fun k l => x8 (ix2 k l)) l := by
  have e0 (k : Fin 512) := v22_fst x1 x2 x3 x4 x7 b p k
  have e1 (k : Fin 512) := v22_snd x1 x2 x3 x4 x7 b p k
  unfold val_main_v23 mixed
  generalize val_main_v22 (F := Ideal) x1 x2 x3 x4 x7 = Y at e0 e1
  pointwise
  rw [Fin.sum_univ_two_halves 512 512 rfl]
  simp only [e0, e1]

/-- The result array, row by row. -/
theorem v48_at (R : Fin 512) (l : Fin 1024) :
    val_main_v48 (F := Ideal) x0 x1 x2 x3 x4 x5 x6 x7 x8 (ix2 R l)
      = residWhole (fun k => x0 (ix3 ⟨R % 128, by omega⟩ ⟨R / 128, by omega⟩ k))
          (mixed (fun k => x1 (ix3 ⟨R % 128, by omega⟩ ⟨R / 128, by omega⟩ k)) (gated x2 x3 x4 x7 ⟨R % 128, by omega⟩ ⟨R / 128, by omega⟩)
            (fun k l => x8 (ix2 k l)))
          (fun k => x5 (ix4 ⟨R % 128, by omega⟩ 1 2 k)) (fun k => x6 (ix2 1 k)) l := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst, val_main_cst_0, val_main_cst_1, val_main_cst_2]
  simp only [v23_at, residWhole, rms]

end Cert.MixOutSReference
-- ==== Proof.MixOutSClaim.lean ====
module

public import proofs.«01_k».proof.Proof.MixOutSKernel
public import proofs.«01_k».proof.Proof.MixOutSReference
public import proofs.«01_k».proof.Defs

@[expose] public section

noncomputable section

namespace Cert.MixOutSClaim

open Idealize.ShloMosaic Idealize.SL.Sem

/-- The reference's result is the kernel's, where the arguments agree. -/
theorem reference_eq (m : (ℓ : Loc Cert.MixOutSIdeal.nD Cert.MixOutSIdeal.τ Cert.MixOutSIdeal.sig) → Buf (Elt Ideal) ℓ)
    (m' : (ℓ : Loc Cert.MixOutSRefIdeal.nD Cert.MixOutSRefIdeal.τ Cert.MixOutSRefIdeal.sig) → Buf (Elt Ideal) ℓ) (c : Dev Cert.MixOutSIdeal.nD)
    (h0 : m' ((c.tc : Thread Cert.MixOutSRefIdeal.nD Cert.MixOutSRefIdeal.τ).loc Cert.MixOutSRefIdeal.main_arg0) = m ((c.tc : Thread Cert.MixOutSIdeal.nD Cert.MixOutSIdeal.τ).loc Cert.MixOutSIdeal.main_arg0))
    (h1 : m' ((c.tc : Thread Cert.MixOutSRefIdeal.nD Cert.MixOutSRefIdeal.τ).loc Cert.MixOutSRefIdeal.main_arg1) = m ((c.tc : Thread Cert.MixOutSIdeal.nD Cert.MixOutSIdeal.τ).loc Cert.MixOutSIdeal.main_arg1))
    (h2 : m' ((c.tc : Thread Cert.MixOutSRefIdeal.nD Cert.MixOutSRefIdeal.τ).loc Cert.MixOutSRefIdeal.main_arg2) = m ((c.tc : Thread Cert.MixOutSIdeal.nD Cert.MixOutSIdeal.τ).loc Cert.MixOutSIdeal.main_arg2))
    (h3 : m' ((c.tc : Thread Cert.MixOutSRefIdeal.nD Cert.MixOutSRefIdeal.τ).loc Cert.MixOutSRefIdeal.main_arg3) = m ((c.tc : Thread Cert.MixOutSIdeal.nD Cert.MixOutSIdeal.τ).loc Cert.MixOutSIdeal.main_arg3))
    (h4 : m' ((c.tc : Thread Cert.MixOutSRefIdeal.nD Cert.MixOutSRefIdeal.τ).loc Cert.MixOutSRefIdeal.main_arg4) = m ((c.tc : Thread Cert.MixOutSIdeal.nD Cert.MixOutSIdeal.τ).loc Cert.MixOutSIdeal.main_arg4))
    (h5 : m' ((c.tc : Thread Cert.MixOutSRefIdeal.nD Cert.MixOutSRefIdeal.τ).loc Cert.MixOutSRefIdeal.main_arg5) = m ((c.tc : Thread Cert.MixOutSIdeal.nD Cert.MixOutSIdeal.τ).loc Cert.MixOutSIdeal.main_arg5))
    (h6 : m' ((c.tc : Thread Cert.MixOutSRefIdeal.nD Cert.MixOutSRefIdeal.τ).loc Cert.MixOutSRefIdeal.main_arg6) = m ((c.tc : Thread Cert.MixOutSIdeal.nD Cert.MixOutSIdeal.τ).loc Cert.MixOutSIdeal.main_arg6))
    (h7 : m' ((c.tc : Thread Cert.MixOutSRefIdeal.nD Cert.MixOutSRefIdeal.τ).loc Cert.MixOutSRefIdeal.main_arg7) = m ((c.tc : Thread Cert.MixOutSIdeal.nD Cert.MixOutSIdeal.τ).loc Cert.MixOutSIdeal.main_arg7))
    (h8 : m' ((c.tc : Thread Cert.MixOutSRefIdeal.nD Cert.MixOutSRefIdeal.τ).loc Cert.MixOutSRefIdeal.main_arg8) = m ((c.tc : Thread Cert.MixOutSIdeal.nD Cert.MixOutSIdeal.τ).loc Cert.MixOutSIdeal.main_arg8)) :
    (Cert.MixOutSRefIdeal.Value.res_main_v48 m' c : Cert.MixOutSRefIdeal.S512x1024.Idx → EReal) = Cert.MixOutSKernel.result m c := by
  rw [Cert.MixOutSRefIdeal.Read.val_main_v48_eq, h0, h1, h2, h3, h4, h5, h6, h7, h8]
  funext i
  obtain ⟨r, l, rfl⟩ : ∃ (r : Fin 512) (l : Fin 1024), i = ix2 r l := ⟨i 0, i 1, eq_ix2 (n0 := 512) (n1 := 1024) i⟩
  exact Cert.MixOutSReference.v48_at _ _ _ _ _ _ _ _ _ r l

/-- Both programs' results are one array: the residual row over the projected attention and gated convolution. -/
theorem algebraic : algebraic_MixOutSIdeal_MixOutSRefIdeal := by
  intro m g m' g' _ h
  refine ⟨fun c => Cert.MixOutSKernel.result m c, ?_, ?_⟩
  · exact (θ_run _ _ _).mono (fun r hr c => ⟨(hr c).1.trans (Cert.MixOutSKernel.final m c), (hr c).2⟩) (Cert.MixOutSIdeal.Value.run_blocks m g)
  · refine (θ_run _ _ _).mono (fun r hr c => ⟨(hr c).1.trans ?_, (hr c).2⟩) (Cert.MixOutSRefIdeal.Value.run m' g')
    obtain ⟨h0, h1, h2, h3, h4, h5, h6, h7, h8⟩ := h c
    exact reference_eq m m' c h0 h1 h2 h3 h4 h5 h6 h7 h8

end Cert.MixOutSClaim
-- ==== Proof.AdaKernel.lean ====
module

public import proofs.«01_k».proof.Proof.Scalar
public import proofs.«01_k».proof.Proof.Gen.AdaIdeal.Value
public import Idealize.ShloMosaic.Lib.StableHlo.ReadAt

@[expose] public section

noncomputable section

namespace Cert.AdaKernel

open Cert.AdaIdeal Cert.AdaIdeal.Gen Idealize.ShloMosaic Idealize.ShloMosaic.TcCoe Idealize.SL.Sem Cert.Layer

/-- The block a grid point leaves, at a row and a column: the row's `silu` through that column's weights, plus its bias. -/
theorem out_at (x0 : Vec Ideal S136x1024 .f32) (x1 : Vec Ideal S1024x1152 .f32) (x2 : Vec Ideal S1x1152 .f32) (r : Fin 136) (j : Fin 1152) :
    out0_3 x0 x1 x2 (ix2 r j) = ∑ k, silu (x0 (ix2 r k)) * x1 (ix2 k j) + x2 (ix2 0 j) := by
  have hz2 : (![0, 0] : Fin 2 → Nat) = fun _ => 0 := funext fun a => by fin_cases a <;> rfl
  unfold out0_3
  refine (congrFun (View.canon_unit_zero hz2 _ _) _).trans ?_
  simp only [r0_0, r0_1, r0_2]
  pointwise [k0_pay1, silu]
  simp only [sub_eq_add_neg, zero_add]

/-! ## Blocks and the final array -/

variable (m : (ℓ : Loc nD τ sig) → Buf (Elt Ideal) ℓ)

/-- The bias. -/
theorem V0_at (c : Dev nD) (j : Fin 9216) :
    (V m c main_v0 : S1x9216.Idx → EReal) (ix2 0 j) = (m ((c : Thread nD τ).loc main_arg2) : S9216.Idx → EReal) (ix1 j) := by
  unfold V
  after_reads_at

/-- The block indices, decided over the grid: the columns move by point. -/
theorem idx_at : ∀ t : Fin cfg0.N, win0_0.index t = ![0, 0] ∧ win0_1.index t = ![0, t.val] ∧ win0_2.index t = ![0, t.val] ∧ win0_3.index t = ![0, t.val] :=
  (by decide +kernel : ∀ t : Fin grid0.N, win0_0.index t = ![0, 0] ∧ win0_1.index t = ![0, t.val] ∧ win0_2.index t = ![0, t.val] ∧ win0_3.index t = ![0, t.val])

/-- What window 0's block at a point holds: the whole argument. -/
theorem iblk0_at (c : Dev nD) (t : Fin cfg0.N) (r : Fin 136) (k : Fin 1024) :
    (iblk m c 0 t : S136x1024.Idx → EReal) (ix2 r k) = (m ((c : Thread nD τ).loc main_arg0) : S136x1024.Idx → EReal) (ix2 r k) := by
  obtain ⟨h0, h1, h2, h3⟩ := idx_at t
  unfold iblk
  rw [View.read_apply]
  show V m c main_arg0 _ = V m c main_arg0 _
  congr 1
  funext a
  apply Fin.ext
  match a with
  | ⟨0, _⟩ => show win0_0.index t 0 * 136 + 1 * _ = _; rw [h0]; show 0 * 136 + 1 * r.val = r.val; omega
  | ⟨1, _⟩ => show win0_0.index t 1 * 1024 + 1 * _ = _; rw [h0]; show 0 * 1024 + 1 * k.val = k.val; omega

/-- What window 1's block at a point holds: 1152 columns of the weights. -/
theorem iblk1_at (c : Dev nD) (t : Fin cfg0.N) (k : Fin 1024) (j : Fin 1152) :
    (iblk m c 1 t : S1024x1152.Idx → EReal) (ix2 k j)
      = (m ((c : Thread nD τ).loc main_arg1) : S1024x9216.Idx → EReal) (ix2 k ⟨1152 * t.val + j, by have := t.isLt; have : cfg0.N = 8 := N_0; omega⟩) := by
  obtain ⟨h0, h1, h2, h3⟩ := idx_at t
  unfold iblk
  rw [View.read_apply]
  show V m c main_arg1 _ = V m c main_arg1 _
  congr 1
  funext a
  apply Fin.ext
  match a with
  | ⟨0, _⟩ => show win0_1.index t 0 * 1024 + 1 * _ = _; rw [h1]; show 0 * 1024 + 1 * k.val = k.val; omega
  | ⟨1, _⟩ => show win0_1.index t 1 * 1152 + 1 * _ = _; rw [h1]; show t.val * 1152 + 1 * j.val = 1152 * t.val + j.val; omega

/-- What window 2's block at a point holds: the same columns of the bias. -/
theorem iblk2_at (c : Dev nD) (t : Fin cfg0.N) (j : Fin 1152) :
    (iblk m c 2 t : S1x1152.Idx → EReal) (ix2 0 j)
      = (m ((c : Thread nD τ).loc main_arg2) : S9216.Idx → EReal) (ix1 ⟨1152 * t.val + j, by have := t.isLt; have : cfg0.N = 8 := N_0; omega⟩) := by
  obtain ⟨h0, h1, h2, h3⟩ := idx_at t
  refine Eq.trans ?_ (V0_at m c _)
  unfold iblk
  rw [View.read_apply]
  show V m c main_v0 _ = V m c main_v0 _
  congr 1
  funext a
  apply Fin.ext
  match a with
  | ⟨0, _⟩ => show win0_2.index t 0 * 1 + 1 * _ = _; rw [h2]; show 0 * 1 + 1 * 0 = 0; omega
  | ⟨1, _⟩ => show win0_2.index t 1 * 1152 + 1 * _ = _; rw [h2]; show t.val * 1152 + 1 * j.val = 1152 * t.val + j.val; omega

/-- The whole result array as a function of the arguments. -/
def result (c : Dev nD) : S136x9216.Idx → EReal := fun i =>
  ∑ k, silu ((m ((c : Thread nD τ).loc main_arg0) : S136x1024.Idx → EReal) (ix2 (i 0) k))
      * (m ((c : Thread nD τ).loc main_arg1) : S1024x9216.Idx → EReal) (ix2 k (i 1))
    + (m ((c : Thread nD τ).loc main_arg2) : S9216.Idx → EReal) (ix1 (i 1))

/-- What a point writes back is its block of `result`. -/
theorem flushed_eq (c : Dev nD) (t : Fin cfg0.N) :
    (dats m 0 c).flushed 3 t = ((cfg0.win 3).blk t).view.read (Elt Ideal) (result m c : S136x9216.Idx → EReal) := by
  have ht : t.val < 8 := lt_of_lt_of_eq t.isLt N_0
  rw [Value.flushed3]
  funext y
  obtain ⟨r, j, rfl⟩ : ∃ (r : Fin 136) (j : Fin 1152), y = ix2 r j := ⟨y 0, y 1, eq_ix2 (n0 := 136) (n1 := 1152) y⟩
  rw [View.read_apply]
  have hi : ((cfg0.win 3).blk t).view.emb (ix2 r j) = (ix2 r (⟨1152 * t.val + j, by omega⟩ : Fin 9216) : S136x9216.Idx) := by
    obtain ⟨h0, h1, h2, h3⟩ := idx_at t
    funext a
    apply Fin.ext
    match a with
    | ⟨0, _⟩ => show win0_3.index t 0 * 136 + 1 * _ = _; rw [h3]; show 0 * 136 + 1 * r.val = r.val; omega
    | ⟨1, _⟩ => show win0_3.index t 1 * 1152 + 1 * _ = _; rw [h3]; show t.val * 1152 + 1 * j.val = 1152 * t.val + j.val; omega
  rw [hi]
  show out0_3 (iblk m c 0 t) (iblk m c 1 t) (iblk m c 2 t) (ix2 r j) = result m c (ix2 r (⟨1152 * t.val + j, by omega⟩ : Fin 9216))
  rw [out_at]
  simp only [iblk0_at, iblk1_at, iblk2_at]
  rfl

/-- Every element of the result is in some point's block. -/
theorem cover (i : S136x9216.Idx) : ∃ t : Fin cfg0.N, (cfg0.win 3).flush t = true ∧ i ∈ ((cfg0.win 3).blk t).view.set := by
  have h0 : (i 0 : Nat) < 136 := (i 0).isLt
  have h1 : (i 1 : Nat) < 9216 := (i 1).isLt
  have hN : cfg0.N = 8 := N_0
  let t : Fin cfg0.N := ⟨(i 1 : Nat) / 1152, by omega⟩
  refine ⟨t, flush0_3 t, ?_⟩
  obtain ⟨-, -, -, h3⟩ := idx_at t
  show i ∈ ((View.whole main_v1).slice (win0_3.rect t)).set
  rw [View.set_slice_whole, Rect.mem_set_unit]
  intro a
  match a with
  | ⟨0, _⟩ => show win0_3.index t 0 * 136 ≤ (i 0 : Nat) ∧ (i 0 : Nat) < win0_3.index t 0 * 136 + 136
              rw [h3]; show 0 * 136 ≤ (i 0 : Nat) ∧ (i 0 : Nat) < 0 * 136 + 136; omega
  | ⟨1, _⟩ => show win0_3.index t 1 * 1152 ≤ (i 1 : Nat) ∧ (i 1 : Nat) < win0_3.index t 1 * 1152 + 1152
              rw [h3]; show (i 1 : Nat) / 1152 * 1152 ≤ (i 1 : Nat) ∧ (i 1 : Nat) < (i 1 : Nat) / 1152 * 1152 + 1152; omega

/-- So the result array ends holding `result`. -/
theorem final (c : Dev nD) : (dats m 0 c).arrAt 3 cfg0.N = (result m c : S136x9216.Idx → EReal) :=
  (dats m 0 c).arrAt_eq_of_cover 3 (result m c) (fun t _ => flushed_eq m c t) cover

end Cert.AdaKernel
-- ==== Proof.AdaClaim.lean ====
module

public import proofs.«01_k».proof.Proof.AdaKernel
public import proofs.«01_k».proof.Proof.Gen.AdaRefIdeal.Read
public import proofs.«01_k».proof.Defs

@[expose] public section

noncomputable section

namespace Cert.AdaClaim

open Idealize.ShloMosaic Idealize.SL.Sem Cert.Layer Cert.AdaRefIdeal.Read

/-- The reference's result array, element by element. -/
theorem v4_at (x0 : (⟨Cert.AdaRefIdeal.S136x1024, .f32⟩ : BufTy).Contents (Elt Ideal)) (x1 : (⟨Cert.AdaRefIdeal.S1024x9216, .f32⟩ : BufTy).Contents (Elt Ideal))
    (x2 : (⟨Cert.AdaRefIdeal.S9216, .f32⟩ : BufTy).Contents (Elt Ideal)) (r : Fin 136) (j : Fin 9216) :
    val_main_v4 (F := Ideal) x0 x1 x2 (ix2 r j) = ∑ k, silu (x0 (ix2 r k)) * x1 (ix2 k j) + x2 (ix1 j) := by
  pointwise [val_main_v4, val_main_v3, val_main_v2, val_main_v1, val_main_v0, val_main_call0_v0, val_main_call0_v1, val_main_call0_v2,
    val_main_call0_v3, val_main_call0_v4, val_main_call0_v5, val_main_call0_cst, val_main_call0_cst_0, silu]

/-- Both programs' results are one array: each row's `silu` through the weights, plus the bias. -/
theorem algebraic : algebraic_AdaIdeal_AdaRefIdeal := by
  intro m g m' g' _ h
  refine ⟨fun c => Cert.AdaKernel.result m c, ?_, ?_⟩
  · exact (θ_run _ _ _).mono (fun r hr c => ⟨(hr c).1.trans (Cert.AdaKernel.final m c), (hr c).2⟩) (Cert.AdaIdeal.Value.run_blocks m g)
  · refine (θ_run _ _ _).mono (fun r hr c => ⟨(hr c).1.trans ?_, (hr c).2⟩) (Cert.AdaRefIdeal.Value.run m' g')
    obtain ⟨h0, h1, h2⟩ := h c
    rw [Cert.AdaRefIdeal.Read.val_main_v4_eq, h0, h1, h2]
    funext i
    obtain ⟨r, j, rfl⟩ : ∃ (r : Fin 136) (j : Fin 9216), i = ix2 r j := ⟨i 0, i 1, eq_ix2 (n0 := 136) (n1 := 9216) i⟩
    exact v4_at _ _ _ r j

end Cert.AdaClaim
-- ==== Proof.AttnRun.lean ====
/-
The attention kernel's run at one grid point, over any float values: each staged input keeps its
contents, and every scratch buffer and the output's staging buffer end at some contents.
-/
module

public import proofs.«01_k».proof.Proof.Gen.AttnIdeal.Loops
public import proofs.«01_k».proof.Proof.Gen.AttnIdeal.Frame

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S8x256x128 .bf16) (harg2 : arg2.IsWhole)
  (arg3 : Memref sig .tc .vmem S1x256x512 .bf16) (harg3 : arg3.IsWhole)
  (arg4 : Memref sig .tc .vmem S1x256x128 .f32) (harg4 : arg4.IsWhole)
  (arg5 : Memref sig .tc .vmem S1x64x128x256 .bf16) (harg5 : arg5.IsWhole)
  (arg6 : Memref sig .tc .vmem S1x16384x128 .bf16) (harg6 : arg6.IsWhole)
  (arg7 : Memref sig .tc .vmem S1x64x128x256 .bf16) (harg7 : arg7.IsWhole)
  (arg8 : Memref sig .tc .vmem S1x256x512 .f32) (harg8 : arg8.IsWhole)
  (arg9 : Memref sig .tc .vmem S64x256x256 .f32) (harg9 : arg9.IsWhole)
  (arg10 : Memref sig .tc .vmem S64x128x128 .f32) (harg10 : arg10.IsWhole)
  (arg11 : Memref sig .tc .vmem S4x256x128 .f32) (harg11 : arg11.IsWhole)
  (arg12 : Memref sig .tc .vmem S8x256x128 .f32) (harg12 : arg12.IsWhole)
  (arg13 : Memref sig .tc .vmem S8x256x128 .f32) (harg13 : arg13.IsWhole)
  (arg14 : Memref sig .tc .vmem S8x256x128 .f32) (harg14 : arg14.IsWhole)
  (arg15 : Memref sig .tc .vmem S256x128 .f32) (harg15 : arg15.IsWhole)
  (arg16 : Memref sig .tc .vmem S256x128 .i32) (harg16 : arg16.IsWhole)

set_option warn.classDefReducibility false in
set_option maxHeartbeats 4000000 in
/-- The threshold search's loop: every trip only reads the scores (`arg9`), so they keep their
contents `X`; nothing is said of the two carried vectors. -/
@[sl_loop] def search (𝒱 : Variants) (bd : Option 𝒱.V) (E : Set ℕ) (arg1 v0 v71 : BitVec 32)
    (init : IVec S256x128 32 × FVec F S256x128 .f32) (X : BufTy.Contents (Elt F) arg9.view.ty) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v71 init where
  inv _ _ := iprop(arg9.view.loc (c : Thread nD τ) ↦[arg9.view.set]{fullShare} X)
  step k acc := by
    obtain ⟨lo, val⟩ := acc
    unfold k0_t5_body
    iintro H9
    sl_exec_parts
    sl_step
    iexact H9

/-- The staging buffers and the scratch around the body: the inputs' at `x0 … x5`, the output's
and the scratch at some contents. -/
def Held (x0 : Vec F S8x256x128 .bf16) (x1 : Vec F S1x256x512 .bf16) (x2 : Vec F S1x256x128 .f32) (x3 : Vec F S1x64x128x256 .bf16) (x4 : Vec F S1x16384x128 .bf16) (x5 : Vec F S1x64x128x256 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

set_option maxHeartbeats 16000000 in
/-- The body runs, without a fault, from `Held` to `Held`. -/
theorem body_run (x0 : Vec F S8x256x128 .bf16) (x1 : Vec F S1x256x512 .bf16) (x2 : Vec F S1x256x128 .f32) (x3 : Vec F S1x64x128x256 .bf16) (x4 : Vec F S1x16384x128 .bf16) (x5 : Vec F S1x64x128x256 .bf16) (E : Set ℕ) (K : PUnit → sProp 𝕄) :
    iprop(Held c arg2 arg3 arg4 arg5 arg6 arg7 arg8 arg9 arg10 arg11 arg12 arg13 arg14 arg15 arg16 x0 x1 x2 x3 x4 x5 ∗ (Held c arg2 arg3 arg4 arg5 arg6 arg7 arg8 arg9 arg10 arg11 arg12 arg13 arg14 arg15 arg16 x0 x1 x2 x3 x4 x5 -∗ K ⟨⟩))
      ⊢ wp frame (wpE (defs₀ (F := F)) Variants.none c none) E (cc0_prompt_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_unfold [cc0_prompt_attn]
  sl_exec_parts
  split
  · sl_exec_parts
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _, _; isplitr; swap
      · iexact H8
      ipureintro; rfl
    isplitl [H9]
    · iexists _, _; isplitr; swap
      · iexact H9
      ipureintro; rfl
    isplitl [H10]
    · iexists _, _; isplitr; swap
      · iexact H10
      ipureintro; rfl
    isplitl [H11]
    · iexists _, _; isplitr; swap
      · iexact H11
      ipureintro; rfl
    isplitl [H12]
    · iexists _, _; isplitr; swap
      · iexact H12
      ipureintro; rfl
    isplitl [H13]
    · iexists _, _; isplitr; swap
      · iexact H13
      ipureintro; rfl
    isplitl [H14]
    · iexists _, _; isplitr; swap
      · iexact H14
      ipureintro; rfl
    isplitl [H15]
    · iexists _, _; isplitr; swap
      · iexact H15
      ipureintro; rfl
    iexists _, _; isplitr; swap
    · iexact H16
    ipureintro; rfl
  · sl_exec_parts
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _, _; isplitr; swap
      · iexact H8
      ipureintro; rfl
    isplitl [H9]
    · iexists _, _; isplitr; swap
      · iexact H9
      ipureintro; rfl
    isplitl [H10]
    · iexists _, _; isplitr; swap
      · iexact H10
      ipureintro; rfl
    isplitl [H11]
    · iexists _, _; isplitr; swap
      · iexact H11
      ipureintro; rfl
    isplitl [H12]
    · iexists _, _; isplitr; swap
      · iexact H12
      ipureintro; rfl
    isplitl [H13]
    · iexists _, _; isplitr; swap
      · iexact H13
      ipureintro; rfl
    isplitl [H14]
    · iexists _, _; isplitr; swap
      · iexact H14
      ipureintro; rfl
    isplitl [H15]
    · iexists _, _; isplitr; swap
      · iexact H15
      ipureintro; rfl
    iexists _, _; isplitr; swap
    · iexact H16
    ipureintro; rfl

end Cert.AttnRun

end
-- ==== Proof.AttnFrame.lean ====
/-
The attention kernel's frame: at every grid point the body runs without a fault from the staged blocks
(`Cert.AttnRun.body_run`), so the launch ends, leaves every argument array as it was and every semaphore
counter at zero. Stated over any float values.
-/
module

public import proofs.«01_k».proof.Proof.AttnRun
public import Idealize.ShloMosaic.Lib.Claim

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev stage0 (t : Fin cfg0.N) : Memref sig .tc .vmem S8x256x128 .bf16 := win0_0.stage (cfg0.slots t 0)
/-- It is a whole buffer. -/
theorem stage0_whole (t : Fin cfg0.N) : (stage0 t).IsWhole := hstage0_0 ((cfg0.slots t 0).cast nbuf0_0)
/-- Window 1's staging buffer at point `t`. -/
abbrev stage1 (t : Fin cfg0.N) : Memref sig .tc .vmem S1x256x512 .bf16 := win0_1.stage (cfg0.slots t 1)
/-- It is a whole buffer. -/
theorem stage1_whole (t : Fin cfg0.N) : (stage1 t).IsWhole := hstage0_1 ((cfg0.slots t 1).cast nbuf0_1)
/-- Window 2's staging buffer at point `t`. -/
abbrev stage2 (t : Fin cfg0.N) : Memref sig .tc .vmem S1x256x128 .f32 := win0_2.stage (cfg0.slots t 2)
/-- It is a whole buffer. -/
theorem stage2_whole (t : Fin cfg0.N) : (stage2 t).IsWhole := hstage0_2 ((cfg0.slots t 2).cast nbuf0_2)
/-- Window 3's staging buffer at point `t`. -/
abbrev stage3 (t : Fin cfg0.N) : Memref sig .tc .vmem S1x64x128x256 .bf16 := win0_3.stage (cfg0.slots t 3)
/-- It is a whole buffer. -/
theorem stage3_whole (t : Fin cfg0.N) : (stage3 t).IsWhole := hstage0_3 ((cfg0.slots t 3).cast nbuf0_3)
/-- Window 4's staging buffer at point `t`. -/
abbrev stage4 (t : Fin cfg0.N) : Memref sig .tc .vmem S1x16384x128 .bf16 := win0_4.stage (cfg0.slots t 4)
/-- It is a whole buffer. -/
theorem stage4_whole (t : Fin cfg0.N) : (stage4 t).IsWhole := hstage0_4 ((cfg0.slots t 4).cast nbuf0_4)
/-- Window 5's staging buffer at point `t`. -/
abbrev stage5 (t : Fin cfg0.N) : Memref sig .tc .vmem S1x64x128x256 .bf16 := win0_5.stage (cfg0.slots t 5)
/-- It is a whole buffer. -/
theorem stage5_whole (t : Fin cfg0.N) : (stage5 t).IsWhole := hstage0_5 ((cfg0.slots t 5).cast nbuf0_5)
/-- Window 6's staging buffer at point `t`. -/
abbrev stage6 (t : Fin cfg0.N) : Memref sig .tc .vmem S1x256x512 .f32 := win0_6.stage (cfg0.slots t 6)
/-- It is a whole buffer. -/
theorem stage6_whole (t : Fin cfg0.N) : (stage6 t).IsWhole := hstage0_6 ((cfg0.slots t 6).cast nbuf0_6)

/-- Scratch buffer 0. -/
abbrev scratch0 : Memref sig .tc .vmem S64x256x256 .f32 := Memref.whole cc0_scratch0
/-- Scratch buffer 1. -/
abbrev scratch1 : Memref sig .tc .vmem S64x128x128 .f32 := Memref.whole cc0_scratch1
/-- Scratch buffer 2. -/
abbrev scratch2 : Memref sig .tc .vmem S4x256x128 .f32 := Memref.whole cc0_scratch2
/-- Scratch buffer 3. -/
abbrev scratch3 : Memref sig .tc .vmem S8x256x128 .f32 := Memref.whole cc0_scratch3
/-- Scratch buffer 4. -/
abbrev scratch4 : Memref sig .tc .vmem S8x256x128 .f32 := Memref.whole cc0_scratch4
/-- Scratch buffer 5. -/
abbrev scratch5 : Memref sig .tc .vmem S8x256x128 .f32 := Memref.whole cc0_scratch5
/-- Scratch buffer 6. -/
abbrev scratch6 : Memref sig .tc .vmem S256x128 .f32 := Memref.whole cc0_scratch6
/-- Scratch buffer 7. -/
abbrev scratch7 : Memref sig .tc .vmem S256x128 .i32 := Memref.whole cc0_scratch7

/-- What the launch keeps between points: the scratch buffers at some contents, and the generator register. -/
theorem kept_eq (c : Dev nD) :
    (Pipeline.ΦA spec0 c : sProp 𝕄)
      = iprop(iprop((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d) ∗ (∃ d, owns (c : Thread nD τ) scratch7 fullShare d)) ∗ (∃ r, prngReg c r)) := by
  unfold Pipeline.ΦA; rw [scopedRest0_eq]; simp only [scratch0, scratch1, scratch2, scratch3, scratch4, scratch5, scratch6, scratch7, owns_whole]; try rfl

/-- The one window whose contents are not named: the output. -/
def outputOnly (w : Fin 7) : Bool := w.val == 6

/-- The launch's data: the arrays as found; each input's staging buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
  Φ _ := Pipeline.ΦA spec0 c
  q _ := fullShare
  owed _ := 0

/-- The launch's arrays are the ones the region finds. -/
theorem arrays_eq (c : Dev nD) (w : Fin cfg0.W) : (dats m 0 c).A w = V m c (Pipeline.arrRef spec0 w) := by
  dsimp only [dats]

/-- Input 0's staging buffer holds its block before and after the body. -/
theorem after0 (c : Dev nD) (t : Fin cfg0.N) : (dats m 0 c).after 0 t = iblk m c 0 t := by dsimp only [dats]
/-- A point finds window 0's block in its buffer. -/
theorem before0 (c : Dev nD) (t : Fin cfg0.N) (d) : (dats m 0 c).before 0 t d = iblk m c 0 t :=
  before0_0_of m (dats m 0 c) (arrays_eq m c 0) (after0 m c) t d
/-- Input 1's staging buffer holds its block before and after the body. -/
theorem after1 (c : Dev nD) (t : Fin cfg0.N) : (dats m 0 c).after 1 t = iblk m c 1 t := by dsimp only [dats]
/-- A point finds window 1's block in its buffer. -/
theorem before1 (c : Dev nD) (t : Fin cfg0.N) (d) : (dats m 0 c).before 1 t d = iblk m c 1 t :=
  before0_1_of m (dats m 0 c) (arrays_eq m c 1) (after1 m c) t d
/-- Input 2's staging buffer holds its block before and after the body. -/
theorem after2 (c : Dev nD) (t : Fin cfg0.N) : (dats m 0 c).after 2 t = iblk m c 2 t := by dsimp only [dats]
/-- A point finds window 2's block in its buffer. -/
theorem before2 (c : Dev nD) (t : Fin cfg0.N) (d) : (dats m 0 c).before 2 t d = iblk m c 2 t :=
  before0_2_of m (dats m 0 c) (arrays_eq m c 2) (after2 m c) t d
/-- Input 3's staging buffer holds its block before and after the body. -/
theorem after3 (c : Dev nD) (t : Fin cfg0.N) : (dats m 0 c).after 3 t = iblk m c 3 t := by dsimp only [dats]
/-- A point finds window 3's block in its buffer. -/
theorem before3 (c : Dev nD) (t : Fin cfg0.N) (d) : (dats m 0 c).before 3 t d = iblk m c 3 t :=
  before0_3_of m (dats m 0 c) (arrays_eq m c 3) (after3 m c) t d
/-- Input 4's staging buffer holds its block before and after the body. -/
theorem after4 (c : Dev nD) (t : Fin cfg0.N) : (dats m 0 c).after 4 t = iblk m c 4 t := by dsimp only [dats]
/-- A point finds window 4's block in its buffer. -/
theorem before4 (c : Dev nD) (t : Fin cfg0.N) (d) : (dats m 0 c).before 4 t d = iblk m c 4 t :=
  before0_4_of m (dats m 0 c) (arrays_eq m c 4) (after4 m c) t d
/-- Input 5's staging buffer holds its block before and after the body. -/
theorem after5 (c : Dev nD) (t : Fin cfg0.N) : (dats m 0 c).after 5 t = iblk m c 5 t := by dsimp only [dats]
/-- A point finds window 5's block in its buffer. -/
theorem before5 (c : Dev nD) (t : Fin cfg0.N) (d) : (dats m 0 c).before 5 t d = iblk m c 5 t :=
  before0_5_of m (dats m 0 c) (arrays_eq m c 5) (after5 m c) t d

/-- What the body is handed at point `t`. -/
def given (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare d))

/-- What it gives back. -/
def returned (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ (∃ d, owns (c : Thread nD τ) (stage6 t) fullShare d))

set_option maxHeartbeats 1600000 in
/-- The body at any point, from the launch's buffers to the launch's buffers. -/
theorem sound (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, kept_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, H6⟩
  iapply (body_run c (grid0.coords t) (stage0 t) (stage0_whole t) (stage1 t) (stage1_whole t) (stage2 t) (stage2_whole t) (stage3 t) (stage3_whole t) (stage4 t) (stage4_whole t) (stage5 t) (stage5_whole t) (stage6 t) (stage6_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) (iblk m c 0 t) (iblk m c 1 t) (iblk m c 2 t) (iblk m c 3 t) (iblk m c 4 t) (iblk m c 5 t) Set.univ _)
  unfold Held
  isplitl [H0 H1 H2 H3 H4 H5 H6 S0 S1 S2 S3 S4 S5 S6 S7]

  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨H0, H1, H2, H3, H4, H5, H6, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body the launch calls at point `t`. -/
theorem defs₀_row (t : Fin cfg0.N) :
    defs₀ (F := F) .tc cfg0.body (cfg0.bodyArgs t (cfg0.slots t)) = bodyAt0 t := by
  unfold defs₀; rw [Defs.onTc_tc]

/-- The launch's obligation at every point, the output's contents unnamed. -/
theorem obligation (c : Dev nD) :
    BodyObligation (dats (F := F) m 0 c) (defs₀ (F := F)) Variants.none () Set.univ outputOnly := fun t => by
  rw [bigSep_W0, bigSep_W0, defs₀_row]
  exact triple_restated (sound m c t) rfl .rfl fun _ => .rfl

set_option backward.isDefEq.respectTransparency.types false in
/-- The launch ends, every semaphore counter at zero, every input array at its contents before. -/
theorem launch : θ_run defs (onTc (τ := τ) (main (F := F))) (s₀ m ρ)
    (fun r => Pipeline.RDat.FramePost cfg0 (fun c => (dats m 0 c).toRForget outputOnly) (V m) r ∧ r.2.sem = fun _ => 0) :=
  Pipeline.θ_run_frame_forget (Q' := _) cfgs (dats m) (0 : Fin 1) launch0 defs₀ Variants.none outputOnly m ρ main
    (hbody := fun c => (obligation m c).loose) (hshare := fun c w => by fin_cases w <;> rfl)
    (howed := fun _ _ => rfl) (V := V m) (hmain := hmain m Variants.none) (hA := arrays_eq m) (hΦ := fun _ _ => rfl)

/-- THE FRAME: every weakly fair execution ends, with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans ((arrays_eq m c 0).trans (V_main_arg0 m c)),
      (h.1.arr_in c 1 rfl).trans ((arrays_eq m c 1).trans (V_main_arg1 m c)),
      (h.1.arr_in c 2 rfl).trans ((arrays_eq m c 2).trans (V_main_arg2 m c)),
      (h.1.arr_in c 3 rfl).trans ((arrays_eq m c 3).trans (V_main_arg3 m c)),
      (h.1.arr_in c 4 rfl).trans ((arrays_eq m c 4).trans (V_main_arg4 m c)),
      (h.1.arr_in c 5 rfl).trans ((arrays_eq m c 5).trans (V_main_arg5 m c))⟩, h.2⟩) (launch m ρ)

end Cert.AttnRun

end
-- ==== Proof.AttnClaim.lean ====
/-
The attention's two frame claims, both from the one run of `Cert.AttnRun`.
-/
module

public import proofs.«01_k».proof.Defs
public import proofs.«01_k».proof.Proof.AttnFrame
public import proofs.«01_k».proof.Proof.Gen.Attn
public import Idealize.ShloMosaic.Lib.Tactic

@[expose] public section

noncomputable section

namespace Cert.AttnClaim

open Idealize.ShloMosaic Idealize.SL.Sem

/-- Over the extended reals the attention's launch ends, its arguments unchanged, every counter at zero. -/
theorem frame_ideal : Cert.quiescent_AttnIdeal := fun m ρ _ => Cert.AttnRun.frame m ρ

/-- The same at the machine's formats: the two programs are one text, so the same run gives it. -/
theorem frame_bits : Cert.quiescent_Attn := fun m ρ _ =>
  cast (by sl_kernel_rfl) (Cert.AttnRun.frame (F := Bits) m ρ)

end Cert.AttnClaim

end
-- ==== Proof.SampleAttnRun.lean ====
/-
The sample batch's attention kernel's run at one grid point, over any float values: every staging and scratch
buffer begins and ends at some contents. The page table is not touched by the body.
-/
module

public import proofs.«01_k».proof.Proof.Gen.SampleAttnIdeal.Loops
public import proofs.«01_k».proof.Proof.Gen.SampleAttnIdeal.Launch

@[expose] public section

set_option maxRecDepth 16384

noncomputable section

namespace Cert.SampleAttnRun

open Cert.SampleAttnIdeal Cert.SampleAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .smem S128x64 .i32) (harg2 : arg2.IsWhole)
  (arg3 : Memref sig .tc .vmem S1x32x128 .bf16) (harg3 : arg3.IsWhole)
  (arg4 : Memref sig .tc .vmem S1x32x64 .bf16) (harg4 : arg4.IsWhole)
  (arg5 : Memref sig .tc .vmem S1x32x128 .f32) (harg5 : arg5.IsWhole)
  (arg6 : Memref sig .tc .vmem S1x64x128 .bf16) (harg6 : arg6.IsWhole)
  (arg7 : Memref sig .tc .vmem S1x128x128 .bf16) (harg7 : arg7.IsWhole)
  (arg8 : Memref sig .tc .vmem S1x128x128 .bf16) (harg8 : arg8.IsWhole)
  (arg9 : Memref sig .tc .vmem S1x64x128 .f32) (harg9 : arg9.IsWhole)
  (arg10 : Memref sig .tc .vmem S1x64x128 .f32) (harg10 : arg10.IsWhole)
  (arg11 : Memref sig .tc .vmem S1x64x128 .f32) (harg11 : arg11.IsWhole)
  (arg12 : Memref sig .tc .vmem S1x64x128 .f32) (harg12 : arg12.IsWhole)
  (arg13 : Memref sig .tc .vmem S1x64x128 .f32) (harg13 : arg13.IsWhole)
  (arg14 : Memref sig .tc .vmem S1x64x128 .f32) (harg14 : arg14.IsWhole)
  (arg15 : Memref sig .tc .vmem S1x64x128 .f32) (harg15 : arg15.IsWhole)
  (arg16 : Memref sig .tc .vmem S1x64x128 .f32) (harg16 : arg16.IsWhole)
  (arg17 : Memref sig .tc .vmem S1x64x128 .f32) (harg17 : arg17.IsWhole)
  (arg18 : Memref sig .tc .vmem S1x64x128 .f32) (harg18 : arg18.IsWhole)
  (arg19 : Memref sig .tc .vmem S1x64x128 .f32) (harg19 : arg19.IsWhole)
  (arg20 : Memref sig .tc .vmem S1x64x128 .f32) (harg20 : arg20.IsWhole)
  (arg21 : Memref sig .tc .vmem S1x64x128 .f32) (harg21 : arg21.IsWhole)
  (arg22 : Memref sig .tc .vmem S1x64x128 .f32) (harg22 : arg22.IsWhole)
  (arg23 : Memref sig .tc .vmem S1x64x128 .f32) (harg23 : arg23.IsWhole)
  (arg24 : Memref sig .tc .vmem S1x64x128 .f32) (harg24 : arg24.IsWhole)
  (arg25 : Memref sig .tc .vmem S1x128x128 .f32) (harg25 : arg25.IsWhole)
  (arg26 : Memref sig .tc .vmem S1x128x128 .f32) (harg26 : arg26.IsWhole)
  (arg27 : Memref sig .tc .vmem S1x128x128 .f32) (harg27 : arg27.IsWhole)
  (arg28 : Memref sig .tc .vmem S1x128x128 .f32) (harg28 : arg28.IsWhole)
  (arg29 : Memref sig .tc .vmem S1x128x128 .f32) (harg29 : arg29.IsWhole)
  (arg30 : Memref sig .tc .vmem S1x128x128 .f32) (harg30 : arg30.IsWhole)
  (arg31 : Memref sig .tc .vmem S1x128x128 .f32) (harg31 : arg31.IsWhole)
  (arg32 : Memref sig .tc .vmem S1x128x128 .f32) (harg32 : arg32.IsWhole)
  (arg33 : Memref sig .tc .vmem S1x128x128 .f32) (harg33 : arg33.IsWhole)
  (arg34 : Memref sig .tc .vmem S1x128x128 .f32) (harg34 : arg34.IsWhole)
  (arg35 : Memref sig .tc .vmem S1x128x128 .f32) (harg35 : arg35.IsWhole)
  (arg36 : Memref sig .tc .vmem S1x128x128 .f32) (harg36 : arg36.IsWhole)
  (arg37 : Memref sig .tc .vmem S1x128x128 .f32) (harg37 : arg37.IsWhole)
  (arg38 : Memref sig .tc .vmem S1x128x128 .f32) (harg38 : arg38.IsWhole)
  (arg39 : Memref sig .tc .vmem S1x128x128 .f32) (harg39 : arg39.IsWhole)
  (arg40 : Memref sig .tc .vmem S1x128x128 .f32) (harg40 : arg40.IsWhole)
  (arg41 : Memref sig .tc .vmem S1x128x128 .f32) (harg41 : arg41.IsWhole)
  (arg42 : Memref sig .tc .vmem S1x128x128 .f32) (harg42 : arg42.IsWhole)
  (arg43 : Memref sig .tc .vmem S1x128x128 .f32) (harg43 : arg43.IsWhole)
  (arg44 : Memref sig .tc .vmem S1x128x128 .f32) (harg44 : arg44.IsWhole)
  (arg45 : Memref sig .tc .vmem S1x128x128 .f32) (harg45 : arg45.IsWhole)
  (arg46 : Memref sig .tc .vmem S1x128x128 .f32) (harg46 : arg46.IsWhole)
  (arg47 : Memref sig .tc .vmem S1x128x128 .f32) (harg47 : arg47.IsWhole)
  (arg48 : Memref sig .tc .vmem S1x128x128 .f32) (harg48 : arg48.IsWhole)
  (arg49 : Memref sig .tc .vmem S1x128x128 .f32) (harg49 : arg49.IsWhole)
  (arg50 : Memref sig .tc .vmem S1x128x128 .f32) (harg50 : arg50.IsWhole)
  (arg51 : Memref sig .tc .vmem S1x128x128 .f32) (harg51 : arg51.IsWhole)
  (arg52 : Memref sig .tc .vmem S1x128x128 .f32) (harg52 : arg52.IsWhole)
  (arg53 : Memref sig .tc .vmem S1x128x128 .f32) (harg53 : arg53.IsWhole)
  (arg54 : Memref sig .tc .vmem S1x128x128 .f32) (harg54 : arg54.IsWhole)
  (arg55 : Memref sig .tc .vmem S1x128x128 .f32) (harg55 : arg55.IsWhole)
  (arg56 : Memref sig .tc .vmem S1x128x128 .f32) (harg56 : arg56.IsWhole)
  (arg57 : Memref sig .tc .vmem S1x32x128 .f32) (harg57 : arg57.IsWhole)
  (arg58 : Memref sig .tc .vmem S65x8x128 .f32) (harg58 : arg58.IsWhole)
  (arg59 : Memref sig .tc .vmem S65x32x128 .f32) (harg59 : arg59.IsWhole)
  (arg60 : Memref sig .tc .vmem S65x128x128 .bf16) (harg60 : arg60.IsWhole)

/-- The staging buffers and the scratch around the body, each at some contents. -/
def Held : sProp 𝕄 :=
  iprop(
    (∃ d, owns (c : Thread nD τ) arg3 fullShare d) ∗ (∃ d, owns (c : Thread nD τ) arg4 fullShare d) ∗
    (∃ d, owns (c : Thread nD τ) arg5 fullShare d) ∗ (∃ d, owns (c : Thread nD τ) arg6 fullShare d) ∗
    (∃ d, owns (c : Thread nD τ) arg7 fullShare d) ∗ (∃ d, owns (c : Thread nD τ) arg8 fullShare d) ∗
    (∃ d, owns (c : Thread nD τ) arg9 fullShare d) ∗ (∃ d, owns (c : Thread nD τ) arg10 fullShare d) ∗
    (∃ d, owns (c : Thread nD τ) arg11 fullShare d) ∗ (∃ d, owns (c : Thread nD τ) arg12 fullShare d) ∗
    (∃ d, owns (c : Thread nD τ) arg13 fullShare d) ∗ (∃ d, owns (c : Thread nD τ) arg14 fullShare d) ∗
    (∃ d, owns (c : Thread nD τ) arg15 fullShare d) ∗ (∃ d, owns (c : Thread nD τ) arg16 fullShare d) ∗
    (∃ d, owns (c : Thread nD τ) arg17 fullShare d) ∗ (∃ d, owns (c : Thread nD τ) arg18 fullShare d) ∗
    (∃ d, owns (c : Thread nD τ) arg19 fullShare d) ∗ (∃ d, owns (c : Thread nD τ) arg20 fullShare d) ∗
    (∃ d, owns (c : Thread nD τ) arg21 fullShare d) ∗ (∃ d, owns (c : Thread nD τ) arg22 fullShare d) ∗
    (∃ d, owns (c : Thread nD τ) arg23 fullShare d) ∗ (∃ d, owns (c : Thread nD τ) arg24 fullShare d) ∗
    (∃ d, owns (c : Thread nD τ) arg25 fullShare d) ∗ (∃ d, owns (c : Thread nD τ) arg26 fullShare d) ∗
    (∃ d, owns (c : Thread nD τ) arg27 fullShare d) ∗ (∃ d, owns (c : Thread nD τ) arg28 fullShare d) ∗
    (∃ d, owns (c : Thread nD τ) arg29 fullShare d) ∗ (∃ d, owns (c : Thread nD τ) arg30 fullShare d) ∗
    (∃ d, owns (c : Thread nD τ) arg31 fullShare d) ∗ (∃ d, owns (c : Thread nD τ) arg32 fullShare d) ∗
    (∃ d, owns (c : Thread nD τ) arg33 fullShare d) ∗ (∃ d, owns (c : Thread nD τ) arg34 fullShare d) ∗
    (∃ d, owns (c : Thread nD τ) arg35 fullShare d) ∗ (∃ d, owns (c : Thread nD τ) arg36 fullShare d) ∗
    (∃ d, owns (c : Thread nD τ) arg37 fullShare d) ∗ (∃ d, owns (c : Thread nD τ) arg38 fullShare d) ∗
    (∃ d, owns (c : Thread nD τ) arg39 fullShare d) ∗ (∃ d, owns (c : Thread nD τ) arg40 fullShare d) ∗
    (∃ d, owns (c : Thread nD τ) arg41 fullShare d) ∗ (∃ d, owns (c : Thread nD τ) arg42 fullShare d) ∗
    (∃ d, owns (c : Thread nD τ) arg43 fullShare d) ∗ (∃ d, owns (c : Thread nD τ) arg44 fullShare d) ∗
    (∃ d, owns (c : Thread nD τ) arg45 fullShare d) ∗ (∃ d, owns (c : Thread nD τ) arg46 fullShare d) ∗
    (∃ d, owns (c : Thread nD τ) arg47 fullShare d) ∗ (∃ d, owns (c : Thread nD τ) arg48 fullShare d) ∗
    (∃ d, owns (c : Thread nD τ) arg49 fullShare d) ∗ (∃ d, owns (c : Thread nD τ) arg50 fullShare d) ∗
    (∃ d, owns (c : Thread nD τ) arg51 fullShare d) ∗ (∃ d, owns (c : Thread nD τ) arg52 fullShare d) ∗
    (∃ d, owns (c : Thread nD τ) arg53 fullShare d) ∗ (∃ d, owns (c : Thread nD τ) arg54 fullShare d) ∗
    (∃ d, owns (c : Thread nD τ) arg55 fullShare d) ∗ (∃ d, owns (c : Thread nD τ) arg56 fullShare d) ∗
    (∃ d, owns (c : Thread nD τ) arg57 fullShare d) ∗ (∃ d, owns (c : Thread nD τ) arg58 fullShare d) ∗
    (∃ d, owns (c : Thread nD τ) arg59 fullShare d) ∗ (∃ d, owns (c : Thread nD τ) arg60 fullShare d))

set_option maxHeartbeats 64000000 in
/-- The body runs, without a fault, from `Held` to `Held`. -/
theorem body_run (E : Set ℕ) (K : PUnit → sProp 𝕄) :
    iprop(Held c arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 ∗ (Held c arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 arg50 arg51 arg52 arg53 arg54 arg55 arg56 arg57 arg58 arg59 arg60 -∗ K ⟨⟩))
      ⊢ wp frame (wpE (defs₀ (F := F)) Variants.none c none) E (cc0_sample_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60) K := by
  unfold Held owns
  iintro ⟨⟨
    ⟨%d3, %f3, -, H3⟩, ⟨%d4, %f4, -, H4⟩, ⟨%d5, %f5, -, H5⟩, ⟨%d6, %f6, -, H6⟩, ⟨%d7, %f7, -, H7⟩, ⟨%d8, %f8, -, H8⟩,
    ⟨%d9, %f9, -, H9⟩, ⟨%d10, %f10, -, H10⟩, ⟨%d11, %f11, -, H11⟩, ⟨%d12, %f12, -, H12⟩, ⟨%d13, %f13, -, H13⟩,
    ⟨%d14, %f14, -, H14⟩, ⟨%d15, %f15, -, H15⟩, ⟨%d16, %f16, -, H16⟩, ⟨%d17, %f17, -, H17⟩, ⟨%d18, %f18, -, H18⟩,
    ⟨%d19, %f19, -, H19⟩, ⟨%d20, %f20, -, H20⟩, ⟨%d21, %f21, -, H21⟩, ⟨%d22, %f22, -, H22⟩, ⟨%d23, %f23, -, H23⟩,
    ⟨%d24, %f24, -, H24⟩, ⟨%d25, %f25, -, H25⟩, ⟨%d26, %f26, -, H26⟩, ⟨%d27, %f27, -, H27⟩, ⟨%d28, %f28, -, H28⟩,
    ⟨%d29, %f29, -, H29⟩, ⟨%d30, %f30, -, H30⟩, ⟨%d31, %f31, -, H31⟩, ⟨%d32, %f32, -, H32⟩, ⟨%d33, %f33, -, H33⟩,
    ⟨%d34, %f34, -, H34⟩, ⟨%d35, %f35, -, H35⟩, ⟨%d36, %f36, -, H36⟩, ⟨%d37, %f37, -, H37⟩, ⟨%d38, %f38, -, H38⟩,
    ⟨%d39, %f39, -, H39⟩, ⟨%d40, %f40, -, H40⟩, ⟨%d41, %f41, -, H41⟩, ⟨%d42, %f42, -, H42⟩, ⟨%d43, %f43, -, H43⟩,
    ⟨%d44, %f44, -, H44⟩, ⟨%d45, %f45, -, H45⟩, ⟨%d46, %f46, -, H46⟩, ⟨%d47, %f47, -, H47⟩, ⟨%d48, %f48, -, H48⟩,
    ⟨%d49, %f49, -, H49⟩, ⟨%d50, %f50, -, H50⟩, ⟨%d51, %f51, -, H51⟩, ⟨%d52, %f52, -, H52⟩, ⟨%d53, %f53, -, H53⟩,
    ⟨%d54, %f54, -, H54⟩, ⟨%d55, %f55, -, H55⟩, ⟨%d56, %f56, -, H56⟩, ⟨%d57, %f57, -, H57⟩, ⟨%d58, %f58, -, H58⟩,
    ⟨%d59, %f59, -, H59⟩, ⟨%d60, %f60, -, H60⟩⟩, Hk⟩
  sl_unfold [cc0_sample_attn]
  sl_exec_parts
  split
  · sl_exec_parts
    split
    · sl_exec_parts
      sl_step
      iapply Hk
      isplitl [H3]
      · iexists _, _; isplitr; swap
        · iexact H3
        ipureintro; rfl
      isplitl [H4]
      · iexists _, _; isplitr; swap
        · iexact H4
        ipureintro; rfl
      isplitl [H5]
      · iexists _, _; isplitr; swap
        · iexact H5
        ipureintro; rfl
      isplitl [H6]
      · iexists _, _; isplitr; swap
        · iexact H6
        ipureintro; rfl
      isplitl [H7]
      · iexists _, _; isplitr; swap
        · iexact H7
        ipureintro; rfl
      isplitl [H8]
      · iexists _, _; isplitr; swap
        · iexact H8
        ipureintro; rfl
      isplitl [H9]
      · iexists _, _; isplitr; swap
        · iexact H9
        ipureintro; rfl
      isplitl [H10]
      · iexists _, _; isplitr; swap
        · iexact H10
        ipureintro; rfl
      isplitl [H11]
      · iexists _, _; isplitr; swap
        · iexact H11
        ipureintro; rfl
      isplitl [H12]
      · iexists _, _; isplitr; swap
        · iexact H12
        ipureintro; rfl
      isplitl [H13]
      · iexists _, _; isplitr; swap
        · iexact H13
        ipureintro; rfl
      isplitl [H14]
      · iexists _, _; isplitr; swap
        · iexact H14
        ipureintro; rfl
      isplitl [H15]
      · iexists _, _; isplitr; swap
        · iexact H15
        ipureintro; rfl
      isplitl [H16]
      · iexists _, _; isplitr; swap
        · iexact H16
        ipureintro; rfl
      isplitl [H17]
      · iexists _, _; isplitr; swap
        · iexact H17
        ipureintro; rfl
      isplitl [H18]
      · iexists _, _; isplitr; swap
        · iexact H18
        ipureintro; rfl
      isplitl [H19]
      · iexists _, _; isplitr; swap
        · iexact H19
        ipureintro; rfl
      isplitl [H20]
      · iexists _, _; isplitr; swap
        · iexact H20
        ipureintro; rfl
      isplitl [H21]
      · iexists _, _; isplitr; swap
        · iexact H21
        ipureintro; rfl
      isplitl [H22]
      · iexists _, _; isplitr; swap
        · iexact H22
        ipureintro; rfl
      isplitl [H23]
      · iexists _, _; isplitr; swap
        · iexact H23
        ipureintro; rfl
      isplitl [H24]
      · iexists _, _; isplitr; swap
        · iexact H24
        ipureintro; rfl
      isplitl [H25]
      · iexists _, _; isplitr; swap
        · iexact H25
        ipureintro; rfl
      isplitl [H26]
      · iexists _, _; isplitr; swap
        · iexact H26
        ipureintro; rfl
      isplitl [H27]
      · iexists _, _; isplitr; swap
        · iexact H27
        ipureintro; rfl
      isplitl [H28]
      · iexists _, _; isplitr; swap
        · iexact H28
        ipureintro; rfl
      isplitl [H29]
      · iexists _, _; isplitr; swap
        · iexact H29
        ipureintro; rfl
      isplitl [H30]
      · iexists _, _; isplitr; swap
        · iexact H30
        ipureintro; rfl
      isplitl [H31]
      · iexists _, _; isplitr; swap
        · iexact H31
        ipureintro; rfl
      isplitl [H32]
      · iexists _, _; isplitr; swap
        · iexact H32
        ipureintro; rfl
      isplitl [H33]
      · iexists _, _; isplitr; swap
        · iexact H33
        ipureintro; rfl
      isplitl [H34]
      · iexists _, _; isplitr; swap
        · iexact H34
        ipureintro; rfl
      isplitl [H35]
      · iexists _, _; isplitr; swap
        · iexact H35
        ipureintro; rfl
      isplitl [H36]
      · iexists _, _; isplitr; swap
        · iexact H36
        ipureintro; rfl
      isplitl [H37]
      · iexists _, _; isplitr; swap
        · iexact H37
        ipureintro; rfl
      isplitl [H38]
      · iexists _, _; isplitr; swap
        · iexact H38
        ipureintro; rfl
      isplitl [H39]
      · iexists _, _; isplitr; swap
        · iexact H39
        ipureintro; rfl
      isplitl [H40]
      · iexists _, _; isplitr; swap
        · iexact H40
        ipureintro; rfl
      isplitl [H41]
      · iexists _, _; isplitr; swap
        · iexact H41
        ipureintro; rfl
      isplitl [H42]
      · iexists _, _; isplitr; swap
        · iexact H42
        ipureintro; rfl
      isplitl [H43]
      · iexists _, _; isplitr; swap
        · iexact H43
        ipureintro; rfl
      isplitl [H44]
      · iexists _, _; isplitr; swap
        · iexact H44
        ipureintro; rfl
      isplitl [H45]
      · iexists _, _; isplitr; swap
        · iexact H45
        ipureintro; rfl
      isplitl [H46]
      · iexists _, _; isplitr; swap
        · iexact H46
        ipureintro; rfl
      isplitl [H47]
      · iexists _, _; isplitr; swap
        · iexact H47
        ipureintro; rfl
      isplitl [H48]
      · iexists _, _; isplitr; swap
        · iexact H48
        ipureintro; rfl
      isplitl [H49]
      · iexists _, _; isplitr; swap
        · iexact H49
        ipureintro; rfl
      isplitl [H50]
      · iexists _, _; isplitr; swap
        · iexact H50
        ipureintro; rfl
      isplitl [H51]
      · iexists _, _; isplitr; swap
        · iexact H51
        ipureintro; rfl
      isplitl [H52]
      · iexists _, _; isplitr; swap
        · iexact H52
        ipureintro; rfl
      isplitl [H53]
      · iexists _, _; isplitr; swap
        · iexact H53
        ipureintro; rfl
      isplitl [H54]
      · iexists _, _; isplitr; swap
        · iexact H54
        ipureintro; rfl
      isplitl [H55]
      · iexists _, _; isplitr; swap
        · iexact H55
        ipureintro; rfl
      isplitl [H56]
      · iexists _, _; isplitr; swap
        · iexact H56
        ipureintro; rfl
      isplitl [H57]
      · iexists _, _; isplitr; swap
        · iexact H57
        ipureintro; rfl
      isplitl [H58]
      · iexists _, _; isplitr; swap
        · iexact H58
        ipureintro; rfl
      isplitl [H59]
      · iexists _, _; isplitr; swap
        · iexact H59
        ipureintro; rfl
      iexists _, _; isplitr; swap
      · iexact H60
      ipureintro; rfl
    · sl_exec_parts
      sl_step
      iapply Hk
      isplitl [H3]
      · iexists _, _; isplitr; swap
        · iexact H3
        ipureintro; rfl
      isplitl [H4]
      · iexists _, _; isplitr; swap
        · iexact H4
        ipureintro; rfl
      isplitl [H5]
      · iexists _, _; isplitr; swap
        · iexact H5
        ipureintro; rfl
      isplitl [H6]
      · iexists _, _; isplitr; swap
        · iexact H6
        ipureintro; rfl
      isplitl [H7]
      · iexists _, _; isplitr; swap
        · iexact H7
        ipureintro; rfl
      isplitl [H8]
      · iexists _, _; isplitr; swap
        · iexact H8
        ipureintro; rfl
      isplitl [H9]
      · iexists _, _; isplitr; swap
        · iexact H9
        ipureintro; rfl
      isplitl [H10]
      · iexists _, _; isplitr; swap
        · iexact H10
        ipureintro; rfl
      isplitl [H11]
      · iexists _, _; isplitr; swap
        · iexact H11
        ipureintro; rfl
      isplitl [H12]
      · iexists _, _; isplitr; swap
        · iexact H12
        ipureintro; rfl
      isplitl [H13]
      · iexists _, _; isplitr; swap
        · iexact H13
        ipureintro; rfl
      isplitl [H14]
      · iexists _, _; isplitr; swap
        · iexact H14
        ipureintro; rfl
      isplitl [H15]
      · iexists _, _; isplitr; swap
        · iexact H15
        ipureintro; rfl
      isplitl [H16]
      · iexists _, _; isplitr; swap
        · iexact H16
        ipureintro; rfl
      isplitl [H17]
      · iexists _, _; isplitr; swap
        · iexact H17
        ipureintro; rfl
      isplitl [H18]
      · iexists _, _; isplitr; swap
        · iexact H18
        ipureintro; rfl
      isplitl [H19]
      · iexists _, _; isplitr; swap
        · iexact H19
        ipureintro; rfl
      isplitl [H20]
      · iexists _, _; isplitr; swap
        · iexact H20
        ipureintro; rfl
      isplitl [H21]
      · iexists _, _; isplitr; swap
        · iexact H21
        ipureintro; rfl
      isplitl [H22]
      · iexists _, _; isplitr; swap
        · iexact H22
        ipureintro; rfl
      isplitl [H23]
      · iexists _, _; isplitr; swap
        · iexact H23
        ipureintro; rfl
      isplitl [H24]
      · iexists _, _; isplitr; swap
        · iexact H24
        ipureintro; rfl
      isplitl [H25]
      · iexists _, _; isplitr; swap
        · iexact H25
        ipureintro; rfl
      isplitl [H26]
      · iexists _, _; isplitr; swap
        · iexact H26
        ipureintro; rfl
      isplitl [H27]
      · iexists _, _; isplitr; swap
        · iexact H27
        ipureintro; rfl
      isplitl [H28]
      · iexists _, _; isplitr; swap
        · iexact H28
        ipureintro; rfl
      isplitl [H29]
      · iexists _, _; isplitr; swap
        · iexact H29
        ipureintro; rfl
      isplitl [H30]
      · iexists _, _; isplitr; swap
        · iexact H30
        ipureintro; rfl
      isplitl [H31]
      · iexists _, _; isplitr; swap
        · iexact H31
        ipureintro; rfl
      isplitl [H32]
      · iexists _, _; isplitr; swap
        · iexact H32
        ipureintro; rfl
      isplitl [H33]
      · iexists _, _; isplitr; swap
        · iexact H33
        ipureintro; rfl
      isplitl [H34]
      · iexists _, _; isplitr; swap
        · iexact H34
        ipureintro; rfl
      isplitl [H35]
      · iexists _, _; isplitr; swap
        · iexact H35
        ipureintro; rfl
      isplitl [H36]
      · iexists _, _; isplitr; swap
        · iexact H36
        ipureintro; rfl
      isplitl [H37]
      · iexists _, _; isplitr; swap
        · iexact H37
        ipureintro; rfl
      isplitl [H38]
      · iexists _, _; isplitr; swap
        · iexact H38
        ipureintro; rfl
      isplitl [H39]
      · iexists _, _; isplitr; swap
        · iexact H39
        ipureintro; rfl
      isplitl [H40]
      · iexists _, _; isplitr; swap
        · iexact H40
        ipureintro; rfl
      isplitl [H41]
      · iexists _, _; isplitr; swap
        · iexact H41
        ipureintro; rfl
      isplitl [H42]
      · iexists _, _; isplitr; swap
        · iexact H42
        ipureintro; rfl
      isplitl [H43]
      · iexists _, _; isplitr; swap
        · iexact H43
        ipureintro; rfl
      isplitl [H44]
      · iexists _, _; isplitr; swap
        · iexact H44
        ipureintro; rfl
      isplitl [H45]
      · iexists _, _; isplitr; swap
        · iexact H45
        ipureintro; rfl
      isplitl [H46]
      · iexists _, _; isplitr; swap
        · iexact H46
        ipureintro; rfl
      isplitl [H47]
      · iexists _, _; isplitr; swap
        · iexact H47
        ipureintro; rfl
      isplitl [H48]
      · iexists _, _; isplitr; swap
        · iexact H48
        ipureintro; rfl
      isplitl [H49]
      · iexists _, _; isplitr; swap
        · iexact H49
        ipureintro; rfl
      isplitl [H50]
      · iexists _, _; isplitr; swap
        · iexact H50
        ipureintro; rfl
      isplitl [H51]
      · iexists _, _; isplitr; swap
        · iexact H51
        ipureintro; rfl
      isplitl [H52]
      · iexists _, _; isplitr; swap
        · iexact H52
        ipureintro; rfl
      isplitl [H53]
      · iexists _, _; isplitr; swap
        · iexact H53
        ipureintro; rfl
      isplitl [H54]
      · iexists _, _; isplitr; swap
        · iexact H54
        ipureintro; rfl
      isplitl [H55]
      · iexists _, _; isplitr; swap
        · iexact H55
        ipureintro; rfl
      isplitl [H56]
      · iexists _, _; isplitr; swap
        · iexact H56
        ipureintro; rfl
      isplitl [H57]
      · iexists _, _; isplitr; swap
        · iexact H57
        ipureintro; rfl
      isplitl [H58]
      · iexists _, _; isplitr; swap
        · iexact H58
        ipureintro; rfl
      isplitl [H59]
      · iexists _, _; isplitr; swap
        · iexact H59
        ipureintro; rfl
      iexists _, _; isplitr; swap
      · iexact H60
      ipureintro; rfl
  · sl_exec_parts
    sl_step
    iapply Hk
    isplitl [H3]
    · iexists _, _; isplitr; swap
      · iexact H3
      ipureintro; rfl
    isplitl [H4]
    · iexists _, _; isplitr; swap
      · iexact H4
      ipureintro; rfl
    isplitl [H5]
    · iexists _, _; isplitr; swap
      · iexact H5
      ipureintro; rfl
    isplitl [H6]
    · iexists _, _; isplitr; swap
      · iexact H6
      ipureintro; rfl
    isplitl [H7]
    · iexists _, _; isplitr; swap
      · iexact H7
      ipureintro; rfl
    isplitl [H8]
    · iexists _, _; isplitr; swap
      · iexact H8
      ipureintro; rfl
    isplitl [H9]
    · iexists _, _; isplitr; swap
      · iexact H9
      ipureintro; rfl
    isplitl [H10]
    · iexists _, _; isplitr; swap
      · iexact H10
      ipureintro; rfl
    isplitl [H11]
    · iexists _, _; isplitr; swap
      · iexact H11
      ipureintro; rfl
    isplitl [H12]
    · iexists _, _; isplitr; swap
      · iexact H12
      ipureintro; rfl
    isplitl [H13]
    · iexists _, _; isplitr; swap
      · iexact H13
      ipureintro; rfl
    isplitl [H14]
    · iexists _, _; isplitr; swap
      · iexact H14
      ipureintro; rfl
    isplitl [H15]
    · iexists _, _; isplitr; swap
      · iexact H15
      ipureintro; rfl
    isplitl [H16]
    · iexists _, _; isplitr; swap
      · iexact H16
      ipureintro; rfl
    isplitl [H17]
    · iexists _, _; isplitr; swap
      · iexact H17
      ipureintro; rfl
    isplitl [H18]
    · iexists _, _; isplitr; swap
      · iexact H18
      ipureintro; rfl
    isplitl [H19]
    · iexists _, _; isplitr; swap
      · iexact H19
      ipureintro; rfl
    isplitl [H20]
    · iexists _, _; isplitr; swap
      · iexact H20
      ipureintro; rfl
    isplitl [H21]
    · iexists _, _; isplitr; swap
      · iexact H21
      ipureintro; rfl
    isplitl [H22]
    · iexists _, _; isplitr; swap
      · iexact H22
      ipureintro; rfl
    isplitl [H23]
    · iexists _, _; isplitr; swap
      · iexact H23
      ipureintro; rfl
    isplitl [H24]
    · iexists _, _; isplitr; swap
      · iexact H24
      ipureintro; rfl
    isplitl [H25]
    · iexists _, _; isplitr; swap
      · iexact H25
      ipureintro; rfl
    isplitl [H26]
    · iexists _, _; isplitr; swap
      · iexact H26
      ipureintro; rfl
    isplitl [H27]
    · iexists _, _; isplitr; swap
      · iexact H27
      ipureintro; rfl
    isplitl [H28]
    · iexists _, _; isplitr; swap
      · iexact H28
      ipureintro; rfl
    isplitl [H29]
    · iexists _, _; isplitr; swap
      · iexact H29
      ipureintro; rfl
    isplitl [H30]
    · iexists _, _; isplitr; swap
      · iexact H30
      ipureintro; rfl
    isplitl [H31]
    · iexists _, _; isplitr; swap
      · iexact H31
      ipureintro; rfl
    isplitl [H32]
    · iexists _, _; isplitr; swap
      · iexact H32
      ipureintro; rfl
    isplitl [H33]
    · iexists _, _; isplitr; swap
      · iexact H33
      ipureintro; rfl
    isplitl [H34]
    · iexists _, _; isplitr; swap
      · iexact H34
      ipureintro; rfl
    isplitl [H35]
    · iexists _, _; isplitr; swap
      · iexact H35
      ipureintro; rfl
    isplitl [H36]
    · iexists _, _; isplitr; swap
      · iexact H36
      ipureintro; rfl
    isplitl [H37]
    · iexists _, _; isplitr; swap
      · iexact H37
      ipureintro; rfl
    isplitl [H38]
    · iexists _, _; isplitr; swap
      · iexact H38
      ipureintro; rfl
    isplitl [H39]
    · iexists _, _; isplitr; swap
      · iexact H39
      ipureintro; rfl
    isplitl [H40]
    · iexists _, _; isplitr; swap
      · iexact H40
      ipureintro; rfl
    isplitl [H41]
    · iexists _, _; isplitr; swap
      · iexact H41
      ipureintro; rfl
    isplitl [H42]
    · iexists _, _; isplitr; swap
      · iexact H42
      ipureintro; rfl
    isplitl [H43]
    · iexists _, _; isplitr; swap
      · iexact H43
      ipureintro; rfl
    isplitl [H44]
    · iexists _, _; isplitr; swap
      · iexact H44
      ipureintro; rfl
    isplitl [H45]
    · iexists _, _; isplitr; swap
      · iexact H45
      ipureintro; rfl
    isplitl [H46]
    · iexists _, _; isplitr; swap
      · iexact H46
      ipureintro; rfl
    isplitl [H47]
    · iexists _, _; isplitr; swap
      · iexact H47
      ipureintro; rfl
    isplitl [H48]
    · iexists _, _; isplitr; swap
      · iexact H48
      ipureintro; rfl
    isplitl [H49]
    · iexists _, _; isplitr; swap
      · iexact H49
      ipureintro; rfl
    isplitl [H50]
    · iexists _, _; isplitr; swap
      · iexact H50
      ipureintro; rfl
    isplitl [H51]
    · iexists _, _; isplitr; swap
      · iexact H51
      ipureintro; rfl
    isplitl [H52]
    · iexists _, _; isplitr; swap
      · iexact H52
      ipureintro; rfl
    isplitl [H53]
    · iexists _, _; isplitr; swap
      · iexact H53
      ipureintro; rfl
    isplitl [H54]
    · iexists _, _; isplitr; swap
      · iexact H54
      ipureintro; rfl
    isplitl [H55]
    · iexists _, _; isplitr; swap
      · iexact H55
      ipureintro; rfl
    isplitl [H56]
    · iexists _, _; isplitr; swap
      · iexact H56
      ipureintro; rfl
    isplitl [H57]
    · iexists _, _; isplitr; swap
      · iexact H57
      ipureintro; rfl
    isplitl [H58]
    · iexists _, _; isplitr; swap
      · iexact H58
      ipureintro; rfl
    isplitl [H59]
    · iexists _, _; isplitr; swap
      · iexact H59
      ipureintro; rfl
    iexists _, _; isplitr; swap
    · iexact H60
    ipureintro; rfl

end Cert.SampleAttnRun

end
-- ==== Proof.SampleAttnFrame.lean ====
/-
The sample batch's attention kernel's frame: at every grid point the body runs without a fault from the staged
blocks, whatever they hold (`Cert.SampleAttnRun.body_run`), so the launch ends, leaves every argument array as it
was and every semaphore counter at zero. The page table's entries must lie in the pool (`ok0`, proved from the
precondition in SampleAttnClaim.lean). Stated over any float values.
-/
module

public import proofs.«01_k».proof.Proof.SampleAttnRun
public import Idealize.ShloMosaic.Lib.Pipeline.FrameBody
public import Idealize.ShloMosaic.Lib.Claim

@[expose] public section

set_option maxRecDepth 16384

noncomputable section

namespace Cert.SampleAttnRun

open Cert.SampleAttnIdeal Cert.SampleAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the launch begins. -/
abbrev V (c : Dev nD) (b : Ref sig .tc) : Buf (Elt F) ((c : Thread nD τ).loc b) := m ((c : Thread nD τ).loc b)

/-- The page table as the launch finds it (the program runs on one device). -/
def table : pre0.Contents (Elt F) := fun j => V m (0 : Dev nD) (pre0.ref j)
/-- Every device holds that table. -/
theorem table_eq (c : Dev nD) (j : Fin 1) : V m c (pre0.ref j) = table m j := by
  obtain rfl : c = 0 := Subsingleton.elim _ _; rfl

variable (hO : ok0 (F := F) (table m))

/-- The table with the fact that every page it names lies in the pool. -/
abbrev adm (p : Fin 1) : (pcfgs (F := F) p).Adm := ⟨table m, hO⟩
/-- The launch's pipeline at that table. -/
abbrev cfgM : Pipeline.Cfg sig Λ₀ := Pipeline.pin (pcfgs (F := F)) (adm m hO) 0

/-- Window 0's staging buffer at point `t`, and that it is a whole buffer. -/
abbrev stage0 (t : Fin (cfgM m hO).N) : Memref sig .tc .vmem S1x32x128 .bf16 := spec0_0.stage ((cfgM m hO).slots t 0)
theorem whole0 (t : Fin (cfgM m hO).N) : (stage0 m hO t).IsWhole := hstage0_0 (((cfgM m hO).slots t 0).cast nbuf0_0)
/-- Window 1's staging buffer at point `t`, and that it is a whole buffer. -/
abbrev stage1 (t : Fin (cfgM m hO).N) : Memref sig .tc .vmem S1x32x64 .bf16 := spec0_1.stage ((cfgM m hO).slots t 1)
theorem whole1 (t : Fin (cfgM m hO).N) : (stage1 m hO t).IsWhole := hstage0_1 (((cfgM m hO).slots t 1).cast nbuf0_1)
/-- Window 2's staging buffer at point `t`, and that it is a whole buffer. -/
abbrev stage2 (t : Fin (cfgM m hO).N) : Memref sig .tc .vmem S1x32x128 .f32 := spec0_2.stage ((cfgM m hO).slots t 2)
theorem whole2 (t : Fin (cfgM m hO).N) : (stage2 m hO t).IsWhole := hstage0_2 (((cfgM m hO).slots t 2).cast nbuf0_2)
/-- Window 3's staging buffer at point `t`, and that it is a whole buffer. -/
abbrev stage3 (t : Fin (cfgM m hO).N) : Memref sig .tc .vmem S1x64x128 .bf16 := spec0_3.stage ((cfgM m hO).slots t 3)
theorem whole3 (t : Fin (cfgM m hO).N) : (stage3 m hO t).IsWhole := hstage0_3 (((cfgM m hO).slots t 3).cast nbuf0_3)
/-- Window 4's staging buffer at point `t`, and that it is a whole buffer. -/
abbrev stage4 (t : Fin (cfgM m hO).N) : Memref sig .tc .vmem S1x128x128 .bf16 := spec0_4.stage ((cfgM m hO).slots t 4)
theorem whole4 (t : Fin (cfgM m hO).N) : (stage4 m hO t).IsWhole := hstage0_4 (((cfgM m hO).slots t 4).cast nbuf0_4)
/-- Window 5's staging buffer at point `t`, and that it is a whole buffer. -/
abbrev stage5 (t : Fin (cfgM m hO).N) : Memref sig .tc .vmem S1x128x128 .bf16 := spec0_5.stage ((cfgM m hO).slots t 5)
theorem whole5 (t : Fin (cfgM m hO).N) : (stage5 m hO t).IsWhole := hstage0_5 (((cfgM m hO).slots t 5).cast nbuf0_5)
/-- Window 6's staging buffer at point `t`, and that it is a whole buffer. -/
abbrev stage6 (t : Fin (cfgM m hO).N) : Memref sig .tc .vmem S1x64x128 .f32 := spec0_6.stage ((cfgM m hO).slots t 6)
theorem whole6 (t : Fin (cfgM m hO).N) : (stage6 m hO t).IsWhole := hstage0_6 (((cfgM m hO).slots t 6).cast nbuf0_6)
/-- Window 7's staging buffer at point `t`, and that it is a whole buffer. -/
abbrev stage7 (t : Fin (cfgM m hO).N) : Memref sig .tc .vmem S1x64x128 .f32 := spec0_7.stage ((cfgM m hO).slots t 7)
theorem whole7 (t : Fin (cfgM m hO).N) : (stage7 m hO t).IsWhole := hstage0_7 (((cfgM m hO).slots t 7).cast nbuf0_7)
/-- Window 8's staging buffer at point `t`, and that it is a whole buffer. -/
abbrev stage8 (t : Fin (cfgM m hO).N) : Memref sig .tc .vmem S1x64x128 .f32 := spec0_8.stage ((cfgM m hO).slots t 8)
theorem whole8 (t : Fin (cfgM m hO).N) : (stage8 m hO t).IsWhole := hstage0_8 (((cfgM m hO).slots t 8).cast nbuf0_8)
/-- Window 9's staging buffer at point `t`, and that it is a whole buffer. -/
abbrev stage9 (t : Fin (cfgM m hO).N) : Memref sig .tc .vmem S1x64x128 .f32 := spec0_9.stage ((cfgM m hO).slots t 9)
theorem whole9 (t : Fin (cfgM m hO).N) : (stage9 m hO t).IsWhole := hstage0_9 (((cfgM m hO).slots t 9).cast nbuf0_9)
/-- Window 10's staging buffer at point `t`, and that it is a whole buffer. -/
abbrev stage10 (t : Fin (cfgM m hO).N) : Memref sig .tc .vmem S1x64x128 .f32 := spec0_10.stage ((cfgM m hO).slots t 10)
theorem whole10 (t : Fin (cfgM m hO).N) : (stage10 m hO t).IsWhole := hstage0_10 (((cfgM m hO).slots t 10).cast nbuf0_10)
/-- Window 11's staging buffer at point `t`, and that it is a whole buffer. -/
abbrev stage11 (t : Fin (cfgM m hO).N) : Memref sig .tc .vmem S1x64x128 .f32 := spec0_11.stage ((cfgM m hO).slots t 11)
theorem whole11 (t : Fin (cfgM m hO).N) : (stage11 m hO t).IsWhole := hstage0_11 (((cfgM m hO).slots t 11).cast nbuf0_11)
/-- Window 12's staging buffer at point `t`, and that it is a whole buffer. -/
abbrev stage12 (t : Fin (cfgM m hO).N) : Memref sig .tc .vmem S1x64x128 .f32 := spec0_12.stage ((cfgM m hO).slots t 12)
theorem whole12 (t : Fin (cfgM m hO).N) : (stage12 m hO t).IsWhole := hstage0_12 (((cfgM m hO).slots t 12).cast nbuf0_12)
/-- Window 13's staging buffer at point `t`, and that it is a whole buffer. -/
abbrev stage13 (t : Fin (cfgM m hO).N) : Memref sig .tc .vmem S1x64x128 .f32 := spec0_13.stage ((cfgM m hO).slots t 13)
theorem whole13 (t : Fin (cfgM m hO).N) : (stage13 m hO t).IsWhole := hstage0_13 (((cfgM m hO).slots t 13).cast nbuf0_13)
/-- Window 14's staging buffer at point `t`, and that it is a whole buffer. -/
abbrev stage14 (t : Fin (cfgM m hO).N) : Memref sig .tc .vmem S1x64x128 .f32 := spec0_14.stage ((cfgM m hO).slots t 14)
theorem whole14 (t : Fin (cfgM m hO).N) : (stage14 m hO t).IsWhole := hstage0_14 (((cfgM m hO).slots t 14).cast nbuf0_14)
/-- Window 15's staging buffer at point `t`, and that it is a whole buffer. -/
abbrev stage15 (t : Fin (cfgM m hO).N) : Memref sig .tc .vmem S1x64x128 .f32 := spec0_15.stage ((cfgM m hO).slots t 15)
theorem whole15 (t : Fin (cfgM m hO).N) : (stage15 m hO t).IsWhole := hstage0_15 (((cfgM m hO).slots t 15).cast nbuf0_15)
/-- Window 16's staging buffer at point `t`, and that it is a whole buffer. -/
abbrev stage16 (t : Fin (cfgM m hO).N) : Memref sig .tc .vmem S1x64x128 .f32 := spec0_16.stage ((cfgM m hO).slots t 16)
theorem whole16 (t : Fin (cfgM m hO).N) : (stage16 m hO t).IsWhole := hstage0_16 (((cfgM m hO).slots t 16).cast nbuf0_16)
/-- Window 17's staging buffer at point `t`, and that it is a whole buffer. -/
abbrev stage17 (t : Fin (cfgM m hO).N) : Memref sig .tc .vmem S1x64x128 .f32 := spec0_17.stage ((cfgM m hO).slots t 17)
theorem whole17 (t : Fin (cfgM m hO).N) : (stage17 m hO t).IsWhole := hstage0_17 (((cfgM m hO).slots t 17).cast nbuf0_17)
/-- Window 18's staging buffer at point `t`, and that it is a whole buffer. -/
abbrev stage18 (t : Fin (cfgM m hO).N) : Memref sig .tc .vmem S1x64x128 .f32 := spec0_18.stage ((cfgM m hO).slots t 18)
theorem whole18 (t : Fin (cfgM m hO).N) : (stage18 m hO t).IsWhole := hstage0_18 (((cfgM m hO).slots t 18).cast nbuf0_18)
/-- Window 19's staging buffer at point `t`, and that it is a whole buffer. -/
abbrev stage19 (t : Fin (cfgM m hO).N) : Memref sig .tc .vmem S1x64x128 .f32 := spec0_19.stage ((cfgM m hO).slots t 19)
theorem whole19 (t : Fin (cfgM m hO).N) : (stage19 m hO t).IsWhole := hstage0_19 (((cfgM m hO).slots t 19).cast nbuf0_19)
/-- Window 20's staging buffer at point `t`, and that it is a whole buffer. -/
abbrev stage20 (t : Fin (cfgM m hO).N) : Memref sig .tc .vmem S1x64x128 .f32 := spec0_20.stage ((cfgM m hO).slots t 20)
theorem whole20 (t : Fin (cfgM m hO).N) : (stage20 m hO t).IsWhole := hstage0_20 (((cfgM m hO).slots t 20).cast nbuf0_20)
/-- Window 21's staging buffer at point `t`, and that it is a whole buffer. -/
abbrev stage21 (t : Fin (cfgM m hO).N) : Memref sig .tc .vmem S1x64x128 .f32 := spec0_21.stage ((cfgM m hO).slots t 21)
theorem whole21 (t : Fin (cfgM m hO).N) : (stage21 m hO t).IsWhole := hstage0_21 (((cfgM m hO).slots t 21).cast nbuf0_21)
/-- Window 22's staging buffer at point `t`, and that it is a whole buffer. -/
abbrev stage22 (t : Fin (cfgM m hO).N) : Memref sig .tc .vmem S1x128x128 .f32 := spec0_22.stage ((cfgM m hO).slots t 22)
theorem whole22 (t : Fin (cfgM m hO).N) : (stage22 m hO t).IsWhole := hstage0_22 (((cfgM m hO).slots t 22).cast nbuf0_22)
/-- Window 23's staging buffer at point `t`, and that it is a whole buffer. -/
abbrev stage23 (t : Fin (cfgM m hO).N) : Memref sig .tc .vmem S1x128x128 .f32 := spec0_23.stage ((cfgM m hO).slots t 23)
theorem whole23 (t : Fin (cfgM m hO).N) : (stage23 m hO t).IsWhole := hstage0_23 (((cfgM m hO).slots t 23).cast nbuf0_23)
/-- Window 24's staging buffer at point `t`, and that it is a whole buffer. -/
abbrev stage24 (t : Fin (cfgM m hO).N) : Memref sig .tc .vmem S1x128x128 .f32 := spec0_24.stage ((cfgM m hO).slots t 24)
theorem whole24 (t : Fin (cfgM m hO).N) : (stage24 m hO t).IsWhole := hstage0_24 (((cfgM m hO).slots t 24).cast nbuf0_24)
/-- Window 25's staging buffer at point `t`, and that it is a whole buffer. -/
abbrev stage25 (t : Fin (cfgM m hO).N) : Memref sig .tc .vmem S1x128x128 .f32 := spec0_25.stage ((cfgM m hO).slots t 25)
theorem whole25 (t : Fin (cfgM m hO).N) : (stage25 m hO t).IsWhole := hstage0_25 (((cfgM m hO).slots t 25).cast nbuf0_25)
/-- Window 26's staging buffer at point `t`, and that it is a whole buffer. -/
abbrev stage26 (t : Fin (cfgM m hO).N) : Memref sig .tc .vmem S1x128x128 .f32 := spec0_26.stage ((cfgM m hO).slots t 26)
theorem whole26 (t : Fin (cfgM m hO).N) : (stage26 m hO t).IsWhole := hstage0_26 (((cfgM m hO).slots t 26).cast nbuf0_26)
/-- Window 27's staging buffer at point `t`, and that it is a whole buffer. -/
abbrev stage27 (t : Fin (cfgM m hO).N) : Memref sig .tc .vmem S1x128x128 .f32 := spec0_27.stage ((cfgM m hO).slots t 27)
theorem whole27 (t : Fin (cfgM m hO).N) : (stage27 m hO t).IsWhole := hstage0_27 (((cfgM m hO).slots t 27).cast nbuf0_27)
/-- Window 28's staging buffer at point `t`, and that it is a whole buffer. -/
abbrev stage28 (t : Fin (cfgM m hO).N) : Memref sig .tc .vmem S1x128x128 .f32 := spec0_28.stage ((cfgM m hO).slots t 28)
theorem whole28 (t : Fin (cfgM m hO).N) : (stage28 m hO t).IsWhole := hstage0_28 (((cfgM m hO).slots t 28).cast nbuf0_28)
/-- Window 29's staging buffer at point `t`, and that it is a whole buffer. -/
abbrev stage29 (t : Fin (cfgM m hO).N) : Memref sig .tc .vmem S1x128x128 .f32 := spec0_29.stage ((cfgM m hO).slots t 29)
theorem whole29 (t : Fin (cfgM m hO).N) : (stage29 m hO t).IsWhole := hstage0_29 (((cfgM m hO).slots t 29).cast nbuf0_29)
/-- Window 30's staging buffer at point `t`, and that it is a whole buffer. -/
abbrev stage30 (t : Fin (cfgM m hO).N) : Memref sig .tc .vmem S1x128x128 .f32 := spec0_30.stage ((cfgM m hO).slots t 30)
theorem whole30 (t : Fin (cfgM m hO).N) : (stage30 m hO t).IsWhole := hstage0_30 (((cfgM m hO).slots t 30).cast nbuf0_30)
/-- Window 31's staging buffer at point `t`, and that it is a whole buffer. -/
abbrev stage31 (t : Fin (cfgM m hO).N) : Memref sig .tc .vmem S1x128x128 .f32 := spec0_31.stage ((cfgM m hO).slots t 31)
theorem whole31 (t : Fin (cfgM m hO).N) : (stage31 m hO t).IsWhole := hstage0_31 (((cfgM m hO).slots t 31).cast nbuf0_31)
/-- Window 32's staging buffer at point `t`, and that it is a whole buffer. -/
abbrev stage32 (t : Fin (cfgM m hO).N) : Memref sig .tc .vmem S1x128x128 .f32 := spec0_32.stage ((cfgM m hO).slots t 32)
theorem whole32 (t : Fin (cfgM m hO).N) : (stage32 m hO t).IsWhole := hstage0_32 (((cfgM m hO).slots t 32).cast nbuf0_32)
/-- Window 33's staging buffer at point `t`, and that it is a whole buffer. -/
abbrev stage33 (t : Fin (cfgM m hO).N) : Memref sig .tc .vmem S1x128x128 .f32 := spec0_33.stage ((cfgM m hO).slots t 33)
theorem whole33 (t : Fin (cfgM m hO).N) : (stage33 m hO t).IsWhole := hstage0_33 (((cfgM m hO).slots t 33).cast nbuf0_33)
/-- Window 34's staging buffer at point `t`, and that it is a whole buffer. -/
abbrev stage34 (t : Fin (cfgM m hO).N) : Memref sig .tc .vmem S1x128x128 .f32 := spec0_34.stage ((cfgM m hO).slots t 34)
theorem whole34 (t : Fin (cfgM m hO).N) : (stage34 m hO t).IsWhole := hstage0_34 (((cfgM m hO).slots t 34).cast nbuf0_34)
/-- Window 35's staging buffer at point `t`, and that it is a whole buffer. -/
abbrev stage35 (t : Fin (cfgM m hO).N) : Memref sig .tc .vmem S1x128x128 .f32 := spec0_35.stage ((cfgM m hO).slots t 35)
theorem whole35 (t : Fin (cfgM m hO).N) : (stage35 m hO t).IsWhole := hstage0_35 (((cfgM m hO).slots t 35).cast nbuf0_35)
/-- Window 36's staging buffer at point `t`, and that it is a whole buffer. -/
abbrev stage36 (t : Fin (cfgM m hO).N) : Memref sig .tc .vmem S1x128x128 .f32 := spec0_36.stage ((cfgM m hO).slots t 36)
theorem whole36 (t : Fin (cfgM m hO).N) : (stage36 m hO t).IsWhole := hstage0_36 (((cfgM m hO).slots t 36).cast nbuf0_36)
/-- Window 37's staging buffer at point `t`, and that it is a whole buffer. -/
abbrev stage37 (t : Fin (cfgM m hO).N) : Memref sig .tc .vmem S1x128x128 .f32 := spec0_37.stage ((cfgM m hO).slots t 37)
theorem whole37 (t : Fin (cfgM m hO).N) : (stage37 m hO t).IsWhole := hstage0_37 (((cfgM m hO).slots t 37).cast nbuf0_37)
/-- Window 38's staging buffer at point `t`, and that it is a whole buffer. -/
abbrev stage38 (t : Fin (cfgM m hO).N) : Memref sig .tc .vmem S1x128x128 .f32 := spec0_38.stage ((cfgM m hO).slots t 38)
theorem whole38 (t : Fin (cfgM m hO).N) : (stage38 m hO t).IsWhole := hstage0_38 (((cfgM m hO).slots t 38).cast nbuf0_38)
/-- Window 39's staging buffer at point `t`, and that it is a whole buffer. -/
abbrev stage39 (t : Fin (cfgM m hO).N) : Memref sig .tc .vmem S1x128x128 .f32 := spec0_39.stage ((cfgM m hO).slots t 39)
theorem whole39 (t : Fin (cfgM m hO).N) : (stage39 m hO t).IsWhole := hstage0_39 (((cfgM m hO).slots t 39).cast nbuf0_39)
/-- Window 40's staging buffer at point `t`, and that it is a whole buffer. -/
abbrev stage40 (t : Fin (cfgM m hO).N) : Memref sig .tc .vmem S1x128x128 .f32 := spec0_40.stage ((cfgM m hO).slots t 40)
theorem whole40 (t : Fin (cfgM m hO).N) : (stage40 m hO t).IsWhole := hstage0_40 (((cfgM m hO).slots t 40).cast nbuf0_40)
/-- Window 41's staging buffer at point `t`, and that it is a whole buffer. -/
abbrev stage41 (t : Fin (cfgM m hO).N) : Memref sig .tc .vmem S1x128x128 .f32 := spec0_41.stage ((cfgM m hO).slots t 41)
theorem whole41 (t : Fin (cfgM m hO).N) : (stage41 m hO t).IsWhole := hstage0_41 (((cfgM m hO).slots t 41).cast nbuf0_41)
/-- Window 42's staging buffer at point `t`, and that it is a whole buffer. -/
abbrev stage42 (t : Fin (cfgM m hO).N) : Memref sig .tc .vmem S1x128x128 .f32 := spec0_42.stage ((cfgM m hO).slots t 42)
theorem whole42 (t : Fin (cfgM m hO).N) : (stage42 m hO t).IsWhole := hstage0_42 (((cfgM m hO).slots t 42).cast nbuf0_42)
/-- Window 43's staging buffer at point `t`, and that it is a whole buffer. -/
abbrev stage43 (t : Fin (cfgM m hO).N) : Memref sig .tc .vmem S1x128x128 .f32 := spec0_43.stage ((cfgM m hO).slots t 43)
theorem whole43 (t : Fin (cfgM m hO).N) : (stage43 m hO t).IsWhole := hstage0_43 (((cfgM m hO).slots t 43).cast nbuf0_43)
/-- Window 44's staging buffer at point `t`, and that it is a whole buffer. -/
abbrev stage44 (t : Fin (cfgM m hO).N) : Memref sig .tc .vmem S1x128x128 .f32 := spec0_44.stage ((cfgM m hO).slots t 44)
theorem whole44 (t : Fin (cfgM m hO).N) : (stage44 m hO t).IsWhole := hstage0_44 (((cfgM m hO).slots t 44).cast nbuf0_44)
/-- Window 45's staging buffer at point `t`, and that it is a whole buffer. -/
abbrev stage45 (t : Fin (cfgM m hO).N) : Memref sig .tc .vmem S1x128x128 .f32 := spec0_45.stage ((cfgM m hO).slots t 45)
theorem whole45 (t : Fin (cfgM m hO).N) : (stage45 m hO t).IsWhole := hstage0_45 (((cfgM m hO).slots t 45).cast nbuf0_45)
/-- Window 46's staging buffer at point `t`, and that it is a whole buffer. -/
abbrev stage46 (t : Fin (cfgM m hO).N) : Memref sig .tc .vmem S1x128x128 .f32 := spec0_46.stage ((cfgM m hO).slots t 46)
theorem whole46 (t : Fin (cfgM m hO).N) : (stage46 m hO t).IsWhole := hstage0_46 (((cfgM m hO).slots t 46).cast nbuf0_46)
/-- Window 47's staging buffer at point `t`, and that it is a whole buffer. -/
abbrev stage47 (t : Fin (cfgM m hO).N) : Memref sig .tc .vmem S1x128x128 .f32 := spec0_47.stage ((cfgM m hO).slots t 47)
theorem whole47 (t : Fin (cfgM m hO).N) : (stage47 m hO t).IsWhole := hstage0_47 (((cfgM m hO).slots t 47).cast nbuf0_47)
/-- Window 48's staging buffer at point `t`, and that it is a whole buffer. -/
abbrev stage48 (t : Fin (cfgM m hO).N) : Memref sig .tc .vmem S1x128x128 .f32 := spec0_48.stage ((cfgM m hO).slots t 48)
theorem whole48 (t : Fin (cfgM m hO).N) : (stage48 m hO t).IsWhole := hstage0_48 (((cfgM m hO).slots t 48).cast nbuf0_48)
/-- Window 49's staging buffer at point `t`, and that it is a whole buffer. -/
abbrev stage49 (t : Fin (cfgM m hO).N) : Memref sig .tc .vmem S1x128x128 .f32 := spec0_49.stage ((cfgM m hO).slots t 49)
theorem whole49 (t : Fin (cfgM m hO).N) : (stage49 m hO t).IsWhole := hstage0_49 (((cfgM m hO).slots t 49).cast nbuf0_49)
/-- Window 50's staging buffer at point `t`, and that it is a whole buffer. -/
abbrev stage50 (t : Fin (cfgM m hO).N) : Memref sig .tc .vmem S1x128x128 .f32 := spec0_50.stage ((cfgM m hO).slots t 50)
theorem whole50 (t : Fin (cfgM m hO).N) : (stage50 m hO t).IsWhole := hstage0_50 (((cfgM m hO).slots t 50).cast nbuf0_50)
/-- Window 51's staging buffer at point `t`, and that it is a whole buffer. -/
abbrev stage51 (t : Fin (cfgM m hO).N) : Memref sig .tc .vmem S1x128x128 .f32 := spec0_51.stage ((cfgM m hO).slots t 51)
theorem whole51 (t : Fin (cfgM m hO).N) : (stage51 m hO t).IsWhole := hstage0_51 (((cfgM m hO).slots t 51).cast nbuf0_51)
/-- Window 52's staging buffer at point `t`, and that it is a whole buffer. -/
abbrev stage52 (t : Fin (cfgM m hO).N) : Memref sig .tc .vmem S1x128x128 .f32 := spec0_52.stage ((cfgM m hO).slots t 52)
theorem whole52 (t : Fin (cfgM m hO).N) : (stage52 m hO t).IsWhole := hstage0_52 (((cfgM m hO).slots t 52).cast nbuf0_52)
/-- Window 53's staging buffer at point `t`, and that it is a whole buffer. -/
abbrev stage53 (t : Fin (cfgM m hO).N) : Memref sig .tc .vmem S1x128x128 .f32 := spec0_53.stage ((cfgM m hO).slots t 53)
theorem whole53 (t : Fin (cfgM m hO).N) : (stage53 m hO t).IsWhole := hstage0_53 (((cfgM m hO).slots t 53).cast nbuf0_53)
/-- Window 54's staging buffer at point `t`, and that it is a whole buffer. -/
abbrev stage54 (t : Fin (cfgM m hO).N) : Memref sig .tc .vmem S1x32x128 .f32 := spec0_54.stage ((cfgM m hO).slots t 54)
theorem whole54 (t : Fin (cfgM m hO).N) : (stage54 m hO t).IsWhole := hstage0_54 (((cfgM m hO).slots t 54).cast nbuf0_54)

/-- Scratch buffer 0. -/
abbrev scratch0 : Memref sig .tc .vmem S65x8x128 .f32 := Memref.whole cc0_scratch0
/-- Scratch buffer 1. -/
abbrev scratch1 : Memref sig .tc .vmem S65x32x128 .f32 := Memref.whole cc0_scratch1
/-- Scratch buffer 2. -/
abbrev scratch2 : Memref sig .tc .vmem S65x128x128 .bf16 := Memref.whole cc0_scratch2

/-- What the launch keeps between points: the scratch buffers at some contents, and the generator register. -/
theorem kept_eq (c : Dev nD) :
    (Pipeline.ΦA spec0 c : sProp 𝕄)
      = iprop(iprop((∃ d, owns (c : Thread nD τ) scratch0 fullShare d) ∗ (∃ d, owns (c : Thread nD τ) scratch1 fullShare d) ∗ (∃ d, owns (c : Thread nD τ) scratch2 fullShare d)) ∗ (∃ r, prngReg c r)) := by
  unfold Pipeline.ΦA; rw [scopedRest0_eq]; simp only [scratch0, scratch1, scratch2, owns_whole]; try rfl

/-- No window's contents are named. -/
def unnamed (w : Fin 55) : Bool := true

/-- The launch's data: the arrays as found, the pools read by several windows at a share each. -/
def dats (p : Fin 1) (c : Dev nD) : Dat τ (Elt F) Unit ℕ (UR sig nD τ) ℕ (Pipeline.pin (pcfgs (F := F)) (adm m hO) p) c where
  A w := V m c (Pipeline.arrRef spec0 w)
  after w t := Dat.unnamed w t
  Φ _ := iprop(Pipeline.ΦA spec0 c ∗ Pipeline.ΦT pre0 (table m) c)
  q w := Pipeline.shareOf spec0 w
  owed _ := 0

/-- The launch's arrays are the ones the region finds. -/
theorem arrays_eq (c : Dev nD) (w : Fin 55) : (dats m hO 0 c).A w = V m c (Pipeline.arrRef spec0 w) := by
  dsimp only [dats]

/-- The body at point `t`. -/
abbrev bodyAt (t : Fin (cfgM m hO).N) : Prog (TpuEff nD τ sig (Elt F) Λ₀ .tc) PUnit :=
  cc0_sample_attn (grid0.coords t) (Memref.whole main_arg0) (Memref.isWhole_whole _)
    (stage0 m hO t) (whole0 m hO t) (stage1 m hO t) (whole1 m hO t) (stage2 m hO t) (whole2 m hO t)
    (stage3 m hO t) (whole3 m hO t) (stage4 m hO t) (whole4 m hO t) (stage5 m hO t) (whole5 m hO t)
    (stage6 m hO t) (whole6 m hO t) (stage7 m hO t) (whole7 m hO t) (stage8 m hO t) (whole8 m hO t)
    (stage9 m hO t) (whole9 m hO t) (stage10 m hO t) (whole10 m hO t) (stage11 m hO t) (whole11 m hO t)
    (stage12 m hO t) (whole12 m hO t) (stage13 m hO t) (whole13 m hO t) (stage14 m hO t) (whole14 m hO t)
    (stage15 m hO t) (whole15 m hO t) (stage16 m hO t) (whole16 m hO t) (stage17 m hO t) (whole17 m hO t)
    (stage18 m hO t) (whole18 m hO t) (stage19 m hO t) (whole19 m hO t) (stage20 m hO t) (whole20 m hO t)
    (stage21 m hO t) (whole21 m hO t) (stage22 m hO t) (whole22 m hO t) (stage23 m hO t) (whole23 m hO t)
    (stage24 m hO t) (whole24 m hO t) (stage25 m hO t) (whole25 m hO t) (stage26 m hO t) (whole26 m hO t)
    (stage27 m hO t) (whole27 m hO t) (stage28 m hO t) (whole28 m hO t) (stage29 m hO t) (whole29 m hO t)
    (stage30 m hO t) (whole30 m hO t) (stage31 m hO t) (whole31 m hO t) (stage32 m hO t) (whole32 m hO t)
    (stage33 m hO t) (whole33 m hO t) (stage34 m hO t) (whole34 m hO t) (stage35 m hO t) (whole35 m hO t)
    (stage36 m hO t) (whole36 m hO t) (stage37 m hO t) (whole37 m hO t) (stage38 m hO t) (whole38 m hO t)
    (stage39 m hO t) (whole39 m hO t) (stage40 m hO t) (whole40 m hO t) (stage41 m hO t) (whole41 m hO t)
    (stage42 m hO t) (whole42 m hO t) (stage43 m hO t) (whole43 m hO t) (stage44 m hO t) (whole44 m hO t)
    (stage45 m hO t) (whole45 m hO t) (stage46 m hO t) (whole46 m hO t) (stage47 m hO t) (whole47 m hO t)
    (stage48 m hO t) (whole48 m hO t) (stage49 m hO t) (whole49 m hO t) (stage50 m hO t) (whole50 m hO t)
    (stage51 m hO t) (whole51 m hO t) (stage52 m hO t) (whole52 m hO t) (stage53 m hO t) (whole53 m hO t)
    (stage54 m hO t) (whole54 m hO t) scratch0 (Memref.isWhole_whole _) scratch1 (Memref.isWhole_whole _)
    scratch2 (Memref.isWhole_whole _)

/-- Every staging buffer at point `t`, at some contents. -/
def Staged (c : Dev nD) (t : Fin (cfgM m hO).N) : sProp 𝕄 :=
  iprop((∃ d, owns (c : Thread nD τ) (stage0 m hO t) fullShare d) ∗
    (∃ d, owns (c : Thread nD τ) (stage1 m hO t) fullShare d) ∗
    (∃ d, owns (c : Thread nD τ) (stage2 m hO t) fullShare d) ∗
    (∃ d, owns (c : Thread nD τ) (stage3 m hO t) fullShare d) ∗
    (∃ d, owns (c : Thread nD τ) (stage4 m hO t) fullShare d) ∗
    (∃ d, owns (c : Thread nD τ) (stage5 m hO t) fullShare d) ∗
    (∃ d, owns (c : Thread nD τ) (stage6 m hO t) fullShare d) ∗
    (∃ d, owns (c : Thread nD τ) (stage7 m hO t) fullShare d) ∗
    (∃ d, owns (c : Thread nD τ) (stage8 m hO t) fullShare d) ∗
    (∃ d, owns (c : Thread nD τ) (stage9 m hO t) fullShare d) ∗
    (∃ d, owns (c : Thread nD τ) (stage10 m hO t) fullShare d) ∗
    (∃ d, owns (c : Thread nD τ) (stage11 m hO t) fullShare d) ∗
    (∃ d, owns (c : Thread nD τ) (stage12 m hO t) fullShare d) ∗
    (∃ d, owns (c : Thread nD τ) (stage13 m hO t) fullShare d) ∗
    (∃ d, owns (c : Thread nD τ) (stage14 m hO t) fullShare d) ∗
    (∃ d, owns (c : Thread nD τ) (stage15 m hO t) fullShare d) ∗
    (∃ d, owns (c : Thread nD τ) (stage16 m hO t) fullShare d) ∗
    (∃ d, owns (c : Thread nD τ) (stage17 m hO t) fullShare d) ∗
    (∃ d, owns (c : Thread nD τ) (stage18 m hO t) fullShare d) ∗
    (∃ d, owns (c : Thread nD τ) (stage19 m hO t) fullShare d) ∗
    (∃ d, owns (c : Thread nD τ) (stage20 m hO t) fullShare d) ∗
    (∃ d, owns (c : Thread nD τ) (stage21 m hO t) fullShare d) ∗
    (∃ d, owns (c : Thread nD τ) (stage22 m hO t) fullShare d) ∗
    (∃ d, owns (c : Thread nD τ) (stage23 m hO t) fullShare d) ∗
    (∃ d, owns (c : Thread nD τ) (stage24 m hO t) fullShare d) ∗
    (∃ d, owns (c : Thread nD τ) (stage25 m hO t) fullShare d) ∗
    (∃ d, owns (c : Thread nD τ) (stage26 m hO t) fullShare d) ∗
    (∃ d, owns (c : Thread nD τ) (stage27 m hO t) fullShare d) ∗
    (∃ d, owns (c : Thread nD τ) (stage28 m hO t) fullShare d) ∗
    (∃ d, owns (c : Thread nD τ) (stage29 m hO t) fullShare d) ∗
    (∃ d, owns (c : Thread nD τ) (stage30 m hO t) fullShare d) ∗
    (∃ d, owns (c : Thread nD τ) (stage31 m hO t) fullShare d) ∗
    (∃ d, owns (c : Thread nD τ) (stage32 m hO t) fullShare d) ∗
    (∃ d, owns (c : Thread nD τ) (stage33 m hO t) fullShare d) ∗
    (∃ d, owns (c : Thread nD τ) (stage34 m hO t) fullShare d) ∗
    (∃ d, owns (c : Thread nD τ) (stage35 m hO t) fullShare d) ∗
    (∃ d, owns (c : Thread nD τ) (stage36 m hO t) fullShare d) ∗
    (∃ d, owns (c : Thread nD τ) (stage37 m hO t) fullShare d) ∗
    (∃ d, owns (c : Thread nD τ) (stage38 m hO t) fullShare d) ∗
    (∃ d, owns (c : Thread nD τ) (stage39 m hO t) fullShare d) ∗
    (∃ d, owns (c : Thread nD τ) (stage40 m hO t) fullShare d) ∗
    (∃ d, owns (c : Thread nD τ) (stage41 m hO t) fullShare d) ∗
    (∃ d, owns (c : Thread nD τ) (stage42 m hO t) fullShare d) ∗
    (∃ d, owns (c : Thread nD τ) (stage43 m hO t) fullShare d) ∗
    (∃ d, owns (c : Thread nD τ) (stage44 m hO t) fullShare d) ∗
    (∃ d, owns (c : Thread nD τ) (stage45 m hO t) fullShare d) ∗
    (∃ d, owns (c : Thread nD τ) (stage46 m hO t) fullShare d) ∗
    (∃ d, owns (c : Thread nD τ) (stage47 m hO t) fullShare d) ∗
    (∃ d, owns (c : Thread nD τ) (stage48 m hO t) fullShare d) ∗
    (∃ d, owns (c : Thread nD τ) (stage49 m hO t) fullShare d) ∗
    (∃ d, owns (c : Thread nD τ) (stage50 m hO t) fullShare d) ∗
    (∃ d, owns (c : Thread nD τ) (stage51 m hO t) fullShare d) ∗
    (∃ d, owns (c : Thread nD τ) (stage52 m hO t) fullShare d) ∗
    (∃ d, owns (c : Thread nD τ) (stage53 m hO t) fullShare d) ∗
    (∃ d, owns (c : Thread nD τ) (stage54 m hO t) fullShare d))

set_option maxHeartbeats 4000000 in
/-- The body at any point, from the launch's buffers to the launch's buffers. -/
theorem sound (c : Dev nD) (t : Fin (cfgM m hO).N) (Φt Ow : sProp 𝕄) :
    iprop(iprop(Pipeline.ΦA spec0 c ∗ Φt) ∗ Ow ∗ Staged m hO c t)
      ⊢ wp frame (wpE (defs₀ (F := F)) Variants.none c none) Set.univ (bodyAt m hO t)
          (fun _ => iprop(iprop(Pipeline.ΦA spec0 c ∗ Φt) ∗ Ow ∗ Staged m hO c t)) := by
  rw [kept_eq]
  unfold bodyAt Staged
  iintro ⟨⟨⟨⟨S0, S1, S2⟩, Hg⟩, Ht⟩, Ho,
    H0, H1, H2, H3, H4, H5, H6, H7, H8, H9, H10, H11, H12, H13, H14, H15, H16, H17, H18, H19, H20, H21, H22, H23,
    H24, H25, H26, H27, H28, H29, H30, H31, H32, H33, H34, H35, H36, H37, H38, H39, H40, H41, H42, H43, H44, H45,
    H46, H47, H48, H49, H50, H51, H52, H53, H54⟩
  iapply (body_run c (grid0.coords t) (Memref.whole main_arg0) (Memref.isWhole_whole _)
    (stage0 m hO t) (whole0 m hO t) (stage1 m hO t) (whole1 m hO t) (stage2 m hO t) (whole2 m hO t)
    (stage3 m hO t) (whole3 m hO t) (stage4 m hO t) (whole4 m hO t) (stage5 m hO t) (whole5 m hO t)
    (stage6 m hO t) (whole6 m hO t) (stage7 m hO t) (whole7 m hO t) (stage8 m hO t) (whole8 m hO t)
    (stage9 m hO t) (whole9 m hO t) (stage10 m hO t) (whole10 m hO t) (stage11 m hO t) (whole11 m hO t)
    (stage12 m hO t) (whole12 m hO t) (stage13 m hO t) (whole13 m hO t) (stage14 m hO t) (whole14 m hO t)
    (stage15 m hO t) (whole15 m hO t) (stage16 m hO t) (whole16 m hO t) (stage17 m hO t) (whole17 m hO t)
    (stage18 m hO t) (whole18 m hO t) (stage19 m hO t) (whole19 m hO t) (stage20 m hO t) (whole20 m hO t)
    (stage21 m hO t) (whole21 m hO t) (stage22 m hO t) (whole22 m hO t) (stage23 m hO t) (whole23 m hO t)
    (stage24 m hO t) (whole24 m hO t) (stage25 m hO t) (whole25 m hO t) (stage26 m hO t) (whole26 m hO t)
    (stage27 m hO t) (whole27 m hO t) (stage28 m hO t) (whole28 m hO t) (stage29 m hO t) (whole29 m hO t)
    (stage30 m hO t) (whole30 m hO t) (stage31 m hO t) (whole31 m hO t) (stage32 m hO t) (whole32 m hO t)
    (stage33 m hO t) (whole33 m hO t) (stage34 m hO t) (whole34 m hO t) (stage35 m hO t) (whole35 m hO t)
    (stage36 m hO t) (whole36 m hO t) (stage37 m hO t) (whole37 m hO t) (stage38 m hO t) (whole38 m hO t)
    (stage39 m hO t) (whole39 m hO t) (stage40 m hO t) (whole40 m hO t) (stage41 m hO t) (whole41 m hO t)
    (stage42 m hO t) (whole42 m hO t) (stage43 m hO t) (whole43 m hO t) (stage44 m hO t) (whole44 m hO t)
    (stage45 m hO t) (whole45 m hO t) (stage46 m hO t) (whole46 m hO t) (stage47 m hO t) (whole47 m hO t)
    (stage48 m hO t) (whole48 m hO t) (stage49 m hO t) (whole49 m hO t) (stage50 m hO t) (whole50 m hO t)
    (stage51 m hO t) (whole51 m hO t) (stage52 m hO t) (whole52 m hO t) (stage53 m hO t) (whole53 m hO t)
    (stage54 m hO t) (whole54 m hO t) scratch0 (Memref.isWhole_whole _) scratch1 (Memref.isWhole_whole _)
    scratch2 (Memref.isWhole_whole _) Set.univ _)
  unfold Held
  isplitl [H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 S0 S1 S2]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [H50]; · iexact H50
    isplitl [H51]; · iexact H51
    isplitl [H52]; · iexact H52
    isplitl [H53]; · iexact H53
    isplitl [H54]; · iexact H54
    isplitl [S0]; · iexact S0
    isplitl [S1]; · iexact S1
    iexact S2
  iintro ⟨H0, H1, H2, H3, H4, H5, H6, H7, H8, H9, H10, H11, H12, H13, H14, H15, H16, H17, H18, H19, H20, H21, H22, H23,
    H24, H25, H26, H27, H28, H29, H30, H31, H32, H33, H34, H35, H36, H37, H38, H39, H40, H41, H42, H43, H44, H45,
    H46, H47, H48, H49, H50, H51, H52, H53, H54, S0, S1, S2⟩
  isplitl [S0 S1 S2 Hg Ht]
  · isplitl [S0 S1 S2 Hg]
    · isplitl [S0 S1 S2]
      · isplitl [S0]; · iexact S0
        isplitl [S1]; · iexact S1
        iexact S2
      iexact Hg
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  iexact H54

/-- The body the launch calls at point `t`. -/
theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 4000000 in
/-- The launch's obligation at every point, no buffer's contents named. -/
theorem obligation (c : Dev nD) :
    BodyObligation (dats (F := F) m hO 0 c) (defs₀ (F := F)) Variants.none () Set.univ unnamed := fun t => by
  rw [bigSep_W0, bigSep_W0, defs₀_row]
  exact triple_restated (sound m hO c t (Pipeline.ΦT pre0 (table m) c) ((dats m hO 0 c).owesAt () t.castSucc)) rfl .rfl fun _ => .rfl

set_option backward.isDefEq.respectTransparency.types false in
/-- The launch ends, every semaphore counter at zero, every input array at its contents before. -/
theorem launch : θ_run defs (onTc (τ := τ) (main (F := F))) (s₀ m ρ)
    (fun r => Pipeline.RDat.FramePost (cfgM m hO) (fun c => (dats m hO 0 c).toRForget unnamed) (V m) r ∧ r.2.sem = fun _ => 0) :=
  Pipeline.θ_run_frameP_forget_shared (Q' := _) (pcfgs (F := F)) (adm m hO) (dats m hO) (0 : Fin 1) launch₀0 defs₀ Variants.none
    unnamed m ρ main (hbody := fun c => (obligation m hO c).loose) (hq := fun _ _ _ => rfl)
    (howed := fun _ _ => rfl) (V := V m)
    (hmain := Pipeline.hmainP_region (pcfgs (F := F)) 0 defs₀ Variants.none m main fun c => (main_chain c).trans rfl)
    (hA := arrays_eq m hO) (hpf := table_eq m) (hΦ := fun _ _ => rfl)

/-- The page table is no window's array. -/
theorem table_rest : main_arg0 ∈ Pipeline.restRefs sig spec0 :=
  Pipeline.mem_restRefs_of main_arg0 rfl (by decide)

include hO in
/-- THE FRAME: every weakly fair execution ends, with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c).2 main_arg0 table_rest,
      (h.1.arr_in c 0 rfl).trans (arrays_eq m hO c 0),
      (h.1.arr_in c 1 rfl).trans (arrays_eq m hO c 1),
      (h.1.arr_in c 2 rfl).trans (arrays_eq m hO c 2),
      (h.1.arr_in c 3 rfl).trans (arrays_eq m hO c 3),
      (h.1.arr_in c 4 rfl).trans (arrays_eq m hO c 4),
      (h.1.arr_in c 5 rfl).trans (arrays_eq m hO c 5),
      (h.1.arr_in c 6 rfl).trans (arrays_eq m hO c 6),
      (h.1.arr_in c 22 rfl).trans (arrays_eq m hO c 22),
      (h.1.arr_in c 38 rfl).trans (arrays_eq m hO c 38)⟩, h.2⟩) (launch m ρ hO)

end Cert.SampleAttnRun

end
-- ==== Proof.SampleAttnClaim.lean ====
/-
The sample batch's attention's two frame claims, both from the one run of `Cert.SampleAttnRun`: the precondition
says that every page the table names lies in the pool, which is what the launch's page windows need.
-/
module

public import proofs.«01_k».proof.Defs
public import proofs.«01_k».proof.Proof.SampleAttnFrame
public import proofs.«01_k».proof.Proof.Gen.SampleAttn
public import proofs.«01_k».proof.Proof.Gen.Pre_pages_in_pool
public import Idealize.ShloMosaic.Lib.ReduceAll
public import Idealize.ShloMosaic.Lib.Tactic

@[expose] public section

set_option maxRecDepth 16384

noncomputable section

namespace Cert.SampleAttnClaim

open Idealize.ShloMosaic Idealize.SL.Sem
open Cert.SampleAttnIdeal Cert.SampleAttnIdeal.Gen

variable {F : FTy → Type} [FloatOps F]

/-- A word at least 0 and less than 10240 as a signed number is less than 10240 as an unsigned one. -/
theorem lt_of_range (w : BitVec 32) (h0 : 0 ≤ w.toInt) (h1 : w.toInt < 10240) : w.toNat < 10240 := by
  have e := BitVec.toInt_eq_toNat_cond w
  have hw := w.isLt
  split at e <;> omega

/-- The precondition gives every entry of the page table in the pool's range. -/
theorem in_pool (T : IVec Cert.Pre_pages_in_pool.S128x64 32) (x1 x2 x3 x4 x5 x6 x7 x8 x9)
    (h : Cert.Pre_pages_in_pool.fn (F := F) T x1 x2 x3 x4 x5 x6 x7 x8 x9 = fun _ => 1#1)
    (x : Cert.Pre_pages_in_pool.S128x64.Idx) : (T x).toNat < 10240 := by
  have e := Host.reduce_andi_all _ _ _ _ (Shape.Idx.first Cert.Pre_pages_in_pool.Facts.h_S_) (congrFun h _) x
  obtain ⟨h0, h1⟩ := IntOp.andi_eq_one.1 e
  exact lt_of_range _ (IntOp.cmpi_sge.1 h0) (IntOp.cmpi_slt.1 h1)

/-- A page's block lies inside the pool of the first rows. -/
theorem rows64_inb (f : Fin 3 → Nat) (h0 : f 0 < 10240) (h1 : f 1 = 0) (h2 : f 2 = 0) (a : Fin 3) :
    (f a + 1) * S1x64x128.size a ≤ S10240x64x128.size a := by
  fin_cases a
  · show (f 0 + 1) * 1 ≤ 10240; omega
  · show (f 1 + 1) * 64 ≤ 64; omega
  · show (f 2 + 1) * 128 ≤ 128; omega

/-- A page's block lies inside each pool of pages of 128 rows. -/
theorem rows128_inb (f : Fin 3 → Nat) (h0 : f 0 < 10240) (h1 : f 1 = 0) (h2 : f 2 = 0) (a : Fin 3) :
    (f a + 1) * S1x128x128.size a ≤ S10240x128x128.size a := by
  fin_cases a
  · show (f 0 + 1) * 1 ≤ 10240; omega
  · show (f 1 + 1) * 128 ≤ 128; omega
  · show (f 2 + 1) * 128 ≤ 128; omega

/-- Every page window's block lies inside its pool at every point. -/
theorem windows_inb (pf : pre0.Contents (Elt F)) (h : ∀ x, BitVec.toNat (w := 32) (pf 0 x) < 10240) : ok0 (F := F) pf :=
  ⟨fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows64_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩,
   fun i => ⟨rows128_inb _ (h _) rfl rfl, .inl rfl⟩⟩

/-- Over the extended reals the sample attention's launch ends, its arguments unchanged, every counter at zero. -/
theorem frame_ideal : Cert.quiescent_SampleAttnIdeal := fun m ρ h =>
  Cert.SampleAttnRun.frame m ρ (windows_inb _ (in_pool _ _ _ _ _ _ _ _ _ _ (h 0)))

/-- The same at the machine's formats: the two programs are one text, so the same run gives it. -/
theorem frame_bits : Cert.quiescent_SampleAttn := fun m ρ h =>
  cast (by sl_kernel_rfl)
    (Cert.SampleAttnRun.frame (F := Bits) m ρ (windows_inb _ (in_pool _ _ _ _ _ _ _ _ _ _ (h 0))))

end Cert.SampleAttnClaim

end
-- ==== Proof.lean ====
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MixIn.Frame
public import proofs.«01_k».proof.Proof.Gen.MixInIdeal.Frame
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.FfnS.Frame
public import proofs.«01_k».proof.Proof.Gen.FfnSIdeal.Frame
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.MixInS.Frame
public import proofs.«01_k».proof.Proof.Gen.MixInSIdeal.Frame
public import proofs.«01_k».proof.Proof.Gen.MixInSIdeal.Value
public import proofs.«01_k».proof.Proof.Gen.MixInSRefIdeal.Run
public import proofs.«01_k».proof.Proof.Gen.MixInSRefIdeal.Read
public import proofs.«01_k».proof.Proof.Gen.MixOutS.Frame
public import proofs.«01_k».proof.Proof.Gen.MixOutSIdeal.Frame
public import proofs.«01_k».proof.Proof.Gen.MixOutSIdeal.Value
public import proofs.«01_k».proof.Proof.Gen.MixOutSRefIdeal.Run
public import proofs.«01_k».proof.Proof.Gen.MixOutSRefIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Attn.Frame
public import proofs.«01_k».proof.Proof.Gen.SampleAttn
public import proofs.«01_k».proof.Proof.Gen.SampleAttnIdeal.Loops
public import proofs.«01_k».proof.Proof.Gen.SampleAttnIdeal.Launch
public import proofs.«01_k».proof.Proof.Gen.SampleAttnIdeal.Skeleton
public import proofs.«01_k».proof.Proof.Gen.Pre_pages_in_pool
public import proofs.«01_k».proof.Proof.Gen.AttnIdeal.Frame
public import proofs.«01_k».proof.Proof.FfnClaim
public import proofs.«01_k».proof.Proof.MixInClaim
public import proofs.«01_k».proof.Proof.MixOutClaim
public import proofs.«01_k».proof.Proof.FfnSClaim
public import proofs.«01_k».proof.Proof.MixInSClaim
public import proofs.«01_k».proof.Proof.MixOutSClaim
public import proofs.«01_k».proof.Proof.AdaClaim
public import proofs.«01_k».proof.Proof.AttnClaim
public import proofs.«01_k».proof.Proof.SampleAttnClaim

@[expose] public section

noncomputable section

namespace Cert.Proof

open Idealize.ShloMosaic Idealize.SL.Sem

/-- The feed-forward reference runs, keeps its arguments, and leaves every counter at zero: it declares no semaphore. -/
theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- So does the mixer-in reference. -/
theorem frame_mixInRef : Cert.quiescent_MixInRefIdeal := fun m ρ _ =>
  (θ_run Cert.MixInRefIdeal.defs _ _).mono (fun r h => ⟨fun c => (h c).2.2.2.2.2.2.2.2.2, sem_eq_zero_of_no_sems (by decide) r.2⟩)
    (Cert.MixInRefIdeal.Value.run (F := Ideal) m ρ)

/-- And the mixer-out reference. -/
theorem frame_mixOutRef : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The feed-forward reference over the sample batch likewise. -/
theorem frame_ffnSRef : Cert.quiescent_FfnSRefIdeal := fun m ρ _ =>
  (θ_run Cert.FfnSRefIdeal.defs _ _).mono (fun r h => ⟨fun c => (h c).2, sem_eq_zero_of_no_sems (by decide) r.2⟩)
    (Cert.FfnSRefIdeal.Value.run (F := Ideal) m ρ)

/-- The mixer-in reference over the sample batch. -/
theorem frame_mixInSRef : Cert.quiescent_MixInSRefIdeal := fun m ρ _ =>
  (θ_run Cert.MixInSRefIdeal.defs _ _).mono (fun r h => ⟨fun c => (h c).2.2.2.2.2.2.2.2.2, sem_eq_zero_of_no_sems (by decide) r.2⟩)
    (Cert.MixInSRefIdeal.Value.run (F := Ideal) m ρ)

/-- The mixer-out reference over the sample batch. -/
theorem frame_mixOutSRef : Cert.quiescent_MixOutSRefIdeal := fun m ρ _ =>
  (θ_run Cert.MixOutSRefIdeal.defs _ _).mono (fun r h => ⟨fun c => (h c).2, sem_eq_zero_of_no_sems (by decide) r.2⟩)
    (Cert.MixOutSRefIdeal.Value.run (F := Ideal) m ρ)

/-- The modulation reference. -/
theorem frame_adaRef : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- Everything `Cert.Claim` lists. -/
theorem claim : Cert.Claim := ⟨Cert.Ffn.Gen.facts, Cert.FfnIdeal.Gen.facts, Cert.FfnRefIdeal.Gen.facts, Cert.MixIn.Gen.facts, Cert.MixInIdeal.Gen.facts, Cert.MixInRefIdeal.Gen.facts, Cert.MixOut.Gen.facts, Cert.MixOutIdeal.Gen.facts, Cert.MixOutRefIdeal.Gen.facts, Cert.FfnS.Gen.facts, Cert.FfnSIdeal.Gen.facts, Cert.FfnSRefIdeal.Gen.facts, Cert.MixInS.Gen.facts, Cert.MixInSIdeal.Gen.facts, Cert.MixInSRefIdeal.Gen.facts, Cert.MixOutS.Gen.facts, Cert.MixOutSIdeal.Gen.facts, Cert.MixOutSRefIdeal.Gen.facts, Cert.Ada.Gen.facts, Cert.AdaIdeal.Gen.facts, Cert.AdaRefIdeal.Gen.facts, Cert.Attn.Gen.facts, Cert.AttnIdeal.Gen.facts, Cert.SampleAttn.Gen.facts, Cert.SampleAttnIdeal.Gen.facts, Cert.Pre_pages_in_pool.Gen.facts,
  fun m ρ _ => Cert.Ffn.Gen.frame m ρ,
  fun m ρ _ => Cert.FfnIdeal.Gen.frame m ρ,
  frame_ffnRef,
  fun m ρ _ => Cert.MixIn.Gen.frame m ρ,
  fun m ρ _ => Cert.MixInIdeal.Gen.frame m ρ,
  frame_mixInRef,
  fun m ρ _ => Cert.MixOut.Gen.frame m ρ,
  fun m ρ _ => Cert.MixOutIdeal.Gen.frame m ρ,
  frame_mixOutRef,
  fun m ρ _ => Cert.FfnS.Gen.frame m ρ,
  fun m ρ _ => Cert.FfnSIdeal.Gen.frame m ρ,
  frame_ffnSRef,
  fun m ρ _ => Cert.MixInS.Gen.frame m ρ,
  fun m ρ _ => Cert.MixInSIdeal.Gen.frame m ρ,
  frame_mixInSRef,
  fun m ρ _ => Cert.MixOutS.Gen.frame m ρ,
  fun m ρ _ => Cert.MixOutSIdeal.Gen.frame m ρ,
  frame_mixOutSRef,
  fun m ρ _ => Cert.Ada.Gen.frame m ρ,
  fun m ρ _ => Cert.AdaIdeal.Gen.frame m ρ,
  frame_adaRef,
  Cert.AttnClaim.frame_bits,
  Cert.AttnClaim.frame_ideal,
  Cert.SampleAttnClaim.frame_bits,
  Cert.SampleAttnClaim.frame_ideal,
  trivial,
  Cert.FfnClaim.algebraic,
  trivial,
  Cert.MixInClaim.algebraic,
  trivial,
  Cert.MixOutClaim.algebraic,
  trivial,
  Cert.FfnSClaim.algebraic,
  trivial,
  Cert.MixInSClaim.algebraic,
  trivial,
  Cert.MixOutSClaim.algebraic,
  trivial,
  Cert.AdaClaim.algebraic,
  trivial,
  trivial⟩

end Cert.Proof

end
